-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Iproj (m : (ℓ : Loc Cert.Iproj.nD Cert.Iproj.τ Cert.Iproj.sig) → Buf (Elt Bits) ℓ) : Prop :=
  True

def Pre_IprojIdeal (m : (ℓ : Loc Cert.IprojIdeal.nD Cert.IprojIdeal.τ Cert.IprojIdeal.sig) → Buf (Elt Ideal) ℓ) : Prop :=
  True

def Pre_IprojIdeal_iproj_finite [hPre_iproj_finite : Cert.Pre_iproj_finite.Facts] (m : (ℓ : Loc Cert.IprojIdeal.nD Cert.IprojIdeal.τ Cert.IprojIdeal.sig) → Buf (Elt Ideal) ℓ) : Prop :=
  ∀ c : Dev Cert.IprojIdeal.nD,
    (Cert.Pre_iproj_finite.fn (F := Ideal) (m ((c.tc : Thread Cert.IprojIdeal.nD Cert.IprojIdeal.τ).loc Cert.IprojIdeal.main_arg0)) (m ((c.tc : Thread Cert.IprojIdeal.nD Cert.IprojIdeal.τ).loc Cert.IprojIdeal.main_arg1)) (m ((c.tc : Thread Cert.IprojIdeal.nD Cert.IprojIdeal.τ).loc Cert.IprojIdeal.main_arg2)) (m ((c.tc : Thread Cert.IprojIdeal.nD Cert.IprojIdeal.τ).loc Cert.IprojIdeal.main_arg3)) (m ((c.tc : Thread Cert.IprojIdeal.nD Cert.IprojIdeal.τ).loc Cert.IprojIdeal.main_arg4))).1 = (fun _ => 1#1)
    ∧ (Cert.Pre_iproj_finite.fn (F := Ideal) (m ((c.tc : Thread Cert.IprojIdeal.nD Cert.IprojIdeal.τ).loc Cert.IprojIdeal.main_arg0)) (m ((c.tc : Thread Cert.IprojIdeal.nD Cert.IprojIdeal.τ).loc Cert.IprojIdeal.main_arg1)) (m ((c.tc : Thread Cert.IprojIdeal.nD Cert.IprojIdeal.τ).loc Cert.IprojIdeal.main_arg2)) (m ((c.tc : Thread Cert.IprojIdeal.nD Cert.IprojIdeal.τ).loc Cert.IprojIdeal.main_arg3)) (m ((c.tc : Thread Cert.IprojIdeal.nD Cert.IprojIdeal.τ).loc Cert.IprojIdeal.main_arg4))).2.1 = (fun _ => 1#1)
    ∧ (Cert.Pre_iproj_finite.fn (F := Ideal) (m ((c.tc : Thread Cert.IprojIdeal.nD Cert.IprojIdeal.τ).loc Cert.IprojIdeal.main_arg0)) (m ((c.tc : Thread Cert.IprojIdeal.nD Cert.IprojIdeal.τ).loc Cert.IprojIdeal.main_arg1)) (m ((c.tc : Thread Cert.IprojIdeal.nD Cert.IprojIdeal.τ).loc Cert.IprojIdeal.main_arg2)) (m ((c.tc : Thread Cert.IprojIdeal.nD Cert.IprojIdeal.τ).loc Cert.IprojIdeal.main_arg3)) (m ((c.tc : Thread Cert.IprojIdeal.nD Cert.IprojIdeal.τ).loc Cert.IprojIdeal.main_arg4))).2.2.1 = (fun _ => 1#1)
    ∧ (Cert.Pre_iproj_finite.fn (F := Ideal) (m ((c.tc : Thread Cert.IprojIdeal.nD Cert.IprojIdeal.τ).loc Cert.IprojIdeal.main_arg0)) (m ((c.tc : Thread Cert.IprojIdeal.nD Cert.IprojIdeal.τ).loc Cert.IprojIdeal.main_arg1)) (m ((c.tc : Thread Cert.IprojIdeal.nD Cert.IprojIdeal.τ).loc Cert.IprojIdeal.main_arg2)) (m ((c.tc : Thread Cert.IprojIdeal.nD Cert.IprojIdeal.τ).loc Cert.IprojIdeal.main_arg3)) (m ((c.tc : Thread Cert.IprojIdeal.nD Cert.IprojIdeal.τ).loc Cert.IprojIdeal.main_arg4))).2.2.2.1 = (fun _ => 1#1)
    ∧ (Cert.Pre_iproj_finite.fn (F := Ideal) (m ((c.tc : Thread Cert.IprojIdeal.nD Cert.IprojIdeal.τ).loc Cert.IprojIdeal.main_arg0)) (m ((c.tc : Thread Cert.IprojIdeal.nD Cert.IprojIdeal.τ).loc Cert.IprojIdeal.main_arg1)) (m ((c.tc : Thread Cert.IprojIdeal.nD Cert.IprojIdeal.τ).loc Cert.IprojIdeal.main_arg2)) (m ((c.tc : Thread Cert.IprojIdeal.nD Cert.IprojIdeal.τ).loc Cert.IprojIdeal.main_arg3)) (m ((c.tc : Thread Cert.IprojIdeal.nD Cert.IprojIdeal.τ).loc Cert.IprojIdeal.main_arg4))).2.2.2.2 = (fun _ => 1#1)

def Pre_IprojRefIdeal (m : (ℓ : Loc Cert.IprojRefIdeal.nD Cert.IprojRefIdeal.τ Cert.IprojRefIdeal.sig) → Buf (Elt Ideal) ℓ) : Prop :=
  True

def Pre_IprojRefIdeal_iproj_finite [hPre_iproj_finite : Cert.Pre_iproj_finite.Facts] (m : (ℓ : Loc Cert.IprojRefIdeal.nD Cert.IprojRefIdeal.τ Cert.IprojRefIdeal.sig) → Buf (Elt Ideal) ℓ) : Prop :=
  ∀ c : Dev Cert.IprojRefIdeal.nD,
    (Cert.Pre_iproj_finite.fn (F := Ideal) (m ((c.tc : Thread Cert.IprojRefIdeal.nD Cert.IprojRefIdeal.τ).loc Cert.IprojRefIdeal.main_arg0)) (m ((c.tc : Thread Cert.IprojRefIdeal.nD Cert.IprojRefIdeal.τ).loc Cert.IprojRefIdeal.main_arg1)) (m ((c.tc : Thread Cert.IprojRefIdeal.nD Cert.IprojRefIdeal.τ).loc Cert.IprojRefIdeal.main_arg2)) (m ((c.tc : Thread Cert.IprojRefIdeal.nD Cert.IprojRefIdeal.τ).loc Cert.IprojRefIdeal.main_arg3)) (m ((c.tc : Thread Cert.IprojRefIdeal.nD Cert.IprojRefIdeal.τ).loc Cert.IprojRefIdeal.main_arg4))).1 = (fun _ => 1#1)
    ∧ (Cert.Pre_iproj_finite.fn (F := Ideal) (m ((c.tc : Thread Cert.IprojRefIdeal.nD Cert.IprojRefIdeal.τ).loc Cert.IprojRefIdeal.main_arg0)) (m ((c.tc : Thread Cert.IprojRefIdeal.nD Cert.IprojRefIdeal.τ).loc Cert.IprojRefIdeal.main_arg1)) (m ((c.tc : Thread Cert.IprojRefIdeal.nD Cert.IprojRefIdeal.τ).loc Cert.IprojRefIdeal.main_arg2)) (m ((c.tc : Thread Cert.IprojRefIdeal.nD Cert.IprojRefIdeal.τ).loc Cert.IprojRefIdeal.main_arg3)) (m ((c.tc : Thread Cert.IprojRefIdeal.nD Cert.IprojRefIdeal.τ).loc Cert.IprojRefIdeal.main_arg4))).2.1 = (fun _ => 1#1)
    ∧ (Cert.Pre_iproj_finite.fn (F := Ideal) (m ((c.tc : Thread Cert.IprojRefIdeal.nD Cert.IprojRefIdeal.τ).loc Cert.IprojRefIdeal.main_arg0)) (m ((c.tc : Thread Cert.IprojRefIdeal.nD Cert.IprojRefIdeal.τ).loc Cert.IprojRefIdeal.main_arg1)) (m ((c.tc : Thread Cert.IprojRefIdeal.nD Cert.IprojRefIdeal.τ).loc Cert.IprojRefIdeal.main_arg2)) (m ((c.tc : Thread Cert.IprojRefIdeal.nD Cert.IprojRefIdeal.τ).loc Cert.IprojRefIdeal.main_arg3)) (m ((c.tc : Thread Cert.IprojRefIdeal.nD Cert.IprojRefIdeal.τ).loc Cert.IprojRefIdeal.main_arg4))).2.2.1 = (fun _ => 1#1)
    ∧ (Cert.Pre_iproj_finite.fn (F := Ideal) (m ((c.tc : Thread Cert.IprojRefIdeal.nD Cert.IprojRefIdeal.τ).loc Cert.IprojRefIdeal.main_arg0)) (m ((c.tc : Thread Cert.IprojRefIdeal.nD Cert.IprojRefIdeal.τ).loc Cert.IprojRefIdeal.main_arg1)) (m ((c.tc : Thread Cert.IprojRefIdeal.nD Cert.IprojRefIdeal.τ).loc Cert.IprojRefIdeal.main_arg2)) (m ((c.tc : Thread Cert.IprojRefIdeal.nD Cert.IprojRefIdeal.τ).loc Cert.IprojRefIdeal.main_arg3)) (m ((c.tc : Thread Cert.IprojRefIdeal.nD Cert.IprojRefIdeal.τ).loc Cert.IprojRefIdeal.main_arg4))).2.2.2.1 = (fun _ => 1#1)
    ∧ (Cert.Pre_iproj_finite.fn (F := Ideal) (m ((c.tc : Thread Cert.IprojRefIdeal.nD Cert.IprojRefIdeal.τ).loc Cert.IprojRefIdeal.main_arg0)) (m ((c.tc : Thread Cert.IprojRefIdeal.nD Cert.IprojRefIdeal.τ).loc Cert.IprojRefIdeal.main_arg1)) (m ((c.tc : Thread Cert.IprojRefIdeal.nD Cert.IprojRefIdeal.τ).loc Cert.IprojRefIdeal.main_arg2)) (m ((c.tc : Thread Cert.IprojRefIdeal.nD Cert.IprojRefIdeal.τ).loc Cert.IprojRefIdeal.main_arg3)) (m ((c.tc : Thread Cert.IprojRefIdeal.nD Cert.IprojRefIdeal.τ).loc Cert.IprojRefIdeal.main_arg4))).2.2.2.2 = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_oproj_finite [hPre_oproj_finite : Cert.Pre_oproj_finite.Facts] (m : (ℓ : Loc Cert.OprojIdeal.nD Cert.OprojIdeal.τ Cert.OprojIdeal.sig) → Buf (Elt Ideal) ℓ) : Prop :=
  ∀ c : Dev Cert.OprojIdeal.nD,
    (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).1 = (fun _ => 1#1)
    ∧ (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).2.1 = (fun _ => 1#1)
    ∧ (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).2.2.1 = (fun _ => 1#1)
    ∧ (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).2.2.2.1 = (fun _ => 1#1)
    ∧ (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).2.2.2.2.1 = (fun _ => 1#1)
    ∧ (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).2.2.2.2.2.1 = (fun _ => 1#1)
    ∧ (Cert.Pre_oproj_finite.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6))).2.2.2.2.2.2 = (fun _ => 1#1)

def Pre_OprojRefIdeal (m : (ℓ : Loc Cert.OprojRefIdeal.nD Cert.OprojRefIdeal.τ Cert.OprojRefIdeal.sig) → Buf (Elt Ideal) ℓ) : Prop :=
  True

def Pre_OprojRefIdeal_oproj_finite [hPre_oproj_finite : Cert.Pre_oproj_finite.Facts] (m : (ℓ : Loc Cert.OprojRefIdeal.nD Cert.OprojRefIdeal.τ Cert.OprojRefIdeal.sig) → Buf (Elt Ideal) ℓ) : Prop :=
  ∀ c : Dev Cert.OprojRefIdeal.nD,
    (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).1 = (fun _ => 1#1)
    ∧ (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).2.1 = (fun _ => 1#1)
    ∧ (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).2.2.1 = (fun _ => 1#1)
    ∧ (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).2.2.2.1 = (fun _ => 1#1)
    ∧ (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).2.2.2.2.1 = (fun _ => 1#1)
    ∧ (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).2.2.2.2.2.1 = (fun _ => 1#1)
    ∧ (Cert.Pre_oproj_finite.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffnb_finite [hPre_ffnb_finite : Cert.Pre_ffnb_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffnb_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_ffnb_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_ffnb_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.1 = (fun _ => 1#1)
    ∧ (Cert.Pre_ffnb_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffnb_finite [hPre_ffnb_finite : Cert.Pre_ffnb_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffnb_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_ffnb_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_ffnb_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.1 = (fun _ => 1#1)
    ∧ (Cert.Pre_ffnb_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.2 = (fun _ => 1#1)

def Pre_Mixb (m : (ℓ : Loc Cert.Mixb.nD Cert.Mixb.τ Cert.Mixb.sig) → Buf (Elt Bits) ℓ) : Prop :=
  True

def Pre_MixbIdeal (m : (ℓ : Loc Cert.MixbIdeal.nD Cert.MixbIdeal.τ Cert.MixbIdeal.sig) → Buf (Elt Ideal) ℓ) : Prop :=
  True

def Pre_MixbIdeal_mixb_finite [hPre_mixb_finite : Cert.Pre_mixb_finite.Facts] (m : (ℓ : Loc Cert.MixbIdeal.nD Cert.MixbIdeal.τ Cert.MixbIdeal.sig) → Buf (Elt Ideal) ℓ) : Prop :=
  ∀ c : Dev Cert.MixbIdeal.nD,
    (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.2.2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.2.2.2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.2.2.2.2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.2.2.2.2.2.1 = (fun _ => 1#1)
    ∧ (Cert.Pre_mixb_finite.fn (F := Ideal) (m ((c.tc : Thread Cert.MixbIdeal.nD Cert.MixbIdeal.τ).loc Cert.MixbIdeal.main_arg0)) (m ((c.tc : Thread Cert.MixbIdeal.nD Cert.MixbIdeal.τ).loc Cert.MixbIdeal.main_arg1)) (m ((c.tc : Thread Cert.MixbIdeal.nD Cert.MixbIdeal.τ).loc Cert.MixbIdeal.main_arg2)) (m ((c.tc : Thread Cert.MixbIdeal.nD Cert.MixbIdeal.τ).loc Cert.MixbIdeal.main_arg3)) (m ((c.tc : Thread Cert.MixbIdeal.nD Cert.MixbIdeal.τ).loc Cert.MixbIdeal.main_arg4)) (m ((c.tc : Thread Cert.MixbIdeal.nD Cert.MixbIdeal.τ).loc Cert.MixbIdeal.main_arg5)) (m ((c.tc : Thread Cert.MixbIdeal.nD Cert.MixbIdeal.τ).loc Cert.MixbIdeal.main_arg6)) (m ((c.tc : Thread Cert.MixbIdeal.nD Cert.MixbIdeal.τ).loc Cert.MixbIdeal.main_arg7)) (m ((c.tc : Thread Cert.MixbIdeal.nD Cert.MixbIdeal.τ).loc Cert.MixbIdeal.main_arg8))).2.2.2.2.2.2.2.2 = (fun _ => 1#1)

def Pre_MixbRefIdeal (m : (ℓ : Loc Cert.MixbRefIdeal.nD Cert.MixbRefIdeal.τ Cert.MixbRefIdeal.sig) → Buf (Elt Ideal) ℓ) : Prop :=
  True

def Pre_MixbRefIdeal_mixb_finite [hPre_mixb_finite : Cert.Pre_mixb_finite.Facts] (m : (ℓ : Loc Cert.MixbRefIdeal.nD Cert.MixbRefIdeal.τ Cert.MixbRefIdeal.sig) → Buf (Elt Ideal) ℓ) : Prop :=
  ∀ c : Dev Cert.MixbRefIdeal.nD,
    (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.2.2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.2.2.2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.2.2.2.2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.2.2.2.2.2.1 = (fun _ => 1#1)
    ∧ (Cert.Pre_mixb_finite.fn (F := Ideal) (m ((c.tc : Thread Cert.MixbRefIdeal.nD Cert.MixbRefIdeal.τ).loc Cert.MixbRefIdeal.main_arg0)) (m ((c.tc : Thread Cert.MixbRefIdeal.nD Cert.MixbRefIdeal.τ).loc Cert.MixbRefIdeal.main_arg1)) (m ((c.tc : Thread Cert.MixbRefIdeal.nD Cert.MixbRefIdeal.τ).loc Cert.MixbRefIdeal.main_arg2)) (m ((c.tc : Thread Cert.MixbRefIdeal.nD Cert.MixbRefIdeal.τ).loc Cert.MixbRefIdeal.main_arg3)) (m ((c.tc : Thread Cert.MixbRefIdeal.nD Cert.MixbRefIdeal.τ).loc Cert.MixbRefIdeal.main_arg4)) (m ((c.tc : Thread Cert.MixbRefIdeal.nD Cert.MixbRefIdeal.τ).loc Cert.MixbRefIdeal.main_arg5)) (m ((c.tc : Thread Cert.MixbRefIdeal.nD Cert.MixbRefIdeal.τ).loc Cert.MixbRefIdeal.main_arg6)) (m ((c.tc : Thread Cert.MixbRefIdeal.nD Cert.MixbRefIdeal.τ).loc Cert.MixbRefIdeal.main_arg7)) (m ((c.tc : Thread Cert.MixbRefIdeal.nD Cert.MixbRefIdeal.τ).loc Cert.MixbRefIdeal.main_arg8))).2.2.2.2.2.2.2.2 = (fun _ => 1#1)

def Pre_Mixa (m : (ℓ : Loc Cert.Mixa.nD Cert.Mixa.τ Cert.Mixa.sig) → Buf (Elt Bits) ℓ) : Prop :=
  True

def Pre_MixaIdeal (m : (ℓ : Loc Cert.MixaIdeal.nD Cert.MixaIdeal.τ Cert.MixaIdeal.sig) → Buf (Elt Ideal) ℓ) : Prop :=
  True

def Pre_MixaIdeal_mixa_finite [hPre_mixa_finite : Cert.Pre_mixa_finite.Facts] (m : (ℓ : Loc Cert.MixaIdeal.nD Cert.MixaIdeal.τ Cert.MixaIdeal.sig) → Buf (Elt Ideal) ℓ) : Prop :=
  ∀ c : Dev Cert.MixaIdeal.nD,
    (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).1 = (fun _ => 1#1)
    ∧ (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).2.1 = (fun _ => 1#1)
    ∧ (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).2.2.1 = (fun _ => 1#1)
    ∧ (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).2.2.2.1 = (fun _ => 1#1)
    ∧ (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).2.2.2.2.1 = (fun _ => 1#1)
    ∧ (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).2.2.2.2.2.1 = (fun _ => 1#1)
    ∧ (Cert.Pre_mixa_finite.fn (F := Ideal) (m ((c.tc : Thread Cert.MixaIdeal.nD Cert.MixaIdeal.τ).loc Cert.MixaIdeal.main_arg0)) (m ((c.tc : Thread Cert.MixaIdeal.nD Cert.MixaIdeal.τ).loc Cert.MixaIdeal.main_arg1)) (m ((c.tc : Thread Cert.MixaIdeal.nD Cert.MixaIdeal.τ).loc Cert.MixaIdeal.main_arg2)) (m ((c.tc : Thread Cert.MixaIdeal.nD Cert.MixaIdeal.τ).loc Cert.MixaIdeal.main_arg3)) (m ((c.tc : Thread Cert.MixaIdeal.nD Cert.MixaIdeal.τ).loc Cert.MixaIdeal.main_arg4)) (m ((c.tc : Thread Cert.MixaIdeal.nD Cert.MixaIdeal.τ).loc Cert.MixaIdeal.main_arg5)) (m ((c.tc : Thread Cert.MixaIdeal.nD Cert.MixaIdeal.τ).loc Cert.MixaIdeal.main_arg6)) (m ((c.tc : Thread Cert.MixaIdeal.nD Cert.MixaIdeal.τ).loc Cert.MixaIdeal.main_arg7)) (m ((c.tc : Thread Cert.MixaIdeal.nD Cert.MixaIdeal.τ).loc Cert.MixaIdeal.main_arg8)) (m ((c.tc : Thread Cert.MixaIdeal.nD Cert.MixaIdeal.τ).loc Cert.MixaIdeal.main_arg9))).2.2.2.2.2.2 = (fun _ => 1#1)

def Pre_MixaRefIdeal (m : (ℓ : Loc Cert.MixaRefIdeal.nD Cert.MixaRefIdeal.τ Cert.MixaRefIdeal.sig) → Buf (Elt Ideal) ℓ) : Prop :=
  True

def Pre_MixaRefIdeal_mixa_finite [hPre_mixa_finite : Cert.Pre_mixa_finite.Facts] (m : (ℓ : Loc Cert.MixaRefIdeal.nD Cert.MixaRefIdeal.τ Cert.MixaRefIdeal.sig) → Buf (Elt Ideal) ℓ) : Prop :=
  ∀ c : Dev Cert.MixaRefIdeal.nD,
    (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).1 = (fun _ => 1#1)
    ∧ (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).2.1 = (fun _ => 1#1)
    ∧ (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).2.2.1 = (fun _ => 1#1)
    ∧ (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).2.2.2.1 = (fun _ => 1#1)
    ∧ (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).2.2.2.2.1 = (fun _ => 1#1)
    ∧ (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).2.2.2.2.2.1 = (fun _ => 1#1)
    ∧ (Cert.Pre_mixa_finite.fn (F := Ideal) (m ((c.tc : Thread Cert.MixaRefIdeal.nD Cert.MixaRefIdeal.τ).loc Cert.MixaRefIdeal.main_arg0)) (m ((c.tc : Thread Cert.MixaRefIdeal.nD Cert.MixaRefIdeal.τ).loc Cert.MixaRefIdeal.main_arg1)) (m ((c.tc : Thread Cert.MixaRefIdeal.nD Cert.MixaRefIdeal.τ).loc Cert.MixaRefIdeal.main_arg2)) (m ((c.tc : Thread Cert.MixaRefIdeal.nD Cert.MixaRefIdeal.τ).loc Cert.MixaRefIdeal.main_arg3)) (m ((c.tc : Thread Cert.MixaRefIdeal.nD Cert.MixaRefIdeal.τ).loc Cert.MixaRefIdeal.main_arg4)) (m ((c.tc : Thread Cert.MixaRefIdeal.nD Cert.MixaRefIdeal.τ).loc Cert.MixaRefIdeal.main_arg5)) (m ((c.tc : Thread Cert.MixaRefIdeal.nD Cert.MixaRefIdeal.τ).loc Cert.MixaRefIdeal.main_arg6)) (m ((c.tc : Thread Cert.MixaRefIdeal.nD Cert.MixaRefIdeal.τ).loc Cert.MixaRefIdeal.main_arg7)) (m ((c.tc : Thread Cert.MixaRefIdeal.nD Cert.MixaRefIdeal.τ).loc Cert.MixaRefIdeal.main_arg8)) (m ((c.tc : Thread Cert.MixaRefIdeal.nD Cert.MixaRefIdeal.τ).loc Cert.MixaRefIdeal.main_arg9))).2.2.2.2.2.2 = (fun _ => 1#1)

def Pre_Attnf (m : (ℓ : Loc Cert.Attnf.nD Cert.Attnf.τ Cert.Attnf.sig) → Buf (Elt Bits) ℓ) : Prop :=
  True

def Pre_AttnfIdeal (m : (ℓ : Loc Cert.AttnfIdeal.nD Cert.AttnfIdeal.τ Cert.AttnfIdeal.sig) → Buf (Elt Ideal) ℓ) : Prop :=
  True

def Pre_AttnfIdeal_attnf_finite [hPre_attnf_finite : Cert.Pre_attnf_finite.Facts] (m : (ℓ : Loc Cert.AttnfIdeal.nD Cert.AttnfIdeal.τ Cert.AttnfIdeal.sig) → Buf (Elt Ideal) ℓ) : Prop :=
  ∀ c : Dev Cert.AttnfIdeal.nD,
    (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2))).1 = (fun _ => 1#1)
    ∧ (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2))).2.1 = (fun _ => 1#1)
    ∧ (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1)) (m ((c.tc : Thread Cert.AttnfIdeal.nD Cert.AttnfIdeal.τ).loc Cert.AttnfIdeal.main_arg2))).2.2 = (fun _ => 1#1)

def Pre_AttnfRefIdeal (m : (ℓ : Loc Cert.AttnfRefIdeal.nD Cert.AttnfRefIdeal.τ Cert.AttnfRefIdeal.sig) → Buf (Elt Ideal) ℓ) : Prop :=
  True

def Pre_AttnfRefIdeal_attnf_finite [hPre_attnf_finite : Cert.Pre_attnf_finite.Facts] (m : (ℓ : Loc Cert.AttnfRefIdeal.nD Cert.AttnfRefIdeal.τ Cert.AttnfRefIdeal.sig) → Buf (Elt Ideal) ℓ) : Prop :=
  ∀ c : Dev Cert.AttnfRefIdeal.nD,
    (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2))).1 = (fun _ => 1#1)
    ∧ (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2))).2.1 = (fun _ => 1#1)
    ∧ (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1)) (m ((c.tc : Thread Cert.AttnfRefIdeal.nD Cert.AttnfRefIdeal.τ).loc Cert.AttnfRefIdeal.main_arg2))).2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Iproj [hIproj : Cert.Iproj.Facts] : Prop :=
  ∀ (m : (ℓ : Loc Cert.Iproj.nD Cert.Iproj.τ Cert.Iproj.sig) → Buf (Elt Bits) ℓ) (g : Dev Cert.Iproj.nD → PrngReg), Pre_Iproj m →
    θ_run (Cert.Iproj.defs (F := Bits)) (onTc (τ := Cert.Iproj.τ) (Cert.Iproj.main (F := Bits))) ⟨m, fun _ => 0, g⟩ (fun r => (∀ c : Dev Cert.Iproj.nD,
      r.2.mem ((c.tc : Thread Cert.Iproj.nD Cert.Iproj.τ).loc Cert.Iproj.main_arg0) = m ((c.tc : Thread Cert.Iproj.nD Cert.Iproj.τ).loc Cert.Iproj.main_arg0)
      ∧ r.2.mem ((c.tc : Thread Cert.Iproj.nD Cert.Iproj.τ).loc Cert.Iproj.main_arg1) = m ((c.tc : Thread Cert.Iproj.nD Cert.Iproj.τ).loc Cert.Iproj.main_arg1)
      ∧ r.2.mem ((c.tc : Thread Cert.Iproj.nD Cert.Iproj.τ).loc Cert.Iproj.main_arg2) = m ((c.tc : Thread Cert.Iproj.nD Cert.Iproj.τ).loc Cert.Iproj.main_arg2)
      ∧ r.2.mem ((c.tc : Thread Cert.Iproj.nD Cert.Iproj.τ).loc Cert.Iproj.main_arg3) = m ((c.tc : Thread Cert.Iproj.nD Cert.Iproj.τ).loc Cert.Iproj.main_arg3)
      ∧ r.2.mem ((c.tc : Thread Cert.Iproj.nD Cert.Iproj.τ).loc Cert.Iproj.main_arg4) = m ((c.tc : Thread Cert.Iproj.nD Cert.Iproj.τ).loc Cert.Iproj.main_arg4))
      ∧ r.2.sem = fun _ => 0)

def quiescent_IprojIdeal [hIprojIdeal : Cert.IprojIdeal.Facts] : Prop :=
  ∀ (m : (ℓ : Loc Cert.IprojIdeal.nD Cert.IprojIdeal.τ Cert.IprojIdeal.sig) → Buf (Elt Ideal) ℓ) (g : Dev Cert.IprojIdeal.nD → PrngReg), Pre_IprojIdeal m →
    θ_run (Cert.IprojIdeal.defs (F := Ideal)) (onTc (τ := Cert.IprojIdeal.τ) (Cert.IprojIdeal.main (F := Ideal))) ⟨m, fun _ => 0, g⟩ (fun r => (∀ c : Dev Cert.IprojIdeal.nD,
      r.2.mem ((c.tc : Thread Cert.IprojIdeal.nD Cert.IprojIdeal.τ).loc Cert.IprojIdeal.main_arg0) = m ((c.tc : Thread Cert.IprojIdeal.nD Cert.IprojIdeal.τ).loc Cert.IprojIdeal.main_arg0)
      ∧ r.2.mem ((c.tc : Thread Cert.IprojIdeal.nD Cert.IprojIdeal.τ).loc Cert.IprojIdeal.main_arg1) = m ((c.tc : Thread Cert.IprojIdeal.nD Cert.IprojIdeal.τ).loc Cert.IprojIdeal.main_arg1)
      ∧ r.2.mem ((c.tc : Thread Cert.IprojIdeal.nD Cert.IprojIdeal.τ).loc Cert.IprojIdeal.main_arg2) = m ((c.tc : Thread Cert.IprojIdeal.nD Cert.IprojIdeal.τ).loc Cert.IprojIdeal.main_arg2)
      ∧ r.2.mem ((c.tc : Thread Cert.IprojIdeal.nD Cert.IprojIdeal.τ).loc Cert.IprojIdeal.main_arg3) = m ((c.tc : Thread Cert.IprojIdeal.nD Cert.IprojIdeal.τ).loc Cert.IprojIdeal.main_arg3)
      ∧ r.2.mem ((c.tc : Thread Cert.IprojIdeal.nD Cert.IprojIdeal.τ).loc Cert.IprojIdeal.main_arg4) = m ((c.tc : Thread Cert.IprojIdeal.nD Cert.IprojIdeal.τ).loc Cert.IprojIdeal.main_arg4))
      ∧ r.2.sem = fun _ => 0)

def quiescent_IprojIdeal_pre_iproj_finite [hIprojIdeal : Cert.IprojIdeal.Facts] [hPre_iproj_finite : Cert.Pre_iproj_finite.Facts] : Prop :=
  ∀ (m : (ℓ : Loc Cert.IprojIdeal.nD Cert.IprojIdeal.τ Cert.IprojIdeal.sig) → Buf (Elt Ideal) ℓ) (g : Dev Cert.IprojIdeal.nD → PrngReg), Pre_IprojIdeal_iproj_finite m →
    θ_run (Cert.IprojIdeal.defs (F := Ideal)) (onTc (τ := Cert.IprojIdeal.τ) (Cert.IprojIdeal.main (F := Ideal))) ⟨m, fun _ => 0, g⟩ (fun r => (∀ c : Dev Cert.IprojIdeal.nD,
      r.2.mem ((c.tc : Thread Cert.IprojIdeal.nD Cert.IprojIdeal.τ).loc Cert.IprojIdeal.main_arg0) = m ((c.tc : Thread Cert.IprojIdeal.nD Cert.IprojIdeal.τ).loc Cert.IprojIdeal.main_arg0)
      ∧ r.2.mem ((c.tc : Thread Cert.IprojIdeal.nD Cert.IprojIdeal.τ).loc Cert.IprojIdeal.main_arg1) = m ((c.tc : Thread Cert.IprojIdeal.nD Cert.IprojIdeal.τ).loc Cert.IprojIdeal.main_arg1)
      ∧ r.2.mem ((c.tc : Thread Cert.IprojIdeal.nD Cert.IprojIdeal.τ).loc Cert.IprojIdeal.main_arg2) = m ((c.tc : Thread Cert.IprojIdeal.nD Cert.IprojIdeal.τ).loc Cert.IprojIdeal.main_arg2)
      ∧ r.2.mem ((c.tc : Thread Cert.IprojIdeal.nD Cert.IprojIdeal.τ).loc Cert.IprojIdeal.main_arg3) = m ((c.tc : Thread Cert.IprojIdeal.nD Cert.IprojIdeal.τ).loc Cert.IprojIdeal.main_arg3)
      ∧ r.2.mem ((c.tc : Thread Cert.IprojIdeal.nD Cert.IprojIdeal.τ).loc Cert.IprojIdeal.main_arg4) = m ((c.tc : Thread Cert.IprojIdeal.nD Cert.IprojIdeal.τ).loc Cert.IprojIdeal.main_arg4))
      ∧ r.2.sem = fun _ => 0)

def quiescent_IprojRefIdeal [hIprojRefIdeal : Cert.IprojRefIdeal.Facts] : Prop :=
  ∀ (m : (ℓ : Loc Cert.IprojRefIdeal.nD Cert.IprojRefIdeal.τ Cert.IprojRefIdeal.sig) → Buf (Elt Ideal) ℓ) (g : Dev Cert.IprojRefIdeal.nD → PrngReg), Pre_IprojRefIdeal m →
    θ_run (Cert.IprojRefIdeal.defs (F := Ideal)) (onTc (τ := Cert.IprojRefIdeal.τ) (Cert.IprojRefIdeal.main (F := Ideal))) ⟨m, fun _ => 0, g⟩ (fun r => (∀ c : Dev Cert.IprojRefIdeal.nD,
      r.2.mem ((c.tc : Thread Cert.IprojRefIdeal.nD Cert.IprojRefIdeal.τ).loc Cert.IprojRefIdeal.main_arg0) = m ((c.tc : Thread Cert.IprojRefIdeal.nD Cert.IprojRefIdeal.τ).loc Cert.IprojRefIdeal.main_arg0)
      ∧ r.2.mem ((c.tc : Thread Cert.IprojRefIdeal.nD Cert.IprojRefIdeal.τ).loc Cert.IprojRefIdeal.main_arg1) = m ((c.tc : Thread Cert.IprojRefIdeal.nD Cert.IprojRefIdeal.τ).loc Cert.IprojRefIdeal.main_arg1)
      ∧ r.2.mem ((c.tc : Thread Cert.IprojRefIdeal.nD Cert.IprojRefIdeal.τ).loc Cert.IprojRefIdeal.main_arg2) = m ((c.tc : Thread Cert.IprojRefIdeal.nD Cert.IprojRefIdeal.τ).loc Cert.IprojRefIdeal.main_arg2)
      ∧ r.2.mem ((c.tc : Thread Cert.IprojRefIdeal.nD Cert.IprojRefIdeal.τ).loc Cert.IprojRefIdeal.main_arg3) = m ((c.tc : Thread Cert.IprojRefIdeal.nD Cert.IprojRefIdeal.τ).loc Cert.IprojRefIdeal.main_arg3)
      ∧ r.2.mem ((c.tc : Thread Cert.IprojRefIdeal.nD Cert.IprojRefIdeal.τ).loc Cert.IprojRefIdeal.main_arg4) = m ((c.tc : Thread Cert.IprojRefIdeal.nD Cert.IprojRefIdeal.τ).loc Cert.IprojRefIdeal.main_arg4))
      ∧ r.2.sem = fun _ => 0)

def quiescent_IprojRefIdeal_pre_iproj_finite [hIprojRefIdeal : Cert.IprojRefIdeal.Facts] [hPre_iproj_finite : Cert.Pre_iproj_finite.Facts] : Prop :=
  ∀ (m : (ℓ : Loc Cert.IprojRefIdeal.nD Cert.IprojRefIdeal.τ Cert.IprojRefIdeal.sig) → Buf (Elt Ideal) ℓ) (g : Dev Cert.IprojRefIdeal.nD → PrngReg), Pre_IprojRefIdeal_iproj_finite m →
    θ_run (Cert.IprojRefIdeal.defs (F := Ideal)) (onTc (τ := Cert.IprojRefIdeal.τ) (Cert.IprojRefIdeal.main (F := Ideal))) ⟨m, fun _ => 0, g⟩ (fun r => (∀ c : Dev Cert.IprojRefIdeal.nD,
      r.2.mem ((c.tc : Thread Cert.IprojRefIdeal.nD Cert.IprojRefIdeal.τ).loc Cert.IprojRefIdeal.main_arg0) = m ((c.tc : Thread Cert.IprojRefIdeal.nD Cert.IprojRefIdeal.τ).loc Cert.IprojRefIdeal.main_arg0)
      ∧ r.2.mem ((c.tc : Thread Cert.IprojRefIdeal.nD Cert.IprojRefIdeal.τ).loc Cert.IprojRefIdeal.main_arg1) = m ((c.tc : Thread Cert.IprojRefIdeal.nD Cert.IprojRefIdeal.τ).loc Cert.IprojRefIdeal.main_arg1)
      ∧ r.2.mem ((c.tc : Thread Cert.IprojRefIdeal.nD Cert.IprojRefIdeal.τ).loc Cert.IprojRefIdeal.main_arg2) = m ((c.tc : Thread Cert.IprojRefIdeal.nD Cert.IprojRefIdeal.τ).loc Cert.IprojRefIdeal.main_arg2)
      ∧ r.2.mem ((c.tc : Thread Cert.IprojRefIdeal.nD Cert.IprojRefIdeal.τ).loc Cert.IprojRefIdeal.main_arg3) = m ((c.tc : Thread Cert.IprojRefIdeal.nD Cert.IprojRefIdeal.τ).loc Cert.IprojRefIdeal.main_arg3)
      ∧ r.2.mem ((c.tc : Thread Cert.IprojRefIdeal.nD Cert.IprojRefIdeal.τ).loc Cert.IprojRefIdeal.main_arg4) = m ((c.tc : Thread Cert.IprojRefIdeal.nD Cert.IprojRefIdeal.τ).loc Cert.IprojRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojIdeal_pre_oproj_finite [hOprojIdeal : Cert.OprojIdeal.Facts] [hPre_oproj_finite : Cert.Pre_oproj_finite.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_oproj_finite m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_OprojRefIdeal_pre_oproj_finite [hOprojRefIdeal : Cert.OprojRefIdeal.Facts] [hPre_oproj_finite : Cert.Pre_oproj_finite.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal_oproj_finite m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffnb_finite [hFfnIdeal : Cert.FfnIdeal.Facts] [hPre_ffnb_finite : Cert.Pre_ffnb_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffnb_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffnb_finite [hFfnRefIdeal : Cert.FfnRefIdeal.Facts] [hPre_ffnb_finite : Cert.Pre_ffnb_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffnb_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mixb [hMixb : Cert.Mixb.Facts] : Prop :=
  ∀ (m : (ℓ : Loc Cert.Mixb.nD Cert.Mixb.τ Cert.Mixb.sig) → Buf (Elt Bits) ℓ) (g : Dev Cert.Mixb.nD → PrngReg), Pre_Mixb m →
    θ_run (Cert.Mixb.defs (F := Bits)) (onTc (τ := Cert.Mixb.τ) (Cert.Mixb.main (F := Bits))) ⟨m, fun _ => 0, g⟩ (fun r => (∀ c : Dev Cert.Mixb.nD,
      r.2.mem ((c.tc : Thread Cert.Mixb.nD Cert.Mixb.τ).loc Cert.Mixb.main_arg0) = m ((c.tc : Thread Cert.Mixb.nD Cert.Mixb.τ).loc Cert.Mixb.main_arg0)
      ∧ r.2.mem ((c.tc : Thread Cert.Mixb.nD Cert.Mixb.τ).loc Cert.Mixb.main_arg1) = m ((c.tc : Thread Cert.Mixb.nD Cert.Mixb.τ).loc Cert.Mixb.main_arg1)
      ∧ r.2.mem ((c.tc : Thread Cert.Mixb.nD Cert.Mixb.τ).loc Cert.Mixb.main_arg2) = m ((c.tc : Thread Cert.Mixb.nD Cert.Mixb.τ).loc Cert.Mixb.main_arg2)
      ∧ r.2.mem ((c.tc : Thread Cert.Mixb.nD Cert.Mixb.τ).loc Cert.Mixb.main_arg3) = m ((c.tc : Thread Cert.Mixb.nD Cert.Mixb.τ).loc Cert.Mixb.main_arg3)
      ∧ r.2.mem ((c.tc : Thread Cert.Mixb.nD Cert.Mixb.τ).loc Cert.Mixb.main_arg4) = m ((c.tc : Thread Cert.Mixb.nD Cert.Mixb.τ).loc Cert.Mixb.main_arg4)
      ∧ r.2.mem ((c.tc : Thread Cert.Mixb.nD Cert.Mixb.τ).loc Cert.Mixb.main_arg5) = m ((c.tc : Thread Cert.Mixb.nD Cert.Mixb.τ).loc Cert.Mixb.main_arg5)
      ∧ r.2.mem ((c.tc : Thread Cert.Mixb.nD Cert.Mixb.τ).loc Cert.Mixb.main_arg6) = m ((c.tc : Thread Cert.Mixb.nD Cert.Mixb.τ).loc Cert.Mixb.main_arg6)
      ∧ r.2.mem ((c.tc : Thread Cert.Mixb.nD Cert.Mixb.τ).loc Cert.Mixb.main_arg7) = m ((c.tc : Thread Cert.Mixb.nD Cert.Mixb.τ).loc Cert.Mixb.main_arg7)
      ∧ r.2.mem ((c.tc : Thread Cert.Mixb.nD Cert.Mixb.τ).loc Cert.Mixb.main_arg8) = m ((c.tc : Thread Cert.Mixb.nD Cert.Mixb.τ).loc Cert.Mixb.main_arg8))
      ∧ r.2.sem = fun _ => 0)

def quiescent_MixbIdeal [hMixbIdeal : Cert.MixbIdeal.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
      ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4)
      ∧ r.2.mem ((c.tc : Thread Cert.MixbIdeal.nD Cert.MixbIdeal.τ).loc Cert.MixbIdeal.main_arg5) = m ((c.tc : Thread Cert.MixbIdeal.nD Cert.MixbIdeal.τ).loc Cert.MixbIdeal.main_arg5)
      ∧ r.2.mem ((c.tc : Thread Cert.MixbIdeal.nD Cert.MixbIdeal.τ).loc Cert.MixbIdeal.main_arg6) = m ((c.tc : Thread Cert.MixbIdeal.nD Cert.MixbIdeal.τ).loc Cert.MixbIdeal.main_arg6)
      ∧ r.2.mem ((c.tc : Thread Cert.MixbIdeal.nD Cert.MixbIdeal.τ).loc Cert.MixbIdeal.main_arg7) = m ((c.tc : Thread Cert.MixbIdeal.nD Cert.MixbIdeal.τ).loc Cert.MixbIdeal.main_arg7)
      ∧ r.2.mem ((c.tc : Thread Cert.MixbIdeal.nD Cert.MixbIdeal.τ).loc Cert.MixbIdeal.main_arg8) = m ((c.tc : Thread Cert.MixbIdeal.nD Cert.MixbIdeal.τ).loc Cert.MixbIdeal.main_arg8))
      ∧ r.2.sem = fun _ => 0)

def quiescent_MixbIdeal_pre_mixb_finite [hMixbIdeal : Cert.MixbIdeal.Facts] [hPre_mixb_finite : Cert.Pre_mixb_finite.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal_mixb_finite m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
      ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
      ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
      ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4)
      ∧ r.2.mem ((c.tc : Thread Cert.MixbIdeal.nD Cert.MixbIdeal.τ).loc Cert.MixbIdeal.main_arg5) = m ((c.tc : Thread Cert.MixbIdeal.nD Cert.MixbIdeal.τ).loc Cert.MixbIdeal.main_arg5)
      ∧ r.2.mem ((c.tc : Thread Cert.MixbIdeal.nD Cert.MixbIdeal.τ).loc Cert.MixbIdeal.main_arg6) = m ((c.tc : Thread Cert.MixbIdeal.nD Cert.MixbIdeal.τ).loc Cert.MixbIdeal.main_arg6)
      ∧ r.2.mem ((c.tc : Thread Cert.MixbIdeal.nD Cert.MixbIdeal.τ).loc Cert.MixbIdeal.main_arg7) = m ((c.tc : Thread Cert.MixbIdeal.nD Cert.MixbIdeal.τ).loc Cert.MixbIdeal.main_arg7)
      ∧ r.2.mem ((c.tc : Thread Cert.MixbIdeal.nD Cert.MixbIdeal.τ).loc Cert.MixbIdeal.main_arg8) = m ((c.tc : Thread Cert.MixbIdeal.nD Cert.MixbIdeal.τ).loc Cert.MixbIdeal.main_arg8))
      ∧ r.2.sem = fun _ => 0)

def quiescent_MixbRefIdeal [hMixbRefIdeal : Cert.MixbRefIdeal.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3)
      ∧ r.2.mem ((c.tc : Thread Cert.MixbRefIdeal.nD Cert.MixbRefIdeal.τ).loc Cert.MixbRefIdeal.main_arg4) = m ((c.tc : Thread Cert.MixbRefIdeal.nD Cert.MixbRefIdeal.τ).loc Cert.MixbRefIdeal.main_arg4)
      ∧ r.2.mem ((c.tc : Thread Cert.MixbRefIdeal.nD Cert.MixbRefIdeal.τ).loc Cert.MixbRefIdeal.main_arg5) = m ((c.tc : Thread Cert.MixbRefIdeal.nD Cert.MixbRefIdeal.τ).loc Cert.MixbRefIdeal.main_arg5)
      ∧ r.2.mem ((c.tc : Thread Cert.MixbRefIdeal.nD Cert.MixbRefIdeal.τ).loc Cert.MixbRefIdeal.main_arg6) = m ((c.tc : Thread Cert.MixbRefIdeal.nD Cert.MixbRefIdeal.τ).loc Cert.MixbRefIdeal.main_arg6)
      ∧ r.2.mem ((c.tc : Thread Cert.MixbRefIdeal.nD Cert.MixbRefIdeal.τ).loc Cert.MixbRefIdeal.main_arg7) = m ((c.tc : Thread Cert.MixbRefIdeal.nD Cert.MixbRefIdeal.τ).loc Cert.MixbRefIdeal.main_arg7)
      ∧ r.2.mem ((c.tc : Thread Cert.MixbRefIdeal.nD Cert.MixbRefIdeal.τ).loc Cert.MixbRefIdeal.main_arg8) = m ((c.tc : Thread Cert.MixbRefIdeal.nD Cert.MixbRefIdeal.τ).loc Cert.MixbRefIdeal.main_arg8))
      ∧ r.2.sem = fun _ => 0)

def quiescent_MixbRefIdeal_pre_mixb_finite [hMixbRefIdeal : Cert.MixbRefIdeal.Facts] [hPre_mixb_finite : Cert.Pre_mixb_finite.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal_mixb_finite m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1)
      ∧ r.2.mem ((c.tc : Thread Cert.MixbRefIdeal.nD Cert.MixbRefIdeal.τ).loc Cert.MixbRefIdeal.main_arg2) = m ((c.tc : Thread Cert.MixbRefIdeal.nD Cert.MixbRefIdeal.τ).loc Cert.MixbRefIdeal.main_arg2)
      ∧ r.2.mem ((c.tc : Thread Cert.MixbRefIdeal.nD Cert.MixbRefIdeal.τ).loc Cert.MixbRefIdeal.main_arg3) = m ((c.tc : Thread Cert.MixbRefIdeal.nD Cert.MixbRefIdeal.τ).loc Cert.MixbRefIdeal.main_arg3)
      ∧ r.2.mem ((c.tc : Thread Cert.MixbRefIdeal.nD Cert.MixbRefIdeal.τ).loc Cert.MixbRefIdeal.main_arg4) = m ((c.tc : Thread Cert.MixbRefIdeal.nD Cert.MixbRefIdeal.τ).loc Cert.MixbRefIdeal.main_arg4)
      ∧ r.2.mem ((c.tc : Thread Cert.MixbRefIdeal.nD Cert.MixbRefIdeal.τ).loc Cert.MixbRefIdeal.main_arg5) = m ((c.tc : Thread Cert.MixbRefIdeal.nD Cert.MixbRefIdeal.τ).loc Cert.MixbRefIdeal.main_arg5)
      ∧ r.2.mem ((c.tc : Thread Cert.MixbRefIdeal.nD Cert.MixbRefIdeal.τ).loc Cert.MixbRefIdeal.main_arg6) = m ((c.tc : Thread Cert.MixbRefIdeal.nD Cert.MixbRefIdeal.τ).loc Cert.MixbRefIdeal.main_arg6)
      ∧ r.2.mem ((c.tc : Thread Cert.MixbRefIdeal.nD Cert.MixbRefIdeal.τ).loc Cert.MixbRefIdeal.main_arg7) = m ((c.tc : Thread Cert.MixbRefIdeal.nD Cert.MixbRefIdeal.τ).loc Cert.MixbRefIdeal.main_arg7)
      ∧ r.2.mem ((c.tc : Thread Cert.MixbRefIdeal.nD Cert.MixbRefIdeal.τ).loc Cert.MixbRefIdeal.main_arg8) = m ((c.tc : Thread Cert.MixbRefIdeal.nD Cert.MixbRefIdeal.τ).loc Cert.MixbRefIdeal.main_arg8))
      ∧ r.2.sem = fun _ => 0)

def quiescent_Mixa [hMixa : Cert.Mixa.Facts] : Prop :=
  ∀ (m : (ℓ : Loc Cert.Mixa.nD Cert.Mixa.τ Cert.Mixa.sig) → Buf (Elt Bits) ℓ) (g : Dev Cert.Mixa.nD → PrngReg), Pre_Mixa m →
    θ_run (Cert.Mixa.defs (F := Bits)) (onTc (τ := Cert.Mixa.τ) (Cert.Mixa.main (F := Bits))) ⟨m, fun _ => 0, g⟩ (fun r => (∀ c : Dev Cert.Mixa.nD,
      r.2.mem ((c.tc : Thread Cert.Mixa.nD Cert.Mixa.τ).loc Cert.Mixa.main_arg0) = m ((c.tc : Thread Cert.Mixa.nD Cert.Mixa.τ).loc Cert.Mixa.main_arg0)
      ∧ r.2.mem ((c.tc : Thread Cert.Mixa.nD Cert.Mixa.τ).loc Cert.Mixa.main_arg1) = m ((c.tc : Thread Cert.Mixa.nD Cert.Mixa.τ).loc Cert.Mixa.main_arg1)
      ∧ r.2.mem ((c.tc : Thread Cert.Mixa.nD Cert.Mixa.τ).loc Cert.Mixa.main_arg2) = m ((c.tc : Thread Cert.Mixa.nD Cert.Mixa.τ).loc Cert.Mixa.main_arg2)
      ∧ r.2.mem ((c.tc : Thread Cert.Mixa.nD Cert.Mixa.τ).loc Cert.Mixa.main_arg3) = m ((c.tc : Thread Cert.Mixa.nD Cert.Mixa.τ).loc Cert.Mixa.main_arg3)
      ∧ r.2.mem ((c.tc : Thread Cert.Mixa.nD Cert.Mixa.τ).loc Cert.Mixa.main_arg4) = m ((c.tc : Thread Cert.Mixa.nD Cert.Mixa.τ).loc Cert.Mixa.main_arg4)
      ∧ r.2.mem ((c.tc : Thread Cert.Mixa.nD Cert.Mixa.τ).loc Cert.Mixa.main_arg5) = m ((c.tc : Thread Cert.Mixa.nD Cert.Mixa.τ).loc Cert.Mixa.main_arg5)
      ∧ r.2.mem ((c.tc : Thread Cert.Mixa.nD Cert.Mixa.τ).loc Cert.Mixa.main_arg6) = m ((c.tc : Thread Cert.Mixa.nD Cert.Mixa.τ).loc Cert.Mixa.main_arg6)
      ∧ r.2.mem ((c.tc : Thread Cert.Mixa.nD Cert.Mixa.τ).loc Cert.Mixa.main_arg7) = m ((c.tc : Thread Cert.Mixa.nD Cert.Mixa.τ).loc Cert.Mixa.main_arg7)
      ∧ r.2.mem ((c.tc : Thread Cert.Mixa.nD Cert.Mixa.τ).loc Cert.Mixa.main_arg8) = m ((c.tc : Thread Cert.Mixa.nD Cert.Mixa.τ).loc Cert.Mixa.main_arg8)
      ∧ r.2.mem ((c.tc : Thread Cert.Mixa.nD Cert.Mixa.τ).loc Cert.Mixa.main_arg9) = m ((c.tc : Thread Cert.Mixa.nD Cert.Mixa.τ).loc Cert.Mixa.main_arg9))
      ∧ r.2.sem = fun _ => 0)

def quiescent_MixaIdeal [hMixaIdeal : Cert.MixaIdeal.Facts] : Prop :=
  ∀ (m : (ℓ : Loc Cert.MixaIdeal.nD Cert.MixaIdeal.τ Cert.MixaIdeal.sig) → Buf (Elt Ideal) ℓ) (g : Dev Cert.MixaIdeal.nD → PrngReg), Pre_MixaIdeal m →
    θ_run (Cert.MixaIdeal.defs (F := Ideal)) (onTc (τ := Cert.MixaIdeal.τ) (Cert.MixaIdeal.main (F := Ideal))) ⟨m, fun _ => 0, g⟩ (fun r => (∀ c : Dev Cert.MixaIdeal.nD,
      r.2.mem ((c.tc : Thread Cert.MixaIdeal.nD Cert.MixaIdeal.τ).loc Cert.MixaIdeal.main_arg0) = m ((c.tc : Thread Cert.MixaIdeal.nD Cert.MixaIdeal.τ).loc Cert.MixaIdeal.main_arg0)
      ∧ r.2.mem ((c.tc : Thread Cert.MixaIdeal.nD Cert.MixaIdeal.τ).loc Cert.MixaIdeal.main_arg1) = m ((c.tc : Thread Cert.MixaIdeal.nD Cert.MixaIdeal.τ).loc Cert.MixaIdeal.main_arg1)
      ∧ r.2.mem ((c.tc : Thread Cert.MixaIdeal.nD Cert.MixaIdeal.τ).loc Cert.MixaIdeal.main_arg2) = m ((c.tc : Thread Cert.MixaIdeal.nD Cert.MixaIdeal.τ).loc Cert.MixaIdeal.main_arg2)
      ∧ r.2.mem ((c.tc : Thread Cert.MixaIdeal.nD Cert.MixaIdeal.τ).loc Cert.MixaIdeal.main_arg3) = m ((c.tc : Thread Cert.MixaIdeal.nD Cert.MixaIdeal.τ).loc Cert.MixaIdeal.main_arg3)
      ∧ r.2.mem ((c.tc : Thread Cert.MixaIdeal.nD Cert.MixaIdeal.τ).loc Cert.MixaIdeal.main_arg4) = m ((c.tc : Thread Cert.MixaIdeal.nD Cert.MixaIdeal.τ).loc Cert.MixaIdeal.main_arg4)
      ∧ r.2.mem ((c.tc : Thread Cert.MixaIdeal.nD Cert.MixaIdeal.τ).loc Cert.MixaIdeal.main_arg5) = m ((c.tc : Thread Cert.MixaIdeal.nD Cert.MixaIdeal.τ).loc Cert.MixaIdeal.main_arg5)
      ∧ r.2.mem ((c.tc : Thread Cert.MixaIdeal.nD Cert.MixaIdeal.τ).loc Cert.MixaIdeal.main_arg6) = m ((c.tc : Thread Cert.MixaIdeal.nD Cert.MixaIdeal.τ).loc Cert.MixaIdeal.main_arg6)
      ∧ r.2.mem ((c.tc : Thread Cert.MixaIdeal.nD Cert.MixaIdeal.τ).loc Cert.MixaIdeal.main_arg7) = m ((c.tc : Thread Cert.MixaIdeal.nD Cert.MixaIdeal.τ).loc Cert.MixaIdeal.main_arg7)
      ∧ r.2.mem ((c.tc : Thread Cert.MixaIdeal.nD Cert.MixaIdeal.τ).loc Cert.MixaIdeal.main_arg8) = m ((c.tc : Thread Cert.MixaIdeal.nD Cert.MixaIdeal.τ).loc Cert.MixaIdeal.main_arg8)
      ∧ r.2.mem ((c.tc : Thread Cert.MixaIdeal.nD Cert.MixaIdeal.τ).loc Cert.MixaIdeal.main_arg9) = m ((c.tc : Thread Cert.MixaIdeal.nD Cert.MixaIdeal.τ).loc Cert.MixaIdeal.main_arg9))
      ∧ r.2.sem = fun _ => 0)

def quiescent_MixaIdeal_pre_mixa_finite [hMixaIdeal : Cert.MixaIdeal.Facts] [hPre_mixa_finite : Cert.Pre_mixa_finite.Facts] : Prop :=
  ∀ (m : (ℓ : Loc Cert.MixaIdeal.nD Cert.MixaIdeal.τ Cert.MixaIdeal.sig) → Buf (Elt Ideal) ℓ) (g : Dev Cert.MixaIdeal.nD → PrngReg), Pre_MixaIdeal_mixa_finite m →
    θ_run (Cert.MixaIdeal.defs (F := Ideal)) (onTc (τ := Cert.MixaIdeal.τ) (Cert.MixaIdeal.main (F := Ideal))) ⟨m, fun _ => 0, g⟩ (fun r => (∀ c : Dev Cert.MixaIdeal.nD,
      r.2.mem ((c.tc : Thread Cert.MixaIdeal.nD Cert.MixaIdeal.τ).loc Cert.MixaIdeal.main_arg0) = m ((c.tc : Thread Cert.MixaIdeal.nD Cert.MixaIdeal.τ).loc Cert.MixaIdeal.main_arg0)
      ∧ r.2.mem ((c.tc : Thread Cert.MixaIdeal.nD Cert.MixaIdeal.τ).loc Cert.MixaIdeal.main_arg1) = m ((c.tc : Thread Cert.MixaIdeal.nD Cert.MixaIdeal.τ).loc Cert.MixaIdeal.main_arg1)
      ∧ r.2.mem ((c.tc : Thread Cert.MixaIdeal.nD Cert.MixaIdeal.τ).loc Cert.MixaIdeal.main_arg2) = m ((c.tc : Thread Cert.MixaIdeal.nD Cert.MixaIdeal.τ).loc Cert.MixaIdeal.main_arg2)
      ∧ r.2.mem ((c.tc : Thread Cert.MixaIdeal.nD Cert.MixaIdeal.τ).loc Cert.MixaIdeal.main_arg3) = m ((c.tc : Thread Cert.MixaIdeal.nD Cert.MixaIdeal.τ).loc Cert.MixaIdeal.main_arg3)
      ∧ r.2.mem ((c.tc : Thread Cert.MixaIdeal.nD Cert.MixaIdeal.τ).loc Cert.MixaIdeal.main_arg4) = m ((c.tc : Thread Cert.MixaIdeal.nD Cert.MixaIdeal.τ).loc Cert.MixaIdeal.main_arg4)
      ∧ r.2.mem ((c.tc : Thread Cert.MixaIdeal.nD Cert.MixaIdeal.τ).loc Cert.MixaIdeal.main_arg5) = m ((c.tc : Thread Cert.MixaIdeal.nD Cert.MixaIdeal.τ).loc Cert.MixaIdeal.main_arg5)
      ∧ r.2.mem ((c.tc : Thread Cert.MixaIdeal.nD Cert.MixaIdeal.τ).loc Cert.MixaIdeal.main_arg6) = m ((c.tc : Thread Cert.MixaIdeal.nD Cert.MixaIdeal.τ).loc Cert.MixaIdeal.main_arg6)
      ∧ r.2.mem ((c.tc : Thread Cert.MixaIdeal.nD Cert.MixaIdeal.τ).loc Cert.MixaIdeal.main_arg7) = m ((c.tc : Thread Cert.MixaIdeal.nD Cert.MixaIdeal.τ).loc Cert.MixaIdeal.main_arg7)
      ∧ r.2.mem ((c.tc : Thread Cert.MixaIdeal.nD Cert.MixaIdeal.τ).loc Cert.MixaIdeal.main_arg8) = m ((c.tc : Thread Cert.MixaIdeal.nD Cert.MixaIdeal.τ).loc Cert.MixaIdeal.main_arg8)
      ∧ r.2.mem ((c.tc : Thread Cert.MixaIdeal.nD Cert.MixaIdeal.τ).loc Cert.MixaIdeal.main_arg9) = m ((c.tc : Thread Cert.MixaIdeal.nD Cert.MixaIdeal.τ).loc Cert.MixaIdeal.main_arg9))
      ∧ r.2.sem = fun _ => 0)

def quiescent_MixaRefIdeal [hMixaRefIdeal : Cert.MixaRefIdeal.Facts] : Prop :=
  ∀ (m : (ℓ : Loc Cert.MixaRefIdeal.nD Cert.MixaRefIdeal.τ Cert.MixaRefIdeal.sig) → Buf (Elt Ideal) ℓ) (g : Dev Cert.MixaRefIdeal.nD → PrngReg), Pre_MixaRefIdeal m →
    θ_run (Cert.MixaRefIdeal.defs (F := Ideal)) (onTc (τ := Cert.MixaRefIdeal.τ) (Cert.MixaRefIdeal.main (F := Ideal))) ⟨m, fun _ => 0, g⟩ (fun r => (∀ c : Dev Cert.MixaRefIdeal.nD,
      r.2.mem ((c.tc : Thread Cert.MixaRefIdeal.nD Cert.MixaRefIdeal.τ).loc Cert.MixaRefIdeal.main_arg0) = m ((c.tc : Thread Cert.MixaRefIdeal.nD Cert.MixaRefIdeal.τ).loc Cert.MixaRefIdeal.main_arg0)
      ∧ r.2.mem ((c.tc : Thread Cert.MixaRefIdeal.nD Cert.MixaRefIdeal.τ).loc Cert.MixaRefIdeal.main_arg1) = m ((c.tc : Thread Cert.MixaRefIdeal.nD Cert.MixaRefIdeal.τ).loc Cert.MixaRefIdeal.main_arg1)
      ∧ r.2.mem ((c.tc : Thread Cert.MixaRefIdeal.nD Cert.MixaRefIdeal.τ).loc Cert.MixaRefIdeal.main_arg2) = m ((c.tc : Thread Cert.MixaRefIdeal.nD Cert.MixaRefIdeal.τ).loc Cert.MixaRefIdeal.main_arg2)
      ∧ r.2.mem ((c.tc : Thread Cert.MixaRefIdeal.nD Cert.MixaRefIdeal.τ).loc Cert.MixaRefIdeal.main_arg3) = m ((c.tc : Thread Cert.MixaRefIdeal.nD Cert.MixaRefIdeal.τ).loc Cert.MixaRefIdeal.main_arg3)
      ∧ r.2.mem ((c.tc : Thread Cert.MixaRefIdeal.nD Cert.MixaRefIdeal.τ).loc Cert.MixaRefIdeal.main_arg4) = m ((c.tc : Thread Cert.MixaRefIdeal.nD Cert.MixaRefIdeal.τ).loc Cert.MixaRefIdeal.main_arg4)
      ∧ r.2.mem ((c.tc : Thread Cert.MixaRefIdeal.nD Cert.MixaRefIdeal.τ).loc Cert.MixaRefIdeal.main_arg5) = m ((c.tc : Thread Cert.MixaRefIdeal.nD Cert.MixaRefIdeal.τ).loc Cert.MixaRefIdeal.main_arg5)
      ∧ r.2.mem ((c.tc : Thread Cert.MixaRefIdeal.nD Cert.MixaRefIdeal.τ).loc Cert.MixaRefIdeal.main_arg6) = m ((c.tc : Thread Cert.MixaRefIdeal.nD Cert.MixaRefIdeal.τ).loc Cert.MixaRefIdeal.main_arg6)
      ∧ r.2.mem ((c.tc : Thread Cert.MixaRefIdeal.nD Cert.MixaRefIdeal.τ).loc Cert.MixaRefIdeal.main_arg7) = m ((c.tc : Thread Cert.MixaRefIdeal.nD Cert.MixaRefIdeal.τ).loc Cert.MixaRefIdeal.main_arg7)
      ∧ r.2.mem ((c.tc : Thread Cert.MixaRefIdeal.nD Cert.MixaRefIdeal.τ).loc Cert.MixaRefIdeal.main_arg8) = m ((c.tc : Thread Cert.MixaRefIdeal.nD Cert.MixaRefIdeal.τ).loc Cert.MixaRefIdeal.main_arg8)
      ∧ r.2.mem ((c.tc : Thread Cert.MixaRefIdeal.nD Cert.MixaRefIdeal.τ).loc Cert.MixaRefIdeal.main_arg9) = m ((c.tc : Thread Cert.MixaRefIdeal.nD Cert.MixaRefIdeal.τ).loc Cert.MixaRefIdeal.main_arg9))
      ∧ r.2.sem = fun _ => 0)

def quiescent_MixaRefIdeal_pre_mixa_finite [hMixaRefIdeal : Cert.MixaRefIdeal.Facts] [hPre_mixa_finite : Cert.Pre_mixa_finite.Facts] : Prop :=
  ∀ (m : (ℓ : Loc Cert.MixaRefIdeal.nD Cert.MixaRefIdeal.τ Cert.MixaRefIdeal.sig) → Buf (Elt Ideal) ℓ) (g : Dev Cert.MixaRefIdeal.nD → PrngReg), Pre_MixaRefIdeal_mixa_finite m →
    θ_run (Cert.MixaRefIdeal.defs (F := Ideal)) (onTc (τ := Cert.MixaRefIdeal.τ) (Cert.MixaRefIdeal.main (F := Ideal))) ⟨m, fun _ => 0, g⟩ (fun r => (∀ c : Dev Cert.MixaRefIdeal.nD,
      r.2.mem ((c.tc : Thread Cert.MixaRefIdeal.nD Cert.MixaRefIdeal.τ).loc Cert.MixaRefIdeal.main_arg0) = m ((c.tc : Thread Cert.MixaRefIdeal.nD Cert.MixaRefIdeal.τ).loc Cert.MixaRefIdeal.main_arg0)
      ∧ r.2.mem ((c.tc : Thread Cert.MixaRefIdeal.nD Cert.MixaRefIdeal.τ).loc Cert.MixaRefIdeal.main_arg1) = m ((c.tc : Thread Cert.MixaRefIdeal.nD Cert.MixaRefIdeal.τ).loc Cert.MixaRefIdeal.main_arg1)
      ∧ r.2.mem ((c.tc : Thread Cert.MixaRefIdeal.nD Cert.MixaRefIdeal.τ).loc Cert.MixaRefIdeal.main_arg2) = m ((c.tc : Thread Cert.MixaRefIdeal.nD Cert.MixaRefIdeal.τ).loc Cert.MixaRefIdeal.main_arg2)
      ∧ r.2.mem ((c.tc : Thread Cert.MixaRefIdeal.nD Cert.MixaRefIdeal.τ).loc Cert.MixaRefIdeal.main_arg3) = m ((c.tc : Thread Cert.MixaRefIdeal.nD Cert.MixaRefIdeal.τ).loc Cert.MixaRefIdeal.main_arg3)
      ∧ r.2.mem ((c.tc : Thread Cert.MixaRefIdeal.nD Cert.MixaRefIdeal.τ).loc Cert.MixaRefIdeal.main_arg4) = m ((c.tc : Thread Cert.MixaRefIdeal.nD Cert.MixaRefIdeal.τ).loc Cert.MixaRefIdeal.main_arg4)
      ∧ r.2.mem ((c.tc : Thread Cert.MixaRefIdeal.nD Cert.MixaRefIdeal.τ).loc Cert.MixaRefIdeal.main_arg5) = m ((c.tc : Thread Cert.MixaRefIdeal.nD Cert.MixaRefIdeal.τ).loc Cert.MixaRefIdeal.main_arg5)
      ∧ r.2.mem ((c.tc : Thread Cert.MixaRefIdeal.nD Cert.MixaRefIdeal.τ).loc Cert.MixaRefIdeal.main_arg6) = m ((c.tc : Thread Cert.MixaRefIdeal.nD Cert.MixaRefIdeal.τ).loc Cert.MixaRefIdeal.main_arg6)
      ∧ r.2.mem ((c.tc : Thread Cert.MixaRefIdeal.nD Cert.MixaRefIdeal.τ).loc Cert.MixaRefIdeal.main_arg7) = m ((c.tc : Thread Cert.MixaRefIdeal.nD Cert.MixaRefIdeal.τ).loc Cert.MixaRefIdeal.main_arg7)
      ∧ r.2.mem ((c.tc : Thread Cert.MixaRefIdeal.nD Cert.MixaRefIdeal.τ).loc Cert.MixaRefIdeal.main_arg8) = m ((c.tc : Thread Cert.MixaRefIdeal.nD Cert.MixaRefIdeal.τ).loc Cert.MixaRefIdeal.main_arg8)
      ∧ r.2.mem ((c.tc : Thread Cert.MixaRefIdeal.nD Cert.MixaRefIdeal.τ).loc Cert.MixaRefIdeal.main_arg9) = m ((c.tc : Thread Cert.MixaRefIdeal.nD Cert.MixaRefIdeal.τ).loc Cert.MixaRefIdeal.main_arg9))
      ∧ r.2.sem = fun _ => 0)

def quiescent_Attnf [hAttnf : Cert.Attnf.Facts] : Prop :=
  ∀ (m : (ℓ : Loc Cert.Attnf.nD Cert.Attnf.τ Cert.Attnf.sig) → Buf (Elt Bits) ℓ) (g : Dev Cert.Attnf.nD → PrngReg), Pre_Attnf m →
    θ_run (Cert.Attnf.defs (F := Bits)) (onTc (τ := Cert.Attnf.τ) (Cert.Attnf.main (F := Bits))) ⟨m, fun _ => 0, g⟩ (fun r => (∀ c : Dev Cert.Attnf.nD,
      r.2.mem ((c.tc : Thread Cert.Attnf.nD Cert.Attnf.τ).loc Cert.Attnf.main_arg0) = m ((c.tc : Thread Cert.Attnf.nD Cert.Attnf.τ).loc Cert.Attnf.main_arg0)
      ∧ r.2.mem ((c.tc : Thread Cert.Attnf.nD Cert.Attnf.τ).loc Cert.Attnf.main_arg1) = m ((c.tc : Thread Cert.Attnf.nD Cert.Attnf.τ).loc Cert.Attnf.main_arg1)
      ∧ r.2.mem ((c.tc : Thread Cert.Attnf.nD Cert.Attnf.τ).loc Cert.Attnf.main_arg2) = m ((c.tc : Thread Cert.Attnf.nD Cert.Attnf.τ).loc Cert.Attnf.main_arg2))
      ∧ r.2.sem = fun _ => 0)

def quiescent_AttnfIdeal [hAttnfIdeal : Cert.AttnfIdeal.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
      ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2))
      ∧ r.2.sem = fun _ => 0)

def quiescent_AttnfIdeal_pre_attnf_finite [hAttnfIdeal : Cert.AttnfIdeal.Facts] [hPre_attnf_finite : Cert.Pre_attnf_finite.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal_attnf_finite m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
      ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2))
      ∧ r.2.sem = fun _ => 0)

def quiescent_AttnfRefIdeal [hAttnfRefIdeal : Cert.AttnfRefIdeal.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1)
      ∧ r.2.mem ((c.tc : Thread Cert.AttnfRefIdeal.nD Cert.AttnfRefIdeal.τ).loc Cert.AttnfRefIdeal.main_arg2) = m ((c.tc : Thread Cert.AttnfRefIdeal.nD Cert.AttnfRefIdeal.τ).loc Cert.AttnfRefIdeal.main_arg2))
      ∧ r.2.sem = fun _ => 0)

def quiescent_AttnfRefIdeal_pre_attnf_finite [hAttnfRefIdeal : Cert.AttnfRefIdeal.Facts] [hPre_attnf_finite : Cert.Pre_attnf_finite.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal_attnf_finite m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1)
      ∧ r.2.mem ((c.tc : Thread Cert.AttnfRefIdeal.nD Cert.AttnfRefIdeal.τ).loc Cert.AttnfRefIdeal.main_arg2) = m ((c.tc : Thread Cert.AttnfRefIdeal.nD Cert.AttnfRefIdeal.τ).loc Cert.AttnfRefIdeal.main_arg2))
      ∧ r.2.sem = fun _ => 0)

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Attn_AttnIdeal : Prop :=
  IdealRules.named_const.Statement Cert.AttnIdeal.κ "dead" .f32 0xC2D00000#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v38_0)) (v1 : (c : Dev Cert.AttnIdeal.nD) → Buf (Elt Ideal) ((c.tc : Thread Cert.AttnIdeal.nD Cert.AttnIdeal.τ).loc Cert.AttnIdeal.main_v38_1)) (v2 : (c : Dev Cert.AttnIdeal.nD) → Buf (Elt Ideal) ((c.tc : Thread Cert.AttnIdeal.nD Cert.AttnIdeal.τ).loc Cert.AttnIdeal.main_v38_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v38_0) = v0 c
          ∧ r.2.mem ((c.tc : Thread Cert.AttnIdeal.nD Cert.AttnIdeal.τ).loc Cert.AttnIdeal.main_v38_1) = v1 c
          ∧ r.2.mem ((c.tc : Thread Cert.AttnIdeal.nD Cert.AttnIdeal.τ).loc Cert.AttnIdeal.main_v38_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_v41) = v1 c
          ∧ r.2.mem ((c.tc : Thread Cert.AttnRefIdeal.nD Cert.AttnRefIdeal.τ).loc Cert.AttnRefIdeal.main_v42) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Iproj_IprojIdeal : Prop :=
  True

def algebraic_IprojIdeal_IprojRefIdeal_pre_iproj_finite [hIprojIdeal : Cert.IprojIdeal.Facts] [hIprojRefIdeal : Cert.IprojRefIdeal.Facts] [hPre_iproj_finite : Cert.Pre_iproj_finite.Facts] : Prop :=
  ∀ (m : (ℓ : Loc Cert.IprojIdeal.nD Cert.IprojIdeal.τ Cert.IprojIdeal.sig) → Buf (Elt Ideal) ℓ) (g : Dev Cert.IprojIdeal.nD → PrngReg)
    (m' : (ℓ : Loc Cert.IprojRefIdeal.nD Cert.IprojRefIdeal.τ Cert.IprojRefIdeal.sig) → Buf (Elt Ideal) ℓ) (g' : Dev Cert.IprojRefIdeal.nD → PrngReg), Pre_IprojIdeal_iproj_finite m →
    (∀ c : Dev Cert.IprojIdeal.nD,
      m' ((c.tc : Thread Cert.IprojRefIdeal.nD Cert.IprojRefIdeal.τ).loc Cert.IprojRefIdeal.main_arg0) = m ((c.tc : Thread Cert.IprojIdeal.nD Cert.IprojIdeal.τ).loc Cert.IprojIdeal.main_arg0)
      ∧ m' ((c.tc : Thread Cert.IprojRefIdeal.nD Cert.IprojRefIdeal.τ).loc Cert.IprojRefIdeal.main_arg1) = m ((c.tc : Thread Cert.IprojIdeal.nD Cert.IprojIdeal.τ).loc Cert.IprojIdeal.main_arg1)
      ∧ m' ((c.tc : Thread Cert.IprojRefIdeal.nD Cert.IprojRefIdeal.τ).loc Cert.IprojRefIdeal.main_arg2) = m ((c.tc : Thread Cert.IprojIdeal.nD Cert.IprojIdeal.τ).loc Cert.IprojIdeal.main_arg2)
      ∧ m' ((c.tc : Thread Cert.IprojRefIdeal.nD Cert.IprojRefIdeal.τ).loc Cert.IprojRefIdeal.main_arg3) = m ((c.tc : Thread Cert.IprojIdeal.nD Cert.IprojIdeal.τ).loc Cert.IprojIdeal.main_arg3)
      ∧ m' ((c.tc : Thread Cert.IprojRefIdeal.nD Cert.IprojRefIdeal.τ).loc Cert.IprojRefIdeal.main_arg4) = m ((c.tc : Thread Cert.IprojIdeal.nD Cert.IprojIdeal.τ).loc Cert.IprojIdeal.main_arg4)) →
    ∃ (v0 : (c : Dev Cert.IprojIdeal.nD) → Buf (Elt Ideal) ((c.tc : Thread Cert.IprojIdeal.nD Cert.IprojIdeal.τ).loc Cert.IprojIdeal.main_v5_0)) (v1 : (c : Dev Cert.IprojIdeal.nD) → Buf (Elt Ideal) ((c.tc : Thread Cert.IprojIdeal.nD Cert.IprojIdeal.τ).loc Cert.IprojIdeal.main_v5_1)) (v2 : (c : Dev Cert.IprojIdeal.nD) → Buf (Elt Ideal) ((c.tc : Thread Cert.IprojIdeal.nD Cert.IprojIdeal.τ).loc Cert.IprojIdeal.main_v5_2)),
      θ_run (Cert.IprojIdeal.defs (F := Ideal)) (onTc (τ := Cert.IprojIdeal.τ) (Cert.IprojIdeal.main (F := Ideal))) ⟨m, fun _ => 0, g⟩ (fun r => ∀ c : Dev Cert.IprojIdeal.nD,
          r.2.mem ((c.tc : Thread Cert.IprojIdeal.nD Cert.IprojIdeal.τ).loc Cert.IprojIdeal.main_v5_0) = v0 c
          ∧ r.2.mem ((c.tc : Thread Cert.IprojIdeal.nD Cert.IprojIdeal.τ).loc Cert.IprojIdeal.main_v5_1) = v1 c
          ∧ r.2.mem ((c.tc : Thread Cert.IprojIdeal.nD Cert.IprojIdeal.τ).loc Cert.IprojIdeal.main_v5_2) = v2 c
          ∧ r.2.mem ((c.tc : Thread Cert.IprojIdeal.nD Cert.IprojIdeal.τ).loc Cert.IprojIdeal.main_arg0) = m ((c.tc : Thread Cert.IprojIdeal.nD Cert.IprojIdeal.τ).loc Cert.IprojIdeal.main_arg0)
          ∧ r.2.mem ((c.tc : Thread Cert.IprojIdeal.nD Cert.IprojIdeal.τ).loc Cert.IprojIdeal.main_arg1) = m ((c.tc : Thread Cert.IprojIdeal.nD Cert.IprojIdeal.τ).loc Cert.IprojIdeal.main_arg1)
          ∧ r.2.mem ((c.tc : Thread Cert.IprojIdeal.nD Cert.IprojIdeal.τ).loc Cert.IprojIdeal.main_arg2) = m ((c.tc : Thread Cert.IprojIdeal.nD Cert.IprojIdeal.τ).loc Cert.IprojIdeal.main_arg2)
          ∧ r.2.mem ((c.tc : Thread Cert.IprojIdeal.nD Cert.IprojIdeal.τ).loc Cert.IprojIdeal.main_arg3) = m ((c.tc : Thread Cert.IprojIdeal.nD Cert.IprojIdeal.τ).loc Cert.IprojIdeal.main_arg3)
          ∧ r.2.mem ((c.tc : Thread Cert.IprojIdeal.nD Cert.IprojIdeal.τ).loc Cert.IprojIdeal.main_arg4) = m ((c.tc : Thread Cert.IprojIdeal.nD Cert.IprojIdeal.τ).loc Cert.IprojIdeal.main_arg4))
      ∧ θ_run (Cert.IprojRefIdeal.defs (F := Ideal)) (onTc (τ := Cert.IprojRefIdeal.τ) (Cert.IprojRefIdeal.main (F := Ideal))) ⟨m', fun _ => 0, g'⟩ (fun r => ∀ c : Dev Cert.IprojRefIdeal.nD,
          r.2.mem ((c.tc : Thread Cert.IprojRefIdeal.nD Cert.IprojRefIdeal.τ).loc Cert.IprojRefIdeal.main_v38) = v0 c
          ∧ r.2.mem ((c.tc : Thread Cert.IprojRefIdeal.nD Cert.IprojRefIdeal.τ).loc Cert.IprojRefIdeal.main_v39) = v1 c
          ∧ r.2.mem ((c.tc : Thread Cert.IprojRefIdeal.nD Cert.IprojRefIdeal.τ).loc Cert.IprojRefIdeal.main_v40) = v2 c
          ∧ r.2.mem ((c.tc : Thread Cert.IprojRefIdeal.nD Cert.IprojRefIdeal.τ).loc Cert.IprojRefIdeal.main_arg0) = m' ((c.tc : Thread Cert.IprojRefIdeal.nD Cert.IprojRefIdeal.τ).loc Cert.IprojRefIdeal.main_arg0)
          ∧ r.2.mem ((c.tc : Thread Cert.IprojRefIdeal.nD Cert.IprojRefIdeal.τ).loc Cert.IprojRefIdeal.main_arg1) = m' ((c.tc : Thread Cert.IprojRefIdeal.nD Cert.IprojRefIdeal.τ).loc Cert.IprojRefIdeal.main_arg1)
          ∧ r.2.mem ((c.tc : Thread Cert.IprojRefIdeal.nD Cert.IprojRefIdeal.τ).loc Cert.IprojRefIdeal.main_arg2) = m' ((c.tc : Thread Cert.IprojRefIdeal.nD Cert.IprojRefIdeal.τ).loc Cert.IprojRefIdeal.main_arg2)
          ∧ r.2.mem ((c.tc : Thread Cert.IprojRefIdeal.nD Cert.IprojRefIdeal.τ).loc Cert.IprojRefIdeal.main_arg3) = m' ((c.tc : Thread Cert.IprojRefIdeal.nD Cert.IprojRefIdeal.τ).loc Cert.IprojRefIdeal.main_arg3)
          ∧ r.2.mem ((c.tc : Thread Cert.IprojRefIdeal.nD Cert.IprojRefIdeal.τ).loc Cert.IprojRefIdeal.main_arg4) = m' ((c.tc : Thread Cert.IprojRefIdeal.nD Cert.IprojRefIdeal.τ).loc Cert.IprojRefIdeal.main_arg4))

def preserves_Oproj_OprojIdeal : Prop :=
  True

def algebraic_OprojIdeal_OprojRefIdeal_pre_oproj_finite [hOprojIdeal : Cert.OprojIdeal.Facts] [hOprojRefIdeal : Cert.OprojRefIdeal.Facts] [hPre_oproj_finite : Cert.Pre_oproj_finite.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal_oproj_finite m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)) →
    ∃ (v0 : (c : Dev Cert.OprojIdeal.nD) → Buf (Elt Ideal) ((c.tc : Thread Cert.OprojIdeal.nD Cert.OprojIdeal.τ).loc Cert.OprojIdeal.main_v10_0)) (v1 : (c : Dev Cert.OprojIdeal.nD) → Buf (Elt Ideal) ((c.tc : Thread Cert.OprojIdeal.nD Cert.OprojIdeal.τ).loc Cert.OprojIdeal.main_v10_1)) (v2 : (c : Dev Cert.OprojIdeal.nD) → Buf (Elt Ideal) ((c.tc : Thread Cert.OprojIdeal.nD Cert.OprojIdeal.τ).loc Cert.OprojIdeal.main_v10_2)) (v3 : (c : Dev Cert.OprojIdeal.nD) → Buf (Elt Ideal) ((c.tc : Thread Cert.OprojIdeal.nD Cert.OprojIdeal.τ).loc Cert.OprojIdeal.main_v10_3)) (v4 : (c : Dev Cert.OprojIdeal.nD) → Buf (Elt Ideal) ((c.tc : Thread Cert.OprojIdeal.nD Cert.OprojIdeal.τ).loc Cert.OprojIdeal.main_v10_4)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v10_0) = v0 c
          ∧ r.2.mem ((c.tc : Thread Cert.OprojIdeal.nD Cert.OprojIdeal.τ).loc Cert.OprojIdeal.main_v10_1) = v1 c
          ∧ r.2.mem ((c.tc : Thread Cert.OprojIdeal.nD Cert.OprojIdeal.τ).loc Cert.OprojIdeal.main_v10_2) = v2 c
          ∧ r.2.mem ((c.tc : Thread Cert.OprojIdeal.nD Cert.OprojIdeal.τ).loc Cert.OprojIdeal.main_v10_3) = v3 c
          ∧ r.2.mem ((c.tc : Thread Cert.OprojIdeal.nD Cert.OprojIdeal.τ).loc Cert.OprojIdeal.main_v10_4) = v4 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v41) = v0 c
          ∧ r.2.mem ((c.tc : Thread Cert.OprojRefIdeal.nD Cert.OprojRefIdeal.τ).loc Cert.OprojRefIdeal.main_v52) = v1 c
          ∧ r.2.mem ((c.tc : Thread Cert.OprojRefIdeal.nD Cert.OprojRefIdeal.τ).loc Cert.OprojRefIdeal.main_v53) = v2 c
          ∧ r.2.mem ((c.tc : Thread Cert.OprojRefIdeal.nD Cert.OprojRefIdeal.τ).loc Cert.OprojRefIdeal.main_v54) = v3 c
          ∧ r.2.mem ((c.tc : Thread Cert.OprojRefIdeal.nD Cert.OprojRefIdeal.τ).loc Cert.OprojRefIdeal.main_v55) = v4 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6))

def preserves_Ffn_FfnIdeal : Prop :=
  True

def algebraic_FfnIdeal_FfnRefIdeal_pre_ffnb_finite [hFfnIdeal : Cert.FfnIdeal.Facts] [hFfnRefIdeal : Cert.FfnRefIdeal.Facts] [hPre_ffnb_finite : Cert.Pre_ffnb_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffnb_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v14) = v0 c
          ∧ r.2.mem ((c.tc : Thread Cert.FfnRefIdeal.nD Cert.FfnRefIdeal.τ).loc Cert.FfnRefIdeal.main_v13) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mixb_MixbIdeal : Prop :=
  True

def algebraic_MixbIdeal_MixbRefIdeal_pre_mixb_finite [hMixbIdeal : Cert.MixbIdeal.Facts] [hMixbRefIdeal : Cert.MixbRefIdeal.Facts] [hPre_mixb_finite : Cert.Pre_mixb_finite.Facts] : Prop :=
  ∀ (m : (ℓ : Loc Cert.MixbIdeal.nD Cert.MixbIdeal.τ Cert.MixbIdeal.sig) → Buf (Elt Ideal) ℓ) (g : Dev Cert.MixbIdeal.nD → PrngReg)
    (m' : (ℓ : Loc Cert.MixbRefIdeal.nD Cert.MixbRefIdeal.τ Cert.MixbRefIdeal.sig) → Buf (Elt Ideal) ℓ) (g' : Dev Cert.MixbRefIdeal.nD → PrngReg), Pre_MixbIdeal_mixb_finite m →
    (∀ c : Dev Cert.MixbIdeal.nD,
      m' ((c.tc : Thread Cert.MixbRefIdeal.nD Cert.MixbRefIdeal.τ).loc Cert.MixbRefIdeal.main_arg0) = m ((c.tc : Thread Cert.MixbIdeal.nD Cert.MixbIdeal.τ).loc Cert.MixbIdeal.main_arg0)
      ∧ m' ((c.tc : Thread Cert.MixbRefIdeal.nD Cert.MixbRefIdeal.τ).loc Cert.MixbRefIdeal.main_arg1) = m ((c.tc : Thread Cert.MixbIdeal.nD Cert.MixbIdeal.τ).loc Cert.MixbIdeal.main_arg1)
      ∧ m' ((c.tc : Thread Cert.MixbRefIdeal.nD Cert.MixbRefIdeal.τ).loc Cert.MixbRefIdeal.main_arg2) = m ((c.tc : Thread Cert.MixbIdeal.nD Cert.MixbIdeal.τ).loc Cert.MixbIdeal.main_arg2)
      ∧ m' ((c.tc : Thread Cert.MixbRefIdeal.nD Cert.MixbRefIdeal.τ).loc Cert.MixbRefIdeal.main_arg3) = m ((c.tc : Thread Cert.MixbIdeal.nD Cert.MixbIdeal.τ).loc Cert.MixbIdeal.main_arg3)
      ∧ m' ((c.tc : Thread Cert.MixbRefIdeal.nD Cert.MixbRefIdeal.τ).loc Cert.MixbRefIdeal.main_arg4) = m ((c.tc : Thread Cert.MixbIdeal.nD Cert.MixbIdeal.τ).loc Cert.MixbIdeal.main_arg4)
      ∧ m' ((c.tc : Thread Cert.MixbRefIdeal.nD Cert.MixbRefIdeal.τ).loc Cert.MixbRefIdeal.main_arg5) = m ((c.tc : Thread Cert.MixbIdeal.nD Cert.MixbIdeal.τ).loc Cert.MixbIdeal.main_arg5)
      ∧ m' ((c.tc : Thread Cert.MixbRefIdeal.nD Cert.MixbRefIdeal.τ).loc Cert.MixbRefIdeal.main_arg6) = m ((c.tc : Thread Cert.MixbIdeal.nD Cert.MixbIdeal.τ).loc Cert.MixbIdeal.main_arg6)
      ∧ m' ((c.tc : Thread Cert.MixbRefIdeal.nD Cert.MixbRefIdeal.τ).loc Cert.MixbRefIdeal.main_arg7) = m ((c.tc : Thread Cert.MixbIdeal.nD Cert.MixbIdeal.τ).loc Cert.MixbIdeal.main_arg7)
      ∧ m' ((c.tc : Thread Cert.MixbRefIdeal.nD Cert.MixbRefIdeal.τ).loc Cert.MixbRefIdeal.main_arg8) = m ((c.tc : Thread Cert.MixbIdeal.nD Cert.MixbIdeal.τ).loc Cert.MixbIdeal.main_arg8)) →
    ∃ (v0 : (c : Dev Cert.MixbIdeal.nD) → Buf (Elt Ideal) ((c.tc : Thread Cert.MixbIdeal.nD Cert.MixbIdeal.τ).loc Cert.MixbIdeal.main_v11)),
      θ_run (Cert.MixbIdeal.defs (F := Ideal)) (onTc (τ := Cert.MixbIdeal.τ) (Cert.MixbIdeal.main (F := Ideal))) ⟨m, fun _ => 0, g⟩ (fun r => ∀ c : Dev Cert.MixbIdeal.nD,
          r.2.mem ((c.tc : Thread Cert.MixbIdeal.nD Cert.MixbIdeal.τ).loc Cert.MixbIdeal.main_v11) = v0 c
          ∧ r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
          ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1)
          ∧ r.2.mem ((c.tc : Thread Cert.MixbIdeal.nD Cert.MixbIdeal.τ).loc Cert.MixbIdeal.main_arg2) = m ((c.tc : Thread Cert.MixbIdeal.nD Cert.MixbIdeal.τ).loc Cert.MixbIdeal.main_arg2)
          ∧ r.2.mem ((c.tc : Thread Cert.MixbIdeal.nD Cert.MixbIdeal.τ).loc Cert.MixbIdeal.main_arg3) = m ((c.tc : Thread Cert.MixbIdeal.nD Cert.MixbIdeal.τ).loc Cert.MixbIdeal.main_arg3)
          ∧ r.2.mem ((c.tc : Thread Cert.MixbIdeal.nD Cert.MixbIdeal.τ).loc Cert.MixbIdeal.main_arg4) = m ((c.tc : Thread Cert.MixbIdeal.nD Cert.MixbIdeal.τ).loc Cert.MixbIdeal.main_arg4)
          ∧ r.2.mem ((c.tc : Thread Cert.MixbIdeal.nD Cert.MixbIdeal.τ).loc Cert.MixbIdeal.main_arg5) = m ((c.tc : Thread Cert.MixbIdeal.nD Cert.MixbIdeal.τ).loc Cert.MixbIdeal.main_arg5)
          ∧ r.2.mem ((c.tc : Thread Cert.MixbIdeal.nD Cert.MixbIdeal.τ).loc Cert.MixbIdeal.main_arg6) = m ((c.tc : Thread Cert.MixbIdeal.nD Cert.MixbIdeal.τ).loc Cert.MixbIdeal.main_arg6)
          ∧ r.2.mem ((c.tc : Thread Cert.MixbIdeal.nD Cert.MixbIdeal.τ).loc Cert.MixbIdeal.main_arg7) = m ((c.tc : Thread Cert.MixbIdeal.nD Cert.MixbIdeal.τ).loc Cert.MixbIdeal.main_arg7)
          ∧ r.2.mem ((c.tc : Thread Cert.MixbIdeal.nD Cert.MixbIdeal.τ).loc Cert.MixbIdeal.main_arg8) = m ((c.tc : Thread Cert.MixbIdeal.nD Cert.MixbIdeal.τ).loc Cert.MixbIdeal.main_arg8))
      ∧ θ_run (Cert.MixbRefIdeal.defs (F := Ideal)) (onTc (τ := Cert.MixbRefIdeal.τ) (Cert.MixbRefIdeal.main (F := Ideal))) ⟨m', fun _ => 0, g'⟩ (fun r => ∀ c : Dev Cert.MixbRefIdeal.nD,
          r.2.mem ((c.tc : Thread Cert.MixbRefIdeal.nD Cert.MixbRefIdeal.τ).loc Cert.MixbRefIdeal.main_v433) = v0 c
          ∧ r.2.mem ((c.tc : Thread Cert.MixbRefIdeal.nD Cert.MixbRefIdeal.τ).loc Cert.MixbRefIdeal.main_arg0) = m' ((c.tc : Thread Cert.MixbRefIdeal.nD Cert.MixbRefIdeal.τ).loc Cert.MixbRefIdeal.main_arg0)
          ∧ r.2.mem ((c.tc : Thread Cert.MixbRefIdeal.nD Cert.MixbRefIdeal.τ).loc Cert.MixbRefIdeal.main_arg1) = m' ((c.tc : Thread Cert.MixbRefIdeal.nD Cert.MixbRefIdeal.τ).loc Cert.MixbRefIdeal.main_arg1)
          ∧ r.2.mem ((c.tc : Thread Cert.MixbRefIdeal.nD Cert.MixbRefIdeal.τ).loc Cert.MixbRefIdeal.main_arg2) = m' ((c.tc : Thread Cert.MixbRefIdeal.nD Cert.MixbRefIdeal.τ).loc Cert.MixbRefIdeal.main_arg2)
          ∧ r.2.mem ((c.tc : Thread Cert.MixbRefIdeal.nD Cert.MixbRefIdeal.τ).loc Cert.MixbRefIdeal.main_arg3) = m' ((c.tc : Thread Cert.MixbRefIdeal.nD Cert.MixbRefIdeal.τ).loc Cert.MixbRefIdeal.main_arg3)
          ∧ r.2.mem ((c.tc : Thread Cert.MixbRefIdeal.nD Cert.MixbRefIdeal.τ).loc Cert.MixbRefIdeal.main_arg4) = m' ((c.tc : Thread Cert.MixbRefIdeal.nD Cert.MixbRefIdeal.τ).loc Cert.MixbRefIdeal.main_arg4)
          ∧ r.2.mem ((c.tc : Thread Cert.MixbRefIdeal.nD Cert.MixbRefIdeal.τ).loc Cert.MixbRefIdeal.main_arg5) = m' ((c.tc : Thread Cert.MixbRefIdeal.nD Cert.MixbRefIdeal.τ).loc Cert.MixbRefIdeal.main_arg5)
          ∧ r.2.mem ((c.tc : Thread Cert.MixbRefIdeal.nD Cert.MixbRefIdeal.τ).loc Cert.MixbRefIdeal.main_arg6) = m' ((c.tc : Thread Cert.MixbRefIdeal.nD Cert.MixbRefIdeal.τ).loc Cert.MixbRefIdeal.main_arg6)
          ∧ r.2.mem ((c.tc : Thread Cert.MixbRefIdeal.nD Cert.MixbRefIdeal.τ).loc Cert.MixbRefIdeal.main_arg7) = m' ((c.tc : Thread Cert.MixbRefIdeal.nD Cert.MixbRefIdeal.τ).loc Cert.MixbRefIdeal.main_arg7)
          ∧ r.2.mem ((c.tc : Thread Cert.MixbRefIdeal.nD Cert.MixbRefIdeal.τ).loc Cert.MixbRefIdeal.main_arg8) = m' ((c.tc : Thread Cert.MixbRefIdeal.nD Cert.MixbRefIdeal.τ).loc Cert.MixbRefIdeal.main_arg8))

def preserves_Mixa_MixaIdeal : Prop :=
  True

def algebraic_MixaIdeal_MixaRefIdeal_pre_mixa_finite [hMixaIdeal : Cert.MixaIdeal.Facts] [hMixaRefIdeal : Cert.MixaRefIdeal.Facts] [hPre_mixa_finite : Cert.Pre_mixa_finite.Facts] : Prop :=
  ∀ (m : (ℓ : Loc Cert.MixaIdeal.nD Cert.MixaIdeal.τ Cert.MixaIdeal.sig) → Buf (Elt Ideal) ℓ) (g : Dev Cert.MixaIdeal.nD → PrngReg)
    (m' : (ℓ : Loc Cert.MixaRefIdeal.nD Cert.MixaRefIdeal.τ Cert.MixaRefIdeal.sig) → Buf (Elt Ideal) ℓ) (g' : Dev Cert.MixaRefIdeal.nD → PrngReg), Pre_MixaIdeal_mixa_finite m →
    (∀ c : Dev Cert.MixaIdeal.nD,
      m' ((c.tc : Thread Cert.MixaRefIdeal.nD Cert.MixaRefIdeal.τ).loc Cert.MixaRefIdeal.main_arg0) = m ((c.tc : Thread Cert.MixaIdeal.nD Cert.MixaIdeal.τ).loc Cert.MixaIdeal.main_arg0)
      ∧ m' ((c.tc : Thread Cert.MixaRefIdeal.nD Cert.MixaRefIdeal.τ).loc Cert.MixaRefIdeal.main_arg1) = m ((c.tc : Thread Cert.MixaIdeal.nD Cert.MixaIdeal.τ).loc Cert.MixaIdeal.main_arg1)
      ∧ m' ((c.tc : Thread Cert.MixaRefIdeal.nD Cert.MixaRefIdeal.τ).loc Cert.MixaRefIdeal.main_arg2) = m ((c.tc : Thread Cert.MixaIdeal.nD Cert.MixaIdeal.τ).loc Cert.MixaIdeal.main_arg2)
      ∧ m' ((c.tc : Thread Cert.MixaRefIdeal.nD Cert.MixaRefIdeal.τ).loc Cert.MixaRefIdeal.main_arg3) = m ((c.tc : Thread Cert.MixaIdeal.nD Cert.MixaIdeal.τ).loc Cert.MixaIdeal.main_arg3)
      ∧ m' ((c.tc : Thread Cert.MixaRefIdeal.nD Cert.MixaRefIdeal.τ).loc Cert.MixaRefIdeal.main_arg4) = m ((c.tc : Thread Cert.MixaIdeal.nD Cert.MixaIdeal.τ).loc Cert.MixaIdeal.main_arg4)
      ∧ m' ((c.tc : Thread Cert.MixaRefIdeal.nD Cert.MixaRefIdeal.τ).loc Cert.MixaRefIdeal.main_arg5) = m ((c.tc : Thread Cert.MixaIdeal.nD Cert.MixaIdeal.τ).loc Cert.MixaIdeal.main_arg5)
      ∧ m' ((c.tc : Thread Cert.MixaRefIdeal.nD Cert.MixaRefIdeal.τ).loc Cert.MixaRefIdeal.main_arg6) = m ((c.tc : Thread Cert.MixaIdeal.nD Cert.MixaIdeal.τ).loc Cert.MixaIdeal.main_arg6)
      ∧ m' ((c.tc : Thread Cert.MixaRefIdeal.nD Cert.MixaRefIdeal.τ).loc Cert.MixaRefIdeal.main_arg7) = m ((c.tc : Thread Cert.MixaIdeal.nD Cert.MixaIdeal.τ).loc Cert.MixaIdeal.main_arg7)
      ∧ m' ((c.tc : Thread Cert.MixaRefIdeal.nD Cert.MixaRefIdeal.τ).loc Cert.MixaRefIdeal.main_arg8) = m ((c.tc : Thread Cert.MixaIdeal.nD Cert.MixaIdeal.τ).loc Cert.MixaIdeal.main_arg8)
      ∧ m' ((c.tc : Thread Cert.MixaRefIdeal.nD Cert.MixaRefIdeal.τ).loc Cert.MixaRefIdeal.main_arg9) = m ((c.tc : Thread Cert.MixaIdeal.nD Cert.MixaIdeal.τ).loc Cert.MixaIdeal.main_arg9)) →
    ∃ (v0 : (c : Dev Cert.MixaIdeal.nD) → Buf (Elt Ideal) ((c.tc : Thread Cert.MixaIdeal.nD Cert.MixaIdeal.τ).loc Cert.MixaIdeal.main_v266_1)) (v1 : (c : Dev Cert.MixaIdeal.nD) → Buf (Elt Ideal) ((c.tc : Thread Cert.MixaIdeal.nD Cert.MixaIdeal.τ).loc Cert.MixaIdeal.main_v266_2)) (v2 : (c : Dev Cert.MixaIdeal.nD) → Buf (Elt Ideal) ((c.tc : Thread Cert.MixaIdeal.nD Cert.MixaIdeal.τ).loc Cert.MixaIdeal.main_v266_3)) (v3 : (c : Dev Cert.MixaIdeal.nD) → Buf (Elt Ideal) ((c.tc : Thread Cert.MixaIdeal.nD Cert.MixaIdeal.τ).loc Cert.MixaIdeal.main_v266_4)) (v4 : (c : Dev Cert.MixaIdeal.nD) → Buf (Elt Ideal) ((c.tc : Thread Cert.MixaIdeal.nD Cert.MixaIdeal.τ).loc Cert.MixaIdeal.main_v266_5)) (v5 : (c : Dev Cert.MixaIdeal.nD) → Buf (Elt Ideal) ((c.tc : Thread Cert.MixaIdeal.nD Cert.MixaIdeal.τ).loc Cert.MixaIdeal.main_v266_9)) (v6 : (c : Dev Cert.MixaIdeal.nD) → Buf (Elt Ideal) ((c.tc : Thread Cert.MixaIdeal.nD Cert.MixaIdeal.τ).loc Cert.MixaIdeal.main_v266_10)) (v7 : (c : Dev Cert.MixaIdeal.nD) → Buf (Elt Ideal) ((c.tc : Thread Cert.MixaIdeal.nD Cert.MixaIdeal.τ).loc Cert.MixaIdeal.main_v266_11)) (v8 : (c : Dev Cert.MixaIdeal.nD) → Buf (Elt Ideal) ((c.tc : Thread Cert.MixaIdeal.nD Cert.MixaIdeal.τ).loc Cert.MixaIdeal.main_v266_12)),
      θ_run (Cert.MixaIdeal.defs (F := Ideal)) (onTc (τ := Cert.MixaIdeal.τ) (Cert.MixaIdeal.main (F := Ideal))) ⟨m, fun _ => 0, g⟩ (fun r => ∀ c : Dev Cert.MixaIdeal.nD,
          r.2.mem ((c.tc : Thread Cert.MixaIdeal.nD Cert.MixaIdeal.τ).loc Cert.MixaIdeal.main_v266_1) = v0 c
          ∧ r.2.mem ((c.tc : Thread Cert.MixaIdeal.nD Cert.MixaIdeal.τ).loc Cert.MixaIdeal.main_v266_2) = v1 c
          ∧ r.2.mem ((c.tc : Thread Cert.MixaIdeal.nD Cert.MixaIdeal.τ).loc Cert.MixaIdeal.main_v266_3) = v2 c
          ∧ r.2.mem ((c.tc : Thread Cert.MixaIdeal.nD Cert.MixaIdeal.τ).loc Cert.MixaIdeal.main_v266_4) = v3 c
          ∧ r.2.mem ((c.tc : Thread Cert.MixaIdeal.nD Cert.MixaIdeal.τ).loc Cert.MixaIdeal.main_v266_5) = v4 c
          ∧ r.2.mem ((c.tc : Thread Cert.MixaIdeal.nD Cert.MixaIdeal.τ).loc Cert.MixaIdeal.main_v266_9) = v5 c
          ∧ r.2.mem ((c.tc : Thread Cert.MixaIdeal.nD Cert.MixaIdeal.τ).loc Cert.MixaIdeal.main_v266_10) = v6 c
          ∧ r.2.mem ((c.tc : Thread Cert.MixaIdeal.nD Cert.MixaIdeal.τ).loc Cert.MixaIdeal.main_v266_11) = v7 c
          ∧ r.2.mem ((c.tc : Thread Cert.MixaIdeal.nD Cert.MixaIdeal.τ).loc Cert.MixaIdeal.main_v266_12) = v8 c
          ∧ r.2.mem ((c.tc : Thread Cert.MixaIdeal.nD Cert.MixaIdeal.τ).loc Cert.MixaIdeal.main_arg0) = m ((c.tc : Thread Cert.MixaIdeal.nD Cert.MixaIdeal.τ).loc Cert.MixaIdeal.main_arg0)
          ∧ r.2.mem ((c.tc : Thread Cert.MixaIdeal.nD Cert.MixaIdeal.τ).loc Cert.MixaIdeal.main_arg1) = m ((c.tc : Thread Cert.MixaIdeal.nD Cert.MixaIdeal.τ).loc Cert.MixaIdeal.main_arg1)
          ∧ r.2.mem ((c.tc : Thread Cert.MixaIdeal.nD Cert.MixaIdeal.τ).loc Cert.MixaIdeal.main_arg2) = m ((c.tc : Thread Cert.MixaIdeal.nD Cert.MixaIdeal.τ).loc Cert.MixaIdeal.main_arg2)
          ∧ r.2.mem ((c.tc : Thread Cert.MixaIdeal.nD Cert.MixaIdeal.τ).loc Cert.MixaIdeal.main_arg3) = m ((c.tc : Thread Cert.MixaIdeal.nD Cert.MixaIdeal.τ).loc Cert.MixaIdeal.main_arg3)
          ∧ r.2.mem ((c.tc : Thread Cert.MixaIdeal.nD Cert.MixaIdeal.τ).loc Cert.MixaIdeal.main_arg4) = m ((c.tc : Thread Cert.MixaIdeal.nD Cert.MixaIdeal.τ).loc Cert.MixaIdeal.main_arg4)
          ∧ r.2.mem ((c.tc : Thread Cert.MixaIdeal.nD Cert.MixaIdeal.τ).loc Cert.MixaIdeal.main_arg5) = m ((c.tc : Thread Cert.MixaIdeal.nD Cert.MixaIdeal.τ).loc Cert.MixaIdeal.main_arg5)
          ∧ r.2.mem ((c.tc : Thread Cert.MixaIdeal.nD Cert.MixaIdeal.τ).loc Cert.MixaIdeal.main_arg6) = m ((c.tc : Thread Cert.MixaIdeal.nD Cert.MixaIdeal.τ).loc Cert.MixaIdeal.main_arg6)
          ∧ r.2.mem ((c.tc : Thread Cert.MixaIdeal.nD Cert.MixaIdeal.τ).loc Cert.MixaIdeal.main_arg7) = m ((c.tc : Thread Cert.MixaIdeal.nD Cert.MixaIdeal.τ).loc Cert.MixaIdeal.main_arg7)
          ∧ r.2.mem ((c.tc : Thread Cert.MixaIdeal.nD Cert.MixaIdeal.τ).loc Cert.MixaIdeal.main_arg8) = m ((c.tc : Thread Cert.MixaIdeal.nD Cert.MixaIdeal.τ).loc Cert.MixaIdeal.main_arg8)
          ∧ r.2.mem ((c.tc : Thread Cert.MixaIdeal.nD Cert.MixaIdeal.τ).loc Cert.MixaIdeal.main_arg9) = m ((c.tc : Thread Cert.MixaIdeal.nD Cert.MixaIdeal.τ).loc Cert.MixaIdeal.main_arg9))
      ∧ θ_run (Cert.MixaRefIdeal.defs (F := Ideal)) (onTc (τ := Cert.MixaRefIdeal.τ) (Cert.MixaRefIdeal.main (F := Ideal))) ⟨m', fun _ => 0, g'⟩ (fun r => ∀ c : Dev Cert.MixaRefIdeal.nD,
          r.2.mem ((c.tc : Thread Cert.MixaRefIdeal.nD Cert.MixaRefIdeal.τ).loc Cert.MixaRefIdeal.main_v403) = v0 c
          ∧ r.2.mem ((c.tc : Thread Cert.MixaRefIdeal.nD Cert.MixaRefIdeal.τ).loc Cert.MixaRefIdeal.main_v402) = v1 c
          ∧ r.2.mem ((c.tc : Thread Cert.MixaRefIdeal.nD Cert.MixaRefIdeal.τ).loc Cert.MixaRefIdeal.main_v642) = v2 c
          ∧ r.2.mem ((c.tc : Thread Cert.MixaRefIdeal.nD Cert.MixaRefIdeal.τ).loc Cert.MixaRefIdeal.main_v644) = v3 c
          ∧ r.2.mem ((c.tc : Thread Cert.MixaRefIdeal.nD Cert.MixaRefIdeal.τ).loc Cert.MixaRefIdeal.main_v648) = v4 c
          ∧ r.2.mem ((c.tc : Thread Cert.MixaRefIdeal.nD Cert.MixaRefIdeal.τ).loc Cert.MixaRefIdeal.main_v650) = v5 c
          ∧ r.2.mem ((c.tc : Thread Cert.MixaRefIdeal.nD Cert.MixaRefIdeal.τ).loc Cert.MixaRefIdeal.main_v652) = v6 c
          ∧ r.2.mem ((c.tc : Thread Cert.MixaRefIdeal.nD Cert.MixaRefIdeal.τ).loc Cert.MixaRefIdeal.main_v653) = v7 c
          ∧ r.2.mem ((c.tc : Thread Cert.MixaRefIdeal.nD Cert.MixaRefIdeal.τ).loc Cert.MixaRefIdeal.main_v654) = v8 c
          ∧ r.2.mem ((c.tc : Thread Cert.MixaRefIdeal.nD Cert.MixaRefIdeal.τ).loc Cert.MixaRefIdeal.main_arg0) = m' ((c.tc : Thread Cert.MixaRefIdeal.nD Cert.MixaRefIdeal.τ).loc Cert.MixaRefIdeal.main_arg0)
          ∧ r.2.mem ((c.tc : Thread Cert.MixaRefIdeal.nD Cert.MixaRefIdeal.τ).loc Cert.MixaRefIdeal.main_arg1) = m' ((c.tc : Thread Cert.MixaRefIdeal.nD Cert.MixaRefIdeal.τ).loc Cert.MixaRefIdeal.main_arg1)
          ∧ r.2.mem ((c.tc : Thread Cert.MixaRefIdeal.nD Cert.MixaRefIdeal.τ).loc Cert.MixaRefIdeal.main_arg2) = m' ((c.tc : Thread Cert.MixaRefIdeal.nD Cert.MixaRefIdeal.τ).loc Cert.MixaRefIdeal.main_arg2)
          ∧ r.2.mem ((c.tc : Thread Cert.MixaRefIdeal.nD Cert.MixaRefIdeal.τ).loc Cert.MixaRefIdeal.main_arg3) = m' ((c.tc : Thread Cert.MixaRefIdeal.nD Cert.MixaRefIdeal.τ).loc Cert.MixaRefIdeal.main_arg3)
          ∧ r.2.mem ((c.tc : Thread Cert.MixaRefIdeal.nD Cert.MixaRefIdeal.τ).loc Cert.MixaRefIdeal.main_arg4) = m' ((c.tc : Thread Cert.MixaRefIdeal.nD Cert.MixaRefIdeal.τ).loc Cert.MixaRefIdeal.main_arg4)
          ∧ r.2.mem ((c.tc : Thread Cert.MixaRefIdeal.nD Cert.MixaRefIdeal.τ).loc Cert.MixaRefIdeal.main_arg5) = m' ((c.tc : Thread Cert.MixaRefIdeal.nD Cert.MixaRefIdeal.τ).loc Cert.MixaRefIdeal.main_arg5)
          ∧ r.2.mem ((c.tc : Thread Cert.MixaRefIdeal.nD Cert.MixaRefIdeal.τ).loc Cert.MixaRefIdeal.main_arg6) = m' ((c.tc : Thread Cert.MixaRefIdeal.nD Cert.MixaRefIdeal.τ).loc Cert.MixaRefIdeal.main_arg6)
          ∧ r.2.mem ((c.tc : Thread Cert.MixaRefIdeal.nD Cert.MixaRefIdeal.τ).loc Cert.MixaRefIdeal.main_arg7) = m' ((c.tc : Thread Cert.MixaRefIdeal.nD Cert.MixaRefIdeal.τ).loc Cert.MixaRefIdeal.main_arg7)
          ∧ r.2.mem ((c.tc : Thread Cert.MixaRefIdeal.nD Cert.MixaRefIdeal.τ).loc Cert.MixaRefIdeal.main_arg8) = m' ((c.tc : Thread Cert.MixaRefIdeal.nD Cert.MixaRefIdeal.τ).loc Cert.MixaRefIdeal.main_arg8)
          ∧ r.2.mem ((c.tc : Thread Cert.MixaRefIdeal.nD Cert.MixaRefIdeal.τ).loc Cert.MixaRefIdeal.main_arg9) = m' ((c.tc : Thread Cert.MixaRefIdeal.nD Cert.MixaRefIdeal.τ).loc Cert.MixaRefIdeal.main_arg9))

def preserves_Attnf_AttnfIdeal : Prop :=
  IdealRules.named_const.Statement Cert.AttnfIdeal.κ "dead" .f32 0xC2D00000#32 ⊥

def algebraic_AttnfIdeal_AttnfRefIdeal_pre_attnf_finite [hAttnfIdeal : Cert.AttnfIdeal.Facts] [hAttnfRefIdeal : Cert.AttnfRefIdeal.Facts] [hPre_attnf_finite : Cert.Pre_attnf_finite.Facts] : Prop :=
  ∀ (m : (ℓ : Loc Cert.AttnfIdeal.nD Cert.AttnfIdeal.τ Cert.AttnfIdeal.sig) → Buf (Elt Ideal) ℓ) (g : Dev Cert.AttnfIdeal.nD → PrngReg)
    (m' : (ℓ : Loc Cert.AttnfRefIdeal.nD Cert.AttnfRefIdeal.τ Cert.AttnfRefIdeal.sig) → Buf (Elt Ideal) ℓ) (g' : Dev Cert.AttnfRefIdeal.nD → PrngReg), Pre_AttnfIdeal_attnf_finite m →
    (∀ c : Dev Cert.AttnfIdeal.nD,
      m' ((c.tc : Thread Cert.AttnfRefIdeal.nD Cert.AttnfRefIdeal.τ).loc Cert.AttnfRefIdeal.main_arg0) = m ((c.tc : Thread Cert.AttnfIdeal.nD Cert.AttnfIdeal.τ).loc Cert.AttnfIdeal.main_arg0)
      ∧ m' ((c.tc : Thread Cert.AttnfRefIdeal.nD Cert.AttnfRefIdeal.τ).loc Cert.AttnfRefIdeal.main_arg1) = m ((c.tc : Thread Cert.AttnfIdeal.nD Cert.AttnfIdeal.τ).loc Cert.AttnfIdeal.main_arg1)
      ∧ m' ((c.tc : Thread Cert.AttnfRefIdeal.nD Cert.AttnfRefIdeal.τ).loc Cert.AttnfRefIdeal.main_arg2) = m ((c.tc : Thread Cert.AttnfIdeal.nD Cert.AttnfIdeal.τ).loc Cert.AttnfIdeal.main_arg2)) →
    ∃ (v0 : (c : Dev Cert.AttnfIdeal.nD) → Buf (Elt Ideal) ((c.tc : Thread Cert.AttnfIdeal.nD Cert.AttnfIdeal.τ).loc Cert.AttnfIdeal.main_v8)),
      θ_run (Cert.AttnfIdeal.defs (F := Ideal)) (onTc (τ := Cert.AttnfIdeal.τ) (Cert.AttnfIdeal.main (F := Ideal))) ⟨m, fun _ => 0, g⟩ (fun r => ∀ c : Dev Cert.AttnfIdeal.nD,
          r.2.mem ((c.tc : Thread Cert.AttnfIdeal.nD Cert.AttnfIdeal.τ).loc Cert.AttnfIdeal.main_v8) = v0 c
          ∧ r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
          ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1)
          ∧ r.2.mem ((c.tc : Thread Cert.AttnfIdeal.nD Cert.AttnfIdeal.τ).loc Cert.AttnfIdeal.main_arg2) = m ((c.tc : Thread Cert.AttnfIdeal.nD Cert.AttnfIdeal.τ).loc Cert.AttnfIdeal.main_arg2))
      ∧ θ_run (Cert.AttnfRefIdeal.defs (F := Ideal)) (onTc (τ := Cert.AttnfRefIdeal.τ) (Cert.AttnfRefIdeal.main (F := Ideal))) ⟨m', fun _ => 0, g'⟩ (fun r => ∀ c : Dev Cert.AttnfRefIdeal.nD,
          r.2.mem ((c.tc : Thread Cert.AttnfRefIdeal.nD Cert.AttnfRefIdeal.τ).loc Cert.AttnfRefIdeal.main_v20) = v0 c
          ∧ r.2.mem ((c.tc : Thread Cert.AttnfRefIdeal.nD Cert.AttnfRefIdeal.τ).loc Cert.AttnfRefIdeal.main_arg0) = m' ((c.tc : Thread Cert.AttnfRefIdeal.nD Cert.AttnfRefIdeal.τ).loc Cert.AttnfRefIdeal.main_arg0)
          ∧ r.2.mem ((c.tc : Thread Cert.AttnfRefIdeal.nD Cert.AttnfRefIdeal.τ).loc Cert.AttnfRefIdeal.main_arg1) = m' ((c.tc : Thread Cert.AttnfRefIdeal.nD Cert.AttnfRefIdeal.τ).loc Cert.AttnfRefIdeal.main_arg1)
          ∧ r.2.mem ((c.tc : Thread Cert.AttnfRefIdeal.nD Cert.AttnfRefIdeal.τ).loc Cert.AttnfRefIdeal.main_arg2) = m' ((c.tc : Thread Cert.AttnfRefIdeal.nD Cert.AttnfRefIdeal.τ).loc Cert.AttnfRefIdeal.main_arg2))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hIproj : Cert.Iproj.Facts) (hIprojIdeal : Cert.IprojIdeal.Facts) (hIprojRefIdeal : Cert.IprojRefIdeal.Facts) (hOproj : Cert.Oproj.Facts) (hOprojIdeal : Cert.OprojIdeal.Facts) (hOprojRefIdeal : Cert.OprojRefIdeal.Facts) (hFfn : Cert.Ffn.Facts) (hFfnIdeal : Cert.FfnIdeal.Facts) (hFfnRefIdeal : Cert.FfnRefIdeal.Facts) (hMixb : Cert.Mixb.Facts) (hMixbIdeal : Cert.MixbIdeal.Facts) (hMixbRefIdeal : Cert.MixbRefIdeal.Facts) (hMixa : Cert.Mixa.Facts) (hMixaIdeal : Cert.MixaIdeal.Facts) (hMixaRefIdeal : Cert.MixaRefIdeal.Facts) (hAttnf : Cert.Attnf.Facts) (hAttnfIdeal : Cert.AttnfIdeal.Facts) (hAttnfRefIdeal : Cert.AttnfRefIdeal.Facts) (hPre_loss_finite : Cert.Pre_loss_finite.Facts) (hPre_attn_finite : Cert.Pre_attn_finite.Facts) (hPre_iproj_finite : Cert.Pre_iproj_finite.Facts) (hPre_oproj_finite : Cert.Pre_oproj_finite.Facts) (hPre_ffnb_finite : Cert.Pre_ffnb_finite.Facts) (hPre_mixb_finite : Cert.Pre_mixb_finite.Facts) (hPre_mixa_finite : Cert.Pre_mixa_finite.Facts) (hPre_attnf_finite : Cert.Pre_attnf_finite.Facts),
    quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Iproj (hIproj := hIproj)
    ∧ quiescent_IprojIdeal (hIprojIdeal := hIprojIdeal)
    ∧ quiescent_IprojIdeal_pre_iproj_finite (hIprojIdeal := hIprojIdeal) (hPre_iproj_finite := hPre_iproj_finite)
    ∧ quiescent_IprojRefIdeal (hIprojRefIdeal := hIprojRefIdeal)
    ∧ quiescent_IprojRefIdeal_pre_iproj_finite (hIprojRefIdeal := hIprojRefIdeal) (hPre_iproj_finite := hPre_iproj_finite)
    ∧ quiescent_Oproj (hOproj := hOproj)
    ∧ quiescent_OprojIdeal (hOprojIdeal := hOprojIdeal)
    ∧ quiescent_OprojIdeal_pre_oproj_finite (hOprojIdeal := hOprojIdeal) (hPre_oproj_finite := hPre_oproj_finite)
    ∧ quiescent_OprojRefIdeal (hOprojRefIdeal := hOprojRefIdeal)
    ∧ quiescent_OprojRefIdeal_pre_oproj_finite (hOprojRefIdeal := hOprojRefIdeal) (hPre_oproj_finite := hPre_oproj_finite)
    ∧ quiescent_Ffn (hFfn := hFfn)
    ∧ quiescent_FfnIdeal (hFfnIdeal := hFfnIdeal)
    ∧ quiescent_FfnIdeal_pre_ffnb_finite (hFfnIdeal := hFfnIdeal) (hPre_ffnb_finite := hPre_ffnb_finite)
    ∧ quiescent_FfnRefIdeal (hFfnRefIdeal := hFfnRefIdeal)
    ∧ quiescent_FfnRefIdeal_pre_ffnb_finite (hFfnRefIdeal := hFfnRefIdeal) (hPre_ffnb_finite := hPre_ffnb_finite)
    ∧ quiescent_Mixb (hMixb := hMixb)
    ∧ quiescent_MixbIdeal (hMixbIdeal := hMixbIdeal)
    ∧ quiescent_MixbIdeal_pre_mixb_finite (hMixbIdeal := hMixbIdeal) (hPre_mixb_finite := hPre_mixb_finite)
    ∧ quiescent_MixbRefIdeal (hMixbRefIdeal := hMixbRefIdeal)
    ∧ quiescent_MixbRefIdeal_pre_mixb_finite (hMixbRefIdeal := hMixbRefIdeal) (hPre_mixb_finite := hPre_mixb_finite)
    ∧ quiescent_Mixa (hMixa := hMixa)
    ∧ quiescent_MixaIdeal (hMixaIdeal := hMixaIdeal)
    ∧ quiescent_MixaIdeal_pre_mixa_finite (hMixaIdeal := hMixaIdeal) (hPre_mixa_finite := hPre_mixa_finite)
    ∧ quiescent_MixaRefIdeal (hMixaRefIdeal := hMixaRefIdeal)
    ∧ quiescent_MixaRefIdeal_pre_mixa_finite (hMixaRefIdeal := hMixaRefIdeal) (hPre_mixa_finite := hPre_mixa_finite)
    ∧ quiescent_Attnf (hAttnf := hAttnf)
    ∧ quiescent_AttnfIdeal (hAttnfIdeal := hAttnfIdeal)
    ∧ quiescent_AttnfIdeal_pre_attnf_finite (hAttnfIdeal := hAttnfIdeal) (hPre_attnf_finite := hPre_attnf_finite)
    ∧ quiescent_AttnfRefIdeal (hAttnfRefIdeal := hAttnfRefIdeal)
    ∧ quiescent_AttnfRefIdeal_pre_attnf_finite (hAttnfRefIdeal := hAttnfRefIdeal) (hPre_attnf_finite := hPre_attnf_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Iproj_IprojIdeal
    ∧ algebraic_IprojIdeal_IprojRefIdeal_pre_iproj_finite (hIprojIdeal := hIprojIdeal) (hIprojRefIdeal := hIprojRefIdeal) (hPre_iproj_finite := hPre_iproj_finite)
    ∧ preserves_Oproj_OprojIdeal
    ∧ algebraic_OprojIdeal_OprojRefIdeal_pre_oproj_finite (hOprojIdeal := hOprojIdeal) (hOprojRefIdeal := hOprojRefIdeal) (hPre_oproj_finite := hPre_oproj_finite)
    ∧ preserves_Ffn_FfnIdeal
    ∧ algebraic_FfnIdeal_FfnRefIdeal_pre_ffnb_finite (hFfnIdeal := hFfnIdeal) (hFfnRefIdeal := hFfnRefIdeal) (hPre_ffnb_finite := hPre_ffnb_finite)
    ∧ preserves_Mixb_MixbIdeal
    ∧ algebraic_MixbIdeal_MixbRefIdeal_pre_mixb_finite (hMixbIdeal := hMixbIdeal) (hMixbRefIdeal := hMixbRefIdeal) (hPre_mixb_finite := hPre_mixb_finite)
    ∧ preserves_Mixa_MixaIdeal
    ∧ algebraic_MixaIdeal_MixaRefIdeal_pre_mixa_finite (hMixaIdeal := hMixaIdeal) (hMixaRefIdeal := hMixaRefIdeal) (hPre_mixa_finite := hPre_mixa_finite)
    ∧ preserves_Attnf_AttnfIdeal
    ∧ algebraic_AttnfIdeal_AttnfRefIdeal_pre_attnf_finite (hAttnfIdeal := hAttnfIdeal) (hAttnfRefIdeal := hAttnfRefIdeal) (hPre_attnf_finite := hPre_attnf_finite)
-- ==== Pre_attn_finite.lean ====
abbrev S16384x4x64 : Shape := ⟨3, ![16384, 4, 64]⟩
abbrev S_ : Shape := ⟨0, ![]⟩

class Facts : Prop where
  bcast_S_S16384x4x64 : S_.BroadcastsInDim S16384x4x64 (![] : Fin 0 → Fin S16384x4x64.rank)

variable [Facts]

def fn {F : FTy → Type} [FloatOps F] (main_arg0 : FVec F S16384x4x64 .f32) (main_arg1 : FVec F S16384x4x64 .f32) (main_arg2 : FVec F S16384x4x64 .f32) (main_arg3 : FVec F S16384x4x64 .f32) : IVec S16384x4x64 1 × IVec S16384x4x64 1 × IVec S16384x4x64 1 × IVec S16384x4x64 1 :=
  let main_v0 : FVec F S16384x4x64 .f32 := Host.absf main_arg0
  let main_cst : FVec F S_ .f32 := constant S_ .f32 0x7F800000#32
  let main_v1 : FVec F S16384x4x64 .f32 := broadcastInDim S16384x4x64 ![] bcast_S_S16384x4x64 main_cst
  let main_v2 : IVec S16384x4x64 1 := cmpf .olt main_v0 main_v1
  let main_v3 : FVec F S16384x4x64 .f32 := Host.absf main_arg1
  let main_cst_0 : FVec F S_ .f32 := constant S_ .f32 0x7F800000#32
  let main_v4 : FVec F S16384x4x64 .f32 := broadcastInDim S16384x4x64 ![] bcast_S_S16384x4x64 main_cst_0
  let main_v5 : IVec S16384x4x64 1 := cmpf .olt main_v3 main_v4
  let main_v6 : FVec F S16384x4x64 .f32 := Host.absf main_arg2
  let main_cst_1 : FVec F S_ .f32 := constant S_ .f32 0x7F800000#32
  let main_v7 : FVec F S16384x4x64 .f32 := broadcastInDim S16384x4x64 ![] bcast_S_S16384x4x64 main_cst_1
  let main_v8 : IVec S16384x4x64 1 := cmpf .olt main_v6 main_v7
  let main_v9 : FVec F S16384x4x64 .f32 := Host.absf main_arg3
  let main_cst_2 : FVec F S_ .f32 := constant S_ .f32 0x7F800000#32
  let main_v10 : FVec F S16384x4x64 .f32 := broadcastInDim S16384x4x64 ![] bcast_S_S16384x4x64 main_cst_2
  let main_v11 : IVec S16384x4x64 1 := cmpf .olt main_v9 main_v10
  (main_v2, main_v5, main_v8, main_v11)
-- ==== Pre_attnf_finite.lean ====
abbrev S16384x4x64 : Shape := ⟨3, ![16384, 4, 64]⟩
abbrev S_ : Shape := ⟨0, ![]⟩

class Facts : Prop where
  bcast_S_S16384x4x64 : S_.BroadcastsInDim S16384x4x64 (![] : Fin 0 → Fin S16384x4x64.rank)

variable [Facts]

def fn {F : FTy → Type} [FloatOps F] (main_arg0 : FVec F S16384x4x64 .f32) (main_arg1 : FVec F S16384x4x64 .f32) (main_arg2 : FVec F S16384x4x64 .f32) : IVec S16384x4x64 1 × IVec S16384x4x64 1 × IVec S16384x4x64 1 :=
  let main_v0 : FVec F S16384x4x64 .f32 := Host.absf main_arg0
  let main_cst : FVec F S_ .f32 := constant S_ .f32 0x7F800000#32
  let main_v1 : FVec F S16384x4x64 .f32 := broadcastInDim S16384x4x64 ![] bcast_S_S16384x4x64 main_cst
  let main_v2 : IVec S16384x4x64 1 := cmpf .olt main_v0 main_v1
  let main_v3 : FVec F S16384x4x64 .f32 := Host.absf main_arg1
  let main_cst_0 : FVec F S_ .f32 := constant S_ .f32 0x7F800000#32
  let main_v4 : FVec F S16384x4x64 .f32 := broadcastInDim S16384x4x64 ![] bcast_S_S16384x4x64 main_cst_0
  let main_v5 : IVec S16384x4x64 1 := cmpf .olt main_v3 main_v4
  let main_v6 : FVec F S16384x4x64 .f32 := Host.absf main_arg2
  let main_cst_1 : FVec F S_ .f32 := constant S_ .f32 0x7F800000#32
  let main_v7 : FVec F S16384x4x64 .f32 := broadcastInDim S16384x4x64 ![] bcast_S_S16384x4x64 main_cst_1
  let main_v8 : IVec S16384x4x64 1 := cmpf .olt main_v6 main_v7
  (main_v2, main_v5, main_v8)
-- ==== Pre_ffnb_finite.lean ====
abbrev S16384x1024 : Shape := ⟨2, ![16384, 1024]⟩
abbrev S1024x4096 : Shape := ⟨2, ![1024, 4096]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S16384x1024 .f32) (main_arg1 : FVec F S1024x4096 .f32) (main_arg2 : FVec F S4096x1024 .f32) (main_arg3 : FVec F S16384x1024 .f32) : IVec S16384x1024 1 × IVec S1024x4096 1 × IVec S4096x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_iproj_finite.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2560 : S_.BroadcastsInDim S1024x2560 (![] : Fin 0 → Fin S1024x2560.rank)
  bcast_S_S16384x2560 : S_.BroadcastsInDim S16384x2560 (![] : Fin 0 → Fin S16384x2560.rank)

variable [Facts]

def fn {F : FTy → Type} [FloatOps F] (main_arg0 : FVec F S16384x1024 .f32) (main_arg1 : FVec F S1024 .f32) (main_arg2 : FVec F S1024x2560 .f32) (main_arg3 : FVec F S16384x1024 .f32) (main_arg4 : FVec F S16384x2560 .f32) : IVec S16384x1024 1 × IVec S1024 1 × IVec S1024x2560 1 × IVec S16384x1024 1 × IVec S16384x2560 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S16384x2560 .f32 := Host.absf main_arg4
  let main_cst_3 : FVec F S_ .f32 := constant S_ .f32 0x7F800000#32
  let main_v13 : FVec F S16384x2560 .f32 := broadcastInDim S16384x2560 ![] bcast_S_S16384x2560 main_cst_3
  let main_v14 : IVec S16384x2560 1 := cmpf .olt main_v12 main_v13
  (main_v2, main_v5, main_v8, main_v11, main_v14)
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024 .f32) (main_arg2 : FVec F S16384x1024 .f32) : IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_mixa_finite.lean ====
abbrev S16384x2560 : Shape := ⟨2, ![16384, 2560]⟩
abbrev S16384x4x64 : Shape := ⟨3, ![16384, 4, 64]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S31x256 : Shape := ⟨2, ![31, 256]⟩
abbrev S16384x1024 : Shape := ⟨2, ![16384, 1024]⟩
abbrev S_ : Shape := ⟨0, ![]⟩

class Facts : Prop where
  bcast_S_S16384x2560 : S_.BroadcastsInDim S16384x2560 (![] : Fin 0 → Fin S16384x2560.rank)
  bcast_S_S16384x4x64 : S_.BroadcastsInDim S16384x4x64 (![] : Fin 0 → Fin S16384x4x64.rank)
  bcast_S_S3x256 : S_.BroadcastsInDim S3x256 (![] : Fin 0 → Fin S3x256.rank)
  bcast_S_S31x256 : S_.BroadcastsInDim S31x256 (![] : Fin 0 → Fin S31x256.rank)
  bcast_S_S256 : S_.BroadcastsInDim S256 (![] : Fin 0 → Fin S256.rank)
  bcast_S_S16384x1024 : S_.BroadcastsInDim S16384x1024 (![] : Fin 0 → Fin S16384x1024.rank)

variable [Facts]

def fn_part1 {F : FTy → Type} [FloatOps F] (main_arg9 : FVec F S16384x1024 .f32) (main_v2 : IVec S16384x2560 1) (main_v5 : IVec S16384x4x64 1) (main_v8 : IVec S3x256 1) (main_v11 : IVec S31x256 1) (main_v14 : IVec S256 1) (main_v17 : IVec S256 1) : IVec S16384x2560 1 × IVec S16384x4x64 1 × IVec S3x256 1 × IVec S31x256 1 × IVec S256 1 × IVec S256 1 × IVec S16384x1024 1 :=
  let main_v18 : FVec F S16384x1024 .f32 := Host.absf main_arg9
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x2560 .f32) (main_arg1 : FVec F S16384x4x64 .f32) (main_arg2 : FVec F S256 .f32) (main_arg3 : FVec F S4x128x128 .f32) (main_arg4 : FVec F S4x128 .f32) (main_arg5 : FVec F S3x256 .f32) (main_arg6 : FVec F S31x256 .f32) (main_arg7 : FVec F S256 .f32) (main_arg8 : FVec F S256 .f32) (main_arg9 : FVec F S16384x1024 .f32) : IVec S16384x2560 1 × IVec S16384x4x64 1 × IVec S3x256 1 × IVec S31x256 1 × IVec S256 1 × IVec S256 1 × IVec S16384x1024 1 :=
  let main_v0 : FVec F S16384x2560 .f32 := Host.absf main_arg0
  let main_cst : FVec F S_ .f32 := constant S_ .f32 0x7F800000#32
  let main_v1 : FVec F S16384x2560 .f32 := broadcastInDim S16384x2560 ![] bcast_S_S16384x2560 main_cst
  let main_v2 : IVec S16384x2560 1 := cmpf .olt main_v0 main_v1
  let main_v3 : FVec F S16384x4x64 .f32 := Host.absf main_arg1
  let main_cst_0 : FVec F S_ .f32 := constant S_ .f32 0x7F800000#32
  let main_v4 : FVec F S16384x4x64 .f32 := broadcastInDim S16384x4x64 ![] bcast_S_S16384x4x64 main_cst_0
  let main_v5 : IVec S16384x4x64 1 := cmpf .olt main_v3 main_v4
  let main_v6 : FVec F S3x256 .f32 := Host.absf main_arg5
  let main_cst_1 : FVec F S_ .f32 := constant S_ .f32 0x7F800000#32
  let main_v7 : FVec F S3x256 .f32 := broadcastInDim S3x256 ![] bcast_S_S3x256 main_cst_1
  let main_v8 : IVec S3x256 1 := cmpf .olt main_v6 main_v7
  let main_v9 : FVec F S31x256 .f32 := Host.absf main_arg6
  let main_cst_2 : FVec F S_ .f32 := constant S_ .f32 0x7F800000#32
  let main_v10 : FVec F S31x256 .f32 := broadcastInDim S31x256 ![] bcast_S_S31x256 main_cst_2
  let main_v11 : IVec S31x256 1 := cmpf .olt main_v9 main_v10
  let main_v12 : FVec F S256 .f32 := Host.absf main_arg7
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256 .f32 := Host.absf main_arg8
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg9 main_v2 main_v5 main_v8 main_v11 main_v14 main_v17
-- ==== Pre_mixb_finite.lean ====
abbrev S16384x2560 : Shape := ⟨2, ![16384, 2560]⟩
abbrev S3x256 : Shape := ⟨2, ![3, 256]⟩
abbrev S31x256 : Shape := ⟨2, ![31, 256]⟩
abbrev S16384x768 : Shape := ⟨2, ![16384, 768]⟩
abbrev S16384x256 : Shape := ⟨2, ![16384, 256]⟩
abbrev S16384x4x64 : Shape := ⟨3, ![16384, 4, 64]⟩
abbrev S_ : Shape := ⟨0, ![]⟩

class Facts : Prop where
  bcast_S_S16384x2560 : S_.BroadcastsInDim S16384x2560 (![] : Fin 0 → Fin S16384x2560.rank)
  bcast_S_S3x256 : S_.BroadcastsInDim S3x256 (![] : Fin 0 → Fin S3x256.rank)
  bcast_S_S31x256 : S_.BroadcastsInDim S31x256 (![] : Fin 0 → Fin S31x256.rank)
  bcast_S_S16384x768 : S_.BroadcastsInDim S16384x768 (![] : Fin 0 → Fin S16384x768.rank)
  bcast_S_S16384x256 : S_.BroadcastsInDim S16384x256 (![] : Fin 0 → Fin S16384x256.rank)
  bcast_S_S16384x4x64 : S_.BroadcastsInDim S16384x4x64 (![] : Fin 0 → Fin S16384x4x64.rank)

variable [Facts]

def fn_part1 {F : FTy → Type} [FloatOps F] (main_arg6 : FVec F S16384x4x64 .f32) (main_arg7 : FVec F S16384x4x64 .f32) (main_arg8 : FVec F S16384x256 .f32) (main_v2 : IVec S16384x2560 1) (main_v5 : IVec S3x256 1) (main_v8 : IVec S31x256 1) (main_v11 : IVec S16384x768 1) (main_v14 : IVec S16384x256 1) (main_v17 : IVec S16384x4x64 1) : IVec S16384x2560 1 × IVec S3x256 1 × IVec S31x256 1 × IVec S16384x768 1 × IVec S16384x256 1 × IVec S16384x4x64 1 × IVec S16384x4x64 1 × IVec S16384x4x64 1 × IVec S16384x256 1 :=
  let main_v18 : FVec F S16384x4x64 .f32 := Host.absf main_arg6
  let main_cst_5 : FVec F S_ .f32 := constant S_ .f32 0x7F800000#32
  let main_v19 : FVec F S16384x4x64 .f32 := broadcastInDim S16384x4x64 ![] bcast_S_S16384x4x64 main_cst_5
  let main_v20 : IVec S16384x4x64 1 := cmpf .olt main_v18 main_v19
  let main_v21 : FVec F S16384x4x64 .f32 := Host.absf main_arg7
  let main_cst_6 : FVec F S_ .f32 := constant S_ .f32 0x7F800000#32
  let main_v22 : FVec F S16384x4x64 .f32 := broadcastInDim S16384x4x64 ![] bcast_S_S16384x4x64 main_cst_6
  let main_v23 : IVec S16384x4x64 1 := cmpf .olt main_v21 main_v22
  let main_v24 : FVec F S16384x256 .f32 := Host.absf main_arg8
  let main_cst_7 : FVec F S_ .f32 := constant S_ .f32 0x7F800000#32
  let main_v25 : FVec F S16384x256 .f32 := broadcastInDim S16384x256 ![] bcast_S_S16384x256 main_cst_7
  let main_v26 : IVec S16384x256 1 := cmpf .olt main_v24 main_v25
  (main_v2, main_v5, main_v8, main_v11, main_v14, main_v17, main_v20, main_v23, main_v26)

def fn {F : FTy → Type} [FloatOps F] (main_arg0 : FVec F S16384x2560 .f32) (main_arg1 : FVec F S3x256 .f32) (main_arg2 : FVec F S31x256 .f32) (main_arg3 : FVec F S16384x768 .f32) (main_arg4 : FVec F S16384x256 .f32) (main_arg5 : FVec F S16384x4x64 .f32) (main_arg6 : FVec F S16384x4x64 .f32) (main_arg7 : FVec F S16384x4x64 .f32) (main_arg8 : FVec F S16384x256 .f32) : IVec S16384x2560 1 × IVec S3x256 1 × IVec S31x256 1 × IVec S16384x768 1 × IVec S16384x256 1 × IVec S16384x4x64 1 × IVec S16384x4x64 1 × IVec S16384x4x64 1 × IVec S16384x256 1 :=
  let main_v0 : FVec F S16384x2560 .f32 := Host.absf main_arg0
  let main_cst : FVec F S_ .f32 := constant S_ .f32 0x7F800000#32
  let main_v1 : FVec F S16384x2560 .f32 := broadcastInDim S16384x2560 ![] bcast_S_S16384x2560 main_cst
  let main_v2 : IVec S16384x2560 1 := cmpf .olt main_v0 main_v1
  let main_v3 : FVec F S3x256 .f32 := Host.absf main_arg1
  let main_cst_0 : FVec F S_ .f32 := constant S_ .f32 0x7F800000#32
  let main_v4 : FVec F S3x256 .f32 := broadcastInDim S3x256 ![] bcast_S_S3x256 main_cst_0
  let main_v5 : IVec S3x256 1 := cmpf .olt main_v3 main_v4
  let main_v6 : FVec F S31x256 .f32 := Host.absf main_arg2
  let main_cst_1 : FVec F S_ .f32 := constant S_ .f32 0x7F800000#32
  let main_v7 : FVec F S31x256 .f32 := broadcastInDim S31x256 ![] bcast_S_S31x256 main_cst_1
  let main_v8 : IVec S31x256 1 := cmpf .olt main_v6 main_v7
  let main_v9 : FVec F S16384x768 .f32 := Host.absf main_arg3
  let main_cst_2 : FVec F S_ .f32 := constant S_ .f32 0x7F800000#32
  let main_v10 : FVec F S16384x768 .f32 := broadcastInDim S16384x768 ![] bcast_S_S16384x768 main_cst_2
  let main_v11 : IVec S16384x768 1 := cmpf .olt main_v9 main_v10
  let main_v12 : FVec F S16384x256 .f32 := Host.absf main_arg4
  let main_cst_3 : FVec F S_ .f32 := constant S_ .f32 0x7F800000#32
  let main_v13 : FVec F S16384x256 .f32 := broadcastInDim S16384x256 ![] bcast_S_S16384x256 main_cst_3
  let main_v14 : IVec S16384x256 1 := cmpf .olt main_v12 main_v13
  let main_v15 : FVec F S16384x4x64 .f32 := Host.absf main_arg5
  let main_cst_4 : FVec F S_ .f32 := constant S_ .f32 0x7F800000#32
  let main_v16 : FVec F S16384x4x64 .f32 := broadcastInDim S16384x4x64 ![] bcast_S_S16384x4x64 main_cst_4
  let main_v17 : IVec S16384x4x64 1 := cmpf .olt main_v15 main_v16
  fn_part1 (F := F) main_arg6 main_arg7 main_arg8 main_v2 main_v5 main_v8 main_v11 main_v14 main_v17
-- ==== Pre_oproj_finite.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg6 : FVec F S16384x1024 .f32) (main_v2 : IVec S16384x1024 1) (main_v5 : IVec S16384x1024 1) (main_v8 : IVec S1024 1) (main_v11 : IVec S1024x1024 1) (main_v14 : IVec S1024 1) (main_v17 : IVec S16384x1024 1) : IVec S16384x1024 1 × IVec S16384x1024 1 × IVec S1024 1 × IVec S1024x1024 1 × IVec S1024 1 × IVec S16384x1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S16384x1024 .f32) (main_arg2 : FVec F S1024 .f32) (main_arg3 : FVec F S1024x1024 .f32) (main_arg4 : FVec F S1024 .f32) (main_arg5 : FVec F S16384x1024 .f32) (main_arg6 : FVec F S16384x1024 .f32) : IVec S16384x1024 1 × IVec S16384x1024 1 × IVec S1024 1 × IVec S1024x1024 1 × IVec S1024 1 × IVec S16384x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  fn_part1 (F := F) main_arg6 main_v2 main_v5 main_v8 main_v11 main_v14 main_v17
-- ==== Loss.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S1x128, .f32⟩
  | .hbm, ⟨5, _⟩ => ⟨S16384x1024, .f32⟩
  | .hbm, ⟨6, _⟩ => ⟨S16384x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x128, .f32⟩
  | .hbm, ⟨72, _⟩ => ⟨S16384x1024, .bf16⟩
  | .hbm, ⟨73, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Attn.lean ====
abbrev S16384x4x64 : Shape := ⟨3, ![16384, 4, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩
abbrev S16384x4 : Shape := ⟨2, ![16384, 4]⟩
abbrev S4x16384 : Shape := ⟨2, ![4, 16384]⟩
abbrev S4x16384x1 : Shape := ⟨3, ![4, 16384, 1]⟩
abbrev S4x16384x64 : Shape := ⟨3, ![4, 16384, 64]⟩
abbrev S2x512x64 : Shape := ⟨3, ![2, 512, 64]⟩
abbrev S2x64x512 : Shape := ⟨3, ![2, 64, 512]⟩
abbrev S2x64x16384 : Shape := ⟨3, ![2, 64, 16384]⟩
abbrev S2x512x1 : Shape := ⟨3, ![2, 512, 1]⟩
abbrev S256x256 : Shape := ⟨2, ![256, 256]⟩
abbrev S256x1 : Shape := ⟨2, ![256, 1]⟩
abbrev S64x256 : Shape := ⟨2, ![64, 256]⟩
abbrev S1x64x256 : Shape := ⟨3, ![1, 64, 256]⟩
abbrev S1x256x64 : Shape := ⟨3, ![1, 256, 64]⟩
abbrev S256x64 : Shape := ⟨2, ![256, 64]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 88
  | .vmem => 20
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S16384x4x64, .f32⟩
  | .hbm, ⟨4, _⟩ => ⟨S4x16384x16384, .f32⟩
  | .hbm, ⟨5, _⟩ => ⟨S_, .f32⟩
  | .hbm, ⟨6, _⟩ => ⟨S4x16384x16384, .f32⟩
  | .hbm, ⟨7, _⟩ => ⟨S4x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S4x16384x16384, .f32⟩
  | .hbm, ⟨15, _⟩ => ⟨S_, .f32⟩
  | .hbm, ⟨16, _⟩ => ⟨S4x16384x16384, .f32⟩
  | .hbm, ⟨17, _⟩ => ⟨S4x16384x16384, .f32⟩
  | .hbm, ⟨18, _⟩ => ⟨S4x16384x16384, .f32⟩
  | .hbm, ⟨19, _⟩ => ⟨S4x16384x16384, .f32⟩
  | .hbm, ⟨20, _⟩ => ⟨S4x16384x16384, .i1⟩
  | .hbm, ⟨21, _⟩ => ⟨S4x16384x16384, .f32⟩
  | .hbm, ⟨22, _⟩ => ⟨S4x16384x16384, .f32⟩
  | .hbm, ⟨23, _⟩ => ⟨S4x16384x16384, .f32⟩
  | .hbm, ⟨24, _⟩ => ⟨S4x16384x16384, .f32⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S_, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .f32⟩
  | .hbm, ⟨37, _⟩ => ⟨S4x16384x16384, .i1⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .f32⟩
  | .hbm, ⟨42, _⟩ => ⟨S4x16384x16384, .f32⟩
  | .hbm, ⟨43, _⟩ => ⟨S4x16384x16384, .f32⟩
  | .hbm, ⟨44, _⟩ => ⟨S4x16384x16384, .f32⟩
  | .hbm, ⟨45, _⟩ => ⟨S4x16384x16384, .f32⟩
  | .hbm, ⟨46, _⟩ => ⟨S4x16384x16384, .f32⟩
  | .hbm, ⟨47, _⟩ => ⟨S_, .f32⟩
  | .hbm, ⟨48, _⟩ => ⟨S_, .f32⟩
  | .hbm, ⟨49, _⟩ => ⟨S4x16384x16384, .i1⟩
  | .hbm, ⟨50, _⟩ => ⟨S4x16384x16384, .f32⟩
  | .hbm, ⟨51, _⟩ => ⟨S4x16384x16384, .f32⟩
  | .hbm, ⟨52, _⟩ => ⟨S_, .f32⟩
  | .hbm, ⟨53, _⟩ => ⟨S_, .f32⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S4x16384x16384, .f32⟩
  | .hbm, ⟨58, _⟩ => ⟨S_, .f32⟩
  | .hbm, ⟨59, _⟩ => ⟨S_, .f32⟩
  | .hbm, ⟨60, _⟩ => ⟨S4x16384x16384, .i1⟩
  | .hbm, ⟨61, _⟩ => ⟨S4x16384x16384, .f32⟩
  | .hbm, ⟨62, _⟩ => ⟨S4x16384x16384, .f32⟩
  | .hbm, ⟨63, _⟩ => ⟨S4x64x16384, .f32⟩
  | .hbm, ⟨64, _⟩ => ⟨S16384x4x64, .f32⟩
  | .hbm, ⟨65, _⟩ => ⟨S16384x4x64, .f32⟩
  | .hbm, ⟨66, _⟩ => ⟨S_, .f32⟩
  | .hbm, ⟨67, _⟩ => ⟨S16384x4, .f32⟩
  | .hbm, ⟨68, _⟩ => ⟨S4x16384, .f32⟩
  | .hbm, ⟨69, _⟩ => ⟨S4x16384x1, .f32⟩
  | .hbm, ⟨70, _⟩ => ⟨S_, .f32⟩
  | .hbm, ⟨71, _⟩ => ⟨S16384x4x64, .f32⟩
  | .hbm, ⟨72, _⟩ => ⟨S16384x4x64, .f32⟩
  | .hbm, ⟨73, _⟩ => ⟨S4x16384x64, .f32⟩
  | .hbm, ⟨74, _⟩ => ⟨S4x16384x64, .bf16⟩
  | .hbm, ⟨75, _⟩ => ⟨S4x64x16384, .f32⟩
  | .hbm, ⟨76, _⟩ => ⟨S4x64x16384, .bf16⟩
  | .hbm, ⟨77, _⟩ => ⟨S4x64x16384, .f32⟩
  | .hbm, ⟨78, _⟩ => ⟨S4x64x16384, .bf16⟩
  | .hbm, ⟨79, _⟩ => ⟨S4x64x16384, .f32⟩
  | .hbm, ⟨80, _⟩ => ⟨S4x64x16384, .bf16⟩
  | .hbm, ⟨81, _⟩ => ⟨S4x16384x64, .f32⟩
  | .hbm, ⟨82, _⟩ => ⟨S4x16384x64, .bf16⟩
  | .hbm, ⟨83, _⟩ => ⟨S4x64x16384, .f32⟩
  | .hbm, ⟨84, _⟩ => ⟨S4x64x16384, .bf16⟩
  | .hbm, ⟨85, _⟩ => ⟨S4x64x16384, .f32⟩
  | .hbm, ⟨86, _⟩ => ⟨S4x64x16384, .f32⟩
  | .hbm, ⟨87, _⟩ => ⟨S4x64x16384, .f32⟩
  | .local _ .vmem, ⟨0, _⟩ => ⟨S2x512x64, .bf16⟩
  | .local _ .vmem, ⟨1, _⟩ => ⟨S2x512x64, .bf16⟩
  | .local _ .vmem, ⟨2, _⟩ => ⟨S2x64x512, .bf16⟩
  | .local _ .vmem, ⟨3, _⟩ => ⟨S2x64x512, .bf16⟩
  | .local _ .vmem, ⟨4, _⟩ => ⟨S2x64x16384, .bf16⟩
  | .local _ .vmem, ⟨5, _⟩ => ⟨S2x64x16384, .bf16⟩
  | .local _ .vmem, ⟨6, _⟩ => ⟨S2x64x16384, .bf16⟩
  | .local _ .vmem, ⟨7, _⟩ => ⟨S2x64x16384, .bf16⟩
  | .local _ .vmem, ⟨8, _⟩ => ⟨S2x512x64, .bf16⟩
  | .local _ .vmem, ⟨9, _⟩ => ⟨S2x512x64, .bf16⟩
  | .local _ .vmem, ⟨10, _⟩ => ⟨S2x64x512, .bf16⟩
  | .local _ .vmem, ⟨11, _⟩ => ⟨S2x64x512, .bf16⟩
  | .local _ .vmem, ⟨12, _⟩ => ⟨S2x512x1, .f32⟩
  | .local _ .vmem, ⟨13, _⟩ => ⟨S2x512x1, .f32⟩
  | .local _ .vmem, ⟨14, _⟩ => ⟨S2x64x512, .f32⟩
  | .local _ .vmem, ⟨15, _⟩ => ⟨S2x64x512, .f32⟩
  | .local _ .vmem, ⟨16, _⟩ => ⟨S2x64x16384, .f32⟩
  | .local _ .vmem, ⟨17, _⟩ => ⟨S2x64x16384, .f32⟩
  | .local _ .vmem, ⟨18, _⟩ => ⟨S2x64x16384, .f32⟩
  | .local _ .vmem, ⟨19, _⟩ => ⟨S2x64x16384, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_v10 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v11 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v12 : Ref sig .tc := ⟨.hbm, 51, rfl⟩
abbrev main_call3_cst : Ref sig .tc := ⟨.hbm, 52, rfl⟩
abbrev main_call3_v0 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_3 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38_0 : Ref sig .tc := ⟨.hbm, 85, rfl⟩
abbrev main_v38_1 : Ref sig .tc := ⟨.hbm, 86, rfl⟩
abbrev main_v38_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let c2_i32 : BitVec 32 := 2#32
  let arg1 : BitVec 32 := BitVec.ofNat 32 (i 1).val
  let v22 : BitVec 32 := Scalar.muli c2_i32 arg1
  let c0_i32_4 : BitVec 32 := 0#32
  let v23 : BitVec 32 := Scalar.addi v22 c0_i32_4
  let c0_i32_5 : BitVec 32 := 0#32
  let v24 : BitVec 32 := Scalar.subi v23 c0_i32_5
  let c0_i32_14 : BitVec 32 := 0#32
  let v34 : BitVec 32 := Scalar.maxsi v24 c0_i32_14
  let c256_i32 : BitVec 32 := 256#32
  let v35 : BitVec 32 := Scalar.muli v34 c256_i32
  v35
def k0_mult2 (i : grid0.Coords) : BitVec 32 :=
  let c2_i32_6 : BitVec 32 := 2#32
  let arg1 : BitVec 32 := BitVec.ofNat 32 (i 1).val
  let v25 : BitVec 32 := Scalar.muli c2_i32_6 arg1
  let c1_i32 : BitVec 32 := 1#32
  let v26 : BitVec 32 := Scalar.addi v25 c1_i32
  let c0_i32_7 : BitVec 32 := 0#32
  let v27 : BitVec 32 := Scalar.subi v26 c0_i32_7
  let c0_i32_15 : BitVec 32 := 0#32
  let v37 : BitVec 32 := Scalar.maxsi v27 c0_i32_15
  let c256_i32_16 : BitVec 32 := 256#32
  let v38 : BitVec 32 := Scalar.muli v37 c256_i32_16
  v38
def k0_mult3 (i : grid0.Coords) : BitVec 32 :=
  let c2_i32_8 : BitVec 32 := 2#32
  let arg1 : BitVec 32 := BitVec.ofNat 32 (i 1).val
  let v28 : BitVec 32 := Scalar.muli c2_i32_8 arg1
  let c0_i32_9 : BitVec 32 := 0#32
  let v29 : BitVec 32 := Scalar.addi v28 c0_i32_9
  let c0_i32_10 : BitVec 32 := 0#32
  let v30 : BitVec 32 := Scalar.subi v29 c0_i32_10
  let c0_i32_17 : BitVec 32 := 0#32
  let v40 : BitVec 32 := Scalar.maxsi v30 c0_i32_17
  let c256_i32_18 : BitVec 32 := 256#32
  let v41 : BitVec 32 := Scalar.muli v40 c256_i32_18
  v41
def k0_mult4 (i : grid0.Coords) : BitVec 32 :=
  let c2_i32_11 : BitVec 32 := 2#32
  let arg1 : BitVec 32 := BitVec.ofNat 32 (i 1).val
  let v31 : BitVec 32 := Scalar.muli c2_i32_11 arg1
  let c1_i32_12 : BitVec 32 := 1#32
  let v32 : BitVec 32 := Scalar.addi v31 c1_i32_12
  let c0_i32_13 : BitVec 32 := 0#32
  let v33 : BitVec 32 := Scalar.subi v32 c0_i32_13
  let c0_i32_19 : BitVec 32 := 0#32
  let v43 : BitVec 32 := Scalar.maxsi v33 c0_i32_19
  let c256_i32_20 : BitVec 32 := 256#32
  let v44 : BitVec 32 := Scalar.muli v43 c256_i32_20
  v44
def k0_off1 (i : grid0.Coords) (c0_i32_4 : BitVec 32) : Fin 3 → Nat :=
  let c0 : Index := 0#32
  let c0_21 : Index := 0#32
  let c2_i32 : BitVec 32 := 2#32
  let arg1 : BitVec 32 := BitVec.ofNat 32 (i 1).val
  let v22 : BitVec 32 := Scalar.muli c2_i32 arg1
  let v23 : BitVec 32 := Scalar.addi v22 c0_i32_4
  let c0_i32_5 : BitVec 32 := 0#32
  let v24 : BitVec 32 := Scalar.subi v23 c0_i32_5
  let c0_i32_14 : BitVec 32 := 0#32
  let v34 : BitVec 32 := Scalar.maxsi v24 c0_i32_14
  let c256_i32 : BitVec 32 := 256#32
  let v35 : BitVec 32 := Scalar.muli v34 c256_i32
  let v36 : BitVec 32 := v35
  let v46 : Index := Scalar.indexCast v36
  ![0, 0, v46.toNat]
def k0_off2 (i : grid0.Coords) (c0_i32_9 : BitVec 32) : Fin 3 → Nat :=
  let c1 : Index := 1#32
  let c0_24 : Index := 0#32
  let c2_i32_8 : BitVec 32 := 2#32
  let arg1 : BitVec 32 := BitVec.ofNat 32 (i 1).val
  let v28 : BitVec 32 := Scalar.muli c2_i32_8 arg1
  let v29 : BitVec 32 := Scalar.addi v28 c0_i32_9
  let c0_i32_10 : BitVec 32 := 0#32
  let v30 : BitVec 32 := Scalar.subi v29 c0_i32_10
  let c0_i32_17 : BitVec 32 := 0#32
  let v40 : BitVec 32 := Scalar.maxsi v30 c0_i32_17
  let c256_i32_18 : BitVec 32 := 256#32
  let v41 : BitVec 32 := Scalar.muli v40 c256_i32_18
  let v42 : BitVec 32 := v41
  let v52 : Index := Scalar.indexCast v42
  ![1, 0, v52.toNat]
def k0_mult5 (i : grid0.Coords) (arg12 : BitVec 32) : BitVec 32 :=
  let c2_i32_216 : BitVec 32 := 2#32
  let arg1 : BitVec 32 := BitVec.ofNat 32 (i 1).val
  let v436 : BitVec 32 := Scalar.muli c2_i32_216 arg1
  let c0_i32_217 : BitVec 32 := 0#32
  let v437 : BitVec 32 := Scalar.addi v436 c0_i32_217
  let v438 : BitVec 32 := Scalar.subi v437 arg12
  let c0_i32_226 : BitVec 32 := 0#32
  let v450 : BitVec 32 := Scalar.maxsi v438 c0_i32_226
  let c256_i32_227 : BitVec 32 := 256#32
  let v451 : BitVec 32 := Scalar.muli v450 c256_i32_227
  v451

def k0_mult6 (i : grid0.Coords) (arg12 : BitVec 32) : BitVec 32 :=
  let c2_i32_218 : BitVec 32 := 2#32
  let arg1 : BitVec 32 := BitVec.ofNat 32 (i 1).val
  let v439 : BitVec 32 := Scalar.muli c2_i32_218 arg1
  let c1_i32_219 : BitVec 32 := 1#32
  let v440 : BitVec 32 := Scalar.addi v439 c1_i32_219
  let v441 : BitVec 32 := Scalar.subi v440 arg12
  let c0_i32_228 : BitVec 32 := 0#32
  let v453 : BitVec 32 := Scalar.maxsi v441 c0_i32_228
  let c256_i32_229 : BitVec 32 := 256#32
  let v454 : BitVec 32 := Scalar.muli v453 c256_i32_229
  v454
def k0_mult7 (i : grid0.Coords) (arg12 : BitVec 32) : BitVec 32 :=
  let c2_i32_220 : BitVec 32 := 2#32
  let arg1 : BitVec 32 := BitVec.ofNat 32 (i 1).val
  let v442 : BitVec 32 := Scalar.muli c2_i32_220 arg1
  let c0_i32_221 : BitVec 32 := 0#32
  let v443 : BitVec 32 := Scalar.addi v442 c0_i32_221
  let v444 : BitVec 32 := Scalar.subi v443 arg12
  let c0_i32_230 : BitVec 32 := 0#32
  let v456 : BitVec 32 := Scalar.maxsi v444 c0_i32_230
  let c256_i32_231 : BitVec 32 := 256#32
  let v457 : BitVec 32 := Scalar.muli v456 c256_i32_231
  v457
def k0_mult8 (i : grid0.Coords) (arg12 : BitVec 32) : BitVec 32 :=
  let c2_i32_222 : BitVec 32 := 2#32
  let arg1 : BitVec 32 := BitVec.ofNat 32 (i 1).val
  let v445 : BitVec 32 := Scalar.muli c2_i32_222 arg1
  let c1_i32_223 : BitVec 32 := 1#32
  let v446 : BitVec 32 := Scalar.addi v445 c1_i32_223
  let v447 : BitVec 32 := Scalar.subi v446 arg12
  let c0_i32_232 : BitVec 32 := 0#32
  let v459 : BitVec 32 := Scalar.maxsi v447 c0_i32_232
  let c256_i32_233 : BitVec 32 := 256#32
  let v460 : BitVec 32 := Scalar.muli v459 c256_i32_233
  v460
def k0_off3 (i : grid0.Coords) (arg12 : BitVec 32) (c0_i32_217 : BitVec 32) : Fin 3 → Nat :=
  let c0_234 : Index := 0#32
  let c0_235 : Index := 0#32
  let c2_i32_216 : BitVec 32 := 2#32
  let arg1 : BitVec 32 := BitVec.ofNat 32 (i 1).val
  let v436 : BitVec 32 := Scalar.muli c2_i32_216 arg1
  let v437 : BitVec 32 := Scalar.addi v436 c0_i32_217
  let v438 : BitVec 32 := Scalar.subi v437 arg12
  let c0_i32_226 : BitVec 32 := 0#32
  let v450 : BitVec 32 := Scalar.maxsi v438 c0_i32_226
  let c256_i32_227 : BitVec 32 := 256#32
  let v451 : BitVec 32 := Scalar.muli v450 c256_i32_227
  let v452 : BitVec 32 := v451
  let v462 : Index := Scalar.indexCast v452
  ![0, 0, v462.toNat]
def k0_off4 (i : grid0.Coords) (arg12 : BitVec 32) (c0_i32_221 : BitVec 32) : Fin 3 → Nat :=
  let c1_238 : Index := 1#32
  let c0_239 : Index := 0#32
  let c2_i32_220 : BitVec 32 := 2#32
  let arg1 : BitVec 32 := BitVec.ofNat 32 (i 1).val
  let v442 : BitVec 32 := Scalar.muli c2_i32_220 arg1
  let v443 : BitVec 32 := Scalar.addi v442 c0_i32_221
  let v444 : BitVec 32 := Scalar.subi v443 arg12
  let c0_i32_230 : BitVec 32 := 0#32
  let v456 : BitVec 32 := Scalar.maxsi v444 c0_i32_230
  let c256_i32_231 : BitVec 32 := 256#32
  let v457 : BitVec 32 := Scalar.muli v456 c256_i32_231
  let v458 : BitVec 32 := v457
  let v468 : Index := Scalar.indexCast v458
  ![1, 0, v468.toNat]

def k0_chk1 (i : grid0.Coords) (arg12 : BitVec 32) : Prop :=
  (256 ∣ (k0_mult5 i arg12).toNat) ∧
  (256 ∣ (k0_mult6 i arg12).toNat) ∧
  (256 ∣ (k0_mult7 i arg12).toNat) ∧
  (256 ∣ (k0_mult8 i arg12).toNat) ∧
  (∀ (r : Fin 2), ∀ a, (k0_off3 i arg12 (BitVec.ofNat 32 r.val)) a + S1x64x256.size a ≤ S2x64x16384.size a) ∧
  (∀ (r : Fin 2), ∀ a, (k0_off4 i arg12 (BitVec.ofNat 32 r.val)) a + S1x64x256.size a ≤ S2x64x16384.size a)
theorem k0_mult5_dvd : ∀ (i : grid0.Coords) (arg12 : BitVec 32) (k0_hw1 : k0_chk1 i arg12), 256 ∣ (k0_mult5 i arg12).toNat := fun i arg12 k0_hw1 => k0_hw1.1
theorem k0_mult6_dvd : ∀ (i : grid0.Coords) (arg12 : BitVec 32) (k0_hw1 : k0_chk1 i arg12), 256 ∣ (k0_mult6 i arg12).toNat := fun i arg12 k0_hw1 => k0_hw1.2.1
theorem k0_mult7_dvd : ∀ (i : grid0.Coords) (arg12 : BitVec 32) (k0_hw1 : k0_chk1 i arg12), 256 ∣ (k0_mult7 i arg12).toNat := fun i arg12 k0_hw1 => k0_hw1.2.2.1
theorem k0_mult8_dvd : ∀ (i : grid0.Coords) (arg12 : BitVec 32) (k0_hw1 : k0_chk1 i arg12), 256 ∣ (k0_mult8 i arg12).toNat := fun i arg12 k0_hw1 => k0_hw1.2.2.2.1
theorem k0_off3_inb : ∀ (i : grid0.Coords) (arg12 : BitVec 32) (k0_hw1 : k0_chk1 i arg12), ∀ (r : Fin 2), ∀ a, (k0_off3 i arg12 (BitVec.ofNat 32 r.val)) a + S1x64x256.size a ≤ S2x64x16384.size a := fun i arg12 k0_hw1 r => k0_hw1.2.2.2.2.1 r
theorem k0_off4_inb : ∀ (i : grid0.Coords) (arg12 : BitVec 32) (k0_hw1 : k0_chk1 i arg12), ∀ (r : Fin 2), ∀ a, (k0_off4 i arg12 (BitVec.ofNat 32 r.val)) a + S1x64x256.size a ≤ S2x64x16384.size a := fun i arg12 k0_hw1 r => k0_hw1.2.2.2.2.2 r

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x64x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x64x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnIdeal.lean ====
variable {F : FTy → Type} [FloatOps F] [Named F]
def κ : String → Option EReal := fun
  | "dead" => some ⊥
  | _ => none
-- ==== AttnRefIdeal.lean ====
abbrev S16384x4x64 : Shape := ⟨3, ![16384, 4, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩
abbrev S4x16384x64 : Shape := ⟨3, ![4, 16384, 64]⟩

abbrev nBuf : Space → Nat
  | .hbm => 167
  | .vmem => 0
  | .smem => 0
  | _ => 0

abbrev hbmTy0_0 (i : Nat) : BufTy := match i % 128 with
  | 0 => ⟨S16384x4x64, .f32⟩
  | 1 => ⟨S16384x4x64, .f32⟩
  | 2 => ⟨S16384x4x64, .f32⟩
  | 3 => ⟨S16384x4x64, .f32⟩
  | 4 => ⟨S4x16384x16384, .f32⟩
  | 5 => ⟨S_, .f32⟩
  | 6 => ⟨S4x16384x16384, .f32⟩
  | 7 => ⟨S4x16384x16384, .f32⟩
  | 8 => ⟨S16384, .i32⟩
  | 9 => ⟨S1x16384, .i32⟩
  | 10 => ⟨S16384x1, .i32⟩
  | 11 => ⟨S16384x16384, .i32⟩
  | 12 => ⟨S16384x16384, .i32⟩
  | 13 => ⟨S16384x16384, .i1⟩
  | 14 => ⟨S4x16384x16384, .f32⟩
  | 15 => ⟨S_, .f32⟩
  | 16 => ⟨S4x16384x16384, .f32⟩
  | 17 => ⟨S4x16384x16384, .f32⟩
  | 18 => ⟨S4x16384x16384, .f32⟩
  | 19 => ⟨S4x16384x16384, .f32⟩
  | 20 => ⟨S4x16384x16384, .i1⟩
  | 21 => ⟨S4x16384x16384, .f32⟩
  | 22 => ⟨S4x16384x16384, .f32⟩
  | 23 => ⟨S4x16384x16384, .f32⟩
  | 24 => ⟨S4x16384x16384, .f32⟩
  | 25 => ⟨S4x16384x16384, .f32⟩
  | 26 => ⟨S4x16384x16384, .f32⟩
  | 27 => ⟨S4x16384x16384, .f32⟩
  | 28 => ⟨S4x16384x16384, .f32⟩
  | 29 => ⟨S_, .f32⟩
  | 30 => ⟨S4x16384x16384, .f32⟩
  | 31 => ⟨S4x16384x16384, .i1⟩
  | 32 => ⟨S_, .f32⟩
  | 33 => ⟨S4x16384x16384, .f32⟩
  | 34 => ⟨S4x16384x16384, .f32⟩
  | 35 => ⟨S_, .f32⟩
  | 36 => ⟨S4x16384x16384, .f32⟩
  | 37 => ⟨S4x16384x16384, .i1⟩
  | 38 => ⟨S_, .f32⟩
  | 39 => ⟨S4x16384x16384, .f32⟩
  | 40 => ⟨S4x16384x16384, .f32⟩
  | 41 => ⟨S4x16384x16384, .f32⟩
  | 42 => ⟨S4x16384x16384, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S4x16384x16384, .f32⟩
  | 51 => ⟨S4x16384x16384, .i1⟩
  | 52 => ⟨S_, .f32⟩
  | 53 => ⟨S4x16384x16384, .f32⟩
  | 54 => ⟨S4x16384x16384, .f32⟩
  | 55 => ⟨S4x16384x16384, .f32⟩
  | 56 => ⟨S4x16384x16384, .f32⟩
  | 57 => ⟨S4x16384x16384, .f32⟩
  | 58 => ⟨S_, .f32⟩
  | 59 => ⟨S4x16384x16384, .f32⟩
  | 60 => ⟨S4x16384x16384, .f32⟩
  | 61 => ⟨S4x16384x16384, .f32⟩
  | 62 => ⟨S4x16384x16384, .f32⟩
  | 63 => ⟨S4x16384x16384, .f32⟩
  | 64 => ⟨S_, .f32⟩
  | 65 => ⟨S4x16384x16384, .f32⟩
  | 66 => ⟨S4x16384x16384, .f32⟩
  | 67 => ⟨S4x16384x16384, .f32⟩
  | 68 => ⟨S4x16384x16384, .f32⟩
  | 69 => ⟨S4x16384x16384, .i1⟩
  | 70 => ⟨S4x16384x16384, .f32⟩
  | 71 => ⟨S4x16384x16384, .f32⟩
  | 72 => ⟨S4x16384x16384, .f32⟩
  | 73 => ⟨S4x16384x16384, .f32⟩
  | 74 => ⟨S4x16384x16384, .f32⟩
  | 75 => ⟨S4x16384x16384, .f32⟩
  | 76 => ⟨S4x16384x16384, .f32⟩
  | 77 => ⟨S4x16384x16384, .f32⟩
  | 78 => ⟨S_, .f32⟩
  | 79 => ⟨S4x16384x16384, .f32⟩
  | 80 => ⟨S4x16384x16384, .i1⟩
  | 81 => ⟨S_, .f32⟩
  | 82 => ⟨S4x16384x16384, .f32⟩
  | 83 => ⟨S4x16384x16384, .f32⟩
  | 84 => ⟨S_, .f32⟩
  | 85 => ⟨S4x16384x16384, .f32⟩
  | 86 => ⟨S4x16384x16384, .i1⟩
  | 87 => ⟨S_, .f32⟩
  | 88 => ⟨S4x16384x16384, .f32⟩
  | 89 => ⟨S4x16384x16384, .f32⟩
  | 90 => ⟨S4x16384x16384, .f32⟩
  | 91 => ⟨S4x16384x16384, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S4x16384x16384, .f32⟩
  | 100 => ⟨S4x16384x16384, .i1⟩
  | 101 => ⟨S_, .f32⟩
  | 102 => ⟨S4x16384x16384, .f32⟩
  | 103 => ⟨S4x16384x16384, .f32⟩
  | 104 => ⟨S4x16384x16384, .f32⟩
  | 105 => ⟨S4x16384x16384, .f32⟩
  | 106 => ⟨S4x16384x16384, .f32⟩
  | 107 => ⟨S_, .f32⟩
  | 108 => ⟨S4x16384x16384, .f32⟩
  | 109 => ⟨S4x16384x16384, .f32⟩
  | 110 => ⟨S4x16384x16384, .f32⟩
  | 111 => ⟨S_, .f32⟩
  | 112 => ⟨S_, .f32⟩
  | 113 => ⟨S4x16384x16384, .i1⟩
  | 114 => ⟨S4x16384x16384, .f32⟩
  | 115 => ⟨S4x16384x16384, .f32⟩
  | 116 => ⟨S_, .f32⟩
  | 117 => ⟨S4x16384x16384, .f32⟩
  | 118 => ⟨S_, .f32⟩
  | 119 => ⟨S_, .f32⟩
  | 120 => ⟨S4x16384x16384, .f32⟩
  | 121 => ⟨S4x16384x16384, .f32⟩
  | 122 => ⟨S4x16384x16384, .f32⟩
  | 123 => ⟨S4x16384x16384, .f32⟩
  | 124 => ⟨S_, .f32⟩
  | 125 => ⟨S_, .f32⟩
  | 126 => ⟨S4x16384x16384, .i1⟩
  | 127 => ⟨S4x16384x16384, .f32⟩
  | _ => ⟨S16384x4x64, .f32⟩

abbrev hbmTy0_1 (i : Nat) : BufTy := match i % 128 with
  | 0 => ⟨S4x16384x16384, .f32⟩
  | 1 => ⟨S_, .f32⟩
  | 2 => ⟨S4x16384x16384, .f32⟩
  | 3 => ⟨S4x64x16384, .f32⟩
  | 4 => ⟨S16384x4x64, .f32⟩
  | 5 => ⟨S4x64x16384, .f32⟩
  | 6 => ⟨S4x16384x16384, .f32⟩
  | 7 => ⟨S4x64x16384, .f32⟩
  | 8 => ⟨S16384x4x64, .f32⟩
  | 9 => ⟨S_, .f32⟩
  | 10 => ⟨S4x16384x16384, .f32⟩
  | 11 => ⟨S4x16384x16384, .f32⟩
  | 12 => ⟨S4x16384x16384, .f32⟩
  | 13 => ⟨S4x16384x16384, .f32⟩
  | 14 => ⟨S_, .f32⟩
  | 15 => ⟨S_, .f32⟩
  | 16 => ⟨S4x16384x16384, .f32⟩
  | 17 => ⟨S4x16384x16384, .f32⟩
  | 18 => ⟨S_, .f32⟩
  | 19 => ⟨S4x16384x16384, .f32⟩
  | 20 => ⟨S4x16384x16384, .f32⟩
  | 21 => ⟨S4x16384x16384, .f32⟩
  | 22 => ⟨S4x16384x16384, .f32⟩
  | 23 => ⟨S4x16384x16384, .f32⟩
  | 24 => ⟨S4x16384x16384, .f32⟩
  | 25 => ⟨S4x16384x16384, .f32⟩
  | 26 => ⟨S4x16384x16384, .f32⟩
  | 27 => ⟨S4x16384x16384, .f32⟩
  | 28 => ⟨S4x16384x16384, .f32⟩
  | 29 => ⟨S_, .f32⟩
  | 30 => ⟨S4x16384x16384, .f32⟩
  | 31 => ⟨S4x16384x16384, .f32⟩
  | 32 => ⟨S4x16384x64, .f32⟩
  | 33 => ⟨S16384x4x64, .f32⟩
  | 34 => ⟨S4x16384x64, .f32⟩
  | 35 => ⟨S16384x4x64, .f32⟩
  | 36 => ⟨S4x64x16384, .f32⟩
  | 37 => ⟨S4x64x16384, .f32⟩
  | 38 => ⟨S4x64x16384, .f32⟩
  | _ => ⟨S16384x4x64, .f32⟩

abbrev hbmTy (i : Nat) : BufTy := match i / 128 with
  | 0 => hbmTy0_0 i
  | 1 => hbmTy0_1 i
  | _ => ⟨S16384x4x64, .f32⟩

abbrev bufTy : (tb : Table) → Fin (tcTables nBuf tb) → BufTy
  | .hbm, ⟨i, _⟩ => hbmTy i
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v9_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v9_2 : Ref sig .tc := ⟨.hbm, 60, rfl⟩
abbrev main_v9_0 : Ref sig .tc := ⟨.hbm, 61, rfl⟩
abbrev main_v10 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1_0 : Ref sig .tc := ⟨.hbm, 77, rfl⟩
abbrev main_call1_call0_cst_0 : Ref sig .tc := ⟨.hbm, 78, rfl⟩
abbrev main_call1_call0_v13 : Ref sig .tc := ⟨.hbm, 79, rfl⟩
abbrev main_call1_call0_v14 : Ref sig .tc := ⟨.hbm, 80, rfl⟩
abbrev main_call1_call0_cst_1 : Ref sig .tc := ⟨.hbm, 81, rfl⟩
abbrev main_call1_call0_v15 : Ref sig .tc := ⟨.hbm, 82, rfl⟩
abbrev main_call1_call0_v16 : Ref sig .tc := ⟨.hbm, 83, rfl⟩
abbrev main_call1_call0_cst_2 : Ref sig .tc := ⟨.hbm, 84, rfl⟩
abbrev main_call1_call0_v17 : Ref sig .tc := ⟨.hbm, 85, rfl⟩
abbrev main_call1_call0_v18 : Ref sig .tc := ⟨.hbm, 86, rfl⟩
abbrev main_call1_call0_cst_3 : Ref sig .tc := ⟨.hbm, 87, rfl⟩
abbrev main_call1_call0_v19 : Ref sig .tc := ⟨.hbm, 88, rfl⟩
abbrev main_call1_call0_v20 : Ref sig .tc := ⟨.hbm, 89, rfl⟩
abbrev main_call1_call0_v21 : Ref sig .tc := ⟨.hbm, 90, rfl⟩
abbrev main_v11_1 : Ref sig .tc := ⟨.hbm, 91, rfl⟩
abbrev main_call1_call0_cst_4 : Ref sig .tc := ⟨.hbm, 92, rfl⟩
abbrev main_call1_call0_cst_5 : Ref sig .tc := ⟨.hbm, 93, rfl⟩
abbrev main_call1_call0_v23 : Ref sig .tc := ⟨.hbm, 94, rfl⟩
abbrev main_call1_call0_cst_6 : Ref sig .tc := ⟨.hbm, 95, rfl⟩
abbrev main_call1_call0_cst_7 : Ref sig .tc := ⟨.hbm, 96, rfl⟩
abbrev main_call1_call0_v24 : Ref sig .tc := ⟨.hbm, 97, rfl⟩
abbrev main_call1_call0_cst_8 : Ref sig .tc := ⟨.hbm, 98, rfl⟩
abbrev main_call1_call0_v25 : Ref sig .tc := ⟨.hbm, 99, rfl⟩
abbrev main_call1_call0_v26 : Ref sig .tc := ⟨.hbm, 100, rfl⟩
abbrev main_call1_call0_cst_9 : Ref sig .tc := ⟨.hbm, 101, rfl⟩
abbrev main_call1_call0_v27 : Ref sig .tc := ⟨.hbm, 102, rfl⟩
abbrev main_call1_call0_v28 : Ref sig .tc := ⟨.hbm, 103, rfl⟩
abbrev main_call1_call0_v29 : Ref sig .tc := ⟨.hbm, 104, rfl⟩
abbrev main_call1_call0_v30 : Ref sig .tc := ⟨.hbm, 105, rfl⟩
abbrev main_call1_call0_v31 : Ref sig .tc := ⟨.hbm, 106, rfl⟩
abbrev main_call1_call0_cst_10 : Ref sig .tc := ⟨.hbm, 107, rfl⟩
abbrev main_call1_call0_v32 : Ref sig .tc := ⟨.hbm, 108, rfl⟩
abbrev main_v11_2 : Ref sig .tc := ⟨.hbm, 109, rfl⟩
abbrev main_v11_0 : Ref sig .tc := ⟨.hbm, 110, rfl⟩
abbrev main_cst_0 : Ref sig .tc := ⟨.hbm, 111, rfl⟩
abbrev main_call2_v0 : Ref sig .tc := ⟨.hbm, 112, rfl⟩
abbrev main_v12_1 : Ref sig .tc := ⟨.hbm, 113, rfl⟩
abbrev main_call2_v2 : Ref sig .tc := ⟨.hbm, 114, rfl⟩
abbrev main_v12_0 : Ref sig .tc := ⟨.hbm, 115, rfl⟩
abbrev main_call2_cst : Ref sig .tc := ⟨.hbm, 116, rfl⟩
abbrev main_v12_2 : Ref sig .tc := ⟨.hbm, 117, rfl⟩
abbrev main_call3_cst : Ref sig .tc := ⟨.hbm, 118, rfl⟩
abbrev main_call3_v0 : Ref sig .tc := ⟨.hbm, 119, rfl⟩
abbrev main_v13 : Ref sig .tc := ⟨.hbm, 120, rfl⟩
abbrev main_v14 : Ref sig .tc := ⟨.hbm, 121, rfl⟩
abbrev main_v15 : Ref sig .tc := ⟨.hbm, 122, rfl⟩
abbrev main_v16 : Ref sig .tc := ⟨.hbm, 123, rfl⟩
abbrev main_cst_1 : Ref sig .tc := ⟨.hbm, 124, rfl⟩
abbrev main_call4_v0 : Ref sig .tc := ⟨.hbm, 125, rfl⟩
abbrev main_v17_1 : Ref sig .tc := ⟨.hbm, 126, rfl⟩
abbrev main_call4_v2 : Ref sig .tc := ⟨.hbm, 127, rfl⟩
abbrev main_v17_0 : Ref sig .tc := ⟨.hbm, 128, rfl⟩
abbrev main_call4_cst : Ref sig .tc := ⟨.hbm, 129, rfl⟩
abbrev main_v17_2 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_call5_cst : Ref sig .tc := ⟨.hbm, 137, rfl⟩
abbrev main_call5_v0 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_call6_cst : Ref sig .tc := ⟨.hbm, 142, rfl⟩
abbrev main_call6_v0 : Ref sig .tc := ⟨.hbm, 143, rfl⟩
abbrev main_v27 : Ref sig .tc := ⟨.hbm, 144, rfl⟩
abbrev main_v28 : Ref sig .tc := ⟨.hbm, 145, rfl⟩
abbrev main_call7_cst : Ref sig .tc := ⟨.hbm, 146, rfl⟩
abbrev main_call7_v0 : Ref sig .tc := ⟨.hbm, 147, rfl⟩
abbrev main_v29 : Ref sig .tc := ⟨.hbm, 148, rfl⟩
abbrev main_call8_v0 : Ref sig .tc := ⟨.hbm, 149, rfl⟩
abbrev main_call8_v1 : Ref sig .tc := ⟨.hbm, 150, rfl⟩
abbrev main_v30 : Ref sig .tc := ⟨.hbm, 151, rfl⟩
abbrev main_v31 : Ref sig .tc := ⟨.hbm, 152, rfl⟩
abbrev main_call9_v0 : Ref sig .tc := ⟨.hbm, 153, rfl⟩
abbrev main_call9_v1 : Ref sig .tc := ⟨.hbm, 154, rfl⟩
abbrev main_v32 : Ref sig .tc := ⟨.hbm, 155, rfl⟩
abbrev main_v33 : Ref sig .tc := ⟨.hbm, 156, rfl⟩
abbrev main_cst_2 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩

abbrev nD : Nat := 1
abbrev τ : Topo := Topo.v7x

variable {F : FTy → Type} [FloatOps F]
-- ==== Iproj.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S1x1024x4x640 : Shape := ⟨4, ![1, 1024, 4, 640]⟩
abbrev S4x1x1024x640 : Shape := ⟨4, ![4, 1, 1024, 640]⟩
abbrev S1x1024 : Shape := ⟨2, ![1, 1024]⟩
abbrev S512x1024 : Shape := ⟨2, ![512, 1024]⟩
abbrev S512x2560 : Shape := ⟨2, ![512, 2560]⟩
abbrev S2x1024x1280 : Shape := ⟨3, ![2, 1024, 1280]⟩
abbrev S1x1x1024x640 : Shape := ⟨4, ![1, 1, 1024, 640]⟩
abbrev S1024x640 : Shape := ⟨2, ![1024, 640]⟩
abbrev S1x1024x640 : Shape := ⟨3, ![1, 1024, 640]⟩
abbrev S512x1280 : Shape := ⟨2, ![512, 1280]⟩
abbrev S1x1024x1280 : Shape := ⟨3, ![1, 1024, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S16384x2560, .f32⟩
  | .hbm, ⟨5, _⟩ => ⟨S1x1024x4x640, .f32⟩
  | .hbm, ⟨6, _⟩ => ⟨S4x1x1024x640, .f32⟩
  | .hbm, ⟨7, _⟩ => ⟨S4x1x1024x640, .bf16⟩
  | .hbm, ⟨8, _⟩ => ⟨S1x1024, .f32⟩
  | .hbm, ⟨9, _⟩ => ⟨S16384x2560, .bf16⟩
  | .hbm, ⟨10, _⟩ => ⟨S16384x1024, .f32⟩
  | .hbm, ⟨11, _⟩ => ⟨S16384x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2560, .bf16⟩
  | .local _ .vmem, ⟨6, _⟩ => ⟨S512x2560, .bf16⟩
  | .local _ .vmem, ⟨7, _⟩ => ⟨S4x1x1024x640, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S2x1024x1280, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== IprojRefIdeal.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S16384x2560, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2560, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Oproj.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S4x1x256x1024 : Shape := ⟨4, ![4, 1, 256, 1024]⟩
abbrev S4x256x1024 : Shape := ⟨3, ![4, 256, 1024]⟩
abbrev S1024x1 : Shape := ⟨2, ![1024, 1]⟩
abbrev S1x1x256x1024 : Shape := ⟨4, ![1, 1, 256, 1024]⟩
abbrev S256x1024 : Shape := ⟨2, ![256, 1024]⟩
abbrev S1024x256 : Shape := ⟨2, ![1024, 256]⟩
abbrev S1x256x1024 : Shape := ⟨3, ![1, 256, 1024]⟩
abbrev S1x256 : Shape := ⟨2, ![1, 256]⟩
abbrev S256 : Shape := ⟨1, ![256]⟩

abbrev nBuf : Space → Nat
  | .hbm => 22
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S4x1x256x1024, .f32⟩
  | .hbm, ⟨13, _⟩ => ⟨S4x1x256x1024, .bf16⟩
  | .hbm, ⟨14, _⟩ => ⟨S1x1024, .f32⟩
  | .hbm, ⟨15, _⟩ => ⟨S16384x1024, .bf16⟩
  | .hbm, ⟨16, _⟩ => ⟨S1x1024, .f32⟩
  | .hbm, ⟨17, _⟩ => ⟨S16384x1024, .f32⟩
  | .hbm, ⟨18, _⟩ => ⟨S1x1024, .f32⟩
  | .hbm, ⟨19, _⟩ => ⟨S16384x1024, .bf16⟩
  | .hbm, ⟨20, _⟩ => ⟨S1x1024, .f32⟩
  | .hbm, ⟨21, _⟩ => ⟨S4x256x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S4x1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S4x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OprojRefIdeal.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S4x256x1024 : Shape := ⟨3, ![4, 256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1024x1024, .f32⟩
  | .hbm, ⟨60, _⟩ => ⟨S1024x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S16384x1024, .bf16⟩
  | .hbm, ⟨72, _⟩ => ⟨S1x1024, .f32⟩
  | .hbm, ⟨73, _⟩ => ⟨S4x256x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Ffn.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S1x1024x4x1024 : Shape := ⟨4, ![1, 1024, 4, 1024]⟩
abbrev S4x1x1024x1024 : Shape := ⟨4, ![4, 1, 1024, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S1x1024x4x1024, .f32⟩
  | .hbm, ⟨6, _⟩ => ⟨S4x1x1024x1024, .f32⟩
  | .hbm, ⟨7, _⟩ => ⟨S4x1x1024x1024, .bf16⟩
  | .hbm, ⟨8, _⟩ => ⟨S1x4x1024x1024, .f32⟩
  | .hbm, ⟨9, _⟩ => ⟨S4x1x1024x1024, .f32⟩
  | .hbm, ⟨10, _⟩ => ⟨S4x1x1024x1024, .bf16⟩
  | .hbm, ⟨11, _⟩ => ⟨S16384x1024, .bf16⟩
  | .hbm, ⟨12, _⟩ => ⟨S16384x4096, .bf16⟩
  | .hbm, ⟨13, _⟩ => ⟨S16384x4096, .bf16⟩
  | .hbm, ⟨14, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_16 : BitVec 32 := 0#32
  let v20 : BitVec 1 := Scalar.cmpi .ne v19 c0_i32_16
  v20

def k0_cond2 (i : grid0.Coords) : BitVec 1 :=
  let arg1 : BitVec 32 := BitVec.ofNat 32 (i 1).val
  let c0_i32_17 : BitVec 32 := 0#32
  let v21 : BitVec 1 := Scalar.cmpi .ne arg1 c0_i32_17
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024x4096 : Shape := ⟨2, ![1024, 4096]⟩
abbrev S4096x1024 : Shape := ⟨2, ![4096, 1024]⟩
abbrev S16384x4096 : Shape := ⟨2, ![16384, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x1024, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x1024, .f32⟩
  | .hbm, ⟨23, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Mixb.lean ====
abbrev S16384x2560 : Shape := ⟨2, ![16384, 2560]⟩
abbrev S3x256 : Shape := ⟨2, ![3, 256]⟩
abbrev S31x256 : Shape := ⟨2, ![31, 256]⟩
abbrev S16384x768 : Shape := ⟨2, ![16384, 768]⟩
abbrev S16384x256 : Shape := ⟨2, ![16384, 256]⟩
abbrev S16384x4x64 : Shape := ⟨3, ![16384, 4, 64]⟩
abbrev S_ : Shape := ⟨0, ![]⟩
abbrev S8x256 : Shape := ⟨2, ![8, 256]⟩
abbrev S1 : Shape := ⟨1, ![1]⟩
abbrev S32x256 : Shape := ⟨2, ![32, 256]⟩
abbrev S4x64x16384 : Shape := ⟨3, ![4, 64, 16384]⟩
abbrev S512x2560 : Shape := ⟨2, ![512, 2560]⟩
abbrev S512x768 : Shape := ⟨2, ![512, 768]⟩
abbrev S512x256 : Shape := ⟨2, ![512, 256]⟩
abbrev S4x64x512 : Shape := ⟨3, ![4, 64, 512]⟩
abbrev S544x256 : Shape := ⟨2, ![544, 256]⟩
abbrev S7x536x256 : Shape := ⟨3, ![7, 536, 256]⟩
abbrev S1x256 : Shape := ⟨2, ![1, 256]⟩
abbrev S256x512 : Shape := ⟨2, ![256, 512]⟩
abbrev S536x256 : Shape := ⟨2, ![536, 256]⟩
abbrev S1x536x256 : Shape := ⟨3, ![1, 536, 256]⟩
abbrev S1x512x256 : Shape := ⟨3, ![1, 512, 256]⟩

abbrev nBuf : Space → Nat
  | .hbm => 25
  | .vmem => 25
  | .smem => 0
  | _ => 0

abbrev bufTy : (tb : Table) → Fin (tcTables nBuf tb) → BufTy
  | .hbm, ⟨0, _⟩ => ⟨S16384x2560, .f32⟩
  | .hbm, ⟨1, _⟩ => ⟨S3x256, .f32⟩
  | .hbm, ⟨2, _⟩ => ⟨S31x256, .f32⟩
  | .hbm, ⟨3, _⟩ => ⟨S16384x768, .f32⟩
  | .hbm, ⟨4, _⟩ => ⟨S16384x256, .f32⟩
  | .hbm, ⟨5, _⟩ => ⟨S16384x4x64, .f32⟩
  | .hbm, ⟨6, _⟩ => ⟨S16384x4x64, .f32⟩
  | .hbm, ⟨7, _⟩ => ⟨S16384x4x64, .f32⟩
  | .hbm, ⟨8, _⟩ => ⟨S16384x256, .f32⟩
  | .hbm, ⟨9, _⟩ => ⟨S_, .f32⟩
  | .hbm, ⟨10, _⟩ => ⟨S8x256, .f32⟩
  | .hbm, ⟨11, _⟩ => ⟨S_, .i32⟩
  | .hbm, ⟨12, _⟩ => ⟨S1, .i32⟩
  | .hbm, ⟨13, _⟩ => ⟨S8x256, .f32⟩
  | .hbm, ⟨14, _⟩ => ⟨S_, .f32⟩
  | .hbm, ⟨15, _⟩ => ⟨S32x256, .f32⟩
  | .hbm, ⟨16, _⟩ => ⟨S_, .i32⟩
  | .hbm, ⟨17, _⟩ => ⟨S1, .i32⟩
  | .hbm, ⟨18, _⟩ => ⟨S32x256, .f32⟩
  | .hbm, ⟨19, _⟩ => ⟨S4x64x16384, .f32⟩
  | .hbm, ⟨20, _⟩ => ⟨S4x64x16384, .f32⟩
  | .hbm, ⟨21, _⟩ => ⟨S4x64x16384, .f32⟩
  | .hbm, ⟨22, _⟩ => ⟨S16384x2560, .bf16⟩
  | .hbm, ⟨23, _⟩ => ⟨S16384x768, .bf16⟩
  | .hbm, ⟨24, _⟩ => ⟨S16384x2560, .bf16⟩
  | .local _ .vmem, ⟨0, _⟩ => ⟨S512x2560, .bf16⟩
  | .local _ .vmem, ⟨1, _⟩ => ⟨S512x2560, .bf16⟩
  | .local _ .vmem, ⟨2, _⟩ => ⟨S512x768, .bf16⟩
  | .local _ .vmem, ⟨3, _⟩ => ⟨S512x768, .bf16⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S512x256, .f32⟩
  | .local _ .vmem, ⟨9, _⟩ => ⟨S512x256, .f32⟩
  | .local _ .vmem, ⟨10, _⟩ => ⟨S32x256, .f32⟩
  | .local _ .vmem, ⟨11, _⟩ => ⟨S32x256, .f32⟩
  | .local _ .vmem, ⟨12, _⟩ => ⟨S4x64x512, .f32⟩
  | .local _ .vmem, ⟨13, _⟩ => ⟨S4x64x512, .f32⟩
  | .local _ .vmem, ⟨14, _⟩ => ⟨S4x64x512, .f32⟩
  | .local _ .vmem, ⟨15, _⟩ => ⟨S4x64x512, .f32⟩
  | .local _ .vmem, ⟨16, _⟩ => ⟨S4x64x512, .f32⟩
  | .local _ .vmem, ⟨17, _⟩ => ⟨S4x64x512, .f32⟩
  | .local _ .vmem, ⟨18, _⟩ => ⟨S8x256, .f32⟩
  | .local _ .vmem, ⟨19, _⟩ => ⟨S32x256, .f32⟩
  | .local _ .vmem, ⟨20, _⟩ => ⟨S512x2560, .bf16⟩
  | .local _ .vmem, ⟨21, _⟩ => ⟨S512x2560, .bf16⟩
  | .local _ .vmem, ⟨22, _⟩ => ⟨S544x256, .f32⟩
  | .local _ .vmem, ⟨23, _⟩ => ⟨S544x256, .f32⟩
  | .local _ .vmem, ⟨24, _⟩ => ⟨S7x536x256, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixbRefIdeal.lean ====
abbrev S16384x2560 : Shape := ⟨2, ![16384, 2560]⟩
abbrev S3x256 : Shape := ⟨2, ![3, 256]⟩
abbrev S31x256 : Shape := ⟨2, ![31, 256]⟩
abbrev S16384x768 : Shape := ⟨2, ![16384, 768]⟩
abbrev S16384x256 : Shape := ⟨2, ![16384, 256]⟩
abbrev S16384x4x64 : Shape := ⟨3, ![16384, 4, 64]⟩
abbrev S_ : Shape := ⟨0, ![]⟩
abbrev S2x256 : Shape := ⟨2, ![2, 256]⟩
abbrev S16386x256 : Shape := ⟨2, ![16386, 256]⟩
abbrev S1x256 : Shape := ⟨2, ![1, 256]⟩
abbrev S256 : Shape := ⟨1, ![256]⟩
abbrev S30x256 : Shape := ⟨2, ![30, 256]⟩
abbrev S16414x256 : Shape := ⟨2, ![16414, 256]⟩

abbrev nBuf : Space → Nat
  | .hbm => 494
  | .vmem => 0
  | .smem => 0
  | _ => 0

abbrev hbmTy0_0 (i : Nat) : BufTy := match i % 128 with
  | 0 => ⟨S16384x2560, .f32⟩
  | 1 => ⟨S3x256, .f32⟩
  | 2 => ⟨S31x256, .f32⟩
  | 3 => ⟨S16384x768, .f32⟩
  | 4 => ⟨S16384x256, .f32⟩
  | 5 => ⟨S16384x4x64, .f32⟩
  | 6 => ⟨S16384x4x64, .f32⟩
  | 7 => ⟨S16384x4x64, .f32⟩
  | 8 => ⟨S16384x256, .f32⟩
  | 9 => ⟨S16384x256, .f32⟩
  | 10 => ⟨S16384x256, .f32⟩
  | 11 => ⟨S16384x256, .f32⟩
  | 12 => ⟨S16384x256, .f32⟩
  | 13 => ⟨S_, .f32⟩
  | 14 => ⟨S16384x256, .f32⟩
  | 15 => ⟨S16384x256, .f32⟩
  | 16 => ⟨S_, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S16384x256, .f32⟩
  | 23 => ⟨S16384x256, .f32⟩
  | 24 => ⟨S16384x768, .f32⟩
  | 25 => ⟨S16384x256, .f32⟩
  | 26 => ⟨S16384x256, .f32⟩
  | 27 => ⟨S16384x256, .f32⟩
  | 28 => ⟨S_, .f32⟩
  | 29 => ⟨S2x256, .f32⟩
  | 30 => ⟨S16386x256, .f32⟩
  | 31 => ⟨S_, .f32⟩
  | 32 => ⟨S2x256, .f32⟩
  | 33 => ⟨S_, .f32⟩
  | 34 => ⟨S16384x256, .f32⟩
  | 35 => ⟨S1x256, .f32⟩
  | 36 => ⟨S256, .f32⟩
  | 37 => ⟨S16384x256, .f32⟩
  | 38 => ⟨S1x256, .f32⟩
  | 39 => ⟨S16384x256, .f32⟩
  | 40 => ⟨S16384x256, .f32⟩
  | 41 => ⟨S16384x256, .f32⟩
  | 42 => ⟨S1x256, .f32⟩
  | 43 => ⟨S256, .f32⟩
  | 44 => ⟨S16384x256, .f32⟩
  | 45 => ⟨S1x256, .f32⟩
  | 46 => ⟨S16384x256, .f32⟩
  | 47 => ⟨S16384x256, .f32⟩
  | 48 => ⟨S16384x256, .f32⟩
  | 49 => ⟨S1x256, .f32⟩
  | 50 => ⟨S256, .f32⟩
  | 51 => ⟨S16384x256, .f32⟩
  | 52 => ⟨S1x256, .f32⟩
  | 53 => ⟨S16384x256, .f32⟩
  | 54 => ⟨S16384x256, .f32⟩
  | 55 => ⟨S16384x256, .f32⟩
  | 56 => ⟨S16384x256, .f32⟩
  | 57 => ⟨S16384x4x64, .f32⟩
  | 58 => ⟨S16384x256, .f32⟩
  | 59 => ⟨S16384x4x64, .f32⟩
  | 60 => ⟨S16384x256, .f32⟩
  | 61 => ⟨S16384x4x64, .f32⟩
  | 62 => ⟨S_, .f32⟩
  | 63 => ⟨S30x256, .f32⟩
  | 64 => ⟨S16414x256, .f32⟩
  | 65 => ⟨S_, .f32⟩
  | 66 => ⟨S30x256, .f32⟩
  | 67 => ⟨S_, .f32⟩
  | 68 => ⟨S16384x256, .f32⟩
  | 69 => ⟨S1x256, .f32⟩
  | 70 => ⟨S256, .f32⟩
  | 71 => ⟨S16384x256, .f32⟩
  | 72 => ⟨S1x256, .f32⟩
  | 73 => ⟨S16384x256, .f32⟩
  | 74 => ⟨S16384x256, .f32⟩
  | 75 => ⟨S16384x256, .f32⟩
  | 76 => ⟨S1x256, .f32⟩
  | 77 => ⟨S256, .f32⟩
  | 78 => ⟨S16384x256, .f32⟩
  | 79 => ⟨S1x256, .f32⟩
  | 80 => ⟨S16384x256, .f32⟩
  | 81 => ⟨S16384x256, .f32⟩
  | 82 => ⟨S16384x256, .f32⟩
  | 83 => ⟨S1x256, .f32⟩
  | 84 => ⟨S256, .f32⟩
  | 85 => ⟨S16384x256, .f32⟩
  | 86 => ⟨S1x256, .f32⟩
  | 87 => ⟨S16384x256, .f32⟩
  | 88 => ⟨S16384x256, .f32⟩
  | 89 => ⟨S16384x256, .f32⟩
  | 90 => ⟨S1x256, .f32⟩
  | 91 => ⟨S256, .f32⟩
  | 92 => ⟨S16384x256, .f32⟩
  | 93 => ⟨S1x256, .f32⟩
  | 94 => ⟨S16384x256, .f32⟩
  | 95 => ⟨S16384x256, .f32⟩
  | 96 => ⟨S16384x256, .f32⟩
  | 97 => ⟨S1x256, .f32⟩
  | 98 => ⟨S256, .f32⟩
  | 99 => ⟨S16384x256, .f32⟩
  | 100 => ⟨S1x256, .f32⟩
  | 101 => ⟨S16384x256, .f32⟩
  | 102 => ⟨S16384x256, .f32⟩
  | 103 => ⟨S16384x256, .f32⟩
  | 104 => ⟨S1x256, .f32⟩
  | 105 => ⟨S256, .f32⟩
  | 106 => ⟨S16384x256, .f32⟩
  | 107 => ⟨S1x256, .f32⟩
  | 108 => ⟨S16384x256, .f32⟩
  | 109 => ⟨S16384x256, .f32⟩
  | 110 => ⟨S16384x256, .f32⟩
  | 111 => ⟨S1x256, .f32⟩
  | 112 => ⟨S256, .f32⟩
  | 113 => ⟨S16384x256, .f32⟩
  | 114 => ⟨S1x256, .f32⟩
  | 115 => ⟨S16384x256, .f32⟩
  | 116 => ⟨S16384x256, .f32⟩
  | 117 => ⟨S16384x256, .f32⟩
  | 118 => ⟨S1x256, .f32⟩
  | 119 => ⟨S256, .f32⟩
  | 120 => ⟨S16384x256, .f32⟩
  | 121 => ⟨S1x256, .f32⟩
  | 122 => ⟨S16384x256, .f32⟩
  | 123 => ⟨S16384x256, .f32⟩
  | 124 => ⟨S16384x256, .f32⟩
  | 125 => ⟨S1x256, .f32⟩
  | 126 => ⟨S256, .f32⟩
  | 127 => ⟨S16384x256, .f32⟩
  | _ => ⟨S16384x2560, .f32⟩

abbrev hbmTy0_1 (i : Nat) : BufTy := match i % 128 with
  | 0 => ⟨S1x256, .f32⟩
  | 1 => ⟨S16384x256, .f32⟩
  | 2 => ⟨S16384x256, .f32⟩
  | 3 => ⟨S16384x256, .f32⟩
  | 4 => ⟨S1x256, .f32⟩
  | 5 => ⟨S256, .f32⟩
  | 6 => ⟨S16384x256, .f32⟩
  | 7 => ⟨S1x256, .f32⟩
  | 8 => ⟨S16384x256, .f32⟩
  | 9 => ⟨S16384x256, .f32⟩
  | 10 => ⟨S16384x256, .f32⟩
  | 11 => ⟨S1x256, .f32⟩
  | 12 => ⟨S256, .f32⟩
  | 13 => ⟨S16384x256, .f32⟩
  | 14 => ⟨S1x256, .f32⟩
  | 15 => ⟨S16384x256, .f32⟩
  | 16 => ⟨S16384x256, .f32⟩
  | 17 => ⟨S16384x256, .f32⟩
  | 18 => ⟨S1x256, .f32⟩
  | 19 => ⟨S256, .f32⟩
  | 20 => ⟨S16384x256, .f32⟩
  | 21 => ⟨S1x256, .f32⟩
  | 22 => ⟨S16384x256, .f32⟩
  | 23 => ⟨S16384x256, .f32⟩
  | 24 => ⟨S16384x256, .f32⟩
  | 25 => ⟨S1x256, .f32⟩
  | 26 => ⟨S256, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S1x256, .f32⟩
  | 33 => ⟨S256, .f32⟩
  | 34 => ⟨S16384x256, .f32⟩
  | 35 => ⟨S1x256, .f32⟩
  | 36 => ⟨S16384x256, .f32⟩
  | 37 => ⟨S16384x256, .f32⟩
  | 38 => ⟨S16384x256, .f32⟩
  | 39 => ⟨S1x256, .f32⟩
  | 40 => ⟨S256, .f32⟩
  | 41 => ⟨S16384x256, .f32⟩
  | 42 => ⟨S1x256, .f32⟩
  | 43 => ⟨S16384x256, .f32⟩
  | 44 => ⟨S16384x256, .f32⟩
  | 45 => ⟨S16384x256, .f32⟩
  | 46 => ⟨S1x256, .f32⟩
  | 47 => ⟨S256, .f32⟩
  | 48 => ⟨S16384x256, .f32⟩
  | 49 => ⟨S1x256, .f32⟩
  | 50 => ⟨S16384x256, .f32⟩
  | 51 => ⟨S16384x256, .f32⟩
  | 52 => ⟨S16384x256, .f32⟩
  | 53 => ⟨S1x256, .f32⟩
  | 54 => ⟨S256, .f32⟩
  | 55 => ⟨S16384x256, .f32⟩
  | 56 => ⟨S1x256, .f32⟩
  | 57 => ⟨S16384x256, .f32⟩
  | 58 => ⟨S16384x256, .f32⟩
  | 59 => ⟨S16384x256, .f32⟩
  | 60 => ⟨S1x256, .f32⟩
  | 61 => ⟨S256, .f32⟩
  | 62 => ⟨S16384x256, .f32⟩
  | 63 => ⟨S1x256, .f32⟩
  | 64 => ⟨S16384x256, .f32⟩
  | 65 => ⟨S16384x256, .f32⟩
  | 66 => ⟨S16384x256, .f32⟩
  | 67 => ⟨S1x256, .f32⟩
  | 68 => ⟨S256, .f32⟩
  | 69 => ⟨S16384x256, .f32⟩
  | 70 => ⟨S1x256, .f32⟩
  | 71 => ⟨S16384x256, .f32⟩
  | 72 => ⟨S16384x256, .f32⟩
  | 73 => ⟨S16384x256, .f32⟩
  | 74 => ⟨S1x256, .f32⟩
  | 75 => ⟨S256, .f32⟩
  | 76 => ⟨S16384x256, .f32⟩
  | 77 => ⟨S1x256, .f32⟩
  | 78 => ⟨S16384x256, .f32⟩
  | 79 => ⟨S16384x256, .f32⟩
  | 80 => ⟨S16384x256, .f32⟩
  | 81 => ⟨S1x256, .f32⟩
  | 82 => ⟨S256, .f32⟩
  | 83 => ⟨S16384x256, .f32⟩
  | 84 => ⟨S1x256, .f32⟩
  | 85 => ⟨S16384x256, .f32⟩
  | 86 => ⟨S16384x256, .f32⟩
  | 87 => ⟨S16384x256, .f32⟩
  | 88 => ⟨S1x256, .f32⟩
  | 89 => ⟨S256, .f32⟩
  | 90 => ⟨S16384x256, .f32⟩
  | 91 => ⟨S1x256, .f32⟩
  | 92 => ⟨S16384x256, .f32⟩
  | 93 => ⟨S16384x256, .f32⟩
  | 94 => ⟨S16384x256, .f32⟩
  | 95 => ⟨S1x256, .f32⟩
  | 96 => ⟨S256, .f32⟩
  | 97 => ⟨S16384x256, .f32⟩
  | 98 => ⟨S1x256, .f32⟩
  | 99 => ⟨S16384x256, .f32⟩
  | 100 => ⟨S16384x256, .f32⟩
  | 101 => ⟨S16384x256, .f32⟩
  | 102 => ⟨S1x256, .f32⟩
  | 103 => ⟨S256, .f32⟩
  | 104 => ⟨S16384x256, .f32⟩
  | 105 => ⟨S1x256, .f32⟩
  | 106 => ⟨S16384x256, .f32⟩
  | 107 => ⟨S16384x256, .f32⟩
  | 108 => ⟨S16384x256, .f32⟩
  | 109 => ⟨S1x256, .f32⟩
  | 110 => ⟨S256, .f32⟩
  | 111 => ⟨S16384x256, .f32⟩
  | 112 => ⟨S1x256, .f32⟩
  | 113 => ⟨S16384x256, .f32⟩
  | 114 => ⟨S16384x256, .f32⟩
  | 115 => ⟨S16384x256, .f32⟩
  | 116 => ⟨S1x256, .f32⟩
  | 117 => ⟨S256, .f32⟩
  | 118 => ⟨S16384x256, .f32⟩
  | 119 => ⟨S1x256, .f32⟩
  | 120 => ⟨S16384x256, .f32⟩
  | 121 => ⟨S16384x256, .f32⟩
  | 122 => ⟨S16384x256, .f32⟩
  | 123 => ⟨S1x256, .f32⟩
  | 124 => ⟨S256, .f32⟩
  | 125 => ⟨S16384x256, .f32⟩
  | 126 => ⟨S1x256, .f32⟩
  | 127 => ⟨S16384x256, .f32⟩
  | _ => ⟨S16384x2560, .f32⟩

abbrev hbmTy0_2 (i : Nat) : BufTy := match i % 128 with
  | 0 => ⟨S16384x256, .f32⟩
  | 1 => ⟨S16384x256, .f32⟩
  | 2 => ⟨S1x256, .f32⟩
  | 3 => ⟨S256, .f32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S1x256, .f32⟩
  | 10 => ⟨S256, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S1x256, .f32⟩
  | 17 => ⟨S256, .f32⟩
  | 18 => ⟨S16384x256, .f32⟩
  | 19 => ⟨S1x256, .f32⟩
  | 20 => ⟨S16384x256, .f32⟩
  | 21 => ⟨S16384x256, .f32⟩
  | 22 => ⟨S16384x256, .f32⟩
  | 23 => ⟨S1x256, .f32⟩
  | 24 => ⟨S256, .f32⟩
  | 25 => ⟨S16384x256, .f32⟩
  | 26 => ⟨S1x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S_, .f32⟩
  | 35 => ⟨S16414x256, .f32⟩
  | 36 => ⟨S16384x256, .f32⟩
  | 37 => ⟨S16384x256, .f32⟩
  | 38 => ⟨S_, .f32⟩
  | 39 => ⟨S16414x256, .f32⟩
  | 40 => ⟨S16414x256, .f32⟩
  | 41 => ⟨S16384x256, .f32⟩
  | 42 => ⟨S16384x256, .f32⟩
  | 43 => ⟨S_, .f32⟩
  | 44 => ⟨S16414x256, .f32⟩
  | 45 => ⟨S16414x256, .f32⟩
  | 46 => ⟨S16384x256, .f32⟩
  | 47 => ⟨S16384x256, .f32⟩
  | 48 => ⟨S_, .f32⟩
  | 49 => ⟨S16414x256, .f32⟩
  | 50 => ⟨S16414x256, .f32⟩
  | 51 => ⟨S16384x256, .f32⟩
  | 52 => ⟨S16384x256, .f32⟩
  | 53 => ⟨S_, .f32⟩
  | 54 => ⟨S16414x256, .f32⟩
  | 55 => ⟨S16414x256, .f32⟩
  | 56 => ⟨S16384x256, .f32⟩
  | 57 => ⟨S16384x256, .f32⟩
  | 58 => ⟨S_, .f32⟩
  | 59 => ⟨S16414x256, .f32⟩
  | 60 => ⟨S16414x256, .f32⟩
  | 61 => ⟨S16384x256, .f32⟩
  | 62 => ⟨S16384x256, .f32⟩
  | 63 => ⟨S_, .f32⟩
  | 64 => ⟨S16414x256, .f32⟩
  | 65 => ⟨S16414x256, .f32⟩
  | 66 => ⟨S16384x256, .f32⟩
  | 67 => ⟨S16384x256, .f32⟩
  | 68 => ⟨S_, .f32⟩
  | 69 => ⟨S16414x256, .f32⟩
  | 70 => ⟨S16414x256, .f32⟩
  | 71 => ⟨S16384x256, .f32⟩
  | 72 => ⟨S16384x256, .f32⟩
  | 73 => ⟨S_, .f32⟩
  | 74 => ⟨S16414x256, .f32⟩
  | 75 => ⟨S16414x256, .f32⟩
  | 76 => ⟨S16384x256, .f32⟩
  | 77 => ⟨S16384x256, .f32⟩
  | 78 => ⟨S_, .f32⟩
  | 79 => ⟨S16414x256, .f32⟩
  | 80 => ⟨S16414x256, .f32⟩
  | 81 => ⟨S16384x256, .f32⟩
  | 82 => ⟨S16384x256, .f32⟩
  | 83 => ⟨S_, .f32⟩
  | 84 => ⟨S16414x256, .f32⟩
  | 85 => ⟨S16414x256, .f32⟩
  | 86 => ⟨S16384x256, .f32⟩
  | 87 => ⟨S16384x256, .f32⟩
  | 88 => ⟨S_, .f32⟩
  | 89 => ⟨S16414x256, .f32⟩
  | 90 => ⟨S16414x256, .f32⟩
  | 91 => ⟨S16384x256, .f32⟩
  | 92 => ⟨S16384x256, .f32⟩
  | 93 => ⟨S_, .f32⟩
  | 94 => ⟨S16414x256, .f32⟩
  | 95 => ⟨S16414x256, .f32⟩
  | 96 => ⟨S16384x256, .f32⟩
  | 97 => ⟨S16384x256, .f32⟩
  | 98 => ⟨S_, .f32⟩
  | 99 => ⟨S16414x256, .f32⟩
  | 100 => ⟨S16414x256, .f32⟩
  | 101 => ⟨S16384x256, .f32⟩
  | 102 => ⟨S16384x256, .f32⟩
  | 103 => ⟨S_, .f32⟩
  | 104 => ⟨S16414x256, .f32⟩
  | 105 => ⟨S16414x256, .f32⟩
  | 106 => ⟨S16384x256, .f32⟩
  | 107 => ⟨S16384x256, .f32⟩
  | 108 => ⟨S_, .f32⟩
  | 109 => ⟨S16414x256, .f32⟩
  | 110 => ⟨S16414x256, .f32⟩
  | 111 => ⟨S16384x256, .f32⟩
  | 112 => ⟨S16384x256, .f32⟩
  | 113 => ⟨S_, .f32⟩
  | 114 => ⟨S16414x256, .f32⟩
  | 115 => ⟨S16414x256, .f32⟩
  | 116 => ⟨S16384x256, .f32⟩
  | 117 => ⟨S16384x256, .f32⟩
  | 118 => ⟨S_, .f32⟩
  | 119 => ⟨S16414x256, .f32⟩
  | 120 => ⟨S16414x256, .f32⟩
  | 121 => ⟨S16384x256, .f32⟩
  | 122 => ⟨S16384x256, .f32⟩
  | 123 => ⟨S_, .f32⟩
  | 124 => ⟨S16414x256, .f32⟩
  | 125 => ⟨S16414x256, .f32⟩
  | 126 => ⟨S16384x256, .f32⟩
  | 127 => ⟨S16384x256, .f32⟩
  | _ => ⟨S16384x2560, .f32⟩

abbrev hbmTy0_3 (i : Nat) : BufTy := match i % 128 with
  | 0 => ⟨S_, .f32⟩
  | 1 => ⟨S16414x256, .f32⟩
  | 2 => ⟨S16414x256, .f32⟩
  | 3 => ⟨S16384x256, .f32⟩
  | 4 => ⟨S16384x256, .f32⟩
  | 5 => ⟨S_, .f32⟩
  | 6 => ⟨S16414x256, .f32⟩
  | 7 => ⟨S16414x256, .f32⟩
  | 8 => ⟨S16384x256, .f32⟩
  | 9 => ⟨S16384x256, .f32⟩
  | 10 => ⟨S_, .f32⟩
  | 11 => ⟨S16414x256, .f32⟩
  | 12 => ⟨S16414x256, .f32⟩
  | 13 => ⟨S16384x256, .f32⟩
  | 14 => ⟨S16384x256, .f32⟩
  | 15 => ⟨S_, .f32⟩
  | 16 => ⟨S16414x256, .f32⟩
  | 17 => ⟨S16414x256, .f32⟩
  | 18 => ⟨S16384x256, .f32⟩
  | 19 => ⟨S16384x256, .f32⟩
  | 20 => ⟨S_, .f32⟩
  | 21 => ⟨S16414x256, .f32⟩
  | 22 => ⟨S16414x256, .f32⟩
  | 23 => ⟨S16384x256, .f32⟩
  | 24 => ⟨S16384x256, .f32⟩
  | 25 => ⟨S_, .f32⟩
  | 26 => ⟨S16414x256, .f32⟩
  | 27 => ⟨S16414x256, .f32⟩
  | 28 => ⟨S16384x256, .f32⟩
  | 29 => ⟨S16384x256, .f32⟩
  | 30 => ⟨S_, .f32⟩
  | 31 => ⟨S16414x256, .f32⟩
  | 32 => ⟨S16414x256, .f32⟩
  | 33 => ⟨S16384x256, .f32⟩
  | 34 => ⟨S16384x256, .f32⟩
  | 35 => ⟨S_, .f32⟩
  | 36 => ⟨S16414x256, .f32⟩
  | 37 => ⟨S16414x256, .f32⟩
  | 38 => ⟨S16384x256, .f32⟩
  | 39 => ⟨S16384x256, .f32⟩
  | 40 => ⟨S_, .f32⟩
  | 41 => ⟨S16414x256, .f32⟩
  | 42 => ⟨S16414x256, .f32⟩
  | 43 => ⟨S16384x256, .f32⟩
  | 44 => ⟨S16384x256, .f32⟩
  | 45 => ⟨S_, .f32⟩
  | 46 => ⟨S16414x256, .f32⟩
  | 47 => ⟨S16414x256, .f32⟩
  | 48 => ⟨S16384x256, .f32⟩
  | 49 => ⟨S16384x256, .f32⟩
  | 50 => ⟨S_, .f32⟩
  | 51 => ⟨S16414x256, .f32⟩
  | 52 => ⟨S16414x256, .f32⟩
  | 53 => ⟨S16384x256, .f32⟩
  | 54 => ⟨S16384x256, .f32⟩
  | 55 => ⟨S_, .f32⟩
  | 56 => ⟨S16414x256, .f32⟩
  | 57 => ⟨S16414x256, .f32⟩
  | 58 => ⟨S30x256, .f32⟩
  | 59 => ⟨S16384x256, .f32⟩
  | 60 => ⟨S16384x256, .f32⟩
  | 61 => ⟨S_, .f32⟩
  | 62 => ⟨S16384x2560, .f32⟩
  | 63 => ⟨S16384x256, .f32⟩
  | 64 => ⟨S_, .f32⟩
  | 65 => ⟨S16384x2560, .f32⟩
  | 66 => ⟨S16384x2560, .f32⟩
  | 67 => ⟨S16384x256, .f32⟩
  | 68 => ⟨S_, .f32⟩
  | 69 => ⟨S16384x2560, .f32⟩
  | 70 => ⟨S16384x2560, .f32⟩
  | 71 => ⟨S16384x256, .f32⟩
  | 72 => ⟨S16384x256, .f32⟩
  | 73 => ⟨S16384x256, .f32⟩
  | 74 => ⟨S16384x256, .f32⟩
  | 75 => ⟨S_, .f32⟩
  | 76 => ⟨S16386x256, .f32⟩
  | 77 => ⟨S16384x256, .f32⟩
  | 78 => ⟨S16384x256, .f32⟩
  | 79 => ⟨S_, .f32⟩
  | 80 => ⟨S16386x256, .f32⟩
  | 81 => ⟨S16386x256, .f32⟩
  | 82 => ⟨S16384x256, .f32⟩
  | 83 => ⟨S16384x256, .f32⟩
  | 84 => ⟨S_, .f32⟩
  | 85 => ⟨S16386x256, .f32⟩
  | 86 => ⟨S16386x256, .f32⟩
  | 87 => ⟨S2x256, .f32⟩
  | 88 => ⟨S16384x256, .f32⟩
  | 89 => ⟨S16384x256, .f32⟩
  | 90 => ⟨S16384x256, .f32⟩
  | 91 => ⟨S_, .f32⟩
  | 92 => ⟨S16384x2560, .f32⟩
  | 93 => ⟨S16384x2560, .f32⟩
  | 94 => ⟨S_, .f32⟩
  | 95 => ⟨S16384x2560, .f32⟩
  | 96 => ⟨S16384x2560, .f32⟩
  | 97 => ⟨S_, .f32⟩
  | 98 => ⟨S16384x2560, .f32⟩
  | 99 => ⟨S16384x2560, .f32⟩
  | 100 => ⟨S16384x256, .f32⟩
  | 101 => ⟨S16384x256, .f32⟩
  | 102 => ⟨S16384x256, .f32⟩
  | 103 => ⟨S_, .f32⟩
  | 104 => ⟨S16384x2560, .f32⟩
  | 105 => ⟨S16384x2560, .f32⟩
  | 106 => ⟨S_, .f32⟩
  | 107 => ⟨S16384x2560, .f32⟩
  | 108 => ⟨S16384x2560, .f32⟩
  | 109 => ⟨S16384x2560, .bf16⟩
  | _ => ⟨S16384x2560, .f32⟩

abbrev hbmTy (i : Nat) : BufTy := match i / 128 with
  | 0 => hbmTy0_0 i
  | 1 => hbmTy0_1 i
  | 2 => hbmTy0_2 i
  | 3 => hbmTy0_3 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_cst_8 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_cst_9 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_cst_10 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_v282 : Ref sig .tc := ⟨.hbm, 303, rfl⟩
abbrev main_cst_11 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_cst_12 : Ref sig .tc := ⟨.hbm, 309, rfl⟩
abbrev main_v287 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_cst_13 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_cst_14 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_cst_15 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_cst_16 : Ref sig .tc := ⟨.hbm, 329, rfl⟩
abbrev main_v303 : Ref sig .tc := ⟨.hbm, 330, rfl⟩
abbrev main_v304 : Ref sig .tc := ⟨.hbm, 331, rfl⟩
abbrev main_v305 : Ref sig .tc := ⟨.hbm, 332, rfl⟩
abbrev main_v306 : Ref sig .tc := ⟨.hbm, 333, rfl⟩
abbrev main_cst_17 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_cst_18 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_cst_19 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_cst_20 : Ref sig .tc := ⟨.hbm, 349, rfl⟩
abbrev main_v319 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_cst_21 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_cst_22 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_cst_23 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_cst_24 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_cst_25 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_cst_26 : Ref sig .tc := ⟨.hbm, 379, rfl⟩
abbrev main_v343 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_cst_27 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_cst_28 : Ref sig .tc := ⟨.hbm, 389, rfl⟩
abbrev main_v351 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_cst_29 : Ref sig .tc := ⟨.hbm, 394, rfl⟩
abbrev main_v355 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_cst_30 : Ref sig .tc := ⟨.hbm, 399, rfl⟩
abbrev main_v359 : Ref sig .tc := ⟨.hbm, 400, rfl⟩
abbrev main_v360 : Ref sig .tc := ⟨.hbm, 401, rfl⟩
abbrev main_v361 : Ref sig .tc := ⟨.hbm, 402, rfl⟩
abbrev main_v362 : Ref sig .tc := ⟨.hbm, 403, rfl⟩
abbrev main_cst_31 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_cst_32 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_cst_33 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_v374 : Ref sig .tc := ⟨.hbm, 418, rfl⟩
abbrev main_cst_34 : Ref sig .tc := ⟨.hbm, 419, rfl⟩
abbrev main_v375 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_cst_35 : Ref sig .tc := ⟨.hbm, 424, rfl⟩
abbrev main_v379 : Ref sig .tc := ⟨.hbm, 425, rfl⟩
abbrev main_v380 : Ref sig .tc := ⟨.hbm, 426, rfl⟩
abbrev main_v381 : Ref sig .tc := ⟨.hbm, 427, rfl⟩
abbrev main_v382 : Ref sig .tc := ⟨.hbm, 428, rfl⟩
abbrev main_cst_36 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_cst_37 : Ref sig .tc := ⟨.hbm, 434, rfl⟩
abbrev main_v387 : Ref sig .tc := ⟨.hbm, 435, rfl⟩
abbrev main_v388 : Ref sig .tc := ⟨.hbm, 436, rfl⟩
abbrev main_v389 : Ref sig .tc := ⟨.hbm, 437, rfl⟩
abbrev main_v390 : Ref sig .tc := ⟨.hbm, 438, rfl⟩
abbrev main_cst_38 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_cst_39 : Ref sig .tc := ⟨.hbm, 445, rfl⟩
abbrev main_v396 : Ref sig .tc := ⟨.hbm, 446, rfl⟩
abbrev main_v397 : Ref sig .tc := ⟨.hbm, 447, rfl⟩
abbrev main_cst_40 : Ref sig .tc := ⟨.hbm, 448, rfl⟩
abbrev main_v398 : Ref sig .tc := ⟨.hbm, 449, rfl⟩
abbrev main_v399 : Ref sig .tc := ⟨.hbm, 450, rfl⟩
abbrev main_v400 : Ref sig .tc := ⟨.hbm, 451, rfl⟩
abbrev main_cst_41 : Ref sig .tc := ⟨.hbm, 452, rfl⟩
abbrev main_v401 : Ref sig .tc := ⟨.hbm, 453, rfl⟩
abbrev main_v402 : Ref sig .tc := ⟨.hbm, 454, rfl⟩
abbrev main_v403 : Ref sig .tc := ⟨.hbm, 455, rfl⟩
abbrev main_v404 : Ref sig .tc := ⟨.hbm, 456, rfl⟩
abbrev main_v405 : Ref sig .tc := ⟨.hbm, 457, rfl⟩
abbrev main_v406 : Ref sig .tc := ⟨.hbm, 458, rfl⟩
abbrev main_cst_42 : Ref sig .tc := ⟨.hbm, 459, rfl⟩
abbrev main_v407 : Ref sig .tc := ⟨.hbm, 460, rfl⟩
abbrev main_v408 : Ref sig .tc := ⟨.hbm, 461, rfl⟩
abbrev main_v409 : Ref sig .tc := ⟨.hbm, 462, rfl⟩
abbrev main_cst_43 : Ref sig .tc := ⟨.hbm, 463, rfl⟩
abbrev main_v410 : Ref sig .tc := ⟨.hbm, 464, rfl⟩
abbrev main_v411 : Ref sig .tc := ⟨.hbm, 465, rfl⟩
abbrev main_v412 : Ref sig .tc := ⟨.hbm, 466, rfl⟩
abbrev main_v413 : Ref sig .tc := ⟨.hbm, 467, rfl⟩
abbrev main_cst_44 : Ref sig .tc := ⟨.hbm, 468, rfl⟩
abbrev main_v414 : Ref sig .tc := ⟨.hbm, 469, rfl⟩
abbrev main_v415 : Ref sig .tc := ⟨.hbm, 470, rfl⟩
abbrev main_v416 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_cst_45 : Ref sig .tc := ⟨.hbm, 475, rfl⟩
abbrev main_v420 : Ref sig .tc := ⟨.hbm, 476, rfl⟩
abbrev main_v421 : Ref sig .tc := ⟨.hbm, 477, rfl⟩
abbrev main_cst_46 : Ref sig .tc := ⟨.hbm, 478, rfl⟩
abbrev main_v422 : Ref sig .tc := ⟨.hbm, 479, rfl⟩
abbrev main_v423 : Ref sig .tc := ⟨.hbm, 480, rfl⟩
abbrev main_cst_47 : Ref sig .tc := ⟨.hbm, 481, rfl⟩
abbrev main_v424 : Ref sig .tc := ⟨.hbm, 482, rfl⟩
abbrev main_v425 : Ref sig .tc := ⟨.hbm, 483, rfl⟩
abbrev main_v426 : Ref sig .tc := ⟨.hbm, 484, rfl⟩
abbrev main_v427 : Ref sig .tc := ⟨.hbm, 485, rfl⟩
abbrev main_v428 : Ref sig .tc := ⟨.hbm, 486, rfl⟩
abbrev main_cst_48 : Ref sig .tc := ⟨.hbm, 487, rfl⟩
abbrev main_v429 : Ref sig .tc := ⟨.hbm, 488, rfl⟩
abbrev main_v430 : Ref sig .tc := ⟨.hbm, 489, rfl⟩
abbrev main_cst_49 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩

abbrev nD : Nat := 1
abbrev τ : Topo := Topo.v7x

variable {F : FTy → Type} [FloatOps F]
-- ==== Mixa.lean ====
abbrev S16384x2560 : Shape := ⟨2, ![16384, 2560]⟩
abbrev S16384x4x64 : Shape := ⟨3, ![16384, 4, 64]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S31x256 : Shape := ⟨2, ![31, 256]⟩
abbrev S16384x1024 : Shape := ⟨2, ![16384, 1024]⟩
abbrev S1x256 : Shape := ⟨2, ![1, 256]⟩
abbrev S1x4x128x128 : Shape := ⟨4, ![1, 4, 128, 128]⟩
abbrev S1x4x128 : Shape := ⟨3, ![1, 4, 128]⟩
abbrev S1x3x256 : Shape := ⟨3, ![1, 3, 256]⟩
abbrev S1x31x256 : Shape := ⟨3, ![1, 31, 256]⟩
abbrev S_ : Shape := ⟨0, ![]⟩
abbrev S128x128 : Shape := ⟨2, ![128, 128]⟩
abbrev S128x4 : Shape := ⟨2, ![128, 4]⟩
abbrev S128x4x64 : Shape := ⟨3, ![128, 4, 64]⟩
abbrev S128x256 : Shape := ⟨2, ![128, 256]⟩
abbrev S8x256 : Shape := ⟨2, ![8, 256]⟩
abbrev S1 : Shape := ⟨1, ![1]⟩
abbrev S32x256 : Shape := ⟨2, ![32, 256]⟩
abbrev S16384x256 : Shape := ⟨2, ![16384, 256]⟩
abbrev S30x256 : Shape := ⟨2, ![30, 256]⟩
abbrev S16414x256 : Shape := ⟨2, ![16414, 256]⟩
abbrev S16384x768 : Shape := ⟨2, ![16384, 768]⟩
abbrev S4x64x16384 : Shape := ⟨3, ![4, 64, 16384]⟩
abbrev S4x16384x64 : Shape := ⟨3, ![4, 16384, 64]⟩
abbrev S4x16384x1 : Shape := ⟨3, ![4, 16384, 1]⟩
abbrev S512x2560 : Shape := ⟨2, ![512, 2560]⟩
abbrev S32x2560 : Shape := ⟨2, ![32, 2560]⟩
abbrev S512x1024 : Shape := ⟨2, ![512, 1024]⟩
abbrev S4x64x512 : Shape := ⟨3, ![4, 64, 512]⟩
abbrev S512x256 : Shape := ⟨2, ![512, 256]⟩
abbrev S512x768 : Shape := ⟨2, ![512, 768]⟩
abbrev S4x512x64 : Shape := ⟨3, ![4, 512, 64]⟩
abbrev S4x512x1 : Shape := ⟨3, ![4, 512, 1]⟩
abbrev S544x256 : Shape := ⟨2, ![544, 256]⟩
abbrev S7x536x256 : Shape := ⟨3, ![7, 536, 256]⟩
abbrev S512 : Shape := ⟨1, ![512]⟩
abbrev S512x1 : Shape := ⟨2, ![512, 1]⟩
abbrev S1x128x128 : Shape := ⟨3, ![1, 128, 128]⟩
abbrev S536x256 : Shape := ⟨2, ![536, 256]⟩
abbrev S1x536x256 : Shape := ⟨3, ![1, 536, 256]⟩
abbrev S1x512x256 : Shape := ⟨3, ![1, 512, 256]⟩
abbrev S256x512 : Shape := ⟨2, ![256, 512]⟩
abbrev S512x64 : Shape := ⟨2, ![512, 64]⟩
abbrev S1x512x64 : Shape := ⟨3, ![1, 512, 64]⟩
abbrev S64x512 : Shape := ⟨2, ![64, 512]⟩
abbrev S1x64x512 : Shape := ⟨3, ![1, 64, 512]⟩
abbrev S1x512x1 : Shape := ⟨3, ![1, 512, 1]⟩

abbrev nBuf : Space → Nat
  | .hbm => 311
  | .vmem => 40
  | .smem => 0
  | _ => 0

abbrev hbmTy0_0 (i : Nat) : BufTy := match i % 128 with
  | 0 => ⟨S16384x2560, .f32⟩
  | 1 => ⟨S16384x4x64, .f32⟩
  | 2 => ⟨S256, .f32⟩
  | 3 => ⟨S4x128x128, .f32⟩
  | 4 => ⟨S4x128, .f32⟩
  | 5 => ⟨S3x256, .f32⟩
  | 6 => ⟨S31x256, .f32⟩
  | 7 => ⟨S256, .f32⟩
  | 8 => ⟨S256, .f32⟩
  | 9 => ⟨S16384x1024, .f32⟩
  | 10 => ⟨S1x256, .f32⟩
  | 11 => ⟨S1x4x128x128, .f32⟩
  | 12 => ⟨S1x4x128, .f32⟩
  | 13 => ⟨S1x3x256, .f32⟩
  | 14 => ⟨S1x31x256, .f32⟩
  | 15 => ⟨S1x256, .f32⟩
  | 16 => ⟨S1x256, .f32⟩
  | 17 => ⟨S_, .i1⟩
  | 18 => ⟨S128x128, .i1⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .i1⟩
  | 26 => ⟨S128x128, .i1⟩
  | 27 => ⟨S128x128, .i1⟩
  | 28 => ⟨S4x128x128, .f32⟩
  | 29 => ⟨S_, .f32⟩
  | 30 => ⟨S_, .f32⟩
  | 31 => ⟨S4x128x128, .i1⟩
  | 32 => ⟨S4x128x128, .f32⟩
  | 33 => ⟨S4x128x128, .f32⟩
  | 34 => ⟨S4x128, .f32⟩
  | 35 => ⟨S128x4, .f32⟩
  | 36 => ⟨S128x4x64, .f32⟩
  | 37 => ⟨S128x256, .f32⟩
  | 38 => ⟨S_, .f32⟩
  | 39 => ⟨S8x256, .f32⟩
  | 40 => ⟨S3x256, .f32⟩
  | 41 => ⟨S_, .i32⟩
  | 42 => ⟨S1, .i32⟩
  | 43 => ⟨S8x256, .f32⟩
  | 44 => ⟨S_, .f32⟩
  | 45 => ⟨S32x256, .f32⟩
  | 46 => ⟨S31x256, .f32⟩
  | 47 => ⟨S_, .i32⟩
  | 48 => ⟨S1, .i32⟩
  | 49 => ⟨S32x256, .f32⟩
  | 50 => ⟨S256, .f32⟩
  | 51 => ⟨S1x256, .f32⟩
  | 52 => ⟨S4x128x128, .bf16⟩
  | 53 => ⟨S4x128x128, .f32⟩
  | 54 => ⟨S4x128x128, .bf16⟩
  | 55 => ⟨S256, .f32⟩
  | 56 => ⟨S1x256, .f32⟩
  | 57 => ⟨S256, .f32⟩
  | 58 => ⟨S1x256, .f32⟩
  | 59 => ⟨S16384x256, .f32⟩
  | 60 => ⟨S16384x256, .f32⟩
  | 61 => ⟨S16384x256, .f32⟩
  | 62 => ⟨S16384x256, .f32⟩
  | 63 => ⟨S_, .f32⟩
  | 64 => ⟨S16384x256, .f32⟩
  | 65 => ⟨S16384x256, .f32⟩
  | 66 => ⟨S_, .f32⟩
  | 67 => ⟨S16384x256, .f32⟩
  | 68 => ⟨S16384x256, .f32⟩
  | 69 => ⟨S16384x256, .f32⟩
  | 70 => ⟨S_, .f32⟩
  | 71 => ⟨S30x256, .f32⟩
  | 72 => ⟨S16414x256, .f32⟩
  | 73 => ⟨S_, .f32⟩
  | 74 => ⟨S16384x256, .f32⟩
  | 75 => ⟨S1x256, .f32⟩
  | 76 => ⟨S256, .f32⟩
  | 77 => ⟨S16384x256, .f32⟩
  | 78 => ⟨S1x256, .f32⟩
  | 79 => ⟨S16384x256, .f32⟩
  | 80 => ⟨S16384x256, .f32⟩
  | 81 => ⟨S16384x256, .f32⟩
  | 82 => ⟨S1x256, .f32⟩
  | 83 => ⟨S256, .f32⟩
  | 84 => ⟨S16384x256, .f32⟩
  | 85 => ⟨S1x256, .f32⟩
  | 86 => ⟨S16384x256, .f32⟩
  | 87 => ⟨S16384x256, .f32⟩
  | 88 => ⟨S16384x256, .f32⟩
  | 89 => ⟨S1x256, .f32⟩
  | 90 => ⟨S256, .f32⟩
  | 91 => ⟨S16384x256, .f32⟩
  | 92 => ⟨S1x256, .f32⟩
  | 93 => ⟨S16384x256, .f32⟩
  | 94 => ⟨S16384x256, .f32⟩
  | 95 => ⟨S16384x256, .f32⟩
  | 96 => ⟨S1x256, .f32⟩
  | 97 => ⟨S256, .f32⟩
  | 98 => ⟨S16384x256, .f32⟩
  | 99 => ⟨S1x256, .f32⟩
  | 100 => ⟨S16384x256, .f32⟩
  | 101 => ⟨S16384x256, .f32⟩
  | 102 => ⟨S16384x256, .f32⟩
  | 103 => ⟨S1x256, .f32⟩
  | 104 => ⟨S256, .f32⟩
  | 105 => ⟨S16384x256, .f32⟩
  | 106 => ⟨S1x256, .f32⟩
  | 107 => ⟨S16384x256, .f32⟩
  | 108 => ⟨S16384x256, .f32⟩
  | 109 => ⟨S16384x256, .f32⟩
  | 110 => ⟨S1x256, .f32⟩
  | 111 => ⟨S256, .f32⟩
  | 112 => ⟨S16384x256, .f32⟩
  | 113 => ⟨S1x256, .f32⟩
  | 114 => ⟨S16384x256, .f32⟩
  | 115 => ⟨S16384x256, .f32⟩
  | 116 => ⟨S16384x256, .f32⟩
  | 117 => ⟨S1x256, .f32⟩
  | 118 => ⟨S256, .f32⟩
  | 119 => ⟨S16384x256, .f32⟩
  | 120 => ⟨S1x256, .f32⟩
  | 121 => ⟨S16384x256, .f32⟩
  | 122 => ⟨S16384x256, .f32⟩
  | 123 => ⟨S16384x256, .f32⟩
  | 124 => ⟨S1x256, .f32⟩
  | 125 => ⟨S256, .f32⟩
  | 126 => ⟨S16384x256, .f32⟩
  | 127 => ⟨S1x256, .f32⟩
  | _ => ⟨S16384x2560, .f32⟩

abbrev hbmTy0_1 (i : Nat) : BufTy := match i % 128 with
  | 0 => ⟨S16384x256, .f32⟩
  | 1 => ⟨S16384x256, .f32⟩
  | 2 => ⟨S16384x256, .f32⟩
  | 3 => ⟨S1x256, .f32⟩
  | 4 => ⟨S256, .f32⟩
  | 5 => ⟨S16384x256, .f32⟩
  | 6 => ⟨S1x256, .f32⟩
  | 7 => ⟨S16384x256, .f32⟩
  | 8 => ⟨S16384x256, .f32⟩
  | 9 => ⟨S16384x256, .f32⟩
  | 10 => ⟨S1x256, .f32⟩
  | 11 => ⟨S256, .f32⟩
  | 12 => ⟨S16384x256, .f32⟩
  | 13 => ⟨S1x256, .f32⟩
  | 14 => ⟨S16384x256, .f32⟩
  | 15 => ⟨S16384x256, .f32⟩
  | 16 => ⟨S16384x256, .f32⟩
  | 17 => ⟨S1x256, .f32⟩
  | 18 => ⟨S256, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S1x256, .f32⟩
  | 25 => ⟨S256, .f32⟩
  | 26 => ⟨S16384x256, .f32⟩
  | 27 => ⟨S1x256, .f32⟩
  | 28 => ⟨S16384x256, .f32⟩
  | 29 => ⟨S16384x256, .f32⟩
  | 30 => ⟨S16384x256, .f32⟩
  | 31 => ⟨S1x256, .f32⟩
  | 32 => ⟨S256, .f32⟩
  | 33 => ⟨S16384x256, .f32⟩
  | 34 => ⟨S1x256, .f32⟩
  | 35 => ⟨S16384x256, .f32⟩
  | 36 => ⟨S16384x256, .f32⟩
  | 37 => ⟨S16384x256, .f32⟩
  | 38 => ⟨S1x256, .f32⟩
  | 39 => ⟨S256, .f32⟩
  | 40 => ⟨S16384x256, .f32⟩
  | 41 => ⟨S1x256, .f32⟩
  | 42 => ⟨S16384x256, .f32⟩
  | 43 => ⟨S16384x256, .f32⟩
  | 44 => ⟨S16384x256, .f32⟩
  | 45 => ⟨S1x256, .f32⟩
  | 46 => ⟨S256, .f32⟩
  | 47 => ⟨S16384x256, .f32⟩
  | 48 => ⟨S1x256, .f32⟩
  | 49 => ⟨S16384x256, .f32⟩
  | 50 => ⟨S16384x256, .f32⟩
  | 51 => ⟨S16384x256, .f32⟩
  | 52 => ⟨S1x256, .f32⟩
  | 53 => ⟨S256, .f32⟩
  | 54 => ⟨S16384x256, .f32⟩
  | 55 => ⟨S1x256, .f32⟩
  | 56 => ⟨S16384x256, .f32⟩
  | 57 => ⟨S16384x256, .f32⟩
  | 58 => ⟨S16384x256, .f32⟩
  | 59 => ⟨S1x256, .f32⟩
  | 60 => ⟨S256, .f32⟩
  | 61 => ⟨S16384x256, .f32⟩
  | 62 => ⟨S1x256, .f32⟩
  | 63 => ⟨S16384x256, .f32⟩
  | 64 => ⟨S16384x256, .f32⟩
  | 65 => ⟨S16384x256, .f32⟩
  | 66 => ⟨S1x256, .f32⟩
  | 67 => ⟨S256, .f32⟩
  | 68 => ⟨S16384x256, .f32⟩
  | 69 => ⟨S1x256, .f32⟩
  | 70 => ⟨S16384x256, .f32⟩
  | 71 => ⟨S16384x256, .f32⟩
  | 72 => ⟨S16384x256, .f32⟩
  | 73 => ⟨S1x256, .f32⟩
  | 74 => ⟨S256, .f32⟩
  | 75 => ⟨S16384x256, .f32⟩
  | 76 => ⟨S1x256, .f32⟩
  | 77 => ⟨S16384x256, .f32⟩
  | 78 => ⟨S16384x256, .f32⟩
  | 79 => ⟨S16384x256, .f32⟩
  | 80 => ⟨S1x256, .f32⟩
  | 81 => ⟨S256, .f32⟩
  | 82 => ⟨S16384x256, .f32⟩
  | 83 => ⟨S1x256, .f32⟩
  | 84 => ⟨S16384x256, .f32⟩
  | 85 => ⟨S16384x256, .f32⟩
  | 86 => ⟨S16384x256, .f32⟩
  | 87 => ⟨S1x256, .f32⟩
  | 88 => ⟨S256, .f32⟩
  | 89 => ⟨S16384x256, .f32⟩
  | 90 => ⟨S1x256, .f32⟩
  | 91 => ⟨S16384x256, .f32⟩
  | 92 => ⟨S16384x256, .f32⟩
  | 93 => ⟨S16384x256, .f32⟩
  | 94 => ⟨S1x256, .f32⟩
  | 95 => ⟨S256, .f32⟩
  | 96 => ⟨S16384x256, .f32⟩
  | 97 => ⟨S1x256, .f32⟩
  | 98 => ⟨S16384x256, .f32⟩
  | 99 => ⟨S16384x256, .f32⟩
  | 100 => ⟨S16384x256, .f32⟩
  | 101 => ⟨S1x256, .f32⟩
  | 102 => ⟨S256, .f32⟩
  | 103 => ⟨S16384x256, .f32⟩
  | 104 => ⟨S1x256, .f32⟩
  | 105 => ⟨S16384x256, .f32⟩
  | 106 => ⟨S16384x256, .f32⟩
  | 107 => ⟨S16384x256, .f32⟩
  | 108 => ⟨S1x256, .f32⟩
  | 109 => ⟨S256, .f32⟩
  | 110 => ⟨S16384x256, .f32⟩
  | 111 => ⟨S1x256, .f32⟩
  | 112 => ⟨S16384x256, .f32⟩
  | 113 => ⟨S16384x256, .f32⟩
  | 114 => ⟨S16384x256, .f32⟩
  | 115 => ⟨S1x256, .f32⟩
  | 116 => ⟨S256, .f32⟩
  | 117 => ⟨S16384x256, .f32⟩
  | 118 => ⟨S1x256, .f32⟩
  | 119 => ⟨S16384x256, .f32⟩
  | 120 => ⟨S16384x256, .f32⟩
  | 121 => ⟨S16384x256, .f32⟩
  | 122 => ⟨S1x256, .f32⟩
  | 123 => ⟨S256, .f32⟩
  | 124 => ⟨S16384x256, .f32⟩
  | 125 => ⟨S1x256, .f32⟩
  | 126 => ⟨S16384x256, .f32⟩
  | 127 => ⟨S16384x256, .f32⟩
  | _ => ⟨S16384x2560, .f32⟩

abbrev hbmTy0_2 (i : Nat) : BufTy := match i % 128 with
  | 0 => ⟨S16384x256, .f32⟩
  | 1 => ⟨S1x256, .f32⟩
  | 2 => ⟨S256, .f32⟩
  | 3 => ⟨S16384x256, .f32⟩
  | 4 => ⟨S1x256, .f32⟩
  | 5 => ⟨S16384x256, .f32⟩
  | 6 => ⟨S16384x256, .f32⟩
  | 7 => ⟨S16384x256, .f32⟩
  | 8 => ⟨S1x256, .f32⟩
  | 9 => ⟨S256, .f32⟩
  | 10 => ⟨S16384x256, .f32⟩
  | 11 => ⟨S1x256, .f32⟩
  | 12 => ⟨S16384x256, .f32⟩
  | 13 => ⟨S16384x256, .f32⟩
  | 14 => ⟨S16384x256, .f32⟩
  | 15 => ⟨S1x256, .f32⟩
  | 16 => ⟨S256, .f32⟩
  | 17 => ⟨S16384x256, .f32⟩
  | 18 => ⟨S1x256, .f32⟩
  | 19 => ⟨S16384x256, .f32⟩
  | 20 => ⟨S16384x256, .f32⟩
  | 21 => ⟨S16384x256, .f32⟩
  | 22 => ⟨S1x256, .f32⟩
  | 23 => ⟨S256, .f32⟩
  | 24 => ⟨S16384x256, .f32⟩
  | 25 => ⟨S1x256, .f32⟩
  | 26 => ⟨S16384x256, .f32⟩
  | 27 => ⟨S16384x256, .f32⟩
  | 28 => ⟨S16384x256, .f32⟩
  | 29 => ⟨S1x256, .f32⟩
  | 30 => ⟨S256, .f32⟩
  | 31 => ⟨S16384x256, .f32⟩
  | 32 => ⟨S1x256, .f32⟩
  | 33 => ⟨S16384x256, .f32⟩
  | 34 => ⟨S16384x256, .f32⟩
  | 35 => ⟨S16384x256, .f32⟩
  | 36 => ⟨S_, .f32⟩
  | 37 => ⟨S16384x768, .f32⟩
  | 38 => ⟨S16384x1024, .f32⟩
  | 39 => ⟨S16384x2560, .bf16⟩
  | 40 => ⟨S16384x1024, .bf16⟩
  | 41 => ⟨S4x64x16384, .f32⟩
  | 42 => ⟨S16384x768, .bf16⟩
  | 43 => ⟨S16384x256, .f32⟩
  | 44 => ⟨S16384x256, .f32⟩
  | 45 => ⟨S4x16384x64, .bf16⟩
  | 46 => ⟨S4x64x16384, .bf16⟩
  | 47 => ⟨S4x16384x1, .f32⟩
  | 48 => ⟨S1x256, .f32⟩
  | 49 => ⟨S4x128x128, .f32⟩
  | 50 => ⟨S128x256, .f32⟩
  | 51 => ⟨S8x256, .f32⟩
  | 52 => ⟨S32x256, .f32⟩
  | 53 => ⟨S1x256, .f32⟩
  | 54 => ⟨S1x256, .f32⟩
  | _ => ⟨S16384x2560, .f32⟩

abbrev hbmTy (i : Nat) : BufTy := match i / 128 with
  | 0 => hbmTy0_0 i
  | 1 => hbmTy0_1 i
  | 2 => hbmTy0_2 i
  | _ => ⟨S16384x2560, .f32⟩

abbrev bufTy : (tb : Table) → Fin (tcTables nBuf tb) → BufTy
  | .hbm, ⟨i, _⟩ => hbmTy i
  | .local _ .vmem, ⟨0, _⟩ => ⟨S512x2560, .bf16⟩
  | .local _ .vmem, ⟨1, _⟩ => ⟨S512x2560, .bf16⟩
  | .local _ .vmem, ⟨2, _⟩ => ⟨S32x2560, .bf16⟩
  | .local _ .vmem, ⟨3, _⟩ => ⟨S32x2560, .bf16⟩
  | .local _ .vmem, ⟨4, _⟩ => ⟨S512x1024, .bf16⟩
  | .local _ .vmem, ⟨5, _⟩ => ⟨S512x1024, .bf16⟩
  | .local _ .vmem, ⟨6, _⟩ => ⟨S4x64x512, .f32⟩
  | .local _ .vmem, ⟨7, _⟩ => ⟨S4x64x512, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S4x128x128, .bf16⟩
  | .local _ .vmem, ⟨12, _⟩ => ⟨S4x128x128, .bf16⟩
  | .local _ .vmem, ⟨13, _⟩ => ⟨S128x256, .f32⟩
  | .local _ .vmem, ⟨14, _⟩ => ⟨S8x256, .f32⟩
  | .local _ .vmem, ⟨15, _⟩ => ⟨S32x256, .f32⟩
  | .local _ .vmem, ⟨16, _⟩ => ⟨S1x256, .f32⟩
  | .local _ .vmem, ⟨17, _⟩ => ⟨S1x256, .f32⟩
  | .local _ .vmem, ⟨18, _⟩ => ⟨S512x768, .bf16⟩
  | .local _ .vmem, ⟨19, _⟩ => ⟨S512x768, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S4x512x64, .bf16⟩
  | .local _ .vmem, ⟨25, _⟩ => ⟨S4x512x64, .bf16⟩
  | .local _ .vmem, ⟨26, _⟩ => ⟨S4x64x512, .bf16⟩
  | .local _ .vmem, ⟨27, _⟩ => ⟨S4x64x512, .bf16⟩
  | .local _ .vmem, ⟨28, _⟩ => ⟨S4x512x1, .f32⟩
  | .local _ .vmem, ⟨29, _⟩ => ⟨S4x512x1, .f32⟩
  | .local _ .vmem, ⟨30, _⟩ => ⟨S1x256, .f32⟩
  | .local _ .vmem, ⟨31, _⟩ => ⟨S4x128x128, .f32⟩
  | .local _ .vmem, ⟨32, _⟩ => ⟨S128x256, .f32⟩
  | .local _ .vmem, ⟨33, _⟩ => ⟨S8x256, .f32⟩
  | .local _ .vmem, ⟨34, _⟩ => ⟨S32x256, .f32⟩
  | .local _ .vmem, ⟨35, _⟩ => ⟨S1x256, .f32⟩
  | .local _ .vmem, ⟨36, _⟩ => ⟨S1x256, .f32⟩
  | .local _ .vmem, ⟨37, _⟩ => ⟨S544x256, .f32⟩
  | .local _ .vmem, ⟨38, _⟩ => ⟨S544x256, .f32⟩
  | .local _ .vmem, ⟨39, _⟩ => ⟨S7x536x256, .f32⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_cst_8 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266_0 : Ref sig .tc := ⟨.hbm, 298, rfl⟩
abbrev main_v266_1 : Ref sig .tc := ⟨.hbm, 299, rfl⟩
abbrev main_v266_2 : Ref sig .tc := ⟨.hbm, 300, rfl⟩
abbrev main_v266_3 : Ref sig .tc := ⟨.hbm, 301, rfl⟩
abbrev main_v266_4 : Ref sig .tc := ⟨.hbm, 302, rfl⟩
abbrev main_v266_5 : Ref sig .tc := ⟨.hbm, 303, rfl⟩
abbrev main_v266_6 : Ref sig .tc := ⟨.hbm, 304, rfl⟩
abbrev main_v266_7 : Ref sig .tc := ⟨.hbm, 305, rfl⟩
abbrev main_v266_8 : Ref sig .tc := ⟨.hbm, 306, rfl⟩
abbrev main_v266_9 : Ref sig .tc := ⟨.hbm, 307, rfl⟩
abbrev main_v266_10 : Ref sig .tc := ⟨.hbm, 308, rfl⟩
abbrev main_v266_11 : Ref sig .tc := ⟨.hbm, 309, rfl⟩
abbrev main_v266_12 : Ref sig .tc := ⟨.hbm, 310, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x64x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== MixaRefIdeal.lean ====
abbrev S16384x2560 : Shape := ⟨2, ![16384, 2560]⟩
abbrev S16384x4x64 : Shape := ⟨3, ![16384, 4, 64]⟩
abbrev S256 : Shape := ⟨1, ![256]⟩
abbrev S4x128x128 : Shape := ⟨3, ![4, 128, 128]⟩
abbrev S4x128 : Shape := ⟨2, ![4, 128]⟩
abbrev S3x256 : Shape := ⟨2, ![3, 256]⟩
abbrev S31x256 : Shape := ⟨2, ![31, 256]⟩
abbrev S16384x1024 : Shape := ⟨2, ![16384, 1024]⟩
abbrev S16384x256 : Shape := ⟨2, ![16384, 256]⟩
abbrev S_ : Shape := ⟨0, ![]⟩
abbrev S2x256 : Shape := ⟨2, ![2, 256]⟩
abbrev S16386x256 : Shape := ⟨2, ![16386, 256]⟩
abbrev S1x256 : Shape := ⟨2, ![1, 256]⟩
abbrev S30x256 : Shape := ⟨2, ![30, 256]⟩
abbrev S16414x256 : Shape := ⟨2, ![16414, 256]⟩
abbrev S16384 : Shape := ⟨1, ![16384]⟩
abbrev S16384x1 : Shape := ⟨2, ![16384, 1]⟩
abbrev S16384x768 : Shape := ⟨2, ![16384, 768]⟩
abbrev S4x16384x64 : Shape := ⟨3, ![4, 16384, 64]⟩
abbrev S4x64x16384 : Shape := ⟨3, ![4, 64, 16384]⟩
abbrev S16384x4 : Shape := ⟨2, ![16384, 4]⟩
abbrev S4x16384 : Shape := ⟨2, ![4, 16384]⟩
abbrev S4x16384x1 : Shape := ⟨3, ![4, 16384, 1]⟩
abbrev S5x256 : Shape := ⟨2, ![5, 256]⟩
abbrev S8x256 : Shape := ⟨2, ![8, 256]⟩
abbrev S32x256 : Shape := ⟨2, ![32, 256]⟩

abbrev nBuf : Space → Nat
  | .hbm => 828
  | .vmem => 0
  | .smem => 0
  | _ => 0

abbrev hbmTy0_0 (i : Nat) : BufTy := match i % 128 with
  | 0 => ⟨S16384x2560, .f32⟩
  | 1 => ⟨S16384x4x64, .f32⟩
  | 2 => ⟨S256, .f32⟩
  | 3 => ⟨S4x128x128, .f32⟩
  | 4 => ⟨S4x128, .f32⟩
  | 5 => ⟨S3x256, .f32⟩
  | 6 => ⟨S31x256, .f32⟩
  | 7 => ⟨S256, .f32⟩
  | 8 => ⟨S256, .f32⟩
  | 9 => ⟨S16384x1024, .f32⟩
  | 10 => ⟨S16384x256, .f32⟩
  | 11 => ⟨S16384x256, .f32⟩
  | 12 => ⟨S16384x256, .f32⟩
  | 13 => ⟨S_, .f32⟩
  | 14 => ⟨S2x256, .f32⟩
  | 15 => ⟨S16386x256, .f32⟩
  | 16 => ⟨S_, .f32⟩
  | 17 => ⟨S16384x256, .f32⟩
  | 18 => ⟨S1x256, .f32⟩
  | 19 => ⟨S256, .f32⟩
  | 20 => ⟨S16384x256, .f32⟩
  | 21 => ⟨S1x256, .f32⟩
  | 22 => ⟨S16384x256, .f32⟩
  | 23 => ⟨S16384x256, .f32⟩
  | 24 => ⟨S16384x256, .f32⟩
  | 25 => ⟨S1x256, .f32⟩
  | 26 => ⟨S256, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S1x256, .f32⟩
  | 33 => ⟨S256, .f32⟩
  | 34 => ⟨S16384x256, .f32⟩
  | 35 => ⟨S1x256, .f32⟩
  | 36 => ⟨S16384x256, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S_, .f32⟩
  | 47 => ⟨S16384x256, .f32⟩
  | 48 => ⟨S16384x256, .f32⟩
  | 49 => ⟨S16384x256, .f32⟩
  | 50 => ⟨S_, .f32⟩
  | 51 => ⟨S30x256, .f32⟩
  | 52 => ⟨S16414x256, .f32⟩
  | 53 => ⟨S_, .f32⟩
  | 54 => ⟨S16384x256, .f32⟩
  | 55 => ⟨S1x256, .f32⟩
  | 56 => ⟨S256, .f32⟩
  | 57 => ⟨S16384x256, .f32⟩
  | 58 => ⟨S1x256, .f32⟩
  | 59 => ⟨S16384x256, .f32⟩
  | 60 => ⟨S16384x256, .f32⟩
  | 61 => ⟨S16384x256, .f32⟩
  | 62 => ⟨S1x256, .f32⟩
  | 63 => ⟨S256, .f32⟩
  | 64 => ⟨S16384x256, .f32⟩
  | 65 => ⟨S1x256, .f32⟩
  | 66 => ⟨S16384x256, .f32⟩
  | 67 => ⟨S16384x256, .f32⟩
  | 68 => ⟨S16384x256, .f32⟩
  | 69 => ⟨S1x256, .f32⟩
  | 70 => ⟨S256, .f32⟩
  | 71 => ⟨S16384x256, .f32⟩
  | 72 => ⟨S1x256, .f32⟩
  | 73 => ⟨S16384x256, .f32⟩
  | 74 => ⟨S16384x256, .f32⟩
  | 75 => ⟨S16384x256, .f32⟩
  | 76 => ⟨S1x256, .f32⟩
  | 77 => ⟨S256, .f32⟩
  | 78 => ⟨S16384x256, .f32⟩
  | 79 => ⟨S1x256, .f32⟩
  | 80 => ⟨S16384x256, .f32⟩
  | 81 => ⟨S16384x256, .f32⟩
  | 82 => ⟨S16384x256, .f32⟩
  | 83 => ⟨S1x256, .f32⟩
  | 84 => ⟨S256, .f32⟩
  | 85 => ⟨S16384x256, .f32⟩
  | 86 => ⟨S1x256, .f32⟩
  | 87 => ⟨S16384x256, .f32⟩
  | 88 => ⟨S16384x256, .f32⟩
  | 89 => ⟨S16384x256, .f32⟩
  | 90 => ⟨S1x256, .f32⟩
  | 91 => ⟨S256, .f32⟩
  | 92 => ⟨S16384x256, .f32⟩
  | 93 => ⟨S1x256, .f32⟩
  | 94 => ⟨S16384x256, .f32⟩
  | 95 => ⟨S16384x256, .f32⟩
  | 96 => ⟨S16384x256, .f32⟩
  | 97 => ⟨S1x256, .f32⟩
  | 98 => ⟨S256, .f32⟩
  | 99 => ⟨S16384x256, .f32⟩
  | 100 => ⟨S1x256, .f32⟩
  | 101 => ⟨S16384x256, .f32⟩
  | 102 => ⟨S16384x256, .f32⟩
  | 103 => ⟨S16384x256, .f32⟩
  | 104 => ⟨S1x256, .f32⟩
  | 105 => ⟨S256, .f32⟩
  | 106 => ⟨S16384x256, .f32⟩
  | 107 => ⟨S1x256, .f32⟩
  | 108 => ⟨S16384x256, .f32⟩
  | 109 => ⟨S16384x256, .f32⟩
  | 110 => ⟨S16384x256, .f32⟩
  | 111 => ⟨S1x256, .f32⟩
  | 112 => ⟨S256, .f32⟩
  | 113 => ⟨S16384x256, .f32⟩
  | 114 => ⟨S1x256, .f32⟩
  | 115 => ⟨S16384x256, .f32⟩
  | 116 => ⟨S16384x256, .f32⟩
  | 117 => ⟨S16384x256, .f32⟩
  | 118 => ⟨S1x256, .f32⟩
  | 119 => ⟨S256, .f32⟩
  | 120 => ⟨S16384x256, .f32⟩
  | 121 => ⟨S1x256, .f32⟩
  | 122 => ⟨S16384x256, .f32⟩
  | 123 => ⟨S16384x256, .f32⟩
  | 124 => ⟨S16384x256, .f32⟩
  | 125 => ⟨S1x256, .f32⟩
  | 126 => ⟨S256, .f32⟩
  | 127 => ⟨S16384x256, .f32⟩
  | _ => ⟨S16384x2560, .f32⟩

abbrev hbmTy0_1 (i : Nat) : BufTy := match i % 128 with
  | 0 => ⟨S1x256, .f32⟩
  | 1 => ⟨S16384x256, .f32⟩
  | 2 => ⟨S16384x256, .f32⟩
  | 3 => ⟨S16384x256, .f32⟩
  | 4 => ⟨S1x256, .f32⟩
  | 5 => ⟨S256, .f32⟩
  | 6 => ⟨S16384x256, .f32⟩
  | 7 => ⟨S1x256, .f32⟩
  | 8 => ⟨S16384x256, .f32⟩
  | 9 => ⟨S16384x256, .f32⟩
  | 10 => ⟨S16384x256, .f32⟩
  | 11 => ⟨S1x256, .f32⟩
  | 12 => ⟨S256, .f32⟩
  | 13 => ⟨S16384x256, .f32⟩
  | 14 => ⟨S1x256, .f32⟩
  | 15 => ⟨S16384x256, .f32⟩
  | 16 => ⟨S16384x256, .f32⟩
  | 17 => ⟨S16384x256, .f32⟩
  | 18 => ⟨S1x256, .f32⟩
  | 19 => ⟨S256, .f32⟩
  | 20 => ⟨S16384x256, .f32⟩
  | 21 => ⟨S1x256, .f32⟩
  | 22 => ⟨S16384x256, .f32⟩
  | 23 => ⟨S16384x256, .f32⟩
  | 24 => ⟨S16384x256, .f32⟩
  | 25 => ⟨S1x256, .f32⟩
  | 26 => ⟨S256, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S1x256, .f32⟩
  | 33 => ⟨S256, .f32⟩
  | 34 => ⟨S16384x256, .f32⟩
  | 35 => ⟨S1x256, .f32⟩
  | 36 => ⟨S16384x256, .f32⟩
  | 37 => ⟨S16384x256, .f32⟩
  | 38 => ⟨S16384x256, .f32⟩
  | 39 => ⟨S1x256, .f32⟩
  | 40 => ⟨S256, .f32⟩
  | 41 => ⟨S16384x256, .f32⟩
  | 42 => ⟨S1x256, .f32⟩
  | 43 => ⟨S16384x256, .f32⟩
  | 44 => ⟨S16384x256, .f32⟩
  | 45 => ⟨S16384x256, .f32⟩
  | 46 => ⟨S1x256, .f32⟩
  | 47 => ⟨S256, .f32⟩
  | 48 => ⟨S16384x256, .f32⟩
  | 49 => ⟨S1x256, .f32⟩
  | 50 => ⟨S16384x256, .f32⟩
  | 51 => ⟨S16384x256, .f32⟩
  | 52 => ⟨S16384x256, .f32⟩
  | 53 => ⟨S1x256, .f32⟩
  | 54 => ⟨S256, .f32⟩
  | 55 => ⟨S16384x256, .f32⟩
  | 56 => ⟨S1x256, .f32⟩
  | 57 => ⟨S16384x256, .f32⟩
  | 58 => ⟨S16384x256, .f32⟩
  | 59 => ⟨S16384x256, .f32⟩
  | 60 => ⟨S1x256, .f32⟩
  | 61 => ⟨S256, .f32⟩
  | 62 => ⟨S16384x256, .f32⟩
  | 63 => ⟨S1x256, .f32⟩
  | 64 => ⟨S16384x256, .f32⟩
  | 65 => ⟨S16384x256, .f32⟩
  | 66 => ⟨S16384x256, .f32⟩
  | 67 => ⟨S1x256, .f32⟩
  | 68 => ⟨S256, .f32⟩
  | 69 => ⟨S16384x256, .f32⟩
  | 70 => ⟨S1x256, .f32⟩
  | 71 => ⟨S16384x256, .f32⟩
  | 72 => ⟨S16384x256, .f32⟩
  | 73 => ⟨S16384x256, .f32⟩
  | 74 => ⟨S1x256, .f32⟩
  | 75 => ⟨S256, .f32⟩
  | 76 => ⟨S16384x256, .f32⟩
  | 77 => ⟨S1x256, .f32⟩
  | 78 => ⟨S16384x256, .f32⟩
  | 79 => ⟨S16384x256, .f32⟩
  | 80 => ⟨S16384x256, .f32⟩
  | 81 => ⟨S1x256, .f32⟩
  | 82 => ⟨S256, .f32⟩
  | 83 => ⟨S16384x256, .f32⟩
  | 84 => ⟨S1x256, .f32⟩
  | 85 => ⟨S16384x256, .f32⟩
  | 86 => ⟨S16384x256, .f32⟩
  | 87 => ⟨S16384x256, .f32⟩
  | 88 => ⟨S1x256, .f32⟩
  | 89 => ⟨S256, .f32⟩
  | 90 => ⟨S16384x256, .f32⟩
  | 91 => ⟨S1x256, .f32⟩
  | 92 => ⟨S16384x256, .f32⟩
  | 93 => ⟨S16384x256, .f32⟩
  | 94 => ⟨S16384x256, .f32⟩
  | 95 => ⟨S1x256, .f32⟩
  | 96 => ⟨S256, .f32⟩
  | 97 => ⟨S16384x256, .f32⟩
  | 98 => ⟨S1x256, .f32⟩
  | 99 => ⟨S16384x256, .f32⟩
  | 100 => ⟨S16384x256, .f32⟩
  | 101 => ⟨S16384x256, .f32⟩
  | 102 => ⟨S1x256, .f32⟩
  | 103 => ⟨S256, .f32⟩
  | 104 => ⟨S16384x256, .f32⟩
  | 105 => ⟨S1x256, .f32⟩
  | 106 => ⟨S16384x256, .f32⟩
  | 107 => ⟨S16384x256, .f32⟩
  | 108 => ⟨S16384x256, .f32⟩
  | 109 => ⟨S1x256, .f32⟩
  | 110 => ⟨S256, .f32⟩
  | 111 => ⟨S16384x256, .f32⟩
  | 112 => ⟨S1x256, .f32⟩
  | 113 => ⟨S16384x256, .f32⟩
  | 114 => ⟨S16384x256, .f32⟩
  | 115 => ⟨S16384x256, .f32⟩
  | 116 => ⟨S1x256, .f32⟩
  | 117 => ⟨S256, .f32⟩
  | 118 => ⟨S16384x256, .f32⟩
  | 119 => ⟨S1x256, .f32⟩
  | 120 => ⟨S16384x256, .f32⟩
  | 121 => ⟨S16384x256, .f32⟩
  | 122 => ⟨S16384x256, .f32⟩
  | 123 => ⟨S1x256, .f32⟩
  | 124 => ⟨S256, .f32⟩
  | 125 => ⟨S16384x256, .f32⟩
  | 126 => ⟨S1x256, .f32⟩
  | 127 => ⟨S16384x256, .f32⟩
  | _ => ⟨S16384x2560, .f32⟩

abbrev hbmTy0_2 (i : Nat) : BufTy := match i % 128 with
  | 0 => ⟨S16384x256, .f32⟩
  | 1 => ⟨S16384x256, .f32⟩
  | 2 => ⟨S1x256, .f32⟩
  | 3 => ⟨S256, .f32⟩
  | 4 => ⟨S16384x256, .f32⟩
  | 5 => ⟨S1x256, .f32⟩
  | 6 => ⟨S16384x256, .f32⟩
  | 7 => ⟨S16384x256, .f32⟩
  | 8 => ⟨S16384x256, .f32⟩
  | 9 => ⟨S1x256, .f32⟩
  | 10 => ⟨S256, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S16384x256, .f32⟩
  | 17 => ⟨S16384x256, .f32⟩
  | 18 => ⟨S16384x256, .f32⟩
  | 19 => ⟨S_, .f32⟩
  | 20 => ⟨S16384, .f32⟩
  | 21 => ⟨S16384x1, .f32⟩
  | 22 => ⟨S_, .f32⟩
  | 23 => ⟨S16384x1, .f32⟩
  | 24 => ⟨S16384x1, .f32⟩
  | 25 => ⟨S16384x256, .f32⟩
  | 26 => ⟨S16384x256, .f32⟩
  | 27 => ⟨S16384x256, .f32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S_, .f32⟩
  | 35 => ⟨S16384x1, .f32⟩
  | 36 => ⟨S16384x1, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x256, .f32⟩
  | 43 => ⟨S16384x256, .f32⟩
  | 44 => ⟨S1x256, .f32⟩
  | 45 => ⟨S16384x256, .f32⟩
  | 46 => ⟨S16384x256, .f32⟩
  | 47 => ⟨S1x256, .f32⟩
  | 48 => ⟨S16384x256, .f32⟩
  | 49 => ⟨S16384x256, .f32⟩
  | 50 => ⟨S16384x256, .f32⟩
  | 51 => ⟨S16384x256, .f32⟩
  | 52 => ⟨S_, .f32⟩
  | 53 => ⟨S16384x256, .f32⟩
  | 54 => ⟨S16384x256, .f32⟩
  | 55 => ⟨S_, .f32⟩
  | 56 => ⟨S16384x256, .f32⟩
  | 57 => ⟨S16384x256, .f32⟩
  | 58 => ⟨S_, .f32⟩
  | 59 => ⟨S16384x256, .f32⟩
  | 60 => ⟨S16384x256, .f32⟩
  | 61 => ⟨S16384x256, .f32⟩
  | 62 => ⟨S16384x256, .f32⟩
  | 63 => ⟨S16384x256, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x256, .f32⟩
  | 79 => ⟨S16384x256, .f32⟩
  | 80 => ⟨S16384x256, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x1, .f32⟩
  | 91 => ⟨S16384x1, .f32⟩
  | 92 => ⟨S_, .f32⟩
  | 93 => ⟨S16384x1, .f32⟩
  | 94 => ⟨S16384x1, .f32⟩
  | 95 => ⟨S16384x256, .f32⟩
  | 96 => ⟨S16384x256, .f32⟩
  | 97 => ⟨S16384x256, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384x1, .f32⟩
  | 106 => ⟨S16384x1, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S16384x256, .f32⟩
  | 113 => ⟨S16384x256, .f32⟩
  | 114 => ⟨S16384x768, .f32⟩
  | 115 => ⟨S16384x768, .f32⟩
  | 116 => ⟨S16384x256, .f32⟩
  | 117 => ⟨S16384x256, .f32⟩
  | 118 => ⟨S16384x256, .f32⟩
  | 119 => ⟨S16384x256, .f32⟩
  | 120 => ⟨S_, .f32⟩
  | 121 => ⟨S16384, .f32⟩
  | 122 => ⟨S16384x1, .f32⟩
  | 123 => ⟨S16384x256, .f32⟩
  | 124 => ⟨S16384x256, .f32⟩
  | 125 => ⟨S16384x1, .f32⟩
  | 126 => ⟨S_, .f32⟩
  | 127 => ⟨S16384x1, .f32⟩
  | _ => ⟨S16384x2560, .f32⟩

abbrev hbmTy0_3 (i : Nat) : BufTy := match i % 128 with
  | 0 => ⟨S16384x1, .f32⟩
  | 1 => ⟨S_, .f32⟩
  | 2 => ⟨S16384, .f32⟩
  | 3 => ⟨S16384x256, .f32⟩
  | 4 => ⟨S16384x256, .f32⟩
  | 5 => ⟨S16384x256, .f32⟩
  | 6 => ⟨S16384x256, .f32⟩
  | 7 => ⟨S16384x256, .f32⟩
  | 8 => ⟨S16384x256, .f32⟩
  | 9 => ⟨S_, .f32⟩
  | 10 => ⟨S16384, .f32⟩
  | 11 => ⟨S16384x1, .f32⟩
  | 12 => ⟨S16384x256, .f32⟩
  | 13 => ⟨S16384x256, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384, .f32⟩
  | 20 => ⟨S16384x256, .f32⟩
  | 21 => ⟨S16384x256, .f32⟩
  | 22 => ⟨S16384x256, .f32⟩
  | 23 => ⟨S16384x256, .f32⟩
  | 24 => ⟨S16384x256, .f32⟩
  | 25 => ⟨S16384x256, .f32⟩
  | 26 => ⟨S_, .f32⟩
  | 27 => ⟨S16384, .f32⟩
  | 28 => ⟨S16384x1, .f32⟩
  | 29 => ⟨S16384x256, .f32⟩
  | 30 => ⟨S16384x256, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S16384x256, .f32⟩
  | 43 => ⟨S16384x256, .f32⟩
  | 44 => ⟨S16384x256, .f32⟩
  | 45 => ⟨S16384x256, .f32⟩
  | 46 => ⟨S_, .f32⟩
  | 47 => ⟨S256, .f32⟩
  | 48 => ⟨S1x256, .f32⟩
  | 49 => ⟨S_, .f32⟩
  | 50 => ⟨S256, .f32⟩
  | 51 => ⟨S16384x256, .f32⟩
  | 52 => ⟨S_, .f32⟩
  | 53 => ⟨S256, .f32⟩
  | 54 => ⟨S1x256, .f32⟩
  | 55 => ⟨S16384x256, .f32⟩
  | 56 => ⟨S16384x256, .f32⟩
  | 57 => ⟨S_, .f32⟩
  | 58 => ⟨S256, .f32⟩
  | 59 => ⟨S16384x256, .f32⟩
  | 60 => ⟨S_, .f32⟩
  | 61 => ⟨S16384, .f32⟩
  | 62 => ⟨S16384x1, .f32⟩
  | 63 => ⟨S16384x256, .f32⟩
  | 64 => ⟨S16384x256, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384, .f32⟩
  | 71 => ⟨S16384x256, .f32⟩
  | 72 => ⟨S16384x256, .f32⟩
  | 73 => ⟨S16384x256, .f32⟩
  | 74 => ⟨S16384x256, .f32⟩
  | 75 => ⟨S16384x256, .f32⟩
  | 76 => ⟨S16384x256, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S_, .f32⟩
  | 84 => ⟨S16384, .f32⟩
  | 85 => ⟨S16384x256, .f32⟩
  | 86 => ⟨S16384x256, .f32⟩
  | 87 => ⟨S16384x256, .f32⟩
  | 88 => ⟨S16384x4x64, .f32⟩
  | 89 => ⟨S16384x256, .f32⟩
  | 90 => ⟨S_, .f32⟩
  | 91 => ⟨S256, .f32⟩
  | 92 => ⟨S1x256, .f32⟩
  | 93 => ⟨S_, .f32⟩
  | 94 => ⟨S256, .f32⟩
  | 95 => ⟨S1x256, .f32⟩
  | 96 => ⟨S_, .f32⟩
  | 97 => ⟨S3x256, .f32⟩
  | 98 => ⟨S16384x256, .f32⟩
  | 99 => ⟨S_, .f32⟩
  | 100 => ⟨S256, .f32⟩
  | 101 => ⟨S1x256, .f32⟩
  | 102 => ⟨S_, .f32⟩
  | 103 => ⟨S256, .f32⟩
  | 104 => ⟨S1x256, .f32⟩
  | 105 => ⟨S_, .f32⟩
  | 106 => ⟨S3x256, .f32⟩
  | 107 => ⟨S3x256, .f32⟩
  | 108 => ⟨S16384x256, .f32⟩
  | 109 => ⟨S_, .f32⟩
  | 110 => ⟨S256, .f32⟩
  | 111 => ⟨S1x256, .f32⟩
  | 112 => ⟨S_, .f32⟩
  | 113 => ⟨S256, .f32⟩
  | 114 => ⟨S1x256, .f32⟩
  | 115 => ⟨S_, .f32⟩
  | 116 => ⟨S3x256, .f32⟩
  | 117 => ⟨S3x256, .f32⟩
  | 118 => ⟨S16384x256, .f32⟩
  | 119 => ⟨S_, .f32⟩
  | 120 => ⟨S256, .f32⟩
  | 121 => ⟨S1x256, .f32⟩
  | 122 => ⟨S_, .f32⟩
  | 123 => ⟨S256, .f32⟩
  | 124 => ⟨S1x256, .f32⟩
  | 125 => ⟨S_, .f32⟩
  | 126 => ⟨S31x256, .f32⟩
  | 127 => ⟨S16384x256, .f32⟩
  | _ => ⟨S16384x2560, .f32⟩

abbrev hbmTy0_4 (i : Nat) : BufTy := match i % 128 with
  | 0 => ⟨S_, .f32⟩
  | 1 => ⟨S256, .f32⟩
  | 2 => ⟨S1x256, .f32⟩
  | 3 => ⟨S_, .f32⟩
  | 4 => ⟨S256, .f32⟩
  | 5 => ⟨S1x256, .f32⟩
  | 6 => ⟨S_, .f32⟩
  | 7 => ⟨S31x256, .f32⟩
  | 8 => ⟨S31x256, .f32⟩
  | 9 => ⟨S16384x256, .f32⟩
  | 10 => ⟨S_, .f32⟩
  | 11 => ⟨S256, .f32⟩
  | 12 => ⟨S1x256, .f32⟩
  | 13 => ⟨S_, .f32⟩
  | 14 => ⟨S256, .f32⟩
  | 15 => ⟨S1x256, .f32⟩
  | 16 => ⟨S_, .f32⟩
  | 17 => ⟨S31x256, .f32⟩
  | 18 => ⟨S31x256, .f32⟩
  | 19 => ⟨S16384x256, .f32⟩
  | 20 => ⟨S_, .f32⟩
  | 21 => ⟨S256, .f32⟩
  | 22 => ⟨S1x256, .f32⟩
  | 23 => ⟨S_, .f32⟩
  | 24 => ⟨S256, .f32⟩
  | 25 => ⟨S1x256, .f32⟩
  | 26 => ⟨S_, .f32⟩
  | 27 => ⟨S31x256, .f32⟩
  | 28 => ⟨S31x256, .f32⟩
  | 29 => ⟨S16384x256, .f32⟩
  | 30 => ⟨S_, .f32⟩
  | 31 => ⟨S256, .f32⟩
  | 32 => ⟨S1x256, .f32⟩
  | 33 => ⟨S_, .f32⟩
  | 34 => ⟨S256, .f32⟩
  | 35 => ⟨S1x256, .f32⟩
  | 36 => ⟨S_, .f32⟩
  | 37 => ⟨S31x256, .f32⟩
  | 38 => ⟨S31x256, .f32⟩
  | 39 => ⟨S16384x256, .f32⟩
  | 40 => ⟨S_, .f32⟩
  | 41 => ⟨S256, .f32⟩
  | 42 => ⟨S1x256, .f32⟩
  | 43 => ⟨S_, .f32⟩
  | 44 => ⟨S256, .f32⟩
  | 45 => ⟨S1x256, .f32⟩
  | 46 => ⟨S_, .f32⟩
  | 47 => ⟨S31x256, .f32⟩
  | 48 => ⟨S31x256, .f32⟩
  | 49 => ⟨S16384x256, .f32⟩
  | 50 => ⟨S_, .f32⟩
  | 51 => ⟨S256, .f32⟩
  | 52 => ⟨S1x256, .f32⟩
  | 53 => ⟨S_, .f32⟩
  | 54 => ⟨S256, .f32⟩
  | 55 => ⟨S1x256, .f32⟩
  | 56 => ⟨S_, .f32⟩
  | 57 => ⟨S31x256, .f32⟩
  | 58 => ⟨S31x256, .f32⟩
  | 59 => ⟨S16384x256, .f32⟩
  | 60 => ⟨S_, .f32⟩
  | 61 => ⟨S256, .f32⟩
  | 62 => ⟨S1x256, .f32⟩
  | 63 => ⟨S_, .f32⟩
  | 64 => ⟨S256, .f32⟩
  | 65 => ⟨S1x256, .f32⟩
  | 66 => ⟨S_, .f32⟩
  | 67 => ⟨S31x256, .f32⟩
  | 68 => ⟨S31x256, .f32⟩
  | 69 => ⟨S16384x256, .f32⟩
  | 70 => ⟨S_, .f32⟩
  | 71 => ⟨S256, .f32⟩
  | 72 => ⟨S1x256, .f32⟩
  | 73 => ⟨S_, .f32⟩
  | 74 => ⟨S256, .f32⟩
  | 75 => ⟨S1x256, .f32⟩
  | 76 => ⟨S_, .f32⟩
  | 77 => ⟨S31x256, .f32⟩
  | 78 => ⟨S31x256, .f32⟩
  | 79 => ⟨S16384x256, .f32⟩
  | 80 => ⟨S_, .f32⟩
  | 81 => ⟨S256, .f32⟩
  | 82 => ⟨S1x256, .f32⟩
  | 83 => ⟨S_, .f32⟩
  | 84 => ⟨S256, .f32⟩
  | 85 => ⟨S1x256, .f32⟩
  | 86 => ⟨S_, .f32⟩
  | 87 => ⟨S31x256, .f32⟩
  | 88 => ⟨S31x256, .f32⟩
  | 89 => ⟨S16384x256, .f32⟩
  | 90 => ⟨S_, .f32⟩
  | 91 => ⟨S256, .f32⟩
  | 92 => ⟨S1x256, .f32⟩
  | 93 => ⟨S_, .f32⟩
  | 94 => ⟨S256, .f32⟩
  | 95 => ⟨S1x256, .f32⟩
  | 96 => ⟨S_, .f32⟩
  | 97 => ⟨S31x256, .f32⟩
  | 98 => ⟨S31x256, .f32⟩
  | 99 => ⟨S16384x256, .f32⟩
  | 100 => ⟨S_, .f32⟩
  | 101 => ⟨S256, .f32⟩
  | 102 => ⟨S1x256, .f32⟩
  | 103 => ⟨S_, .f32⟩
  | 104 => ⟨S256, .f32⟩
  | 105 => ⟨S1x256, .f32⟩
  | 106 => ⟨S_, .f32⟩
  | 107 => ⟨S31x256, .f32⟩
  | 108 => ⟨S31x256, .f32⟩
  | 109 => ⟨S16384x256, .f32⟩
  | 110 => ⟨S_, .f32⟩
  | 111 => ⟨S256, .f32⟩
  | 112 => ⟨S1x256, .f32⟩
  | 113 => ⟨S_, .f32⟩
  | 114 => ⟨S256, .f32⟩
  | 115 => ⟨S1x256, .f32⟩
  | 116 => ⟨S_, .f32⟩
  | 117 => ⟨S31x256, .f32⟩
  | 118 => ⟨S31x256, .f32⟩
  | 119 => ⟨S16384x256, .f32⟩
  | 120 => ⟨S_, .f32⟩
  | 121 => ⟨S256, .f32⟩
  | 122 => ⟨S1x256, .f32⟩
  | 123 => ⟨S_, .f32⟩
  | 124 => ⟨S256, .f32⟩
  | 125 => ⟨S1x256, .f32⟩
  | 126 => ⟨S_, .f32⟩
  | 127 => ⟨S31x256, .f32⟩
  | _ => ⟨S16384x2560, .f32⟩

abbrev hbmTy0_5 (i : Nat) : BufTy := match i % 128 with
  | 0 => ⟨S31x256, .f32⟩
  | 1 => ⟨S16384x256, .f32⟩
  | 2 => ⟨S_, .f32⟩
  | 3 => ⟨S256, .f32⟩
  | 4 => ⟨S1x256, .f32⟩
  | 5 => ⟨S_, .f32⟩
  | 6 => ⟨S256, .f32⟩
  | 7 => ⟨S1x256, .f32⟩
  | 8 => ⟨S_, .f32⟩
  | 9 => ⟨S31x256, .f32⟩
  | 10 => ⟨S31x256, .f32⟩
  | 11 => ⟨S16384x256, .f32⟩
  | 12 => ⟨S_, .f32⟩
  | 13 => ⟨S256, .f32⟩
  | 14 => ⟨S1x256, .f32⟩
  | 15 => ⟨S_, .f32⟩
  | 16 => ⟨S256, .f32⟩
  | 17 => ⟨S1x256, .f32⟩
  | 18 => ⟨S_, .f32⟩
  | 19 => ⟨S31x256, .f32⟩
  | 20 => ⟨S31x256, .f32⟩
  | 21 => ⟨S16384x256, .f32⟩
  | 22 => ⟨S_, .f32⟩
  | 23 => ⟨S256, .f32⟩
  | 24 => ⟨S1x256, .f32⟩
  | 25 => ⟨S_, .f32⟩
  | 26 => ⟨S256, .f32⟩
  | 27 => ⟨S1x256, .f32⟩
  | 28 => ⟨S_, .f32⟩
  | 29 => ⟨S31x256, .f32⟩
  | 30 => ⟨S31x256, .f32⟩
  | 31 => ⟨S16384x256, .f32⟩
  | 32 => ⟨S_, .f32⟩
  | 33 => ⟨S256, .f32⟩
  | 34 => ⟨S1x256, .f32⟩
  | 35 => ⟨S_, .f32⟩
  | 36 => ⟨S256, .f32⟩
  | 37 => ⟨S1x256, .f32⟩
  | 38 => ⟨S_, .f32⟩
  | 39 => ⟨S31x256, .f32⟩
  | 40 => ⟨S31x256, .f32⟩
  | 41 => ⟨S16384x256, .f32⟩
  | 42 => ⟨S_, .f32⟩
  | 43 => ⟨S256, .f32⟩
  | 44 => ⟨S1x256, .f32⟩
  | 45 => ⟨S_, .f32⟩
  | 46 => ⟨S256, .f32⟩
  | 47 => ⟨S1x256, .f32⟩
  | 48 => ⟨S_, .f32⟩
  | 49 => ⟨S31x256, .f32⟩
  | 50 => ⟨S31x256, .f32⟩
  | 51 => ⟨S16384x256, .f32⟩
  | 52 => ⟨S_, .f32⟩
  | 53 => ⟨S256, .f32⟩
  | 54 => ⟨S1x256, .f32⟩
  | 55 => ⟨S_, .f32⟩
  | 56 => ⟨S256, .f32⟩
  | 57 => ⟨S1x256, .f32⟩
  | 58 => ⟨S_, .f32⟩
  | 59 => ⟨S31x256, .f32⟩
  | 60 => ⟨S31x256, .f32⟩
  | 61 => ⟨S16384x256, .f32⟩
  | 62 => ⟨S_, .f32⟩
  | 63 => ⟨S256, .f32⟩
  | 64 => ⟨S1x256, .f32⟩
  | 65 => ⟨S_, .f32⟩
  | 66 => ⟨S256, .f32⟩
  | 67 => ⟨S1x256, .f32⟩
  | 68 => ⟨S_, .f32⟩
  | 69 => ⟨S31x256, .f32⟩
  | 70 => ⟨S31x256, .f32⟩
  | 71 => ⟨S16384x256, .f32⟩
  | 72 => ⟨S_, .f32⟩
  | 73 => ⟨S256, .f32⟩
  | 74 => ⟨S1x256, .f32⟩
  | 75 => ⟨S_, .f32⟩
  | 76 => ⟨S256, .f32⟩
  | 77 => ⟨S1x256, .f32⟩
  | 78 => ⟨S_, .f32⟩
  | 79 => ⟨S31x256, .f32⟩
  | 80 => ⟨S31x256, .f32⟩
  | 81 => ⟨S16384x256, .f32⟩
  | 82 => ⟨S_, .f32⟩
  | 83 => ⟨S256, .f32⟩
  | 84 => ⟨S1x256, .f32⟩
  | 85 => ⟨S_, .f32⟩
  | 86 => ⟨S256, .f32⟩
  | 87 => ⟨S1x256, .f32⟩
  | 88 => ⟨S_, .f32⟩
  | 89 => ⟨S31x256, .f32⟩
  | 90 => ⟨S31x256, .f32⟩
  | 91 => ⟨S16384x256, .f32⟩
  | 92 => ⟨S_, .f32⟩
  | 93 => ⟨S256, .f32⟩
  | 94 => ⟨S1x256, .f32⟩
  | 95 => ⟨S_, .f32⟩
  | 96 => ⟨S256, .f32⟩
  | 97 => ⟨S1x256, .f32⟩
  | 98 => ⟨S_, .f32⟩
  | 99 => ⟨S31x256, .f32⟩
  | 100 => ⟨S31x256, .f32⟩
  | 101 => ⟨S16384x256, .f32⟩
  | 102 => ⟨S_, .f32⟩
  | 103 => ⟨S256, .f32⟩
  | 104 => ⟨S1x256, .f32⟩
  | 105 => ⟨S_, .f32⟩
  | 106 => ⟨S256, .f32⟩
  | 107 => ⟨S1x256, .f32⟩
  | 108 => ⟨S_, .f32⟩
  | 109 => ⟨S31x256, .f32⟩
  | 110 => ⟨S31x256, .f32⟩
  | 111 => ⟨S16384x256, .f32⟩
  | 112 => ⟨S_, .f32⟩
  | 113 => ⟨S256, .f32⟩
  | 114 => ⟨S1x256, .f32⟩
  | 115 => ⟨S_, .f32⟩
  | 116 => ⟨S256, .f32⟩
  | 117 => ⟨S1x256, .f32⟩
  | 118 => ⟨S_, .f32⟩
  | 119 => ⟨S31x256, .f32⟩
  | 120 => ⟨S31x256, .f32⟩
  | 121 => ⟨S16384x256, .f32⟩
  | 122 => ⟨S_, .f32⟩
  | 123 => ⟨S256, .f32⟩
  | 124 => ⟨S1x256, .f32⟩
  | 125 => ⟨S_, .f32⟩
  | 126 => ⟨S256, .f32⟩
  | 127 => ⟨S1x256, .f32⟩
  | _ => ⟨S16384x2560, .f32⟩

abbrev hbmTy0_6 (i : Nat) : BufTy := match i % 128 with
  | 0 => ⟨S_, .f32⟩
  | 1 => ⟨S31x256, .f32⟩
  | 2 => ⟨S31x256, .f32⟩
  | 3 => ⟨S16384x256, .f32⟩
  | 4 => ⟨S_, .f32⟩
  | 5 => ⟨S256, .f32⟩
  | 6 => ⟨S1x256, .f32⟩
  | 7 => ⟨S_, .f32⟩
  | 8 => ⟨S256, .f32⟩
  | 9 => ⟨S1x256, .f32⟩
  | 10 => ⟨S_, .f32⟩
  | 11 => ⟨S31x256, .f32⟩
  | 12 => ⟨S31x256, .f32⟩
  | 13 => ⟨S16384x256, .f32⟩
  | 14 => ⟨S_, .f32⟩
  | 15 => ⟨S256, .f32⟩
  | 16 => ⟨S1x256, .f32⟩
  | 17 => ⟨S_, .f32⟩
  | 18 => ⟨S256, .f32⟩
  | 19 => ⟨S1x256, .f32⟩
  | 20 => ⟨S_, .f32⟩
  | 21 => ⟨S31x256, .f32⟩
  | 22 => ⟨S31x256, .f32⟩
  | 23 => ⟨S16384x256, .f32⟩
  | 24 => ⟨S_, .f32⟩
  | 25 => ⟨S256, .f32⟩
  | 26 => ⟨S1x256, .f32⟩
  | 27 => ⟨S_, .f32⟩
  | 28 => ⟨S256, .f32⟩
  | 29 => ⟨S1x256, .f32⟩
  | 30 => ⟨S_, .f32⟩
  | 31 => ⟨S31x256, .f32⟩
  | 32 => ⟨S31x256, .f32⟩
  | 33 => ⟨S16384x256, .f32⟩
  | 34 => ⟨S_, .f32⟩
  | 35 => ⟨S256, .f32⟩
  | 36 => ⟨S1x256, .f32⟩
  | 37 => ⟨S_, .f32⟩
  | 38 => ⟨S256, .f32⟩
  | 39 => ⟨S1x256, .f32⟩
  | 40 => ⟨S_, .f32⟩
  | 41 => ⟨S31x256, .f32⟩
  | 42 => ⟨S31x256, .f32⟩
  | 43 => ⟨S4x16384x64, .f32⟩
  | 44 => ⟨S4x16384x64, .bf16⟩
  | 45 => ⟨S4x64x16384, .f32⟩
  | 46 => ⟨S4x64x16384, .bf16⟩
  | 47 => ⟨S16384x4x64, .f32⟩
  | 48 => ⟨S_, .f32⟩
  | 49 => ⟨S16384x4, .f32⟩
  | 50 => ⟨S4x16384, .f32⟩
  | 51 => ⟨S4x16384x1, .f32⟩
  | 52 => ⟨S_, .f32⟩
  | 53 => ⟨S5x256, .f32⟩
  | 54 => ⟨S8x256, .f32⟩
  | 55 => ⟨S_, .f32⟩
  | 56 => ⟨S1x256, .f32⟩
  | 57 => ⟨S32x256, .f32⟩
  | 58 => ⟨S1x256, .f32⟩
  | 59 => ⟨S1x256, .f32⟩
  | _ => ⟨S16384x2560, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_cst_5 : Ref sig .tc := ⟨.hbm, 275, rfl⟩
abbrev main_v259 : Ref sig .tc := ⟨.hbm, 276, rfl⟩
abbrev main_v260 : Ref sig .tc := ⟨.hbm, 277, rfl⟩
abbrev main_cst_6 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_cst_7 : Ref sig .tc := ⟨.hbm, 284, rfl⟩
abbrev main_v266 : Ref sig .tc := ⟨.hbm, 285, rfl⟩
abbrev main_v267 : Ref sig .tc := ⟨.hbm, 286, rfl⟩
abbrev main_cst_8 : Ref sig .tc := ⟨.hbm, 287, rfl⟩
abbrev main_v268 : Ref sig .tc := ⟨.hbm, 288, rfl⟩
abbrev main_v269 : Ref sig .tc := ⟨.hbm, 289, rfl⟩
abbrev main_cst_9 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_cst_10 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_call0_v0 : Ref sig .tc := ⟨.hbm, 306, rfl⟩
abbrev main_call0_v1 : Ref sig .tc := ⟨.hbm, 307, rfl⟩
abbrev main_call0_cst : Ref sig .tc := ⟨.hbm, 308, rfl⟩
abbrev main_call0_v2 : Ref sig .tc := ⟨.hbm, 309, rfl⟩
abbrev main_call0_v3 : Ref sig .tc := ⟨.hbm, 310, rfl⟩
abbrev main_call0_cst_0 : Ref sig .tc := ⟨.hbm, 311, rfl⟩
abbrev main_call0_v4 : Ref sig .tc := ⟨.hbm, 312, rfl⟩
abbrev main_v284_2 : Ref sig .tc := ⟨.hbm, 313, rfl⟩
abbrev main_call0_cst_1 : Ref sig .tc := ⟨.hbm, 314, rfl⟩
abbrev main_call0_v6 : Ref sig .tc := ⟨.hbm, 315, rfl⟩
abbrev main_call0_v7 : Ref sig .tc := ⟨.hbm, 316, rfl⟩
abbrev main_v284_1 : Ref sig .tc := ⟨.hbm, 317, rfl⟩
abbrev main_v284_0 : Ref sig .tc := ⟨.hbm, 318, rfl⟩
abbrev main_v285 : Ref sig .tc := ⟨.hbm, 319, rfl⟩
abbrev main_cst_11 : Ref sig .tc := ⟨.hbm, 320, rfl⟩
abbrev main_v286 : Ref sig .tc := ⟨.hbm, 321, rfl⟩
abbrev main_v287 : Ref sig .tc := ⟨.hbm, 322, rfl⟩
abbrev main_cst_12 : Ref sig .tc := ⟨.hbm, 323, rfl⟩
abbrev main_v288 : Ref sig .tc := ⟨.hbm, 324, rfl⟩
abbrev main_v289 : Ref sig .tc := ⟨.hbm, 325, rfl⟩
abbrev main_cst_13 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_cst_14 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_cst_15 : Ref sig .tc := ⟨.hbm, 337, rfl⟩
abbrev main_v299 : Ref sig .tc := ⟨.hbm, 338, rfl⟩
abbrev main_v300 : Ref sig .tc := ⟨.hbm, 339, rfl⟩
abbrev main_cst_16 : Ref sig .tc := ⟨.hbm, 340, rfl⟩
abbrev main_v301 : Ref sig .tc := ⟨.hbm, 341, rfl⟩
abbrev main_v302 : Ref sig .tc := ⟨.hbm, 342, rfl⟩
abbrev main_cst_17 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_cst_18 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_cst_19 : Ref sig .tc := ⟨.hbm, 354, rfl⟩
abbrev main_v312 : Ref sig .tc := ⟨.hbm, 355, rfl⟩
abbrev main_v313 : Ref sig .tc := ⟨.hbm, 356, rfl⟩
abbrev main_cst_20 : Ref sig .tc := ⟨.hbm, 357, rfl⟩
abbrev main_v314 : Ref sig .tc := ⟨.hbm, 358, rfl⟩
abbrev main_v315 : Ref sig .tc := ⟨.hbm, 359, rfl⟩
abbrev main_cst_21 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_cst_22 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_cst_23 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_cst_24 : Ref sig .tc := ⟨.hbm, 382, rfl⟩
abbrev main_v335 : Ref sig .tc := ⟨.hbm, 383, rfl⟩
abbrev main_v336 : Ref sig .tc := ⟨.hbm, 384, rfl⟩
abbrev main_cst_25 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_cst_26 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_cst_27 : Ref sig .tc := ⟨.hbm, 399, rfl⟩
abbrev main_v349 : Ref sig .tc := ⟨.hbm, 400, rfl⟩
abbrev main_v350 : Ref sig .tc := ⟨.hbm, 401, rfl⟩
abbrev main_cst_28 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_cst_29 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_cst_30 : Ref sig .tc := ⟨.hbm, 416, rfl⟩
abbrev main_v363 : Ref sig .tc := ⟨.hbm, 417, rfl⟩
abbrev main_v364 : Ref sig .tc := ⟨.hbm, 418, rfl⟩
abbrev main_cst_31 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_v369 : Ref sig .tc := ⟨.hbm, 424, rfl⟩
abbrev main_v370 : Ref sig .tc := ⟨.hbm, 425, rfl⟩
abbrev main_call1_v0 : Ref sig .tc := ⟨.hbm, 426, rfl⟩
abbrev main_call1_v1 : Ref sig .tc := ⟨.hbm, 427, rfl⟩
abbrev main_call1_v2 : Ref sig .tc := ⟨.hbm, 428, rfl⟩
abbrev main_v371 : Ref sig .tc := ⟨.hbm, 429, rfl⟩
abbrev main_cst_32 : Ref sig .tc := ⟨.hbm, 430, rfl⟩
abbrev main_v372 : Ref sig .tc := ⟨.hbm, 431, rfl⟩
abbrev main_v373 : Ref sig .tc := ⟨.hbm, 432, rfl⟩
abbrev main_cst_33 : Ref sig .tc := ⟨.hbm, 433, rfl⟩
abbrev main_v374 : Ref sig .tc := ⟨.hbm, 434, rfl⟩
abbrev main_v375 : Ref sig .tc := ⟨.hbm, 435, rfl⟩
abbrev main_cst_34 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_cst_35 : Ref sig .tc := ⟨.hbm, 441, rfl⟩
abbrev main_v380 : Ref sig .tc := ⟨.hbm, 442, rfl⟩
abbrev main_v381 : Ref sig .tc := ⟨.hbm, 443, rfl⟩
abbrev main_cst_36 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_cst_37 : Ref sig .tc := ⟨.hbm, 450, rfl⟩
abbrev main_v387 : Ref sig .tc := ⟨.hbm, 451, rfl⟩
abbrev main_v388 : Ref sig .tc := ⟨.hbm, 452, rfl⟩
abbrev main_cst_38 : Ref sig .tc := ⟨.hbm, 453, rfl⟩
abbrev main_v389 : Ref sig .tc := ⟨.hbm, 454, rfl⟩
abbrev main_v390 : Ref sig .tc := ⟨.hbm, 455, rfl⟩
abbrev main_v391 : Ref sig .tc := ⟨.hbm, 456, rfl⟩
abbrev main_v392 : Ref sig .tc := ⟨.hbm, 457, rfl⟩
abbrev main_v393 : Ref sig .tc := ⟨.hbm, 458, rfl⟩
abbrev main_v394 : Ref sig .tc := ⟨.hbm, 459, rfl⟩
abbrev main_v395 : Ref sig .tc := ⟨.hbm, 460, rfl⟩
abbrev main_cst_39 : Ref sig .tc := ⟨.hbm, 461, rfl⟩
abbrev main_v396 : Ref sig .tc := ⟨.hbm, 462, rfl⟩
abbrev main_v397 : Ref sig .tc := ⟨.hbm, 463, rfl⟩
abbrev main_cst_40 : Ref sig .tc := ⟨.hbm, 464, rfl⟩
abbrev main_v398 : Ref sig .tc := ⟨.hbm, 465, rfl⟩
abbrev main_v399 : Ref sig .tc := ⟨.hbm, 466, rfl⟩
abbrev main_cst_41 : Ref sig .tc := ⟨.hbm, 467, rfl⟩
abbrev main_v400 : Ref sig .tc := ⟨.hbm, 468, rfl⟩
abbrev main_v401 : Ref sig .tc := ⟨.hbm, 469, rfl⟩
abbrev main_v402 : Ref sig .tc := ⟨.hbm, 470, rfl⟩
abbrev main_v403 : Ref sig .tc := ⟨.hbm, 471, rfl⟩
abbrev main_v404 : Ref sig .tc := ⟨.hbm, 472, rfl⟩
abbrev main_v405 : Ref sig .tc := ⟨.hbm, 473, rfl⟩
abbrev main_cst_42 : Ref sig .tc := ⟨.hbm, 474, rfl⟩
abbrev main_v406 : Ref sig .tc := ⟨.hbm, 475, rfl⟩
abbrev main_v407 : Ref sig .tc := ⟨.hbm, 476, rfl⟩
abbrev main_cst_43 : Ref sig .tc := ⟨.hbm, 477, rfl⟩
abbrev main_v408 : Ref sig .tc := ⟨.hbm, 478, rfl⟩
abbrev main_v409 : Ref sig .tc := ⟨.hbm, 479, rfl⟩
abbrev main_cst_44 : Ref sig .tc := ⟨.hbm, 480, rfl⟩
abbrev main_v410 : Ref sig .tc := ⟨.hbm, 481, rfl⟩
abbrev main_v411 : Ref sig .tc := ⟨.hbm, 482, rfl⟩
abbrev main_cst_45 : Ref sig .tc := ⟨.hbm, 483, rfl⟩
abbrev main_v412 : Ref sig .tc := ⟨.hbm, 484, rfl⟩
abbrev main_v413 : Ref sig .tc := ⟨.hbm, 485, rfl⟩
abbrev main_cst_46 : Ref sig .tc := ⟨.hbm, 486, rfl⟩
abbrev main_v414 : Ref sig .tc := ⟨.hbm, 487, rfl⟩
abbrev main_v415 : Ref sig .tc := ⟨.hbm, 488, rfl⟩
abbrev main_cst_47 : Ref sig .tc := ⟨.hbm, 489, rfl⟩
abbrev main_v416 : Ref sig .tc := ⟨.hbm, 490, rfl⟩
abbrev main_v417 : Ref sig .tc := ⟨.hbm, 491, rfl⟩
abbrev main_v418 : Ref sig .tc := ⟨.hbm, 492, rfl⟩
abbrev main_cst_48 : Ref sig .tc := ⟨.hbm, 493, rfl⟩
abbrev main_v419 : Ref sig .tc := ⟨.hbm, 494, rfl⟩
abbrev main_v420 : Ref sig .tc := ⟨.hbm, 495, rfl⟩
abbrev main_cst_49 : Ref sig .tc := ⟨.hbm, 496, rfl⟩
abbrev main_v421 : Ref sig .tc := ⟨.hbm, 497, rfl⟩
abbrev main_v422 : Ref sig .tc := ⟨.hbm, 498, rfl⟩
abbrev main_cst_50 : Ref sig .tc := ⟨.hbm, 499, rfl⟩
abbrev main_v423 : Ref sig .tc := ⟨.hbm, 500, rfl⟩
abbrev main_v424 : Ref sig .tc := ⟨.hbm, 501, rfl⟩
abbrev main_v425 : Ref sig .tc := ⟨.hbm, 502, rfl⟩
abbrev main_cst_51 : Ref sig .tc := ⟨.hbm, 503, rfl⟩
abbrev main_v426 : Ref sig .tc := ⟨.hbm, 504, rfl⟩
abbrev main_v427 : Ref sig .tc := ⟨.hbm, 505, rfl⟩
abbrev main_cst_52 : Ref sig .tc := ⟨.hbm, 506, rfl⟩
abbrev main_v428 : Ref sig .tc := ⟨.hbm, 507, rfl⟩
abbrev main_v429 : Ref sig .tc := ⟨.hbm, 508, rfl⟩
abbrev main_cst_53 : Ref sig .tc := ⟨.hbm, 509, rfl⟩
abbrev main_v430 : Ref sig .tc := ⟨.hbm, 510, rfl⟩
abbrev main_v431 : Ref sig .tc := ⟨.hbm, 511, rfl⟩
abbrev main_cst_54 : Ref sig .tc := ⟨.hbm, 512, rfl⟩
abbrev main_v432 : Ref sig .tc := ⟨.hbm, 513, rfl⟩
abbrev main_v433 : Ref sig .tc := ⟨.hbm, 514, rfl⟩
abbrev main_cst_55 : Ref sig .tc := ⟨.hbm, 515, rfl⟩
abbrev main_v434 : Ref sig .tc := ⟨.hbm, 516, rfl⟩
abbrev main_v435 : Ref sig .tc := ⟨.hbm, 517, rfl⟩
abbrev main_cst_56 : Ref sig .tc := ⟨.hbm, 518, rfl⟩
abbrev main_v436 : Ref sig .tc := ⟨.hbm, 519, rfl⟩
abbrev main_v437 : Ref sig .tc := ⟨.hbm, 520, rfl⟩
abbrev main_v438 : Ref sig .tc := ⟨.hbm, 521, rfl⟩
abbrev main_cst_57 : Ref sig .tc := ⟨.hbm, 522, rfl⟩
abbrev main_v439 : Ref sig .tc := ⟨.hbm, 523, rfl⟩
abbrev main_v440 : Ref sig .tc := ⟨.hbm, 524, rfl⟩
abbrev main_cst_58 : Ref sig .tc := ⟨.hbm, 525, rfl⟩
abbrev main_v441 : Ref sig .tc := ⟨.hbm, 526, rfl⟩
abbrev main_v442 : Ref sig .tc := ⟨.hbm, 527, rfl⟩
abbrev main_cst_59 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_cst_60 : Ref sig .tc := ⟨.hbm, 532, rfl⟩
abbrev main_v446 : Ref sig .tc := ⟨.hbm, 533, rfl⟩
abbrev main_v447 : Ref sig .tc := ⟨.hbm, 534, rfl⟩
abbrev main_cst_61 : Ref sig .tc := ⟨.hbm, 535, rfl⟩
abbrev main_v448 : Ref sig .tc := ⟨.hbm, 536, rfl⟩
abbrev main_v449 : Ref sig .tc := ⟨.hbm, 537, rfl⟩
abbrev main_cst_62 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_cst_63 : Ref sig .tc := ⟨.hbm, 542, rfl⟩
abbrev main_v453 : Ref sig .tc := ⟨.hbm, 543, rfl⟩
abbrev main_v454 : Ref sig .tc := ⟨.hbm, 544, rfl⟩
abbrev main_cst_64 : Ref sig .tc := ⟨.hbm, 545, rfl⟩
abbrev main_v455 : Ref sig .tc := ⟨.hbm, 546, rfl⟩
abbrev main_v456 : Ref sig .tc := ⟨.hbm, 547, rfl⟩
abbrev main_cst_65 : Ref sig .tc := ⟨.hbm, 548, rfl⟩
abbrev main_v457 : Ref sig .tc := ⟨.hbm, 549, rfl⟩
abbrev main_v458 : Ref sig .tc := ⟨.hbm, 550, rfl⟩
abbrev main_v459 : Ref sig .tc := ⟨.hbm, 551, rfl⟩
abbrev main_cst_66 : Ref sig .tc := ⟨.hbm, 552, rfl⟩
abbrev main_v460 : Ref sig .tc := ⟨.hbm, 553, rfl⟩
abbrev main_v461 : Ref sig .tc := ⟨.hbm, 554, rfl⟩
abbrev main_cst_67 : Ref sig .tc := ⟨.hbm, 555, rfl⟩
abbrev main_v462 : Ref sig .tc := ⟨.hbm, 556, rfl⟩
abbrev main_v463 : Ref sig .tc := ⟨.hbm, 557, rfl⟩
abbrev main_cst_68 : Ref sig .tc := ⟨.hbm, 558, rfl⟩
abbrev main_v464 : Ref sig .tc := ⟨.hbm, 559, rfl⟩
abbrev main_v465 : Ref sig .tc := ⟨.hbm, 560, rfl⟩
abbrev main_v466 : Ref sig .tc := ⟨.hbm, 561, rfl⟩
abbrev main_cst_69 : Ref sig .tc := ⟨.hbm, 562, rfl⟩
abbrev main_v467 : Ref sig .tc := ⟨.hbm, 563, rfl⟩
abbrev main_v468 : Ref sig .tc := ⟨.hbm, 564, rfl⟩
abbrev main_cst_70 : Ref sig .tc := ⟨.hbm, 565, rfl⟩
abbrev main_v469 : Ref sig .tc := ⟨.hbm, 566, rfl⟩
abbrev main_v470 : Ref sig .tc := ⟨.hbm, 567, rfl⟩
abbrev main_cst_71 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_cst_72 : Ref sig .tc := ⟨.hbm, 572, rfl⟩
abbrev main_v474 : Ref sig .tc := ⟨.hbm, 573, rfl⟩
abbrev main_v475 : Ref sig .tc := ⟨.hbm, 574, rfl⟩
abbrev main_cst_73 : Ref sig .tc := ⟨.hbm, 575, rfl⟩
abbrev main_v476 : Ref sig .tc := ⟨.hbm, 576, rfl⟩
abbrev main_v477 : Ref sig .tc := ⟨.hbm, 577, rfl⟩
abbrev main_cst_74 : Ref sig .tc := ⟨.hbm, 578, rfl⟩
abbrev main_v478 : Ref sig .tc := ⟨.hbm, 579, rfl⟩
abbrev main_v479 : Ref sig .tc := ⟨.hbm, 580, rfl⟩
abbrev main_v480 : Ref sig .tc := ⟨.hbm, 581, rfl⟩
abbrev main_cst_75 : Ref sig .tc := ⟨.hbm, 582, rfl⟩
abbrev main_v481 : Ref sig .tc := ⟨.hbm, 583, rfl⟩
abbrev main_v482 : Ref sig .tc := ⟨.hbm, 584, rfl⟩
abbrev main_cst_76 : Ref sig .tc := ⟨.hbm, 585, rfl⟩
abbrev main_v483 : Ref sig .tc := ⟨.hbm, 586, rfl⟩
abbrev main_v484 : Ref sig .tc := ⟨.hbm, 587, rfl⟩
abbrev main_cst_77 : Ref sig .tc := ⟨.hbm, 588, rfl⟩
abbrev main_v485 : Ref sig .tc := ⟨.hbm, 589, rfl⟩
abbrev main_v486 : Ref sig .tc := ⟨.hbm, 590, rfl⟩
abbrev main_v487 : Ref sig .tc := ⟨.hbm, 591, rfl⟩
abbrev main_cst_78 : Ref sig .tc := ⟨.hbm, 592, rfl⟩
abbrev main_v488 : Ref sig .tc := ⟨.hbm, 593, rfl⟩
abbrev main_v489 : Ref sig .tc := ⟨.hbm, 594, rfl⟩
abbrev main_cst_79 : Ref sig .tc := ⟨.hbm, 595, rfl⟩
abbrev main_v490 : Ref sig .tc := ⟨.hbm, 596, rfl⟩
abbrev main_v491 : Ref sig .tc := ⟨.hbm, 597, rfl⟩
abbrev main_cst_80 : Ref sig .tc := ⟨.hbm, 598, rfl⟩
abbrev main_v492 : Ref sig .tc := ⟨.hbm, 599, rfl⟩
abbrev main_v493 : Ref sig .tc := ⟨.hbm, 600, rfl⟩
abbrev main_v494 : Ref sig .tc := ⟨.hbm, 601, rfl⟩
abbrev main_cst_81 : Ref sig .tc := ⟨.hbm, 602, rfl⟩
abbrev main_v495 : Ref sig .tc := ⟨.hbm, 603, rfl⟩
abbrev main_v496 : Ref sig .tc := ⟨.hbm, 604, rfl⟩
abbrev main_cst_82 : Ref sig .tc := ⟨.hbm, 605, rfl⟩
abbrev main_v497 : Ref sig .tc := ⟨.hbm, 606, rfl⟩
abbrev main_v498 : Ref sig .tc := ⟨.hbm, 607, rfl⟩
abbrev main_cst_83 : Ref sig .tc := ⟨.hbm, 608, rfl⟩
abbrev main_v499 : Ref sig .tc := ⟨.hbm, 609, rfl⟩
abbrev main_v500 : Ref sig .tc := ⟨.hbm, 610, rfl⟩
abbrev main_v501 : Ref sig .tc := ⟨.hbm, 611, rfl⟩
abbrev main_cst_84 : Ref sig .tc := ⟨.hbm, 612, rfl⟩
abbrev main_v502 : Ref sig .tc := ⟨.hbm, 613, rfl⟩
abbrev main_v503 : Ref sig .tc := ⟨.hbm, 614, rfl⟩
abbrev main_cst_85 : Ref sig .tc := ⟨.hbm, 615, rfl⟩
abbrev main_v504 : Ref sig .tc := ⟨.hbm, 616, rfl⟩
abbrev main_v505 : Ref sig .tc := ⟨.hbm, 617, rfl⟩
abbrev main_cst_86 : Ref sig .tc := ⟨.hbm, 618, rfl⟩
abbrev main_v506 : Ref sig .tc := ⟨.hbm, 619, rfl⟩
abbrev main_v507 : Ref sig .tc := ⟨.hbm, 620, rfl⟩
abbrev main_v508 : Ref sig .tc := ⟨.hbm, 621, rfl⟩
abbrev main_cst_87 : Ref sig .tc := ⟨.hbm, 622, rfl⟩
abbrev main_v509 : Ref sig .tc := ⟨.hbm, 623, rfl⟩
abbrev main_v510 : Ref sig .tc := ⟨.hbm, 624, rfl⟩
abbrev main_cst_88 : Ref sig .tc := ⟨.hbm, 625, rfl⟩
abbrev main_v511 : Ref sig .tc := ⟨.hbm, 626, rfl⟩
abbrev main_v512 : Ref sig .tc := ⟨.hbm, 627, rfl⟩
abbrev main_cst_89 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_cst_90 : Ref sig .tc := ⟨.hbm, 632, rfl⟩
abbrev main_v516 : Ref sig .tc := ⟨.hbm, 633, rfl⟩
abbrev main_v517 : Ref sig .tc := ⟨.hbm, 634, rfl⟩
abbrev main_cst_91 : Ref sig .tc := ⟨.hbm, 635, rfl⟩
abbrev main_v518 : Ref sig .tc := ⟨.hbm, 636, rfl⟩
abbrev main_v519 : Ref sig .tc := ⟨.hbm, 637, rfl⟩
abbrev main_cst_92 : Ref sig .tc := ⟨.hbm, 638, rfl⟩
abbrev main_v520 : Ref sig .tc := ⟨.hbm, 639, rfl⟩
abbrev main_v521 : Ref sig .tc := ⟨.hbm, 640, rfl⟩
abbrev main_v522 : Ref sig .tc := ⟨.hbm, 641, rfl⟩
abbrev main_cst_93 : Ref sig .tc := ⟨.hbm, 642, rfl⟩
abbrev main_v523 : Ref sig .tc := ⟨.hbm, 643, rfl⟩
abbrev main_v524 : Ref sig .tc := ⟨.hbm, 644, rfl⟩
abbrev main_cst_94 : Ref sig .tc := ⟨.hbm, 645, rfl⟩
abbrev main_v525 : Ref sig .tc := ⟨.hbm, 646, rfl⟩
abbrev main_v526 : Ref sig .tc := ⟨.hbm, 647, rfl⟩
abbrev main_cst_95 : Ref sig .tc := ⟨.hbm, 648, rfl⟩
abbrev main_v527 : Ref sig .tc := ⟨.hbm, 649, rfl⟩
abbrev main_v528 : Ref sig .tc := ⟨.hbm, 650, rfl⟩
abbrev main_v529 : Ref sig .tc := ⟨.hbm, 651, rfl⟩
abbrev main_cst_96 : Ref sig .tc := ⟨.hbm, 652, rfl⟩
abbrev main_v530 : Ref sig .tc := ⟨.hbm, 653, rfl⟩
abbrev main_v531 : Ref sig .tc := ⟨.hbm, 654, rfl⟩
abbrev main_cst_97 : Ref sig .tc := ⟨.hbm, 655, rfl⟩
abbrev main_v532 : Ref sig .tc := ⟨.hbm, 656, rfl⟩
abbrev main_v533 : Ref sig .tc := ⟨.hbm, 657, rfl⟩
abbrev main_cst_98 : Ref sig .tc := ⟨.hbm, 658, rfl⟩
abbrev main_v534 : Ref sig .tc := ⟨.hbm, 659, rfl⟩
abbrev main_v535 : Ref sig .tc := ⟨.hbm, 660, rfl⟩
abbrev main_v536 : Ref sig .tc := ⟨.hbm, 661, rfl⟩
abbrev main_cst_99 : Ref sig .tc := ⟨.hbm, 662, rfl⟩
abbrev main_v537 : Ref sig .tc := ⟨.hbm, 663, rfl⟩
abbrev main_v538 : Ref sig .tc := ⟨.hbm, 664, rfl⟩
abbrev main_cst_100 : Ref sig .tc := ⟨.hbm, 665, rfl⟩
abbrev main_v539 : Ref sig .tc := ⟨.hbm, 666, rfl⟩
abbrev main_v540 : Ref sig .tc := ⟨.hbm, 667, rfl⟩
abbrev main_cst_101 : Ref sig .tc := ⟨.hbm, 668, rfl⟩
abbrev main_v541 : Ref sig .tc := ⟨.hbm, 669, rfl⟩
abbrev main_v542 : Ref sig .tc := ⟨.hbm, 670, rfl⟩
abbrev main_v543 : Ref sig .tc := ⟨.hbm, 671, rfl⟩
abbrev main_cst_102 : Ref sig .tc := ⟨.hbm, 672, rfl⟩
abbrev main_v544 : Ref sig .tc := ⟨.hbm, 673, rfl⟩
abbrev main_v545 : Ref sig .tc := ⟨.hbm, 674, rfl⟩
abbrev main_cst_103 : Ref sig .tc := ⟨.hbm, 675, rfl⟩
abbrev main_v546 : Ref sig .tc := ⟨.hbm, 676, rfl⟩
abbrev main_v547 : Ref sig .tc := ⟨.hbm, 677, rfl⟩
abbrev main_cst_104 : Ref sig .tc := ⟨.hbm, 678, rfl⟩
abbrev main_v548 : Ref sig .tc := ⟨.hbm, 679, rfl⟩
abbrev main_v549 : Ref sig .tc := ⟨.hbm, 680, rfl⟩
abbrev main_v550 : Ref sig .tc := ⟨.hbm, 681, rfl⟩
abbrev main_cst_105 : Ref sig .tc := ⟨.hbm, 682, rfl⟩
abbrev main_v551 : Ref sig .tc := ⟨.hbm, 683, rfl⟩
abbrev main_v552 : Ref sig .tc := ⟨.hbm, 684, rfl⟩
abbrev main_cst_106 : Ref sig .tc := ⟨.hbm, 685, rfl⟩
abbrev main_v553 : Ref sig .tc := ⟨.hbm, 686, rfl⟩
abbrev main_v554 : Ref sig .tc := ⟨.hbm, 687, rfl⟩
abbrev main_cst_107 : Ref sig .tc := ⟨.hbm, 688, rfl⟩
abbrev main_v555 : Ref sig .tc := ⟨.hbm, 689, rfl⟩
abbrev main_v556 : Ref sig .tc := ⟨.hbm, 690, rfl⟩
abbrev main_v557 : Ref sig .tc := ⟨.hbm, 691, rfl⟩
abbrev main_cst_108 : Ref sig .tc := ⟨.hbm, 692, rfl⟩
abbrev main_v558 : Ref sig .tc := ⟨.hbm, 693, rfl⟩
abbrev main_v559 : Ref sig .tc := ⟨.hbm, 694, rfl⟩
abbrev main_cst_109 : Ref sig .tc := ⟨.hbm, 695, rfl⟩
abbrev main_v560 : Ref sig .tc := ⟨.hbm, 696, rfl⟩
abbrev main_v561 : Ref sig .tc := ⟨.hbm, 697, rfl⟩
abbrev main_cst_110 : Ref sig .tc := ⟨.hbm, 698, rfl⟩
abbrev main_v562 : Ref sig .tc := ⟨.hbm, 699, rfl⟩
abbrev main_v563 : Ref sig .tc := ⟨.hbm, 700, rfl⟩
abbrev main_v564 : Ref sig .tc := ⟨.hbm, 701, rfl⟩
abbrev main_cst_111 : Ref sig .tc := ⟨.hbm, 702, rfl⟩
abbrev main_v565 : Ref sig .tc := ⟨.hbm, 703, rfl⟩
abbrev main_v566 : Ref sig .tc := ⟨.hbm, 704, rfl⟩
abbrev main_cst_112 : Ref sig .tc := ⟨.hbm, 705, rfl⟩
abbrev main_v567 : Ref sig .tc := ⟨.hbm, 706, rfl⟩
abbrev main_v568 : Ref sig .tc := ⟨.hbm, 707, rfl⟩
abbrev main_cst_113 : Ref sig .tc := ⟨.hbm, 708, rfl⟩
abbrev main_v569 : Ref sig .tc := ⟨.hbm, 709, rfl⟩
abbrev main_v570 : Ref sig .tc := ⟨.hbm, 710, rfl⟩
abbrev main_v571 : Ref sig .tc := ⟨.hbm, 711, rfl⟩
abbrev main_cst_114 : Ref sig .tc := ⟨.hbm, 712, rfl⟩
abbrev main_v572 : Ref sig .tc := ⟨.hbm, 713, rfl⟩
abbrev main_v573 : Ref sig .tc := ⟨.hbm, 714, rfl⟩
abbrev main_cst_115 : Ref sig .tc := ⟨.hbm, 715, rfl⟩
abbrev main_v574 : Ref sig .tc := ⟨.hbm, 716, rfl⟩
abbrev main_v575 : Ref sig .tc := ⟨.hbm, 717, rfl⟩
abbrev main_cst_116 : Ref sig .tc := ⟨.hbm, 718, rfl⟩
abbrev main_v576 : Ref sig .tc := ⟨.hbm, 719, rfl⟩
abbrev main_v577 : Ref sig .tc := ⟨.hbm, 720, rfl⟩
abbrev main_v578 : Ref sig .tc := ⟨.hbm, 721, rfl⟩
abbrev main_cst_117 : Ref sig .tc := ⟨.hbm, 722, rfl⟩
abbrev main_v579 : Ref sig .tc := ⟨.hbm, 723, rfl⟩
abbrev main_v580 : Ref sig .tc := ⟨.hbm, 724, rfl⟩
abbrev main_cst_118 : Ref sig .tc := ⟨.hbm, 725, rfl⟩
abbrev main_v581 : Ref sig .tc := ⟨.hbm, 726, rfl⟩
abbrev main_v582 : Ref sig .tc := ⟨.hbm, 727, rfl⟩
abbrev main_cst_119 : Ref sig .tc := ⟨.hbm, 728, rfl⟩
abbrev main_v583 : Ref sig .tc := ⟨.hbm, 729, rfl⟩
abbrev main_v584 : Ref sig .tc := ⟨.hbm, 730, rfl⟩
abbrev main_v585 : Ref sig .tc := ⟨.hbm, 731, rfl⟩
abbrev main_cst_120 : Ref sig .tc := ⟨.hbm, 732, rfl⟩
abbrev main_v586 : Ref sig .tc := ⟨.hbm, 733, rfl⟩
abbrev main_v587 : Ref sig .tc := ⟨.hbm, 734, rfl⟩
abbrev main_cst_121 : Ref sig .tc := ⟨.hbm, 735, rfl⟩
abbrev main_v588 : Ref sig .tc := ⟨.hbm, 736, rfl⟩
abbrev main_v589 : Ref sig .tc := ⟨.hbm, 737, rfl⟩
abbrev main_cst_122 : Ref sig .tc := ⟨.hbm, 738, rfl⟩
abbrev main_v590 : Ref sig .tc := ⟨.hbm, 739, rfl⟩
abbrev main_v591 : Ref sig .tc := ⟨.hbm, 740, rfl⟩
abbrev main_v592 : Ref sig .tc := ⟨.hbm, 741, rfl⟩
abbrev main_cst_123 : Ref sig .tc := ⟨.hbm, 742, rfl⟩
abbrev main_v593 : Ref sig .tc := ⟨.hbm, 743, rfl⟩
abbrev main_v594 : Ref sig .tc := ⟨.hbm, 744, rfl⟩
abbrev main_cst_124 : Ref sig .tc := ⟨.hbm, 745, rfl⟩
abbrev main_v595 : Ref sig .tc := ⟨.hbm, 746, rfl⟩
abbrev main_v596 : Ref sig .tc := ⟨.hbm, 747, rfl⟩
abbrev main_cst_125 : Ref sig .tc := ⟨.hbm, 748, rfl⟩
abbrev main_v597 : Ref sig .tc := ⟨.hbm, 749, rfl⟩
abbrev main_v598 : Ref sig .tc := ⟨.hbm, 750, rfl⟩
abbrev main_v599 : Ref sig .tc := ⟨.hbm, 751, rfl⟩
abbrev main_cst_126 : Ref sig .tc := ⟨.hbm, 752, rfl⟩
abbrev main_v600 : Ref sig .tc := ⟨.hbm, 753, rfl⟩
abbrev main_v601 : Ref sig .tc := ⟨.hbm, 754, rfl⟩
abbrev main_cst_127 : Ref sig .tc := ⟨.hbm, 755, rfl⟩
abbrev main_v602 : Ref sig .tc := ⟨.hbm, 756, rfl⟩
abbrev main_v603 : Ref sig .tc := ⟨.hbm, 757, rfl⟩
abbrev main_cst_128 : Ref sig .tc := ⟨.hbm, 758, rfl⟩
abbrev main_v604 : Ref sig .tc := ⟨.hbm, 759, rfl⟩
abbrev main_v605 : Ref sig .tc := ⟨.hbm, 760, rfl⟩
abbrev main_v606 : Ref sig .tc := ⟨.hbm, 761, rfl⟩
abbrev main_cst_129 : Ref sig .tc := ⟨.hbm, 762, rfl⟩
abbrev main_v607 : Ref sig .tc := ⟨.hbm, 763, rfl⟩
abbrev main_v608 : Ref sig .tc := ⟨.hbm, 764, rfl⟩
abbrev main_cst_130 : Ref sig .tc := ⟨.hbm, 765, rfl⟩
abbrev main_v609 : Ref sig .tc := ⟨.hbm, 766, rfl⟩
abbrev main_v610 : Ref sig .tc := ⟨.hbm, 767, rfl⟩
abbrev main_cst_131 : Ref sig .tc := ⟨.hbm, 768, rfl⟩
abbrev main_v611 : Ref sig .tc := ⟨.hbm, 769, rfl⟩
abbrev main_v612 : Ref sig .tc := ⟨.hbm, 770, rfl⟩
abbrev main_v613 : Ref sig .tc := ⟨.hbm, 771, rfl⟩
abbrev main_cst_132 : Ref sig .tc := ⟨.hbm, 772, rfl⟩
abbrev main_v614 : Ref sig .tc := ⟨.hbm, 773, rfl⟩
abbrev main_v615 : Ref sig .tc := ⟨.hbm, 774, rfl⟩
abbrev main_cst_133 : Ref sig .tc := ⟨.hbm, 775, rfl⟩
abbrev main_v616 : Ref sig .tc := ⟨.hbm, 776, rfl⟩
abbrev main_v617 : Ref sig .tc := ⟨.hbm, 777, rfl⟩
abbrev main_cst_134 : Ref sig .tc := ⟨.hbm, 778, rfl⟩
abbrev main_v618 : Ref sig .tc := ⟨.hbm, 779, rfl⟩
abbrev main_v619 : Ref sig .tc := ⟨.hbm, 780, rfl⟩
abbrev main_v620 : Ref sig .tc := ⟨.hbm, 781, rfl⟩
abbrev main_cst_135 : Ref sig .tc := ⟨.hbm, 782, rfl⟩
abbrev main_v621 : Ref sig .tc := ⟨.hbm, 783, rfl⟩
abbrev main_v622 : Ref sig .tc := ⟨.hbm, 784, rfl⟩
abbrev main_cst_136 : Ref sig .tc := ⟨.hbm, 785, rfl⟩
abbrev main_v623 : Ref sig .tc := ⟨.hbm, 786, rfl⟩
abbrev main_v624 : Ref sig .tc := ⟨.hbm, 787, rfl⟩
abbrev main_cst_137 : Ref sig .tc := ⟨.hbm, 788, rfl⟩
abbrev main_v625 : Ref sig .tc := ⟨.hbm, 789, rfl⟩
abbrev main_v626 : Ref sig .tc := ⟨.hbm, 790, rfl⟩
abbrev main_v627 : Ref sig .tc := ⟨.hbm, 791, rfl⟩
abbrev main_cst_138 : Ref sig .tc := ⟨.hbm, 792, rfl⟩
abbrev main_v628 : Ref sig .tc := ⟨.hbm, 793, rfl⟩
abbrev main_v629 : Ref sig .tc := ⟨.hbm, 794, rfl⟩
abbrev main_cst_139 : Ref sig .tc := ⟨.hbm, 795, rfl⟩
abbrev main_v630 : Ref sig .tc := ⟨.hbm, 796, rfl⟩
abbrev main_v631 : Ref sig .tc := ⟨.hbm, 797, rfl⟩
abbrev main_cst_140 : Ref sig .tc := ⟨.hbm, 798, rfl⟩
abbrev main_v632 : Ref sig .tc := ⟨.hbm, 799, rfl⟩
abbrev main_v633 : Ref sig .tc := ⟨.hbm, 800, rfl⟩
abbrev main_v634 : Ref sig .tc := ⟨.hbm, 801, rfl⟩
abbrev main_cst_141 : Ref sig .tc := ⟨.hbm, 802, rfl⟩
abbrev main_v635 : Ref sig .tc := ⟨.hbm, 803, rfl⟩
abbrev main_v636 : Ref sig .tc := ⟨.hbm, 804, rfl⟩
abbrev main_cst_142 : Ref sig .tc := ⟨.hbm, 805, rfl⟩
abbrev main_v637 : Ref sig .tc := ⟨.hbm, 806, rfl⟩
abbrev main_v638 : Ref sig .tc := ⟨.hbm, 807, rfl⟩
abbrev main_cst_143 : Ref sig .tc := ⟨.hbm, 808, rfl⟩
abbrev main_v639 : Ref sig .tc := ⟨.hbm, 809, rfl⟩
abbrev main_v640 : Ref sig .tc := ⟨.hbm, 810, rfl⟩
abbrev main_v641 : Ref sig .tc := ⟨.hbm, 811, rfl⟩
abbrev main_v642 : Ref sig .tc := ⟨.hbm, 812, rfl⟩
abbrev main_v643 : Ref sig .tc := ⟨.hbm, 813, rfl⟩
abbrev main_v644 : Ref sig .tc := ⟨.hbm, 814, rfl⟩
abbrev main_v645 : Ref sig .tc := ⟨.hbm, 815, rfl⟩
abbrev main_cst_144 : Ref sig .tc := ⟨.hbm, 816, rfl⟩
abbrev main_v646 : Ref sig .tc := ⟨.hbm, 817, rfl⟩
abbrev main_v647 : Ref sig .tc := ⟨.hbm, 818, rfl⟩
abbrev main_v648 : Ref sig .tc := ⟨.hbm, 819, rfl⟩
abbrev main_cst_145 : Ref sig .tc := ⟨.hbm, 820, rfl⟩
abbrev main_v649 : Ref sig .tc := ⟨.hbm, 821, rfl⟩
abbrev main_v650 : Ref sig .tc := ⟨.hbm, 822, rfl⟩
abbrev main_cst_146 : Ref sig .tc := ⟨.hbm, 823, rfl⟩
abbrev main_v651 : Ref sig .tc := ⟨.hbm, 824, rfl⟩
abbrev main_v652 : Ref sig .tc := ⟨.hbm, 825, rfl⟩
abbrev main_v653 : Ref sig .tc := ⟨.hbm, 826, rfl⟩
abbrev main_v654 : Ref sig .tc := ⟨.hbm, 827, rfl⟩

abbrev nD : Nat := 1
abbrev τ : Topo := Topo.v7x

variable {F : FTy → Type} [FloatOps F]
-- ==== Attnf.lean ====
abbrev S16384x4x64 : Shape := ⟨3, ![16384, 4, 64]⟩
abbrev S_ : Shape := ⟨0, ![]⟩
abbrev S4x16384x64 : Shape := ⟨3, ![4, 16384, 64]⟩
abbrev S4x64x16384 : Shape := ⟨3, ![4, 64, 16384]⟩
abbrev S4x512x64 : Shape := ⟨3, ![4, 512, 64]⟩
abbrev S4x64x512 : Shape := ⟨3, ![4, 64, 512]⟩
abbrev S256x256 : Shape := ⟨2, ![256, 256]⟩
abbrev S256x1 : Shape := ⟨2, ![256, 1]⟩
abbrev S64x256 : Shape := ⟨2, ![64, 256]⟩
abbrev S1x256x64 : Shape := ⟨3, ![1, 256, 64]⟩
abbrev S256x64 : Shape := ⟨2, ![256, 64]⟩
abbrev S1x64x256 : Shape := ⟨3, ![1, 64, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 13
  | .vmem => 6
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S_, .f32⟩
  | .hbm, ⟨4, _⟩ => ⟨S16384x4x64, .f32⟩
  | .hbm, ⟨5, _⟩ => ⟨S16384x4x64, .f32⟩
  | .hbm, ⟨6, _⟩ => ⟨S4x16384x64, .f32⟩
  | .hbm, ⟨7, _⟩ => ⟨S4x16384x64, .bf16⟩
  | .hbm, ⟨8, _⟩ => ⟨S4x64x16384, .f32⟩
  | .hbm, ⟨9, _⟩ => ⟨S4x64x16384, .bf16⟩
  | .hbm, ⟨10, _⟩ => ⟨S4x64x16384, .f32⟩
  | .hbm, ⟨11, _⟩ => ⟨S4x64x16384, .bf16⟩
  | .hbm, ⟨12, _⟩ => ⟨S4x64x16384, .f32⟩
  | .local _ .vmem, ⟨0, _⟩ => ⟨S4x512x64, .bf16⟩
  | .local _ .vmem, ⟨1, _⟩ => ⟨S4x512x64, .bf16⟩
  | .local _ .vmem, ⟨2, _⟩ => ⟨S4x64x16384, .bf16⟩
  | .local _ .vmem, ⟨3, _⟩ => ⟨S4x64x16384, .bf16⟩
  | .local _ .vmem, ⟨4, _⟩ => ⟨S4x64x512, .f32⟩
  | .local _ .vmem, ⟨5, _⟩ => ⟨S4x64x512, .f32⟩
  | _, _ => ⟨S16384x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c2_i32 : BitVec 32 := 2#32
  let arg0 : BitVec 32 := BitVec.ofNat 32 (i 0).val
  let v15 : BitVec 32 := Scalar.muli c2_i32 arg0
  let c0_i32_2 : BitVec 32 := 0#32
  let v16 : BitVec 32 := Scalar.addi v15 c0_i32_2
  let c0_i32_3 : BitVec 32 := 0#32
  let v17 : BitVec 32 := Scalar.subi v16 c0_i32_3
  let c0_i32_24 : BitVec 32 := 0#32
  let v39 : BitVec 32 := Scalar.maxsi v17 c0_i32_24
  let c256_i32 : BitVec 32 := 256#32
  let v40 : BitVec 32 := Scalar.muli v39 c256_i32
  v40
def k0_mult2 (i : grid0.Coords) : BitVec 32 :=
  let c2_i32_4 : BitVec 32 := 2#32
  let arg0 : BitVec 32 := BitVec.ofNat 32 (i 0).val
  let v18 : BitVec 32 := Scalar.muli c2_i32_4 arg0
  let c1_i32 : BitVec 32 := 1#32
  let v19 : BitVec 32 := Scalar.addi v18 c1_i32
  let c0_i32_5 : BitVec 32 := 0#32
  let v20 : BitVec 32 := Scalar.subi v19 c0_i32_5
  let c0_i32_25 : BitVec 32 := 0#32
  let v42 : BitVec 32 := Scalar.maxsi v20 c0_i32_25
  let c256_i32_26 : BitVec 32 := 256#32
  let v43 : BitVec 32 := Scalar.muli v42 c256_i32_26
  v43
def k0_mult3 (i : grid0.Coords) : BitVec 32 :=
  let c2_i32_6 : BitVec 32 := 2#32
  let arg0 : BitVec 32 := BitVec.ofNat 32 (i 0).val
  let v21 : BitVec 32 := Scalar.muli c2_i32_6 arg0
  let c0_i32_7 : BitVec 32 := 0#32
  let v22 : BitVec 32 := Scalar.addi v21 c0_i32_7
  let c0_i32_8 : BitVec 32 := 0#32
  let v23 : BitVec 32 := Scalar.subi v22 c0_i32_8
  let c0_i32_27 : BitVec 32 := 0#32
  let v45 : BitVec 32 := Scalar.maxsi v23 c0_i32_27
  let c256_i32_28 : BitVec 32 := 256#32
  let v46 : BitVec 32 := Scalar.muli v45 c256_i32_28
  v46
def k0_mult4 (i : grid0.Coords) : BitVec 32 :=
  let c2_i32_9 : BitVec 32 := 2#32
  let arg0 : BitVec 32 := BitVec.ofNat 32 (i 0).val
  let v24 : BitVec 32 := Scalar.muli c2_i32_9 arg0
  let c1_i32_10 : BitVec 32 := 1#32
  let v25 : BitVec 32 := Scalar.addi v24 c1_i32_10
  let c0_i32_11 : BitVec 32 := 0#32
  let v26 : BitVec 32 := Scalar.subi v25 c0_i32_11
  let c0_i32_29 : BitVec 32 := 0#32
  let v48 : BitVec 32 := Scalar.maxsi v26 c0_i32_29
  let c256_i32_30 : BitVec 32 := 256#32
  let v49 : BitVec 32 := Scalar.muli v48 c256_i32_30
  v49
def k0_mult5 (i : grid0.Coords) : BitVec 32 :=
  let c2_i32_12 : BitVec 32 := 2#32
  let arg0 : BitVec 32 := BitVec.ofNat 32 (i 0).val
  let v27 : BitVec 32 := Scalar.muli c2_i32_12 arg0
  let c0_i32_13 : BitVec 32 := 0#32
  let v28 : BitVec 32 := Scalar.addi v27 c0_i32_13
  let c0_i32_14 : BitVec 32 := 0#32
  let v29 : BitVec 32 := Scalar.subi v28 c0_i32_14
  let c0_i32_31 : BitVec 32 := 0#32
  let v51 : BitVec 32 := Scalar.maxsi v29 c0_i32_31
  let c256_i32_32 : BitVec 32 := 256#32
  let v52 : BitVec 32 := Scalar.muli v51 c256_i32_32
  v52
def k0_mult6 (i : grid0.Coords) : BitVec 32 :=
  let c2_i32_15 : BitVec 32 := 2#32
  let arg0 : BitVec 32 := BitVec.ofNat 32 (i 0).val
  let v30 : BitVec 32 := Scalar.muli c2_i32_15 arg0
  let c1_i32_16 : BitVec 32 := 1#32
  let v31 : BitVec 32 := Scalar.addi v30 c1_i32_16
  let c0_i32_17 : BitVec 32 := 0#32
  let v32 : BitVec 32 := Scalar.subi v31 c0_i32_17
  let c0_i32_33 : BitVec 32 := 0#32
  let v54 : BitVec 32 := Scalar.maxsi v32 c0_i32_33
  let c256_i32_34 : BitVec 32 := 256#32
  let v55 : BitVec 32 := Scalar.muli v54 c256_i32_34
  v55
def k0_mult7 (i : grid0.Coords) : BitVec 32 :=
  let c2_i32_18 : BitVec 32 := 2#32
  let arg0 : BitVec 32 := BitVec.ofNat 32 (i 0).val
  let v33 : BitVec 32 := Scalar.muli c2_i32_18 arg0
  let c0_i32_19 : BitVec 32 := 0#32
  let v34 : BitVec 32 := Scalar.addi v33 c0_i32_19
  let c0_i32_20 : BitVec 32 := 0#32
  let v35 : BitVec 32 := Scalar.subi v34 c0_i32_20
  let c0_i32_35 : BitVec 32 := 0#32
  let v57 : BitVec 32 := Scalar.maxsi v35 c0_i32_35
  let c256_i32_36 : BitVec 32 := 256#32
  let v58 : BitVec 32 := Scalar.muli v57 c256_i32_36
  v58
def k0_mult8 (i : grid0.Coords) : BitVec 32 :=
  let c2_i32_21 : BitVec 32 := 2#32
  let arg0 : BitVec 32 := BitVec.ofNat 32 (i 0).val
  let v36 : BitVec 32 := Scalar.muli c2_i32_21 arg0
  let c1_i32_22 : BitVec 32 := 1#32
  let v37 : BitVec 32 := Scalar.addi v36 c1_i32_22
  let c0_i32_23 : BitVec 32 := 0#32
  let v38 : BitVec 32 := Scalar.subi v37 c0_i32_23
  let c0_i32_37 : BitVec 32 := 0#32
  let v60 : BitVec 32 := Scalar.maxsi v38 c0_i32_37
  let c256_i32_38 : BitVec 32 := 256#32
  let v61 : BitVec 32 := Scalar.muli v60 c256_i32_38
  v61
def k0_off1 (i : grid0.Coords) (c0_i32_2 : BitVec 32) : Fin 3 → Nat :=
  let c0_58 : Index := 0#32
  let c0_59 : Index := 0#32
  let c2_i32 : BitVec 32 := 2#32
  let arg0 : BitVec 32 := BitVec.ofNat 32 (i 0).val
  let v15 : BitVec 32 := Scalar.muli c2_i32 arg0
  let v16 : BitVec 32 := Scalar.addi v15 c0_i32_2
  let c0_i32_3 : BitVec 32 := 0#32
  let v17 : BitVec 32 := Scalar.subi v16 c0_i32_3
  let c0_i32_24 : BitVec 32 := 0#32
  let v39 : BitVec 32 := Scalar.maxsi v17 c0_i32_24
  let c256_i32 : BitVec 32 := 256#32
  let v40 : BitVec 32 := Scalar.muli v39 c256_i32
  let v41 : BitVec 32 := v40
  let v79 : Index := Scalar.indexCast v41
  ![0, 0, v79.toNat]
def k0_off2 (i : grid0.Coords) (c0_i32_7 : BitVec 32) : Fin 3 → Nat :=
  let c1_62 : Index := 1#32
  let c0_63 : Index := 0#32
  let c2_i32_6 : BitVec 32 := 2#32
  let arg0 : BitVec 32 := BitVec.ofNat 32 (i 0).val
  let v21 : BitVec 32 := Scalar.muli c2_i32_6 arg0
  let v22 : BitVec 32 := Scalar.addi v21 c0_i32_7
  let c0_i32_8 : BitVec 32 := 0#32
  let v23 : BitVec 32 := Scalar.subi v22 c0_i32_8
  let c0_i32_27 : BitVec 32 := 0#32
  let v45 : BitVec 32 := Scalar.maxsi v23 c0_i32_27
  let c256_i32_28 : BitVec 32 := 256#32
  let v46 : BitVec 32 := Scalar.muli v45 c256_i32_28
  let v47 : BitVec 32 := v46
  let v85 : Index := Scalar.indexCast v47
  ![1, 0, v85.toNat]
def k0_off3 (i : grid0.Coords) (c0_i32_13 : BitVec 32) : Fin 3 → Nat :=
  let c2_66 : Index := 2#32
  let c0_67 : Index := 0#32
  let c2_i32_12 : BitVec 32 := 2#32
  let arg0 : BitVec 32 := BitVec.ofNat 32 (i 0).val
  let v27 : BitVec 32 := Scalar.muli c2_i32_12 arg0
  let v28 : BitVec 32 := Scalar.addi v27 c0_i32_13
  let c0_i32_14 : BitVec 32 := 0#32
  let v29 : BitVec 32 := Scalar.subi v28 c0_i32_14
  let c0_i32_31 : BitVec 32 := 0#32
  let v51 : BitVec 32 := Scalar.maxsi v29 c0_i32_31
  let c256_i32_32 : BitVec 32 := 256#32
  let v52 : BitVec 32 := Scalar.muli v51 c256_i32_32
  let v53 : BitVec 32 := v52
  let v91 : Index := Scalar.indexCast v53
  ![2, 0, v91.toNat]
def k0_off4 (i : grid0.Coords) (c0_i32_19 : BitVec 32) : Fin 3 → Nat :=
  let c3_70 : Index := 3#32
  let c0_71 : Index := 0#32
  let c2_i32_18 : BitVec 32 := 2#32
  let arg0 : BitVec 32 := BitVec.ofNat 32 (i 0).val
  let v33 : BitVec 32 := Scalar.muli c2_i32_18 arg0
  let v34 : BitVec 32 := Scalar.addi v33 c0_i32_19
  let c0_i32_20 : BitVec 32 := 0#32
  let v35 : BitVec 32 := Scalar.subi v34 c0_i32_20
  let c0_i32_35 : BitVec 32 := 0#32
  let v57 : BitVec 32 := Scalar.maxsi v35 c0_i32_35
  let c256_i32_36 : BitVec 32 := 256#32
  let v58 : BitVec 32 := Scalar.muli v57 c256_i32_36
  let v59 : BitVec 32 := v58
  let v97 : Index := Scalar.indexCast v59
  ![3, 0, v97.toNat]
def k0_mult9 (i : grid0.Coords) (arg5 : BitVec 32) : BitVec 32 :=
  let c2_i32_204 : BitVec 32 := 2#32
  let arg0 : BitVec 32 := BitVec.ofNat 32 (i 0).val
  let v433 : BitVec 32 := Scalar.muli c2_i32_204 arg0
  let c0_i32_205 : BitVec 32 := 0#32
  let v434 : BitVec 32 := Scalar.addi v433 c0_i32_205
  let v435 : BitVec 32 := Scalar.subi v434 arg5
  let c0_i32_224 : BitVec 32 := 0#32
  let v461 : BitVec 32 := Scalar.maxsi v435 c0_i32_224
  let c256_i32_225 : BitVec 32 := 256#32
  let v462 : BitVec 32 := Scalar.muli v461 c256_i32_225
  v462

def k0_mult10 (i : grid0.Coords) (arg5 : BitVec 32) : BitVec 32 :=
  let c2_i32_206 : BitVec 32 := 2#32
  let arg0 : BitVec 32 := BitVec.ofNat 32 (i 0).val
  let v436 : BitVec 32 := Scalar.muli c2_i32_206 arg0
  let c1_i32_207 : BitVec 32 := 1#32
  let v437 : BitVec 32 := Scalar.addi v436 c1_i32_207
  let v438 : BitVec 32 := Scalar.subi v437 arg5
  let c0_i32_226 : BitVec 32 := 0#32
  let v464 : BitVec 32 := Scalar.maxsi v438 c0_i32_226
  let c256_i32_227 : BitVec 32 := 256#32
  let v465 : BitVec 32 := Scalar.muli v464 c256_i32_227
  v465
def k0_mult11 (i : grid0.Coords) (arg5 : BitVec 32) : BitVec 32 :=
  let c2_i32_208 : BitVec 32 := 2#32
  let arg0 : BitVec 32 := BitVec.ofNat 32 (i 0).val
  let v439 : BitVec 32 := Scalar.muli c2_i32_208 arg0
  let c0_i32_209 : BitVec 32 := 0#32
  let v440 : BitVec 32 := Scalar.addi v439 c0_i32_209
  let v441 : BitVec 32 := Scalar.subi v440 arg5
  let c0_i32_228 : BitVec 32 := 0#32
  let v467 : BitVec 32 := Scalar.maxsi v441 c0_i32_228
  let c256_i32_229 : BitVec 32 := 256#32
  let v468 : BitVec 32 := Scalar.muli v467 c256_i32_229
  v468
def k0_mult12 (i : grid0.Coords) (arg5 : BitVec 32) : BitVec 32 :=
  let c2_i32_210 : BitVec 32 := 2#32
  let arg0 : BitVec 32 := BitVec.ofNat 32 (i 0).val
  let v442 : BitVec 32 := Scalar.muli c2_i32_210 arg0
  let c1_i32_211 : BitVec 32 := 1#32
  let v443 : BitVec 32 := Scalar.addi v442 c1_i32_211
  let v444 : BitVec 32 := Scalar.subi v443 arg5
  let c0_i32_230 : BitVec 32 := 0#32
  let v470 : BitVec 32 := Scalar.maxsi v444 c0_i32_230
  let c256_i32_231 : BitVec 32 := 256#32
  let v471 : BitVec 32 := Scalar.muli v470 c256_i32_231
  v471
def k0_mult13 (i : grid0.Coords) (arg5 : BitVec 32) : BitVec 32 :=
  let c2_i32_212 : BitVec 32 := 2#32
  let arg0 : BitVec 32 := BitVec.ofNat 32 (i 0).val
  let v445 : BitVec 32 := Scalar.muli c2_i32_212 arg0
  let c0_i32_213 : BitVec 32 := 0#32
  let v446 : BitVec 32 := Scalar.addi v445 c0_i32_213
  let v447 : BitVec 32 := Scalar.subi v446 arg5
  let c0_i32_232 : BitVec 32 := 0#32
  let v473 : BitVec 32 := Scalar.maxsi v447 c0_i32_232
  let c256_i32_233 : BitVec 32 := 256#32
  let v474 : BitVec 32 := Scalar.muli v473 c256_i32_233
  v474
def k0_mult14 (i : grid0.Coords) (arg5 : BitVec 32) : BitVec 32 :=
  let c2_i32_214 : BitVec 32 := 2#32
  let arg0 : BitVec 32 := BitVec.ofNat 32 (i 0).val
  let v448 : BitVec 32 := Scalar.muli c2_i32_214 arg0
  let c1_i32_215 : BitVec 32 := 1#32
  let v449 : BitVec 32 := Scalar.addi v448 c1_i32_215
  let v450 : BitVec 32 := Scalar.subi v449 arg5
  let c0_i32_234 : BitVec 32 := 0#32
  let v476 : BitVec 32 := Scalar.maxsi v450 c0_i32_234
  let c256_i32_235 : BitVec 32 := 256#32
  let v477 : BitVec 32 := Scalar.muli v476 c256_i32_235
  v477
def k0_mult15 (i : grid0.Coords) (arg5 : BitVec 32) : BitVec 32 :=
  let c2_i32_216 : BitVec 32 := 2#32
  let arg0 : BitVec 32 := BitVec.ofNat 32 (i 0).val
  let v451 : BitVec 32 := Scalar.muli c2_i32_216 arg0
  let c0_i32_217 : BitVec 32 := 0#32
  let v452 : BitVec 32 := Scalar.addi v451 c0_i32_217
  let v453 : BitVec 32 := Scalar.subi v452 arg5
  let c0_i32_236 : BitVec 32 := 0#32
  let v479 : BitVec 32 := Scalar.maxsi v453 c0_i32_236
  let c256_i32_237 : BitVec 32 := 256#32
  let v480 : BitVec 32 := Scalar.muli v479 c256_i32_237
  v480
def k0_mult16 (i : grid0.Coords) (arg5 : BitVec 32) : BitVec 32 :=
  let c2_i32_218 : BitVec 32 := 2#32
  let arg0 : BitVec 32 := BitVec.ofNat 32 (i 0).val
  let v454 : BitVec 32 := Scalar.muli c2_i32_218 arg0
  let c1_i32_219 : BitVec 32 := 1#32
  let v455 : BitVec 32 := Scalar.addi v454 c1_i32_219
  let v456 : BitVec 32 := Scalar.subi v455 arg5
  let c0_i32_238 : BitVec 32 := 0#32
  let v482 : BitVec 32 := Scalar.maxsi v456 c0_i32_238
  let c256_i32_239 : BitVec 32 := 256#32
  let v483 : BitVec 32 := Scalar.muli v482 c256_i32_239
  v483
def k0_off5 (i : grid0.Coords) (arg5 : BitVec 32) (c0_i32_205 : BitVec 32) : Fin 3 → Nat :=
  let c0_264 : Index := 0#32
  let c0_265 : Index := 0#32
  let c2_i32_204 : BitVec 32 := 2#32
  let arg0 : BitVec 32 := BitVec.ofNat 32 (i 0).val
  let v433 : BitVec 32 := Scalar.muli c2_i32_204 arg0
  let v434 : BitVec 32 := Scalar.addi v433 c0_i32_205
  let v435 : BitVec 32 := Scalar.subi v434 arg5
  let c0_i32_224 : BitVec 32 := 0#32
  let v461 : BitVec 32 := Scalar.maxsi v435 c0_i32_224
  let c256_i32_225 : BitVec 32 := 256#32
  let v462 : BitVec 32 := Scalar.muli v461 c256_i32_225
  let v463 : BitVec 32 := v462
  let v501 : Index := Scalar.indexCast v463
  ![0, 0, v501.toNat]
def k0_off6 (i : grid0.Coords) (arg5 : BitVec 32) (c0_i32_209 : BitVec 32) : Fin 3 → Nat :=
  let c1_268 : Index := 1#32
  let c0_269 : Index := 0#32
  let c2_i32_208 : BitVec 32 := 2#32
  let arg0 : BitVec 32 := BitVec.ofNat 32 (i 0).val
  let v439 : BitVec 32 := Scalar.muli c2_i32_208 arg0
  let v440 : BitVec 32 := Scalar.addi v439 c0_i32_209
  let v441 : BitVec 32 := Scalar.subi v440 arg5
  let c0_i32_228 : BitVec 32 := 0#32
  let v467 : BitVec 32 := Scalar.maxsi v441 c0_i32_228
  let c256_i32_229 : BitVec 32 := 256#32
  let v468 : BitVec 32 := Scalar.muli v467 c256_i32_229
  let v469 : BitVec 32 := v468
  let v507 : Index := Scalar.indexCast v469
  ![1, 0, v507.toNat]
def k0_off7 (i : grid0.Coords) (arg5 : BitVec 32) (c0_i32_213 : BitVec 32) : Fin 3 → Nat :=
  let c2_272 : Index := 2#32
  let c0_273 : Index := 0#32
  let c2_i32_212 : BitVec 32 := 2#32
  let arg0 : BitVec 32 := BitVec.ofNat 32 (i 0).val
  let v445 : BitVec 32 := Scalar.muli c2_i32_212 arg0
  let v446 : BitVec 32 := Scalar.addi v445 c0_i32_213
  let v447 : BitVec 32 := Scalar.subi v446 arg5
  let c0_i32_232 : BitVec 32 := 0#32
  let v473 : BitVec 32 := Scalar.maxsi v447 c0_i32_232
  let c256_i32_233 : BitVec 32 := 256#32
  let v474 : BitVec 32 := Scalar.muli v473 c256_i32_233
  let v475 : BitVec 32 := v474
  let v513 : Index := Scalar.indexCast v475
  ![2, 0, v513.toNat]
def k0_off8 (i : grid0.Coords) (arg5 : BitVec 32) (c0_i32_217 : BitVec 32) : Fin 3 → Nat :=
  let c3_276 : Index := 3#32
  let c0_277 : Index := 0#32
  let c2_i32_216 : BitVec 32 := 2#32
  let arg0 : BitVec 32 := BitVec.ofNat 32 (i 0).val
  let v451 : BitVec 32 := Scalar.muli c2_i32_216 arg0
  let v452 : BitVec 32 := Scalar.addi v451 c0_i32_217
  let v453 : BitVec 32 := Scalar.subi v452 arg5
  let c0_i32_236 : BitVec 32 := 0#32
  let v479 : BitVec 32 := Scalar.maxsi v453 c0_i32_236
  let c256_i32_237 : BitVec 32 := 256#32
  let v480 : BitVec 32 := Scalar.muli v479 c256_i32_237
  let v481 : BitVec 32 := v480
  let v519 : Index := Scalar.indexCast v481
  ![3, 0, v519.toNat]

def k0_chk1 (i : grid0.Coords) (arg5 : BitVec 32) : Prop :=
  (256 ∣ (k0_mult9 i arg5).toNat) ∧
  (256 ∣ (k0_mult10 i arg5).toNat) ∧
  (256 ∣ (k0_mult11 i arg5).toNat) ∧
  (256 ∣ (k0_mult12 i arg5).toNat) ∧
  (256 ∣ (k0_mult13 i arg5).toNat) ∧
  (256 ∣ (k0_mult14 i arg5).toNat) ∧
  (256 ∣ (k0_mult15 i arg5).toNat) ∧
  (256 ∣ (k0_mult16 i arg5).toNat) ∧
  (∀ (r : Fin 2), ∀ a, (k0_off5 i arg5 (BitVec.ofNat 32 r.val)) a + S1x64x256.size a ≤ S4x64x16384.size a) ∧
  (∀ (r : Fin 2), ∀ a, (k0_off6 i arg5 (BitVec.ofNat 32 r.val)) a + S1x64x256.size a ≤ S4x64x16384.size a) ∧
  (∀ (r : Fin 2), ∀ a, (k0_off7 i arg5 (BitVec.ofNat 32 r.val)) a + S1x64x256.size a ≤ S4x64x16384.size a) ∧
  (∀ (r : Fin 2), ∀ a, (k0_off8 i arg5 (BitVec.ofNat 32 r.val)) a + S1x64x256.size a ≤ S4x64x16384.size a)
theorem k0_mult9_dvd : ∀ (i : grid0.Coords) (arg5 : BitVec 32) (k0_hw1 : k0_chk1 i arg5), 256 ∣ (k0_mult9 i arg5).toNat := fun i arg5 k0_hw1 => k0_hw1.1
theorem k0_mult10_dvd : ∀ (i : grid0.Coords) (arg5 : BitVec 32) (k0_hw1 : k0_chk1 i arg5), 256 ∣ (k0_mult10 i arg5).toNat := fun i arg5 k0_hw1 => k0_hw1.2.1
theorem k0_mult11_dvd : ∀ (i : grid0.Coords) (arg5 : BitVec 32) (k0_hw1 : k0_chk1 i arg5), 256 ∣ (k0_mult11 i arg5).toNat := fun i arg5 k0_hw1 => k0_hw1.2.2.1
theorem k0_mult12_dvd : ∀ (i : grid0.Coords) (arg5 : BitVec 32) (k0_hw1 : k0_chk1 i arg5), 256 ∣ (k0_mult12 i arg5).toNat := fun i arg5 k0_hw1 => k0_hw1.2.2.2.1
theorem k0_mult13_dvd : ∀ (i : grid0.Coords) (arg5 : BitVec 32) (k0_hw1 : k0_chk1 i arg5), 256 ∣ (k0_mult13 i arg5).toNat := fun i arg5 k0_hw1 => k0_hw1.2.2.2.2.1
theorem k0_mult14_dvd : ∀ (i : grid0.Coords) (arg5 : BitVec 32) (k0_hw1 : k0_chk1 i arg5), 256 ∣ (k0_mult14 i arg5).toNat := fun i arg5 k0_hw1 => k0_hw1.2.2.2.2.2.1
theorem k0_mult15_dvd : ∀ (i : grid0.Coords) (arg5 : BitVec 32) (k0_hw1 : k0_chk1 i arg5), 256 ∣ (k0_mult15 i arg5).toNat := fun i arg5 k0_hw1 => k0_hw1.2.2.2.2.2.2.1
theorem k0_mult16_dvd : ∀ (i : grid0.Coords) (arg5 : BitVec 32) (k0_hw1 : k0_chk1 i arg5), 256 ∣ (k0_mult16 i arg5).toNat := fun i arg5 k0_hw1 => k0_hw1.2.2.2.2.2.2.2.1
theorem k0_off5_inb : ∀ (i : grid0.Coords) (arg5 : BitVec 32) (k0_hw1 : k0_chk1 i arg5), ∀ (r : Fin 2), ∀ a, (k0_off5 i arg5 (BitVec.ofNat 32 r.val)) a + S1x64x256.size a ≤ S4x64x16384.size a := fun i arg5 k0_hw1 r => k0_hw1.2.2.2.2.2.2.2.2.1 r
theorem k0_off6_inb : ∀ (i : grid0.Coords) (arg5 : BitVec 32) (k0_hw1 : k0_chk1 i arg5), ∀ (r : Fin 2), ∀ a, (k0_off6 i arg5 (BitVec.ofNat 32 r.val)) a + S1x64x256.size a ≤ S4x64x16384.size a := fun i arg5 k0_hw1 r => k0_hw1.2.2.2.2.2.2.2.2.2.1 r
theorem k0_off7_inb : ∀ (i : grid0.Coords) (arg5 : BitVec 32) (k0_hw1 : k0_chk1 i arg5), ∀ (r : Fin 2), ∀ a, (k0_off7 i arg5 (BitVec.ofNat 32 r.val)) a + S1x64x256.size a ≤ S4x64x16384.size a := fun i arg5 k0_hw1 r => k0_hw1.2.2.2.2.2.2.2.2.2.2.1 r
theorem k0_off8_inb : ∀ (i : grid0.Coords) (arg5 : BitVec 32) (k0_hw1 : k0_chk1 i arg5), ∀ (r : Fin 2), ∀ a, (k0_off8 i arg5 (BitVec.ofNat 32 r.val)) a + S1x64x256.size a ≤ S4x64x16384.size a := fun i arg5 k0_hw1 r => k0_hw1.2.2.2.2.2.2.2.2.2.2.2 r

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnfIdeal.lean ====
variable {F : FTy → Type} [FloatOps F] [Named F]
def κ : String → Option EReal := fun
  | "dead" => some ⊥
  | _ => none
-- ==== AttnfRefIdeal.lean ====
abbrev S16384x4x64 : Shape := ⟨3, ![16384, 4, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x64x16384 : Shape := ⟨3, ![4, 64, 16384]⟩

abbrev nBuf : Space → Nat
  | .hbm => 65
  | .vmem => 0
  | .smem => 0
  | _ => 0

abbrev bufTy : (tb : Table) → Fin (tcTables nBuf tb) → BufTy
  | .hbm, ⟨0, _⟩ => ⟨S16384x4x64, .f32⟩
  | .hbm, ⟨1, _⟩ => ⟨S16384x4x64, .f32⟩
  | .hbm, ⟨2, _⟩ => ⟨S16384x4x64, .f32⟩
  | .hbm, ⟨3, _⟩ => ⟨S4x16384x16384, .f32⟩
  | .hbm, ⟨4, _⟩ => ⟨S_, .f32⟩
  | .hbm, ⟨5, _⟩ => ⟨S4x16384x16384, .f32⟩
  | .hbm, ⟨6, _⟩ => ⟨S4x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S4x16384x16384, .f32⟩
  | .hbm, ⟨14, _⟩ => ⟨S_, .f32⟩
  | .hbm, ⟨15, _⟩ => ⟨S4x16384x16384, .f32⟩
  | .hbm, ⟨16, _⟩ => ⟨S4x16384x16384, .f32⟩
  | .hbm, ⟨17, _⟩ => ⟨S4x16384x16384, .f32⟩
  | .hbm, ⟨18, _⟩ => ⟨S4x16384x16384, .f32⟩
  | .hbm, ⟨19, _⟩ => ⟨S4x16384x16384, .i1⟩
  | .hbm, ⟨20, _⟩ => ⟨S4x16384x16384, .f32⟩
  | .hbm, ⟨21, _⟩ => ⟨S4x16384x16384, .f32⟩
  | .hbm, ⟨22, _⟩ => ⟨S4x16384x16384, .f32⟩
  | .hbm, ⟨23, _⟩ => ⟨S4x16384x16384, .f32⟩
  | .hbm, ⟨24, _⟩ => ⟨S4x16384x16384, .f32⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S_, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .i1⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .f32⟩
  | .hbm, ⟨42, _⟩ => ⟨S4x16384x16384, .f32⟩
  | .hbm, ⟨43, _⟩ => ⟨S4x16384x16384, .f32⟩
  | .hbm, ⟨44, _⟩ => ⟨S4x16384x16384, .f32⟩
  | .hbm, ⟨45, _⟩ => ⟨S4x16384x16384, .f32⟩
  | .hbm, ⟨46, _⟩ => ⟨S_, .f32⟩
  | .hbm, ⟨47, _⟩ => ⟨S_, .f32⟩
  | .hbm, ⟨48, _⟩ => ⟨S4x16384x16384, .i1⟩
  | .hbm, ⟨49, _⟩ => ⟨S4x16384x16384, .f32⟩
  | .hbm, ⟨50, _⟩ => ⟨S4x16384x16384, .f32⟩
  | .hbm, ⟨51, _⟩ => ⟨S_, .f32⟩
  | .hbm, ⟨52, _⟩ => ⟨S_, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S_, .f32⟩
  | .hbm, ⟨58, _⟩ => ⟨S_, .f32⟩
  | .hbm, ⟨59, _⟩ => ⟨S4x16384x16384, .i1⟩
  | .hbm, ⟨60, _⟩ => ⟨S4x16384x16384, .f32⟩
  | .hbm, ⟨61, _⟩ => ⟨S4x16384x16384, .f32⟩
  | .hbm, ⟨62, _⟩ => ⟨S4x64x16384, .f32⟩
  | .hbm, ⟨63, _⟩ => ⟨S16384x4x64, .f32⟩
  | .hbm, ⟨64, _⟩ => ⟨S4x64x16384, .f32⟩
  | _, _ => ⟨S16384x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_call0_cst : Ref sig .tc := ⟨.hbm, 31, rfl⟩
abbrev main_call1_call0_v0 : Ref sig .tc := ⟨.hbm, 32, rfl⟩
abbrev main_call1_call0_v1 : Ref sig .tc := ⟨.hbm, 33, rfl⟩
abbrev main_call1_call0_v2 : Ref sig .tc := ⟨.hbm, 34, rfl⟩
abbrev main_call1_call0_v3 : Ref sig .tc := ⟨.hbm, 35, rfl⟩
abbrev main_call1_call0_v4 : Ref sig .tc := ⟨.hbm, 36, rfl⟩
abbrev main_call1_call0_v5 : Ref sig .tc := ⟨.hbm, 37, rfl⟩
abbrev main_call1_call0_v6 : Ref sig .tc := ⟨.hbm, 38, rfl⟩
abbrev main_call1_call0_v7 : Ref sig .tc := ⟨.hbm, 39, rfl⟩
abbrev main_call1_call0_v8 : Ref sig .tc := ⟨.hbm, 40, rfl⟩
abbrev main_call1_call0_v9 : Ref sig .tc := ⟨.hbm, 41, rfl⟩
abbrev main_call1_call0_v10 : Ref sig .tc := ⟨.hbm, 42, rfl⟩
abbrev main_call1_call0_v11 : Ref sig .tc := ⟨.hbm, 43, rfl⟩
abbrev main_call1_v1 : Ref sig .tc := ⟨.hbm, 44, rfl⟩
abbrev main_v11 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v12 : Ref sig .tc := ⟨.hbm, 50, rfl⟩
abbrev main_call3_cst : Ref sig .tc := ⟨.hbm, 51, rfl⟩
abbrev main_call3_v0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩

abbrev nD : Nat := 1
abbrev τ : Topo := Topo.v7x

variable {F : FTy → Type} [FloatOps F]
-- ==== Proof.RealCalc.lean ====
/-
  Arithmetic of the extended reals on finite values: sums, products, quotients, roots and exponentials of coerced reals
  are the coercions of the real ones. The value proofs move a kernel's and a reference's term to `ℝ` with these lemmas
  and compare them there, where `ring` and `field_simp` apply.
-/
module

public import Idealize.ShloMosaic.Lib.Pointwise
public import Idealize.ShloMosaic.Lib.IdealHost

@[expose] public section

noncomputable section

open Idealize.ShloMosaic

namespace Cert.RealCalc

/-- A finite sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of reals, off zero. -/
theorem div_coe {a b : ℝ} (h : b ≠ 0) : Ideal.div (a : EReal) (b : EReal) = ((a / b : ℝ) : EReal) := by
  have h' : (b : EReal) ≠ 0 := by exact_mod_cast h
  rw [Ideal.div, if_neg h', div_eq_mul_inv, EReal.coe_mul, EReal.coe_inv]

theorem div_1024 (a : ℝ) : Ideal.div (a : EReal) ((1024 : ℝ) : EReal) = ((a / 1024 : ℝ) : EReal) := div_coe (by norm_num)

theorem div_256 (a : ℝ) : Ideal.div (a : EReal) ((256 : ℝ) : EReal) = ((a / 256 : ℝ) : EReal) := div_coe (by norm_num)

/-- The reciprocal root of a positive real. -/
theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

theorem exp_coe (r : ℝ) : Ideal.exp (r : EReal) = ((Real.exp r : ℝ) : EReal) := rfl

theorem tanh_coe (r : ℝ) : Ideal.tanh (r : EReal) = ((Real.tanh r : ℝ) : EReal) := rfl

/-- The logistic function of a real. -/
theorem logistic_coe (r : ℝ) : Ideal.logistic (r : EReal) = ((1 / (1 + Real.exp (-r)) : ℝ) : EReal) := by
  have h : (1 + Real.exp (-r)) ≠ 0 := by positivity
  rw [← div_coe h, Ideal.logistic, ← EReal.coe_neg, exp_coe, EReal.coe_add, EReal.coe_one]

/-- A value whose absolute value is below `+∞` is a real. -/
theorem exists_coe {x : EReal} (h : max x (-x) < ⊤) : ∃ r : ℝ, x = (r : EReal) := by
  induction x using EReal.rec with
  | bot => simp at h
  | top => simp at h
  | coe r => exact ⟨r, rfl⟩

/-- The small number under the root of every norm, as the real its bit pattern denotes. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, -EReal.coe_mul, eps]; norm_num

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_inf : Ideal.ofBits .f32 0x7F800000#32 = ⊤ := by
  simp [Ideal.ofBits, Ideal.ieee]

/-- A mean of squares plus `eps` is positive. -/
theorem meansq_pos {n : ℕ} (f : Fin n → ℝ) {c : ℝ} (hc : 0 < c) : 0 < (∑ k, f k * f k) / c + eps :=
  add_pos_of_nonneg_of_pos (div_nonneg (Finset.sum_nonneg fun k _ => mul_self_nonneg _) hc.le) eps_pos

/-- The square of the reciprocal root. -/
theorem inv_sqrt_sq {v : ℝ} (h : 0 < v) : (Real.sqrt v)⁻¹ * (Real.sqrt v)⁻¹ = v⁻¹ := by
  rw [← mul_inv, Real.mul_self_sqrt h.le]

end Cert.RealCalc

end
-- ==== Proof.LossPoint.lean ====
/-
  The loss head, one row of 1024 features at a time: what the kernel's body and the reference compute from a row of
  finite activations, gains and targets, as real numbers.
-/
module

public import proofs.«01_k».proof.Proof.Gen.LossIdeal.Skeleton
public import proofs.«01_k».proof.Proof.Gen.LossRefIdeal.Run
public import proofs.«01_k».proof.Proof.RealCalc

@[expose] public section

set_option maxRecDepth 16384

noncomputable section

open Idealize.ShloMosaic Idealize.ShloMosaic.TcCoe Idealize.SL.Sem

namespace Cert.LossPoint

open Cert.RealCalc

/-- The reciprocal root mean square of a row. -/
def inv (X : Fin 1024 → ℝ) : ℝ := (Real.sqrt ((∑ k, X k * X k) / 1024 + eps))⁻¹

/-- The error of the normalised, scaled row against its target. -/
def err (X G T : Fin 1024 → ℝ) (k : Fin 1024) : ℝ := X k * inv X * G k - T k

/-- The row's loss. -/
def loss (X G T : Fin 1024 → ℝ) : ℝ := (∑ k, err X G T k * err X G T k) / 1024

/-- The row's part of the gain's gradient. -/
def dgain (X G T : Fin 1024 → ℝ) (l : Fin 1024) : ℝ := err X G T l * (1 / 1024) * (X l * inv X)

/-- The row's gradient. -/
def dx (X G T : Fin 1024 → ℝ) (l : Fin 1024) : ℝ :=
  inv X * (err X G T l * (1 / 1024) * G l
    - X l * inv X * ((∑ k, err X G T k * (1 / 1024) * G k * (X k * inv X)) / 1024))

/-- The number under the root is positive. -/
theorem pos (X : Fin 1024 → ℝ) : 0 < (∑ k, X k * X k) / 1024 + eps := meansq_pos X (by norm_num)

/-- The product of the row with its normalised gradient, with the reciprocal root taken out of the sum. -/
theorem sum_out (X G T : Fin 1024 → ℝ) :
    ∑ k, err X G T k * (1 / 1024) * G k * (X k * inv X) = inv X * ∑ k, X k * (1 / 2 / 1024 * (2 * err X G T k) * G k) := by
  rw [Finset.mul_sum]
  exact Finset.sum_congr rfl fun k _ => by ring

section Kernel
open Cert.LossIdeal Cert.LossIdeal.Gen

variable (x t : FVec Ideal S512x1024 .f32) (g : FVec Ideal S1x1024 .f32) (X T G : Fin 1024 → ℝ) (r : Fin 512)
  (hx : ∀ k, x (ix2 r k) = ((X k : ℝ) : EReal)) (ht : ∀ k, t (ix2 r k) = ((T k : ℝ) : EReal))
  (hg : ∀ k, g (ix2 0 k) = ((G k : ℝ) : EReal))
include hx ht hg

/-- What the body writes to the gradient's block at a row. -/
theorem kernel_dx (l : Fin 1024) :
    k0_pay2 (F := Ideal) (k0_pay6 (F := Ideal) g) (k0_pay7 (F := Ideal) x) (k0_pay8 (F := Ideal) x) (k0_pay11 (F := Ideal) x g t) (ix2 r l)
      = ((dx X G T l : ℝ) : EReal) := by
  pointwise [k0_pay2, k0_pay6, k0_pay7, k0_pay8, k0_pay9, k0_pay11]
  simp only [hx, ht, hg, ofBits_1024, ofBits_eps, ofBits_inv1024, ← EReal.coe_mul, coe_sum, div_1024, ← EReal.coe_add, ← EReal.coe_sub, rsqrt_coe (pos X)]
  rfl

/-- The row's part of the gain's gradient. -/
theorem kernel_dgain (l : Fin 1024) :
    (show FVec Ideal S512x1024 .f32 from mulf (k0_pay11 (F := Ideal) x g t) (k0_pay8 (F := Ideal) x)) (ix2 r l)
      = ((dgain X G T l : ℝ) : EReal) := by
  pointwise [k0_pay6, k0_pay7, k0_pay8, k0_pay9, k0_pay11]
  simp only [hx, ht, hg, ofBits_1024, ofBits_eps, ofBits_inv1024, ← EReal.coe_mul, coe_sum, div_1024, ← EReal.coe_add, ← EReal.coe_sub, rsqrt_coe (pos X)]
  rfl

end Kernel

section KernelSums
open Cert.LossIdeal Cert.LossIdeal.Gen

variable (x t : FVec Ideal S512x1024 .f32) (g : FVec Ideal S1x1024 .f32) (X T : Fin 512 → Fin 1024 → ℝ) (G : Fin 1024 → ℝ)
  (hx : ∀ r k, x (ix2 r k) = ((X r k : ℝ) : EReal)) (ht : ∀ r k, t (ix2 r k) = ((T r k : ℝ) : EReal))
  (hg : ∀ k, g (ix2 0 k) = ((G k : ℝ) : EReal))
include hx ht hg

/-- What the body adds to the loss at a point: half the sum of its rows' losses. -/
theorem kernel_loss (acc : FVec Ideal S1x128 .f32) (l : Fin 128) :
    k0_pay10 (F := Ideal) x g t acc (ix2 0 l) = acc (ix2 0 l) + ((1 / 2 * ∑ r, loss (X r) G (T r) : ℝ) : EReal) := by
  pointwise [k0_pay10, k0_pay6, k0_pay7, k0_pay8, k0_pay9]
  simp only [hx, ht, hg, ofBits_1024, ofBits_eps, ofBits_half, ← EReal.coe_mul, coe_sum, div_1024, ← EReal.coe_add, ← EReal.coe_sub, rsqrt_coe (pos _)]
  rfl

/-- What the body adds to the gain's gradient at a point. -/
theorem kernel_dg (acc : FVec Ideal S1x1024 .f32) (l : Fin 1024) :
    k0_pay1 (F := Ideal) (k0_pay8 (F := Ideal) x) (k0_pay11 (F := Ideal) x g t) acc (ix2 0 l)
      = acc (ix2 0 l) + ((∑ r, dgain (X r) G (T r) l : ℝ) : EReal) := by
  pointwise [k0_pay1, k0_pay6, k0_pay7, k0_pay8, k0_pay9, k0_pay11]
  simp only [hx, ht, hg, ofBits_1024, ofBits_eps, ofBits_inv1024, ← EReal.coe_mul, coe_sum, div_1024, ← EReal.coe_add, ← EReal.coe_sub, rsqrt_coe (pos _)]
  rfl

end KernelSums

section Ref
open Cert.LossRefIdeal Cert.LossRefIdeal.Gen

variable (m : (ℓ : Loc nD τ sig) → Buf (Elt Ideal) ℓ) (c : Dev nD) (X T : Fin 16384 → Fin 1024 → ℝ) (G : Fin 1024 → ℝ)
  (hx : ∀ r k, (m ((c.tc : Thread nD τ).loc main_arg0) : FVec Ideal S16384x1024 .f32) (ix2 r k) = ((X r k : ℝ) : EReal))
  (ht : ∀ r k, (m ((c.tc : Thread nD τ).loc main_arg2) : FVec Ideal S16384x1024 .f32) (ix2 r k) = ((T r k : ℝ) : EReal))
  (hg : ∀ k, (m ((c.tc : Thread nD τ).loc main_arg1) : FVec Ideal S1024 .f32) (ix1 k) = ((G k : ℝ) : EReal))
include hx ht hg

/-- The reference's gradient at a row. -/
theorem ref_dx (r : Fin 16384) (l : Fin 1024) :
    (Value.res_out1 m c : FVec Ideal S16384x1024 .f32) (ix2 r l) = ((dx (X r) G (T r) l : ℝ) : EReal) := by
  unfold Value.res_out1 Value.res_main_v50
  pointwise
  simp only [hx, ht, hg, ofBits_1024, ofBits_eps, ofBits_half, ofBits_neg_half, ofBits_2, ← EReal.coe_mul, coe_sum, div_1024, ← EReal.coe_add,
    ← EReal.coe_sub, rsqrt_coe (pos _), div_coe (pos _).ne', Finset.univ_unique, Finset.sum_singleton]
  refine congrArg _ ?_
  have h := inv_sqrt_sq (pos (X r))
  unfold dx
  rw [sum_out]
  simp only [err, inv]
  rw [div_eq_mul_inv ((Real.sqrt _)⁻¹), ← h]
  ring

end Ref

end Cert.LossPoint

end
-- ==== Proof.LossValue.lean ====
/-
  The loss head's four result arrays after the run: the gradient row by row, the loss and the gain's gradient as the
  sums over all 16384 rows that the 32 grid points accumulate.
-/
module

public import proofs.«01_k».proof.Proof.LossPoint
public import proofs.«01_k».proof.Proof.Gen.LossIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossValue

open Cert.RealCalc Cert.LossPoint Cert.LossIdeal Cert.LossIdeal.Gen

variable (m : (ℓ : Loc nD τ sig) → Buf (Elt Ideal) ℓ) (c : Dev nD)

/-- The windows' block indices. -/
theorem idx : ∀ t : Fin cfg0.N, t.val < 32 ∧ win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem row_lt (t : Fin cfg0.N) (r : Fin 512) : t.val * 512 + r.val < 16384 := by
  have := (idx t).1; omega

/-- Row `r` of the block of point `t`, in the array. -/
abbrev row (t : Fin cfg0.N) (r : Fin 512) : Fin 16384 := ⟨t.val * 512 + r.val, row_lt t r⟩

theorem blk0 (t : Fin cfg0.N) (r : Fin 512) (k : Fin 1024) :
    (iblk m c 0 t : FVec Ideal S512x1024 .f32) (ix2 r k) = (m ((c : Thread nD τ).loc main_arg0) : FVec Ideal S16384x1024 .f32) (ix2 (row t r) k) := by
  blk_ext [iblk, V, idx t]

theorem blk2 (t : Fin cfg0.N) (r : Fin 512) (k : Fin 1024) :
    (iblk m c 2 t : FVec Ideal S512x1024 .f32) (ix2 r k) = (m ((c : Thread nD τ).loc main_arg2) : FVec Ideal S16384x1024 .f32) (ix2 (row t r) k) := by
  blk_ext [iblk, V, idx t]

theorem blk1 (t : Fin cfg0.N) (k : Fin 1024) :
    (iblk m c 1 t : FVec Ideal S1x1024 .f32) (ix2 0 k) = (m ((c : Thread nD τ).loc main_arg1) : FVec Ideal S1024 .f32) (ix1 k) := by
  blk_point [iblk, V, idx t]

variable (X T : Fin 16384 → Fin 1024 → ℝ) (G : Fin 1024 → ℝ)
  (hx : ∀ r k, (m ((c : Thread nD τ).loc main_arg0) : FVec Ideal S16384x1024 .f32) (ix2 r k) = ((X r k : ℝ) : EReal))
  (ht : ∀ r k, (m ((c : Thread nD τ).loc main_arg2) : FVec Ideal S16384x1024 .f32) (ix2 r k) = ((T r k : ℝ) : EReal))
  (hg : ∀ k, (m ((c : Thread nD τ).loc main_arg1) : FVec Ideal S1024 .f32) (ix1 k) = ((G k : ℝ) : EReal))
include hx ht hg

omit hx ht hg in
/-- The gradient over all rows. -/
def grad (X T : Fin 16384 → Fin 1024 → ℝ) (G : Fin 1024 → ℝ) : FVec Ideal S16384x1024 .f32 :=
  fun i => ((dx (X (i 0)) G (T (i 0)) (i 1) : ℝ) : EReal)

/-- The gain's gradient over all rows. -/
def gain (X T : Fin 16384 → Fin 1024 → ℝ) (G : Fin 1024 → ℝ) : FVec Ideal S1x1024 .f32 :=
  fun i => ((∑ r, dgain (X r) G (T r) (i 1) : ℝ) : EReal)

/-- The loss over all rows, in every lane. -/
def total (X T : Fin 16384 → Fin 1024 → ℝ) (G : Fin 1024 → ℝ) : FVec Ideal S1x128 .f32 :=
  fun _ => ((1 / 2 * ∑ r, loss (X r) G (T r) : ℝ) : EReal)

/-- What point `t` writes to the gradient's block. -/
theorem point4 (t : Fin cfg0.N) (y : S512x1024.Idx) :
    k0_pay2 (F := Ideal) (k0_pay6 (F := Ideal) (iblk m c 1 t)) (k0_pay7 (F := Ideal) (iblk m c 0 t)) (k0_pay8 (F := Ideal) (iblk m c 0 t))
      (k0_pay11 (F := Ideal) (iblk m c 0 t) (iblk m c 1 t) (iblk m c 2 t)) y = grad X T G (ix2 (row t (y 0)) (y 1)) := by
  idx_vars y
  exact kernel_dx _ _ _ (X (row t y0)) (T (row t y0)) G y0 (fun k => (blk0 m c t y0 k).trans (hx _ k)) (fun k => (blk2 m c t y0 k).trans (ht _ k))
    (fun k => (blk1 m c t k).trans (hg k)) y1

/-- The gradient's array. -/
theorem final4 : (dats m 0 c).arrAt 4 cfg0.N = grad X T G := by
  refine (dats m 0 c).arrAt_eq_of_covers 4 _ (by decide +kernel) fun t _ y => ?_
  blk_simp
  rw [after0_4]
  by_cases h : t.val % 32 = 0
  · rw [outsAt0_A m c t h]; frame_out
    exact (point4 m c X T G hx ht hg t y).trans (congrArg (grad X T G) (by blk_ext [idx t]))
  · rw [outsAt0_B m c t h]; frame_out
    exact (point4 m c X T G hx ht hg t y).trans (congrArg (grad X T G) (by blk_ext [idx t]))

/-- The gradient's array in the narrow format: the same values. -/
theorem final5 : (dats m 0 c).arrAt 5 cfg0.N = (show FVec Ideal S16384x1024 .bf16 from grad X T G) := by
  refine (dats m 0 c).arrAt_eq_of_covers 5 _ (by decide +kernel) fun t _ y => ?_
  blk_simp
  rw [after0_5]
  by_cases h : t.val % 32 = 0
  · rw [outsAt0_A m c t h]; frame_out
    exact (point4 m c X T G hx ht hg t y).trans (congrArg (grad X T G) (by blk_ext [idx t]))
  · rw [outsAt0_B m c t h]; frame_out
    exact (point4 m c X T G hx ht hg t y).trans (congrArg (grad X T G) (by blk_ext [idx t]))

omit hx ht hg in
theorem zero3 (j : S1x128.Idx) : k0_pay4 (F := Ideal) j = 0 := by pointwise [k0_pay4]

omit hx ht hg in
theorem zero6 (j : S1x1024.Idx) : k0_pay5 (F := Ideal) j = 0 := by pointwise [k0_pay5]

/-- What point `t` adds to the loss. -/
theorem point3 (t : Fin cfg0.N) (acc : FVec Ideal S1x128 .f32) (j : S1x128.Idx) :
    k0_pay10 (F := Ideal) (iblk m c 0 t) (iblk m c 1 t) (iblk m c 2 t) acc j
      = acc j + ((1 / 2 * ∑ r, loss (X (row t r)) G (T (row t r)) : ℝ) : EReal) := by
  idx_vars j
  obtain rfl : j0 = 0 := Subsingleton.elim _ _
  exact kernel_loss _ _ _ (fun r => X (row t r)) (fun r => T (row t r)) G (fun r k => (blk0 m c t r k).trans (hx _ k))
    (fun r k => (blk2 m c t r k).trans (ht _ k)) (fun k => (blk1 m c t k).trans (hg k)) acc j1

/-- What point `t` adds to the gain's gradient. -/
theorem point6 (t : Fin cfg0.N) (acc : FVec Ideal S1x1024 .f32) (j : S1x1024.Idx) :
    k0_pay1 (F := Ideal) (k0_pay8 (F := Ideal) (iblk m c 0 t)) (k0_pay11 (F := Ideal) (iblk m c 0 t) (iblk m c 1 t) (iblk m c 2 t)) acc j
      = acc j + ((∑ r, dgain (X (row t r)) G (T (row t r)) (j 1) : ℝ) : EReal) := by
  idx_vars j
  obtain rfl : j0 = 0 := Subsingleton.elim _ _
  exact kernel_dg _ _ _ (fun r => X (row t r)) (fun r => T (row t r)) G (fun r k => (blk0 m c t r k).trans (hx _ k))
    (fun r k => (blk2 m c t r k).trans (ht _ k)) (fun k => (blk1 m c t k).trans (hg k)) acc j1

omit hx ht hg in
/-- The 32 blocks of 512 rows are the 16384 rows. -/
theorem rows (f : Fin 16384 → ℝ) (t : Fin cfg0.N) (h : ∀ s : Fin 32, 32 * (t.val / 32) + s.val < cfg0.N) :
    ∑ s : Fin 32, ∑ r : Fin 512, f (row ⟨32 * (t.val / 32) + s.val, h s⟩ r) = ∑ r, f r := by
  refine Fin.sum_mul_add_congr fun s k hl => congrArg f (Fin.ext ?_)
  have := (idx t).1
  show (32 * (t.val / 32) + s.val) * 512 + k.val = s.val * 512 + k.val
  omega

/-- The loss's array. -/
theorem final3 : (dats m 0 c).arrAt 3 cfg0.N = total X T G := by
  refine (dats m 0 c).arrAt_eq_of_covers 3 _ (by decide +kernel) fun t hf y => ?_
  blk_simp
  rw [after0_3, Pipeline.eq_sum_fin_of_reset_step_apply_of_flush (fun n h => (outsAt0 m c n h).1) 32 (fun _ => 0)
    (fun p _ => ((1 / 2 * ∑ r, loss (X (row p r)) G (T (row p r)) : ℝ) : EReal))
    (fun t h j => by rw [outsAt0_A m c t h]; frame_out; rw [point3 m c X T G hx ht hg, zero3])
    (fun t h j => by rw [outsAt0_B m c t h]; frame_out; rw [point3 m c X T G hx ht hg]) t ((flush0_3 t).mp hf) _, zero_add]
  refine (coe_sum _ _).trans (congrArg _ ?_)
  rw [← Finset.mul_sum]
  exact congrArg _ (rows (fun r => loss (X r) G (T r)) t _)

/-- The gain's gradient's array. -/
theorem final6 : (dats m 0 c).arrAt 6 cfg0.N = gain X T G := by
  refine (dats m 0 c).arrAt_eq_of_covers 6 _ (by decide +kernel) fun t hf y => ?_
  blk_simp
  rw [after0_6, Pipeline.eq_sum_fin_of_reset_step_apply_of_flush (fun n h => (outsAt0 m c n h).2.2.2) 32 (fun _ => 0)
    (fun p j => ((∑ r, dgain (X (row p r)) G (T (row p r)) (j 1) : ℝ) : EReal))
    (fun t h j => by rw [outsAt0_A m c t h]; frame_out; rw [point6 m c X T G hx ht hg, zero6])
    (fun t h j => by rw [outsAt0_B m c t h]; frame_out; rw [point6 m c X T G hx ht hg]) t ((flush0_6 t).mp hf) _, zero_add]
  refine (coe_sum _ _).trans ?_
  rw [rows (fun r => dgain (X r) G (T r) (y 1)) t]
  exact congrArg (gain X T G) (show y = _ by blk_ext [idx t])

end Cert.LossValue

end
-- ==== Proof.Finite.lean ====
/-
  What the preconditions say: an array whose entries' sizes are below infinity is an array of reals.
-/
module

public import proofs.«01_k».proof.Proof.RealCalc
public import Idealize.ShloMosaic.PureOps

@[expose] public section

noncomputable section

open Idealize.ShloMosaic

namespace Cert.Finite

open Cert.RealCalc

/-- An array that the comparison of its sizes with infinity accepts holds a real at each index. -/
theorem entry {s z : Shape} (x : FVec Ideal s .f32) {d : Fin z.rank → Fin s.rank} (hb : z.BroadcastsInDim s d)
    (h : cmpf .olt (Host.absf x) (broadcastInDim s d hb (constant z .f32 0x7F800000#32)) = fun _ => 1#1) (i : s.Idx) :
    ∃ r : ℝ, x i = (r : EReal) := by
  have h1 := congrFun h i
  have h2 : BitVec.ofBool (decide (max (x i) (-x i) < Ideal.ofBits .f32 0x7F800000#32)) = 1#1 := h1
  rw [ofBits_inf] at h2
  exact exists_coe (by by_contra hc; rw [decide_eq_false hc] at h2; exact absurd h2 (by decide))

end Cert.Finite

end
-- ==== Proof.LossClaim.lean ====
/-
  The loss head's claims: the kernel's four result arrays are the reference's.
-/
module

public import proofs.«01_k».proof.Defs
public import proofs.«01_k».proof.Proof.LossValue
public import proofs.«01_k».proof.Proof.Finite
public import Idealize.ShloMosaic.Lib.Claim
public import proofs.«01_k».proof.Proof.Gen.Pre_loss_finite

@[expose] public section

set_option maxRecDepth 100000

noncomputable section

open Idealize.ShloMosaic Idealize.ShloMosaic.TcCoe Idealize.SL.Sem

namespace Cert.LossClaim

open Cert.RealCalc

/-- The reference runs to the end and keeps its arguments; it has no semaphore. -/
theorem reference : @Cert.quiescent_LossRefIdeal Cert.LossRefIdeal.Gen.facts := fun m g _ => by
  refine θ_run_mono (Cert.LossRefIdeal.Value.run m g) fun r h => ⟨fun c => ?_, sem_eq_zero_of_no_sems (by decide) r.2⟩
  obtain ⟨_, _, _, _, h⟩ := h c
  exact h

open Cert.LossPoint Cert.LossValue in
/-- The loss, its gradient in both formats and the gain's gradient are the reference's, on finite inputs. -/
theorem algebraic : @Cert.algebraic_LossIdeal_LossRefIdeal_pre_loss_finite Cert.LossIdeal.Gen.facts Cert.LossRefIdeal.Gen.facts Cert.Pre_loss_finite.Gen.facts := by
  pair_intro
  · run_from Cert.LossIdeal.Value.run_blocks m g
  · run_from Cert.LossRefIdeal.Value.run m' g'
    all_goals
      obtain ⟨h0, h1, h2⟩ := hpre c
      choose X hx using fun (r : Fin 16384) (k : Fin 1024) => Finite.entry _ _ h0 (ix2 r k)
      choose G hg using fun k : Fin 1024 => Finite.entry _ _ h1 (ix1 k)
      choose T ht using fun (r : Fin 16384) (k : Fin 1024) => Finite.entry _ _ h2 (ix2 r k)
    · rw [final3 m c X T G hx ht hg]
      funext j
      idx_vars j
      pointwise
      simp only [hx, ht, hg, ofBits_1024, ofBits_eps, ofBits_half, ← EReal.coe_mul, coe_sum, div_1024, ← EReal.coe_add, ← EReal.coe_sub, rsqrt_coe (pos _)]
      rfl
    · rw [final4 m c X T G hx ht hg]
      funext j
      idx_vars j
      exact ref_dx m' c X T G (by simpa only [hagree c] using hx) (by simpa only [hagree c] using ht) (by simpa only [hagree c] using hg) _ _
    · rw [final5 m c X T G hx ht hg]
      funext j
      idx_vars j
      exact ref_dx m' c X T G (by simpa only [hagree c] using hx) (by simpa only [hagree c] using ht) (by simpa only [hagree c] using hg) _ _
    · rw [final6 m c X T G hx ht hg]
      funext j
      idx_vars j
      pointwise
      simp only [hx, ht, hg, ofBits_1024, ofBits_eps, ofBits_half, ofBits_2, ← EReal.coe_mul, coe_sum, div_1024, ← EReal.coe_add, ← EReal.coe_sub, rsqrt_coe (pos _),
        Finset.univ_unique, Finset.sum_singleton]
      refine congrArg _ (Finset.sum_congr rfl fun r _ => ?_)
      show _ = dgain (X r) G (T r) j1
      unfold dgain err LossPoint.inv
      ring

end Cert.LossClaim

end
-- ==== Proof.Held.lean ====
module

public import Idealize.ShloMosaic.Lib.Tactic
public import Idealize.ShloMosaic.Lib.WholeRead
public import Idealize.ShloMosaic.Lib.Pipeline.Frame

@[expose] public section

/-
  Loads and stores through a whole memref, stated over what the memref reads: a load gives the entries of the contents at
  the rectangle's places, a store leaves the contents patched over the rectangle.
-/

noncomputable section

namespace Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- An array with the entries of `w` put over the rectangle `r`. -/
def patch {s : Shape} {α : Type} (x : s.Idx → α) (r : Rect s) (w : r.shape.Idx → α) : s.Idx → α :=
  open Classical in fun y => if h : ∃ z, r.emb z = y then w h.choose else x y

theorem patch_emb {s : Shape} {α : Type} (x : s.Idx → α) (r : Rect s) (w : r.shape.Idx → α) (z : r.shape.Idx) :
    patch x r w (r.emb z) = w z := by
  have h : ∃ z', r.emb z' = r.emb z := ⟨z, rfl⟩
  unfold patch
  rw [dif_pos h, r.emb.injective h.choose_spec]

theorem patch_of_not {s : Shape} {α : Type} (x : s.Idx → α) (r : Rect s) (w : r.shape.Idx → α) (y : s.Idx)
    (h : ¬ ∃ z, r.emb z = y) : patch x r w y = x y := by
  unfold patch
  rw [dif_neg h]

theorem patch_unit_zero {s : Shape} {α : Type} (x : s.Idx → α) (off : Fin s.rank → ℕ) (h0 : ∀ a, off a = 0)
    (inb : ∀ a, off a + s.size a ≤ s.size a) (w : s.Idx → α) : patch x (Rect.unit off s.size inb) w = w := by
  funext y
  have he : (Rect.unit off s.size inb).emb y = y := by
    funext a; apply Fin.ext
    show off a + 1 * (y a).val = (y a).val
    rw [h0 a]; omega
  exact (congrArg (patch x (Rect.unit off s.size inb) w) he.symm).trans (patch_emb x (Rect.unit off s.size inb) w y)

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}
variable {α : Type} {Q : α → sProp (MT nD τ sig Ix Val Name U Lvl)}

local notation "𝕄" => MT nD τ sig Ix Val Name U Lvl

/-- Reading a view after a store through a rectangle of it. -/
theorem read_write {κ : Kind} {sp : Space} (v : View sig κ sp s e) (r : Rect s) (f : v.ty.Contents Val) (w : r.shape.Idx → Val e) :
    v.read Val ((v.slice r).write Val f w Finset.univ) = patch (v.read Val f) r w := by
  funext y
  by_cases h : ∃ z, r.emb z = y
  · obtain ⟨z, rfl⟩ := h
    rw [patch_emb]
    exact congrFun (View.read_write_univ (v := v.slice r) f w) z
  · rw [patch_of_not _ _ _ _ h]
    refine View.read_slice_write_of_not_mem _ _ _ _ fun hm => h ?_
    obtain ⟨z, _, hz⟩ := Finset.mem_map.mp hm
    exact ⟨z, hz⟩

/-- A load at the head of a program, the memref owned whole. -/
theorem load {cs : CoreSpace} {m : Memref sig c.2.kind cs s e} {r : LoadRect s} {hl : m.view.LoadsAt r}
    {k : (r.shape.Idx → Val e) → Prog (TpuEff nD τ sig Val Λ c.2) α} (x : s.Idx → Val e) :
    (owns c m fullShare x : sProp 𝕄)
      ⊢ iprop((owns c m fullShare x -∗ wp frame (wpE defs 𝒱 c bd) E (k fun z => x (r.idx z)) Q)
        -∗ wp frame (wpE defs 𝒱 c bd) E (.op (.load m r hl) k) Q) := by
  unfold owns
  iintro ⟨%f, %hf, H⟩ Hk
  iapply (wp_load 𝒱 c bd E (View.setOn_subset_set _ _)) $$ H
  iintro H
  rw [show m.view.readAt Val r f = fun z => x (r.idx z) from funext fun z => (View.readAt_apply ..).trans (congrFun hf _)]
  iapply Hk
  iexists f
  isplitr
  · ipureintro; exact hf
  iexact H

/-- A store at the head of a program, the memref owned whole, the contents after it named. -/
theorem store {cs : CoreSpace} {m : Memref sig c.2.kind cs s e} {r : Rect s} {w : r.shape.Idx → Val e} {hx : (m.access r).Stores Finset.univ}
    {hm : Finset.univ = Finset.univ ∨ ∀ a, r.stride a = 1}
    {k : PUnit → Prog (TpuEff nD τ sig Val Λ c.2) α} (x x' : s.Idx → Val e) (hx' : patch x r w = x') :
    (owns c m fullShare x : sProp 𝕄)
      ⊢ iprop((owns c m fullShare x' -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (S := m.view.set) (f := f) ?_) $$ H
  · exact (View.set_slice_subset ..)
  iintro H
  iapply Hk
  iexists _
  isplitr
  · ipureintro; exact (read_write m.view r f w).trans (by rw [hf, hx'])
  iexact H

end Held
end
-- ==== Proof.AttnLane.lean ====
module

public import proofs.«01_k».proof.AttnIdeal
public import Idealize.ShloMosaic.Lib.Tactic
public import proofs.«01_k».proof.Proof.Gen.AttnIdeal.Skeleton
public import proofs.«01_k».proof.Proof.Held

/-! The arithmetic of one query tile against one key tile, as functions of the seven tiles it reads,
and the state the loop carries. Four such lanes (two heads, two query tiles) run side by side. -/

@[expose] public section

noncomputable section

namespace Cert.AttnLane

open Cert.AttnIdeal Cert.AttnIdeal.Gen
open Idealize.ShloMosaic

variable {F : FTy → Type} [FloatOps F]

/-- What the windows hold at a grid point. -/
structure Ins (F : FTy → Type) where
  (q : Vec F S2x512x64 .bf16) (qt : Vec F S2x64x512 .bf16) (k v : Vec F S2x64x16384 .bf16)
  (d : Vec F S2x512x64 .bf16) (dt : Vec F S2x64x512 .bf16) (ds : Vec F S2x512x1 .f32)

/-- The tiles one lane reads. -/
structure Tiles (F : FTy → Type) where
  (q d : Vec F S1x256x64 .bf16) (kt vt qt dt : Vec F S1x64x256 .bf16) (ds : Vec F S1x256x1 .f32)

/-- What a lane carries: the row sum of log(1 − p), that of the weighted gradients, and the
query gradient. -/
structure Carry (F : FTy → Type) where
  (c g : FVec F S256x1 .f32) (s : FVec F S64x256 .f32)

/-- The masks of a lane: on log(1 − p), on weights and score gradients, on the row total. -/
structure Mask (F : FTy → Type) where
  (ma mw : FVec F S256x256 .f32 → FVec F S256x256 .f32) (mt : FVec F S256x1 .f32 → FVec F S256x1 .f32)

def zero256 : FVec F S256x256 .f32 := broadcast S256x256 (Scalar.ofBits .f32 0x00000000#32)

/-- The scores. -/
def sz (T : Tiles F) : FVec F S256x256 .f32 :=
  matmul dot_S256x64_S64x256_S256x256_1_0_0_1_n_n none (shapeCast S256x64 T.q shapeCasts_S1x256x64_S256x64)
    (shapeCast S64x256 T.kt shapeCasts_S1x64x256_S64x256) (constant S256x256 .f32 0x00000000#32)

/-- log(1 − sigmoid). -/
def lm (z : FVec F S256x256 .f32) : FVec F S256x256 .f32 :=
  subf zero256 (addf (maximumf z zero256)
    (log (addf (broadcast S256x256 (Scalar.ofBits .f32 0x3F800000#32)) (exp (subf zero256 (absf z))))))

/-- log sigmoid. -/
def lb (z : FVec F S256x256 .f32) : FVec F S256x256 .f32 := addf (lm z) z

/-- A product with a triangle of ones, the left side in two halves. -/
def mm2 (t : FVec F S256x256 .bf16) (a : FVec F S256x256 .f32) : FVec F S256x256 .f32 :=
  addf (matmul dot_S256x256_S256x256_S256x256_1_0_0_1_n_n none (truncf .bf16 a bitsLt_bf16_f32) t (constant S256x256 .f32 0x00000000#32))
    (matmul dot_S256x256_S256x256_S256x256_1_0_0_1_n_n none
      (truncf .bf16 (subf a (extf .f32 (truncf .bf16 a bitsLt_bf16_f32 : FVec F S256x256 .bf16) bitsLt_bf16_f32)) bitsLt_bf16_f32) t
      (constant S256x256 .f32 0x00000000#32))

/-- Row sums as a column. -/
def rows (a : FVec F S256x256 .f32) : FVec F S256x1 .f32 :=
  shapeCast S256x1 (multiReduction .add [1] S256 a 0x00000000#32 reduces_S256x256_S256 (.inl rfl) rfl : FVec F S256 .f32) shapeCasts_S256_S256x1

/-- The attention weights. -/
def w (M : Mask F) (v15 : FVec F S256x256 .bf16) (c : FVec F S256x1 .f32) (z : FVec F S256x256 .f32) : FVec F S256x256 .bf16 :=
  truncf .bf16 (M.mw (exp (addf (addf (lb z) (mm2 v15 (M.ma (lm z)))) (broadcastTo S256x256 c broadcasts_S256x1_S256x256)))) bitsLt_bf16_f32

/-- Weights times their cotangents. -/
def gr (T : Tiles F) (w : FVec F S256x256 .bf16) : FVec F S256x256 .f32 :=
  mulf (extf .f32 w bitsLt_bf16_f32) (matmul dot_S256x64_S64x256_S256x256_1_0_0_1_n_n none (shapeCast S256x64 T.d shapeCasts_S1x256x64_S256x64)
    (shapeCast S64x256 T.vt shapeCasts_S1x64x256_S64x256) (constant S256x256 .f32 0x00000000#32))

/-- The gradient of the scores. -/
def dz (M : Mask F) (v19 : FVec F S256x256 .bf16) (T : Tiles F) (gs : FVec F S256x1 .f32) (z g : FVec F S256x256 .f32) : FVec F S256x256 .bf16 :=
  truncf .bf16 (M.mw (subf g (mulf (exp (lb z)) (addf g (subf
    (broadcastTo S256x256 (subf (shapeCast S256x1 T.ds shapeCasts_S1x256x1_S256x1) gs) broadcasts_S256x1_S256x256) (mm2 v19 g)))))) bitsLt_bf16_f32

/-- A lane's weights, products and score gradients. -/
def lw (M : Mask F) (v15 : FVec F S256x256 .bf16) (T : Tiles F) (L : Carry F) : FVec F S256x256 .bf16 := w M v15 L.c (sz T)
def lg (M : Mask F) (v15 : FVec F S256x256 .bf16) (T : Tiles F) (L : Carry F) : FVec F S256x256 .f32 := gr T (lw M v15 T L)
def ldz (M : Mask F) (v15 v19 : FVec F S256x256 .bf16) (T : Tiles F) (L : Carry F) : FVec F S256x256 .bf16 :=
  dz M v19 T L.g (sz T) (lg M v15 T L)

/-- What the lane carries on. -/
def lnext (M : Mask F) (v15 v19 : FVec F S256x256 .bf16) (T : Tiles F) (L : Carry F) : Carry F where
  c := addf L.c (M.mt (rows (M.ma (lm (sz T)))))
  g := addf L.g (rows (lg M v15 T L))
  s := addf L.s (matmul dot_S64x256_S256x256_S64x256_1_1_0_0_n_n none (shapeCast S64x256 T.kt shapeCasts_S1x64x256_S64x256)
    (ldz M v15 v19 T L) (constant S64x256 .f32 0x00000000#32))

/-- A rectangle of one head and 256 columns. -/
abbrev Inb (off : Fin 3 → ℕ) : Prop := ∀ a, off a + S1x64x256.size a ≤ S2x64x16384.size a
abbrev cols (off : Fin 3 → ℕ) (h : Inb off) : Rect S2x64x16384 := Rect.unit (s := S2x64x16384) off S1x64x256.size h

/-- A tile's update: the product with `a` added to the columns. -/
def upd (x : Vec F S2x64x16384 .f32) (off : Fin 3 → ℕ) (h : Inb off) (t : Vec F S1x64x256 .bf16) (a : FVec F S256x256 .bf16) : Vec F S2x64x16384 .f32 :=
  Held.patch x (cols off h) (shapeCast S1x64x256 (addf (shapeCast S64x256 (fun z => x ((cols off h).toLoadRect.idx z) : Vec F S1x64x256 .f32) shapeCasts_S1x64x256_S64x256)
    (matmul dot_S64x256_S256x256_S64x256_1_0_0_1_n_n none (shapeCast S64x256 t shapeCasts_S1x64x256_S64x256) a
      (constant S64x256 .f32 0x00000000#32))) shapeCasts_S64x256_S1x64x256 : FVec F S1x64x256 .f32)

/-- The tiles of a lane whose rows start at `oq`, columns at `ot`, keys at `off`. -/
def tiles (X : Ins F) (off : Fin 3 → ℕ) (h : Inb off) (oq : Fin 3 → ℕ) (hq : ∀ a, oq a + S1x256x64.size a ≤ S2x512x64.size a)
    (hs : ∀ a, oq a + S1x256x1.size a ≤ S2x512x1.size a) (ot : Fin 3 → ℕ) (ht : ∀ a, ot a + S1x64x256.size a ≤ S2x64x512.size a) : Tiles F where
  q := fun z => X.q ((Rect.unit (s := S2x512x64) oq S1x256x64.size hq).toLoadRect.idx z)
  d := fun z => X.d ((Rect.unit (s := S2x512x64) oq S1x256x64.size hq).toLoadRect.idx z)
  kt := fun z => X.k ((cols off h).toLoadRect.idx z)
  vt := fun z => X.v ((cols off h).toLoadRect.idx z)
  qt := fun z => X.qt ((Rect.unit (s := S2x64x512) ot S1x64x256.size ht).toLoadRect.idx z)
  dt := fun z => X.dt ((Rect.unit (s := S2x64x512) ot S1x64x256.size ht).toLoadRect.idx z)
  ds := fun z => X.ds ((Rect.unit (s := S2x512x1) oq S1x256x1.size hs).toLoadRect.idx z)

abbrev tiles00 (X : Ins F) (off : Fin 3 → ℕ) (h : Inb off) : Tiles F := tiles X off h ![0, 0, 0] inb_S2x512x64_S1x256x64_0_0_0 inb_S2x512x1_S1x256x1_0_0_0 ![0, 0, 0] inb_S2x64x512_S1x64x256_0_0_0
abbrev tiles01 (X : Ins F) (off : Fin 3 → ℕ) (h : Inb off) : Tiles F := tiles X off h ![0, 256, 0] inb_S2x512x64_S1x256x64_0_256_0 inb_S2x512x1_S1x256x1_0_256_0 ![0, 0, 256] inb_S2x64x512_S1x64x256_0_0_256
abbrev tiles10 (X : Ins F) (off : Fin 3 → ℕ) (h : Inb off) : Tiles F := tiles X off h ![1, 0, 0] inb_S2x512x64_S1x256x64_1_0_0 inb_S2x512x1_S1x256x1_1_0_0 ![1, 0, 0] inb_S2x64x512_S1x64x256_1_0_0
abbrev tiles11 (X : Ins F) (off : Fin 3 → ℕ) (h : Inb off) : Tiles F := tiles X off h ![1, 256, 0] inb_S2x512x64_S1x256x64_1_256_0 inb_S2x512x1_S1x256x1_1_256_0 ![1, 0, 256] inb_S2x64x512_S1x64x256_1_0_256

/-- The loop's state: four lanes and the two resident gradients. -/
structure St (F : FTy → Type) where
  (l0 l1 l2 l3 : Carry F) (k v : Vec F S2x64x16384 .f32)

/-- One round over four key tiles. -/
def round (M0 M1 : Mask F) (v15 v19 : FVec F S256x256 .bf16) (X : Ins F) (o0 o1 o2 o3 : Fin 3 → ℕ) (h0 : Inb o0) (h1 : Inb o1) (h2 : Inb o2) (h3 : Inb o3)
    (st : St F) : St F where
  l0 := lnext M0 v15 v19 (tiles00 X o0 h0) st.l0
  l1 := lnext M1 v15 v19 (tiles01 X o1 h1) st.l1
  l2 := lnext M0 v15 v19 (tiles10 X o2 h2) st.l2
  l3 := lnext M1 v15 v19 (tiles11 X o3 h3) st.l3
  k := upd (upd (upd (upd st.k o0 h0 (tiles00 X o0 h0).qt (ldz M0 v15 v19 (tiles00 X o0 h0) st.l0))
        o1 h1 (tiles01 X o1 h1).qt (ldz M1 v15 v19 (tiles01 X o1 h1) st.l1))
        o2 h2 (tiles10 X o2 h2).qt (ldz M0 v15 v19 (tiles10 X o2 h2) st.l2))
        o3 h3 (tiles11 X o3 h3).qt (ldz M1 v15 v19 (tiles11 X o3 h3) st.l3)
  v := upd (upd (upd (upd st.v o0 h0 (tiles00 X o0 h0).dt (lw M0 v15 (tiles00 X o0 h0) st.l0))
        o1 h1 (tiles01 X o1 h1).dt (lw M1 v15 (tiles01 X o1 h1) st.l1))
        o2 h2 (tiles10 X o2 h2).dt (lw M0 v15 (tiles10 X o2 h2) st.l2))
        o3 h3 (tiles11 X o3 h3).dt (lw M1 v15 (tiles11 X o3 h3) st.l3)

/-- Whether the first query tile of the block still has a key tile at this distance. -/
def live (i : grid0.Coords) (j : BitVec 32) : BitVec 1 :=
  Scalar.cmpi .sge (Scalar.subi (Scalar.addi (Scalar.muli 2#32 (BitVec.ofNat 32 (i 1).val)) 0#32) j) 0#32

def maskLive (i : grid0.Coords) (j : BitVec 32) : Mask F where
  ma a := a
  mw a := Scalar.select (live i j) a zero256
  mt a := Scalar.select (live i j) a (broadcast S256x1 (Scalar.ofBits .f32 0xF149F2CA#32))

def maskNone : Mask F where
  ma a := a
  mw a := a
  mt a := a

/-- On the diagonal tile only keys before the query count. -/
def maskDiag : Mask F where
  ma a := select k0_pay19 a zero256
  mw a := select k0_pay19 a zero256
  mt a := a

/-- A trip of the loop. -/
def next (X : Ins F) (i : grid0.Coords) (j : BitVec 32) (hc : k0_chk1 i j) (st : St F) : St F :=
  round (maskLive i j) maskNone k0_pay20 k0_pay21 X (k0_off3 i j 0#32) (k0_off3 i j 1#32) (k0_off4 i j 0#32) (k0_off4 i j 1#32)
    (k0_off3_inb i j hc 0) (k0_off3_inb i j hc 1) (k0_off4_inb i j hc 0) (k0_off4_inb i j hc 1) st

def carry0 : Carry F := ⟨k0_pay22, k0_pay22, k0_pay23⟩

/-- What stands before the loop. -/
def first (X : Ins F) (i : grid0.Coords) (x10 x11 : Vec F S2x64x16384 .f32) : St F :=
  round maskDiag maskDiag k0_pay20 k0_pay21 X (k0_off1 i 0#32) (k0_off1 i 1#32) (k0_off2 i 0#32) (k0_off2 i 1#32)
    (k0_off1_inb i 0) (k0_off1_inb i 1) (k0_off2_inb i 0) (k0_off2_inb i 1) ⟨carry0, carry0, carry0, carry0, x10, x11⟩

/-- What the loop's program returns. -/
abbrev Res (F : FTy → Type) := BitVec 32 × FVec F S256x1 .f32 × FVec F S256x1 .f32 × FVec F S256x1 .f32 × FVec F S256x1 .f32 × FVec F S256x1 .f32 × FVec F S256x1 .f32
  × FVec F S256x1 .f32 × FVec F S256x1 .f32 × FVec F S64x256 .f32 × FVec F S64x256 .f32 × FVec F S64x256 .f32 × FVec F S64x256 .f32

/-- What it returns of a state. -/
def tup (j : BitVec 32) (st : St F) : Res F :=
  (j, st.l0.c, st.l1.c, st.l2.c, st.l3.c, st.l0.g, st.l1.g, st.l2.g, st.l3.g, st.l0.s, st.l1.s, st.l2.s, st.l3.s)

/-- The query gradient written out. -/
def fin (st : St F) (x9 : Vec F S2x64x512 .f32) : Vec F S2x64x512 .f32 :=
  Held.patch (Held.patch (Held.patch (Held.patch x9
    (Rect.unit (s := S2x64x512) ![0, 0, 0] S1x64x256.size inb_S2x64x512_S1x64x256_0_0_0) (k0_pay106 st.l0.s))
    (Rect.unit (s := S2x64x512) ![0, 0, 256] S1x64x256.size inb_S2x64x512_S1x64x256_0_0_256) (k0_pay106 st.l1.s))
    (Rect.unit (s := S2x64x512) ![1, 0, 0] S1x64x256.size inb_S2x64x512_S1x64x256_1_0_0) (k0_pay106 st.l2.s))
    (Rect.unit (s := S2x64x512) ![1, 0, 256] S1x64x256.size inb_S2x64x512_S1x64x256_1_0_256) (k0_pay106 st.l3.s)

/-! ## The query gradient is written whole -/

theorem unit_mem {s : Shape} (off size : Fin s.rank → ℕ) (inb : ∀ a, off a + size a ≤ s.size a) (y : s.Idx) :
    (∃ z, (Rect.unit off size inb).emb z = y) ↔ ∀ a, off a ≤ (y a).val ∧ (y a).val < off a + size a := by
  constructor
  · rintro ⟨z, rfl⟩ a
    have hz : (z a).val < size a := (z a).isLt
    have he : (((Rect.unit off size inb).emb z) a).val = off a + 1 * (z a).val := rfl
    omega
  · intro h
    refine ⟨fun a => ⟨(y a).val - off a, by have := h a; show _ < size a; omega⟩, ?_⟩
    funext a; apply Fin.ext
    have he : (((Rect.unit off size inb).emb (fun a => ⟨(y a).val - off a, by have := h a; show _ < size a; omega⟩)) a).val = off a + 1 * ((y a).val - off a) := rfl
    have := h a
    omega

theorem patch_congr {s : Shape} {α : Type} (x x' : s.Idx → α) (r : Rect s) (w : r.shape.Idx → α) (y : s.Idx)
    (h : (¬ ∃ z, r.emb z = y) → x y = x' y) : Held.patch x r w y = Held.patch x' r w y := by
  by_cases hm : ∃ z, r.emb z = y
  · obtain ⟨z, rfl⟩ := hm
    rw [Held.patch_emb, Held.patch_emb]
  · rw [Held.patch_of_not _ _ _ _ hm, Held.patch_of_not _ _ _ _ hm, h hm]

theorem fin_const (st : St F) (x x' : Vec F S2x64x512 .f32) : fin st x = fin st x' := by
  funext y
  unfold fin
  refine patch_congr _ _ _ _ _ fun h3 => patch_congr _ _ _ _ _ fun h2 => patch_congr _ _ _ _ _ fun h1 => patch_congr _ _ _ _ _ fun h0 => ?_
  exfalso
  rw [unit_mem] at h0 h1 h2 h3
  have y0 : (y 0).val < 2 := (y 0).isLt
  have y1 : (y 1).val < 64 := (y 1).isLt
  have y2 : (y 2).val < 512 := (y 2).isLt
  have key : ∀ (a b : ℕ), (¬ ∀ k : Fin 3, (![a, 0, b] : Fin 3 → ℕ) k ≤ (y k).val ∧ (y k).val < (![a, 0, b] : Fin 3 → ℕ) k + S1x64x256.size k) →
      ¬ (a ≤ (y 0).val ∧ (y 0).val < a + 1 ∧ b ≤ (y 2).val ∧ (y 2).val < b + 256) := by
    intro a b h hh
    refine h fun k => ?_
    match k with
    | ⟨0, _⟩ => exact ⟨hh.1, hh.2.1⟩
    | ⟨1, _⟩ => exact ⟨Nat.zero_le _, by show (y 1).val < 0 + 64; omega⟩
    | ⟨2, _⟩ => exact ⟨hh.2.2.1, hh.2.2.2⟩
  have k0 := key 0 0 h0
  have k1 := key 0 256 h1
  have k2 := key 1 0 h2
  have k3 := key 1 256 h3
  omega

/-- The query gradient a grid point writes. -/
def outq (st : St F) : Vec F S2x64x512 .f32 := fin st (fun _ => Scalar.ofBits .f32 0x00000000#32)

end Cert.AttnLane
end
-- ==== Proof.AttnPoint.lean ====
module

public import proofs.«01_k».proof.Proof.AttnLane
public import proofs.«01_k».proof.Proof.RealCalc
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.AttnPoint

open Cert.AttnIdeal Cert.AttnIdeal.Gen Cert.AttnLane Cert.RealCalc

/-- A square array of real numbers. -/
def Mat (a : S256x256.Idx → EReal) (A : Fin 256 → Fin 256 → ℝ) : Prop := ∀ y x, a (ix2 y x) = ((A y x : ℝ) : EReal)
/-- A column of real numbers. -/
def Col (a : S256x1.Idx → EReal) (A : Fin 256 → ℝ) : Prop := ∀ y, a (ix2 y 0) = ((A y : ℝ) : EReal)

/-- log(1 − sigmoid z), as the kernel has it. -/
def Lm (z : ℝ) : ℝ := -(max z 0 + Real.log (1 + Real.exp (-|z|)))

theorem log_coe {r : ℝ} (h : 0 < r) : Ideal.log (r : EReal) = ((Real.log r : ℝ) : EReal) := by
  show (if r ≤ 0 then ⊥ else ((Real.log r : ℝ) : EReal)) = _
  rw [if_neg (not_le.mpr h)]

theorem max_coe (a b : ℝ) : max (a : EReal) (b : EReal) = ((max a b : ℝ) : EReal) := (EReal.coe_strictMono.monotone.map_max).symm

theorem abs_coe (r : ℝ) : (FloatOps.absf (F := Ideal) (φ := .f32) (r : EReal) : EReal) = ((|r| : ℝ) : EReal) := by
  show max (r : EReal) (-(r : EReal)) = _
  rw [← EReal.coe_neg, max_coe]; rfl

theorem lm_coe (z : ℝ) : (0 : EReal) - (max (z : EReal) 0 + Ideal.log (1 + Ideal.exp (0 - FloatOps.absf (F := Ideal) (φ := .f32) (z : EReal)))) = ((Lm z : ℝ) : EReal) := by
  rw [abs_coe, ← EReal.coe_zero, ← EReal.coe_one, ← EReal.coe_sub, exp_coe, ← EReal.coe_add, log_coe (by positivity), max_coe, ← EReal.coe_add, ← EReal.coe_sub]
  unfold Lm
  rw [zero_sub, zero_sub]

theorem lm_mat {a : FVec Ideal S256x256 .f32} {A : Fin 256 → Fin 256 → ℝ} (h : Mat a A) : Mat (lm a) fun y x => Lm (A y x) := by
  intro y x
  pointwise [lm, zero256]
  rw [h y x, lm_coe]

theorem lb_mat {a : FVec Ideal S256x256 .f32} {A : Fin 256 → Fin 256 → ℝ} (h : Mat a A) : Mat (lb a) fun y x => Lm (A y x) + A y x := by
  intro y x
  pointwise [lb]
  rw [lm_mat h y x, h y x, ← EReal.coe_add]

theorem mm2_mat {t : FVec Ideal S256x256 .bf16} {a : FVec Ideal S256x256 .f32} {B A : Fin 256 → Fin 256 → ℝ} (ht : Mat t B) (h : Mat a A) :
    Mat (mm2 t a) fun y x => ∑ j, A y j * B j x := by
  intro y x
  pointwise [mm2]
  simp only [h _ _, ht _ _, ← EReal.coe_sub, ← EReal.coe_mul, coe_sum, ← EReal.coe_add, sub_self, zero_mul, Finset.sum_const_zero, add_zero]

theorem rows_col {a : FVec Ideal S256x256 .f32} {A : Fin 256 → Fin 256 → ℝ} (h : Mat a A) : Col (rows a) fun y => ∑ j, A y j := by
  intro y
  pointwise [rows]
  simp only [h _ _, coe_sum]

theorem sitofp_word (b : BitVec 1) : (FloatOps.sitofp (F := Ideal) .f32 (BitVec.setWidth 32 b) : EReal) = (((if b = 1#1 then 1 else 0 : ℝ)) : EReal) := by
  show ((((BitVec.setWidth 32 b).toInt : ℤ) : ℝ) : EReal) = _
  have : b = 0#1 ∨ b = 1#1 := by revert b; decide
  rcases this with rfl | rfl
  · rw [if_neg (by decide), show (BitVec.setWidth 32 0#1).toInt = 0 by decide, Int.cast_zero]
  · rw [if_pos rfl, show (BitVec.setWidth 32 1#1).toInt = 1 by decide, Int.cast_one]

theorem pay20_mat : Mat (k0_pay20 (F := Ideal)) fun j x => if x < j then 1 else 0 := by
  intro j x
  pointwise [k0_pay20]
  rw [sitofp_word]
  refine congrArg _ (if_congr ?_ rfl rfl)
  rw [Fin.lt_def]
  word_cmp

theorem pay21_mat : Mat (k0_pay21 (F := Ideal)) fun j x => if x ≤ j then 1 else 0 := by
  intro j x
  pointwise [k0_pay21]
  rw [sitofp_word]
  refine congrArg _ (if_congr ?_ rfl rfl)
  rw [Fin.le_def]
  word_cmp

theorem pay19_iff (y x : Fin 256) : k0_pay19 (ix2 y x) = 1#1 ↔ x < y := by
  pointwise [k0_pay19]
  have h0 : ∀ b : BitVec 32, IntOp.addi b 0#32 = b := BitVec.add_zero
  rw [Fin.lt_def, h0, h0]
  word_cmp

/-! ## One lane -/

/-- The tiles of a lane as real numbers: query, its cotangent, key, value, row sums. -/
structure RTiles where
  (q d : Fin 256 → Fin 64 → ℝ) (k v : Fin 64 → Fin 256 → ℝ) (s : Fin 256 → ℝ)

structure RTiles.Of (t : RTiles) (T : Tiles Ideal) : Prop where
  q : ∀ y e, T.q (ix3 0 y e) = ((t.q y e : ℝ) : EReal)
  d : ∀ y e, T.d (ix3 0 y e) = ((t.d y e : ℝ) : EReal)
  qt : ∀ e y, T.qt (ix3 0 e y) = ((t.q y e : ℝ) : EReal)
  dt : ∀ e y, T.dt (ix3 0 e y) = ((t.d y e : ℝ) : EReal)
  k : ∀ e x, T.kt (ix3 0 e x) = ((t.k e x : ℝ) : EReal)
  v : ∀ e x, T.vt (ix3 0 e x) = ((t.v e x : ℝ) : EReal)
  s : ∀ y, T.ds (ix3 0 y 0) = ((t.s y : ℝ) : EReal)

structure RCarry where
  (c g : Fin 256 → ℝ) (s : Fin 64 → Fin 256 → ℝ)

structure RCarry.Of (l : RCarry) (L : Carry Ideal) : Prop where
  c : Col L.c l.c
  g : Col L.g l.g
  s : ∀ e y, L.s (ix2 e y) = ((l.s e y : ℝ) : EReal)

/-- A lane's masks: which scores enter the row sums, which weights stay, what becomes of a row total. -/
structure RMask where
  (a w : Fin 256 → Fin 256 → Prop) (t : ℝ → ℝ)

open Classical in
structure RMask.Of (r : RMask) (M : Mask Ideal) : Prop where
  a : ∀ {f F}, Mat f F → Mat (M.ma f) fun y x => if r.a y x then F y x else 0
  w : ∀ {f F}, Mat f F → Mat (M.mw f) fun y x => if r.w y x then F y x else 0
  t : ∀ {f F}, Col f F → Col (M.mt f) fun y => r.t (F y)

section Lane
open Classical

variable (r : RMask) (t : RTiles) (l : RCarry)

def rz (y x : Fin 256) : ℝ := ∑ e, t.q y e * t.k e x
def ra (y x : Fin 256) : ℝ := if r.a y x then Lm (rz t y x) else 0
def rw_ (y x : Fin 256) : ℝ := if r.w y x then Real.exp (Lm (rz t y x) + rz t y x + ∑ j, ra r t y j * (if x < j then 1 else 0) + l.c y) else 0
def rg (y x : Fin 256) : ℝ := rw_ r t l y x * ∑ e, t.d y e * t.v e x
def rdz (y x : Fin 256) : ℝ := if r.w y x then rg r t l y x - Real.exp (Lm (rz t y x) + rz t y x) * (rg r t l y x + (t.s y - l.g y - ∑ j, rg r t l y j * (if x ≤ j then 1 else 0))) else 0
def rnext : RCarry where
  c y := l.c y + r.t (∑ j, ra r t y j)
  g y := l.g y + ∑ j, rg r t l y j
  s e y := l.s e y + ∑ x, t.k e x * rdz r t l y x

variable {r t l} {M : Mask Ideal} {T : Tiles Ideal} {L : Carry Ideal} (hr : r.Of M) (ht : t.Of T) (hl : l.Of L)

include ht in
theorem sz_mat : Mat (sz T) (rz t) := by
  intro y x
  pointwise [sz]
  simp only [ht.q, ht.k, ← EReal.coe_mul, coe_sum]
  rfl

include hr ht hl in
theorem lw_mat : Mat (lw M (k0_pay20 (F := Ideal)) T L) (rw_ r t l) := by
  have hz := sz_mat ht
  have ha := hr.a (lm_mat hz)
  have hm := mm2_mat pay20_mat ha
  have hlb := lb_mat hz
  have h : Mat (exp (addf (addf (lb (sz T)) (mm2 (k0_pay20 (F := Ideal)) (M.ma (lm (sz T))))) (broadcastTo S256x256 L.c broadcasts_S256x1_S256x256)) : FVec Ideal S256x256 .f32)
      fun y x => Real.exp (Lm (rz t y x) + rz t y x + ∑ j, ra r t y j * (if x < j then 1 else 0) + l.c y) := by
    intro y x
    pointwise
    rw [hlb y x, hm y x, hl.c y, ← EReal.coe_add, ← EReal.coe_add, exp_coe]
    rfl
  intro y x
  pointwise [lw, w]
  exact hr.w h y x

include hr ht hl in
theorem lg_mat : Mat (lg M (k0_pay20 (F := Ideal)) T L) (rg r t l) := by
  have hw := lw_mat hr ht hl
  intro y x
  pointwise [lg, gr]
  simp only [hw y x, ht.d, ht.v, ← EReal.coe_mul, coe_sum]
  rfl

include hr ht hl in
theorem ldz_mat : Mat (ldz M (k0_pay20 (F := Ideal)) (k0_pay21 (F := Ideal)) T L) (rdz r t l) := by
  have hg := lg_mat hr ht hl
  have hm := mm2_mat pay21_mat hg
  have hlb := lb_mat (sz_mat ht)
  have h : Mat (subf (lg M (k0_pay20 (F := Ideal)) T L) (mulf (exp (lb (sz T))) (addf (lg M (k0_pay20 (F := Ideal)) T L) (subf
      (broadcastTo S256x256 (subf (shapeCast S256x1 T.ds shapeCasts_S1x256x1_S256x1) L.g) broadcasts_S256x1_S256x256) (mm2 (k0_pay21 (F := Ideal)) (lg M (k0_pay20 (F := Ideal)) T L))))) : FVec Ideal S256x256 .f32)
      fun y x => rg r t l y x - Real.exp (Lm (rz t y x) + rz t y x) * (rg r t l y x + (t.s y - l.g y - ∑ j, rg r t l y j * (if x ≤ j then 1 else 0))) := by
    intro y x
    pointwise
    simp only [hg y x, hlb y x, hm y x, ht.s y, hl.g y, exp_coe, ← EReal.coe_sub, ← EReal.coe_add, ← EReal.coe_mul]
  intro y x
  pointwise [ldz, dz]
  exact hr.w h y x

include hr ht hl in
theorem lnext_of : (rnext r t l).Of (lnext M (k0_pay20 (F := Ideal)) (k0_pay21 (F := Ideal)) T L) where
  c := by
    intro y
    have h := hr.t (rows_col (hr.a (lm_mat (sz_mat ht)))) y
    pointwise [lnext]
    rw [hl.c y, h, ← EReal.coe_add]
    rfl
  g := by
    intro y
    have h := rows_col (lg_mat hr ht hl) y
    pointwise [lnext]
    rw [hl.g y, h, ← EReal.coe_add]
    rfl
  s := by
    intro e y
    have h := ldz_mat hr ht hl
    pointwise [lnext]
    simp only [hl.s e y, ht.k, h _ _, ← EReal.coe_mul, coe_sum, ← EReal.coe_add]
    rfl

end Lane

end Cert.AttnPoint
end
-- ==== Proof.AttnReal.lean ====
module

public import proofs.«01_k».proof.Proof.AttnPoint

/-! What attention and its gradient are over the real numbers, rows and columns as natural numbers, and
what one lane adds when it goes over one tile of keys. -/

@[expose] public section

set_option maxRecDepth 16384

noncomputable section

open Finset

namespace Cert.AttnReal

open Cert.AttnPoint

/-- Queries (already scaled), their cotangents, keys and values of some heads. -/
structure Dat (H : Type) where
  (q d k v : H → ℕ → Fin 64 → ℝ)

variable {H : Type} (D : Dat H) (h : H) (r c : ℕ)

/-- The score of query `r` and key `c`. -/
def Z : ℝ := ∑ e, D.q h r e * D.k h c e
/-- The cotangent of the weight. -/
def P : ℝ := ∑ e, D.d h r e * D.v h c e
/-- The attention weight: the stick left by the keys between `c` and `r`, broken at `c`. -/
def W : ℝ := if c < r then Real.exp (Lm (Z D h r c) + Z D h r c + ∑ j ∈ Ico (c + 1) r, Lm (Z D h r j)) else 0
def G : ℝ := W D h r c * P D h r c
/-- The gradient of the score. -/
def DZ : ℝ := if c < r then G D h r c - Real.exp (Lm (Z D h r c) + Z D h r c) * (G D h r c + ∑ j ∈ range c, G D h r j) else 0

theorem W_of_le (hc : r ≤ c) : W D h r c = 0 := if_neg (by omega)
theorem G_of_le (hc : r ≤ c) : G D h r c = 0 := by rw [G, W_of_le D h r c hc, zero_mul]
theorem DZ_of_le (hc : r ≤ c) : DZ D h r c = 0 := if_neg (by omega)

/-- The sum over a tile of the members of a set, and the sum over the rest of it. -/
theorem tile_sum (f : ℕ → ℝ) (Q : ℕ → Prop) [DecidablePred Q] (c0 : ℕ) (S T : Finset ℕ)
    (hT : ∀ j, j ∈ T ↔ (c0 ≤ j ∧ j < c0 + 256 ∧ Q j) ∨ j ∈ S) (hS : ∀ j ∈ S, ¬(c0 ≤ j ∧ j < c0 + 256 ∧ Q j)) :
    (∑ j : Fin 256, if Q (c0 + j.val) then f (c0 + j.val) else 0) + ∑ j ∈ S, f j = ∑ j ∈ T, f j := by
  have h1 : (∑ j : Fin 256, if Q (c0 + j.val) then f (c0 + j.val) else 0) = ∑ j ∈ (Ico c0 (c0 + 256)).filter Q, f j := by
    rw [sum_filter, sum_Ico_eq_sum_range, Nat.add_sub_cancel_left, ← Fin.sum_univ_eq_sum_range (fun j => if Q (c0 + j) then f (c0 + j) else 0)]
  rw [h1, ← sum_union]
  · refine sum_congr ?_ fun _ _ => rfl
    ext j
    simp only [mem_union, mem_filter, mem_Ico, hT, and_assoc]
  · rw [disjoint_left]
    intro j hj hs
    simp only [mem_filter, mem_Ico, and_assoc] at hj
    exact hS j hs hj

/-- The tiles of a lane whose queries begin at `b0` and keys at `c0`. -/
def tl (b0 c0 : ℕ) : RTiles where
  q y e := D.q h (b0 + y.val) e
  d y e := D.d h (b0 + y.val) e
  k e x := D.k h (c0 + x.val) e
  v e x := D.v h (c0 + x.val) e
  s y := ∑ j ∈ range (b0 + y.val), G D h (b0 + y.val) j

/-- What a lane holds once it has gone over the keys from `lo` on. -/
structure Good (b0 lo : ℕ) (l : RCarry) : Prop where
  g : ∀ y, l.g y = ∑ j ∈ Ico lo (b0 + y.val), G D h (b0 + y.val) j
  s : ∀ e y, l.s e y = ∑ j ∈ Ico lo (b0 + y.val), D.k h j e * DZ D h (b0 + y.val) j

/-- And the row sum of log(1 − p), which an idle lane loses. -/
def GoodC (b0 lo : ℕ) (l : RCarry) : Prop := ∀ y, l.c y = ∑ j ∈ Ico lo (b0 + y.val), Lm (Z D h (b0 + y.val) j)

section Live

variable {b0 c0 : ℕ} (hc0 : c0 ≤ b0) {R : RMask} (ha : ∀ y x, R.a y x ↔ c0 + x.val < b0 + y.val) (hw : ∀ y x, R.w y x ↔ c0 + x.val < b0 + y.val)
  (ht : ∀ u, R.t u = u) {l : RCarry} (hl : Good D h b0 (c0 + 256) l) (hlc : GoodC D h b0 (c0 + 256) l)

theorem rz_tl (y x : Fin 256) : rz (tl D h b0 c0) y x = Z D h (b0 + y.val) (c0 + x.val) := rfl

include ha hw hlc in
theorem rw_tl (y x : Fin 256) : rw_ R (tl D h b0 c0) l y x = W D h (b0 + y.val) (c0 + x.val) := by
  classical
  unfold rw_ W
  refine if_congr (hw y x) ?_ rfl
  rw [rz_tl, add_assoc, hlc y]
  congr 2
  rw [← tile_sum (fun j => Lm (Z D h (b0 + y.val) j)) (fun j => c0 + x.val < j ∧ j < b0 + y.val) c0 (Ico (c0 + 256) (b0 + y.val)) (Ico (c0 + x.val + 1) (b0 + y.val))
    (by intro j; have := x.isLt; simp only [mem_Ico]; omega) (by intro j hj; simp only [mem_Ico] at hj; omega)]
  refine congrArg (· + _) (sum_congr rfl fun j _ => ?_)
  unfold ra
  rw [rz_tl]
  by_cases h1 : c0 + j.val < b0 + y.val <;> by_cases h2 : x < j
  · rw [if_pos ((ha y j).2 h1), if_pos h2, mul_one, if_pos ⟨by have := Fin.lt_def.mp h2; omega, h1⟩]
  · rw [if_neg h2, mul_zero, if_neg (by rw [Fin.lt_def] at h2; omega)]
  · rw [if_neg (fun hh => h1 ((ha y j).1 hh)), zero_mul, if_neg (by omega)]
  · rw [if_neg h2, mul_zero, if_neg (by omega)]

include ha hw hlc in
theorem rg_tl (y x : Fin 256) : rg R (tl D h b0 c0) l y x = G D h (b0 + y.val) (c0 + x.val) := by
  unfold rg
  rw [rw_tl D h ha hw hlc]
  rfl

include hc0 ha hw hlc hl in
theorem rdz_tl (y x : Fin 256) : rdz R (tl D h b0 c0) l y x = DZ D h (b0 + y.val) (c0 + x.val) := by
  classical
  unfold rdz DZ
  by_cases hxy : c0 + x.val < b0 + y.val
  · rw [if_pos ((hw y x).2 hxy), if_pos hxy, rz_tl]
    simp only [rg_tl D h ha hw hlc]
    congr 3
    rw [hl.g y]
    have h1 := tile_sum (fun j => G D h (b0 + y.val) j) (fun j => c0 + x.val ≤ j ∧ j < b0 + y.val) c0 (Ico (c0 + 256) (b0 + y.val)) (Ico (c0 + x.val) (b0 + y.val))
      (by intro j; have := x.isLt; simp only [mem_Ico]; omega) (by intro j hj; simp only [mem_Ico] at hj; omega)
    have h2 : (∑ j : Fin 256, G D h (b0 + y.val) (c0 + j.val) * (if x ≤ j then 1 else 0))
        = ∑ j : Fin 256, if c0 + x.val ≤ c0 + j.val ∧ c0 + j.val < b0 + y.val then G D h (b0 + y.val) (c0 + j.val) else 0 := by
      refine sum_congr rfl fun j _ => ?_
      by_cases h2 : x ≤ j
      · rw [if_pos h2, mul_one]
        by_cases h3 : c0 + j.val < b0 + y.val
        · rw [if_pos ⟨by have := Fin.le_def.mp h2; omega, h3⟩]
        · rw [if_neg (by omega), G_of_le D h _ _ (by omega)]
      · rw [if_neg h2, mul_zero, if_neg (by rw [Fin.le_def] at h2; omega)]
    have h3 := sum_range_add_sum_Ico (fun j => G D h (b0 + y.val) j) (show c0 + x.val ≤ b0 + y.val by omega)
    show (∑ j ∈ range (b0 + y.val), G D h (b0 + y.val) j) - _ - _ = _
    rw [h2]
    linarith
  · rw [if_neg (fun hh => hxy ((hw y x).1 hh)), if_neg hxy]

theorem total (f : ℕ → ℝ) (y : Fin 256) (hc0 : c0 ≤ b0) (hf : ∀ j, b0 + y.val ≤ j → f j = 0) :
    (∑ j ∈ Ico (c0 + 256) (b0 + y.val), f j) + ∑ j : Fin 256, f (c0 + j.val) = ∑ j ∈ Ico c0 (b0 + y.val), f j := by
  rw [← tile_sum f (fun j => j < b0 + y.val) c0 (Ico (c0 + 256) (b0 + y.val)) (Ico c0 (b0 + y.val))
    (by intro j; simp only [mem_Ico]; omega) (by intro j hj; simp only [mem_Ico] at hj; omega), add_comm]
  refine congrArg (· + _) (sum_congr rfl fun j _ => ?_)
  by_cases h1 : c0 + j.val < b0 + y.val
  · rw [if_pos h1]
  · rw [if_neg h1, hf _ (by omega)]

include hc0 ha hw hlc hl in
theorem good_next : Good D h b0 c0 (rnext R (tl D h b0 c0) l) where
  g y := by
    show l.g y + _ = _
    rw [hl.g y]
    simp only [rg_tl D h ha hw hlc]
    exact total _ y hc0 fun j hj => G_of_le D h _ _ hj
  s e y := by
    show l.s e y + ∑ x : Fin 256, D.k h (c0 + x.val) e * _ = _
    rw [hl.s e y]
    simp only [rdz_tl D h hc0 ha hw hl hlc]
    exact total (fun j => D.k h j e * DZ D h (b0 + y.val) j) y hc0 fun j hj => by rw [DZ_of_le D h _ _ hj, mul_zero]

include hc0 ha ht hlc in
theorem goodC_next : GoodC D h b0 c0 (rnext R (tl D h b0 c0) l) := by
  classical
  intro y
  show l.c y + R.t _ = _
  rw [ht, hlc y, ← tile_sum (fun j => Lm (Z D h (b0 + y.val) j)) (fun j => j < b0 + y.val) c0 (Ico (c0 + 256) (b0 + y.val)) (Ico c0 (b0 + y.val))
    (by intro j; simp only [mem_Ico]; omega) (by intro j hj; simp only [mem_Ico] at hj; omega), add_comm]
  exact congrArg (· + _) (sum_congr rfl fun j _ => if_congr (ha y j) (by rw [rz_tl]) rfl)

end Live

section Idle

variable {b0 c0 lo : ℕ} {R : RMask} (hw : ∀ y x, ¬ R.w y x) {l : RCarry} (hl : Good D h b0 lo l) (t : RTiles)

include hw in
theorem rw_idle (y x : Fin 256) : rw_ R t l y x = 0 := if_neg (hw y x)
include hw in
theorem rdz_idle (y x : Fin 256) : rdz R t l y x = 0 := if_neg (hw y x)

include hw hl in
theorem good_idle : Good D h b0 lo (rnext R t l) where
  g y := by
    show l.g y + ∑ j, rg R t l y j = _
    unfold rg
    simp only [rw_idle hw, zero_mul, sum_const_zero, add_zero]
    exact hl.g y
  s e y := by
    show l.s e y + _ = _
    simp only [rdz_idle hw, mul_zero, sum_const_zero, add_zero]
    exact hl.s e y

end Idle

/-- What a query tile has added to column `c` of a resident gradient once the keys from `lo` on are done. -/
def part (f : ℕ → ℕ → ℝ) (b0 lo c : ℕ) : ℝ := if lo ≤ c then ∑ y : Fin 256, f (b0 + y.val) c else 0

theorem part_next (f : ℕ → ℕ → ℝ) (b0 c0 c : ℕ) :
    part f b0 (c0 + 256) c + (if c0 ≤ c ∧ c < c0 + 256 then ∑ y : Fin 256, f (b0 + y.val) c else 0) = part f b0 c0 c := by
  unfold part
  by_cases h1 : c0 + 256 ≤ c
  · rw [if_pos h1, if_neg (by omega), if_pos (by omega), add_zero]
  · by_cases h2 : c0 ≤ c
    · rw [if_neg h1, if_pos (by omega), if_pos h2, zero_add]
    · rw [if_neg h1, if_neg (by omega), if_neg h2, zero_add]

end Cert.AttnReal
end
-- ==== Proof.AttnWindow.lean ====
module

public import Idealize.ShloMosaic.Lib.Pointwise
public import Idealize.ShloMosaic.Lib.Tactic
public import proofs.«01_k».proof.Proof.RealCalc

/-! Running sums along the last of three axes, over the real numbers. -/

@[expose] public section

noncomputable section

open Idealize.ShloMosaic Idealize.ShloMosaic.TcCoe
open Finset

namespace Cert.AttnWindow

/-- A fold that adds is a sum. -/
theorem foldl_add {α M : Type} [AddCommMonoid M] (g : α → M) : ∀ (l : List α) (v : M), l.foldl (fun r n => r + g n) v = v + (l.map g).sum
  | [], v => by simp
  | a :: l, v => by rw [List.foldl_cons, foldl_add g l, List.map_cons, List.sum_cons, add_assoc]

/-- The window of one row. -/
abbrev Win (N : ℕ) : Shape := ⟨3, ![1, 1, N]⟩

def winIdx (N : ℕ) (n : Fin N) : (Win N).Idx := fun a => match a with
  | ⟨0, _⟩ => (⟨0, Nat.one_pos⟩ : Fin 1)
  | ⟨1, _⟩ => (⟨0, Nat.one_pos⟩ : Fin 1)
  | ⟨2, _⟩ => (n : Fin N)

def winEquiv (N : ℕ) : Fin N ≃ (Win N).Idx where
  toFun := winIdx N
  invFun w := (w 2 : Fin N)
  left_inv n := rfl
  right_inv w := by
    funext a
    match a with
    | ⟨0, _⟩ => exact (Fin.eq_zero (w 0 : Fin 1)).symm
    | ⟨1, _⟩ => exact (Fin.eq_zero (w 1 : Fin 1)).symm
    | ⟨2, _⟩ => rfl

variable {A B N L U : ℕ}

abbrev Cube (A B N : ℕ) : Shape := ⟨3, ![A, B, N]⟩

/-- The sum over a window of a row, from `L` entries before the entry on. -/
theorem window_row (x : FVec Ideal (Cube A B N) .f32) (h : (Cube A B N).ReduceWindows (![1, 1, N] : Fin 3 → ℕ) ![1, 1, 1] ![0, 0, L] ![0, 0, U] (Cube A B N))
    {u : Shape} (init : u.Idx → EReal) (hinit : ∀ i, init i = 0) (hu : 0 < u.numel) (a : Fin A) (b : Fin B) (j : Fin N) (f : ℕ → ℝ) (hx : ∀ n : Fin N, x (ix3 a b n) = ((f n.val : ℝ) : EReal)) :
    Host.reduceWindowAdd (F := Ideal) (φ := .f32) ![1, 1, N] ![1, 1, 1] ![0, 0, L] ![0, 0, U] x init h hu (ix3 a b j)
      = ((∑ n ∈ range N, (if L ≤ j.val + n ∧ j.val + n - L < N then f (j.val + n - L) else 0) : ℝ) : EReal) := by
  show Host.reduceWindow (· + ·) ![1, 1, N] ![1, 1, 1] ![0, 0, L] ![0, 0, U] x (fun _ : (⟨0, ![]⟩ : Shape).Idx => init (Shape.Idx.first hu)) h (by decide) (ix3 a b j) = _
  unfold Host.reduceWindow
  dsimp only
  rw [foldl_add, hinit, zero_add, ← Fin.sum_univ_def]
  rw [← Fin.sum_univ_eq_sum_range (fun n => if L ≤ j.val + n ∧ j.val + n - L < N then f (j.val + n - L) else 0)]
  rw [← RealCalc.coe_sum]
  refine (Fintype.sum_equiv ((winEquiv N).trans (Win N).rowMajor) _ _ fun n => ?_).symm
  have hw : (Win N).rowMajor.symm (((winEquiv N).trans (Win N).rowMajor) n) = winIdx N n := (Win N).rowMajor.symm_apply_apply _
  by_cases hn : L ≤ j.val + n.val ∧ j.val + n.val - L < N
  · rw [if_pos hn, dif_pos]
    · refine Eq.symm ((congrArg x ?_).trans (hx ⟨j.val + n.val - L, hn.2⟩))
      funext k; apply Fin.ext
      dsimp only
      rw [hw]
      match k with
      | ⟨0, _⟩ => show a.val * 1 + 0 - 0 = a.val; omega
      | ⟨1, _⟩ => show b.val * 1 + 0 - 0 = b.val; omega
      | ⟨2, _⟩ => show j.val * 1 + n.val - L = j.val + n.val - L; omega
    · intro k
      rw [hw]
      match k with
      | ⟨0, _⟩ => exact ⟨Nat.zero_le _, by show a.val * 1 + 0 - 0 < A; have := a.isLt; omega⟩
      | ⟨1, _⟩ => exact ⟨Nat.zero_le _, by show b.val * 1 + 0 - 0 < B; have := b.isLt; omega⟩
      | ⟨2, _⟩ => exact ⟨by show L ≤ j.val * 1 + n.val; omega, by show j.val * 1 + n.val - L < N; omega⟩
  · rw [if_neg hn, dif_neg]
    · exact EReal.coe_zero.symm
    · intro hh
      refine hn ?_
      rw [hw] at hh
      have h2 : L ≤ j.val * 1 + n.val ∧ j.val * 1 + n.val - L < N := hh 2
      omega

/-- The sum from an entry to the end of its row. -/
theorem suffix_row (x : FVec Ideal (Cube A B N) .f32) (h : (Cube A B N).ReduceWindows (![1, 1, N] : Fin 3 → ℕ) ![1, 1, 1] ![0, 0, 0] ![0, 0, U] (Cube A B N))
    {u : Shape} (init : u.Idx → EReal) (hinit : ∀ i, init i = 0) (hu : 0 < u.numel) (a : Fin A) (b : Fin B) (j : Fin N) (f : ℕ → ℝ) (hx : ∀ n : Fin N, x (ix3 a b n) = ((f n.val : ℝ) : EReal)) :
    Host.reduceWindowAdd (F := Ideal) (φ := .f32) ![1, 1, N] ![1, 1, 1] ![0, 0, 0] ![0, 0, U] x init h hu (ix3 a b j) = ((∑ n ∈ Ico j.val N, f n : ℝ) : EReal) := by
  rw [window_row x h init hinit hu a b j f hx, sum_Ico_eq_sum_range, ← sum_filter]
  refine congrArg _ (sum_congr ?_ fun n _ => by rw [Nat.sub_zero])
  ext n
  simp only [mem_filter, mem_range]
  omega

/-- The sum from the start of its row to an entry. -/
theorem prefix_row (x : FVec Ideal (Cube A B N) .f32) (hL : L + 1 = N) (h : (Cube A B N).ReduceWindows (![1, 1, N] : Fin 3 → ℕ) ![1, 1, 1] ![0, 0, L] ![0, 0, U] (Cube A B N))
    {u : Shape} (init : u.Idx → EReal) (hinit : ∀ i, init i = 0) (hu : 0 < u.numel) (a : Fin A) (b : Fin B) (j : Fin N) (f : ℕ → ℝ) (hx : ∀ n : Fin N, x (ix3 a b n) = ((f n.val : ℝ) : EReal)) :
    Host.reduceWindowAdd (F := Ideal) (φ := .f32) ![1, 1, N] ![1, 1, 1] ![0, 0, L] ![0, 0, U] x init h hu (ix3 a b j) = ((∑ n ∈ range (j.val + 1), f n : ℝ) : EReal) := by
  rw [window_row x h init hinit hu a b j f hx, ← sum_filter]
  have hj := j.isLt
  have hf : (range N).filter (fun n => L ≤ j.val + n ∧ j.val + n - L < N) = Ico (L - j.val) N := by
    ext n
    simp only [mem_filter, mem_range, mem_Ico]
    omega
  rw [hf, sum_Ico_eq_sum_range, show N - (L - j.val) = j.val + 1 by omega]
  refine congrArg _ (sum_congr rfl fun n _ => congrArg f ?_)
  omega

end Cert.AttnWindow
end
-- ==== Proof.AttnTerm.lean ====
module

public import proofs.«01_k».proof.Proof.Gen.AttnRefIdeal
public import proofs.«01_k».proof.Proof.AttnReal
public import proofs.«01_k».proof.Proof.AttnWindow
public import Idealize.ShloMosaic.Lib.IdealHost

/-! The host's attention and its gradient, step by step, and their entries over the real numbers. -/

@[expose] public section

set_option maxRecDepth 100000

noncomputable section

open Idealize.ShloMosaic Idealize.ShloMosaic.TcCoe
open Finset

namespace Cert.AttnTerm

open Cert.AttnRefIdeal Cert.AttnRefIdeal.Gen
open Cert.AttnReal Cert.AttnPoint Cert.RealCalc

abbrev A3 := FVec Ideal S16384x4x64 .f32
abbrev T3 := FVec Ideal S4x16384x16384 .f32

def tZero : T3 := broadcastInDim S4x16384x16384 ![] bcast_S_S4x16384x16384 (constant S_ .f32 0x00000000#32)
def tInf : T3 := broadcastInDim S4x16384x16384 ![] bcast_S_S4x16384x16384 (constant S_ .f32 0x7F800000#32)
def tEighth : T3 := broadcastInDim S4x16384x16384 ![] bcast_S_S4x16384x16384 (constant S_ .f32 0x3E000000#32)
def none0 : FVec Ideal S_ .f32 := broadcastInDim S_ ![] bcast_S_S_ (constant S_ .f32 0x00000000#32)

def score (a0 a1 : A3) : T3 := mulf (Host.dotGeneral dot_S16384x4x64_S16384x4x64_S4x16384x16384_2_2_0_0_1_1 none a0 a1) tEighth

def before : IVec S4x16384x16384 1 :=
  broadcastInDim S4x16384x16384 ![1, 2] bcast_S16384x16384_S4x16384x16384_1_2 (cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

/-- log(1 + exp u). -/
def soft (u : T3) : T3 :=
  select (cmpf .une (subf u tZero) (subf u tZero)) (addf u tZero) (addf (maximumf u tZero) (Host.log1p (Host.exp (Host.negf (Host.absf (subf u tZero))))))

/-- Its derivative. -/
def softD (u : T3) : T3 := Host.exp (subf (select (cmpf .oeq u tInf) tZero u) (select (cmpf .oeq (soft u) tInf) tZero (soft u)))

/-- log(1 − p), where the key comes before the query. -/
def logs (z : T3) : T3 := select before (Host.negf (soft (Host.negf (Host.negf z)))) tZero

def weight (z : T3) : T3 :=
  Host.exp (addf (Host.negf (soft (Host.negf z))) (subf (Host.reduceWindowAdd ![1, 1, 16384] ![1, 1, 1] ![0, 0, 0] ![0, 0, 16383] (logs z) none0
    reduceWindows_S4x16384x16384_S4x16384x16384_w1s1p0_0_w1s1p0_0_w16384s1p0_16383 h_S_) (logs z)))

def weights (z : T3) : T3 := select before (weight z) tZero

def wgrad (a2 a3 : A3) (z : T3) : T3 :=
  mulf (select before (Host.dotGeneral dot_S4x64x16384_S16384x4x64_S4x16384x16384_1_2_2_0_0_1 none (transpose S4x64x16384 [1, 2, 0] a3 transposes_S16384x4x64_S4x64x16384_1_2_0) a2) tZero) (weight z)

def zgrad (a2 a3 : A3) (z : T3) : T3 :=
  mulf (addf (Host.negf (Host.negf (mulf (Host.negf (select before (addf (Host.negf (wgrad a2 a3 z)) (Host.reduceWindowAdd ![1, 1, 16384] ![1, 1, 1] ![0, 0, 16383] ![0, 0, 0] (wgrad a2 a3 z) none0
    reduceWindows_S4x16384x16384_S4x16384x16384_w1s1p0_0_w1s1p0_0_w16384s1p16383_0 h_S_)) tZero)) (softD (Host.negf (Host.negf z))))))
    (Host.negf (mulf (Host.negf (wgrad a2 a3 z)) (softD (Host.negf z))))) tEighth

/-! ## Entries -/

/-- Queries before the scale, cotangents, keys, values. -/
structure Of (D : Dat (Fin 4)) (a0 a1 a2 a3 : A3) : Prop where
  q : ∀ (r : Fin 16384) h e, a0 (ix3 r h e) = ((D.q h r.val e : ℝ) : EReal)
  k : ∀ (r : Fin 16384) h e, a1 (ix3 r h e) = ((D.k h r.val e : ℝ) : EReal)
  v : ∀ (r : Fin 16384) h e, a2 (ix3 r h e) = ((D.v h r.val e : ℝ) : EReal)
  d : ∀ (r : Fin 16384) h e, a3 (ix3 r h e) = ((D.d h r.val e : ℝ) : EReal)

/-- With the scale taken into the queries. -/
def scaled (D : Dat (Fin 4)) : Dat (Fin 4) := ⟨fun h r e => D.q h r e * (1 / 8), D.d, D.k, D.v⟩

def sp (x : ℝ) : ℝ := max x 0 + Real.log (1 + Real.exp (-|x|))

theorem ofBits_eighth : Ideal.ofBits .f32 0x3E000000#32 = ((1 / 8 : ℝ) : EReal) := by
  simp [Ideal.ofBits, Ideal.ieee, -EReal.coe_mul]; norm_num

variable {D : Dat (Fin 4)} {a0 a1 a2 a3 : A3} (hD : Of D a0 a1 a2 a3)

include hD in
theorem score_entry (h : Fin 4) (r c : Fin 16384) : score a0 a1 (ix3 h r c) = ((Z (scaled D) h r.val c.val : ℝ) : EReal) := by
  pointwise [score, tEighth]
  simp only [hD.q, hD.k, ofBits_eighth, ← EReal.coe_mul, coe_sum]
  rw [Finset.sum_mul]
  exact congrArg _ (Finset.sum_congr rfl fun e _ => by show _ = D.q h r.val e * (1 / 8) * D.k h c.val e; ring)

theorem before_iff (h : Fin 4) (r c : Fin 16384) : before (ix3 h r c) = 1#1 ↔ c.val < r.val := by
  pointwise [before]
  word_cmp

theorem soft_entry {u : T3} {i : S4x16384x16384.Idx} {x : ℝ} (hu : u i = (x : EReal)) : soft u i = ((sp x : ℝ) : EReal) := by
  idx_vars i
  pointwise [soft, tZero]
  rw [if_neg (fun hh => hh rfl), hu, abs_coe, ← EReal.coe_neg, exp_coe, ← EReal.coe_zero, max_coe]
  have hl : Ideal.log1p ((Real.exp (-|x|) : ℝ) : EReal) = ((Real.log (1 + Real.exp (-|x|)) : ℝ) : EReal) := by
    show Ideal.log (1 + _) = _
    rw [← EReal.coe_one, ← EReal.coe_add, log_coe (by positivity)]
  rw [hl, ← EReal.coe_add]
  rfl

theorem softD_entry {u : T3} {i : S4x16384x16384.Idx} {x : ℝ} (hu : u i = (x : EReal)) : softD u i = ((Real.exp (x - sp x) : ℝ) : EReal) := by
  have hs := soft_entry hu
  idx_vars i
  pointwise [softD, tZero, tInf]
  rw [hs, hu, ofBits_inf, if_neg (EReal.coe_ne_top _), if_neg (EReal.coe_ne_top _), ← EReal.coe_sub, exp_coe]

/-! ## The same over the reals -/

theorem add_log (x : ℝ) : x + Real.log (1 + Real.exp (-x)) = Real.log (1 + Real.exp x) := by
  have h : Real.exp x * (1 + Real.exp (-x)) = 1 + Real.exp x := by
    rw [mul_add, mul_one, ← Real.exp_add, add_neg_cancel, Real.exp_zero, add_comm]
  rw [← h, Real.log_mul (Real.exp_ne_zero _) (by positivity), Real.log_exp]

theorem sp_eq (x : ℝ) : sp x = Real.log (1 + Real.exp x) := by
  unfold sp
  rcases le_total 0 x with h | h
  · rw [max_eq_left h, abs_of_nonneg h, add_log]
  · rw [max_eq_right h, abs_of_nonpos h, neg_neg, zero_add]

theorem lm_eq (x : ℝ) : Lm x = -sp x := rfl

/-- log sigmoid two ways. -/
theorem sp_neg (x : ℝ) : -sp (-x) = Lm x + x := by
  rw [lm_eq, sp_eq, sp_eq, ← add_log x]; ring

theorem sig_add (x : ℝ) : Real.exp (-x - sp (-x)) + Real.exp (x - sp x) = 1 := by
  have h1 : 0 < 1 + Real.exp x := by positivity
  have h2 : -x - sp (-x) = -sp x := by have := sp_neg x; rw [lm_eq] at this; linarith
  rw [h2, Real.exp_sub, Real.exp_neg, sp_eq, Real.exp_log h1]
  field_simp

section Entries

variable (h : Fin 4) (r c : Fin 16384)

theorem select_before (u w : T3) : select before u w (ix3 h r c) = if c.val < r.val then u (ix3 h r c) else w (ix3 h r c) := by
  show (if before (ix3 h r c) = 1#1 then u (ix3 h r c) else w (ix3 h r c)) = _
  exact if_congr (before_iff h r c) rfl rfl

theorem none0_entry (i : S_.Idx) : none0 i = 0 := by
  pointwise [none0]

theorem tZero_entry : tZero (ix3 h r c) = ((0 : ℝ) : EReal) := by
  pointwise [tZero]
  exact EReal.coe_zero.symm

variable {z : T3} {ζ : Fin 4 → ℕ → ℕ → ℝ} (hz : ∀ h (r c : Fin 16384), z (ix3 h r c) = ((ζ h r.val c.val : ℝ) : EReal))

include hz in
theorem negf_entry : (Host.negf z : T3) (ix3 h r c) = ((-ζ h r.val c.val : ℝ) : EReal) := by
  pointwise
  rw [hz, ← EReal.coe_neg]

include hz in
theorem logs_entry : logs z (ix3 h r c) = ((if c.val < r.val then Lm (ζ h r.val c.val) else 0 : ℝ) : EReal) := by
  unfold logs
  rw [select_before, tZero_entry, apply_ite (fun x : ℝ => (x : EReal))]
  refine if_congr Iff.rfl ?_ rfl
  rw [negf_entry h r c (ζ := fun h r c => sp (ζ h r c))]
  · rfl
  · intro h r c
    refine soft_entry ?_
    rw [negf_entry h r c (ζ := fun h r c => -ζ h r c) fun h r c => negf_entry h r c hz, neg_neg]

include hz in
theorem weight_entry : weight z (ix3 h r c) = ((Real.exp (Lm (ζ h r.val c.val) + ζ h r.val c.val
    + ((∑ j ∈ Ico c.val 16384, if j < r.val then Lm (ζ h r.val j) else 0) - (if c.val < r.val then Lm (ζ h r.val c.val) else 0))) : ℝ) : EReal) := by
  have h1 : (Host.negf (soft (Host.negf z)) : T3) (ix3 h r c) = ((Lm (ζ h r.val c.val) + ζ h r.val c.val : ℝ) : EReal) := by
    rw [negf_entry h r c (ζ := fun h r c => sp (-ζ h r c)) fun h r c => soft_entry (negf_entry h r c hz), sp_neg]
  have h2 := AttnWindow.suffix_row (logs z) reduceWindows_S4x16384x16384_S4x16384x16384_w1s1p0_0_w1s1p0_0_w16384s1p0_16383 none0 none0_entry h_S_ h r c
    (fun j => if j < r.val then Lm (ζ h r.val j) else 0) (fun n => logs_entry h r n hz)
  have h3 := logs_entry h r c hz
  unfold weight
  generalize logs z = L at *
  generalize (Host.negf (soft (Host.negf z)) : T3) = S at *
  generalize (Host.reduceWindowAdd (F := Ideal) (φ := .f32) ![1, 1, 16384] ![1, 1, 1] ![0, 0, 0] ![0, 0, 16383] L none0
    reduceWindows_S4x16384x16384_S4x16384x16384_w1s1p0_0_w1s1p0_0_w16384s1p0_16383 h_S_ : T3) = R at *
  pointwise
  rw [h1, h2, h3, ← EReal.coe_sub, ← EReal.coe_add, exp_coe]

/-- The sum over the keys between. -/
theorem between (f : ℕ → ℝ) {c r N : ℕ} (hc : c < r) (hr : r ≤ N) :
    (∑ j ∈ Ico c N, if j < r then f j else 0) - f c = ∑ j ∈ Ico (c + 1) r, f j := by
  rw [← sum_filter, show (Ico c N).filter (· < r) = Ico c r by ext n; simp only [mem_filter, mem_Ico]; omega,
    sum_eq_sum_Ico_succ_bot hc, add_sub_cancel_left]

section Data

include hD

theorem weights_entry : weights (score a0 a1) (ix3 h r c) = ((W (scaled D) h r.val c.val : ℝ) : EReal) := by
  unfold weights
  rw [select_before, tZero_entry, weight_entry h r c (ζ := Z (scaled D)) fun h r c => score_entry hD h r c, W]
  split_ifs with hc
  · rw [between (fun j => Lm (Z (scaled D) h r.val j)) hc r.isLt.le]
  · rfl

theorem wgrad_entry : wgrad a2 a3 (score a0 a1) (ix3 h r c) = ((G (scaled D) h r.val c.val : ℝ) : EReal) := by
  have h1 : (Host.dotGeneral dot_S4x64x16384_S16384x4x64_S4x16384x16384_1_2_2_0_0_1 none (transpose S4x64x16384 [1, 2, 0] a3 transposes_S16384x4x64_S4x64x16384_1_2_0) a2 : T3) (ix3 h r c)
      = ((P (scaled D) h r.val c.val : ℝ) : EReal) := by
    pointwise
    simp only [hD.d, hD.v, ← EReal.coe_mul, coe_sum]
    rfl
  have h2 := weights_entry hD h r c
  unfold weights at h2
  unfold wgrad
  generalize weight (score a0 a1) = w at *
  rw [select_before, tZero_entry] at h2
  show (select before _ tZero : T3) (ix3 h r c) * w (ix3 h r c) = _
  rw [select_before, tZero_entry, h1, G]
  split_ifs at h2 ⊢ with hc
  · rw [h2, ← EReal.coe_mul, mul_comm]
  · rw [W_of_le _ _ _ _ (by omega), EReal.coe_zero, zero_mul, zero_mul, EReal.coe_zero]

theorem zgrad_entry : zgrad a2 a3 (score a0 a1) (ix3 h r c) = ((DZ (scaled D) h r.val c.val * (1 / 8) : ℝ) : EReal) := by
  have hz := score_entry hD
  have hg := wgrad_entry hD h r c
  have hp := AttnWindow.prefix_row (wgrad a2 a3 (score a0 a1)) rfl reduceWindows_S4x16384x16384_S4x16384x16384_w1s1p0_0_w1s1p0_0_w16384s1p16383_0 none0 none0_entry h_S_ h r c
    (fun j => G (scaled D) h r.val j) (fun n => wgrad_entry hD h r n)
  have hn := fun h r c => negf_entry h r c hz
  have hs := softD_entry (hn h r c)
  have ht := softD_entry (negf_entry h r c (ζ := fun h r c => -Z (scaled D) h r c) hn)
  unfold zgrad
  generalize wgrad a2 a3 (score a0 a1) = g at *
  generalize softD (Host.negf (Host.negf (score a0 a1))) = s1 at *
  generalize softD (Host.negf (score a0 a1)) = s2 at *
  generalize (Host.reduceWindowAdd (F := Ideal) (φ := .f32) ![1, 1, 16384] ![1, 1, 1] ![0, 0, 16383] ![0, 0, 0] g none0
    reduceWindows_S4x16384x16384_S4x16384x16384_w1s1p0_0_w1s1p0_0_w16384s1p16383_0 h_S_ : T3) = R at *
  have hA : (select before (addf (Host.negf g) R) tZero : T3) (ix3 h r c) = ((if c.val < r.val then ∑ j ∈ range c.val, G (scaled D) h r.val j else 0 : ℝ) : EReal) := by
    rw [select_before, tZero_entry, apply_ite (fun x : ℝ => (x : EReal))]
    refine if_congr Iff.rfl ?_ rfl
    show -(g (ix3 h r c)) + R (ix3 h r c) = _
    rw [hg, hp, ← EReal.coe_neg, ← EReal.coe_add, sum_range_succ]
    exact congrArg _ (by ring)
  generalize (select before (addf (Host.negf g) R) tZero : T3) = A at *
  pointwise [tEighth]
  rw [hA, hg, hs, ht, ofBits_eighth]
  simp only [← EReal.coe_neg, ← EReal.coe_mul, ← EReal.coe_add]
  refine congrArg _ ?_
  have e := sig_add (Z (scaled D) h r.val c.val)
  have e2 : Lm (Z (scaled D) h r.val c.val) + Z (scaled D) h r.val c.val = Z (scaled D) h r.val c.val - sp (Z (scaled D) h r.val c.val) := by rw [lm_eq]; ring
  rw [DZ, e2]
  simp only [neg_neg]
  generalize Real.exp (Z (scaled D) h r.val c.val - sp (Z (scaled D) h r.val c.val)) = t at *
  rw [show Real.exp (-Z (scaled D) h r.val c.val - sp (-Z (scaled D) h r.val c.val)) = 1 - t by linarith]
  split_ifs with hc
  · ring
  · rw [G_of_le _ _ _ _ (by omega)]; ring

end Data

end Entries

end Cert.AttnTerm
end
-- ==== Proof.AttnChk.lean ====
module

public import proofs.«01_k».proof.AttnIdeal
public import Idealize.ShloMosaic.Lib.Tactic
public import Idealize.ShloMosaic.Lib.Tactic.Disch
public import Idealize.ShloMosaic.Lib.Pipeline.Frame
public import proofs.«01_k».proof.Proof.Gen.AttnIdeal
public import proofs.«01_k».proof.Proof.Gen.AttnIdeal.Skeleton
public import proofs.«01_k».proof.Proof.Gen.AttnIdeal.Launch

@[expose] public section

set_option maxRecDepth 16384

noncomputable section

namespace Cert.AttnChk

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The column tiles a trip names lie inside the arrays, whatever the counter. -/
theorem chk_all (i : grid0.Coords) (j : ℕ) (hj : j ≤ 64) : k0_chk1 i (BitVec.ofNat 32 j) := by
  revert i j
  decide +kernel

end Cert.AttnChk
end
-- ==== Proof.AttnTrip.lean ====
module

public import proofs.«01_k».proof.AttnIdeal
public import Idealize.ShloMosaic.Lib.Tactic
public import Idealize.ShloMosaic.Lib.Tactic.Disch
public import Idealize.ShloMosaic.Lib.Pipeline.Frame
public import proofs.«01_k».proof.Proof.Gen.AttnIdeal
public import proofs.«01_k».proof.Proof.Gen.AttnIdeal.Skeleton
public import proofs.«01_k».proof.Proof.Gen.AttnIdeal.Launch
public import proofs.«01_k».proof.Proof.AttnChk
public import proofs.«01_k».proof.Proof.Held
public import proofs.«01_k».proof.Proof.AttnLane

@[expose] public section

set_option maxRecDepth 16384

noncomputable section

namespace Cert.AttnTrip

open Cert.AttnIdeal Cert.AttnIdeal.Gen Cert.AttnLane
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's variants: how many trips of the loop are still to run at most. -/
abbrev 𝒱₀ : Variants := Variants.nat

/-- The loop's test. -/
def alive (i : grid0.Coords) (j : BitVec 32) (st : St F) : Prop :=
  Scalar.andi (Scalar.cmpi .sge (Scalar.subi (Scalar.subi (Scalar.addi (Scalar.muli 2#32 (BitVec.ofNat 32 (i 1).val)) 2#32) 1#32) j) 0#32)
    (Scalar.cmpf .ogt (k0_pay3 st.l0.c st.l1.c st.l2.c st.l3.c) (Named.named κ "dead" 0xC2D00000#32)) = 1#1

section Label
variable (c : Dev nD) (i : grid0.Coords) (a2 : Memref sig .tc .vmem S2x512x64 .bf16) (h2 : a2.IsWhole) (a3 : Memref sig .tc .vmem S2x64x512 .bf16) (h3 : a3.IsWhole) (a4 : Memref sig .tc .vmem S2x64x16384 .bf16) (h4 : a4.IsWhole) (a5 : Memref sig .tc .vmem S2x64x16384 .bf16) (h5 : a5.IsWhole) (a6 : Memref sig .tc .vmem S2x512x64 .bf16) (h6 : a6.IsWhole) (a7 : Memref sig .tc .vmem S2x64x512 .bf16) (h7 : a7.IsWhole) (a8 : Memref sig .tc .vmem S2x512x1 .f32) (h8 : a8.IsWhole) (a10 : Memref sig .tc .vmem S2x64x16384 .f32) (h10 : a10.IsWhole) (a11 : Memref sig .tc .vmem S2x64x16384 .f32) (h11 : a11.IsWhole)
  (X : Ins F)

/-- The nine buffers the loop touches, at a state. -/
def held (st : St F) : sProp 𝕄 :=
  iprop(owns (c : Thread nD τ) a2 fullShare X.q ∗ owns (c : Thread nD τ) a3 fullShare X.qt ∗ owns (c : Thread nD τ) a4 fullShare X.k ∗ owns (c : Thread nD τ) a5 fullShare X.v ∗ owns (c : Thread nD τ) a6 fullShare X.d ∗ owns (c : Thread nD τ) a7 fullShare X.dt ∗ owns (c : Thread nD τ) a8 fullShare X.ds ∗ owns (c : Thread nD τ) a10 fullShare st.k ∗ owns (c : Thread nD τ) a11 fullShare st.v)

/-- What is known when the loop ends: the invariant, and that the test failed. -/
def Ended (I : ℕ → St F → Prop) (p : ℕ × St F) : Prop :=
  I p.1 p.2 ∧ ¬ alive i (BitVec.ofNat 32 p.1) p.2 ∧ 1 ≤ p.1 ∧ p.1 ≤ 2 * (i 1).val + 2

/-- The loop from a state: it gives back the buffers at a state of the invariant at which the test fails. -/
def spec (I : ℕ → St F → Prop) (st : St F) : sWPT 𝕄 (Res F) := do
  sWPT.consume (held c a2 a3 a4 a5 a6 a7 a8 a10 a11 X st)
  let p : ℕ × St F ← sWPT.arbitrary
  sWPT.assume (Ended i I p)
  sWPT.produce (held c a2 a3 a4 a5 a6 a7 a8 a10 a11 X p.2)
  pure (tup (BitVec.ofNat 32 p.1) p.2)

theorem spec_apply (I : ℕ → St F → Prop) (st : St F) (K : Res F → sProp 𝕄) :
    spec c i a2 a3 a4 a5 a6 a7 a8 a10 a11 X I st K
      = iprop(held c a2 a3 a4 a5 a6 a7 a8 a10 a11 X st ∗ ∀ p : ℕ × St F, ⌜Ended i I p⌝ -∗ (held c a2 a3 a4 a5 a6 a7 a8 a10 a11 X p.2 -∗ K (tup (BitVec.ofNat 32 p.1) p.2))) := rfl

/-- The counter is below its bound when the test holds. -/
theorem lt_of_alive (j : ℕ) (st : St F) (hj : j ≤ 2 * (i 1).val + 2) (h : alive i (BitVec.ofNat 32 j) st) : j < 2 * (i 1).val + 2 := by
  have hall : ∀ (a : Fin 32) (b : Fin 66), Scalar.cmpi .sge (Scalar.subi (Scalar.subi (Scalar.addi (Scalar.muli 2#32 (BitVec.ofNat 32 a.val)) 2#32) 1#32) (BitVec.ofNat 32 b.val)) 0#32 = 1#1 →
      b.val ≤ 2 * a.val + 2 → b.val < 2 * a.val + 2 := by decide +kernel
  have hi : (i 1).val < 32 := (i 1).isLt
  have h1 : ∀ x y : BitVec 1, Scalar.andi x y = 1#1 → x = 1#1 := by decide
  exact hall ⟨(i 1).val, hi⟩ ⟨j, by omega⟩ (h1 _ _ h) hj

set_option maxHeartbeats 2000000 in
/-- The loop meets its specification, by induction on the trips still to run. -/
theorem spec_le (I : ℕ → St F → Prop)
    (hI : ∀ j st, 1 ≤ j → j < 2 * (i 1).val + 2 → I j st → alive i (BitVec.ofNat 32 j) st → ∀ hc, I (j + 1) (next X i (BitVec.ofNat 32 j) hc st)) (E : Set ℕ) :
    ∀ k j, 1 ≤ j → j + k = 2 * (i 1).val + 2 → ∀ st, I j st → ∀ K : Res F → sProp 𝕄, spec c i a2 a3 a4 a5 a6 a7 a8 a10 a11 X I st K
      ⊢ wp frame (wpE (defs₀ (F := F)) 𝒱₀ (c : Thread nD τ) (some k)) E
          (defs₀ (F := F) .tc 1 ⟨i, a4, h4, a2, h2, k0_pay20, a6, h6, a5, h5, k0_pay21, a11, h11, a7, h7, a8, h8, a10, h10, a3, h3, (BitVec.ofNat 32 j), st.l0.c, st.l1.c, st.l2.c, st.l3.c, st.l0.g, st.l1.g, st.l2.g, st.l3.g, st.l0.s, st.l1.s, st.l2.s, st.l3.s⟩) K := by
  intro k
  induction k with
  | zero =>
    intro j h1 hj st hi K
    rw [spec_apply]
    show _ ⊢ wp frame (wpE (defs₀ (F := F)) 𝒱₀ (c : Thread nD τ) (some 0)) E (cc0_while1 i a4 h4 a2 h2 k0_pay20 a6 h6 a5 h5 k0_pay21 a11 h11 a7 h7 a8 h8 a10 h10 a3 h3 (BitVec.ofNat 32 j) st.l0.c st.l1.c st.l2.c st.l3.c st.l0.g st.l1.g st.l2.g st.l3.g st.l0.s st.l1.s st.l2.s st.l3.s) K
    simp only [cc0_while1_eq_skeleton]; unfold cc0_while1_skel
    have ht : ¬ alive i (BitVec.ofNat 32 j) st := fun h => absurd (lt_of_alive i j st (by omega) h) (by omega)
    have ht' := ht; unfold alive at ht'
    simp only [ht', ↓reduceIte, Prog.pure_eq_ret]
    iintro ⟨H, Hk⟩
    rw [wp_ret]; imodintro
    rw [show (BitVec.ofNat 32 j, st.l0.c, st.l1.c, st.l2.c, st.l3.c, st.l0.g, st.l1.g, st.l2.g, st.l3.g, st.l0.s, st.l1.s, st.l2.s, st.l3.s) = tup (BitVec.ofNat 32 ((j, st) : ℕ × St F).1) ((j, st) : ℕ × St F).2 from rfl]
    iapply Hk
    · ipureintro; exact ⟨hi, ht, h1, by omega⟩
    · iexact H
  | succ k ih =>
    intro j h1 hj st hi K
    rw [spec_apply]
    show _ ⊢ wp frame (wpE (defs₀ (F := F)) 𝒱₀ (c : Thread nD τ) (some (k + 1))) E (cc0_while1 i a4 h4 a2 h2 k0_pay20 a6 h6 a5 h5 k0_pay21 a11 h11 a7 h7 a8 h8 a10 h10 a3 h3 (BitVec.ofNat 32 j) st.l0.c st.l1.c st.l2.c st.l3.c st.l0.g st.l1.g st.l2.g st.l3.g st.l0.s st.l1.s st.l2.s st.l3.s) K
    simp only [cc0_while1_eq_skeleton]; unfold cc0_while1_skel
    by_cases ht : alive i (BitVec.ofNat 32 j) st
    · have hc := Cert.AttnChk.chk_all i j (by have : (i 1).val < 32 := (i 1).isLt; omega)
      simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
      unfold k0_part12_skel k0_part13_skel k0_part14_skel k0_part15_skel k0_part16_skel k0_part17_skel k0_part18_skel k0_part19_skel k0_part20_skel
      have ht' := ht; unfold alive at ht'
      simp only [ht', ↓reduceIte, Prog.lift, Prog.bind_op, Prog.bind_ret, Prog.pure_eq_ret]
      unfold held
      iintro ⟨⟨H2, H3, H4, H5, H6, H7, H8, H10, H11⟩, Hk⟩
      iapply (wp_assume 𝒱₀ (c : Thread nD τ) (some (k + 1)) E hc)
      -- The resident gradients after each of their four updates.
      obtain ⟨v0, ev0⟩ : ∃ x, x = upd st.v (k0_off3 i (BitVec.ofNat 32 j) 0#32) (k0_off3_inb i (BitVec.ofNat 32 j) hc 0) (tiles00 X (k0_off3 i (BitVec.ofNat 32 j) 0#32) (k0_off3_inb i (BitVec.ofNat 32 j) hc 0)).dt (lw (maskLive i (BitVec.ofNat 32 j)) k0_pay20 (tiles00 X (k0_off3 i (BitVec.ofNat 32 j) 0#32) (k0_off3_inb i (BitVec.ofNat 32 j) hc 0)) st.l0) := ⟨_, rfl⟩
      obtain ⟨v1, ev1⟩ : ∃ x, x = upd v0 (k0_off3 i (BitVec.ofNat 32 j) 1#32) (k0_off3_inb i (BitVec.ofNat 32 j) hc 1) (tiles01 X (k0_off3 i (BitVec.ofNat 32 j) 1#32) (k0_off3_inb i (BitVec.ofNat 32 j) hc 1)).dt (lw maskNone k0_pay20 (tiles01 X (k0_off3 i (BitVec.ofNat 32 j) 1#32) (k0_off3_inb i (BitVec.ofNat 32 j) hc 1)) st.l1) := ⟨_, rfl⟩
      obtain ⟨v2, ev2⟩ : ∃ x, x = upd v1 (k0_off4 i (BitVec.ofNat 32 j) 0#32) (k0_off4_inb i (BitVec.ofNat 32 j) hc 0) (tiles10 X (k0_off4 i (BitVec.ofNat 32 j) 0#32) (k0_off4_inb i (BitVec.ofNat 32 j) hc 0)).dt (lw (maskLive i (BitVec.ofNat 32 j)) k0_pay20 (tiles10 X (k0_off4 i (BitVec.ofNat 32 j) 0#32) (k0_off4_inb i (BitVec.ofNat 32 j) hc 0)) st.l2) := ⟨_, rfl⟩
      obtain ⟨v3, ev3⟩ : ∃ x, x = upd v2 (k0_off4 i (BitVec.ofNat 32 j) 1#32) (k0_off4_inb i (BitVec.ofNat 32 j) hc 1) (tiles11 X (k0_off4 i (BitVec.ofNat 32 j) 1#32) (k0_off4_inb i (BitVec.ofNat 32 j) hc 1)).dt (lw maskNone k0_pay20 (tiles11 X (k0_off4 i (BitVec.ofNat 32 j) 1#32) (k0_off4_inb i (BitVec.ofNat 32 j) hc 1)) st.l3) := ⟨_, rfl⟩
      obtain ⟨k0, ek0⟩ : ∃ x, x = upd st.k (k0_off3 i (BitVec.ofNat 32 j) 0#32) (k0_off3_inb i (BitVec.ofNat 32 j) hc 0) (tiles00 X (k0_off3 i (BitVec.ofNat 32 j) 0#32) (k0_off3_inb i (BitVec.ofNat 32 j) hc 0)).qt (ldz (maskLive i (BitVec.ofNat 32 j)) k0_pay20 k0_pay21 (tiles00 X (k0_off3 i (BitVec.ofNat 32 j) 0#32) (k0_off3_inb i (BitVec.ofNat 32 j) hc 0)) st.l0) := ⟨_, rfl⟩
      obtain ⟨k1, ek1⟩ : ∃ x, x = upd k0 (k0_off3 i (BitVec.ofNat 32 j) 1#32) (k0_off3_inb i (BitVec.ofNat 32 j) hc 1) (tiles01 X (k0_off3 i (BitVec.ofNat 32 j) 1#32) (k0_off3_inb i (BitVec.ofNat 32 j) hc 1)).qt (ldz maskNone k0_pay20 k0_pay21 (tiles01 X (k0_off3 i (BitVec.ofNat 32 j) 1#32) (k0_off3_inb i (BitVec.ofNat 32 j) hc 1)) st.l1) := ⟨_, rfl⟩
      obtain ⟨k2, ek2⟩ : ∃ x, x = upd k1 (k0_off4 i (BitVec.ofNat 32 j) 0#32) (k0_off4_inb i (BitVec.ofNat 32 j) hc 0) (tiles10 X (k0_off4 i (BitVec.ofNat 32 j) 0#32) (k0_off4_inb i (BitVec.ofNat 32 j) hc 0)).qt (ldz (maskLive i (BitVec.ofNat 32 j)) k0_pay20 k0_pay21 (tiles10 X (k0_off4 i (BitVec.ofNat 32 j) 0#32) (k0_off4_inb i (BitVec.ofNat 32 j) hc 0)) st.l2) := ⟨_, rfl⟩
      obtain ⟨k3, ek3⟩ : ∃ x, x = upd k2 (k0_off4 i (BitVec.ofNat 32 j) 1#32) (k0_off4_inb i (BitVec.ofNat 32 j) hc 1) (tiles11 X (k0_off4 i (BitVec.ofNat 32 j) 1#32) (k0_off4_inb i (BitVec.ofNat 32 j) hc 1)).qt (ldz maskNone k0_pay20 k0_pay21 (tiles11 X (k0_off4 i (BitVec.ofNat 32 j) 1#32) (k0_off4_inb i (BitVec.ofNat 32 j) hc 1)) st.l3) := ⟨_, rfl⟩
      iterate 4 (iapply Held.load $$ H4; iintro H4)
      iterate 4 (iapply Held.load $$ H2; iintro H2)
      iterate 4
        iapply Held.load $$ H6; iintro H6
        iapply Held.load $$ H5; iintro H5
      iapply Held.load $$ H11; iintro H11
      iapply Held.load $$ H7; iintro H7
      iapply Held.load $$ H11; iintro H11
      iapply (Held.store _ _ _ _ st.v v0 ev0.symm) $$ H11; iintro H11
      iapply Held.load $$ H11; iintro H11
      iapply Held.load $$ H7; iintro H7
      iapply Held.load $$ H11; iintro H11
      iapply (Held.store _ _ _ _ v0 v1 ev1.symm) $$ H11; iintro H11
      iapply Held.load $$ H11; iintro H11
      iapply Held.load $$ H7; iintro H7
      iapply Held.load $$ H11; iintro H11
      iapply (Held.store _ _ _ _ v1 v2 ev2.symm) $$ H11; iintro H11
      iapply Held.load $$ H11; iintro H11
      iapply Held.load $$ H7; iintro H7
      iapply Held.load $$ H11; iintro H11
      iapply (Held.store _ _ _ _ v2 v3 ev3.symm) $$ H11; iintro H11
      iterate 4 (iapply Held.load $$ H8; iintro H8)
      iapply Held.load $$ H10; iintro H10
      iapply Held.load $$ H3; iintro H3
      iapply Held.load $$ H10; iintro H10
      iapply (Held.store _ _ _ _ st.k k0 ek0.symm) $$ H10; iintro H10
      iapply Held.load $$ H10; iintro H10
      iapply Held.load $$ H3; iintro H3
      iapply Held.load $$ H10; iintro H10
      iapply (Held.store _ _ _ _ k0 k1 ek1.symm) $$ H10; iintro H10
      iapply Held.load $$ H10; iintro H10
      iapply Held.load $$ H3; iintro H3
      iapply Held.load $$ H10; iintro H10
      iapply (Held.store _ _ _ _ k1 k2 ek2.symm) $$ H10; iintro H10
      iapply Held.load $$ H10; iintro H10
      iapply Held.load $$ H3; iintro H3
      iapply Held.load $$ H10; iintro H10
      iapply (Held.store _ _ _ _ k2 k3 ek3.symm) $$ H10; iintro H10
      subst ev3 ev2 ev1 ev0 ek3 ek2 ek1 ek0
      rw [show Scalar.addi (BitVec.ofNat 32 j) 1#32 = BitVec.ofNat 32 (j + 1) by simp [Scalar.addi, IntOp.addi, BitVec.ofNat_add]]
      iapply (wp_call_spec 𝒱₀ (c : Thread nD τ) (some (k + 1)) E (spec c i a2 a3 a4 a5 a6 a7 a8 a10 a11 X I (next X i (BitVec.ofNat 32 j) hc st)) k
        (fun u hu => by cases hu; exact Nat.lt_succ_self k)
        (ih (j + 1) (by omega) (by omega) _ (hI j st h1 (by omega) hi ht hc)))
      rw [spec_apply]; unfold held
      isplitl [H2 H3 H4 H5 H6 H7 H8 H10 H11]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H10]; · iexact H10
        iexact H11
      iintro %p %hp H
      rw [wp_ret]; imodintro
      ispecialize Hk $$ %p
      iapply Hk
      · ipureintro; exact hp
      · iexact H
    · have ht' := ht; unfold alive at ht'
      simp only [ht', ↓reduceIte, Prog.pure_eq_ret]
      iintro ⟨H, Hk⟩
      rw [wp_ret]; imodintro
      rw [show (BitVec.ofNat 32 j, st.l0.c, st.l1.c, st.l2.c, st.l3.c, st.l0.g, st.l1.g, st.l2.g, st.l3.g, st.l0.s, st.l1.s, st.l2.s, st.l3.s) = tup (BitVec.ofNat 32 ((j, st) : ℕ × St F).1) ((j, st) : ℕ × St F).2 from rfl]
      iapply Hk
      · ipureintro; exact ⟨hi, ht, h1, by omega⟩
      · iexact H
end Label
end Cert.AttnTrip
end
-- ==== Proof.AttnWords.lean ====
module

public import proofs.«01_k».proof.Proof.AttnLane
public import Idealize.ShloMosaic.Lib.WordCmp

@[expose] public section

set_option maxRecDepth 16384

noncomputable section

open Idealize.ShloMosaic Idealize.ShloMosaic.TcCoe

namespace Cert.AttnWords

open Cert.AttnIdeal Cert.AttnIdeal.Gen Cert.AttnLane

/-- The first column of the key tile `j` steps to the left of query tile `2 i + b`, tile 0 at the least. -/
theorem column : ∀ (i : Fin 32) (j : Fin 64) (b : Fin 2),
    (Scalar.indexCast (Scalar.muli (Scalar.maxsi (Scalar.subi (Scalar.addi (Scalar.muli 2#32 (BitVec.ofNat 32 i.val)) (BitVec.ofNat 32 b.val)) (BitVec.ofNat 32 j.val)) 0#32) 256#32) : Index).toNat
      = 256 * (2 * i.val + b.val - j.val) := by
  decide +kernel

theorem off1 (i : grid0.Coords) (b : Fin 2) : k0_off1 i (BitVec.ofNat 32 b.val) = ![0, 0, 256 * (2 * (i 1).val + b.val)] := by
  have h := column ⟨(i 1).val, (i 1).isLt⟩ 0 b
  simp only [Fin.val_zero, Nat.sub_zero] at h
  unfold k0_off1
  exact congrArg (fun n : ℕ => (![0, 0, n] : Fin 3 → ℕ)) h

theorem off2 (i : grid0.Coords) (b : Fin 2) : k0_off2 i (BitVec.ofNat 32 b.val) = ![1, 0, 256 * (2 * (i 1).val + b.val)] := by
  have h := column ⟨(i 1).val, (i 1).isLt⟩ 0 b
  simp only [Fin.val_zero, Nat.sub_zero] at h
  unfold k0_off2
  exact congrArg (fun n : ℕ => (![1, 0, n] : Fin 3 → ℕ)) h

theorem off3 (i : grid0.Coords) (j : ℕ) (hj : j < 64) (b : Fin 2) : k0_off3 i (BitVec.ofNat 32 j) (BitVec.ofNat 32 b.val) = ![0, 0, 256 * (2 * (i 1).val + b.val - j)] := by
  have h := column ⟨(i 1).val, (i 1).isLt⟩ ⟨j, hj⟩ b
  unfold k0_off3
  exact congrArg (fun n : ℕ => (![0, 0, n] : Fin 3 → ℕ)) h

theorem off4 (i : grid0.Coords) (j : ℕ) (hj : j < 64) (b : Fin 2) : k0_off4 i (BitVec.ofNat 32 j) (BitVec.ofNat 32 b.val) = ![1, 0, 256 * (2 * (i 1).val + b.val - j)] := by
  have h := column ⟨(i 1).val, (i 1).isLt⟩ ⟨j, hj⟩ b
  unfold k0_off4
  exact congrArg (fun n : ℕ => (![1, 0, n] : Fin 3 → ℕ)) h

theorem live_all : ∀ (i : Fin 32) (j : Fin 64),
    Scalar.cmpi .sge (Scalar.subi (Scalar.addi (Scalar.muli 2#32 (BitVec.ofNat 32 i.val)) 0#32) (BitVec.ofNat 32 j.val)) 0#32 = 1#1 ↔ j.val ≤ 2 * i.val := by
  decide +kernel

theorem live_iff (i : grid0.Coords) (j : ℕ) (hj : j < 64) : live i (BitVec.ofNat 32 j) = 1#1 ↔ j ≤ 2 * (i 1).val :=
  live_all ⟨(i 1).val, (i 1).isLt⟩ ⟨j, hj⟩

theorem count_all : ∀ (i : Fin 32) (j : Fin 64),
    Scalar.cmpi .sge (Scalar.subi (Scalar.subi (Scalar.addi (Scalar.muli 2#32 (BitVec.ofNat 32 i.val)) 2#32) 1#32) (BitVec.ofNat 32 j.val)) 0#32 = 1#1 ↔ j.val ≤ 2 * i.val + 1 := by
  decide +kernel

theorem count_iff (i : grid0.Coords) (j : ℕ) (hj : j < 64) :
    Scalar.cmpi .sge (Scalar.subi (Scalar.subi (Scalar.addi (Scalar.muli 2#32 (BitVec.ofNat 32 (i 1).val)) 2#32) 1#32) (BitVec.ofNat 32 j)) 0#32 = 1#1
      ↔ j ≤ 2 * (i 1).val + 1 :=
  count_all ⟨(i 1).val, (i 1).isLt⟩ ⟨j, hj⟩

end Cert.AttnWords
end
-- ==== Proof.AttnMask.lean ====
module

public import proofs.«01_k».proof.Proof.AttnTrip
public import proofs.«01_k».proof.Proof.AttnWords
public import proofs.«01_k».proof.Proof.AttnReal

/-! The masks of the lanes and the loop's test over the real numbers. -/

@[expose] public section

set_option maxRecDepth 16384

noncomputable section

open Idealize.ShloMosaic Idealize.ShloMosaic.TcCoe

namespace Cert.AttnMask

open Classical

open Cert.AttnIdeal Cert.AttnIdeal.Gen Cert.AttnLane Cert.AttnTrip Cert.AttnPoint Cert.AttnReal Cert.AttnWords Cert.RealCalc

/-- Every key of the tile comes before every query. -/
def rAll : RMask := ⟨fun _ _ => True, fun _ _ => True, id⟩
/-- The diagonal tile. -/
def rDiag : RMask := ⟨fun y x => x < y, fun y x => x < y, id⟩
/-- An idle lane. -/
def rIdle (t : ℝ) : RMask := ⟨fun _ _ => True, fun _ _ => False, fun _ => t⟩

theorem none_of : rAll.Of (maskNone (F := Ideal)) where
  a h y x := by beta_reduce; rw [if_pos (show rAll.a y x from trivial)]; exact h y x
  w h y x := by beta_reduce; rw [if_pos (show rAll.w y x from trivial)]; exact h y x
  t h y := h y

theorem diag_of : rDiag.Of (maskDiag (F := Ideal)) where
  a {f F} h y x := by
    have : (maskDiag (F := Ideal)).ma f (ix2 y x) = if k0_pay19 (ix2 y x) = 1#1 then f (ix2 y x) else 0 := by
      pointwise [maskDiag, zero256]
      unfold Scalar.select
      exact if_congr Iff.rfl rfl rfl
    rw [this, h y x, ← EReal.coe_zero, ← apply_ite (fun r : ℝ => (r : EReal))]
    exact congrArg _ (if_congr (pay19_iff y x) rfl rfl)
  w {f F} h y x := by
    have : (maskDiag (F := Ideal)).mw f (ix2 y x) = if k0_pay19 (ix2 y x) = 1#1 then f (ix2 y x) else 0 := by
      pointwise [maskDiag, zero256]
      unfold Scalar.select
      exact if_congr Iff.rfl rfl rfl
    rw [this, h y x, ← EReal.coe_zero, ← apply_ite (fun r : ℝ => (r : EReal))]
    exact congrArg _ (if_congr (pay19_iff y x) rfl rfl)
  t h y := h y

theorem live_of (i : grid0.Coords) (j : ℕ) (hj : j < 64) (h : j ≤ 2 * (i 1).val) : rAll.Of (maskLive (F := Ideal) i (BitVec.ofNat 32 j)) := by
  have hl := (live_iff i j hj).2 h
  refine ⟨fun {f F} hf y x => ?_, fun {f F} hf y x => ?_, fun {f F} hf y => ?_⟩
  · beta_reduce; rw [if_pos (show rAll.a y x from trivial)]; exact hf y x
  · beta_reduce; rw [if_pos (show rAll.w y x from trivial)]
    show (Scalar.select (live i (BitVec.ofNat 32 j)) f (zero256 (F := Ideal))) (ix2 y x) = _
    rw [hl]; exact hf y x
  · show (Scalar.select (live i (BitVec.ofNat 32 j)) f _) (ix2 y 0) = _
    rw [hl]; exact hf y

theorem idle_of (i : grid0.Coords) (j : ℕ) (hj : j < 64) (h : ¬ j ≤ 2 * (i 1).val) : ∃ t, (rIdle t).Of (maskLive (F := Ideal) i (BitVec.ofNat 32 j)) := by
  have hl : live i (BitVec.ofNat 32 j) = 0#1 := by
    have h1 : live i (BitVec.ofNat 32 j) ≠ 1#1 := fun hh => h ((live_iff i j hj).1 hh)
    generalize live i (BitVec.ofNat 32 j) = b at h1
    revert b; decide
  obtain ⟨t, ht⟩ : ∃ t : ℝ, (Ideal.ofBits .f32 0xF149F2CA#32 : EReal) = (t : EReal) := by
    refine ⟨-(2 ^ 76 * 13234890), ?_⟩
    simp [Ideal.ofBits, Ideal.ieee, -EReal.coe_mul]
    norm_num
  refine ⟨t, fun {f F} hf y x => ?_, fun {f F} hf y x => ?_, fun {f F} hf y => ?_⟩
  · beta_reduce; rw [if_pos (show (rIdle t).a y x from trivial)]; exact hf y x
  · beta_reduce; rw [if_neg (show ¬ (rIdle t).w y x from id)]
    show (Scalar.select (live i (BitVec.ofNat 32 j)) f (zero256 (F := Ideal))) (ix2 y x) = _
    rw [hl]
    show (zero256 : FVec Ideal S256x256 .f32) (ix2 y x) = _
    pointwise [zero256]
    exact EReal.coe_zero.symm
  · show (Scalar.select (live i (BitVec.ofNat 32 j)) f _) (ix2 y 0) = _
    rw [hl]
    exact ht

theorem alive_iff (i : grid0.Coords) (j : ℕ) (hj : j < 64) (st : St Ideal) {c : Fin 256 → ℝ} (hc : Col st.l0.c c) :
    alive i (BitVec.ofNat 32 j) st ↔ j ≤ 2 * (i 1).val + 1 := by
  have hp : Scalar.cmpf .ogt (k0_pay3 st.l0.c st.l1.c st.l2.c st.l3.c) (Named.named (F := Ideal) κ "dead" 0xC2D00000#32) = 1#1 := by
    pointwise [k0_pay3]
    have hb : (Named.named (F := Ideal) (φ := .f32) κ "dead" 0xC2D00000#32 : EReal) = ⊥ := rfl
    have hlt : (⊥ : EReal) < Finset.fold max (Ideal.ofBits FTy.f32 4286578688#32)
        (fun x : Fin 256 × Fin 1 => max (max (max (st.l0.c (ix2 x.1 0)) (st.l1.c (ix2 x.1 0))) (st.l2.c (ix2 x.1 0))) (st.l3.c (ix2 x.1 0))) Finset.univ := by
      rw [Finset.lt_fold_max]
      refine .inr ⟨(0, 0), Finset.mem_univ _, ?_⟩
      refine lt_of_lt_of_le (EReal.bot_lt_coe (c 0)) ?_
      rw [← hc 0]
      exact le_trans (le_max_left _ _) (le_trans (le_max_left _ _) (le_max_left _ _))
    rw [hb]
    erw [decide_eq_true hlt]
    rfl
  unfold alive
  rw [hp, ← count_iff i j hj]
  generalize Scalar.cmpi .sge (Scalar.subi (Scalar.subi (Scalar.addi (Scalar.muli 2#32 (BitVec.ofNat 32 (i 1).val)) 2#32) 1#32) (BitVec.ofNat 32 j)) 0#32 = b
  revert b; decide

end Cert.AttnMask
end
-- ==== Proof.AttnBody.lean ====
module

public import proofs.«01_k».proof.AttnIdeal
public import Idealize.ShloMosaic.Lib.Tactic
public import Idealize.ShloMosaic.Lib.Tactic.Disch
public import Idealize.ShloMosaic.Lib.Pipeline.Frame
public import proofs.«01_k».proof.Proof.Gen.AttnIdeal
public import proofs.«01_k».proof.Proof.Gen.AttnIdeal.Skeleton
public import proofs.«01_k».proof.Proof.Gen.AttnIdeal.Launch
public import proofs.«01_k».proof.Proof.AttnChk
public import proofs.«01_k».proof.Proof.Held
public import proofs.«01_k».proof.Proof.AttnTrip

@[expose] public section

set_option maxRecDepth 16384

noncomputable section

namespace Cert.AttnBody

open Cert.AttnIdeal Cert.AttnIdeal.Gen Cert.AttnLane Cert.AttnTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (c : Dev nD) (i : grid0.Coords) (a2 : Memref sig .tc .vmem S2x512x64 .bf16) (h2 : a2.IsWhole) (a3 : Memref sig .tc .vmem S2x64x512 .bf16) (h3 : a3.IsWhole) (a4 : Memref sig .tc .vmem S2x64x16384 .bf16) (h4 : a4.IsWhole) (a5 : Memref sig .tc .vmem S2x64x16384 .bf16) (h5 : a5.IsWhole) (a6 : Memref sig .tc .vmem S2x512x64 .bf16) (h6 : a6.IsWhole) (a7 : Memref sig .tc .vmem S2x64x512 .bf16) (h7 : a7.IsWhole) (a8 : Memref sig .tc .vmem S2x512x1 .f32) (h8 : a8.IsWhole) (a9 : Memref sig .tc .vmem S2x64x512 .f32) (h9 : a9.IsWhole) (a10 : Memref sig .tc .vmem S2x64x16384 .f32) (h10 : a10.IsWhole) (a11 : Memref sig .tc .vmem S2x64x16384 .f32) (h11 : a11.IsWhole)
  (X : Ins F)

/-- The first block of a head pair, where the resident gradients are set to zero. -/
def fresh : Prop :=
  Scalar.cmpi .ne (Scalar.extui (Scalar.cmpi .eq (BitVec.ofNat 32 (i 1).val) 0#32) : BitVec 32) 0#32 = 1#1

theorem fresh_iff : fresh i ↔ (i 1).val = 0 := by
  have hall : ∀ a : Fin 32, Scalar.cmpi .ne (Scalar.extui (Scalar.cmpi .eq (BitVec.ofNat 32 a.val) 0#32) : BitVec 32) 0#32 = 1#1 ↔ a.val = 0 := by decide +kernel
  exact hall ⟨(i 1).val, (i 1).isLt⟩

/-- A resident gradient as the block finds it. -/
def start10 (x : Vec F S2x64x16384 .f32) : Vec F S2x64x16384 .f32 := open Classical in if fresh i then k0_pay17 else x
def start11 (x : Vec F S2x64x16384 .f32) : Vec F S2x64x16384 .f32 := open Classical in if fresh i then k0_pay18 else x

theorem patch_whole (x w : Vec F S2x64x16384 .f32) :
    Held.patch x (Rect.unit (s := S2x64x16384) ![0, 0, 0] S2x64x16384.size inb_S2x64x16384_S2x64x16384_0_0_0) w = w := by
  exact Held.patch_unit_zero x _ (by decide) _ w

/-- The fill, where there is one. -/
theorem part1_le (x10 x11 : Vec F S2x64x16384 .f32) (K : _ → sProp 𝕄) :
    iprop(owns (c : Thread nD τ) a10 fullShare x10 ∗ owns (c : Thread nD τ) a11 fullShare x11
        ∗ ∀ (a b e d : BitVec 32), owns (c : Thread nD τ) a10 fullShare (start10 i x10) -∗ owns (c : Thread nD τ) a11 fullShare (start11 i x11)
          -∗ K ⟨k0_pay19, k0_pay20 (F := F), k0_pay21 (F := F), k0_pay22 (F := F), k0_pay23 (F := F), a, b, e, d⟩)
      ⊢ wp frame (wpE (defs₀ (F := F)) 𝒱₀ (c : Thread nD τ) none) Set.univ (k0_part1 i a2 h2 a3 h3 a4 h4 a5 h5 a6 h6 a7 h7 a8 h8 a9 h9 a10 h10 a11 h11) K := by
  simp only [k0_part1_eq_skeleton]; unfold k0_part1_skel
  unfold start10 start11
  by_cases hf : fresh i
  · have hf' := hf; unfold fresh at hf'
    simp only [hf, hf', ↓reduceIte, ↓reduceDIte, Prog.lift, Prog.bind_op, Prog.bind_ret, Prog.pure_eq_ret]
    iintro ⟨H10, H11, Hk⟩
    iapply Held.load $$ H10; iintro H10
    iapply (Held.store _ _ _ _ x10 k0_pay17 (patch_whole _ _)) $$ H10; iintro H10
    iapply Held.load $$ H11; iintro H11
    iapply (Held.store _ _ _ _ x11 k0_pay18 (patch_whole _ _)) $$ H11; iintro H11
    rw [wp_ret]; imodintro
    iapply Hk $$ H10 H11
  · have hf' := hf; unfold fresh at hf'
    simp only [hf, hf', ↓reduceIte, ↓reduceDIte, Prog.lift, Prog.bind_op, Prog.bind_ret, Prog.pure_eq_ret]
    iintro ⟨H10, H11, Hk⟩
    rw [wp_ret]; imodintro
    iapply Hk $$ H10 H11

set_option maxHeartbeats 4000000 in
/-- What the body does after the fill: the diagonal tiles, the loop, the query gradient's four stores. -/
theorem tail_le (I : ℕ → St F → Prop)
    (hI : ∀ j st, 1 ≤ j → j < 2 * (i 1).val + 2 → I j st → alive i (BitVec.ofNat 32 j) st → ∀ hc, I (j + 1) (next X i (BitVec.ofNat 32 j) hc st))
    (x9 : Vec F S2x64x512 .f32) (x10 x11 : Vec F S2x64x16384 .f32) (h0 : I 1 (first X i (start10 i x10) (start11 i x11))) (K : PUnit → sProp 𝕄) :
    iprop(held c a2 a3 a4 a5 a6 a7 a8 a10 a11 X ⟨carry0, carry0, carry0, carry0, x10, x11⟩ ∗ owns (c : Thread nD τ) a9 fullShare x9
        ∗ ∀ p : ℕ × St F, ⌜Ended i I p⌝ -∗ (held c a2 a3 a4 a5 a6 a7 a8 a10 a11 X p.2 ∗ owns (c : Thread nD τ) a9 fullShare (fin p.2 x9)) -∗ K ⟨⟩)
      ⊢ wp frame (wpE (defs₀ (F := F)) 𝒱₀ (c : Thread nD τ) none) Set.univ (cc0_attn_bwd i a2 h2 a3 h3 a4 h4 a5 h5 a6 h6 a7 h7 a8 h8 a9 h9 a10 h10 a11 h11) K := by
  simp only [cc0_attn_bwd_eq_skeleton]; unfold cc0_attn_bwd_skel
  rw [wp_bind]
  unfold held
  iintro ⟨⟨H2, H3, H4, H5, H6, H7, H8, H10, H11⟩, H9, Hk⟩
  iapply (part1_le c i a2 h2 a3 h3 a4 h4 a5 h5 a6 h6 a7 h7 a8 h8 a9 h9 a10 h10 a11 h11 x10 x11)
  isplitl [H10]; · iexact H10
  isplitl [H11]; · iexact H11
  iintro %a %b %e %d H10 H11
  generalize start10 i x10 = y10 at *
  generalize start11 i x11 = y11 at *
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part2_skel k0_part3_skel k0_part4_skel k0_part5_skel k0_part6_skel k0_part7_skel k0_part8_skel k0_part9_skel k0_part10_skel k0_part11_skel
  simp only [Prog.lift, Prog.bind_op, Prog.bind_ret, Prog.pure_eq_ret]
  -- The resident gradients after each of their four updates.
  obtain ⟨v0, ev0⟩ : ∃ x, x = upd y11 (k0_off1 i 0#32) (k0_off1_inb i 0) (tiles00 X (k0_off1 i 0#32) (k0_off1_inb i 0)).dt (lw maskDiag k0_pay20 (tiles00 X (k0_off1 i 0#32) (k0_off1_inb i 0)) carry0) := ⟨_, rfl⟩
  obtain ⟨v1, ev1⟩ : ∃ x, x = upd v0 (k0_off1 i 1#32) (k0_off1_inb i 1) (tiles01 X (k0_off1 i 1#32) (k0_off1_inb i 1)).dt (lw maskDiag k0_pay20 (tiles01 X (k0_off1 i 1#32) (k0_off1_inb i 1)) carry0) := ⟨_, rfl⟩
  obtain ⟨v2, ev2⟩ : ∃ x, x = upd v1 (k0_off2 i 0#32) (k0_off2_inb i 0) (tiles10 X (k0_off2 i 0#32) (k0_off2_inb i 0)).dt (lw maskDiag k0_pay20 (tiles10 X (k0_off2 i 0#32) (k0_off2_inb i 0)) carry0) := ⟨_, rfl⟩
  obtain ⟨v3, ev3⟩ : ∃ x, x = upd v2 (k0_off2 i 1#32) (k0_off2_inb i 1) (tiles11 X (k0_off2 i 1#32) (k0_off2_inb i 1)).dt (lw maskDiag k0_pay20 (tiles11 X (k0_off2 i 1#32) (k0_off2_inb i 1)) carry0) := ⟨_, rfl⟩
  obtain ⟨k0, ek0⟩ : ∃ x, x = upd y10 (k0_off1 i 0#32) (k0_off1_inb i 0) (tiles00 X (k0_off1 i 0#32) (k0_off1_inb i 0)).qt (ldz maskDiag k0_pay20 k0_pay21 (tiles00 X (k0_off1 i 0#32) (k0_off1_inb i 0)) carry0) := ⟨_, rfl⟩
  obtain ⟨k1, ek1⟩ : ∃ x, x = upd k0 (k0_off1 i 1#32) (k0_off1_inb i 1) (tiles01 X (k0_off1 i 1#32) (k0_off1_inb i 1)).qt (ldz maskDiag k0_pay20 k0_pay21 (tiles01 X (k0_off1 i 1#32) (k0_off1_inb i 1)) carry0) := ⟨_, rfl⟩
  obtain ⟨k2, ek2⟩ : ∃ x, x = upd k1 (k0_off2 i 0#32) (k0_off2_inb i 0) (tiles10 X (k0_off2 i 0#32) (k0_off2_inb i 0)).qt (ldz maskDiag k0_pay20 k0_pay21 (tiles10 X (k0_off2 i 0#32) (k0_off2_inb i 0)) carry0) := ⟨_, rfl⟩
  obtain ⟨k3, ek3⟩ : ∃ x, x = upd k2 (k0_off2 i 1#32) (k0_off2_inb i 1) (tiles11 X (k0_off2 i 1#32) (k0_off2_inb i 1)).qt (ldz maskDiag k0_pay20 k0_pay21 (tiles11 X (k0_off2 i 1#32) (k0_off2_inb i 1)) carry0) := ⟨_, rfl⟩
  iterate 4 (iapply Held.load $$ H4; iintro H4)
  iterate 4 (iapply Held.load $$ H2; iintro H2)
  iterate 4
    iapply Held.load $$ H6; iintro H6
    iapply Held.load $$ H5; iintro H5
  iapply Held.load $$ H11; iintro H11
  iapply Held.load $$ H7; iintro H7
  iapply Held.load $$ H11; iintro H11
  iapply (Held.store _ _ _ _ y11 v0 ev0.symm) $$ H11; iintro H11
  iapply Held.load $$ H11; iintro H11
  iapply Held.load $$ H7; iintro H7
  iapply Held.load $$ H11; iintro H11
  iapply (Held.store _ _ _ _ v0 v1 ev1.symm) $$ H11; iintro H11
  iapply Held.load $$ H11; iintro H11
  iapply Held.load $$ H7; iintro H7
  iapply Held.load $$ H11; iintro H11
  iapply (Held.store _ _ _ _ v1 v2 ev2.symm) $$ H11; iintro H11
  iapply Held.load $$ H11; iintro H11
  iapply Held.load $$ H7; iintro H7
  iapply Held.load $$ H11; iintro H11
  iapply (Held.store _ _ _ _ v2 v3 ev3.symm) $$ H11; iintro H11
  iterate 4 (iapply Held.load $$ H8; iintro H8)
  iapply Held.load $$ H10; iintro H10
  iapply Held.load $$ H3; iintro H3
  iapply Held.load $$ H10; iintro H10
  iapply (Held.store _ _ _ _ y10 k0 ek0.symm) $$ H10; iintro H10
  iapply Held.load $$ H10; iintro H10
  iapply Held.load $$ H3; iintro H3
  iapply Held.load $$ H10; iintro H10
  iapply (Held.store _ _ _ _ k0 k1 ek1.symm) $$ H10; iintro H10
  iapply Held.load $$ H10; iintro H10
  iapply Held.load $$ H3; iintro H3
  iapply Held.load $$ H10; iintro H10
  iapply (Held.store _ _ _ _ k1 k2 ek2.symm) $$ H10; iintro H10
  iapply Held.load $$ H10; iintro H10
  iapply Held.load $$ H3; iintro H3
  iapply Held.load $$ H10; iintro H10
  iapply (Held.store _ _ _ _ k2 k3 ek3.symm) $$ H10; iintro H10
  subst ev3 ev2 ev1 ev0 ek3 ek2 ek1 ek0
  iapply (wp_call_spec 𝒱₀ (c : Thread nD τ) none Set.univ (spec c i a2 a3 a4 a5 a6 a7 a8 a10 a11 X I (first X i y10 y11)) (2 * (i 1).val + 1)
    (fun u hu => nomatch hu)
    (spec_le c i a2 h2 a3 h3 a4 h4 a5 h5 a6 h6 a7 h7 a8 h8 a10 h10 a11 h11 X I hI Set.univ (2 * (i 1).val + 1) 1 le_rfl (by omega) (first X i y10 y11) h0))
  rw [spec_apply]; unfold held
  isplitl [H2 H3 H4 H5 H6 H7 H8 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    iexact H11
  iintro %p %hp ⟨H2, H3, H4, H5, H6, H7, H8, H10, H11⟩
  obtain ⟨q0, eq0⟩ : ∃ x, x = Held.patch x9 (Rect.unit (s := S2x64x512) ![0, 0, 0] S1x64x256.size inb_S2x64x512_S1x64x256_0_0_0) (k0_pay106 p.2.l0.s) := ⟨_, rfl⟩
  obtain ⟨q1, eq1⟩ : ∃ x, x = Held.patch q0 (Rect.unit (s := S2x64x512) ![0, 0, 256] S1x64x256.size inb_S2x64x512_S1x64x256_0_0_256) (k0_pay106 p.2.l1.s) := ⟨_, rfl⟩
  obtain ⟨q2, eq2⟩ : ∃ x, x = Held.patch q1 (Rect.unit (s := S2x64x512) ![1, 0, 0] S1x64x256.size inb_S2x64x512_S1x64x256_1_0_0) (k0_pay106 p.2.l2.s) := ⟨_, rfl⟩
  obtain ⟨q3, eq3⟩ : ∃ x, x = Held.patch q2 (Rect.unit (s := S2x64x512) ![1, 0, 256] S1x64x256.size inb_S2x64x512_S1x64x256_1_0_256) (k0_pay106 p.2.l3.s) := ⟨_, rfl⟩
  iapply Held.load $$ H9; iintro H9
  iapply (Held.store _ _ _ _ x9 q0 eq0.symm) $$ H9; iintro H9
  iapply Held.load $$ H9; iintro H9
  iapply (Held.store _ _ _ _ q0 q1 eq1.symm) $$ H9; iintro H9
  iapply Held.load $$ H9; iintro H9
  iapply (Held.store _ _ _ _ q1 q2 eq2.symm) $$ H9; iintro H9
  iapply Held.load $$ H9; iintro H9
  iapply (Held.store _ _ _ _ q2 q3 eq3.symm) $$ H9; iintro H9
  subst eq3 eq2 eq1 eq0
  rw [wp_ret]; imodintro
  ispecialize Hk $$ %p
  iapply Hk
  · ipureintro; exact hp
  isplitl [H2 H3 H4 H5 H6 H7 H8 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    iexact H11
  iexact H9
end Body
end Cert.AttnBody
end
-- ==== Proof.AttnRun.lean ====
module

public import proofs.«01_k».proof.Proof.AttnBody
public import proofs.«01_k».proof.Proof.Gen.AttnIdeal.Points
public import Idealize.ShloMosaic.Lib.Pipeline.FrameBody
public import Idealize.ShloMosaic.Lib.Ring
public import Idealize.ShloMosaic.Lib.WordCmp

@[expose] public section

set_option maxRecDepth 16384

noncomputable section

namespace Cert.AttnRun

open Cert.AttnIdeal Cert.AttnIdeal.Gen Cert.AttnLane Cert.AttnTrip Cert.AttnBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the loop ends at -/

/-- The loop from trip `j` on, at most `k` trips. -/
def go (X : Ins F) (i : grid0.Coords) : ℕ → ℕ → St F → St F
  | 0, _, st => st
  | k + 1, j, st => open Classical in
      if h : alive i (BitVec.ofNat 32 j) st ∧ k0_chk1 i (BitVec.ofNat 32 j) then go X i k (j + 1) (next X i (BitVec.ofNat 32 j) h.2 st) else st

/-- The state a grid point ends at. -/
def res (X : Ins F) (i : grid0.Coords) (x10 x11 : Vec F S2x64x16384 .f32) : St F :=
  go X i (2 * (i 1).val + 1) 1 (first X i (start10 i x10) (start11 i x11))

theorem go_dead (X : Ins F) (i : grid0.Coords) (k j : ℕ) (st : St F) (h : ¬ alive i (BitVec.ofNat 32 j) st) : go X i k j st = st := by
  cases k with
  | zero => rfl
  | succ k => unfold go; rw [dif_neg (fun hh => h hh.1)]

theorem go_alive (X : Ins F) (i : grid0.Coords) (k j : ℕ) (st : St F) (h : alive i (BitVec.ofNat 32 j) st) (hc : k0_chk1 i (BitVec.ofNat 32 j)) :
    go X i (k + 1) j st = go X i k (j + 1) (next X i (BitVec.ofNat 32 j) hc st) := by
  conv_lhs => unfold go
  rw [dif_pos ⟨h, hc⟩]

/-- On a fresh block the resident gradients found do not matter. -/
theorem res_fresh (X : Ins F) (i : grid0.Coords) (h : (i 1).val = 0) (x10 x11 y10 y11 : Vec F S2x64x16384 .f32) : res X i x10 x11 = res X i y10 y11 := by
  have hf := (fresh_iff i).mpr h
  unfold res start10 start11
  simp only [hf, ↓reduceIte]

/-! ## The body -/

theorem body_le (c : Dev nD) (i : grid0.Coords) (a2 : Memref sig .tc .vmem S2x512x64 .bf16) (h2 : a2.IsWhole) (a3 : Memref sig .tc .vmem S2x64x512 .bf16) (h3 : a3.IsWhole) (a4 : Memref sig .tc .vmem S2x64x16384 .bf16) (h4 : a4.IsWhole) (a5 : Memref sig .tc .vmem S2x64x16384 .bf16) (h5 : a5.IsWhole) (a6 : Memref sig .tc .vmem S2x512x64 .bf16) (h6 : a6.IsWhole) (a7 : Memref sig .tc .vmem S2x64x512 .bf16) (h7 : a7.IsWhole) (a8 : Memref sig .tc .vmem S2x512x1 .f32) (h8 : a8.IsWhole) (a9 : Memref sig .tc .vmem S2x64x512 .f32) (h9 : a9.IsWhole) (a10 : Memref sig .tc .vmem S2x64x16384 .f32) (h10 : a10.IsWhole) (a11 : Memref sig .tc .vmem S2x64x16384 .f32) (h11 : a11.IsWhole) (X : Ins F)
    (x9 : Vec F S2x64x512 .f32) (x10 x11 : Vec F S2x64x16384 .f32) (K : PUnit → sProp 𝕄) :
    iprop(held c a2 a3 a4 a5 a6 a7 a8 a10 a11 X ⟨carry0, carry0, carry0, carry0, x10, x11⟩ ∗ owns (c : Thread nD τ) a9 fullShare x9
        ∗ ((held c a2 a3 a4 a5 a6 a7 a8 a10 a11 X (res X i x10 x11) ∗ owns (c : Thread nD τ) a9 fullShare (outq (res X i x10 x11))) -∗ K ⟨⟩))
      ⊢ wp frame (wpE (defs₀ (F := F)) 𝒱₀ (c : Thread nD τ) none) Set.univ (cc0_attn_bwd i a2 h2 a3 h3 a4 h4 a5 h5 a6 h6 a7 h7 a8 h8 a9 h9 a10 h10 a11 h11) K := by
  iintro ⟨H, H9, Hk⟩
  iapply (tail_le c i a2 h2 a3 h3 a4 h4 a5 h5 a6 h6 a7 h7 a8 h8 a9 h9 a10 h10 a11 h11 X
    (fun j st => go X i (2 * (i 1).val + 2 - j) j st = res X i x10 x11)
    (fun j st h1 hj hI ha hc => by
      have hk : 2 * (i 1).val + 2 - j = (2 * (i 1).val + 2 - (j + 1)) + 1 := by omega
      rw [hk, go_alive X i _ j st ha hc] at hI
      exact hI) x9 x10 x11 rfl K)
  isplitl [H]; · iexact H
  isplitl [H9]; · iexact H9
  iintro %p %hp H
  have he : p.2 = res X i x10 x11 := by
    have h : go X i (2 * (i 1).val + 2 - p.1) p.1 p.2 = res X i x10 x11 := hp.1
    rwa [go_dead X i _ _ _ hp.2.1] at h
  rw [he, show fin (res X i x10 x11) x9 = outq (res X i x10 x11) from fin_const _ _ _]
  iapply Hk $$ H

/-- The body, buffer by buffer. -/
theorem body_owns (c : Dev nD) (i : grid0.Coords) (a2 : Memref sig .tc .vmem S2x512x64 .bf16) (h2 : a2.IsWhole) (a3 : Memref sig .tc .vmem S2x64x512 .bf16) (h3 : a3.IsWhole) (a4 : Memref sig .tc .vmem S2x64x16384 .bf16) (h4 : a4.IsWhole) (a5 : Memref sig .tc .vmem S2x64x16384 .bf16) (h5 : a5.IsWhole) (a6 : Memref sig .tc .vmem S2x512x64 .bf16) (h6 : a6.IsWhole) (a7 : Memref sig .tc .vmem S2x64x512 .bf16) (h7 : a7.IsWhole) (a8 : Memref sig .tc .vmem S2x512x1 .f32) (h8 : a8.IsWhole) (a9 : Memref sig .tc .vmem S2x64x512 .f32) (h9 : a9.IsWhole) (a10 : Memref sig .tc .vmem S2x64x16384 .f32) (h10 : a10.IsWhole) (a11 : Memref sig .tc .vmem S2x64x16384 .f32) (h11 : a11.IsWhole) (X : Ins F)
    (x9 : Vec F S2x64x512 .f32) (x10 x11 : Vec F S2x64x16384 .f32) (r : St F) (hr : r = res X i x10 x11) (K : PUnit → sProp 𝕄) :
    iprop((owns (c : Thread nD τ) a2 fullShare X.q ∗ owns (c : Thread nD τ) a3 fullShare X.qt ∗ owns (c : Thread nD τ) a4 fullShare X.k ∗ owns (c : Thread nD τ) a5 fullShare X.v ∗ owns (c : Thread nD τ) a6 fullShare X.d ∗ owns (c : Thread nD τ) a7 fullShare X.dt ∗ owns (c : Thread nD τ) a8 fullShare X.ds ∗ owns (c : Thread nD τ) a9 fullShare x9 ∗ owns (c : Thread nD τ) a10 fullShare x10 ∗ owns (c : Thread nD τ) a11 fullShare x11)
        ∗ ((owns (c : Thread nD τ) a2 fullShare X.q ∗ owns (c : Thread nD τ) a3 fullShare X.qt ∗ owns (c : Thread nD τ) a4 fullShare X.k ∗ owns (c : Thread nD τ) a5 fullShare X.v ∗ owns (c : Thread nD τ) a6 fullShare X.d ∗ owns (c : Thread nD τ) a7 fullShare X.dt ∗ owns (c : Thread nD τ) a8 fullShare X.ds ∗ owns (c : Thread nD τ) a9 fullShare (outq r) ∗ owns (c : Thread nD τ) a10 fullShare r.k ∗ owns (c : Thread nD τ) a11 fullShare r.v) -∗ K ⟨⟩))
      ⊢ wp frame (wpE (defs₀ (F := F)) 𝒱₀ (c : Thread nD τ) none) Set.univ (cc0_attn_bwd i a2 h2 a3 h3 a4 h4 a5 h5 a6 h6 a7 h7 a8 h8 a9 h9 a10 h10 a11 h11) K := by
  subst hr
  iintro ⟨⟨H2, H3, H4, H5, H6, H7, H8, H9, H10, H11⟩, Hk⟩
  iapply (body_le c i a2 h2 a3 h3 a4 h4 a5 h5 a6 h6 a7 h7 a8 h8 a9 h9 a10 h10 a11 h11 X x9 x10 x11 K)
  unfold held
  isplitl [H2 H3 H4 H5 H6 H7 H8 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    iexact H11
  isplitl [H9]; · iexact H9
  iintro ⟨⟨H2, H3, H4, H5, H6, H7, H8, H10, H11⟩, H9⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.AttnRun
end
-- ==== Proof.AttnState.lean ====
module

public import proofs.«01_k».proof.Proof.AttnMask
public import proofs.«01_k».proof.Proof.AttnRun

/-! What the loop's state is, trip by trip, over the real numbers. -/

@[expose] public section

set_option maxRecDepth 16384

noncomputable section

open Idealize.ShloMosaic Idealize.ShloMosaic.TcCoe

namespace Cert.AttnState

open Finset
open Cert.AttnIdeal Cert.AttnIdeal.Gen Cert.AttnLane Cert.AttnTrip Cert.AttnPoint Cert.AttnReal Cert.AttnWords Cert.AttnMask Cert.AttnRun Cert.AttnBody Cert.RealCalc

variable (D : Dat (Fin 2))

/-! ## One lane -/

/-- A lane of query tile `R` after `t` trips. -/
def LaneInv (h : Fin 2) (R t : ℕ) (L : Carry Ideal) : Prop :=
  ∃ l : RCarry, l.Of L ∧ Good D h (256 * R) (256 * (R + 1 - t)) l ∧ (t ≤ R + 1 → GoodC D h (256 * R) (256 * (R + 1 - t)) l)

/-- The mask a lane of query tile `R` has on trip `t`. -/
def MaskAt (R t : ℕ) (M : Mask Ideal) : Prop :=
  (t = 0 ∧ rDiag.Of M) ∨ (1 ≤ t ∧ t ≤ R ∧ rAll.Of M) ∨ (t = R + 1 ∧ ∃ u, (rIdle u).Of M)

/-- What a trip adds to a resident gradient makes its part one tile wider. -/
def Adds (F f : ℕ → ℕ → ℝ) (R t : ℕ) : Prop := ∀ (g : ℕ → ℝ) (c : ℕ),
  part (fun r c => g r * f r c) (256 * R) (256 * (R + 1 - t)) c
    + (if 256 * (R - t) ≤ c ∧ c < 256 * (R - t) + 256 then ∑ y : Fin 256, g (256 * R + y.val) * F (256 * R + y.val) c else 0)
    = part (fun r c => g r * f r c) (256 * R) (256 * (R + 1 - (t + 1))) c

theorem adds_self (f : ℕ → ℕ → ℝ) (R t : ℕ) (h : t ≤ R) : Adds f f R t := by
  intro g c
  rw [show 256 * (R + 1 - t) = 256 * (R - t) + 256 by omega, show R + 1 - (t + 1) = R - t by omega]
  exact part_next _ _ _ _

theorem adds_zero (f : ℕ → ℕ → ℝ) (R t : ℕ) (h : t = R + 1) : Adds (fun _ _ => 0) f R t := by
  intro g c
  rw [show 256 * (R + 1 - t) = 256 * (R + 1 - (t + 1)) by omega]
  simp only [mul_zero, sum_const_zero, ite_self, add_zero]

/-- What a trip does to a lane. -/
def Stepped (h : Fin 2) (R t : ℕ) (M : Mask Ideal) (T : Tiles Ideal) (L : Carry Ideal) : Prop :=
  LaneInv D h R (t + 1) (lnext M (k0_pay20 (F := Ideal)) (k0_pay21 (F := Ideal)) T L)
    ∧ (∃ F, Mat (ldz M (k0_pay20 (F := Ideal)) (k0_pay21 (F := Ideal)) T L) (fun y x => F (256 * R + y.val) (256 * (R - t) + x.val)) ∧ Adds F (DZ D h) R t)
    ∧ (∃ F, Mat (lw M (k0_pay20 (F := Ideal)) T L) (fun y x => F (256 * R + y.val) (256 * (R - t) + x.val)) ∧ Adds F (W D h) R t)

theorem lane (h : Fin 2) (R t : ℕ) {M : Mask Ideal} (hM : MaskAt R t M) {T : Tiles Ideal} (hT : (tl D h (256 * R) (256 * (R - t))).Of T)
    {L : Carry Ideal} (hL : LaneInv D h R t L) :
    Stepped D h R t M T L := by
  obtain ⟨l, hl, hg, hc⟩ := hL
  have live : ∀ m : RMask, m.Of M → t ≤ R → (∀ u, m.t u = u) → (∀ y x : Fin 256, m.a y x ↔ 256 * (R - t) + x.val < 256 * R + y.val) →
      (∀ y x : Fin 256, m.w y x ↔ 256 * (R - t) + x.val < 256 * R + y.val) → Stepped D h R t M T L := by
    intro m hm htR hmt ha hw
    rw [show 256 * (R + 1 - t) = 256 * (R - t) + 256 by omega] at hg hc
    have hc := hc (by omega)
    have hle : 256 * (R - t) ≤ 256 * R := by omega
    refine ⟨⟨rnext m (tl D h (256 * R) (256 * (R - t))) l, lnext_of hm hT hl, ?_, fun _ => ?_⟩, ⟨DZ D h, ?_, adds_self _ R t htR⟩, ⟨W D h, ?_, adds_self _ R t htR⟩⟩
    · rw [show R + 1 - (t + 1) = R - t by omega]; exact good_next D h hle ha hw hg hc
    · rw [show R + 1 - (t + 1) = R - t by omega]; exact goodC_next D h hle ha hmt hc
    · intro y x; rw [ldz_mat hm hT hl y x, rdz_tl D h hle ha hw hg hc]
    · intro y x; rw [lw_mat hm hT hl y x, rw_tl D h ha hw hc]
  rcases hM with ⟨h0, hm⟩ | ⟨h1, h2, hm⟩ | ⟨h1, u, hm⟩
  · refine live _ hm (by omega) (fun _ => rfl) (fun y x => ?_) (fun y x => ?_)
    · show x < y ↔ _
      rw [Fin.lt_def]; omega
    · show x < y ↔ _
      rw [Fin.lt_def]; omega
  · refine live _ hm h2 (fun _ => rfl) (fun y x => ?_) (fun y x => ?_)
    · show True ↔ _
      have := x.isLt; simp only [true_iff]; omega
    · show True ↔ _
      have := x.isLt; simp only [true_iff]; omega
  · refine ⟨⟨_, lnext_of hm hT hl, ?_, fun hh => by omega⟩, ⟨fun _ _ => 0, ?_, adds_zero _ R t h1⟩, ⟨fun _ _ => 0, ?_, adds_zero _ R t h1⟩⟩
    · rw [show R + 1 - (t + 1) = R + 1 - t by omega]
      exact good_idle D h (fun _ _ hh => hh) hg _
    · intro y x; rw [ldz_mat hm hT hl y x, rdz_idle (fun _ _ hh => hh)]
    · intro y x; rw [lw_mat hm hT hl y x, rw_idle (fun _ _ hh => hh)]

theorem lane_zero (h : Fin 2) (R : ℕ) : LaneInv D h R 0 (carry0 (F := Ideal)) := by
  have h0 : ∀ y : Fin 256, Ico (256 * (R + 1 - 0)) (256 * R + y.val) = ∅ := fun y => Ico_eq_empty (by have := y.isLt; omega)
  refine ⟨⟨fun _ => 0, fun _ => 0, fun _ _ => 0⟩, ⟨fun y => ?_, fun y => ?_, fun e y => ?_⟩, ⟨fun y => ?_, fun e y => ?_⟩, fun _ y => ?_⟩
  · pointwise [carry0, k0_pay22]; exact EReal.coe_zero.symm
  · pointwise [carry0, k0_pay22]; exact EReal.coe_zero.symm
  · pointwise [carry0, k0_pay23]; exact EReal.coe_zero.symm
  · rw [h0, sum_empty]
  · rw [h0, sum_empty]
  · rw [h0, sum_empty]

/-! ## The tiles -/

/-- What the windows hold on the query block that begins at row `b`. -/
structure InsOf (b : ℕ) (X : Ins Ideal) : Prop where
  q : ∀ h (r : Fin 512) e, X.q (ix3 h r e) = ((D.q h (b + r.val) e : ℝ) : EReal)
  d : ∀ h (r : Fin 512) e, X.d (ix3 h r e) = ((D.d h (b + r.val) e : ℝ) : EReal)
  qt : ∀ h e (r : Fin 512), X.qt (ix3 h e r) = ((D.q h (b + r.val) e : ℝ) : EReal)
  dt : ∀ h e (r : Fin 512), X.dt (ix3 h e r) = ((D.d h (b + r.val) e : ℝ) : EReal)
  k : ∀ h e (c : Fin 16384), X.k (ix3 h e c) = ((D.k h c.val e : ℝ) : EReal)
  v : ∀ h e (c : Fin 16384), X.v (ix3 h e c) = ((D.v h c.val e : ℝ) : EReal)
  s : ∀ h (r : Fin 512), X.ds (ix3 h r 0) = ((∑ j ∈ range (b + r.val), G D h (b + r.val) j : ℝ) : EReal)

theorem idx_val {s : Shape} (off size : Fin s.rank → ℕ) (inb : ∀ a, off a + size a ≤ s.size a) (z : (Rect.unit off size inb).toLoadRect.shape.Idx) (a : Fin s.rank) :
    (((Rect.unit off size inb).toLoadRect.idx z) a).val = off a + 1 * (z a).val := rfl

variable {D} in
theorem tiles_of {b : ℕ} {X : Ins Ideal} (hX : InsOf D b X) (h : Fin 2) (u c0 : ℕ) (hu : u + 256 ≤ 512) {off : Fin 3 → ℕ} (ho : off = ![h.val, 0, c0]) (hi : Inb off)
    {oq : Fin 3 → ℕ} (hoq : oq = ![h.val, u, 0]) (hq : ∀ a, oq a + S1x256x64.size a ≤ S2x512x64.size a)
    (hs : ∀ a, oq a + S1x256x1.size a ≤ S2x512x1.size a) {ot : Fin 3 → ℕ} (hot : ot = ![h.val, 0, u]) (ht : ∀ a, ot a + S1x64x256.size a ≤ S2x64x512.size a) :
    (tl D h (b + u) c0).Of (tiles X off hi oq hq hs ot ht) := by
  subst ho hoq hot
  have hc : ∀ x : Fin 256, c0 + x.val < 16384 := by
    intro x
    have h2 : c0 + 256 ≤ 16384 := hi 2
    have := x.isLt; omega
  have hr : ∀ y : Fin 256, u + y.val < 512 := fun y => by have := y.isLt; omega
  refine ⟨fun y e => ?_, fun y e => ?_, fun e y => ?_, fun e y => ?_, fun e x => ?_, fun e x => ?_, fun y => ?_⟩
  · refine Eq.trans (congrArg X.q ?_) ((hX.q h ⟨u + y.val, hr y⟩ e).trans (by rw [← add_assoc]; rfl))
    funext a; apply Fin.ext; rw [idx_val]
    match a with
    | ⟨0, _⟩ => show h.val + 1 * 0 = h.val; omega
    | ⟨1, _⟩ => show u + 1 * y.val = u + y.val; omega
    | ⟨2, _⟩ => show 0 + 1 * e.val = e.val; omega
  · refine Eq.trans (congrArg X.d ?_) ((hX.d h ⟨u + y.val, hr y⟩ e).trans (by rw [← add_assoc]; rfl))
    funext a; apply Fin.ext; rw [idx_val]
    match a with
    | ⟨0, _⟩ => show h.val + 1 * 0 = h.val; omega
    | ⟨1, _⟩ => show u + 1 * y.val = u + y.val; omega
    | ⟨2, _⟩ => show 0 + 1 * e.val = e.val; omega
  · refine Eq.trans (congrArg X.qt ?_) ((hX.qt h e ⟨u + y.val, hr y⟩).trans (by rw [← add_assoc]; rfl))
    funext a; apply Fin.ext; rw [idx_val]
    match a with
    | ⟨0, _⟩ => show h.val + 1 * 0 = h.val; omega
    | ⟨1, _⟩ => show 0 + 1 * e.val = e.val; omega
    | ⟨2, _⟩ => show u + 1 * y.val = u + y.val; omega
  · refine Eq.trans (congrArg X.dt ?_) ((hX.dt h e ⟨u + y.val, hr y⟩).trans (by rw [← add_assoc]; rfl))
    funext a; apply Fin.ext; rw [idx_val]
    match a with
    | ⟨0, _⟩ => show h.val + 1 * 0 = h.val; omega
    | ⟨1, _⟩ => show 0 + 1 * e.val = e.val; omega
    | ⟨2, _⟩ => show u + 1 * y.val = u + y.val; omega
  · refine Eq.trans (congrArg X.k ?_) (hX.k h e ⟨c0 + x.val, hc x⟩)
    funext a; apply Fin.ext; rw [idx_val]
    match a with
    | ⟨0, _⟩ => show h.val + 1 * 0 = h.val; omega
    | ⟨1, _⟩ => show 0 + 1 * e.val = e.val; omega
    | ⟨2, _⟩ => show c0 + 1 * x.val = c0 + x.val; omega
  · refine Eq.trans (congrArg X.v ?_) (hX.v h e ⟨c0 + x.val, hc x⟩)
    funext a; apply Fin.ext; rw [idx_val]
    match a with
    | ⟨0, _⟩ => show h.val + 1 * 0 = h.val; omega
    | ⟨1, _⟩ => show 0 + 1 * e.val = e.val; omega
    | ⟨2, _⟩ => show c0 + 1 * x.val = c0 + x.val; omega
  · refine Eq.trans (congrArg X.ds ?_) ((hX.s h ⟨u + y.val, hr y⟩).trans (by rw [← add_assoc]; rfl))
    funext a; apply Fin.ext; rw [idx_val]
    match a with
    | ⟨0, _⟩ => show h.val + 1 * 0 = h.val; omega
    | ⟨1, _⟩ => show u + 1 * y.val = u + y.val; omega
    | ⟨2, _⟩ => rfl

/-! ## The resident gradients -/

def Res (a : Vec Ideal S2x64x16384 .f32) (A : Fin 2 → Fin 64 → ℕ → ℝ) : Prop := ∀ h e (c : Fin 16384), a (ix3 h e c) = ((A h e c.val : ℝ) : EReal)

theorem upd_res {x : Vec Ideal S2x64x16384 .f32} {A : Fin 2 → Fin 64 → ℕ → ℝ} (hx : Res x A) (h : Fin 2) (c0 : ℕ) {off : Fin 3 → ℕ} (ho : off = ![h.val, 0, c0]) (hi : Inb off)
    {t : Vec Ideal S1x64x256 .bf16} {τ : Fin 256 → Fin 64 → ℝ} (ht : ∀ e y, t (ix3 0 e y) = ((τ y e : ℝ) : EReal))
    {a : FVec Ideal S256x256 .bf16} {F : Fin 256 → ℕ → ℝ} (ha : Mat a fun y x => F y (c0 + x.val)) :
    Res (upd x off hi t a) fun h' e c => A h' e c + if h' = h then (if c0 ≤ c ∧ c < c0 + 256 then ∑ y, τ y e * F y c else 0) else 0 := by
  subst ho
  intro h' e c
  unfold upd
  by_cases hin : h' = h ∧ c0 ≤ c.val ∧ c.val < c0 + 256
  · obtain ⟨rfl, h1, h2⟩ := hin
    beta_reduce
    rw [if_pos rfl, if_pos ⟨h1, h2⟩]
    have hemb : (cols ![h'.val, 0, c0] hi).emb (ix3 0 e ⟨c.val - c0, by omega⟩) = ix3 h' e c := by
      funext a; apply Fin.ext
      match a with
      | ⟨0, _⟩ => show h'.val + 1 * 0 = h'.val; omega
      | ⟨1, _⟩ => show 0 + 1 * e.val = e.val; omega
      | ⟨2, _⟩ => show c0 + 1 * (c.val - c0) = c.val; omega
    have hc : c0 + (c.val - c0) = c.val := by omega
    rw [← hemb, Held.patch_emb]
    pointwise
    simp only [hx h' _ _, ht, ha _ _, ← EReal.coe_mul, coe_sum, ← EReal.coe_add, hc]
  · rw [Held.patch_of_not]
    · rw [hx h' e c]
      beta_reduce
      congr 1
      by_cases h1 : h' = h
      · rw [if_pos h1, if_neg (fun hh => hin ⟨h1, hh⟩), add_zero]
      · rw [if_neg h1, add_zero]
    · rw [unit_mem]
      intro hh
      have h0 : h.val ≤ h'.val ∧ h'.val < h.val + 1 := hh 0
      have h2 : c0 ≤ c.val ∧ c.val < c0 + 256 := hh 2
      exact hin ⟨Fin.ext (by omega), h2⟩

/-! ## One trip -/

/-- What query tile `R` has added to a resident gradient after `t` trips. -/
def kPart (h : Fin 2) (R t : ℕ) (e : Fin 64) (c : ℕ) : ℝ := part (fun r c => D.q h r e * DZ D h r c) (256 * R) (256 * (R + 1 - t)) c
def vPart (h : Fin 2) (R t : ℕ) (e : Fin 64) (c : ℕ) : ℝ := part (fun r c => D.d h r e * W D h r c) (256 * R) (256 * (R + 1 - t)) c

/-- The state of query block `i` after `t` trips, from resident gradients `A` and `B`. -/
structure Inv (i t : ℕ) (A B : Fin 2 → Fin 64 → ℕ → ℝ) (st : St Ideal) : Prop where
  l0 : LaneInv D 0 (2 * i) t st.l0
  l1 : LaneInv D 0 (2 * i + 1) t st.l1
  l2 : LaneInv D 1 (2 * i) t st.l2
  l3 : LaneInv D 1 (2 * i + 1) t st.l3
  k : Res st.k fun h e c => A h e c + kPart D h (2 * i) t e c + kPart D h (2 * i + 1) t e c
  v : Res st.v fun h e c => B h e c + vPart D h (2 * i) t e c + vPart D h (2 * i + 1) t e c

theorem res_congr {a : Vec Ideal S2x64x16384 .f32} {A B : Fin 2 → Fin 64 → ℕ → ℝ} (h : Res a A) (hAB : ∀ h e c, A h e c = B h e c) : Res a B := by
  intro h' e c; rw [h h' e c, hAB]

variable {D} in
theorem round_inv {i t : ℕ} {A B : Fin 2 → Fin 64 → ℕ → ℝ} {st : St Ideal} (hI : Inv D i t A B st) {X : Ins Ideal} (hX : InsOf D (512 * i) X)
    {M0 M1 : Mask Ideal} (hM0 : MaskAt (2 * i) t M0) (hM1 : MaskAt (2 * i + 1) t M1) {o0 o1 o2 o3 : Fin 3 → ℕ}
    (e0 : o0 = ![0, 0, 256 * (2 * i - t)]) (e1 : o1 = ![0, 0, 256 * (2 * i + 1 - t)]) (e2 : o2 = ![1, 0, 256 * (2 * i - t)]) (e3 : o3 = ![1, 0, 256 * (2 * i + 1 - t)])
    (h0 : Inb o0) (h1 : Inb o1) (h2 : Inb o2) (h3 : Inb o3) :
    Inv D i (t + 1) A B (round M0 M1 (k0_pay20 (F := Ideal)) (k0_pay21 (F := Ideal)) X o0 o1 o2 o3 h0 h1 h2 h3 st) := by
  have r0 : 512 * i + 0 = 256 * (2 * i) := by omega
  have r1 : 512 * i + 256 = 256 * (2 * i + 1) := by omega
  have t0 : (tl D 0 (256 * (2 * i)) (256 * (2 * i - t))).Of (tiles00 X o0 h0) := r0 ▸ tiles_of hX 0 0 _ (by omega) e0 h0 rfl _ _ rfl _
  have t1 : (tl D 0 (256 * (2 * i + 1)) (256 * (2 * i + 1 - t))).Of (tiles01 X o1 h1) := r1 ▸ tiles_of hX 0 256 _ (by omega) e1 h1 rfl _ _ rfl _
  have t2 : (tl D 1 (256 * (2 * i)) (256 * (2 * i - t))).Of (tiles10 X o2 h2) := r0 ▸ tiles_of hX 1 0 _ (by omega) e2 h2 rfl _ _ rfl _
  have t3 : (tl D 1 (256 * (2 * i + 1)) (256 * (2 * i + 1 - t))).Of (tiles11 X o3 h3) := r1 ▸ tiles_of hX 1 256 _ (by omega) e3 h3 rfl _ _ rfl _
  obtain ⟨a0, ⟨z0, mz0, az0⟩, ⟨w0, mw0, aw0⟩⟩ := lane D 0 _ t hM0 t0 hI.l0
  obtain ⟨a1, ⟨z1, mz1, az1⟩, ⟨w1, mw1, aw1⟩⟩ := lane D 0 _ t hM1 t1 hI.l1
  obtain ⟨a2, ⟨z2, mz2, az2⟩, ⟨w2, mw2, aw2⟩⟩ := lane D 1 _ t hM0 t2 hI.l2
  obtain ⟨a3, ⟨z3, mz3, az3⟩, ⟨w3, mw3, aw3⟩⟩ := lane D 1 _ t hM1 t3 hI.l3
  refine ⟨a0, a1, a2, a3, ?_, ?_⟩
  · have q0 := upd_res hI.k 0 (256 * (2 * i - t)) e0 h0 t0.qt (F := fun y c => z0 (256 * (2 * i) + y.val) c) mz0
    have q1 := upd_res q0 0 (256 * (2 * i + 1 - t)) e1 h1 t1.qt (F := fun y c => z1 (256 * (2 * i + 1) + y.val) c) mz1
    have q2 := upd_res q1 1 (256 * (2 * i - t)) e2 h2 t2.qt (F := fun y c => z2 (256 * (2 * i) + y.val) c) mz2
    have q3 := upd_res q2 1 (256 * (2 * i + 1 - t)) e3 h3 t3.qt (F := fun y c => z3 (256 * (2 * i + 1) + y.val) c) mz3
    unfold AttnLane.round
    dsimp only
    refine res_congr q3 fun h e c => ?_
    beta_reduce
    unfold kPart
    fin_cases h
    · have p0 := az0 (fun r => D.q 0 r e) c
      have p1 := az1 (fun r => D.q 0 r e) c
      simp only [Fin.zero_eta, Fin.isValue, ↓reduceIte, zero_ne_one, add_zero]
      rw [← p0, ← p1]
      simp only [tl]
      ring
    · have p0 := az2 (fun r => D.q 1 r e) c
      have p1 := az3 (fun r => D.q 1 r e) c
      simp only [Fin.mk_one, Fin.isValue, ↓reduceIte, one_ne_zero, add_zero]
      rw [← p0, ← p1]
      simp only [tl]
      ring
  · have q0 := upd_res hI.v 0 (256 * (2 * i - t)) e0 h0 t0.dt (F := fun y c => w0 (256 * (2 * i) + y.val) c) mw0
    have q1 := upd_res q0 0 (256 * (2 * i + 1 - t)) e1 h1 t1.dt (F := fun y c => w1 (256 * (2 * i + 1) + y.val) c) mw1
    have q2 := upd_res q1 1 (256 * (2 * i - t)) e2 h2 t2.dt (F := fun y c => w2 (256 * (2 * i) + y.val) c) mw2
    have q3 := upd_res q2 1 (256 * (2 * i + 1 - t)) e3 h3 t3.dt (F := fun y c => w3 (256 * (2 * i + 1) + y.val) c) mw3
    unfold AttnLane.round
    dsimp only
    refine res_congr q3 fun h e c => ?_
    beta_reduce
    unfold vPart
    fin_cases h
    · have p0 := aw0 (fun r => D.d 0 r e) c
      have p1 := aw1 (fun r => D.d 0 r e) c
      simp only [Fin.zero_eta, Fin.isValue, ↓reduceIte, zero_ne_one, add_zero]
      rw [← p0, ← p1]
      simp only [tl]
      ring
    · have p0 := aw2 (fun r => D.d 1 r e) c
      have p1 := aw3 (fun r => D.d 1 r e) c
      simp only [Fin.mk_one, Fin.isValue, ↓reduceIte, one_ne_zero, add_zero]
      rw [← p0, ← p1]
      simp only [tl]
      ring

theorem kPart_zero (h : Fin 2) (R : ℕ) (e : Fin 64) (c : ℕ) : kPart D h R 0 e c = 0 := by
  unfold kPart part
  by_cases hc : 256 * (R + 1 - 0) ≤ c
  · rw [if_pos hc]
    refine sum_eq_zero fun y _ => ?_
    beta_reduce
    rw [DZ_of_le _ _ _ _ (by have := y.isLt; omega), mul_zero]
  · rw [if_neg hc]

theorem vPart_zero (h : Fin 2) (R : ℕ) (e : Fin 64) (c : ℕ) : vPart D h R 0 e c = 0 := by
  unfold vPart part
  by_cases hc : 256 * (R + 1 - 0) ≤ c
  · rw [if_pos hc]
    refine sum_eq_zero fun y _ => ?_
    beta_reduce
    rw [W_of_le _ _ _ _ (by have := y.isLt; omega), mul_zero]
  · rw [if_neg hc]

theorem inv_start (i : ℕ) {A B : Fin 2 → Fin 64 → ℕ → ℝ} {x10 x11 : Vec Ideal S2x64x16384 .f32} (hA : Res x10 A) (hB : Res x11 B) :
    Inv D i 0 A B ⟨carry0, carry0, carry0, carry0, x10, x11⟩ :=
  ⟨lane_zero D 0 _, lane_zero D 0 _, lane_zero D 1 _, lane_zero D 1 _,
    res_congr hA fun h e c => by rw [kPart_zero, kPart_zero, add_zero, add_zero], res_congr hB fun h e c => by rw [vPart_zero, vPart_zero, add_zero, add_zero]⟩

section Loop

variable {D} {i : grid0.Coords} {A B : Fin 2 → Fin 64 → ℕ → ℝ} {X : Ins Ideal} (hX : InsOf D (512 * (i 1).val) X)

include hX in
theorem first_inv {x10 x11 : Vec Ideal S2x64x16384 .f32} (hA : Res x10 A) (hB : Res x11 B) : Inv D (i 1).val 1 A B (first X i x10 x11) :=
  round_inv (inv_start D _ hA hB) hX (.inl ⟨rfl, diag_of⟩) (.inl ⟨rfl, diag_of⟩) (off1 i 0) (off1 i 1) (off2 i 0) (off2 i 1) _ _ _ _

include hX in
theorem next_inv {j : ℕ} (h1 : 1 ≤ j) (hj : j ≤ 2 * (i 1).val + 1) (hc : k0_chk1 i (BitVec.ofNat 32 j)) {st : St Ideal} (hI : Inv D (i 1).val j A B st) :
    Inv D (i 1).val (j + 1) A B (next X i (BitVec.ofNat 32 j) hc st) := by
  have hi : (i 1).val < 32 := (i 1).isLt
  have hj64 : j < 64 := by omega
  refine round_inv hI hX ?_ (.inr (.inl ⟨h1, hj, none_of⟩)) (off3 i j hj64 0) (off3 i j hj64 1) (off4 i j hj64 0) (off4 i j hj64 1) _ _ _ _
  by_cases hl : j ≤ 2 * (i 1).val
  · exact .inr (.inl ⟨h1, hl, live_of i j hj64 hl⟩)
  · exact .inr (.inr ⟨by omega, idle_of i j hj64 hl⟩)

include hX in
theorem go_inv : ∀ (k j : ℕ) (st : St Ideal), 1 ≤ j → j + k = 2 * (i 1).val + 2 → Inv D (i 1).val j A B st → Inv D (i 1).val (2 * (i 1).val + 2) A B (go X i k j st)
  | 0, j, st, _, hj, hI => by
      obtain rfl : j = 2 * (i 1).val + 2 := by omega
      exact hI
  | k + 1, j, st, h1, hj, hI => by
      have hi : (i 1).val < 32 := (i 1).isLt
      have ha : alive i (BitVec.ofNat 32 j) st := by
        obtain ⟨l, hl, _⟩ := hI.l0
        exact (alive_iff i j (by omega) st hl.c).2 (by omega)
      have hc : k0_chk1 i (BitVec.ofNat 32 j) := AttnChk.chk_all i j (by omega)
      rw [go_alive X i k j st ha hc]
      exact go_inv k (j + 1) _ (by omega) (by omega) (next_inv hX h1 (by omega) hc hI)

include hX in
/-- The state a grid point ends at. -/
theorem res_inv {x10 x11 : Vec Ideal S2x64x16384 .f32} (hA : Res (start10 i x10) A) (hB : Res (start11 i x11) B) :
    Inv D (i 1).val (2 * (i 1).val + 2) A B (res X i x10 x11) :=
  go_inv hX _ 1 _ le_rfl (by omega) (first_inv hX hA hB)

end Loop

end Cert.AttnState
end
-- ==== Proof.AttnFrame.lean ====
module

public import proofs.«01_k».proof.Proof.AttnRun

@[expose] public section

set_option maxRecDepth 16384

noncomputable section

namespace Cert.AttnFrame

open Cert.AttnIdeal Cert.AttnIdeal.Gen Cert.AttnLane Cert.AttnTrip Cert.AttnBody Cert.AttnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the call -/

/-- The host operations before the call, block by block. -/
abbrev ops : List (List (HloOp τ sig (Elt F))) :=
  [hostOps0, hostOps0_1, hostOps0_2, hostOps0_3, hostOps0_4, hostOps0_5, hostOps0_6, hostOps0_7, hostOps0_8, hostOps0_9]

/-- What the call finds in a buffer. -/
abbrev V (c : Dev nD) (b : Ref sig .tc) : Buf (Elt F) ((c : Thread nD τ).loc b) := StableHlo.after ops.flatten (fun b => m (c, b)) b

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main ops
    ⟨hostOps0_sub, hostOps0_1_sub, hostOps0_2_sub, hostOps0_3_sub, hostOps0_4_sub, hostOps0_5_sub, hostOps0_6_sub, hostOps0_7_sub, hostOps0_8_sub, hostOps0_9_sub⟩ (by simp only [ops, List.Forall]; repeat' constructor) main_chain

/-- The host lines write none of the arguments. -/
theorem V_arg (c : Dev nD) (b : Ref sig .tc) (h : b ∈ [main_arg0, main_arg1, main_arg2, main_arg3]) : V m c b = m ((c : Thread nD τ).loc b) := by
  simp only [List.mem_cons, List.not_mem_nil, or_false] at h
  rcases h with rfl | rfl | rfl | rfl <;> exact StableHlo.after_of_forall_not_mem (b := Proc.devRef .tc _) _ _ (List.forall_iff_forall_mem.mp (by
    simp only [ops, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks and what the body leaves -/

/-- The block of an input window at a grid point. -/
def blk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- All blocks of a grid point. -/
def ins (c : Dev nD) (t : Fin (cfg0 (F := F)).N) : Ins F :=
  ⟨blk m c 0 t, blk m c 1 t, blk m c 2 t, blk m c 3 t, blk m c 4 t, blk m c 5 t, blk m c 6 t⟩

/-- The state each grid point ends at. -/
def st (c : Dev nD) : (n : ℕ) → n < (cfg0 (F := F)).N → St F
  | 0, h => res (ins m c ⟨0, h⟩) (grid0.coords ⟨0, h⟩) k0_pay17 k0_pay18
  | n + 1, h => res (ins m c ⟨n + 1, h⟩) (grid0.coords ⟨n + 1, h⟩) (st c n (by omega)).k (st c n (by omega)).v

/-- A grid point that is not the first, from the one before. -/
theorem st_pos (c : Dev nD) (t : Fin (cfg0 (F := F)).N) (h : t.val ≠ 0) :
    st m c t.val t.isLt = res (ins m c t) (grid0.coords t) (st m c (t.val - 1) (Nat.lt_of_le_of_lt (Nat.sub_le _ _) t.isLt)).k
      (st m c (t.val - 1) (Nat.lt_of_le_of_lt (Nat.sub_le _ _) t.isLt)).v := by
  obtain ⟨n, hn⟩ := t
  cases n with
  | zero => exact absurd rfl h
  | succ n => rfl

theorem coord1 (t : Fin grid0.N) : ((grid0.coords t) 1).val = t.val % 32 := by
  have e : ((grid0.coords t) 1).val = t.val / 1 % 32 := Pipeline.Grid.coords_val t 1 (by decide) rfl
  rw [e, Nat.div_one]

theorem coord0 (t : Fin grid0.N) : ((grid0.coords t) 0).val = t.val / 32 % 2 :=
  Pipeline.Grid.coords_val t 0 (by decide) rfl

/-- The first block of a head pair, whatever the resident gradients held. -/
theorem st_fresh (c : Dev nD) (t : Fin (cfg0 (F := F)).N) (h : t.val % 32 = 0) (x10 x11 : Vec F S2x64x16384 .f32) :
    st m c t.val t.isLt = res (ins m c t) (grid0.coords t) x10 x11 := by
  have h1 : ((grid0.coords t) 1).val = 0 := (coord1 t).trans h
  by_cases h0 : t.val = 0
  · obtain ⟨n, hn⟩ := t
    subst h0
    exact res_fresh _ _ h1 _ _ _ _
  · rw [st_pos m c t h0]
    exact res_fresh _ _ h1 _ _ _ _

def dats (_ : Fin 1) (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => outq (st m c t.val t.isLt)
    | ⟨8, _⟩ => (st m c t.val t.isLt).k
    | ⟨9, _⟩ => (st m c t.val t.isLt).v
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_7 (c : Dev nD) (t : Fin (cfg0 (F := F)).N) : (dats m 0 c).after 7 t = outq (st m c t.val t.isLt) := by dsimp only [dats]; rfl
theorem after_8 (c : Dev nD) (t : Fin (cfg0 (F := F)).N) : (dats m 0 c).after 8 t = (st m c t.val t.isLt).k := by dsimp only [dats]; rfl
theorem after_9 (c : Dev nD) (t : Fin (cfg0 (F := F)).N) : (dats m 0 c).after 9 t = (st m c t.val t.isLt).v := by dsimp only [dats]; rfl

/-- An input window's buffer holds its block, after the body and before it. -/
theorem after_ins (c : Dev nD) (t : Fin (cfg0 (F := F)).N) :
    (dats m 0 c).after 0 t = blk m c 0 t ∧ (dats m 0 c).after 1 t = blk m c 1 t ∧ (dats m 0 c).after 2 t = blk m c 2 t ∧ (dats m 0 c).after 3 t = blk m c 3 t
      ∧ (dats m 0 c).after 4 t = blk m c 4 t ∧ (dats m 0 c).after 5 t = blk m c 5 t ∧ (dats m 0 c).after 6 t = blk m c 6 t := by
  refine ⟨?_, ?_, ?_, ?_, ?_, ?_, ?_⟩ <;> (dsimp only [dats]; try rfl)
theorem before_ins (c : Dev nD) (t : Fin (cfg0 (F := F)).N) :
    (∀ d, (dats m 0 c).before 0 t d = blk m c 0 t) ∧ (∀ d, (dats m 0 c).before 1 t d = blk m c 1 t) ∧ (∀ d, (dats m 0 c).before 2 t d = blk m c 2 t)
      ∧ (∀ d, (dats m 0 c).before 3 t d = blk m c 3 t) ∧ (∀ d, (dats m 0 c).before 4 t d = blk m c 4 t) ∧ (∀ d, (dats m 0 c).before 5 t d = blk m c 5 t)
      ∧ (∀ d, (dats m 0 c).before 6 t d = blk m c 6 t) := by
  refine ⟨?_, ?_, ?_, ?_, ?_, ?_, ?_⟩ <;> intro d
  all_goals refine ((dats m 0 c).before_in_eq_fetched _ rfl (fun _ => rfl) (fun _ _ _ => rfl) (fun t => ?_) t d).trans ?_
  all_goals first
    | (unfold Dat.fetched Dat.blockOf blk; rw [A_eq]; try rfl; done)
    | (simp only [after_ins m c t]; unfold Dat.blockOf blk; rw [A_eq]; try rfl)

/-- The resident gradients stay where they are until the head pair is through. -/
theorem before_8 (c : Dev nD) (t : Fin (cfg0 (F := F)).N) (h0 : ¬ t.val % 32 = 0) (d) :
    (dats m 0 c).before 8 t d = (st m c (t.val - 1) (Nat.lt_of_le_of_lt (Nat.sub_le _ _) t.isLt)).k := by
  have hN : t.val < 64 := lt_of_lt_of_eq t.isLt (show (cfg0 (F := F)).N = 64 from N_0)
  rw [Dat.before_out_kept _ 8 rfl t (by omega) (Bool.eq_false_iff.mpr fun h => by have := (flush0_8 _).mp h; dsimp only at this; omega)
    (fun _ => rfl) (fun _ _ => rfl)]
  dsimp only [dats]; rfl
theorem before_9 (c : Dev nD) (t : Fin (cfg0 (F := F)).N) (h0 : ¬ t.val % 32 = 0) (d) :
    (dats m 0 c).before 9 t d = (st m c (t.val - 1) (Nat.lt_of_le_of_lt (Nat.sub_le _ _) t.isLt)).v := by
  have hN : t.val < 64 := lt_of_lt_of_eq t.isLt (show (cfg0 (F := F)).N = 64 from N_0)
  rw [Dat.before_out_kept _ 9 rfl t (by omega) (Bool.eq_false_iff.mpr fun h => by have := (flush0_9 _).mp h; dsimp only at this; omega)
    (fun _ => rfl) (fun _ _ => rfl)]
  dsimp only [dats]; rfl

/-- The state a grid point ends at, from what it finds in the resident gradients. -/
theorem st_before (c : Dev nD) (t : Fin (cfg0 (F := F)).N) (d8 d9) :
    st m c t.val t.isLt = res (ins m c t) (grid0.coords t) ((dats m 0 c).before 8 t d8) ((dats m 0 c).before 9 t d9) := by
  by_cases h : t.val % 32 = 0
  · exact st_fresh m c t h _ _
  · rw [before_8 m c t h, before_9 m c t h]
    exact st_pos m c t (by omega)

/-! ## The body at a grid point -/

def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d))
    ∗ (∃ d, owns (c : Thread nD τ) (win0_6.stage ((cfg0 (F := F)).slots t 6)) fullShare ((dats m 0 c).before 6 t d))
    ∗ (∃ d, owns (c : Thread nD τ) (win0_7.stage ((cfg0 (F := F)).slots t 7)) fullShare ((dats m 0 c).before 7 t d))
    ∗ (∃ d, owns (c : Thread nD τ) (win0_8.stage ((cfg0 (F := F)).slots t 8)) fullShare ((dats m 0 c).before 8 t d))
    ∗ (∃ d, owns (c : Thread nD τ) (win0_9.stage ((cfg0 (F := F)).slots t 9)) fullShare ((dats m 0 c).before 9 t d)))

def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t)
    ∗ owns (c : Thread nD τ) (win0_6.stage ((cfg0 (F := F)).slots t 6)) fullShare ((dats m 0 c).after 6 t)
    ∗ owns (c : Thread nD τ) (win0_7.stage ((cfg0 (F := F)).slots t 7)) fullShare ((dats m 0 c).after 7 t)
    ∗ owns (c : Thread nD τ) (win0_8.stage ((cfg0 (F := F)).slots t 8)) fullShare ((dats m 0 c).after 8 t)
    ∗ owns (c : Thread nD τ) (win0_9.stage ((cfg0 (F := F)).slots t 9)) fullShare ((dats m 0 c).after 9 t))

set_option maxHeartbeats 1600000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  obtain ⟨a0, a1, a2, a3, a4, a5, a6⟩ := after_ins m c t
  simp only [before_ins m c t]
  rw [show (dats m 0 c).Φ t.succ = (dats m 0 c).Φ t.castSucc from rfl,
    show (dats m 0 c).owesAt () t.succ = (dats m 0 c).owesAt () t.castSucc from rfl,
    a0, a1, a2, a3, a4, a5, a6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_owns c (grid0.coords t) _ _ _ _ _ _ _ _ _ _ _ _ _ _ _ _ _ _ _ _ (ins m c t) ((dats m 0 c).before 7 t d7) ((dats m 0 c).before 8 t d8) ((dats m 0 c).before 9 t d9) _ (st_before m c t d8 d9))
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro H
  isplitl [HΦ]; · iexact HΦ
  isplitl [Ho]; · iexact Ho
  iexact H

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The kernel's run: it ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (show ∀ w : Fin 10, (spec0 w).arr.view.ref ≠ main_arg0 by decide))).trans (V_arg m c _ (by decide)),
        ((h.1 c).2 main_arg1 (Pipeline.mem_restRefs_of main_arg1 (by decide) (show ∀ w : Fin 10, (spec0 w).arr.view.ref ≠ main_arg1 by decide))).trans (V_arg m c _ (by decide)),
        ((h.1 c).2 main_arg2 (Pipeline.mem_restRefs_of main_arg2 (by decide) (show ∀ w : Fin 10, (spec0 w).arr.view.ref ≠ main_arg2 by decide))).trans (V_arg m c _ (by decide)),
        ((h.1 c).2 main_arg3 (Pipeline.mem_restRefs_of main_arg3 (by decide) (show ∀ w : Fin 10, (spec0 w).arr.view.ref ≠ main_arg3 by decide))).trans (V_arg m c _ (by decide))⟩, h.2⟩) (run_main_quiescent m ρ)

end Cert.AttnFrame
end
-- ==== Proof.AttnHost.lean ====
module

public import proofs.«01_k».proof.Proof.AttnTerm
public import proofs.«01_k».proof.Proof.AttnState
public import proofs.«01_k».proof.Proof.AttnFrame

/-! What the host lines before the call leave in its seven arguments. -/

@[expose] public section

set_option maxRecDepth 100000

noncomputable section

open Idealize.ShloMosaic Idealize.ShloMosaic.TcCoe Idealize.SL Idealize.SL.Sem
open Finset

namespace Cert.AttnHost

open Cert.AttnIdeal Cert.AttnIdeal.Gen
open Cert.AttnReal Cert.AttnTerm Cert.RealCalc

variable (m : (ℓ : Loc nD τ sig) → Buf (Elt Ideal) ℓ) (c : Dev nD)

/-- The four arguments. -/
abbrev a0 : A3 := m ((c.tc : Thread nD τ).loc main_arg0)
abbrev a1 : A3 := m ((c.tc : Thread nD τ).loc main_arg1)
abbrev a2 : A3 := m ((c.tc : Thread nD τ).loc main_arg2)
abbrev a3 : A3 := m ((c.tc : Thread nD τ).loc main_arg3)

def qs : A3 := mulf (a0 m c) (broadcastInDim S16384x4x64 ![] bcast_S_S16384x4x64 (constant S_ .f32 0x3E000000#32))
def hq : FVec Ideal S4x16384x64 .bf16 := truncf .bf16 (transpose S4x16384x64 [1, 0, 2] (qs m c) transposes_S16384x4x64_S4x16384x64_1_0_2) bitsLt_bf16_f32
def hqt : FVec Ideal S4x64x16384 .bf16 := truncf .bf16 (transpose S4x64x16384 [1, 2, 0] (qs m c) transposes_S16384x4x64_S4x64x16384_1_2_0) bitsLt_bf16_f32
def hk : FVec Ideal S4x64x16384 .bf16 := truncf .bf16 (transpose S4x64x16384 [1, 2, 0] (a1 m c) transposes_S16384x4x64_S4x64x16384_1_2_0) bitsLt_bf16_f32
def hv : FVec Ideal S4x64x16384 .bf16 := truncf .bf16 (transpose S4x64x16384 [1, 2, 0] (a2 m c) transposes_S16384x4x64_S4x64x16384_1_2_0) bitsLt_bf16_f32
def hd : FVec Ideal S4x16384x64 .bf16 := truncf .bf16 (transpose S4x16384x64 [1, 0, 2] (a3 m c) transposes_S16384x4x64_S4x16384x64_1_0_2) bitsLt_bf16_f32
def hdt : FVec Ideal S4x64x16384 .bf16 := truncf .bf16 (transpose S4x64x16384 [1, 2, 0] (a3 m c) transposes_S16384x4x64_S4x64x16384_1_2_0) bitsLt_bf16_f32
def hs : FVec Ideal S4x16384x1 .f32 :=
  broadcastInDim S4x16384x1 ![0, 1] bcast_S4x16384_S4x16384x1_0_1 (transpose S4x16384 [1, 0] (Host.reduceAdd (mulf (a3 m c)
    (transpose S16384x4x64 [2, 0, 1] (Host.dotGeneral dot_S16384x4x64_S4x16384x16384_S4x64x16384_0_2_2_1_1_0 none (a2 m c) (weights (score (a0 m c) (a1 m c)))) transposes_S4x64x16384_S16384x4x64_2_0_1))
    (constant S_ .f32 0x00000000#32) reducesTo_S16384x4x64_S16384x4_d2 h_S_) transposes_S16384x4_S4x16384_1_0)

theorem V_all : AttnFrame.V m c main_v27 = hq m c ∧ AttnFrame.V m c main_v29 = hqt m c ∧ AttnFrame.V m c main_v31 = hk m c ∧ AttnFrame.V m c main_v33 = hv m c
    ∧ AttnFrame.V m c main_v35 = hd m c ∧ AttnFrame.V m c main_v37 = hdt m c ∧ AttnFrame.V m c main_v23 = hs m c := by
  simp only [AttnFrame.V, AttnFrame.ops, hostOps0, hostOps0_1, hostOps0_2, hostOps0_3, hostOps0_4, hostOps0_5, hostOps0_6, hostOps0_7, hostOps0_8, hostOps0_9,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  refine ⟨?_, ?_, ?_, ?_, ?_, ?_, ?_⟩ <;> after_results_simp <;> rfl

end Cert.AttnHost
-- ==== Proof.AttnPlace.lean ====
module

public import proofs.«01_k».proof.Proof.AttnHost
public import Idealize.ShloMosaic.Lib.Pipeline.ValueKit

/-! What the windows of a grid point hold, over the real numbers. -/

@[expose] public section

set_option maxRecDepth 100000

noncomputable section

open Idealize.ShloMosaic Idealize.ShloMosaic.TcCoe Idealize.SL Idealize.SL.Sem
open Finset

namespace Cert.AttnPlace

open Cert.AttnIdeal Cert.AttnIdeal.Gen
open Cert.AttnReal Cert.AttnTerm Cert.AttnHost Cert.AttnState Cert.RealCalc

variable (m : (ℓ : Loc nD τ sig) → Buf (Elt Ideal) ℓ) (c : Dev nD) {D : Dat (Fin 4)}

abbrev C0 := cfg0 (F := Ideal)

/-- The head that a head pair's half is. -/
def head (g : ℕ) (hg : g < 2) (h : Fin 2) : Fin 4 := ⟨2 * g + h.val, by have := h.isLt; omega⟩

/-- The data of one head pair. -/
def pair (D : Dat (Fin 4)) (g : ℕ) (hg : g < 2) : Dat (Fin 2) :=
  ⟨fun h => D.q (head g hg h), fun h => D.d (head g hg h), fun h => D.k (head g hg h), fun h => D.v (head g hg h)⟩

theorem pair_G (g : ℕ) (hg : g < 2) (h : Fin 2) (r j : ℕ) : G (pair D g hg) h r j = G D (head g hg h) r j := rfl
theorem pair_W (g : ℕ) (hg : g < 2) (h : Fin 2) (r j : ℕ) : W (pair D g hg) h r j = W D (head g hg h) r j := rfl
theorem pair_DZ (g : ℕ) (hg : g < 2) (h : Fin 2) (r j : ℕ) : DZ (pair D g hg) h r j = DZ D (head g hg h) r j := rfl

/-- A sum over all columns of what vanishes from column `r` on. -/
theorem fin_range {N : ℕ} (f : ℕ → ℝ) {r : ℕ} (hr : r ≤ N) (hf : ∀ j, r ≤ j → f j = 0) : ∑ j : Fin N, f j.val = ∑ j ∈ range r, f j := by
  rw [Fin.sum_univ_eq_sum_range]
  refine (sum_subset (range_subset_range.2 hr) fun j _ hj => hf j ?_).symm
  rw [mem_range] at hj; omega

section Host

variable (hD : Of D (a0 m c) (a1 m c) (a2 m c) (a3 m c)) (h : Fin 4) (r : Fin 16384) (e : Fin 64)
include hD

theorem qs_at : qs m c (ix3 r h e) = (((scaled D).q h r.val e : ℝ) : EReal) := by
  pointwise [qs]
  rw [hD.q, ofBits_eighth, ← EReal.coe_mul]
  rfl

theorem hq_at : hq m c (ix3 h r e) = (((scaled D).q h r.val e : ℝ) : EReal) := by
  have := qs_at m c hD h r e
  unfold hq
  generalize qs m c = x at *
  pointwise
  exact this

theorem hqt_at : hqt m c (ix3 h e r) = (((scaled D).q h r.val e : ℝ) : EReal) := by
  have := qs_at m c hD h r e
  unfold hqt
  generalize qs m c = x at *
  pointwise
  exact this

theorem hk_at : hk m c (ix3 h e r) = (((scaled D).k h r.val e : ℝ) : EReal) := by
  pointwise [hk]
  exact hD.k r h e

theorem hv_at : hv m c (ix3 h e r) = (((scaled D).v h r.val e : ℝ) : EReal) := by
  pointwise [hv]
  exact hD.v r h e

theorem hd_at : hd m c (ix3 h r e) = (((scaled D).d h r.val e : ℝ) : EReal) := by
  pointwise [hd]
  exact hD.d r h e

theorem hdt_at : hdt m c (ix3 h e r) = (((scaled D).d h r.val e : ℝ) : EReal) := by
  pointwise [hdt]
  exact hD.d r h e

/-- The row sum of the cotangent times the output is that of the weighted gradients. -/
theorem hs_at : hs m c (ix3 h r 0) = ((∑ j ∈ range r.val, G (scaled D) h r.val j : ℝ) : EReal) := by
  have hw := fun h r c => weights_entry hD h r c
  unfold hs
  generalize weights _ = w at *
  pointwise
  simp only [hw, hD.v, hD.d, ← EReal.coe_mul, coe_sum]
  refine congrArg _ ?_
  rw [← fin_range (N := 16384) (fun j => G (scaled D) h r.val j) r.isLt.le fun j hj => G_of_le _ _ _ _ hj]
  simp only [mul_sum]
  rw [sum_comm]
  refine sum_congr rfl fun j _ => ?_
  rw [G, P, mul_sum]
  exact sum_congr rfl fun e _ => by show _ = W (scaled D) h r.val j.val * (D.d h r.val e * D.v h j.val e); ring

end Host

/-! ## Blocks -/

theorem idx : ∀ t : Fin C0.N, t.val < 64 ∧ win0_0.index t = ![t.val / 32, t.val % 32, 0] ∧ win0_1.index t = ![t.val / 32, 0, t.val % 32] ∧ win0_2.index t = ![t.val / 32, 0, 0]
    ∧ win0_3.index t = ![t.val / 32, 0, 0] ∧ win0_4.index t = ![t.val / 32, t.val % 32, 0] ∧ win0_5.index t = ![t.val / 32, 0, t.val % 32] ∧ win0_6.index t = ![t.val / 32, t.val % 32, 0]
    ∧ win0_7.index t = ![t.val / 32, 0, t.val % 32] ∧ win0_8.index t = ![t.val / 32, 0, 0] ∧ win0_9.index t = ![t.val / 32, 0, 0] :=
  (by decide +kernel : ∀ t : Fin grid0.N, _)

theorem pair_lt (t : Fin C0.N) : t.val / 32 < 2 := by have := (idx t).1; omega

/-- The row of the arrays that a row of a block is. -/
def row (t : Fin C0.N) (r : Fin 512) : Fin 16384 := ⟨512 * (t.val % 32) + r.val, by have := r.isLt; omega⟩

section Blocks

variable (t : Fin C0.N) (h : Fin 2) (r : Fin 512) (e : Fin 64) (j : Fin 16384)

theorem blk0 : (AttnFrame.blk m c 0 t : FVec Ideal S2x512x64 .bf16) (ix3 h r e) = hq m c (ix3 (head _ (pair_lt t) h) (row t r) e) := by
  rw [← (V_all m c).1]
  show (((cfg0 (F := Ideal)).win 0).blk t).view.read (Elt Ideal) (AttnFrame.V m c main_v27) _ = _
  generalize AttnFrame.V m c main_v27 = x
  blk_ext [idx t, head, row]
theorem blk1 : (AttnFrame.blk m c 1 t : FVec Ideal S2x64x512 .bf16) (ix3 h e r) = hqt m c (ix3 (head _ (pair_lt t) h) e (row t r)) := by
  rw [← (V_all m c).2.1]
  show (((cfg0 (F := Ideal)).win 1).blk t).view.read (Elt Ideal) (AttnFrame.V m c main_v29) _ = _
  generalize AttnFrame.V m c main_v29 = x
  blk_ext [idx t, head, row]
theorem blk2 : (AttnFrame.blk m c 2 t : FVec Ideal S2x64x16384 .bf16) (ix3 h e j) = hk m c (ix3 (head _ (pair_lt t) h) e j) := by
  rw [← (V_all m c).2.2.1]
  show (((cfg0 (F := Ideal)).win 2).blk t).view.read (Elt Ideal) (AttnFrame.V m c main_v31) _ = _
  generalize AttnFrame.V m c main_v31 = x
  blk_ext [idx t, head, row]
theorem blk3 : (AttnFrame.blk m c 3 t : FVec Ideal S2x64x16384 .bf16) (ix3 h e j) = hv m c (ix3 (head _ (pair_lt t) h) e j) := by
  rw [← (V_all m c).2.2.2.1]
  show (((cfg0 (F := Ideal)).win 3).blk t).view.read (Elt Ideal) (AttnFrame.V m c main_v33) _ = _
  generalize AttnFrame.V m c main_v33 = x
  blk_ext [idx t, head, row]
theorem blk4 : (AttnFrame.blk m c 4 t : FVec Ideal S2x512x64 .bf16) (ix3 h r e) = hd m c (ix3 (head _ (pair_lt t) h) (row t r) e) := by
  rw [← (V_all m c).2.2.2.2.1]
  show (((cfg0 (F := Ideal)).win 4).blk t).view.read (Elt Ideal) (AttnFrame.V m c main_v35) _ = _
  generalize AttnFrame.V m c main_v35 = x
  blk_ext [idx t, head, row]
theorem blk5 : (AttnFrame.blk m c 5 t : FVec Ideal S2x64x512 .bf16) (ix3 h e r) = hdt m c (ix3 (head _ (pair_lt t) h) e (row t r)) := by
  rw [← (V_all m c).2.2.2.2.2.1]
  show (((cfg0 (F := Ideal)).win 5).blk t).view.read (Elt Ideal) (AttnFrame.V m c main_v37) _ = _
  generalize AttnFrame.V m c main_v37 = x
  blk_ext [idx t, head, row]
theorem blk6 : (AttnFrame.blk m c 6 t : FVec Ideal S2x512x1 .f32) (ix3 h r 0) = hs m c (ix3 (head _ (pair_lt t) h) (row t r) 0) := by
  rw [← (V_all m c).2.2.2.2.2.2]
  show (((cfg0 (F := Ideal)).win 6).blk t).view.read (Elt Ideal) (AttnFrame.V m c main_v23) _ = _
  generalize AttnFrame.V m c main_v23 = x
  blk_ext [idx t, head, row]

end Blocks

section Ins

variable (hD : Of D (a0 m c) (a1 m c) (a2 m c) (a3 m c)) (t : Fin C0.N) (h : Fin 2) (r : Fin 512) (e : Fin 64) (j : Fin 16384)
include hD

/-- The head pair of a grid point. -/
abbrev dat (D : Dat (Fin 4)) (t : Fin C0.N) : Dat (Fin 2) := pair (scaled D) (t.val / 32) (pair_lt t)

theorem in_q : (AttnFrame.ins m c t).q (ix3 h r e) = (((dat D t).q h (512 * (t.val % 32) + r.val) e : ℝ) : EReal) := by
  unfold AttnFrame.ins
  dsimp only
  rw [blk0, hq_at m c hD]
  rfl
theorem in_d : (AttnFrame.ins m c t).d (ix3 h r e) = (((dat D t).d h (512 * (t.val % 32) + r.val) e : ℝ) : EReal) := by
  unfold AttnFrame.ins
  dsimp only
  rw [blk4, hd_at m c hD]
  rfl
theorem in_qt : (AttnFrame.ins m c t).qt (ix3 h e r) = (((dat D t).q h (512 * (t.val % 32) + r.val) e : ℝ) : EReal) := by
  unfold AttnFrame.ins
  dsimp only
  rw [blk1, hqt_at m c hD]
  rfl
theorem in_dt : (AttnFrame.ins m c t).dt (ix3 h e r) = (((dat D t).d h (512 * (t.val % 32) + r.val) e : ℝ) : EReal) := by
  unfold AttnFrame.ins
  dsimp only
  rw [blk5, hdt_at m c hD]
  rfl
theorem in_k : (AttnFrame.ins m c t).k (ix3 h e j) = (((dat D t).k h j.val e : ℝ) : EReal) := by
  unfold AttnFrame.ins
  dsimp only
  rw [blk2, hk_at m c hD]
  rfl
theorem in_v : (AttnFrame.ins m c t).v (ix3 h e j) = (((dat D t).v h j.val e : ℝ) : EReal) := by
  unfold AttnFrame.ins
  dsimp only
  rw [blk3, hv_at m c hD]
  rfl
theorem in_s : (AttnFrame.ins m c t).ds (ix3 h r 0) = ((∑ j ∈ range (512 * (t.val % 32) + r.val), G (dat D t) h (512 * (t.val % 32) + r.val) j : ℝ) : EReal) := by
  unfold AttnFrame.ins
  dsimp only
  rw [blk6, hs_at m c hD]
  rfl

/-- What a grid point's windows hold. -/
theorem ins_of : InsOf (dat D t) (512 * ((grid0.coords t) 1).val) (AttnFrame.ins m c t) := by
  rw [AttnFrame.coord1]
  exact ⟨fun h r e => in_q m c hD t h r e, fun h r e => in_d m c hD t h r e, fun h e r => in_qt m c hD t h r e, fun h e r => in_dt m c hD t h r e,
    fun h e j => in_k m c hD t h e j, fun h e j => in_v m c hD t h e j, fun h r => in_s m c hD t h r⟩

end Ins

end Cert.AttnPlace
-- ==== Proof.AttnFinal.lean ====
module

public import proofs.«01_k».proof.Proof.AttnPlace

/-! What each grid point ends at and the three gradients the call leaves, over the real numbers. -/

@[expose] public section

set_option maxRecDepth 100000

noncomputable section

open Idealize.ShloMosaic Idealize.ShloMosaic.TcCoe Idealize.SL Idealize.SL.Sem
open Finset

namespace Cert.AttnFinal

open Cert.AttnIdeal Cert.AttnIdeal.Gen
open Cert.AttnReal Cert.AttnTerm Cert.AttnHost Cert.AttnState Cert.AttnPlace Cert.AttnLane Cert.AttnBody Cert.AttnRun Cert.RealCalc

variable (m : (ℓ : Loc nD τ sig) → Buf (Elt Ideal) ℓ) (c : Dev nD) {D : Dat (Fin 4)}

/-- The key gradient of the first `i` query blocks of a head pair. -/
def kSum (E : Dat (Fin 2)) (i : ℕ) (h : Fin 2) (e : Fin 64) (j : ℕ) : ℝ := ∑ r ∈ range (512 * i), E.q h r e * DZ E h r j
/-- The value gradient. -/
def vSum (E : Dat (Fin 2)) (i : ℕ) (h : Fin 2) (e : Fin 64) (j : ℕ) : ℝ := ∑ r ∈ range (512 * i), E.d h r e * W E h r j

theorem two_tiles (f : ℕ → ℕ → ℝ) (i j : ℕ) :
    (∑ r ∈ range (512 * i), f r j) + part f (256 * (2 * i)) (256 * (2 * i + 1 - (2 * i + 2))) j + part f (256 * (2 * i + 1)) (256 * (2 * i + 1 + 1 - (2 * i + 2))) j
      = ∑ r ∈ range (512 * (i + 1)), f r j := by
  unfold part
  rw [if_pos (by omega), if_pos (by omega), show 512 * (i + 1) = 512 * i + 256 + 256 by ring, sum_range_add, sum_range_add,
    Fin.sum_univ_eq_sum_range (fun y => f (256 * (2 * i) + y) j), Fin.sum_univ_eq_sum_range (fun y => f (256 * (2 * i + 1) + y) j)]
  congr 1
  · congr 1
    exact sum_congr rfl fun y _ => by congr 1; ring
  · exact sum_congr rfl fun y _ => by congr 1; ring

theorem kSum_next (E : Dat (Fin 2)) (i : ℕ) (h : Fin 2) (e : Fin 64) (j : ℕ) :
    kSum E i h e j + kPart E h (2 * i) (2 * i + 2) e j + kPart E h (2 * i + 1) (2 * i + 2) e j = kSum E (i + 1) h e j :=
  two_tiles (fun r c => E.q h r e * DZ E h r c) i j
theorem vSum_next (E : Dat (Fin 2)) (i : ℕ) (h : Fin 2) (e : Fin 64) (j : ℕ) :
    vSum E i h e j + vPart E h (2 * i) (2 * i + 2) e j + vPart E h (2 * i + 1) (2 * i + 2) e j = vSum E (i + 1) h e j :=
  two_tiles (fun r c => E.d h r e * W E h r c) i j

theorem res17 : Res (k0_pay17 (F := Ideal)) fun _ _ _ => 0 := by
  intro h e j
  pointwise [k0_pay17]
  exact EReal.coe_zero.symm
theorem res18 : Res (k0_pay18 (F := Ideal)) fun _ _ _ => 0 := by
  intro h e j
  pointwise [k0_pay18]
  exact EReal.coe_zero.symm

/-- A lane's query gradient. -/
theorem lane_at {E : Dat (Fin 2)} {h : Fin 2} {R t : ℕ} {L : Carry Ideal} (hL : LaneInv E h R t L) (ht : R + 1 ≤ t) (e : Fin 64) (y : Fin 256) :
    L.s (ix2 e y) = ((∑ j ∈ range (256 * R + y.val), E.k h j e * DZ E h (256 * R + y.val) j : ℝ) : EReal) := by
  obtain ⟨l, hl, hg, _⟩ := hL
  rw [hl.s, hg.s, show 256 * (R + 1 - t) = 0 by omega, ← range_eq_Ico]

section Point

variable (hD : Of D (a0 m c) (a1 m c) (a2 m c) (a3 m c))
include hD

/-- What a grid point ends at, given what the one before it ended at. -/
theorem point_inv (t : Fin C0.N)
    (hp : ¬ t.val % 32 = 0 → Res (AttnFrame.st m c (t.val - 1) (Nat.lt_of_le_of_lt (Nat.sub_le _ _) t.isLt)).k (kSum (dat D t) (t.val % 32))
      ∧ Res (AttnFrame.st m c (t.val - 1) (Nat.lt_of_le_of_lt (Nat.sub_le _ _) t.isLt)).v (vSum (dat D t) (t.val % 32))) :
    Inv (dat D t) (t.val % 32) (2 * (t.val % 32) + 2) (kSum (dat D t) (t.val % 32)) (vSum (dat D t) (t.val % 32)) (AttnFrame.st m c t.val t.isLt) := by
  have hX := ins_of m c hD t
  have h1 := AttnFrame.coord1 t
  by_cases h0 : t.val % 32 = 0
  · have hf : fresh (grid0.coords t) := (fresh_iff _).2 (h1.trans h0)
    have q := res_inv hX (x10 := k0_pay17 (F := Ideal)) (x11 := k0_pay18 (F := Ideal)) (A := kSum (dat D t) (t.val % 32)) (B := vSum (dat D t) (t.val % 32))
      (by unfold start10; rw [if_pos hf, h0]; exact res_congr res17 fun _ _ _ => by unfold kSum; rw [mul_zero, range_zero, sum_empty])
      (by unfold start11; rw [if_pos hf, h0]; exact res_congr res18 fun _ _ _ => by unfold vSum; rw [mul_zero, range_zero, sum_empty])
    rw [AttnFrame.st_fresh m c t h0 (k0_pay17 (F := Ideal)) (k0_pay18 (F := Ideal))]
    rwa [h1] at q
  · have hf : ¬ fresh (grid0.coords t) := fun h => h0 (h1.symm.trans ((fresh_iff _).1 h))
    obtain ⟨hk, hv⟩ := hp h0
    rw [AttnFrame.st_pos m c t (by omega)]
    have q := res_inv hX (by unfold start10; rw [if_neg hf]; exact hk) (by unfold start11; rw [if_neg hf]; exact hv)
    rwa [h1] at q

theorem dat_pred (t : Fin C0.N) (h0 : ¬ t.val % 32 = 0) : dat D ⟨t.val - 1, Nat.lt_of_le_of_lt (Nat.sub_le _ _) t.isLt⟩ = dat D t := by
  have e : (t.val - 1) / 32 = t.val / 32 := by omega
  unfold dat
  congr 1

theorem inv_all (n : ℕ) (hn : n < C0.N) :
    Inv (dat D ⟨n, hn⟩) (n % 32) (2 * (n % 32) + 2) (kSum (dat D ⟨n, hn⟩) (n % 32)) (vSum (dat D ⟨n, hn⟩) (n % 32)) (AttnFrame.st m c n hn) := by
  induction n with
  | zero => exact point_inv m c hD ⟨0, hn⟩ fun h => absurd rfl h
  | succ n ih =>
    refine point_inv m c hD ⟨n + 1, hn⟩ fun h0 => ?_
    have q := ih (by omega)
    have e := dat_pred m c hD ⟨n + 1, hn⟩ h0
    have hn' : (n + 1) % 32 = n % 32 + 1 := by dsimp only at h0; omega
    dsimp only at e ⊢
    rw [← e, hn']
    exact ⟨res_congr q.k fun h e j => kSum_next _ _ _ _ _, res_congr q.v fun h e j => vSum_next _ _ _ _ _⟩

theorem k_at (t : Fin C0.N) : Res (AttnFrame.st m c t.val t.isLt).k (kSum (dat D t) (t.val % 32 + 1)) :=
  res_congr (inv_all m c hD t.val t.isLt).k fun h e j => kSum_next _ _ _ _ _
theorem v_at (t : Fin C0.N) : Res (AttnFrame.st m c t.val t.isLt).v (vSum (dat D t) (t.val % 32 + 1)) :=
  res_congr (inv_all m c hD t.val t.isLt).v fun h e j => vSum_next _ _ _ _ _

end Point

/-! ## The query gradient's block -/

theorem pay106_at (s : FVec Ideal S64x256 .f32) (e : Fin 64) (y : Fin 256) {x : ℝ} (hs : s (ix2 e y) = (x : EReal)) :
    k0_pay106 (F := Ideal) s (ix3 0 e y) = ((x * (1 / 8) : ℝ) : EReal) := by
  pointwise [k0_pay106]
  rw [hs, ofBits_eighth, ← EReal.coe_mul]

/-- The rectangle of one lane. -/
theorem rect_not {off : Fin 3 → ℕ} (inb : ∀ a, off a + S1x64x256.size a ≤ S2x64x512.size a) (y : S2x64x512.Idx) (hy : (y 0).val ≠ off 0 ∨ (y 2).val < off 2 ∨ off 2 + 256 ≤ (y 2).val) :
    ¬ ∃ z, (Rect.unit (s := S2x64x512) off S1x64x256.size inb).emb z = y := by
  rw [unit_mem]
  intro hh
  have h0 : off 0 ≤ (y 0).val ∧ (y 0).val < off 0 + 1 := hh 0
  have h2 : off 2 ≤ (y 2).val ∧ (y 2).val < off 2 + 256 := hh 2
  omega

theorem rect_at {off : Fin 3 → ℕ} (inb : ∀ a, off a + S1x64x256.size a ≤ S2x64x512.size a) (x : S2x64x512.Idx → Elt Ideal .f32) (w : S1x64x256.Idx → Elt Ideal .f32) (e : Fin 64) (y : Fin 256) (z : S2x64x512.Idx)
    (hz : ∀ a, (z a).val = off a + (ix3 (0 : Fin 1) e y a).val) : Held.patch x (Rect.unit (s := S2x64x512) off S1x64x256.size inb) w z = w (ix3 0 e y) := by
  have e : (Rect.unit (s := S2x64x512) off S1x64x256.size inb).emb (ix3 (0 : Fin 1) e y) = z := by
    funext a
    apply Fin.ext
    rw [hz]
    show off a + 1 * _ = _
    rw [one_mul]
  rw [← e, Held.patch_emb]

theorem outq_at {E : Dat (Fin 2)} {i : ℕ} {A B : Fin 2 → Fin 64 → ℕ → ℝ} {st : St Ideal} (hI : Inv E i (2 * i + 2) A B st) (h : Fin 2) (e : Fin 64) (r : Fin 512) :
    outq st (ix3 h e r) = (((∑ j ∈ range (512 * i + r.val), E.k h j e * DZ E h (512 * i + r.val) j) * (1 / 8) : ℝ) : EReal) := by
  have hr := r.isLt
  unfold outq fin
  have hh : h = 0 ∨ h = 1 := by
    match h with
    | ⟨0, _⟩ => exact .inl rfl
    | ⟨1, _⟩ => exact .inr rfl
  rcases hh with rfl | rfl <;> by_cases h2 : r.val < 256
  · rw [Held.patch_of_not _ _ _ _ (rect_not _ _ (.inl (show (0 : ℕ) ≠ 1 by omega))), Held.patch_of_not _ _ _ _ (rect_not _ _ (.inl (show (0 : ℕ) ≠ 1 by omega))), Held.patch_of_not _ _ _ _ (rect_not _ _ (.inr (.inl h2)))]
    rw [rect_at _ _ _ e ⟨r.val, h2⟩ _ (by intro a; match a with | ⟨0, _⟩ => rfl | ⟨1, _⟩ => exact (Nat.zero_add _).symm | ⟨2, _⟩ => exact (Nat.zero_add _).symm)]
    rw [pay106_at _ _ _ (lane_at hI.l0 (by omega) e ⟨r.val, h2⟩)]
    dsimp only
    rw [show 256 * (2 * i) + r.val = 512 * i + r.val by ring]
  · have h3 : r.val - 256 < 256 := by omega
    rw [Held.patch_of_not _ _ _ _ (rect_not _ _ (.inl (show (0 : ℕ) ≠ 1 by omega))), Held.patch_of_not _ _ _ _ (rect_not _ _ (.inl (show (0 : ℕ) ≠ 1 by omega)))]
    rw [rect_at _ _ _ e ⟨r.val - 256, h3⟩ _ (by intro a; match a with | ⟨0, _⟩ => rfl | ⟨1, _⟩ => exact (Nat.zero_add _).symm | ⟨2, _⟩ => show r.val = 256 + (r.val - 256); omega)]
    rw [pay106_at _ _ _ (lane_at hI.l1 (by omega) e ⟨r.val - 256, h3⟩)]
    dsimp only
    rw [show 256 * (2 * i + 1) + (r.val - 256) = 512 * i + r.val by omega]
  · rw [Held.patch_of_not _ _ _ _ (rect_not _ _ (.inr (.inl h2)))]
    rw [rect_at _ _ _ e ⟨r.val, h2⟩ _ (by intro a; match a with | ⟨0, _⟩ => rfl | ⟨1, _⟩ => exact (Nat.zero_add _).symm | ⟨2, _⟩ => exact (Nat.zero_add _).symm)]
    rw [pay106_at _ _ _ (lane_at hI.l2 (by omega) e ⟨r.val, h2⟩)]
    dsimp only
    rw [show 256 * (2 * i) + r.val = 512 * i + r.val by ring]
  · have h3 : r.val - 256 < 256 := by omega
    rw [rect_at _ _ _ e ⟨r.val - 256, h3⟩ _ (by intro a; match a with | ⟨0, _⟩ => rfl | ⟨1, _⟩ => exact (Nat.zero_add _).symm | ⟨2, _⟩ => show r.val = 256 + (r.val - 256); omega)]
    rw [pay106_at _ _ _ (lane_at hI.l3 (by omega) e ⟨r.val - 256, h3⟩)]
    dsimp only
    rw [show 256 * (2 * i + 1) + (r.val - 256) = 512 * i + r.val by omega]

/-! ## The arrays -/

/-- The gradients, head by head; `E` has the scaled queries. -/
def dq (E : Dat (Fin 4)) : FVec Ideal S4x64x16384 .f32 := fun y => (((∑ j ∈ range (y 2).val, E.k (y 0) j (y 1) * DZ E (y 0) (y 2).val j) * (1 / 8) : ℝ) : EReal)
def dk (E : Dat (Fin 4)) : FVec Ideal S4x64x16384 .f32 := fun y => ((∑ r ∈ range 16384, E.q (y 0) r (y 1) * DZ E (y 0) r (y 2).val : ℝ) : EReal)
def dv (E : Dat (Fin 4)) : FVec Ideal S4x64x16384 .f32 := fun y => ((∑ r ∈ range 16384, E.d (y 0) r (y 1) * W E (y 0) r (y 2).val : ℝ) : EReal)

section Arrays

variable (hD : Of D (a0 m c) (a1 m c) (a2 m c) (a3 m c))
include hD

theorem point7 (t : Fin C0.N) (h : Fin 2) (e : Fin 64) (r : Fin 512) :
    outq (AttnFrame.st m c t.val t.isLt) (ix3 h e r) = dq (scaled D) (ix3 (head _ (pair_lt t) h) e (row t r)) :=
  outq_at (inv_all m c hD t.val t.isLt) h e r

theorem point8 (t : Fin C0.N) (ht : t.val % 32 = 31) (h : Fin 2) (e : Fin 64) (j : Fin 16384) :
    (AttnFrame.st m c t.val t.isLt).k (ix3 h e j) = dk (scaled D) (ix3 (head _ (pair_lt t) h) e j) := by
  have q := k_at m c hD t h e j
  rw [ht] at q
  exact q

theorem point9 (t : Fin C0.N) (ht : t.val % 32 = 31) (h : Fin 2) (e : Fin 64) (j : Fin 16384) :
    (AttnFrame.st m c t.val t.isLt).v (ix3 h e j) = dv (scaled D) (ix3 (head _ (pair_lt t) h) e j) := by
  have q := v_at m c hD t h e j
  rw [ht] at q
  exact q

theorem final7 : (AttnFrame.dats m 0 c).arrAt 7 C0.N = dq (scaled D) := by
  refine (AttnFrame.dats m 0 c).arrAt_eq_of_covers 7 _ (by decide +kernel) fun t _ y => ?_
  have q : ∀ y : S2x64x512.Idx, outq (AttnFrame.st m c t.val t.isLt) y = dq (scaled D) (ix3 (head _ (pair_lt t) (y 0)) (y 1) (row t (y 2))) := by
    intro y
    idx_vars y
    exact point7 m c hD t _ _ _
  blk_simp
  rw [AttnFrame.after_7]
  exact (q _).trans (congrArg (dq (scaled D)) (by blk_ext [idx t, head, row]))

theorem final8 : (AttnFrame.dats m 0 c).arrAt 8 C0.N = dk (scaled D) := by
  refine (AttnFrame.dats m 0 c).arrAt_eq_of_covers 8 _ (by decide +kernel) fun t hf y => ?_
  have q : ∀ y : S2x64x16384.Idx, (AttnFrame.st m c t.val t.isLt).k y = dk (scaled D) (ix3 (head _ (pair_lt t) (y 0)) (y 1) (y 2)) := by
    intro y
    idx_vars y
    exact point8 m c hD t ((flush0_8 t).mp hf) _ _ _
  blk_simp
  rw [AttnFrame.after_8]
  exact (q _).trans (congrArg (dk (scaled D)) (by blk_ext [idx t, head]))

theorem final9 : (AttnFrame.dats m 0 c).arrAt 9 C0.N = dv (scaled D) := by
  refine (AttnFrame.dats m 0 c).arrAt_eq_of_covers 9 _ (by decide +kernel) fun t hf y => ?_
  have q : ∀ y : S2x64x16384.Idx, (AttnFrame.st m c t.val t.isLt).v y = dv (scaled D) (ix3 (head _ (pair_lt t) (y 0)) (y 1) (y 2)) := by
    intro y
    idx_vars y
    exact point9 m c hD t ((flush0_9 t).mp hf) _ _ _
  blk_simp
  rw [AttnFrame.after_9]
  exact (q _).trans (congrArg (dv (scaled D)) (by blk_ext [idx t, head]))

end Arrays

/-- The run, with the arrays it leaves. -/
theorem run_arrays (ρ : Dev nD → PrngReg) : θ_run defs (onTc (τ := τ) (main (F := Ideal))) ⟨m, fun _ => 0, ρ⟩ fun r => ∀ c : Dev nD,
      r.2.mem ((c.tc : Thread nD τ).loc main_v38_0) = (AttnFrame.dats m 0 c).arrAt 7 C0.N
      ∧ r.2.mem ((c.tc : Thread nD τ).loc main_v38_1) = (AttnFrame.dats m 0 c).arrAt 8 C0.N
      ∧ r.2.mem ((c.tc : Thread nD τ).loc main_v38_2) = (AttnFrame.dats m 0 c).arrAt 9 C0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 7, (h.1 c).1 8, (h.1 c).1 9,
      ((h.1 c).2 main_arg0 (Pipeline.mem_restRefs_of main_arg0 (by decide) (show ∀ w : Fin 10, (spec0 w).arr.view.ref ≠ main_arg0 by decide))).trans (AttnFrame.V_arg m c main_arg0 (by decide)),
      ((h.1 c).2 main_arg1 (Pipeline.mem_restRefs_of main_arg1 (by decide) (show ∀ w : Fin 10, (spec0 w).arr.view.ref ≠ main_arg1 by decide))).trans (AttnFrame.V_arg m c main_arg1 (by decide)),
      ((h.1 c).2 main_arg2 (Pipeline.mem_restRefs_of main_arg2 (by decide) (show ∀ w : Fin 10, (spec0 w).arr.view.ref ≠ main_arg2 by decide))).trans (AttnFrame.V_arg m c main_arg2 (by decide)),
      ((h.1 c).2 main_arg3 (Pipeline.mem_restRefs_of main_arg3 (by decide) (show ∀ w : Fin 10, (spec0 w).arr.view.ref ≠ main_arg3 by decide))).trans (AttnFrame.V_arg m c main_arg3 (by decide))⟩)
    (AttnFrame.run_main_quiescent m ρ)

end Cert.AttnFinal
-- ==== Proof.AttnRefer.lean ====
module

public import proofs.«01_k».proof.Proof.Gen.AttnRefIdeal.Run
public import proofs.«01_k».proof.Proof.AttnTerm

/-! The three gradients of the reference, entry by entry. -/

@[expose] public section

set_option maxRecDepth 100000

noncomputable section

open Idealize.ShloMosaic Idealize.ShloMosaic.TcCoe Idealize.SL Idealize.SL.Sem
open Finset

namespace Cert.AttnRefer

open Cert.AttnRefIdeal Cert.AttnRefIdeal.Gen
open Cert.AttnReal Cert.AttnTerm Cert.RealCalc

variable {m : (ℓ : Loc nD τ sig) → Buf (Elt Ideal) ℓ} {c : Dev nD} {D : Dat (Fin 4)}

/-- The arguments hold `D`. -/
abbrev Args (m : (ℓ : Loc nD τ sig) → Buf (Elt Ideal) ℓ) (c : Dev nD) (D : Dat (Fin 4)) : Prop :=
  Of D (m ((c.tc : Thread nD τ).loc main_arg0)) (m ((c.tc : Thread nD τ).loc main_arg1)) (m ((c.tc : Thread nD τ).loc main_arg2)) (m ((c.tc : Thread nD τ).loc main_arg3))

theorem res0 (hD : Args m c D) (h : Fin 4) (e : Fin 64) (r : Fin 16384) :
    Value.res_main_v40 m c (ix3 h e r) = ((∑ j : Fin 16384, DZ (scaled D) h r.val j.val * (1 / 8) * D.k h j.val e : ℝ) : EReal) := by
  have q : Value.res_main_v40 m c = transpose S4x64x16384 [1, 2, 0] (transpose S16384x4x64 [1, 0, 2]
      (Host.dotGeneral dot_S4x16384x16384_S16384x4x64_S4x16384x64_2_0_1_2_0_1 none
        (zgrad (m ((c.tc : Thread nD τ).loc main_arg2)) (m ((c.tc : Thread nD τ).loc main_arg3)) (score (m ((c.tc : Thread nD τ).loc main_arg0)) (m ((c.tc : Thread nD τ).loc main_arg1))))
        (m ((c.tc : Thread nD τ).loc main_arg1))) transposes_S4x16384x64_S16384x4x64_1_0_2) transposes_S16384x4x64_S4x64x16384_1_2_0 := rfl
  have hz := fun h r c => zgrad_entry hD h r c
  rw [q]
  generalize zgrad _ _ _ = z at *
  pointwise
  simp only [hz, hD.k, ← EReal.coe_mul, coe_sum]

theorem res1 (hD : Args m c D) (h : Fin 4) (e : Fin 64) (j : Fin 16384) :
    Value.res_main_v41 m c (ix3 h e j) = ((∑ r : Fin 16384, DZ (scaled D) h r.val j.val * (1 / 8) * D.q h r.val e : ℝ) : EReal) := by
  have q : Value.res_main_v41 m c = transpose S4x64x16384 [1, 2, 0] (transpose S16384x4x64 [1, 0, 2]
      (Host.dotGeneral dot_S4x16384x16384_S16384x4x64_S4x16384x64_1_0_2_2_0_1 none
        (zgrad (m ((c.tc : Thread nD τ).loc main_arg2)) (m ((c.tc : Thread nD τ).loc main_arg3)) (score (m ((c.tc : Thread nD τ).loc main_arg0)) (m ((c.tc : Thread nD τ).loc main_arg1))))
        (m ((c.tc : Thread nD τ).loc main_arg0))) transposes_S4x16384x64_S16384x4x64_1_0_2) transposes_S16384x4x64_S4x64x16384_1_2_0 := rfl
  have hz := fun h r c => zgrad_entry hD h r c
  rw [q]
  generalize zgrad _ _ _ = z at *
  pointwise
  simp only [hz, hD.q, ← EReal.coe_mul, coe_sum]

theorem res2 (hD : Args m c D) (h : Fin 4) (e : Fin 64) (j : Fin 16384) :
    Value.res_main_v42 m c (ix3 h e j) = ((∑ r : Fin 16384, D.d h r.val e * W (scaled D) h r.val j.val : ℝ) : EReal) := by
  have q : Value.res_main_v42 m c = transpose S4x64x16384 [1, 2, 0] (transpose S16384x4x64 [2, 0, 1]
      (Host.dotGeneral dot_S4x64x16384_S4x16384x16384_S4x64x16384_2_1_1_2_0_0 none
        (transpose S4x64x16384 [1, 2, 0] (m ((c.tc : Thread nD τ).loc main_arg3)) transposes_S16384x4x64_S4x64x16384_1_2_0)
        (weights (score (m ((c.tc : Thread nD τ).loc main_arg0)) (m ((c.tc : Thread nD τ).loc main_arg1))))) transposes_S4x64x16384_S16384x4x64_2_0_1) transposes_S16384x4x64_S4x64x16384_1_2_0 := rfl
  have hw := fun h r c => weights_entry hD h r c
  rw [q]
  generalize weights _ = w at *
  pointwise
  simp only [hw, hD.d, ← EReal.coe_mul, coe_sum]

end Cert.AttnRefer
-- ==== Proof.AttnClaim.lean ====
/-
  The attention's gradients: kernel and reference end with the same three arrays over the extended reals, for finite arguments.
-/
module

public import proofs.«01_k».proof.Defs
public import proofs.«01_k».proof.Proof.AttnFinal
public import proofs.«01_k».proof.Proof.AttnRefer
public import proofs.«01_k».proof.Proof.Finite
public import Idealize.ShloMosaic.Lib.Claim
public import proofs.«01_k».proof.Proof.Gen.Pre_attn_finite

@[expose] public section

set_option maxRecDepth 100000

noncomputable section

namespace Cert.AttnClaim

open Idealize.ShloMosaic Idealize.ShloMosaic.TcCoe Idealize.SL Idealize.SL.Sem Idealize.ShloMosaic.StableHlo
open Cert.AttnReal Cert.AttnTerm Cert.RealCalc
open Finset

/-- An array of rows as a function of every number. -/
def wide (Q : Fin 16384 → Fin 4 → Fin 64 → ℝ) (h : Fin 4) (r : ℕ) (e : Fin 64) : ℝ := if hr : r < 16384 then Q ⟨r, hr⟩ h e else 0

theorem wide_val (Q : Fin 16384 → Fin 4 → Fin 64 → ℝ) (h : Fin 4) (r : Fin 16384) (e : Fin 64) : wide Q h r.val e = Q r h e := dif_pos r.isLt

/-- The reference's frame. -/
theorem reference : @Cert.quiescent_AttnRefIdeal Cert.AttnRefIdeal.Gen.facts := fun m g _ => by
  refine θ_run_mono (Cert.AttnRefIdeal.Value.run m g) fun r h => ⟨fun c => ?_, sem_eq_zero_of_no_sems (by decide) r.2⟩
  obtain ⟨_, _, _, h⟩ := h c
  exact h

theorem same_dq {m : (ℓ : Loc Cert.AttnRefIdeal.nD Cert.AttnRefIdeal.τ Cert.AttnRefIdeal.sig) → Buf (Elt Ideal) ℓ} {c : Dev Cert.AttnRefIdeal.nD} {D : Dat (Fin 4)} (hD : AttnRefer.Args m c D) :
    Cert.AttnRefIdeal.Value.res_main_v40 m c = AttnFinal.dq (scaled D) := by
  funext y
  idx_vars y
  rw [AttnRefer.res0 hD]
  refine congrArg _ ?_
  rw [AttnPlace.fin_range (N := 16384) (fun j => DZ (scaled D) y0 y2.val j * (1 / 8) * D.k y0 j y1) y2.isLt.le fun j hj => by rw [DZ_of_le _ _ _ _ hj]; ring, sum_mul]
  exact sum_congr rfl fun j _ => by show _ = D.k y0 j y1 * DZ (scaled D) y0 y2.val j * (1 / 8); ring

theorem same_dk {m : (ℓ : Loc Cert.AttnRefIdeal.nD Cert.AttnRefIdeal.τ Cert.AttnRefIdeal.sig) → Buf (Elt Ideal) ℓ} {c : Dev Cert.AttnRefIdeal.nD} {D : Dat (Fin 4)} (hD : AttnRefer.Args m c D) :
    Cert.AttnRefIdeal.Value.res_main_v41 m c = AttnFinal.dk (scaled D) := by
  funext y
  idx_vars y
  rw [AttnRefer.res1 hD]
  refine congrArg _ ?_
  rw [Fin.sum_univ_eq_sum_range (fun r => DZ (scaled D) y0 r y2.val * (1 / 8) * D.q y0 r y1)]
  exact sum_congr rfl fun r _ => by show _ = D.q y0 r y1 * (1 / 8) * DZ (scaled D) y0 r y2.val; ring

theorem same_dv {m : (ℓ : Loc Cert.AttnRefIdeal.nD Cert.AttnRefIdeal.τ Cert.AttnRefIdeal.sig) → Buf (Elt Ideal) ℓ} {c : Dev Cert.AttnRefIdeal.nD} {D : Dat (Fin 4)} (hD : AttnRefer.Args m c D) :
    Cert.AttnRefIdeal.Value.res_main_v42 m c = AttnFinal.dv (scaled D) := by
  funext y
  idx_vars y
  rw [AttnRefer.res2 hD]
  refine congrArg _ ?_
  rw [Fin.sum_univ_eq_sum_range (fun r => D.d y0 r y1 * W (scaled D) y0 r y2.val)]
  rfl

theorem algebraic : @Cert.algebraic_AttnIdeal_AttnRefIdeal_pre_attn_finite Cert.AttnIdeal.Gen.facts Cert.AttnRefIdeal.Gen.facts Cert.Pre_attn_finite.Gen.facts := by
  pair_intro
  · run_from Cert.AttnFinal.run_arrays m g
  · run_from Cert.AttnRefIdeal.Value.run m' g'
    all_goals
      obtain ⟨h0, h1, h2, h3⟩ := hpre c
      choose Q hq using fun (r : Fin 16384) (h : Fin 4) (e : Fin 64) => Finite.entry _ _ h0 (ix3 r h e)
      choose K hk using fun (r : Fin 16384) (h : Fin 4) (e : Fin 64) => Finite.entry _ _ h1 (ix3 r h e)
      choose U hv using fun (r : Fin 16384) (h : Fin 4) (e : Fin 64) => Finite.entry _ _ h2 (ix3 r h e)
      choose C hd using fun (r : Fin 16384) (h : Fin 4) (e : Fin 64) => Finite.entry _ _ h3 (ix3 r h e)
      have hD : Of ⟨wide Q, wide C, wide K, wide U⟩ (AttnHost.a0 m c) (AttnHost.a1 m c) (AttnHost.a2 m c) (AttnHost.a3 m c) :=
        ⟨fun r h e => (hq r h e).trans (congrArg _ (wide_val Q h r e).symm), fun r h e => (hk r h e).trans (congrArg _ (wide_val K h r e).symm),
          fun r h e => (hv r h e).trans (congrArg _ (wide_val U h r e).symm), fun r h e => (hd r h e).trans (congrArg _ (wide_val C h r e).symm)⟩
      have hD' : AttnRefer.Args m' c ⟨wide Q, wide C, wide K, wide U⟩ := by
        obtain ⟨e0, e1, e2, e3⟩ := hagree c
        unfold AttnRefer.Args
        rw [e0, e1, e2, e3]
        exact hD
    · exact (same_dq hD').trans (AttnFinal.final7 m c hD).symm
    · exact (same_dk hD').trans (AttnFinal.final8 m c hD).symm
    · exact (same_dv hD').trans (AttnFinal.final9 m c hD).symm

end Cert.AttnClaim

end
-- ==== Proof.NormGrad.lean ====
/-
  The gradient of a root-mean-square norm of a row of 1024 features, as real numbers: the shape a kernel's body computes
  it in, and the shape the differentiated formula has.
-/
module

public import proofs.«01_k».proof.Proof.RealCalc

@[expose] public section

noncomputable section

open Idealize.ShloMosaic

namespace Cert.NormGrad

open Cert.RealCalc

variable (X G H : Fin 1024 → ℝ) (D : ℝ)

/-- The reciprocal root mean square of a row. -/
def inv : ℝ := (Real.sqrt ((∑ k, X k * X k) / 1024 + eps))⁻¹

/-- The row's gradient, for the cotangent `H` of the scaled norm and the cotangent `D` of the row itself. -/
def dx (l : Fin 1024) : ℝ :=
  D + inv X * (H l * G l - X l * inv X * ((∑ k, H k * G k * (X k * inv X)) / 1024))

/-- The row's part of the gain's gradient. -/
def dgain (l : Fin 1024) : ℝ := H l * (X l * inv X)

/-- The number under the root is positive. -/
theorem pos : 0 < (∑ k, X k * X k) / 1024 + eps := meansq_pos X (by norm_num)

/-- The differentiated formula is the row's gradient. -/
theorem dx_eq (l : Fin 1024) :
    D + H l * G l * inv X
        + X l * ((∑ k, X k * (H k * G k)) * (-(1 / 2) * (inv X / ((∑ k, X k * X k) / 1024 + eps))) / 1024)
        + (∑ k, X k * (H k * G k)) * (-(1 / 2) * (inv X / ((∑ k, X k * X k) / 1024 + eps))) / 1024 * X l
      = dx X G H D l := by
  have h := inv_sqrt_sq (pos X)
  have hs : ∑ k, H k * G k * (X k * inv X) = inv X * ∑ k, X k * (H k * G k) := by
    rw [Finset.mul_sum]; exact Finset.sum_congr rfl fun k _ => by ring
  unfold dx
  rw [hs]
  unfold inv
  rw [div_eq_mul_inv ((Real.sqrt _)⁻¹), ← h]
  ring

end Cert.NormGrad

end
-- ==== Proof.IprojPoint.lean ====
/-
  The input projection's gradient, one row of 1024 features at a time: what the kernel's body computes from a row of
  finite activations, cotangents and weights, as real numbers.
-/
module

public import proofs.«01_k».proof.Proof.NormGrad
public import proofs.«01_k».proof.Proof.Gen.IprojIdeal.Value
public import Idealize.ShloMosaic.Lib.Pipeline.ValueKit

@[expose] public section

set_option maxRecDepth 16384

noncomputable section

open Idealize.ShloMosaic Idealize.ShloMosaic.TcCoe Idealize.SL.Sem

namespace Cert.IprojPoint

open Cert.RealCalc Cert.IprojIdeal Cert.IprojIdeal.Gen

/-- The cotangent of the normalised row: the product with the transposed weights. -/
def dh (W : Fin 1024 → Fin 2560 → ℝ) (Z : Fin 2560 → ℝ) (l : Fin 1024) : ℝ := ∑ e, Z e * W l e

/-- Column `e` of half `p` of the weights. -/
abbrev col (p : Fin 2) (e : Fin 1280) : Fin 2560 := ⟨1280 * p.val + e.val, by omega⟩

/-- Column `e` of quarter `b` of the weights. -/
abbrev quarter (b : Fin 4) (e : Fin 640) : Fin 2560 := ⟨640 * b.val + e.val, by omega⟩

/-- The product over all columns is the sum of the products over the two halves. -/
theorem dh_halves (W : Fin 1024 → Fin 2560 → ℝ) (Z : Fin 2560 → ℝ) (l : Fin 1024) :
    dh W Z l = (∑ e, Z (col 0 e) * W l (col 0 e)) + ∑ e, Z (col 1 e) * W l (col 1 e) := by
  refine (Fin.sum_univ_add (a := 1280) (b := 1280) fun e : Fin 2560 => Z e * W l e).trans (congrArg₂ _ ?_ ?_)
  · exact Finset.sum_congr rfl fun e _ => congrArg (fun i => Z i * W l i) (Fin.ext (by simp))
  · exact Finset.sum_congr rfl fun e _ => congrArg (fun i => Z i * W l i) (Fin.ext (by simp; omega))

theorem ld_z0 (x : FVec Ideal S512x2560 .bf16) (r : Fin 512) (e : Fin 1280) :
    View.ld (Val := Elt Ideal) (e' := .bf16) x (Rect.unit (s := S512x2560) ![0, 0] ![512, 1280] inb_S512x2560_S512x1280_0_0) (ix2 r e)
      = x (ix2 r (col 0 e)) := by
  refine View.ld_unit_apply_of (Val := Elt Ideal) (e := .bf16) x _ _ _ _ _ ?_
  intro a; fin_cases a <;> simp

theorem ld_z1 (x : FVec Ideal S512x2560 .bf16) (r : Fin 512) (e : Fin 1280) :
    View.ld (Val := Elt Ideal) (e' := .bf16) x (Rect.unit (s := S512x2560) ![0, 1280] ![512, 1280] inb_S512x2560_S512x1280_0_1280) (ix2 r e)
      = x (ix2 r (col 1 e)) := by
  refine View.ld_unit_apply_of (Val := Elt Ideal) (e := .bf16) x _ _ _ _ _ ?_
  intro a; fin_cases a <;> simp

theorem ld_w0 (x : FVec Ideal S2x1024x1280 .bf16) (l : Fin 1024) (e : Fin 1280) :
    View.ld (Val := Elt Ideal) (e' := .bf16) x (Rect.unit (s := S2x1024x1280) ![0, 0, 0] ![1, 1024, 1280] inb_S2x1024x1280_S1x1024x1280_0_0_0) (ix3 0 l e)
      = x (ix3 0 l e) := by
  refine View.ld_unit_apply_of (Val := Elt Ideal) (e := .bf16) x _ _ _ _ _ ?_
  intro a; fin_cases a <;> simp

theorem ld_w1 (x : FVec Ideal S2x1024x1280 .bf16) (l : Fin 1024) (e : Fin 1280) :
    View.ld (Val := Elt Ideal) (e' := .bf16) x (Rect.unit (s := S2x1024x1280) ![1, 0, 0] ![1, 1024, 1280] inb_S2x1024x1280_S1x1024x1280_1_0_0) (ix3 0 l e)
      = x (ix3 1 l e) := by
  refine View.ld_unit_apply_of (Val := Elt Ideal) (e := .bf16) x _ _ _ _ _ ?_
  intro a; fin_cases a <;> simp

section Wide

variable (w : FVec Ideal S4x1x1024x640 .bf16) (W : Fin 1024 → Fin 2560 → ℝ)
  (hw : ∀ b k e, w (ix4 b 0 k e) = ((W k (quarter b e) : ℝ) : EReal))

/-- The weights' quarters laid side by side, two to a plane. -/
def wide (W : Fin 1024 → Fin 2560 → ℝ) : FVec Ideal S2x1024x1280 .bf16 := fun y => ((W (y 1) (col (y 0) (y 2)) : ℝ) : EReal)

include hw in
/-- The four copies the first point makes leave the wide weights. -/
theorem canon_wide : View.canon (Val := Elt Ideal) (s := S2x1024x1280) (e := .bf16)
      [⟨Rect.unit ![1, 0, 640] ![1, 1024, 640] inb_S2x1024x1280_S1x1024x640_1_0_640,
          k0_pay7 (F := Ideal) (View.ld (Val := Elt Ideal) (e' := .bf16) w (Rect.unit (s := S4x1x1024x640) ![3, 0, 0, 0] ![1, 1, 1024, 640] inb_S4x1x1024x640_S1x1x1024x640_3_0_0_0))⟩,
        ⟨Rect.unit ![1, 0, 0] ![1, 1024, 640] inb_S2x1024x1280_S1x1024x640_1_0_0,
          k0_pay6 (F := Ideal) (View.ld (Val := Elt Ideal) (e' := .bf16) w (Rect.unit (s := S4x1x1024x640) ![2, 0, 0, 0] ![1, 1, 1024, 640] inb_S4x1x1024x640_S1x1x1024x640_2_0_0_0))⟩,
        ⟨Rect.unit ![0, 0, 640] ![1, 1024, 640] inb_S2x1024x1280_S1x1024x640_0_0_640,
          k0_pay5 (F := Ideal) (View.ld (Val := Elt Ideal) (e' := .bf16) w (Rect.unit (s := S4x1x1024x640) ![1, 0, 0, 0] ![1, 1, 1024, 640] inb_S4x1x1024x640_S1x1x1024x640_1_0_0_0))⟩,
        ⟨Rect.unit ![0, 0, 0] ![1, 1024, 640] inb_S2x1024x1280_S1x1024x640_0_0_0,
          k0_pay4 (F := Ideal) (View.ld (Val := Elt Ideal) (e' := .bf16) w (Rect.unit (s := S4x1x1024x640) ![0, 0, 0, 0] ![1, 1, 1024, 640] inb_S4x1x1024x640_S1x1x1024x640_0_0_0_0))⟩]
      = wide W := by
  funext y
  canon_tiles x h
  all_goals
    idx_vars x
    idx_vars y
    pointwise [k0_pay4, k0_pay5, k0_pay6, k0_pay7]
    refine (hw _ _ _).trans (congrArg _ (congrArg₂ W (Fin.ext ?_) (Fin.ext ?_)))
    · exact h1.symm
    · show 640 * (_ : ℕ) + x2.val = 1280 * y0.val + y2.val
      simp only [Fin.val_zero, Fin.val_one, Fin.val_two, show ((3 : Fin 4) : ℕ) = 3 from rfl]
      omega

end Wide

section Kernel

variable (x d : FVec Ideal S512x1024 .f32) (g : FVec Ideal S1x1024 .f32) (h : FVec Ideal S512x1024 .f32)

section Row
variable (X G H : Fin 1024 → ℝ) (D : ℝ) (r : Fin 512)
  (hx : ∀ k, x (ix2 r k) = ((X k : ℝ) : EReal)) (hg : ∀ k, g (ix2 0 k) = ((G k : ℝ) : EReal))
  (hh : ∀ k, h (ix2 r k) = ((H k : ℝ) : EReal))
include hx hg hh

/-- What the body writes to the gradient's block at a row. -/
theorem kernel_dx (l : Fin 1024) (hd : d (ix2 r l) = ((D : ℝ) : EReal)) :
    k0_pay1 (F := Ideal) h d (k0_pay10 (F := Ideal) x) (k0_pay11 (F := Ideal) x) (k0_pay12 (F := Ideal) g) (ix2 r l)
      = ((NormGrad.dx X G H D l : ℝ) : EReal) := by
  pointwise [k0_pay1, k0_pay10, k0_pay11, k0_pay12]
  simp only [hx, hd, hg, hh, ofBits_1024, ofBits_eps, ← EReal.coe_mul, coe_sum, div_1024, ← EReal.coe_add, ← EReal.coe_sub, rsqrt_coe (NormGrad.pos X)]
  rfl

end Row

section Sums
variable (X H : Fin 512 → Fin 1024 → ℝ)
  (hx : ∀ r k, x (ix2 r k) = ((X r k : ℝ) : EReal)) (hh : ∀ r k, h (ix2 r k) = ((H r k : ℝ) : EReal))
include hx hh

/-- What the body adds to the gain's gradient at a point. -/
theorem kernel_dg (acc : FVec Ideal S1x1024 .f32) (l : Fin 1024) :
    k0_pay3 (F := Ideal) h (k0_pay11 (F := Ideal) x) acc (ix2 0 l)
      = acc (ix2 0 l) + ((∑ r, NormGrad.dgain (X r) (H r) l : ℝ) : EReal) := by
  pointwise [k0_pay3, k0_pay10, k0_pay11]
  simp only [hx, hh, ofBits_1024, ofBits_eps, ← EReal.coe_mul, coe_sum, div_1024, ← EReal.coe_add, ← EReal.coe_sub, rsqrt_coe (NormGrad.pos _)]
  rfl

end Sums

/-- The product with the wide weights. -/
theorem kernel_dh (z0 z1 : FVec Ideal S512x1280 .bf16) (w0 w1 : FVec Ideal S1x1024x1280 .bf16) (W : Fin 1024 → Fin 2560 → ℝ)
    (Z : Fin 2560 → ℝ) (r : Fin 512) (l : Fin 1024)
    (h0 : ∀ e, z0 (ix2 r e) = ((Z (col 0 e) : ℝ) : EReal)) (h1 : ∀ e, z1 (ix2 r e) = ((Z (col 1 e) : ℝ) : EReal))
    (k0 : ∀ e, w0 (ix3 0 l e) = ((W l (col 0 e) : ℝ) : EReal)) (k1 : ∀ e, w1 (ix3 0 l e) = ((W l (col 1 e) : ℝ) : EReal)) :
    k0_pay9 (F := Ideal) z0 w0 z1 w1 (ix2 r l) = ((dh W Z l : ℝ) : EReal) := by
  pointwise [k0_pay9]
  simp only [h0, h1, k0, k1, ← EReal.coe_mul, coe_sum, ← EReal.coe_add]
  rw [dh_halves]

end Kernel

end Cert.IprojPoint

end
-- ==== Proof.IprojValue.lean ====
/-
  The input projection's three gradient arrays after the run: the rows' gradient in both formats, and the gain's
  gradient as the sum over all 16384 rows that the 32 grid points accumulate.
-/
module

public import proofs.«01_k».proof.Proof.IprojPoint
public import proofs.«01_k».proof.Proof.Gen.IprojIdeal.Value
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.IprojValue

open Cert.RealCalc Cert.IprojPoint Cert.IprojIdeal Cert.IprojIdeal.Gen

variable (m : (ℓ : Loc nD τ sig) → Buf (Elt Ideal) ℓ) (c : Dev nD)

/-- The windows' block indices. -/
theorem idx : ∀ t : Fin cfg0.N, t.val < 32 ∧ win0_0.index t = ![t.val, 0] ∧ win0_1.index t = ![0, 0] ∧ win0_2.index t = ![t.val, 0]
    ∧ win0_3.index t = ![t.val, 0] ∧ win0_4.index t = ![0, 0, 0, 0] ∧ win0_5.index t = ![t.val, 0] ∧ win0_6.index t = ![t.val, 0] ∧ win0_7.index t = ![0, 0] :=
  (by decide +kernel : ∀ t : Fin grid0.N, _)

theorem row_lt (t : Fin cfg0.N) (r : Fin 512) : t.val * 512 + r.val < 16384 := by
  have := (idx t).1; omega

/-- Row `r` of the block of point `t`, in the array. -/
abbrev row (t : Fin cfg0.N) (r : Fin 512) : Fin 16384 := ⟨t.val * 512 + r.val, row_lt t r⟩

theorem blk0 (t : Fin cfg0.N) (r : Fin 512) (k : Fin 1024) :
    (iblk m c 0 t : FVec Ideal S512x1024 .f32) (ix2 r k) = (m ((c : Thread nD τ).loc main_arg0) : FVec Ideal S16384x1024 .f32) (ix2 (row t r) k) := by
  blk_ext [iblk, V, idx t]

theorem blk1 (t : Fin cfg0.N) (k : Fin 1024) :
    (iblk m c 1 t : FVec Ideal S1x1024 .f32) (ix2 0 k) = (m ((c : Thread nD τ).loc main_arg1) : FVec Ideal S1024 .f32) (ix1 k) := by
  blk_point [iblk, V, idx t]

theorem blk2 (t : Fin cfg0.N) (r : Fin 512) (k : Fin 1024) :
    (iblk m c 2 t : FVec Ideal S512x1024 .f32) (ix2 r k) = (m ((c : Thread nD τ).loc main_arg3) : FVec Ideal S16384x1024 .f32) (ix2 (row t r) k) := by
  blk_ext [iblk, V, idx t]

theorem blk3 (t : Fin cfg0.N) (r : Fin 512) (k : Fin 2560) :
    (iblk m c 3 t : FVec Ideal S512x2560 .bf16) (ix2 r k) = (m ((c : Thread nD τ).loc main_arg4) : FVec Ideal S16384x2560 .f32) (ix2 (row t r) k) := by
  blk_point [iblk, V, idx t]

theorem blk4 (t : Fin cfg0.N) (b : Fin 4) (k : Fin 1024) (e : Fin 640) :
    (iblk m c 4 t : FVec Ideal S4x1x1024x640 .bf16) (ix4 b 0 k e) = (m ((c : Thread nD τ).loc main_arg2) : FVec Ideal S1024x2560 .f32) (ix2 k (quarter b e)) := by
  blk_point [iblk, V, idx t]

variable (X D : Fin 16384 → Fin 1024 → ℝ) (G : Fin 1024 → ℝ) (W : Fin 1024 → Fin 2560 → ℝ) (Z : Fin 16384 → Fin 2560 → ℝ)
  (hx : ∀ r k, (m ((c : Thread nD τ).loc main_arg0) : FVec Ideal S16384x1024 .f32) (ix2 r k) = ((X r k : ℝ) : EReal))
  (hg : ∀ k, (m ((c : Thread nD τ).loc main_arg1) : FVec Ideal S1024 .f32) (ix1 k) = ((G k : ℝ) : EReal))
  (hw : ∀ k e, (m ((c : Thread nD τ).loc main_arg2) : FVec Ideal S1024x2560 .f32) (ix2 k e) = ((W k e : ℝ) : EReal))
  (hd : ∀ r k, (m ((c : Thread nD τ).loc main_arg3) : FVec Ideal S16384x1024 .f32) (ix2 r k) = ((D r k : ℝ) : EReal))
  (hz : ∀ r e, (m ((c : Thread nD τ).loc main_arg4) : FVec Ideal S16384x2560 .f32) (ix2 r e) = ((Z r e : ℝ) : EReal))

/-- The rows' gradient. -/
def grad (X D : Fin 16384 → Fin 1024 → ℝ) (G : Fin 1024 → ℝ) (W : Fin 1024 → Fin 2560 → ℝ) (Z : Fin 16384 → Fin 2560 → ℝ) :
    FVec Ideal S16384x1024 .f32 :=
  fun i => ((NormGrad.dx (X (i 0)) G (dh W (Z (i 0))) (D (i 0) (i 1)) (i 1) : ℝ) : EReal)

/-- The gain's gradient over all rows. -/
def gain (X : Fin 16384 → Fin 1024 → ℝ) (W : Fin 1024 → Fin 2560 → ℝ) (Z : Fin 16384 → Fin 2560 → ℝ) : FVec Ideal S1x1024 .f32 :=
  fun i => ((∑ r, NormGrad.dgain (X r) (dh W (Z r)) (i 1) : ℝ) : EReal)

include hw in
/-- The scratch holds the wide weights from the first point on. -/
theorem scratch (n : ℕ) (h : n < cfg0.N) : (outsAt0 m c n h).2.2.2 = wide W := by
  induction n with
  | zero =>
    have e := outsAt0_A m c ⟨0, h⟩ (Nat.zero_mod _) (Nat.zero_mod _)
    rw [show outsAt0 m c 0 h = outsAt0 m c (⟨0, h⟩ : Fin cfg0.N).val (⟨0, h⟩ : Fin cfg0.N).isLt from rfl, e]
    frame_out
    exact canon_wide _ W fun b k e => (blk4 m c _ b k e).trans (hw _ _)
  | succ n ih =>
    have hn : n + 1 < 32 := lt_of_lt_of_eq h (show cfg0.N = 32 from N_0)
    have h0 : ¬ (n + 1) % 32 = 0 := by omega
    rw [show outsAt0 m c (n + 1) h = outsAt0 m c (⟨n + 1, h⟩ : Fin cfg0.N).val (⟨n + 1, h⟩ : Fin cfg0.N).isLt from rfl,
      outsAt0_B m c ⟨n + 1, h⟩ h0 h0]
    have key : ∀ (k : ℕ) (hk : k < cfg0.N), k = n → (outsAt0 m c k hk).2.2.2 = wide W := by rintro k hk rfl; exact ih _
    unfold sout0_B_0
    dsimp only
    exact key _ _ (Nat.add_sub_cancel ..)

/-- The product of a point's cotangents with the wide weights, as the body forms it. -/
abbrev cot (W : Fin 1024 → Fin 2560 → ℝ) (t : Fin cfg0.N) : FVec Ideal S512x1024 .f32 :=
  k0_pay9 (F := Ideal) (View.ld (Val := Elt Ideal) (e' := .bf16) (iblk m c 3 t) (Rect.unit (s := S512x2560) ![0, 0] ![512, 1280] inb_S512x2560_S512x1280_0_0))
    (View.ld (Val := Elt Ideal) (e' := .bf16) (wide W) (Rect.unit (s := S2x1024x1280) ![0, 0, 0] ![1, 1024, 1280] inb_S2x1024x1280_S1x1024x1280_0_0_0))
    (View.ld (Val := Elt Ideal) (e' := .bf16) (iblk m c 3 t) (Rect.unit (s := S512x2560) ![0, 1280] ![512, 1280] inb_S512x2560_S512x1280_0_1280))
    (View.ld (Val := Elt Ideal) (e' := .bf16) (wide W) (Rect.unit (s := S2x1024x1280) ![1, 0, 0] ![1, 1024, 1280] inb_S2x1024x1280_S1x1024x1280_1_0_0))

/-- At the first point the product reads the weights just copied. -/
theorem first_cot (W : Fin 1024 → Fin 2560 → ℝ) (t : Fin cfg0.N) (v : View sig .tc .vmem S2x1024x1280 .bf16) (L : List (View.Piece (Elt Ideal) S2x1024x1280 .bf16)) (hL : View.canon L = wide W) :
    k0_pay9 (F := Ideal) (View.ld (Val := Elt Ideal) (e' := .bf16) (iblk m c 3 t) (Rect.unit (s := S512x2560) ![0, 0] ![512, 1280] inb_S512x2560_S512x1280_0_0))
    (v.readCov L (Rect.unit (s := S2x1024x1280) ![0, 0, 0] ![1, 1024, 1280] inb_S2x1024x1280_S1x1024x1280_0_0_0).toLoadRect)
    (View.ld (Val := Elt Ideal) (e' := .bf16) (iblk m c 3 t) (Rect.unit (s := S512x2560) ![0, 1280] ![512, 1280] inb_S512x2560_S512x1280_0_1280))
    (v.readCov L (Rect.unit (s := S2x1024x1280) ![1, 0, 0] ![1, 1024, 1280] inb_S2x1024x1280_S1x1024x1280_1_0_0).toLoadRect) = cot m c W t := by
  rw [View.readCov_eq_canon', View.readCov_eq_canon', hL]

include hz in
theorem cot_entry (t : Fin cfg0.N) (r : Fin 512) (l : Fin 1024) : cot m c W t (ix2 r l) = ((dh W (Z (row t r)) l : ℝ) : EReal) := by
  refine kernel_dh _ _ _ _ W (Z (row t r)) r l (fun e => ?_) (fun e => ?_) (fun e => ?_) (fun e => ?_)
  · refine Eq.trans ?_ ((blk3 m c t r (col 0 e)).trans (hz _ _))
    exact ld_z0 _ r e
  · refine Eq.trans ?_ ((blk3 m c t r (col 1 e)).trans (hz _ _))
    exact ld_z1 _ r e
  · exact ld_w0 _ l e
  · exact ld_w1 _ l e

include hw in
theorem weights (t : Fin cfg0.N) (b : Fin 4) (k : Fin 1024) (e : Fin 640) :
    (iblk m c 4 t : FVec Ideal S4x1x1024x640 .bf16) (ix4 b 0 k e) = ((W k (quarter b e) : ℝ) : EReal) :=
  (blk4 m c t b k e).trans (hw _ _)

include hx hg hd hz in
/-- What point `t` writes to the gradient's block. -/
theorem point5 (t : Fin cfg0.N) (p : FVec Ideal S512x1024 .f32) (hp : p = cot m c W t) (y : S512x1024.Idx) :
    k0_pay1 (F := Ideal) p (iblk m c 2 t) (k0_pay10 (F := Ideal) (iblk m c 0 t)) (k0_pay11 (F := Ideal) (iblk m c 0 t))
      (k0_pay12 (F := Ideal) (iblk m c 1 t)) y = grad X D G W Z (ix2 (row t (y 0)) (y 1)) := by
  subst hp
  idx_vars y
  exact kernel_dx _ _ _ _ (X (row t y0)) G (dh W (Z (row t y0))) (D (row t y0) y1) y0 (fun k => (blk0 m c t y0 k).trans (hx _ k))
    (fun k => (blk1 m c t k).trans (hg k)) (fun k => cot_entry m c W Z hz t y0 k) y1 ((blk2 m c t y0 y1).trans (hd _ _))

include hx hz in
/-- What point `t` adds to the gain's gradient. -/
theorem point7 (t : Fin cfg0.N) (p : FVec Ideal S512x1024 .f32) (hp : p = cot m c W t) (acc : FVec Ideal S1x1024 .f32) (j : S1x1024.Idx) :
    k0_pay3 (F := Ideal) p (k0_pay11 (F := Ideal) (iblk m c 0 t)) acc j
      = acc j + ((∑ r, NormGrad.dgain (X (row t r)) (dh W (Z (row t r))) (j 1) : ℝ) : EReal) := by
  subst hp
  idx_vars j
  obtain rfl : j0 = 0 := Subsingleton.elim _ _
  exact kernel_dg _ _ (fun r => X (row t r)) (fun r => dh W (Z (row t r))) (fun r k => (blk0 m c t r k).trans (hx _ k))
    (fun r k => cot_entry m c W Z hz t r k) acc j1

theorem zero7 (j : S1x1024.Idx) : k0_pay8 (F := Ideal) j = 0 := by pointwise [k0_pay8]

/-- The 32 blocks of 512 rows are the 16384 rows. -/
theorem rows (f : Fin 16384 → ℝ) (t : Fin cfg0.N) (h : ∀ s : Fin 32, 32 * (t.val / 32) + s.val < cfg0.N) :
    ∑ s : Fin 32, ∑ r : Fin 512, f (row ⟨32 * (t.val / 32) + s.val, h s⟩ r) = ∑ r, f r := by
  refine Fin.sum_mul_add_congr fun s k hl => congrArg f (Fin.ext ?_)
  have := (idx t).1
  show (32 * (t.val / 32) + s.val) * 512 + k.val = s.val * 512 + k.val
  omega

include hx hg hw hd hz

/-- What the outputs hold after point `t`: the two blocks of the gradient. -/
theorem outs (t : Fin cfg0.N) (y : S512x1024.Idx) :
    (outsAt0 m c t.val t.isLt).1 y = grad X D G W Z (ix2 (row t (y 0)) (y 1))
      ∧ (outsAt0 m c t.val t.isLt).2.1 y = grad X D G W Z (ix2 (row t (y 0)) (y 1)) := by
  by_cases h : t.val % 32 = 0
  · rw [outsAt0_A m c t h h]; frame_out
    exact ⟨point5 m c X D G W Z hx hg hd hz t _ (first_cot m c W t _ _ (canon_wide _ W (weights m c W hw t))) y, point5 m c X D G W Z hx hg hd hz t _ (first_cot m c W t _ _ (canon_wide _ W (weights m c W hw t))) y⟩
  · rw [outsAt0_B m c t h h]; frame_out
    rw [scratch m c W hw, read_unread_whole]
    exact ⟨point5 m c X D G W Z hx hg hd hz t _ rfl y, point5 m c X D G W Z hx hg hd hz t _ rfl y⟩

/-- The gradient's array. -/
theorem final5 : (dats m 0 c).arrAt 5 cfg0.N = grad X D G W Z := by
  refine (dats m 0 c).arrAt_eq_of_covers 5 _ (by decide +kernel) fun t _ y => ?_
  blk_simp
  rw [after0_5]
  exact (outs m c X D G W Z hx hg hw hd hz t y).1.trans (congrArg (grad X D G W Z) (by blk_ext [idx t]))

/-- The gradient's array in the narrow format: the same values. -/
theorem final6 : (dats m 0 c).arrAt 6 cfg0.N = (show FVec Ideal S16384x1024 .bf16 from grad X D G W Z) := by
  refine (dats m 0 c).arrAt_eq_of_covers 6 _ (by decide +kernel) fun t _ y => ?_
  blk_simp
  rw [after0_6]
  exact (outs m c X D G W Z hx hg hw hd hz t y).2.trans (congrArg (grad X D G W Z) (by blk_ext [idx t]))

omit hg hd in
/-- The gain's gradient's array. -/
theorem final7 : (dats m 0 c).arrAt 7 cfg0.N = gain X W Z := by
  refine (dats m 0 c).arrAt_eq_of_covers 7 _ (by decide +kernel) fun t hf y => ?_
  blk_simp
  rw [after0_7, Pipeline.eq_sum_fin_of_reset_step_apply_of_flush (fun n h => (outsAt0 m c n h).2.2.1) 32 (fun _ => 0)
    (fun p j => ((∑ r, NormGrad.dgain (X (row p r)) (dh W (Z (row p r))) (j 1) : ℝ) : EReal))
    (fun t h j => by
      rw [outsAt0_A m c t h h]; frame_out
      exact (point7 m c X W Z hx hz t _ (first_cot m c W t _ _ (canon_wide _ W (weights m c W hw t))) _ j).trans (by rw [zero7]))
    (fun t h j => by
      rw [outsAt0_B m c t h h]; frame_out
      rw [scratch m c W hw, read_unread_whole]
      exact point7 m c X W Z hx hz t _ rfl _ j) t ((flush0_7 t).mp hf) _, zero_add]
  refine (coe_sum _ _).trans ?_
  rw [rows (fun r => NormGrad.dgain (X r) (dh W (Z r)) (y 1)) t]
  exact congrArg (gain X W Z) (show y = _ by blk_ext [idx t])

end Cert.IprojValue

end
-- ==== Proof.IprojClaim.lean ====
/-
  The input projection's claims: the kernel's three result arrays are the reference's.
-/
module

public import proofs.«01_k».proof.Defs
public import proofs.«01_k».proof.Proof.IprojValue
public import proofs.«01_k».proof.Proof.Gen.IprojRefIdeal.Run
public import proofs.«01_k».proof.Proof.Finite
public import Idealize.ShloMosaic.Lib.Claim
public import proofs.«01_k».proof.Proof.Gen.Pre_iproj_finite

@[expose] public section

set_option maxRecDepth 100000

noncomputable section

open Idealize.ShloMosaic Idealize.ShloMosaic.TcCoe Idealize.SL.Sem

namespace Cert.IprojClaim

open Cert.RealCalc

/-- The reference runs to the end and keeps its arguments; it has no semaphore. -/
theorem reference : @Cert.quiescent_IprojRefIdeal Cert.IprojRefIdeal.Gen.facts := fun m g _ => by
  refine θ_run_mono (Cert.IprojRefIdeal.Value.run m g) fun r h => ⟨fun c => ?_, sem_eq_zero_of_no_sems (by decide) r.2⟩
  obtain ⟨_, _, _, h⟩ := h c
  exact h

open Cert.IprojPoint Cert.IprojValue

section
open Cert.IprojRefIdeal Cert.IprojRefIdeal.Gen

/-- The reference's first result, entry by entry. -/
theorem ref_dx (m : (ℓ : Loc nD τ sig) → Buf (Elt Ideal) ℓ) (c : Dev nD) (X D : Fin 16384 → Fin 1024 → ℝ) (G : Fin 1024 → ℝ)
    (W : Fin 1024 → Fin 2560 → ℝ) (Z : Fin 16384 → Fin 2560 → ℝ)
    (hx : ∀ r k, m ((c.tc : Thread nD τ).loc main_arg0) (ix2 r k) = ((X r k : ℝ) : EReal))
    (hg : ∀ k, m ((c.tc : Thread nD τ).loc main_arg1) (ix1 k) = ((G k : ℝ) : EReal))
    (hw : ∀ k e, m ((c.tc : Thread nD τ).loc main_arg2) (ix2 k e) = ((W k e : ℝ) : EReal))
    (hd : ∀ r k, m ((c.tc : Thread nD τ).loc main_arg3) (ix2 r k) = ((D r k : ℝ) : EReal))
    (hz : ∀ r e, m ((c.tc : Thread nD τ).loc main_arg4) (ix2 r e) = ((Z r e : ℝ) : EReal)) (r : Fin 16384) (l : Fin 1024) :
    Cert.IprojRefIdeal.Value.res_out0 m c (ix2 r l) = grad X D G W Z (ix2 r l) := by
  unfold Cert.IprojRefIdeal.Value.res_out0 Cert.IprojRefIdeal.Value.res_main_v38
  pointwise
  simp only [hx, hg, hw, hd, hz, ofBits_1024, ofBits_eps, ofBits_neg_half, ← EReal.coe_mul, coe_sum, div_1024, ← EReal.coe_add, rsqrt_coe (NormGrad.pos _),
    div_coe (NormGrad.pos _).ne', Finset.univ_unique, Finset.sum_singleton]
  exact congrArg _ (NormGrad.dx_eq (X r) G (dh W (Z r)) (D r l) l)
end

/-- The gradient in both formats and the gain's gradient are the reference's, on finite inputs. -/
theorem algebraic : @Cert.algebraic_IprojIdeal_IprojRefIdeal_pre_iproj_finite Cert.IprojIdeal.Gen.facts Cert.IprojRefIdeal.Gen.facts Cert.Pre_iproj_finite.Gen.facts := by
  pair_intro
  · run_from Cert.IprojIdeal.Value.run_blocks m g
  · run_from Cert.IprojRefIdeal.Value.run m' g'
    all_goals
      obtain ⟨h0, h1, h2, h3, h4⟩ := hpre c
      choose X hx using fun (r : Fin 16384) (k : Fin 1024) => Finite.entry _ _ h0 (ix2 r k)
      choose G hg using fun k : Fin 1024 => Finite.entry _ _ h1 (ix1 k)
      choose W hw using fun (k : Fin 1024) (e : Fin 2560) => Finite.entry _ _ h2 (ix2 k e)
      choose D hd using fun (r : Fin 16384) (k : Fin 1024) => Finite.entry _ _ h3 (ix2 r k)
      choose Z hz using fun (r : Fin 16384) (e : Fin 2560) => Finite.entry _ _ h4 (ix2 r e)
    · rw [final5 m c X D G W Z hx hg hw hd hz]
      funext j
      idx_vars j
      exact (ref_dx m' c X D G W Z (by simpa only [hagree c] using hx) (by simpa only [hagree c] using hg) (by simpa only [hagree c] using hw)
        (by simpa only [hagree c] using hd) (by simpa only [hagree c] using hz) _ _)
    · rw [final6 m c X D G W Z hx hg hw hd hz]
      funext j
      idx_vars j
      exact (ref_dx m' c X D G W Z (by simpa only [hagree c] using hx) (by simpa only [hagree c] using hg) (by simpa only [hagree c] using hw)
        (by simpa only [hagree c] using hd) (by simpa only [hagree c] using hz) _ _)
    · rw [final7 m c X W Z hx hw hz]
      funext j
      idx_vars j
      pointwise
      simp only [hx, hw, hz, ofBits_1024, ofBits_eps, ← EReal.coe_mul, coe_sum, div_1024, ← EReal.coe_add, rsqrt_coe (NormGrad.pos _),
        Finset.univ_unique, Finset.sum_singleton]
      refine congrArg _ (Finset.sum_congr rfl fun r _ => ?_)
      show _ = NormGrad.dgain (X r) (dh W (Z r)) j1
      unfold NormGrad.dgain NormGrad.inv dh
      ring

end Cert.IprojClaim

end
-- ==== Proof.OprojPoint.lean ====
/-
  The output projection's gradient at one grid point, as real numbers: the row's gradient through the norm, its products
  with the transposed weights, the scaled inputs' gradient, and what the point adds to the three sums over rows.
-/
module

public import proofs.«01_k».proof.Proof.NormGrad
public import proofs.«01_k».proof.Proof.Gen.OprojIdeal.Skeleton
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OprojPoint

open Cert.RealCalc Cert.OprojIdeal Cert.OprojIdeal.Gen

/-- The cotangent of the projection's input row: the product with the transposed weights. -/
def dyg (E : Fin 1024 → ℝ) (W : Fin 1024 → Fin 1024 → ℝ) (k : Fin 1024) : ℝ := ∑ l, E l * W k l

/-- Feature `k` of group `b`. -/
def feat (b : Fin 4) (k : Fin 256) : Fin 1024 := ⟨256 * b.val + k.val, by omega⟩

theorem feat0 (x : Fin 256) (h : (x : ℕ) < 1024) : (⟨x, h⟩ : Fin 1024) = feat 0 x := Fin.ext (by simp [feat])
theorem feat1 (x : Fin 256) (h : 256 + (x : ℕ) < 1024) : (⟨256 + x, h⟩ : Fin 1024) = feat 1 x := Fin.ext (by simp [feat])
theorem feat2 (x : Fin 256) (h : 512 + (x : ℕ) < 1024) : (⟨512 + x, h⟩ : Fin 1024) = feat 2 x := Fin.ext (by simp [feat])
theorem feat3 (x : Fin 256) (h : 768 + (x : ℕ) < 1024) : (⟨768 + x, h⟩ : Fin 1024) = feat 3 x := Fin.ext (by simp [feat])

/-- A load of one group's weights. -/
theorem ld_w (w : FVec Ideal S4x1x256x1024 .bf16) (n : ℕ) (hn : n < 4) (inb : ∀ a, (![n, 0, 0, 0] : Fin 4 → ℕ) a + (![1, 1, 256, 1024] : Fin 4 → ℕ) a ≤ S4x1x256x1024.size a)
    (k : Fin 256) (l : Fin 1024) :
    View.ld (Val := Elt Ideal) (e' := .bf16) w (Rect.unit (s := S4x1x256x1024) ![n, 0, 0, 0] ![1, 1, 256, 1024] inb) (ix4 0 0 k l) = w (ix4 ⟨n, hn⟩ 0 k l) := by
  refine View.ld_unit_apply_of (Val := Elt Ideal) (e := .bf16) w _ _ _ _ _ ?_
  intro a; fin_cases a <;> simp

/-- A load of one group of a row of 1024. -/
theorem ld_g (v : FVec Ideal S1x1024 .f32) (b : Fin 4) (n : ℕ) (hn : n = 256 * b.val) (inb : ∀ a, (![0, n] : Fin 2 → ℕ) a + (![1, 256] : Fin 2 → ℕ) a ≤ S1x1024.size a) (k : Fin 256) :
    View.ld (Val := Elt Ideal) (e' := .f32) v (Rect.unit (s := S1x1024) ![0, n] ![1, 256] inb) (ix2 0 k) = v (ix2 0 (feat b k)) := by
  refine View.ld_unit_apply_of (Val := Elt Ideal) (e := .f32) v _ _ _ _ _ ?_
  intro a; fin_cases a <;> simp [feat, hn]

/-- A load of one group of the weights' gradient. -/
theorem ld_dw (v : FVec Ideal S4x256x1024 .f32) (n : ℕ) (hn : n < 4) (inb : ∀ a, (![n, 0, 0] : Fin 3 → ℕ) a + (![1, 256, 1024] : Fin 3 → ℕ) a ≤ S4x256x1024.size a)
    (k : Fin 256) (l : Fin 1024) :
    View.ld (Val := Elt Ideal) (e' := .f32) v (Rect.unit (s := S4x256x1024) ![n, 0, 0] ![1, 256, 1024] inb) (ix3 0 k l) = v (ix3 ⟨n, hn⟩ k l) := by
  refine View.ld_unit_apply_of (Val := Elt Ideal) (e := .f32) v _ _ _ _ _ ?_
  intro a; fin_cases a <;> simp

section Norm

variable (x d h : FVec Ideal S1024x1024 .f32) (g : FVec Ideal S1x1024 .f32)

/-- What the body writes to the row's gradient. -/
theorem kernel_dx (X G H : Fin 1024 → ℝ) (D : ℝ) (r l : Fin 1024) (hx : ∀ k, x (ix2 r k) = ((X k : ℝ) : EReal))
    (hg : ∀ k, g (ix2 0 k) = ((G k : ℝ) : EReal)) (hh : ∀ k, h (ix2 r k) = ((H k : ℝ) : EReal)) (hd : d (ix2 r l) = ((D : ℝ) : EReal)) :
    k0_pay9 (F := Ideal) x g h d (ix2 r l) = ((NormGrad.dx X G H D l : ℝ) : EReal) := by
  pointwise [k0_pay9, k0_pay8, k0_pay7, k0_pay6]
  simp only [hx, hd, hg, hh, ofBits_1024, ofBits_eps, ← EReal.coe_mul, coe_sum, div_1024, ← EReal.coe_add, ← EReal.coe_sub, rsqrt_coe (NormGrad.pos X)]
  rfl

/-- What the body adds to the norm's gain's gradient. -/
theorem kernel_dgf (X H : Fin 1024 → Fin 1024 → ℝ) (hx : ∀ r k, x (ix2 r k) = ((X r k : ℝ) : EReal))
    (hh : ∀ r k, h (ix2 r k) = ((H r k : ℝ) : EReal)) (acc : FVec Ideal S1x1024 .f32) (l : Fin 1024) :
    k0_pay11 (F := Ideal) (k0_pay10 (F := Ideal) x h) acc (ix2 0 l) = acc (ix2 0 l) + ((∑ r, NormGrad.dgain (X r) (H r) l : ℝ) : EReal) := by
  pointwise [k0_pay11, k0_pay10, k0_pay8, k0_pay7, k0_pay6]
  simp only [hx, hh, ofBits_1024, ofBits_eps, ← EReal.coe_mul, coe_sum, div_1024, ← EReal.coe_add, ← EReal.coe_sub, rsqrt_coe (NormGrad.pos _)]
  rfl

end Norm

section Product

variable (p : FVec Ideal S1024x1024 .f32) (yv : FVec Ideal S1024x1024 .bf16) (g : FVec Ideal S1x1024 .f32)
  (E Y : Fin 1024 → Fin 1024 → ℝ) (G : Fin 1024 → ℝ) (W : Fin 1024 → Fin 1024 → ℝ)
  (hp : ∀ r l, p (ix2 r l) = ((E r l : ℝ) : EReal)) (hy : ∀ r k, yv (ix2 r k) = ((Y r k : ℝ) : EReal))
  (hg : ∀ k, g (ix2 0 k) = ((G k : ℝ) : EReal))

section
variable (w0 w1 w2 w3 : FVec Ideal S1x1x256x1024 .bf16)
  (h0 : ∀ k l, w0 (ix4 0 0 k l) = ((W (feat 0 k) l : ℝ) : EReal)) (h1 : ∀ k l, w1 (ix4 0 0 k l) = ((W (feat 1 k) l : ℝ) : EReal))
  (h2 : ∀ k l, w2 (ix4 0 0 k l) = ((W (feat 2 k) l : ℝ) : EReal)) (h3 : ∀ k l, w3 (ix4 0 0 k l) = ((W (feat 3 k) l : ℝ) : EReal))

/-- The four stores of the inputs' gradient. -/
abbrev dynL : List (View.Piece (Elt Ideal) S1024x1024 .bf16) :=
  [⟨Rect.unit ![0, 768] ![1024, 256] inb_S1024x1024_S1024x256_0_768, k0_pay2 (F := Ideal) (k0_pay13 g) (k0_pay29 (k0_pay12 p) w3)⟩,
    ⟨Rect.unit ![0, 512] ![1024, 256] inb_S1024x1024_S1024x256_0_512, k0_pay28 (F := Ideal) (k0_pay13 g) (k0_pay25 (k0_pay12 p) w2)⟩,
    ⟨Rect.unit ![0, 256] ![1024, 256] inb_S1024x1024_S1024x256_0_256, k0_pay24 (F := Ideal) (k0_pay12 p) (k0_pay13 g) w1⟩,
    ⟨Rect.unit ![0, 0] ![1024, 256] inb_S1024x1024_S1024x256_0_0, k0_pay20 (F := Ideal) (k0_pay19 p g w0)⟩]

include hp hg h0 h1 h2 h3 in
theorem dyn_entry (y : S1024x1024.Idx) : View.canon (dynL p g w0 w1 w2 w3) y = ((dyg (E (y 0)) W (y 1) * G (y 1) : ℝ) : EReal) := by
  canon_tiles x k
  all_goals
    idx_vars x
    idx_vars y
    pointwise [k0_pay2, k0_pay28, k0_pay24, k0_pay20, k0_pay13, k0_pay29, k0_pay25, k0_pay21, k0_pay19, k0_pay16, k0_pay12]
    simp only [feat0, feat1, feat2, feat3, h0, h1, h2, h3, hp, hg, ← EReal.coe_mul, coe_sum]
    obtain rfl : y0 = x0 := Fin.ext k0
    obtain ⟨n, hn⟩ := y1
    obtain rfl : n = _ := k1
    simp only [feat0, feat1, feat2, feat3]
    rfl

/-- The four stores of the gain's gradient, from what it holds. -/
abbrev dgL (a0 a1 a2 a3 : FVec Ideal S1x256 .f32) : List (View.Piece (Elt Ideal) S1x1024 .f32) :=
  [⟨Rect.unit ![0, 768] ![1, 256] inb_S1x1024_S1x256_0_768, k0_pay1 (F := Ideal) (k0_pay14 yv) (k0_pay29 (k0_pay12 p) w3) a3⟩,
    ⟨Rect.unit ![0, 512] ![1, 256] inb_S1x1024_S1x256_0_512, k0_pay27 (F := Ideal) (k0_pay14 yv) (k0_pay25 (k0_pay12 p) w2) a2⟩,
    ⟨Rect.unit ![0, 256] ![1, 256] inb_S1x1024_S1x256_0_256, k0_pay23 (F := Ideal) (k0_pay12 p) (k0_pay14 yv) w1 a1⟩,
    ⟨Rect.unit ![0, 0] ![1, 256] inb_S1x1024_S1x256_0_0, k0_pay18 (F := Ideal) p yv w0 a0⟩]

include hp hy h0 h1 h2 h3 in
theorem dg_entry (acc : FVec Ideal S1x1024 .f32) (a0 a1 a2 a3 : FVec Ideal S1x256 .f32) (e0 : ∀ k, a0 (ix2 0 k) = acc (ix2 0 (feat 0 k)))
    (e1 : ∀ k, a1 (ix2 0 k) = acc (ix2 0 (feat 1 k))) (e2 : ∀ k, a2 (ix2 0 k) = acc (ix2 0 (feat 2 k))) (e3 : ∀ k, a3 (ix2 0 k) = acc (ix2 0 (feat 3 k)))
    (y : S1x1024.Idx) :
    View.canon (dgL p yv w0 w1 w2 w3 a0 a1 a2 a3) y = acc y + ((∑ r, dyg (E r) W (y 1) * Y r (y 1) : ℝ) : EReal) := by
  canon_tiles x k
  all_goals
    idx_vars x
    idx_vars y
    obtain rfl : x0 = 0 := Subsingleton.elim _ _
    obtain rfl : y0 = 0 := Subsingleton.elim _ _
    pointwise [k0_pay1, k0_pay27, k0_pay23, k0_pay18, k0_pay14, k0_pay29, k0_pay25, k0_pay21, k0_pay16, k0_pay12]
    simp only [feat0, feat1, feat2, feat3, h0, h1, h2, h3, e0, e1, e2, e3, hp, hy, ← EReal.coe_mul, coe_sum]
    obtain ⟨n, hn⟩ := y1
    obtain rfl : n = _ := k1
    simp only [feat0, feat1, feat2, feat3]
    rfl
end

/-- The four stores of the weights' gradient, from what it holds. -/
abbrev dwL (a0 a1 a2 a3 : FVec Ideal S1x256x1024 .f32) : List (View.Piece (Elt Ideal) S4x256x1024 .f32) :=
  [⟨Rect.unit ![3, 0, 0] ![1, 256, 1024] inb_S4x256x1024_S1x256x1024_3_0_0, k0_pay30 (F := Ideal) (k0_pay12 p) (k0_pay15 g yv) a3⟩,
    ⟨Rect.unit ![2, 0, 0] ![1, 256, 1024] inb_S4x256x1024_S1x256x1024_2_0_0, k0_pay26 (F := Ideal) (k0_pay12 p) (k0_pay15 g yv) a2⟩,
    ⟨Rect.unit ![1, 0, 0] ![1, 256, 1024] inb_S4x256x1024_S1x256x1024_1_0_0, k0_pay22 (F := Ideal) (k0_pay12 p) (k0_pay15 g yv) a1⟩,
    ⟨Rect.unit ![0, 0, 0] ![1, 256, 1024] inb_S4x256x1024_S1x256x1024_0_0_0, k0_pay17 (F := Ideal) p g yv a0⟩]

include hp hg hy in
theorem dw_entry (acc : FVec Ideal S4x256x1024 .f32) (a0 a1 a2 a3 : FVec Ideal S1x256x1024 .f32) (e0 : ∀ k l, a0 (ix3 0 k l) = acc (ix3 0 k l))
    (e1 : ∀ k l, a1 (ix3 0 k l) = acc (ix3 1 k l)) (e2 : ∀ k l, a2 (ix3 0 k l) = acc (ix3 2 k l)) (e3 : ∀ k l, a3 (ix3 0 k l) = acc (ix3 3 k l))
    (y : S4x256x1024.Idx) :
    View.canon (dwL p yv g a0 a1 a2 a3) y = acc y + ((∑ r, Y r (feat (y 0) (y 1)) * G (feat (y 0) (y 1)) * E r (y 2) : ℝ) : EReal) := by
  canon_tiles x k
  all_goals
    idx_vars x
    idx_vars y
    obtain rfl : x0 = 0 := Subsingleton.elim _ _
    pointwise [k0_pay30, k0_pay26, k0_pay22, k0_pay17, k0_pay15, k0_pay14, k0_pay13, k0_pay12]
    simp only [feat0, feat1, feat2, feat3, e0, e1, e2, e3, hp, hy, hg, ← EReal.coe_mul, coe_sum]
    obtain rfl : y1 = x1 := Fin.ext k1
    obtain rfl : y2 = x2 := Fin.ext k2
    obtain ⟨n, hn⟩ := y0
    obtain rfl : n = _ := k0
    rfl

end Product

end Cert.OprojPoint

end
-- ==== Proof.Pieces.lean ====
/-
  A buffer filled by stores that cover it: what was stored before them is not seen.
-/
module

public import Idealize.ShloMosaic.Lib.Pipeline.ValueKit

@[expose] public section

noncomputable section

open Idealize.ShloMosaic

namespace Cert.Pieces

variable {S : Shape} {e : EltTy} {Val : EltTy → Type} [∀ e, Nonempty (Val e)]

/-- At an index that one of the later stores covers, the earlier stores do not matter. -/
theorem canon_above (L' : List (View.Piece Val S e)) : ∀ (L : List (View.Piece Val S e)) (y : S.Idx), (∃ p ∈ L, y ∈ p.1.set) →
    View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem p _ hm, View.canon_cons_of_not_mem p _ hm]
      refine canon_above L' L y ?_
      obtain ⟨q, hq, hy⟩ := h
      rcases List.mem_cons.mp hq with rfl | hq
      · exact absurd hy hm
      · exact ⟨q, hq, hy⟩

end Cert.Pieces

end
-- ==== Proof.OprojValue.lean ====
/-
  The output projection's five gradient arrays after the run: the rows' gradient, the inputs' gradient, and the three sums
  over all 16384 rows that the 16 grid points accumulate.
-/
module

public import proofs.«01_k».proof.Proof.OprojPoint
public import proofs.«01_k».proof.Proof.Pieces
public import proofs.«01_k».proof.Proof.Gen.OprojIdeal.Value
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OprojValue

open Cert.RealCalc Cert.OprojPoint Cert.OprojIdeal Cert.OprojIdeal.Gen

variable (m : (ℓ : Loc nD τ sig) → Buf (Elt Ideal) ℓ) (c : Dev nD)

/-- The windows' block indices. -/
theorem idx : ∀ t : Fin cfg0.N, t.val < 16 ∧ win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0, 0, 0]
    ∧ win0_7.index t = ![t.val, 0] ∧ win0_8.index t = ![0, 0] ∧ win0_9.index t = ![t.val, 0] ∧ win0_10.index t = ![0, 0] ∧ win0_11.index t = ![0, 0, 0] :=
  (by decide +kernel : ∀ t : Fin grid0.N, _)

theorem row_lt (t : Fin cfg0.N) (r : Fin 1024) : t.val * 1024 + r.val < 16384 := by
  have := (idx t).1; omega

/-- Row `r` of the block of point `t`, in the array. -/
abbrev row (t : Fin cfg0.N) (r : Fin 1024) : Fin 16384 := ⟨t.val * 1024 + r.val, row_lt t r⟩

/-- The stream after the projection, as the host forms it. -/
def stream : FVec Ideal S16384x1024 .f32 :=
  addf (m ((c : Thread nD τ).loc main_arg0) : FVec Ideal S16384x1024 .f32)
    (Host.dotGeneral (F := Ideal) (φ₁ := .f32) (φ₂ := .f32) dot_S16384x1024_S1024x1024_S16384x1024_1_0_0_1_n_n none
      (mulf (F := Ideal) (φ := .f32) (m ((c : Thread nD τ).loc main_arg1) : FVec Ideal S16384x1024 .f32)
        (broadcastInDim S16384x1024 ![0, 1] bcast_S1x1024_S16384x1024_0_1 (broadcastInDim S1x1024 ![1] bcast_S1024_S1x1024_1 (m ((c : Thread nD τ).loc main_arg2) : FVec Ideal S1024 .f32))))
      (m ((c : Thread nD τ).loc main_arg3) : FVec Ideal S1024x1024 .f32))

theorem V_stream : V m c main_v4 = stream m c := by
  simp only [V, hostOps0]
  after_results_simp
  rfl

theorem blk0 (t : Fin cfg0.N) (r k : Fin 1024) : (iblk m c 0 t : FVec Ideal S1024x1024 .f32) (ix2 r k) = stream m c (ix2 (row t r) k) := by
  rw [← V_stream]
  blk_ext [iblk, idx t]

theorem blk1 (t : Fin cfg0.N) (k : Fin 1024) :
    (iblk m c 1 t : FVec Ideal S1x1024 .f32) (ix2 0 k) = (m ((c : Thread nD τ).loc main_arg4) : FVec Ideal S1024 .f32) (ix1 k) := by
  blk_point [iblk, V, idx t]

theorem blk2 (t : Fin cfg0.N) (r k : Fin 1024) :
    (iblk m c 2 t : FVec Ideal S1024x1024 .f32) (ix2 r k) = (m ((c : Thread nD τ).loc main_arg6) : FVec Ideal S16384x1024 .f32) (ix2 (row t r) k) := by
  blk_ext [iblk, V, idx t]

theorem blk3 (t : Fin cfg0.N) (r k : Fin 1024) :
    (iblk m c 3 t : FVec Ideal S1024x1024 .f32) (ix2 r k) = (m ((c : Thread nD τ).loc main_arg5) : FVec Ideal S16384x1024 .f32) (ix2 (row t r) k) := by
  blk_ext [iblk, V, idx t]

theorem blk4 (t : Fin cfg0.N) (r k : Fin 1024) :
    (iblk m c 4 t : FVec Ideal S1024x1024 .bf16) (ix2 r k) = (m ((c : Thread nD τ).loc main_arg1) : FVec Ideal S16384x1024 .f32) (ix2 (row t r) k) := by
  blk_point [iblk, V, idx t]

theorem blk5 (t : Fin cfg0.N) (k : Fin 1024) :
    (iblk m c 5 t : FVec Ideal S1x1024 .f32) (ix2 0 k) = (m ((c : Thread nD τ).loc main_arg2) : FVec Ideal S1024 .f32) (ix1 k) := by
  blk_point [iblk, V, idx t]

theorem blk6 (t : Fin cfg0.N) (b : Fin 4) (k : Fin 256) (l : Fin 1024) :
    (iblk m c 6 t : FVec Ideal S4x1x256x1024 .bf16) (ix4 b 0 k l) = (m ((c : Thread nD τ).loc main_arg3) : FVec Ideal S1024x1024 .f32) (ix2 (feat b k) l) := by
  unfold feat
  blk_point [iblk, V, idx t]

/-- The residual stream after the projection. -/
def x1 (X Y : Fin 16384 → Fin 1024 → ℝ) (P : Fin 1024 → ℝ) (W : Fin 1024 → Fin 1024 → ℝ) (r : Fin 16384) (l : Fin 1024) : ℝ :=
  X r l + ∑ e, Y r e * P e * W e l

/-- The arguments' real values: the stream, the mixers' output, its gain, the weights, the norm's gain, the two cotangents. -/
structure Args where
  X : Fin 16384 → Fin 1024 → ℝ
  Y : Fin 16384 → Fin 1024 → ℝ
  P : Fin 1024 → ℝ
  W : Fin 1024 → Fin 1024 → ℝ
  G : Fin 1024 → ℝ
  D : Fin 16384 → Fin 1024 → ℝ
  H : Fin 16384 → Fin 1024 → ℝ

variable (A : Args)

/-- The stream's rows after the projection. -/
abbrev Args.x1 (r : Fin 16384) : Fin 1024 → ℝ := OprojValue.x1 A.X A.Y A.P A.W r

/-- The stream's gradient. -/
def Args.dx (r : Fin 16384) (l : Fin 1024) : ℝ := NormGrad.dx (A.x1 r) A.G (A.H r) (A.D r l) l

/-- The five results. -/
def dxA : FVec Ideal S16384x1024 .f32 := fun i => ((A.dx (i 0) (i 1) : ℝ) : EReal)
def dgfA : FVec Ideal S1x1024 .f32 := fun i => ((∑ r, NormGrad.dgain (A.x1 r) (A.H r) (i 1) : ℝ) : EReal)
def dynA : FVec Ideal S16384x1024 .bf16 := fun i => ((dyg (A.dx (i 0)) A.W (i 1) * A.P (i 1) : ℝ) : EReal)
def dgA : FVec Ideal S1x1024 .f32 := fun i => ((∑ r, dyg (A.dx r) A.W (i 1) * A.Y r (i 1) : ℝ) : EReal)
def dwA : FVec Ideal S4x256x1024 .f32 := fun i => ((∑ r, A.Y r (feat (i 0) (i 1)) * A.P (feat (i 0) (i 1)) * A.dx r (i 2) : ℝ) : EReal)

/-- The program's arguments are the real values `A`. -/
structure Holds : Prop where
  x : ∀ r k, (m ((c : Thread nD τ).loc main_arg0) : FVec Ideal S16384x1024 .f32) (ix2 r k) = ((A.X r k : ℝ) : EReal)
  y : ∀ r k, (m ((c : Thread nD τ).loc main_arg1) : FVec Ideal S16384x1024 .f32) (ix2 r k) = ((A.Y r k : ℝ) : EReal)
  p : ∀ k, (m ((c : Thread nD τ).loc main_arg2) : FVec Ideal S1024 .f32) (ix1 k) = ((A.P k : ℝ) : EReal)
  w : ∀ k l, (m ((c : Thread nD τ).loc main_arg3) : FVec Ideal S1024x1024 .f32) (ix2 k l) = ((A.W k l : ℝ) : EReal)
  g : ∀ k, (m ((c : Thread nD τ).loc main_arg4) : FVec Ideal S1024 .f32) (ix1 k) = ((A.G k : ℝ) : EReal)
  d : ∀ r k, (m ((c : Thread nD τ).loc main_arg5) : FVec Ideal S16384x1024 .f32) (ix2 r k) = ((A.D r k : ℝ) : EReal)
  h : ∀ r k, (m ((c : Thread nD τ).loc main_arg6) : FVec Ideal S16384x1024 .f32) (ix2 r k) = ((A.H r k : ℝ) : EReal)

variable (hA : Holds m c A)
include hA

theorem x_entry (t : Fin cfg0.N) (r k : Fin 1024) : (iblk m c 0 t : FVec Ideal S1024x1024 .f32) (ix2 r k) = ((A.x1 (row t r) k : ℝ) : EReal) := by
  rw [blk0]
  pointwise [stream]
  simp only [hA.x, hA.y, hA.p, hA.w, ← EReal.coe_mul, coe_sum, ← EReal.coe_add]
  rfl

theorem h_entry (t : Fin cfg0.N) (r k : Fin 1024) : (iblk m c 2 t : FVec Ideal S1024x1024 .f32) (ix2 r k) = ((A.H (row t r) k : ℝ) : EReal) :=
  (blk2 m c t r k).trans (hA.h _ _)

theorem y_entry (t : Fin cfg0.N) (r k : Fin 1024) : (iblk m c 4 t : FVec Ideal S1024x1024 .bf16) (ix2 r k) = ((A.Y (row t r) k : ℝ) : EReal) :=
  (blk4 m c t r k).trans (hA.y _ _)

theorem p_entry (t : Fin cfg0.N) (k : Fin 1024) : (iblk m c 5 t : FVec Ideal S1x1024 .f32) (ix2 0 k) = ((A.P k : ℝ) : EReal) :=
  (blk5 m c t k).trans (hA.p _)

theorem dx_entry (t : Fin cfg0.N) (r l : Fin 1024) :
    k0_pay9 (F := Ideal) (iblk m c 0 t) (iblk m c 1 t) (iblk m c 2 t) (iblk m c 3 t) (ix2 r l) = ((A.dx (row t r) l : ℝ) : EReal) :=
  kernel_dx _ _ _ _ (A.x1 (row t r)) A.G (A.H (row t r)) (A.D (row t r) l) r l (x_entry m c A hA t r) (fun k => (blk1 m c t k).trans (hA.g k))
    (h_entry m c A hA t r) ((blk3 m c t r l).trans (hA.d _ _))

theorem w_entry (t : Fin cfg0.N) (n : ℕ) (hn : n < 4) (inb : ∀ a, (![n, 0, 0, 0] : Fin 4 → ℕ) a + (![1, 1, 256, 1024] : Fin 4 → ℕ) a ≤ S4x1x256x1024.size a) (k : Fin 256) (l : Fin 1024) :
    View.ld (Val := Elt Ideal) (e' := .bf16) (iblk m c 6 t) (Rect.unit (s := S4x1x256x1024) ![n, 0, 0, 0] ![1, 1, 256, 1024] inb) (ix4 0 0 k l) = ((A.W (feat ⟨n, hn⟩ k) l : ℝ) : EReal) :=
  (ld_w _ n hn inb k l).trans ((blk6 m c t _ k l).trans (hA.w _ _))

/-- What point `t` writes to the inputs' gradient. -/
theorem dyn_point (t : Fin cfg0.N) (y : S1024x1024.Idx) :
    View.canon (dynL (k0_pay9 (F := Ideal) (iblk m c 0 t) (iblk m c 1 t) (iblk m c 2 t) (iblk m c 3 t)) (iblk m c 5 t)
      (View.ld (Val := Elt Ideal) (e' := .bf16) (iblk m c 6 t) (Rect.unit (s := S4x1x256x1024) ![0, 0, 0, 0] ![1, 1, 256, 1024] inb_S4x1x256x1024_S1x1x256x1024_0_0_0_0))
      (View.ld (Val := Elt Ideal) (e' := .bf16) (iblk m c 6 t) (Rect.unit (s := S4x1x256x1024) ![1, 0, 0, 0] ![1, 1, 256, 1024] inb_S4x1x256x1024_S1x1x256x1024_1_0_0_0))
      (View.ld (Val := Elt Ideal) (e' := .bf16) (iblk m c 6 t) (Rect.unit (s := S4x1x256x1024) ![2, 0, 0, 0] ![1, 1, 256, 1024] inb_S4x1x256x1024_S1x1x256x1024_2_0_0_0))
      (View.ld (Val := Elt Ideal) (e' := .bf16) (iblk m c 6 t) (Rect.unit (s := S4x1x256x1024) ![3, 0, 0, 0] ![1, 1, 256, 1024] inb_S4x1x256x1024_S1x1x256x1024_3_0_0_0))) y
      = dynA A (ix2 (row t (y 0)) (y 1)) :=
  dyn_entry _ _ (fun r => A.dx (row t r)) A.P A.W (dx_entry m c A hA t) (p_entry m c A hA t) _ _ _ _ (w_entry m c A hA t 0 (by decide) _) (w_entry m c A hA t 1 (by decide) _)
    (w_entry m c A hA t 2 (by decide) _) (w_entry m c A hA t 3 (by decide) _) y

/-- What point `t` adds to the gain's gradient. -/
theorem dg_point (t : Fin cfg0.N) (acc : FVec Ideal S1x1024 .f32) (j : S1x1024.Idx) :
    View.canon (dgL (k0_pay9 (F := Ideal) (iblk m c 0 t) (iblk m c 1 t) (iblk m c 2 t) (iblk m c 3 t)) (iblk m c 4 t)
      (View.ld (Val := Elt Ideal) (e' := .bf16) (iblk m c 6 t) (Rect.unit (s := S4x1x256x1024) ![0, 0, 0, 0] ![1, 1, 256, 1024] inb_S4x1x256x1024_S1x1x256x1024_0_0_0_0))
      (View.ld (Val := Elt Ideal) (e' := .bf16) (iblk m c 6 t) (Rect.unit (s := S4x1x256x1024) ![1, 0, 0, 0] ![1, 1, 256, 1024] inb_S4x1x256x1024_S1x1x256x1024_1_0_0_0))
      (View.ld (Val := Elt Ideal) (e' := .bf16) (iblk m c 6 t) (Rect.unit (s := S4x1x256x1024) ![2, 0, 0, 0] ![1, 1, 256, 1024] inb_S4x1x256x1024_S1x1x256x1024_2_0_0_0))
      (View.ld (Val := Elt Ideal) (e' := .bf16) (iblk m c 6 t) (Rect.unit (s := S4x1x256x1024) ![3, 0, 0, 0] ![1, 1, 256, 1024] inb_S4x1x256x1024_S1x1x256x1024_3_0_0_0))
      (View.ld (Val := Elt Ideal) (e' := .f32) acc (Rect.unit (s := S1x1024) ![0, 0] ![1, 256] inb_S1x1024_S1x256_0_0))
      (View.ld (Val := Elt Ideal) (e' := .f32) acc (Rect.unit (s := S1x1024) ![0, 256] ![1, 256] inb_S1x1024_S1x256_0_256))
      (View.ld (Val := Elt Ideal) (e' := .f32) acc (Rect.unit (s := S1x1024) ![0, 512] ![1, 256] inb_S1x1024_S1x256_0_512))
      (View.ld (Val := Elt Ideal) (e' := .f32) acc (Rect.unit (s := S1x1024) ![0, 768] ![1, 256] inb_S1x1024_S1x256_0_768))) j
      = acc j + ((∑ r, dyg (A.dx (row t r)) A.W (j 1) * A.Y (row t r) (j 1) : ℝ) : EReal) :=
  dg_entry _ _ (fun r => A.dx (row t r)) (fun r => A.Y (row t r)) A.W (dx_entry m c A hA t) (y_entry m c A hA t) _ _ _ _ (w_entry m c A hA t 0 (by decide) _) (w_entry m c A hA t 1 (by decide) _)
    (w_entry m c A hA t 2 (by decide) _) (w_entry m c A hA t 3 (by decide) _) acc _ _ _ _ (ld_g acc 0 0 rfl _) (ld_g acc 1 256 rfl _) (ld_g acc 2 512 rfl _) (ld_g acc 3 768 rfl _) j

/-- What point `t` adds to the weights' gradient. -/
theorem dw_point (t : Fin cfg0.N) (acc : FVec Ideal S4x256x1024 .f32) (j : S4x256x1024.Idx) :
    View.canon (dwL (k0_pay9 (F := Ideal) (iblk m c 0 t) (iblk m c 1 t) (iblk m c 2 t) (iblk m c 3 t)) (iblk m c 4 t) (iblk m c 5 t)
      (View.ld (Val := Elt Ideal) (e' := .f32) acc (Rect.unit (s := S4x256x1024) ![0, 0, 0] ![1, 256, 1024] inb_S4x256x1024_S1x256x1024_0_0_0))
      (View.ld (Val := Elt Ideal) (e' := .f32) acc (Rect.unit (s := S4x256x1024) ![1, 0, 0] ![1, 256, 1024] inb_S4x256x1024_S1x256x1024_1_0_0))
      (View.ld (Val := Elt Ideal) (e' := .f32) acc (Rect.unit (s := S4x256x1024) ![2, 0, 0] ![1, 256, 1024] inb_S4x256x1024_S1x256x1024_2_0_0))
      (View.ld (Val := Elt Ideal) (e' := .f32) acc (Rect.unit (s := S4x256x1024) ![3, 0, 0] ![1, 256, 1024] inb_S4x256x1024_S1x256x1024_3_0_0))) j
      = acc j + ((∑ r, A.Y (row t r) (feat (j 0) (j 1)) * A.P (feat (j 0) (j 1)) * A.dx (row t r) (j 2) : ℝ) : EReal) :=
  dw_entry _ _ _ (fun r => A.dx (row t r)) (fun r => A.Y (row t r)) A.P (dx_entry m c A hA t) (y_entry m c A hA t) (p_entry m c A hA t) acc _ _ _ _
    (ld_dw acc 0 (by decide) _) (ld_dw acc 1 (by decide) _) (ld_dw acc 2 (by decide) _) (ld_dw acc 3 (by decide) _) j

/-- What point `t` adds to the norm's gain's gradient. -/
theorem dgf_point (t : Fin cfg0.N) (acc : FVec Ideal S1x1024 .f32) (j : S1x1024.Idx) :
    k0_pay11 (F := Ideal) (k0_pay10 (F := Ideal) (iblk m c 0 t) (iblk m c 2 t)) acc j
      = acc j + ((∑ r, NormGrad.dgain (A.x1 (row t r)) (A.H (row t r)) (j 1) : ℝ) : EReal) := by
  idx_vars j
  obtain rfl : j0 = 0 := Subsingleton.elim _ _
  exact kernel_dgf _ _ (fun r => A.x1 (row t r)) (fun r => A.H (row t r)) (x_entry m c A hA t) (h_entry m c A hA t) acc j1

omit hA

theorem zero8 (j : S1x1024.Idx) : k0_pay5 (F := Ideal) j = 0 := by pointwise [k0_pay5]
theorem zero10 (j : S1x1024.Idx) : k0_pay3 (F := Ideal) j = 0 := by pointwise [k0_pay3]
theorem zero11 (j : S4x256x1024.Idx) : k0_pay4 (F := Ideal) j = 0 := by pointwise [k0_pay4]

/-- The 16 blocks of 1024 rows are the 16384 rows. -/
theorem rows (f : Fin 16384 → ℝ) (t : Fin cfg0.N) (h : ∀ s : Fin 16, 16 * (t.val / 16) + s.val < cfg0.N) :
    ∑ s : Fin 16, ∑ r : Fin 1024, f (row ⟨16 * (t.val / 16) + s.val, h s⟩ r) = ∑ r, f r := by
  refine Fin.sum_mul_add_congr fun s k hl => congrArg f (Fin.ext ?_)
  have := (idx t).1
  show (16 * (t.val / 16) + s.val) * 1024 + k.val = s.val * 1024 + k.val
  omega

include hA

omit hA

section
variable (v : View sig .tc .vmem S1x1024 .f32) (z : FVec Ideal S1x1024 .f32) (w0 w1 w2 : FVec Ideal S1x256 .f32)

theorem dg_read0 : v.readCov (Val := Elt Ideal) (e := .f32) [⟨Rect.unit ![0, 0] ![1, 1024] inb_S1x1024_S1x1024_0_0, z⟩] (Rect.unit (s := S1x1024) ![0, 0] ![1, 256] inb_S1x1024_S1x256_0_0).toLoadRect = View.ld (Val := Elt Ideal) (e' := .f32) z (Rect.unit (s := S1x1024) ![0, 0] ![1, 256] inb_S1x1024_S1x256_0_0) := by
  rw [View.readCov_fill _ _ _ _ _ (by decide)]

theorem dg_read1 : v.readCov (Val := Elt Ideal) (e := .f32) [⟨(Rect.unit (s := S1x1024) ![0, 0] ![1, 256] inb_S1x1024_S1x256_0_0), w0⟩, ⟨Rect.unit ![0, 0] ![1, 1024] inb_S1x1024_S1x1024_0_0, z⟩] (Rect.unit (s := S1x1024) ![0, 256] ![1, 256] inb_S1x1024_S1x256_0_256).toLoadRect = View.ld (Val := Elt Ideal) (e' := .f32) z (Rect.unit (s := S1x1024) ![0, 256] ![1, 256] inb_S1x1024_S1x256_0_256) := by
  rw [View.readCov_skip _ _ _ _ _ (by rfl), View.readCov_fill _ _ _ _ _ (by decide)]

theorem dg_read2 : v.readCov (Val := Elt Ideal) (e := .f32) [⟨(Rect.unit (s := S1x1024) ![0, 256] ![1, 256] inb_S1x1024_S1x256_0_256), w1⟩, ⟨(Rect.unit (s := S1x1024) ![0, 0] ![1, 256] inb_S1x1024_S1x256_0_0), w0⟩, ⟨Rect.unit ![0, 0] ![1, 1024] inb_S1x1024_S1x1024_0_0, z⟩] (Rect.unit (s := S1x1024) ![0, 512] ![1, 256] inb_S1x1024_S1x256_0_512).toLoadRect = View.ld (Val := Elt Ideal) (e' := .f32) z (Rect.unit (s := S1x1024) ![0, 512] ![1, 256] inb_S1x1024_S1x256_0_512) := by
  rw [View.readCov_skip _ _ _ _ _ (by rfl), View.readCov_skip _ _ _ _ _ (by rfl), View.readCov_fill _ _ _ _ _ (by decide)]

theorem dg_read3 : v.readCov (Val := Elt Ideal) (e := .f32) [⟨(Rect.unit (s := S1x1024) ![0, 512] ![1, 256] inb_S1x1024_S1x256_0_512), w2⟩, ⟨(Rect.unit (s := S1x1024) ![0, 256] ![1, 256] inb_S1x1024_S1x256_0_256), w1⟩, ⟨(Rect.unit (s := S1x1024) ![0, 0] ![1, 256] inb_S1x1024_S1x256_0_0), w0⟩, ⟨Rect.unit ![0, 0] ![1, 1024] inb_S1x1024_S1x1024_0_0, z⟩] (Rect.unit (s := S1x1024) ![0, 768] ![1, 256] inb_S1x1024_S1x256_0_768).toLoadRect = View.ld (Val := Elt Ideal) (e' := .f32) z (Rect.unit (s := S1x1024) ![0, 768] ![1, 256] inb_S1x1024_S1x256_0_768) := by
  rw [View.readCov_skip _ _ _ _ _ (by rfl), View.readCov_skip _ _ _ _ _ (by rfl), View.readCov_skip _ _ _ _ _ (by rfl), View.readCov_fill _ _ _ _ _ (by decide)]

end

section
variable (v : View sig .tc .vmem S4x256x1024 .f32) (z : FVec Ideal S4x256x1024 .f32) (w0 w1 w2 : FVec Ideal S1x256x1024 .f32)

theorem dw_read0 : v.readCov (Val := Elt Ideal) (e := .f32) [⟨Rect.unit ![0, 0, 0] ![4, 256, 1024] inb_S4x256x1024_S4x256x1024_0_0_0, z⟩] (Rect.unit (s := S4x256x1024) ![0, 0, 0] ![1, 256, 1024] inb_S4x256x1024_S1x256x1024_0_0_0).toLoadRect = View.ld (Val := Elt Ideal) (e' := .f32) z (Rect.unit (s := S4x256x1024) ![0, 0, 0] ![1, 256, 1024] inb_S4x256x1024_S1x256x1024_0_0_0) := by
  rw [View.readCov_fill _ _ _ _ _ (by decide)]

theorem dw_read1 : v.readCov (Val := Elt Ideal) (e := .f32) [⟨(Rect.unit (s := S4x256x1024) ![0, 0, 0] ![1, 256, 1024] inb_S4x256x1024_S1x256x1024_0_0_0), w0⟩, ⟨Rect.unit ![0, 0, 0] ![4, 256, 1024] inb_S4x256x1024_S4x256x1024_0_0_0, z⟩] (Rect.unit (s := S4x256x1024) ![1, 0, 0] ![1, 256, 1024] inb_S4x256x1024_S1x256x1024_1_0_0).toLoadRect = View.ld (Val := Elt Ideal) (e' := .f32) z (Rect.unit (s := S4x256x1024) ![1, 0, 0] ![1, 256, 1024] inb_S4x256x1024_S1x256x1024_1_0_0) := by
  rw [View.readCov_skip _ _ _ _ _ (by rfl), View.readCov_fill _ _ _ _ _ (by decide)]

theorem dw_read2 : v.readCov (Val := Elt Ideal) (e := .f32) [⟨(Rect.unit (s := S4x256x1024) ![1, 0, 0] ![1, 256, 1024] inb_S4x256x1024_S1x256x1024_1_0_0), w1⟩, ⟨(Rect.unit (s := S4x256x1024) ![0, 0, 0] ![1, 256, 1024] inb_S4x256x1024_S1x256x1024_0_0_0), w0⟩, ⟨Rect.unit ![0, 0, 0] ![4, 256, 1024] inb_S4x256x1024_S4x256x1024_0_0_0, z⟩] (Rect.unit (s := S4x256x1024) ![2, 0, 0] ![1, 256, 1024] inb_S4x256x1024_S1x256x1024_2_0_0).toLoadRect = View.ld (Val := Elt Ideal) (e' := .f32) z (Rect.unit (s := S4x256x1024) ![2, 0, 0] ![1, 256, 1024] inb_S4x256x1024_S1x256x1024_2_0_0) := by
  rw [View.readCov_skip _ _ _ _ _ (by rfl), View.readCov_skip _ _ _ _ _ (by rfl), View.readCov_fill _ _ _ _ _ (by decide)]

theorem dw_read3 : v.readCov (Val := Elt Ideal) (e := .f32) [⟨(Rect.unit (s := S4x256x1024) ![2, 0, 0] ![1, 256, 1024] inb_S4x256x1024_S1x256x1024_2_0_0), w2⟩, ⟨(Rect.unit (s := S4x256x1024) ![1, 0, 0] ![1, 256, 1024] inb_S4x256x1024_S1x256x1024_1_0_0), w1⟩, ⟨(Rect.unit (s := S4x256x1024) ![0, 0, 0] ![1, 256, 1024] inb_S4x256x1024_S1x256x1024_0_0_0), w0⟩, ⟨Rect.unit ![0, 0, 0] ![4, 256, 1024] inb_S4x256x1024_S4x256x1024_0_0_0, z⟩] (Rect.unit (s := S4x256x1024) ![3, 0, 0] ![1, 256, 1024] inb_S4x256x1024_S1x256x1024_3_0_0).toLoadRect = View.ld (Val := Elt Ideal) (e' := .f32) z (Rect.unit (s := S4x256x1024) ![3, 0, 0] ![1, 256, 1024] inb_S4x256x1024_S1x256x1024_3_0_0) := by
  rw [View.readCov_skip _ _ _ _ _ (by rfl), View.readCov_skip _ _ _ _ _ (by rfl), View.readCov_skip _ _ _ _ _ (by rfl), View.readCov_fill _ _ _ _ _ (by decide)]

end

include hA

/-- The gain's gradient after the first point. -/
theorem first_dg (t : Fin cfg0.N) (h : t.val % 16 = 0) (j : S1x1024.Idx) :
    (outsAt0 m c t.val t.isLt).2.2.2.1 j = 0 + ((∑ r, dyg (A.dx (row t r)) A.W (j 1) * A.Y (row t r) (j 1) : ℝ) : EReal) := by
  rw [← zero10 j]
  refine Eq.trans ?_ (dg_point m c A hA t _ j)
  refine Eq.trans ?_ (Pieces.canon_above [⟨Rect.unit ![0, 0] ![1, 1024] inb_S1x1024_S1x1024_0_0, k0_pay3 (F := Ideal)⟩] _ j (View.cover_of_tiled_head _ _ _ (by rfl) j))
  refine congrFun ?_ j
  rw [outsAt0_A m c t h]
  frame_out
  rw [dg_read3, dg_read2, dg_read1, dg_read0]
  rfl

/-- The weights' gradient after the first point. -/
theorem first_dw (t : Fin cfg0.N) (h : t.val % 16 = 0) (j : S4x256x1024.Idx) :
    (outsAt0 m c t.val t.isLt).2.2.2.2 j = 0 + ((∑ r, A.Y (row t r) (feat (j 0) (j 1)) * A.P (feat (j 0) (j 1)) * A.dx (row t r) (j 2) : ℝ) : EReal) := by
  rw [← zero11 j]
  refine Eq.trans ?_ (dw_point m c A hA t _ j)
  refine Eq.trans ?_ (Pieces.canon_above [⟨Rect.unit ![0, 0, 0] ![4, 256, 1024] inb_S4x256x1024_S4x256x1024_0_0_0, k0_pay4 (F := Ideal)⟩] _ j (View.cover_of_tiled_head _ _ _ (by rfl) j))
  refine congrFun ?_ j
  rw [outsAt0_A m c t h]
  frame_out
  rw [dw_read3, dw_read2, dw_read1, dw_read0]
  rfl

/-- The other outputs after the first point. -/
theorem outs_first (t : Fin cfg0.N) (h : t.val % 16 = 0) :
    (∀ y, (outsAt0 m c t.val t.isLt).1 y = dxA A (ix2 (row t (y 0)) (y 1)))
      ∧ (∀ j, (outsAt0 m c t.val t.isLt).2.1 j = 0 + ((∑ r, NormGrad.dgain (A.x1 (row t r)) (A.H (row t r)) (j 1) : ℝ) : EReal))
      ∧ (∀ y, (outsAt0 m c t.val t.isLt).2.2.1 y = dynA A (ix2 (row t (y 0)) (y 1))) := by
  rw [outsAt0_A m c t h]
  refine ⟨?_, ?_, ?_⟩
  · frame_out
    intro y; idx_vars y
    exact dx_entry m c A hA t y0 y1
  · frame_out
    intro j
    exact (dgf_point m c A hA t _ j).trans (by rw [zero8])
  · frame_out
    exact dyn_point m c A hA t

/-- What the outputs hold after a later point. -/
theorem outs_next (t : Fin cfg0.N) (h : ¬ t.val % 16 = 0) :
    (∀ y, (outsAt0 m c t.val t.isLt).1 y = dxA A (ix2 (row t (y 0)) (y 1)))
      ∧ (∀ j, (outsAt0 m c t.val t.isLt).2.1 j = (outsAt0 m c (t.val - 1) (Nat.lt_of_le_of_lt (Nat.sub_le _ _) t.isLt)).2.1 j + ((∑ r, NormGrad.dgain (A.x1 (row t r)) (A.H (row t r)) (j 1) : ℝ) : EReal))
      ∧ (∀ y, (outsAt0 m c t.val t.isLt).2.2.1 y = dynA A (ix2 (row t (y 0)) (y 1)))
      ∧ (∀ j, (outsAt0 m c t.val t.isLt).2.2.2.1 j = (outsAt0 m c (t.val - 1) (Nat.lt_of_le_of_lt (Nat.sub_le _ _) t.isLt)).2.2.2.1 j + ((∑ r, dyg (A.dx (row t r)) A.W (j 1) * A.Y (row t r) (j 1) : ℝ) : EReal))
      ∧ ∀ j, (outsAt0 m c t.val t.isLt).2.2.2.2 j = (outsAt0 m c (t.val - 1) (Nat.lt_of_le_of_lt (Nat.sub_le _ _) t.isLt)).2.2.2.2 j
        + ((∑ r, A.Y (row t r) (feat (j 0) (j 1)) * A.P (feat (j 0) (j 1)) * A.dx (row t r) (j 2) : ℝ) : EReal) := by
  rw [outsAt0_B m c t h]
  frame_out
  refine ⟨fun y => ?_, dgf_point m c A hA t _, dyn_point m c A hA t, dg_point m c A hA t _, dw_point m c A hA t _⟩
  idx_vars y
  exact dx_entry m c A hA t y0 y1

/-- The stream's gradient's array. -/
theorem final7 : (dats m 0 c).arrAt 7 cfg0.N = dxA A := by
  refine (dats m 0 c).arrAt_eq_of_covers 7 _ (by decide +kernel) fun t _ y => ?_
  blk_simp
  rw [after0_7]
  have e : (outsAt0 m c t.val t.isLt).1 y = dxA A (ix2 (row t (y 0)) (y 1)) := by
    by_cases h : t.val % 16 = 0
    · exact (outs_first m c A hA t h).1 y
    · exact (outs_next m c A hA t h).1 y
  exact e.trans (congrArg (dxA A) (by blk_ext [idx t]))

/-- The inputs' gradient's array. -/
theorem final9 : (dats m 0 c).arrAt 9 cfg0.N = dynA A := by
  refine (dats m 0 c).arrAt_eq_of_covers 9 _ (by decide +kernel) fun t _ y => ?_
  blk_simp
  rw [after0_9]
  have e : (outsAt0 m c t.val t.isLt).2.2.1 y = dynA A (ix2 (row t (y 0)) (y 1)) := by
    by_cases h : t.val % 16 = 0
    · exact (outs_first m c A hA t h).2.2 y
    · exact (outs_next m c A hA t h).2.2.1 y
  exact e.trans (congrArg (dynA A) (by blk_ext [idx t]))

/-- The norm's gain's gradient's array. -/
theorem final8 : (dats m 0 c).arrAt 8 cfg0.N = dgfA A := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => 0)
    (fun p j => ((∑ r, NormGrad.dgain (A.x1 (row p r)) (A.H (row p r)) (j 1) : ℝ) : EReal))
    (fun t h j => (outs_first m c A hA t h).2.1 j) (fun t h j => (outs_next m c A hA t h).2.1 j) t ((flush0_8 t).mp hf) _, zero_add]
  refine (coe_sum _ _).trans ?_
  rw [rows (fun r => NormGrad.dgain (A.x1 r) (A.H r) (y 1)) t]
  exact congrArg (dgfA A) (show y = _ by blk_ext [idx t])

/-- The gain's gradient's array. -/
theorem final10 : (dats m 0 c).arrAt 10 cfg0.N = dgA A := by
  refine (dats m 0 c).arrAt_eq_of_covers 10 _ (by decide +kernel) fun t hf y => ?_
  blk_simp
  rw [after0_10, Pipeline.eq_sum_fin_of_reset_step_apply_of_flush (fun n h => (outsAt0 m c n h).2.2.2.1) 16 (fun _ => 0)
    (fun p j => ((∑ r, dyg (A.dx (row p r)) A.W (j 1) * A.Y (row p r) (j 1) : ℝ) : EReal))
    (fun t h j => first_dg m c A hA t h j) (fun t h j => (outs_next m c A hA t h).2.2.2.1 j) t ((flush0_10 t).mp hf) _, zero_add]
  refine (coe_sum _ _).trans ?_
  rw [rows (fun r => dyg (A.dx r) A.W (y 1) * A.Y r (y 1)) t]
  exact congrArg (dgA A) (show y = _ by blk_ext [idx t])

/-- The weights' gradient's array. -/
theorem final11 : (dats m 0 c).arrAt 11 cfg0.N = dwA A := by
  refine (dats m 0 c).arrAt_eq_of_covers 11 _ (by decide +kernel) fun t hf y => ?_
  blk_simp
  rw [after0_11, Pipeline.eq_sum_fin_of_reset_step_apply_of_flush (fun n h => (outsAt0 m c n h).2.2.2.2) 16 (fun _ => 0)
    (fun p j => ((∑ r, A.Y (row p r) (feat (j 0) (j 1)) * A.P (feat (j 0) (j 1)) * A.dx (row p r) (j 2) : ℝ) : EReal))
    (fun t h j => first_dw m c A hA t h j) (fun t h j => (outs_next m c A hA t h).2.2.2.2 j) t ((flush0_11 t).mp hf) _, zero_add]
  refine (coe_sum _ _).trans ?_
  rw [rows (fun r => A.Y r (feat (y 0) (y 1)) * A.P (feat (y 0) (y 1)) * A.dx r (y 2)) t]
  exact congrArg (dwA A) (show y = _ by blk_ext [idx t])

end Cert.OprojValue

end
-- ==== Proof.OprojClaim.lean ====
/-
  The output projection's claims: the kernel's five result arrays are the reference's.
-/
module

public import proofs.«01_k».proof.Defs
public import proofs.«01_k».proof.Proof.OprojValue
public import proofs.«01_k».proof.Proof.Gen.OprojRefIdeal.Run
public import proofs.«01_k».proof.Proof.Finite
public import Idealize.ShloMosaic.Lib.Claim
public import proofs.«01_k».proof.Proof.Gen.Pre_oproj_finite

@[expose] public section

set_option maxRecDepth 100000

noncomputable section

open Idealize.ShloMosaic Idealize.ShloMosaic.TcCoe Idealize.SL.Sem

namespace Cert.OprojClaim

open Cert.RealCalc

/-- The reference runs to the end and keeps its arguments; it has no semaphore. -/
theorem reference : @Cert.quiescent_OprojRefIdeal Cert.OprojRefIdeal.Gen.facts := fun m g _ => by
  refine θ_run_mono (Cert.OprojRefIdeal.Value.run m g) fun r h => ⟨fun c => ?_, sem_eq_zero_of_no_sems (by decide) r.2⟩
  obtain ⟨_, _, _, _, _, h⟩ := h c
  exact h

open Cert.OprojPoint Cert.OprojValue

section
open Cert.OprojRefIdeal Cert.OprojRefIdeal.Gen

variable (m : (ℓ : Loc nD τ sig) → Buf (Elt Ideal) ℓ) (c : Dev nD) (A : Args)

/-- The reference's arguments are the real values `A`. -/
structure Given : Prop where
  x : ∀ r k, m ((c.tc : Thread nD τ).loc main_arg0) (ix2 r k) = ((A.X r k : ℝ) : EReal)
  y : ∀ r k, m ((c.tc : Thread nD τ).loc main_arg1) (ix2 r k) = ((A.Y r k : ℝ) : EReal)
  p : ∀ k, m ((c.tc : Thread nD τ).loc main_arg2) (ix1 k) = ((A.P k : ℝ) : EReal)
  w : ∀ k l, m ((c.tc : Thread nD τ).loc main_arg3) (ix2 k l) = ((A.W k l : ℝ) : EReal)
  g : ∀ k, m ((c.tc : Thread nD τ).loc main_arg4) (ix1 k) = ((A.G k : ℝ) : EReal)
  d : ∀ r k, m ((c.tc : Thread nD τ).loc main_arg5) (ix2 r k) = ((A.D r k : ℝ) : EReal)
  h : ∀ r k, m ((c.tc : Thread nD τ).loc main_arg6) (ix2 r k) = ((A.H r k : ℝ) : EReal)

variable (hA : Given m c A)
include hA

/-- The reference's first result: the norm's differentiated formula at the stream after the projection. -/
theorem ref_dx (r : Fin 16384) (l : Fin 1024) : Cert.OprojRefIdeal.Value.res_out0 m c (ix2 r l) = dxA A (ix2 r l) := by
  unfold Cert.OprojRefIdeal.Value.res_out0 Cert.OprojRefIdeal.Value.res_main_v41
  pointwise
  simp only [hA.x, hA.y, hA.p, hA.w, hA.g, hA.d, hA.h, ofBits_1024, ofBits_eps, ofBits_neg_half, ← EReal.coe_mul, coe_sum, div_1024, ← EReal.coe_add]
  simp only [show ∀ r l, A.X r l + ∑ e, A.Y r e * A.P e * A.W e l = A.x1 r l from fun _ _ => rfl, rsqrt_coe (NormGrad.pos _),
    div_coe (NormGrad.pos _).ne', ← EReal.coe_mul, coe_sum, div_1024, ← EReal.coe_add, Finset.univ_unique, Finset.sum_singleton]
  exact congrArg _ (NormGrad.dx_eq (A.x1 r) A.G (A.H r) (A.D r l) l)

/-- The projection's input gradient. -/
theorem ref_dyn (r : Fin 16384) (k : Fin 1024) : Cert.OprojRefIdeal.Value.res_out2 m c (ix2 r k) = dynA A (ix2 r k) := by
  have q : Cert.OprojRefIdeal.Value.res_out2 m c = truncf .bf16 (mulf (Host.dotGeneral (F := Ideal) (φ₁ := .f32) (φ₂ := .f32) dot_S16384x1024_S1024x1024_S16384x1024_1_1_0_0_n_n none (shapeCast _ (Cert.OprojRefIdeal.Value.res_out0 m c) shapeCasts_S16384x1024_S16384x1024) (m ((c.tc : Thread nD τ).loc main_arg3))) (broadcastInDim S16384x1024 ![0, 1] bcast_S1x1024_S16384x1024_0_1 (broadcastInDim S1x1024 ![1] bcast_S1024_S1x1024_1 (m ((c.tc : Thread nD τ).loc main_arg2))))) bitsLt_bf16_f32 := rfl
  rw [q]
  have e := ref_dx m c A hA
  generalize Cert.OprojRefIdeal.Value.res_out0 m c = V at e ⊢
  pointwise
  simp only [e, dxA, hA.p, hA.w, ← EReal.coe_mul, coe_sum]
  rfl

/-- The gradient of the mixers' gain. -/
theorem ref_dg (b : Fin 1) (k : Fin 1024) : Cert.OprojRefIdeal.Value.res_out3 m c (ix2 b k) = dgA A (ix2 b k) := by
  have q : Cert.OprojRefIdeal.Value.res_out3 m c = broadcastInDim S1x1024 ![1] bcast_S1024_S1x1024_1 (Host.reduceAdd (F := Ideal) (φ := .f32) (shapeCast _ (Host.reduceAdd (F := Ideal) (φ := .f32) (mulf (m ((c.tc : Thread nD τ).loc main_arg1)) (Host.dotGeneral (F := Ideal) (φ₁ := .f32) (φ₂ := .f32) dot_S16384x1024_S1024x1024_S16384x1024_1_1_0_0_n_n none (shapeCast _ (Cert.OprojRefIdeal.Value.res_out0 m c) shapeCasts_S16384x1024_S16384x1024) (m ((c.tc : Thread nD τ).loc main_arg3)))) (constant (F := Ideal) S_ .f32 0x00000000#32) reducesTo_S16384x1024_S1024_d0 h_S_) shapeCasts_S1024_S1x1024) (constant (F := Ideal) S_ .f32 0x00000000#32) reducesTo_S1x1024_S1024_d0 h_S_) := rfl
  rw [q]
  have e := ref_dx m c A hA
  generalize Cert.OprojRefIdeal.Value.res_out0 m c = V at e ⊢
  pointwise
  simp only [e, dxA, hA.y, hA.w, ← EReal.coe_mul, coe_sum, Finset.univ_unique, Finset.sum_singleton]
  refine congrArg (fun t : ℝ => (t : EReal)) (Finset.sum_congr rfl fun r _ => ?_)
  exact mul_comm (A.Y r k) _

/-- The weights' gradient. -/
theorem ref_dw (b : Fin 4) (k : Fin 256) (l : Fin 1024) : Cert.OprojRefIdeal.Value.res_out4 m c (ix3 b k l) = dwA A (ix3 b k l) := by
  have q : Cert.OprojRefIdeal.Value.res_out4 m c = shapeCast S4x256x1024 (transpose S1024x1024 [1, 0] (Host.dotGeneral (F := Ideal) (φ₁ := .f32) (φ₂ := .f32) dot_S16384x1024_S16384x1024_S1024x1024_0_0_1_1_n_n none (shapeCast _ (Cert.OprojRefIdeal.Value.res_out0 m c) shapeCasts_S16384x1024_S16384x1024) (mulf (m ((c.tc : Thread nD τ).loc main_arg1)) (broadcastInDim S16384x1024 ![0, 1] bcast_S1x1024_S16384x1024_0_1 (broadcastInDim S1x1024 ![1] bcast_S1024_S1x1024_1 (m ((c.tc : Thread nD τ).loc main_arg2)))))) transposes_S1024x1024_S1024x1024_1_0) shapeCasts_S1024x1024_S4x256x1024 := rfl
  rw [q]
  have e := ref_dx m c A hA
  generalize Cert.OprojRefIdeal.Value.res_out0 m c = V at e ⊢
  pointwise
  simp only [e, dxA, hA.y, hA.p, ← EReal.coe_mul, coe_sum]
  refine congrArg (fun t : ℝ => (t : EReal)) (Finset.sum_congr rfl fun r _ => ?_)
  refine (mul_comm (A.dx r l) _).trans (congrArg (fun n => A.Y r n * A.P n * A.dx r l) (Fin.ext ?_))
  exact congrArg (· + k.val) (Nat.mul_comm b.val 256)
end

/-- The two gradients and the three sums over rows are the reference's, on finite inputs. -/
theorem algebraic : @Cert.algebraic_OprojIdeal_OprojRefIdeal_pre_oproj_finite Cert.OprojIdeal.Gen.facts Cert.OprojRefIdeal.Gen.facts Cert.Pre_oproj_finite.Gen.facts := by
  pair_intro
  · run_from Cert.OprojIdeal.Value.run_blocks m g
  · run_from Cert.OprojRefIdeal.Value.run m' g'
    all_goals
      obtain ⟨h0, h1, h2, h3, h4, h5, h6⟩ := hpre c
      choose X hx using fun (r : Fin 16384) (k : Fin 1024) => Finite.entry _ _ h0 (ix2 r k)
      choose Y hy using fun (r : Fin 16384) (k : Fin 1024) => Finite.entry _ _ h1 (ix2 r k)
      choose P hp using fun k : Fin 1024 => Finite.entry _ _ h2 (ix1 k)
      choose W hw using fun (k : Fin 1024) (l : Fin 1024) => Finite.entry _ _ h3 (ix2 k l)
      choose G hg using fun k : Fin 1024 => Finite.entry _ _ h4 (ix1 k)
      choose D hd using fun (r : Fin 16384) (k : Fin 1024) => Finite.entry _ _ h5 (ix2 r k)
      choose H hh using fun (r : Fin 16384) (k : Fin 1024) => Finite.entry _ _ h6 (ix2 r k)
      have hA : Holds m c ⟨X, Y, P, W, G, D, H⟩ := ⟨hx, hy, hp, hw, hg, hd, hh⟩
      have hB : Given m' c ⟨X, Y, P, W, G, D, H⟩ :=
        ⟨by simpa only [hagree c] using hx, by simpa only [hagree c] using hy, by simpa only [hagree c] using hp, by simpa only [hagree c] using hw,
          by simpa only [hagree c] using hg, by simpa only [hagree c] using hd, by simpa only [hagree c] using hh⟩
    · rw [final7 m c _ hA]
      funext j
      idx_vars j
      exact ref_dx m' c _ hB _ _
    · rw [final8 m c _ hA]
      funext j
      idx_vars j
      pointwise
      simp only [hx, hy, hp, hw, hh, ofBits_1024, ofBits_eps, ← EReal.coe_mul, coe_sum, div_1024, ← EReal.coe_add]
      simp only [show ∀ r l, X r l + ∑ e, Y r e * P e * W e l = OprojValue.x1 X Y P W r l from fun _ _ => rfl, rsqrt_coe (NormGrad.pos _),
        ← EReal.coe_mul, coe_sum, Finset.univ_unique, Finset.sum_singleton]
      refine congrArg (fun t : ℝ => (t : EReal)) (Finset.sum_congr rfl fun r _ => ?_)
      show _ = NormGrad.dgain (OprojValue.x1 X Y P W r) (H r) j1
      unfold NormGrad.dgain NormGrad.inv
      ring
    · rw [final9 m c _ hA]
      funext j
      idx_vars j
      exact ref_dyn m' c _ hB _ _
    · rw [final10 m c _ hA]
      funext j
      idx_vars j
      exact ref_dg m' c _ hB _ _
    · rw [final11 m c _ hA]
      funext j
      idx_vars j
      exact ref_dw m' c _ hB j0 j1 j2

end Cert.OprojClaim

end
-- ==== Proof.FfnValue.lean ====
/-
  The squared-ReLU layer's two gradient arrays after the run: the pre-activation's gradient, written once block by block,
  and the input's gradient, summed over the four column blocks of each block of rows.
-/
module

public import proofs.«01_k».proof.Proof.RealCalc
public import proofs.«01_k».proof.Proof.Gen.FfnIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnValue

open Cert.RealCalc Cert.FfnIdeal Cert.FfnIdeal.Gen

/-- The maximum of two reals. -/
theorem max_coe (a b : ℝ) : max (a : EReal) (b : EReal) = ((max a b : ℝ) : EReal) := (EReal.coe_strictMono.monotone.map_max).symm

/-- The arguments' real values: the normalised rows, the two weights, the cotangent. -/
structure Args where
  H : Fin 16384 → Fin 1024 → ℝ
  U : Fin 1024 → Fin 4096 → ℝ
  W : Fin 4096 → Fin 1024 → ℝ
  D : Fin 16384 → Fin 1024 → ℝ

namespace Args
variable (A : Args)

/-- The pre-activation. -/
def pre (r : Fin 16384) (e : Fin 4096) : ℝ := ∑ k, A.H r k * A.U k e

/-- The pre-activation's gradient. -/
def dp (r : Fin 16384) (e : Fin 4096) : ℝ := (∑ l, A.D r l * A.W e l) * (2 * max (A.pre r e) 0)

/-- The input's gradient. -/
def dh (r : Fin 16384) (k : Fin 1024) : ℝ := ∑ e, A.dp r e * A.U k e
end Args

section Point

variable (x p : FVec Ideal S1024x1024 .bf16) (w u : FVec Ideal S1x1x1024x1024 .bf16) (D P : Fin 1024 → ℝ) (W U : Fin 1024 → Fin 1024 → ℝ) (r : Fin 1024)
  (hx : ∀ l, x (ix2 r l) = ((D l : ℝ) : EReal)) (hp : ∀ e, p (ix2 r e) = ((P e : ℝ) : EReal)) (hw : ∀ e l, w (ix4 0 0 e l) = ((W e l : ℝ) : EReal))
include hx hp hw

/-- The body's gradient of the pre-activation. -/
theorem kernel_dp (e : Fin 1024) : k0_pay1 (F := Ideal) x w p (ix2 r e) = (((∑ l, D l * W e l) * (2 * max (P e) 0) : ℝ) : EReal) := by
  pointwise [k0_pay1]
  simp only [hx, hp, hw, ofBits_2, ← EReal.coe_zero, max_coe, ← EReal.coe_mul, coe_sum]

/-- The body's product of it with the weights. -/
theorem kernel_dh (hu : ∀ k e, u (ix4 0 0 k e) = ((U k e : ℝ) : EReal)) (k : Fin 1024) :
    k0_pay2 (F := Ideal) x w p u (ix2 r k) = ((∑ e, (∑ l, D l * W e l) * (2 * max (P e) 0) * U k e : ℝ) : EReal) := by
  have h := kernel_dp x p w D P W r hx hp hw
  unfold k0_pay2
  generalize k0_pay1 (F := Ideal) x w p = q at h ⊢
  pointwise
  simp only [h, hu, ← EReal.coe_mul, coe_sum]

end Point

variable (m : (ℓ : Loc nD τ sig) → Buf (Elt Ideal) ℓ) (c : Dev nD)

/-- The windows' block indices. -/
theorem idx : ∀ t : Fin cfg0.N, t.val < 64 ∧ win0_0.index t = ![t.val / 4, 0] ∧ win0_1.index t = ![t.val / 4, t.val % 4] ∧ win0_2.index t = ![t.val % 4, 0, 0, 0]
    ∧ win0_3.index t = ![t.val % 4, 0, 0, 0] ∧ win0_4.index t = ![t.val / 4, t.val % 4] ∧ win0_5.index t = ![t.val / 4, 0] :=
  (by decide +kernel : ∀ t : Fin grid0.N, _)

theorem row_lt (t : Fin cfg0.N) (r : Fin 1024) : t.val / 4 * 1024 + r.val < 16384 := by
  have := (idx t).1; omega

theorem col_lt (t : Fin cfg0.N) (e : Fin 1024) : t.val % 4 * 1024 + e.val < 4096 := by omega

/-- Row `r` of the block of point `t`, in the arrays. -/
abbrev row (t : Fin cfg0.N) (r : Fin 1024) : Fin 16384 := ⟨t.val / 4 * 1024 + r.val, row_lt t r⟩

/-- Column `e` of the block of point `t`. -/
abbrev col (t : Fin cfg0.N) (e : Fin 1024) : Fin 4096 := ⟨t.val % 4 * 1024 + e.val, col_lt t e⟩

/-- The pre-activation, as the host forms it. -/
def hidden : FVec Ideal S16384x4096 .bf16 :=
  truncf .bf16 (Host.dotGeneral (F := Ideal) (φ₁ := .f32) (φ₂ := .f32) dot_S16384x1024_S1024x4096_S16384x4096_1_0_0_1_n_n none
    (m ((c : Thread nD τ).loc main_arg0) : FVec Ideal S16384x1024 .f32) (m ((c : Thread nD τ).loc main_arg1) : FVec Ideal S1024x4096 .f32)) bitsLt_bf16_f32

theorem V_hidden : V m c main_v8 = hidden m c := by
  simp only [V, hostOps0]
  after_results_simp
  rfl

theorem blk0 (t : Fin cfg0.N) (r k : Fin 1024) :
    (iblk m c 0 t : FVec Ideal S1024x1024 .bf16) (ix2 r k) = (m ((c : Thread nD τ).loc main_arg3) : FVec Ideal S16384x1024 .f32) (ix2 (row t r) k) := by
  blk_point [iblk, V, idx t]

theorem blk1 (t : Fin cfg0.N) (r e : Fin 1024) :
    (iblk m c 1 t : FVec Ideal S1024x1024 .bf16) (ix2 r e) = hidden m c (ix2 (row t r) (col t e)) := by
  rw [← V_hidden]
  blk_ext [iblk, idx t]

theorem blk2 (t : Fin cfg0.N) (k e : Fin 1024) :
    (iblk m c 2 t : FVec Ideal S1x1x1024x1024 .bf16) (ix4 0 0 k e) = (m ((c : Thread nD τ).loc main_arg1) : FVec Ideal S1024x4096 .f32) (ix2 k (col t e)) := by
  blk_point [iblk, V, idx t]

theorem blk3 (t : Fin cfg0.N) (e l : Fin 1024) :
    (iblk m c 3 t : FVec Ideal S1x1x1024x1024 .bf16) (ix4 0 0 e l) = (m ((c : Thread nD τ).loc main_arg2) : FVec Ideal S4096x1024 .f32) (ix2 (col t e) l) := by
  blk_point [iblk, V, idx t]

variable (A : Args)

/-- The two results. -/
def dpA : FVec Ideal S16384x4096 .bf16 := fun i => ((A.dp (i 0) (i 1) : ℝ) : EReal)
def dhA : FVec Ideal S16384x1024 .f32 := fun i => ((A.dh (i 0) (i 1) : ℝ) : EReal)

/-- The program's arguments are the real values `A`. -/
structure Holds : Prop where
  h : ∀ r k, (m ((c : Thread nD τ).loc main_arg0) : FVec Ideal S16384x1024 .f32) (ix2 r k) = ((A.H r k : ℝ) : EReal)
  u : ∀ k e, (m ((c : Thread nD τ).loc main_arg1) : FVec Ideal S1024x4096 .f32) (ix2 k e) = ((A.U k e : ℝ) : EReal)
  w : ∀ e l, (m ((c : Thread nD τ).loc main_arg2) : FVec Ideal S4096x1024 .f32) (ix2 e l) = ((A.W e l : ℝ) : EReal)
  d : ∀ r k, (m ((c : Thread nD τ).loc main_arg3) : FVec Ideal S16384x1024 .f32) (ix2 r k) = ((A.D r k : ℝ) : EReal)

variable (hA : Holds m c A)
include hA

theorem pre_entry (t : Fin cfg0.N) (r e : Fin 1024) : (iblk m c 1 t : FVec Ideal S1024x1024 .bf16) (ix2 r e) = ((A.pre (row t r) (col t e) : ℝ) : EReal) := by
  rw [blk1]
  pointwise [hidden]
  simp only [hA.h, hA.u, ← EReal.coe_mul, coe_sum]
  rfl

/-- What a point writes to the pre-activation's gradient. -/
theorem dp_entry (t : Fin cfg0.N) (r e : Fin 1024) :
    k0_pay1 (F := Ideal) (iblk m c 0 t) (iblk m c 3 t) (iblk m c 1 t) (ix2 r e) = dpA A (ix2 (row t r) (col t e)) :=
  kernel_dp _ _ _ (A.D (row t r)) (fun e => A.pre (row t r) (col t e)) (fun e => A.W (col t e)) r
    (fun l => (blk0 m c t r l).trans (hA.d _ _)) (pre_entry m c A hA t r) (fun e l => (blk3 m c t e l).trans (hA.w _ _)) e

/-- What a point adds to the input's gradient. -/
theorem dh_entry (t : Fin cfg0.N) (r k : Fin 1024) :
    k0_pay2 (F := Ideal) (iblk m c 0 t) (iblk m c 3 t) (iblk m c 1 t) (iblk m c 2 t) (ix2 r k)
      = ((∑ e, A.dp (row t r) (col t e) * A.U k (col t e) : ℝ) : EReal) :=
  kernel_dh _ _ _ _ (A.D (row t r)) (fun e => A.pre (row t r) (col t e)) (fun e => A.W (col t e)) (fun k e => A.U k (col t e)) r
    (fun l => (blk0 m c t r l).trans (hA.d _ _)) (pre_entry m c A hA t r) (fun e l => (blk3 m c t e l).trans (hA.w _ _))
    (fun k e => (blk2 m c t k e).trans (hA.u _ _)) k

/-- What the outputs hold after the first point of a block of rows. -/
theorem outs_first (t : Fin cfg0.N) (h : t.val % 4 = 0) :
    (∀ y, (outsAt0 m c t.val t.isLt).1 y = dpA A (ix2 (row t (y 0)) (col t (y 1))))
      ∧ ∀ j, (outsAt0 m c t.val t.isLt).2 j = 0 + ((∑ e, A.dp (row t (j 0)) (col t e) * A.U (j 1) (col t e) : ℝ) : EReal) := by
  rw [outsAt0_A m c t h (by omega)]
  refine ⟨?_, ?_⟩
  · frame_out
    intro y; idx_vars y
    exact dp_entry m c A hA t y0 y1
  · frame_out
    intro y; idx_vars y
    exact (dh_entry m c A hA t y0 y1).trans (zero_add _).symm

/-- What the outputs hold after a later point. -/
theorem outs_next (t : Fin cfg0.N) (h : ¬ t.val % 4 = 0) :
    (∀ y, (outsAt0 m c t.val t.isLt).1 y = dpA A (ix2 (row t (y 0)) (col t (y 1))))
      ∧ ∀ j, (outsAt0 m c t.val t.isLt).2 j = (outsAt0 m c (t.val - 1) (Nat.lt_of_le_of_lt (Nat.sub_le _ _) t.isLt)).2 j
        + ((∑ e, A.dp (row t (j 0)) (col t e) * A.U (j 1) (col t e) : ℝ) : EReal) := by
  rw [outsAt0_B m c t h (by omega)]
  refine ⟨?_, ?_⟩
  · frame_out
    intro y; idx_vars y
    exact dp_entry m c A hA t y0 y1
  · frame_out
    intro y; idx_vars y
    have e := dh_entry m c A hA t y0 y1
    unfold k0_pay3
    generalize k0_pay2 (F := Ideal) (iblk m c 0 t) (iblk m c 3 t) (iblk m c 1 t) (iblk m c 2 t) = q at e ⊢
    pointwise
    rw [e]

/-- The pre-activation's gradient's array. -/
theorem final4 : (dats m 0 c).arrAt 4 cfg0.N = dpA A := by
  refine (dats m 0 c).arrAt_eq_of_covers 4 _ (by decide +kernel) fun t _ y => ?_
  blk_simp
  rw [after0_4]
  have e : (outsAt0 m c t.val t.isLt).1 y = dpA A (ix2 (row t (y 0)) (col t (y 1))) := by
    by_cases h : t.val % 4 = 0
    · exact (outs_first m c A hA t h).1 y
    · exact (outs_next m c A hA t h).1 y
  exact e.trans (congrArg (dpA A) (by blk_ext [idx t]))

omit hA in
/-- The four column blocks of a block of rows give the sum over all columns. -/
theorem columns (k : Fin 1024) (r : Fin 1024) (t : Fin cfg0.N) (h : ∀ s : Fin 4, 4 * (t.val / 4) + s.val < cfg0.N) :
    ∑ s : Fin 4, ∑ e : Fin 1024, A.dp (row ⟨4 * (t.val / 4) + s.val, h s⟩ r) (col ⟨4 * (t.val / 4) + s.val, h s⟩ e) * A.U k (col ⟨4 * (t.val / 4) + s.val, h s⟩ e)
      = A.dh (row t r) k := by
  unfold Args.dh
  refine Fin.sum_mul_add_congr fun s e hl => ?_
  have a : row ⟨4 * (t.val / 4) + s.val, h s⟩ r = row t r :=
    Fin.ext (show (4 * (t.val / 4) + s.val) / 4 * 1024 + r.val = t.val / 4 * 1024 + r.val by omega)
  have b : col ⟨4 * (t.val / 4) + s.val, h s⟩ e = ⟨s.val * 1024 + e.val, hl⟩ :=
    Fin.ext (show (4 * (t.val / 4) + s.val) % 4 * 1024 + e.val = s.val * 1024 + e.val by omega)
  rw [a, b]

/-- The input's gradient's array. -/
theorem final5 : (dats m 0 c).arrAt 5 cfg0.N = dhA A := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0)
    (fun p j => ((∑ e, A.dp (row p (j 0)) (col p e) * A.U (j 1) (col p e) : ℝ) : EReal))
    (fun t h j => (outs_first m c A hA t h).2 j) (fun t h j => (outs_next m c A hA t h).2 j) t ((flush0_5 t).mp hf) _, zero_add]
  refine (coe_sum _ _).trans ?_
  refine (congrArg (fun v : ℝ => (v : EReal)) (columns A (y 1) (y 0) t _)).trans ?_
  have e : dhA A (ix2 (row t (y 0)) (y 1)) = dhA A ((win0_5.blk t).view.emb y) := congrArg (dhA A) (by blk_ext [idx t])
  exact e

end Cert.FfnValue

end
-- ==== Proof.FfnClaim.lean ====
/-
  The squared-ReLU layer's claims: the kernel's two result arrays are the reference's.
-/
module

public import proofs.«01_k».proof.Defs
public import proofs.«01_k».proof.Proof.FfnValue
public import proofs.«01_k».proof.Proof.Gen.FfnRefIdeal.Run
public import proofs.«01_k».proof.Proof.Finite
public import Idealize.ShloMosaic.Lib.Claim
public import proofs.«01_k».proof.Proof.Gen.Pre_ffnb_finite

@[expose] public section

set_option maxRecDepth 100000

noncomputable section

open Idealize.ShloMosaic Idealize.ShloMosaic.TcCoe Idealize.SL.Sem

namespace Cert.FfnClaim

open Cert.RealCalc

/-- The reference runs to the end and keeps its arguments; it has no semaphore. -/
theorem reference : @Cert.quiescent_FfnRefIdeal Cert.FfnRefIdeal.Gen.facts := fun m g _ => by
  refine θ_run_mono (Cert.FfnRefIdeal.Value.run m g) fun r h => ⟨fun c => ?_, sem_eq_zero_of_no_sems (by decide) r.2⟩
  obtain ⟨_, _, h⟩ := h c
  exact h

open Cert.FfnValue

section
open Cert.FfnRefIdeal Cert.FfnRefIdeal.Gen

variable (h : FVec Ideal S16384x1024 .f32) (u : FVec Ideal S1024x4096 .f32) (w : FVec Ideal S4096x1024 .f32) (d : FVec Ideal S16384x1024 .f32)

/-- Zero everywhere. -/
def zeros : FVec Ideal S16384x4096 .f32 := broadcastInDim S16384x4096 ![] bcast_S_S16384x4096 (constant (F := Ideal) S_ .f32 0x00000000#32)

/-- The pre-activation. -/
def hid : FVec Ideal S16384x4096 .f32 := Host.dotGeneral dot_S16384x1024_S1024x4096_S16384x4096_1_0_0_1_n_n none h u

/-- The cotangent of the squared positive part. -/
def cot : FVec Ideal S16384x4096 .f32 := Host.dotGeneral dot_S16384x1024_S4096x1024_S16384x4096_1_1_0_0_n_n none d w

/-- The differentiated square of the positive part: the cotangent times twice the value where the value is positive, else 0. -/
def back : FVec Ideal S16384x4096 .f32 :=
  select (cmpf .ogt (hid h u) zeros) (addf (mulf (maximumf (hid h u) zeros) (cot w d)) (mulf (cot w d) (maximumf (hid h u) zeros))) zeros

variable (A : Args)
  (hh : ∀ r k, h (ix2 r k) = ((A.H r k : ℝ) : EReal)) (hu : ∀ k e, u (ix2 k e) = ((A.U k e : ℝ) : EReal))
  (hw : ∀ e l, w (ix2 e l) = ((A.W e l : ℝ) : EReal)) (hd : ∀ r k, d (ix2 r k) = ((A.D r k : ℝ) : EReal))
include hh hu hw hd

/-- Its entries are the kernel's real values. -/
theorem back_entry (r : Fin 16384) (e : Fin 4096) : back h u w d (ix2 r e) = ((A.dp r e : ℝ) : EReal) := by
  pointwise [back, hid, cot, zeros]
  simp only [hh, hu, hw, hd, ← EReal.coe_zero, max_coe, ← EReal.coe_mul, coe_sum, ← EReal.coe_add, EReal.coe_lt_coe_iff, ← apply_ite]
  refine congrArg (fun v : ℝ => (v : EReal)) ?_
  show (if 0 < A.pre r e then _ else _) = (∑ l, A.D r l * A.W e l) * (2 * max (A.pre r e) 0)
  split_ifs with hp
  · show max (A.pre r e) 0 * _ + _ * max (A.pre r e) 0 = _
    ring
  · rw [max_eq_right (not_lt.mp hp)]
    ring

/-- The reference's first result. -/
theorem ref_dp (r : Fin 16384) (e : Fin 4096) : truncf .bf16 (back h u w d) bitsLt_bf16_f32 (ix2 r e) = dpA A (ix2 r e) := back_entry h u w d A hh hu hw hd r e

/-- The reference's second result. -/
theorem ref_dh (r : Fin 16384) (k : Fin 1024) :
    Host.dotGeneral (F := Ideal) (φ₁ := .f32) (φ₂ := .f32) dot_S16384x4096_S1024x4096_S16384x1024_1_1_0_0_n_n none (back h u w d) u (ix2 r k) = dhA A (ix2 r k) := by
  have e := back_entry h u w d A hh hu hw hd
  generalize back h u w d = q at e ⊢
  pointwise
  simp only [e, hu, ← EReal.coe_mul, coe_sum]
  rfl
end

/-- Both gradients are the reference's, on finite inputs. -/
theorem algebraic : @Cert.algebraic_FfnIdeal_FfnRefIdeal_pre_ffnb_finite Cert.FfnIdeal.Gen.facts Cert.FfnRefIdeal.Gen.facts Cert.Pre_ffnb_finite.Gen.facts := by
  pair_intro
  · run_from Cert.FfnIdeal.Value.run_blocks m g
  · run_from Cert.FfnRefIdeal.Value.run m' g'
    all_goals
      obtain ⟨h0, h1, h2, h3⟩ := hpre c
      choose H hh using fun (r : Fin 16384) (k : Fin 1024) => Finite.entry _ _ h0 (ix2 r k)
      choose U hu using fun (k : Fin 1024) (e : Fin 4096) => Finite.entry _ _ h1 (ix2 k e)
      choose W hw using fun (e : Fin 4096) (l : Fin 1024) => Finite.entry _ _ h2 (ix2 e l)
      choose D hd using fun (r : Fin 16384) (k : Fin 1024) => Finite.entry _ _ h3 (ix2 r k)
      have hA : Holds m c ⟨H, U, W, D⟩ := ⟨hh, hu, hw, hd⟩
    · rw [final4 m c _ hA]
      funext j
      idx_vars j
      exact ref_dp _ _ _ _ ⟨H, U, W, D⟩ hh hu hw hd j0 j1
    · rw [final5 m c _ hA]
      funext j
      idx_vars j
      exact ref_dh _ _ _ _ ⟨H, U, W, D⟩ hh hu hw hd j0 j1

end Cert.FfnClaim

end
-- ==== Proof.MixbPoint.lean ====
/-
  The two causal convolutions' gradients, one row at a time: the kernel keeps a block's cotangent rows and the 32 rows
  after them in one buffer, copies it shifted by one to seven rows into a second one, and sums the taps over rows read at
  multiples of eight.
-/
module

public import proofs.«01_k».proof.Proof.RealCalc
public import proofs.«01_k».proof.Proof.Gen.MixbIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MixbPoint

open Cert.RealCalc Cert.MixbIdeal Cert.MixbIdeal.Gen

/-- The row `n` of an array of 16384 rows, and zero after the last. -/
def ext (C : Fin 16384 → Fin 256 → ℝ) (n : ℕ) (l : Fin 256) : ℝ := if h : n < 16384 then C ⟨n, h⟩ l else 0

theorem ext_lt (C : Fin 16384 → Fin 256 → ℝ) (n : Fin 16384) (l : Fin 256) : ((C n l : ℝ) : EReal) = ((ext C n.val l : ℝ) : EReal) := by
  unfold ext
  rw [dif_pos n.isLt]

theorem ext_ge (C : Fin 16384 → Fin 256 → ℝ) (n : ℕ) (l : Fin 256) (h : ¬ n < 16384) : ((0 : ℝ) : EReal) = ((ext C n l : ℝ) : EReal) := by
  unfold ext
  rw [dif_neg h]

/-- Tap `j`, and zero after the last. -/
def tap {K : ℕ} (W : Fin K → Fin 256 → ℝ) (l : Fin 256) (j : ℕ) : ℝ := if h : j < K then W ⟨j, h⟩ l else 0

/-- The gradient of a causal convolution of `K` taps: row `n` gets tap `j` of the cotangent's row `n + (K - 1) - j`. -/
def dconv {K : ℕ} (W : Fin K → Fin 256 → ℝ) (C : Fin 16384 → Fin 256 → ℝ) (n : ℕ) (l : Fin 256) : ℝ :=
  ∑ j ∈ Finset.range K, tap W l j * ext C (n + (K - 1) - j) l

/-- The 31 terms of a sum. -/
theorem sum31 (f g : ℕ → ℝ) : f 0 * g 0 + f 1 * g 1 + f 2 * g 2 + f 3 * g 3 + f 4 * g 4 + f 5 * g 5 + f 6 * g 6 + f 7 * g 7 + f 8 * g 8 + f 9 * g 9 + f 10 * g 10 + f 11 * g 11 + f 12 * g 12 + f 13 * g 13 + f 14 * g 14 + f 15 * g 15 + f 16 * g 16 + f 17 * g 17 + f 18 * g 18 + f 19 * g 19 + f 20 * g 20 + f 21 * g 21 + f 22 * g 22 + f 23 * g 23 + f 24 * g 24 + f 25 * g 25 + f 26 * g 26 + f 27 * g 27 + f 28 * g 28 + f 29 * g 29 + f 30 * g 30 = ∑ j ∈ Finset.range 31, f j * g j := by
  simp only [Finset.sum_range_succ, Finset.sum_range_zero, zero_add]

section Buffers

variable (E : ℕ → Fin 256 → ℝ)

/-- A buffer of a block's rows and of the 32 rows after them. -/
theorem rows (x : FVec Ideal S512x256 .f32) (y : FVec Ideal S32x256 .f32) (hx : ∀ r l, x (ix2 r l) = ((E r.val l : ℝ) : EReal))
    (hy : ∀ r l, y (ix2 r l) = ((E (512 + r.val) l : ℝ) : EReal)) :
    View.canon (Val := Elt Ideal) (e := .f32)
      [⟨Rect.unit (s := S544x256) ![512, 0] ![32, 256] inb_S544x256_S32x256_512_0, y⟩, ⟨Rect.unit (s := S544x256) ![0, 0] ![512, 256] inb_S544x256_S512x256_0_0, x⟩]
      = fun j : S544x256.Idx => ((E (j 0).val (j 1) : ℝ) : EReal) := by
  funext j
  canon_tiles i h using (View.cover_of_tiledBy (Val := Elt Ideal) (e := .f32) (s := S544x256)
    [⟨Rect.unit (s := S544x256) ![512, 0] ![32, 256] inb_S544x256_S32x256_512_0, y⟩, ⟨Rect.unit (s := S544x256) ![0, 0] ![512, 256] inb_S544x256_S512x256_0_0, x⟩]
    ![32, 256] (by sl_kernel_rfl) j)
  all_goals
    idx_vars i
    idx_vars j
  · refine (hy i0 i1).trans ?_
    exact congrArg (fun v : ℝ => (v : EReal)) (congrArg₂ E h0.symm (Fin.ext h1.symm))
  · refine (hx i0 i1).trans ?_
    exact congrArg (fun v : ℝ => (v : EReal)) (congrArg₂ E h0.symm (Fin.ext h1.symm))

variable (v : View sig .tc .vmem S544x256 .f32) (L : List (View.Piece (Elt Ideal) S544x256 .f32))
  (hL : View.canon L = fun j : S544x256.Idx => ((E (j 0).val (j 1) : ℝ) : EReal))
include hL

/-- Rows of the buffer, from row `o`. -/
theorem rows_read (o n : ℕ) (h : ∀ a, (![o, 0] : Fin 2 → ℕ) a + (![512, 256] : Fin 2 → ℕ) a ≤ S544x256.size a) (r : Fin 512) (l : Fin 256) (hn : o = n) :
    v.readCov L (Rect.unit (s := S544x256) ![o, 0] ![512, 256] h).toLoadRect (ix2 r l) = ((E (n + r.val) l : ℝ) : EReal) := by
  subst hn
  rw [View.readCov_eq_canon', hL]
  exact congrArg (fun v : ℝ => (v : EReal)) (congrArg₂ E (Rect.idx_unit_val (s := S544x256) ![o, 0] ![512, 256] h (ix2 r l) 0)
    (Fin.ext ((Rect.idx_unit_val (s := S544x256) ![o, 0] ![512, 256] h (ix2 r l) 1).trans (Nat.zero_add _))))

/-- 536 rows of the buffer, from row `o`. -/
theorem long_read (o : ℕ) (h : ∀ a, (![o, 0] : Fin 2 → ℕ) a + (![536, 256] : Fin 2 → ℕ) a ≤ S544x256.size a) (r : Fin 536) (l : Fin 256) :
    v.readCov L (Rect.unit (s := S544x256) ![o, 0] ![536, 256] h).toLoadRect (ix2 r l) = ((E (o + r.val) l : ℝ) : EReal) := by
  rw [View.readCov_eq_canon', hL]
  exact congrArg (fun v : ℝ => (v : EReal)) (congrArg₂ E (Rect.idx_unit_val (s := S544x256) ![o, 0] ![536, 256] h (ix2 r l) 0)
    (Fin.ext ((Rect.idx_unit_val (s := S544x256) ![o, 0] ![536, 256] h (ix2 r l) 1).trans (Nat.zero_add _))))

/-- The seven shifted copies. -/
theorem copies :
    View.canon (Val := Elt Ideal) (e := .f32) (s := S7x536x256)
      [⟨Rect.unit (s := S7x536x256) ![6, 0, 0] ![1, 536, 256] inb_S7x536x256_S1x536x256_6_0_0, k0_pay22 (F := Ideal) (v.readCov L (Rect.unit (s := S544x256) ![7, 0] ![536, 256] inb_S544x256_S536x256_7_0).toLoadRect)⟩,
       ⟨Rect.unit (s := S7x536x256) ![5, 0, 0] ![1, 536, 256] inb_S7x536x256_S1x536x256_5_0_0, k0_pay21 (F := Ideal) (v.readCov L (Rect.unit (s := S544x256) ![6, 0] ![536, 256] inb_S544x256_S536x256_6_0).toLoadRect)⟩,
       ⟨Rect.unit (s := S7x536x256) ![4, 0, 0] ![1, 536, 256] inb_S7x536x256_S1x536x256_4_0_0, k0_pay20 (F := Ideal) (v.readCov L (Rect.unit (s := S544x256) ![5, 0] ![536, 256] inb_S544x256_S536x256_5_0).toLoadRect)⟩,
       ⟨Rect.unit (s := S7x536x256) ![3, 0, 0] ![1, 536, 256] inb_S7x536x256_S1x536x256_3_0_0, k0_pay19 (F := Ideal) (v.readCov L (Rect.unit (s := S544x256) ![4, 0] ![536, 256] inb_S544x256_S536x256_4_0).toLoadRect)⟩,
       ⟨Rect.unit (s := S7x536x256) ![2, 0, 0] ![1, 536, 256] inb_S7x536x256_S1x536x256_2_0_0, k0_pay18 (F := Ideal) (v.readCov L (Rect.unit (s := S544x256) ![3, 0] ![536, 256] inb_S544x256_S536x256_3_0).toLoadRect)⟩,
       ⟨Rect.unit (s := S7x536x256) ![1, 0, 0] ![1, 536, 256] inb_S7x536x256_S1x536x256_1_0_0, k0_pay17 (F := Ideal) (v.readCov L (Rect.unit (s := S544x256) ![2, 0] ![536, 256] inb_S544x256_S536x256_2_0).toLoadRect)⟩,
       ⟨Rect.unit (s := S7x536x256) ![0, 0, 0] ![1, 536, 256] inb_S7x536x256_S1x536x256_0_0_0, k0_pay16 (F := Ideal) (v.readCov L (Rect.unit (s := S544x256) ![1, 0] ![536, 256] inb_S544x256_S536x256_1_0).toLoadRect)⟩]
      = fun j : S7x536x256.Idx => ((E ((j 0).val + 1 + (j 1).val) (j 2) : ℝ) : EReal) := by
  funext j
  canon_tiles i h
  all_goals
    idx_vars i
    idx_vars j
    pointwise [k0_pay16, k0_pay17, k0_pay18, k0_pay19, k0_pay20, k0_pay21, k0_pay22]
    refine (long_read E v L hL _ _ _ _).trans ?_
    exact congrArg (fun v : ℝ => (v : EReal)) (congrArg₂ E (by omega) (Fin.ext h2.symm))

end Buffers

/-- Rows of a shifted copy. -/
theorem copies_read (E : ℕ → Fin 256 → ℝ) (v : View sig .tc .vmem S7x536x256 .f32) (L : List (View.Piece (Elt Ideal) S7x536x256 .f32))
    (hL : View.canon L = fun j : S7x536x256.Idx => ((E ((j 0).val + 1 + (j 1).val) (j 2) : ℝ) : EReal))
    (b o n : ℕ) (h : ∀ a, (![b, o, 0] : Fin 3 → ℕ) a + (![1, 512, 256] : Fin 3 → ℕ) a ≤ S7x536x256.size a) (r : Fin 512) (l : Fin 256) (hn : b + 1 + o = n) :
    v.readCov L (Rect.unit (s := S7x536x256) ![b, o, 0] ![1, 512, 256] h).toLoadRect (ix3 0 r l) = ((E (n + r.val) l : ℝ) : EReal) := by
  subst hn
  rw [View.readCov_eq_canon', hL]
  refine congrArg (fun v : ℝ => (v : EReal)) (congrArg₂ E ?_ (Fin.ext ((Rect.idx_unit_val (s := S7x536x256) ![b, o, 0] ![1, 512, 256] h (ix3 0 r l) 2).trans (Nat.zero_add _))))
  exact (congrArg₂ (fun a b : ℕ => a + 1 + b) (Rect.idx_unit_val (s := S7x536x256) ![b, o, 0] ![1, 512, 256] h (ix3 0 r l) 0) (Rect.idx_unit_val (s := S7x536x256) ![b, o, 0] ![1, 512, 256] h (ix3 0 r l) 1)).trans (Nat.add_assoc _ _ _).symm

/-- A tap, read from the padded taps. -/
theorem tap8 (w : FVec Ideal S8x256 .f32) (T : ℕ → ℝ) (l : Fin 256) (hw : ∀ k : Fin 8, w (ix2 k l) = ((T k.val : ℝ) : EReal))
    (k : ℕ) (h : ∀ a, (![k, 0] : Fin 2 → ℕ) a + (![1, 256] : Fin 2 → ℕ) a ≤ S8x256.size a) :
    View.ld (Val := Elt Ideal) (e' := .f32) w (Rect.unit (s := S8x256) ![k, 0] ![1, 256] h) (ix2 0 l) = ((T k : ℝ) : EReal) := by
  have hk : k < 8 := h 0
  refine Eq.trans ?_ (hw ⟨k, hk⟩)
  refine View.ld_unit_apply_of (Val := Elt Ideal) (e := .f32) w _ _ _ _ _ ?_
  intro a; fin_cases a <;> simp

theorem tap32 (w : FVec Ideal S32x256 .f32) (T : ℕ → ℝ) (l : Fin 256) (hw : ∀ k : Fin 32, w (ix2 k l) = ((T k.val : ℝ) : EReal))
    (k : ℕ) (h : ∀ a, (![k, 0] : Fin 2 → ℕ) a + (![1, 256] : Fin 2 → ℕ) a ≤ S32x256.size a) :
    View.ld (Val := Elt Ideal) (e' := .f32) w (Rect.unit (s := S32x256) ![k, 0] ![1, 256] h) (ix2 0 l) = ((T k : ℝ) : EReal) := by
  have hk : k < 32 := h 0
  refine Eq.trans ?_ (hw ⟨k, hk⟩)
  refine View.ld_unit_apply_of (Val := Elt Ideal) (e := .f32) w _ _ _ _ _ ?_
  intro a; fin_cases a <;> simp

/-- A column group of the projected input. -/
theorem zcol (z : FVec Ideal S512x2560 .bf16) (o : ℕ) (h : ∀ a, (![0, o] : Fin 2 → ℕ) a + (![512, 256] : Fin 2 → ℕ) a ≤ S512x2560.size a) (r : Fin 512) (l : Fin 256) :
    View.ld (Val := Elt Ideal) (e' := .bf16) z (Rect.unit (s := S512x2560) ![0, o] ![512, 256] h) (ix2 r l)
      = z (ix2 r ⟨o + l.val, by have h1 : o + 256 ≤ 2560 := h 1; omega⟩) := by
  refine View.ld_unit_apply_of (Val := Elt Ideal) (e := .bf16) z _ _ _ _ _ ?_
  intro a; fin_cases a <;> simp

/-- The sigmoid of a gate. -/
def sg (x : ℝ) : ℝ := 1 / (1 + Real.exp (-x))

section Chain

variable (r : Fin 512) (l : Fin 256)

/-! The 31 taps, some at a time. -/

theorem taps23 {w0 : FVec Ideal S1x256 .f32} {x0 : FVec Ideal S1x512x256 .f32} {u0 v0 : ℝ} {w1 : FVec Ideal S1x256 .f32} {x1 : FVec Ideal S1x512x256 .f32} {u1 v1 : ℝ}
    (h0 : w0 (ix2 0 l) = ((u0 : ℝ) : EReal)) (k0 : x0 (ix3 0 r l) = ((v0 : ℝ) : EReal)) (h1 : w1 (ix2 0 l) = ((u1 : ℝ) : EReal)) (k1 : x1 (ix3 0 r l) = ((v1 : ℝ) : EReal)) :
    k0_pay23 (F := Ideal) w0 x0 w1 x1 (ix2 r l) = ((u0 * v0 + u1 * v1 : ℝ) : EReal) := by
  pointwise [k0_pay23]
  simp only [h0, k0, h1, k1, ← EReal.coe_zero, zero_add, ← EReal.coe_mul, ← EReal.coe_add]

theorem taps24 {a : FVec Ideal S512x256 .f32} {s : ℝ} {w0 : FVec Ideal S1x256 .f32} {x0 : FVec Ideal S1x512x256 .f32} {u0 v0 : ℝ} {w1 : FVec Ideal S1x256 .f32} {x1 : FVec Ideal S1x512x256 .f32} {u1 v1 : ℝ} {w2 : FVec Ideal S1x256 .f32} {x2 : FVec Ideal S1x512x256 .f32} {u2 v2 : ℝ} {w3 : FVec Ideal S1x256 .f32} {x3 : FVec Ideal S1x512x256 .f32} {u3 v3 : ℝ} {w4 : FVec Ideal S1x256 .f32} {x4 : FVec Ideal S512x256 .f32} {u4 v4 : ℝ}
    (h : a (ix2 r l) = ((s : ℝ) : EReal)) (h0 : w0 (ix2 0 l) = ((u0 : ℝ) : EReal)) (k0 : x0 (ix3 0 r l) = ((v0 : ℝ) : EReal)) (h1 : w1 (ix2 0 l) = ((u1 : ℝ) : EReal)) (k1 : x1 (ix3 0 r l) = ((v1 : ℝ) : EReal)) (h2 : w2 (ix2 0 l) = ((u2 : ℝ) : EReal)) (k2 : x2 (ix3 0 r l) = ((v2 : ℝ) : EReal)) (h3 : w3 (ix2 0 l) = ((u3 : ℝ) : EReal)) (k3 : x3 (ix3 0 r l) = ((v3 : ℝ) : EReal)) (h4 : w4 (ix2 0 l) = ((u4 : ℝ) : EReal)) (k4 : x4 (ix2 r l) = ((v4 : ℝ) : EReal)) :
    k0_pay24 (F := Ideal) a w0 x0 w1 x1 w2 x2 w3 x3 w4 x4 (ix2 r l) = ((s + u0 * v0 + u1 * v1 + u2 * v2 + u3 * v3 + u4 * v4 : ℝ) : EReal) := by
  pointwise [k0_pay24]
  simp only [h, h0, k0, h1, k1, h2, k2, h3, k3, h4, k4, ← EReal.coe_zero, zero_add, ← EReal.coe_mul, ← EReal.coe_add]

theorem taps25 {a : FVec Ideal S512x256 .f32} {s : ℝ} {w0 : FVec Ideal S1x256 .f32} {x0 : FVec Ideal S1x512x256 .f32} {u0 v0 : ℝ} {w1 : FVec Ideal S1x256 .f32} {x1 : FVec Ideal S1x512x256 .f32} {u1 v1 : ℝ} {w2 : FVec Ideal S1x256 .f32} {x2 : FVec Ideal S1x512x256 .f32} {u2 v2 : ℝ} {w3 : FVec Ideal S1x256 .f32} {x3 : FVec Ideal S1x512x256 .f32} {u3 v3 : ℝ} {w4 : FVec Ideal S1x256 .f32} {x4 : FVec Ideal S1x512x256 .f32} {u4 v4 : ℝ}
    (h : a (ix2 r l) = ((s : ℝ) : EReal)) (h0 : w0 (ix2 0 l) = ((u0 : ℝ) : EReal)) (k0 : x0 (ix3 0 r l) = ((v0 : ℝ) : EReal)) (h1 : w1 (ix2 0 l) = ((u1 : ℝ) : EReal)) (k1 : x1 (ix3 0 r l) = ((v1 : ℝ) : EReal)) (h2 : w2 (ix2 0 l) = ((u2 : ℝ) : EReal)) (k2 : x2 (ix3 0 r l) = ((v2 : ℝ) : EReal)) (h3 : w3 (ix2 0 l) = ((u3 : ℝ) : EReal)) (k3 : x3 (ix3 0 r l) = ((v3 : ℝ) : EReal)) (h4 : w4 (ix2 0 l) = ((u4 : ℝ) : EReal)) (k4 : x4 (ix3 0 r l) = ((v4 : ℝ) : EReal)) :
    k0_pay25 (F := Ideal) a w0 x0 w1 x1 w2 x2 w3 x3 w4 x4 (ix2 r l) = ((s + u0 * v0 + u1 * v1 + u2 * v2 + u3 * v3 + u4 * v4 : ℝ) : EReal) := by
  pointwise [k0_pay25]
  simp only [h, h0, k0, h1, k1, h2, k2, h3, k3, h4, k4, ← EReal.coe_zero, zero_add, ← EReal.coe_mul, ← EReal.coe_add]

theorem taps26 {a : FVec Ideal S512x256 .f32} {s : ℝ} {w0 : FVec Ideal S1x256 .f32} {x0 : FVec Ideal S1x512x256 .f32} {u0 v0 : ℝ} {w1 : FVec Ideal S1x256 .f32} {x1 : FVec Ideal S1x512x256 .f32} {u1 v1 : ℝ} {w2 : FVec Ideal S1x256 .f32} {x2 : FVec Ideal S512x256 .f32} {u2 v2 : ℝ} {w3 : FVec Ideal S1x256 .f32} {x3 : FVec Ideal S1x512x256 .f32} {u3 v3 : ℝ} {w4 : FVec Ideal S1x256 .f32} {x4 : FVec Ideal S1x512x256 .f32} {u4 v4 : ℝ}
    (h : a (ix2 r l) = ((s : ℝ) : EReal)) (h0 : w0 (ix2 0 l) = ((u0 : ℝ) : EReal)) (k0 : x0 (ix3 0 r l) = ((v0 : ℝ) : EReal)) (h1 : w1 (ix2 0 l) = ((u1 : ℝ) : EReal)) (k1 : x1 (ix3 0 r l) = ((v1 : ℝ) : EReal)) (h2 : w2 (ix2 0 l) = ((u2 : ℝ) : EReal)) (k2 : x2 (ix2 r l) = ((v2 : ℝ) : EReal)) (h3 : w3 (ix2 0 l) = ((u3 : ℝ) : EReal)) (k3 : x3 (ix3 0 r l) = ((v3 : ℝ) : EReal)) (h4 : w4 (ix2 0 l) = ((u4 : ℝ) : EReal)) (k4 : x4 (ix3 0 r l) = ((v4 : ℝ) : EReal)) :
    k0_pay26 (F := Ideal) a w0 x0 w1 x1 w2 x2 w3 x3 w4 x4 (ix2 r l) = ((s + u0 * v0 + u1 * v1 + u2 * v2 + u3 * v3 + u4 * v4 : ℝ) : EReal) := by
  pointwise [k0_pay26]
  simp only [h, h0, k0, h1, k1, h2, k2, h3, k3, h4, k4, ← EReal.coe_zero, zero_add, ← EReal.coe_mul, ← EReal.coe_add]

theorem taps28 {a : FVec Ideal S512x256 .f32} {s : ℝ} {w0 : FVec Ideal S1x256 .f32} {x0 : FVec Ideal S1x512x256 .f32} {u0 v0 : ℝ} {w1 : FVec Ideal S1x256 .f32} {x1 : FVec Ideal S1x512x256 .f32} {u1 v1 : ℝ} {w2 : FVec Ideal S1x256 .f32} {x2 : FVec Ideal S1x512x256 .f32} {u2 v2 : ℝ} {w3 : FVec Ideal S1x256 .f32} {x3 : FVec Ideal S1x512x256 .f32} {u3 v3 : ℝ} {w4 : FVec Ideal S1x256 .f32} {x4 : FVec Ideal S1x512x256 .f32} {u4 v4 : ℝ}
    (h : a (ix2 r l) = ((s : ℝ) : EReal)) (h0 : w0 (ix2 0 l) = ((u0 : ℝ) : EReal)) (k0 : x0 (ix3 0 r l) = ((v0 : ℝ) : EReal)) (h1 : w1 (ix2 0 l) = ((u1 : ℝ) : EReal)) (k1 : x1 (ix3 0 r l) = ((v1 : ℝ) : EReal)) (h2 : w2 (ix2 0 l) = ((u2 : ℝ) : EReal)) (k2 : x2 (ix3 0 r l) = ((v2 : ℝ) : EReal)) (h3 : w3 (ix2 0 l) = ((u3 : ℝ) : EReal)) (k3 : x3 (ix3 0 r l) = ((v3 : ℝ) : EReal)) (h4 : w4 (ix2 0 l) = ((u4 : ℝ) : EReal)) (k4 : x4 (ix3 0 r l) = ((v4 : ℝ) : EReal)) :
    k0_pay28 (F := Ideal) a (k0_pay27 (F := Ideal) w0) x0 w1 x1 w2 x2 w3 x3 w4 x4 (ix2 r l) = ((s + u0 * v0 + u1 * v1 + u2 * v2 + u3 * v3 + u4 * v4 : ℝ) : EReal) := by
  pointwise [k0_pay28, k0_pay27]
  simp only [h, h0, k0, h1, k1, h2, k2, h3, k3, h4, k4, ← EReal.coe_zero, zero_add, ← EReal.coe_mul, ← EReal.coe_add]

theorem taps30 {a : FVec Ideal S512x256 .f32} {s : ℝ} {w0 : FVec Ideal S1x256 .f32} {x0 : FVec Ideal S512x256 .f32} {u0 v0 : ℝ} {w1 : FVec Ideal S1x256 .f32} {x1 : FVec Ideal S1x512x256 .f32} {u1 v1 : ℝ} {w2 : FVec Ideal S1x256 .f32} {x2 : FVec Ideal S1x512x256 .f32} {u2 v2 : ℝ} {w3 : FVec Ideal S1x256 .f32} {x3 : FVec Ideal S1x512x256 .f32} {u3 v3 : ℝ} {w4 : FVec Ideal S1x256 .f32} {x4 : FVec Ideal S1x512x256 .f32} {u4 v4 : ℝ}
    (h : a (ix2 r l) = ((s : ℝ) : EReal)) (h0 : w0 (ix2 0 l) = ((u0 : ℝ) : EReal)) (k0 : x0 (ix2 r l) = ((v0 : ℝ) : EReal)) (h1 : w1 (ix2 0 l) = ((u1 : ℝ) : EReal)) (k1 : x1 (ix3 0 r l) = ((v1 : ℝ) : EReal)) (h2 : w2 (ix2 0 l) = ((u2 : ℝ) : EReal)) (k2 : x2 (ix3 0 r l) = ((v2 : ℝ) : EReal)) (h3 : w3 (ix2 0 l) = ((u3 : ℝ) : EReal)) (k3 : x3 (ix3 0 r l) = ((v3 : ℝ) : EReal)) (h4 : w4 (ix2 0 l) = ((u4 : ℝ) : EReal)) (k4 : x4 (ix3 0 r l) = ((v4 : ℝ) : EReal)) :
    k0_pay30 (F := Ideal) a (k0_pay29 (F := Ideal) w0) x0 w1 x1 w2 x2 w3 x3 w4 x4 (ix2 r l) = ((s + u0 * v0 + u1 * v1 + u2 * v2 + u3 * v3 + u4 * v4 : ℝ) : EReal) := by
  pointwise [k0_pay30, k0_pay29]
  simp only [h, h0, k0, h1, k1, h2, k2, h3, k3, h4, k4, ← EReal.coe_zero, zero_add, ← EReal.coe_mul, ← EReal.coe_add]

theorem taps32 {a : FVec Ideal S512x256 .f32} {s : ℝ} {w0 : FVec Ideal S1x256 .f32} {x0 : FVec Ideal S1x512x256 .f32} {u0 v0 : ℝ} {w1 : FVec Ideal S1x256 .f32} {x1 : FVec Ideal S1x512x256 .f32} {u1 v1 : ℝ} {w2 : FVec Ideal S1x256 .f32} {x2 : FVec Ideal S1x512x256 .f32} {u2 v2 : ℝ} {w3 : FVec Ideal S1x256 .f32} {x3 : FVec Ideal S512x256 .f32} {u3 v3 : ℝ}
    (h : a (ix2 r l) = ((s : ℝ) : EReal)) (h0 : w0 (ix2 0 l) = ((u0 : ℝ) : EReal)) (k0 : x0 (ix3 0 r l) = ((v0 : ℝ) : EReal)) (h1 : w1 (ix2 0 l) = ((u1 : ℝ) : EReal)) (k1 : x1 (ix3 0 r l) = ((v1 : ℝ) : EReal)) (h2 : w2 (ix2 0 l) = ((u2 : ℝ) : EReal)) (k2 : x2 (ix3 0 r l) = ((v2 : ℝ) : EReal)) (h3 : w3 (ix2 0 l) = ((u3 : ℝ) : EReal)) (k3 : x3 (ix2 r l) = ((v3 : ℝ) : EReal)) :
    k0_pay32 (F := Ideal) a (k0_pay31 (F := Ideal) w0) x0 w1 x1 w2 x2 w3 x3 (ix2 r l) = ((s + u0 * v0 + u1 * v1 + u2 * v2 + u3 * v3 : ℝ) : EReal) := by
  pointwise [k0_pay32, k0_pay31]
  simp only [h, h0, k0, h1, k1, h2, k2, h3, k3, ← EReal.coe_zero, zero_add, ← EReal.coe_mul, ← EReal.coe_add]

end Chain

section Groups

variable (r : Fin 512) (l : Fin 256)

theorem gate_at (z : FVec Ideal S512x256 .bf16) (g : ℝ) (h : z (ix2 r l) = ((g : ℝ) : EReal)) : k0_pay34 (F := Ideal) z (ix2 r l) = ((sg g : ℝ) : EReal) := by
  pointwise [k0_pay34]
  simp only [h, ← EReal.coe_zero, ← EReal.coe_one, ← EReal.coe_sub, zero_sub, exp_coe, ← EReal.coe_add]
  refine (div_coe ?_).trans rfl
  positivity

/-- The last group: the gate's gradient. -/
theorem last_at (a : FVec Ideal S512x256 .f32) (z g : FVec Ideal S512x256 .bf16) (H Z G : ℝ) (ha : a (ix2 r l) = ((H : ℝ) : EReal))
    (hz : z (ix2 r l) = ((Z : ℝ) : EReal)) (hg : g (ix2 r l) = ((G : ℝ) : EReal)) :
    k0_pay2 (F := Ideal) a (k0_pay33 (F := Ideal) z) (k0_pay34 (F := Ideal) g) (ix2 r l) = ((H * Z * sg G * (1 - sg G) : ℝ) : EReal) := by
  have h := gate_at r l g G hg
  generalize k0_pay34 (F := Ideal) g = q at h ⊢
  pointwise [k0_pay2, k0_pay33]
  simp only [ha, hz, h, ← EReal.coe_one, ← EReal.coe_sub, ← EReal.coe_mul]

/-- The group before it: the gradient through the gate. -/
theorem gated_at {a : FVec Ideal S512x256 .f32} {w0 : FVec Ideal S1x256 .f32} {x0 : FVec Ideal S1x512x256 .f32} {w1 : FVec Ideal S1x256 .f32} {x1 : FVec Ideal S1x512x256 .f32}
    {w2 : FVec Ideal S1x256 .f32} {x2 : FVec Ideal S1x512x256 .f32} {w3 : FVec Ideal S1x256 .f32} {x3 : FVec Ideal S512x256 .f32} {g : FVec Ideal S512x256 .bf16} {H G : ℝ}
    (ha : k0_pay32 (F := Ideal) a w0 x0 w1 x1 w2 x2 w3 x3 (ix2 r l) = ((H : ℝ) : EReal)) (hg : g (ix2 r l) = ((G : ℝ) : EReal)) :
    k0_pay1 (F := Ideal) (k0_pay35 (F := Ideal) a w0 x0 w1 x1 w2 x2 w3 x3 g) (ix2 r l) = ((H * sg G : ℝ) : EReal) := by
  have h := gate_at r l g G hg
  unfold k0_pay35
  generalize k0_pay34 (F := Ideal) g = q at h ⊢
  generalize k0_pay32 (F := Ideal) a w0 x0 w1 x1 w2 x2 w3 x3 = p at ha ⊢
  pointwise [k0_pay1]
  simp only [ha, h, ← EReal.coe_mul]

/-- A convolution's gradient times a column group. -/
theorem times_at (w0 : FVec Ideal S1x256 .f32) (x0 : FVec Ideal S512x256 .f32) (w1 : FVec Ideal S1x256 .f32) (x1 : FVec Ideal S512x256 .f32)
    (w2 : FVec Ideal S1x256 .f32) (x2 : FVec Ideal S512x256 .f32) (z : FVec Ideal S512x256 .bf16) (u v : ℕ → ℝ) (Z : ℝ)
    (h0 : w0 (ix2 0 l) = ((u 0 : ℝ) : EReal)) (k0 : x0 (ix2 r l) = ((v 0 : ℝ) : EReal))
    (h1 : w1 (ix2 0 l) = ((u 1 : ℝ) : EReal)) (k1 : x1 (ix2 r l) = ((v 1 : ℝ) : EReal))
    (h2 : w2 (ix2 0 l) = ((u 2 : ℝ) : EReal)) (k2 : x2 (ix2 r l) = ((v 2 : ℝ) : EReal)) (hz : z (ix2 r l) = ((Z : ℝ) : EReal)) :
    k0_pay9 (F := Ideal) (k0_pay6 (F := Ideal) w0 x0 w1 x1) (k0_pay7 (F := Ideal) w2) x2 z (ix2 r l) = (((∑ j ∈ Finset.range 3, u j * v j) * Z : ℝ) : EReal)
      ∧ k0_pay10 (F := Ideal) (k0_pay6 (F := Ideal) w0 x0 w1 x1) (k0_pay7 (F := Ideal) w2) x2 z (ix2 r l) = (((∑ j ∈ Finset.range 3, u j * v j) * Z : ℝ) : EReal) := by
  constructor
  all_goals
    pointwise [k0_pay9, k0_pay10, k0_pay8, k0_pay7, k0_pay6]
    simp only [h0, h1, h2, k0, k1, k2, hz, ← EReal.coe_zero, zero_add, ← EReal.coe_mul, ← EReal.coe_add, Finset.sum_range_succ, Finset.sum_range_zero]

/-- The heads' rows, turned. -/
theorem heads_at (x : FVec Ideal S4x64x512 .f32) (H : Fin 4 → Fin 64 → ℝ) (h : ∀ a b, x (ix3 a b r) = ((H a b : ℝ) : EReal)) :
    k0_pay11 (F := Ideal) x (ix2 r l) = ((H ⟨l.val / 64, by omega⟩ ⟨l.val % 64, by omega⟩ : ℝ) : EReal)
      ∧ k0_pay12 (F := Ideal) x (ix2 r l) = ((H ⟨l.val / 64, by omega⟩ ⟨l.val % 64, by omega⟩ : ℝ) : EReal)
      ∧ k0_pay13 (F := Ideal) x (ix2 r l) = ((H ⟨l.val / 64, by omega⟩ ⟨l.val % 64, by omega⟩ : ℝ) : EReal) := by
  refine ⟨?_, ?_, ?_⟩
  all_goals
    pointwise [k0_pay11, k0_pay12, k0_pay13]
    exact h _ _

end Groups

end Cert.MixbPoint

end
-- ==== Proof.ScatterRows.lean ====
/-
  Rows written over the first rows of an array, by a scatter.
-/
module

public import Idealize.ShloMosaic.Lib.Routing.Shapes
public import Idealize.ShloMosaic.Lib.Routing.OpsOne
public import Idealize.ShloMosaic.Lib.Routing.OpsSet
public import Idealize.ShloMosaic.Lib.Pipeline.ValueKit

@[expose] public section

noncomputable section

open Idealize.ShloMosaic Idealize.ShloMosaic.TcCoe Idealize.SL.Sem Idealize.ShloMosaic.Routing

namespace Cert.ScatterRows

section Rows

variable {R C K : ℕ} (d : ScatterDims (shape2 R C) (shape1 1) (shape2 K C)) (idx : IVec (shape1 1) 32) (start : ∀ j, d.start j idx 0 = 0 ∧ d.start j idx 1 = 0)
  (window : ∀ (j : (shape2 K C).Idx), d.window j 0 = (j 0).val ∧ d.window j 1 = (j 1).val)
include start window

/-- Row `a` of the updates lands on row `a`. -/
theorem lands (j : (shape2 K C).Idx) (w : Fin R) (e : Fin C) : d.resultIdx? j idx = some (ix2 w e) ↔ (j 0).val = w.val ∧ (j 1).val = e.val := by
  refine (Routing.resultIdx?_ix2 d j idx w e).trans ?_
  rw [(start j).1, (start j).2, (window j).1, (window j).2]
  omega

/-- The rows set, over the rows there were. -/
theorem set_rows {α : Type} (x : (shape2 R C).Idx → α) (u : (shape2 K C).Idx → α) (w : Fin R) (e : Fin C) :
    Host.scatter d (fun _ b => b) x idx u (ix2 w e) = if h : w.val < K then u (ix2 ⟨w.val, h⟩ e) else x (ix2 w e) := by
  by_cases h : w.val < K
  · rw [dif_pos h]
    refine Routing.scatter_set_hit d x idx u _ _ (fun j hj => ?_) (ix2 ⟨w.val, h⟩ e) ((lands d idx start window _ w e).2 ⟨rfl, rfl⟩)
    have q := (lands d idx start window j w e).1 hj
    refine congrArg u ?_
    funext a
    fin_cases a
    · exact Fin.ext q.1
    · exact Fin.ext q.2
  · rw [dif_neg h]
    exact Routing.scatter_set_miss d x idx u _ fun j hj => h (((lands d idx start window j w e).1 hj).1 ▸ (j 0).isLt)

end Rows

end Cert.ScatterRows

end
-- ==== Proof.MixbTaps.lean ====
/-
  The taps of a convolution, padded with rows of zeros.
-/
module

public import proofs.«01_k».proof.Proof.Gen.MixbIdeal.Value
public import proofs.«01_k».proof.Proof.ScatterRows

@[expose] public section

noncomputable section

open Idealize.ShloMosaic Idealize.ShloMosaic.TcCoe Idealize.SL.Sem Idealize.ShloMosaic.Routing

namespace Cert.MixbTaps

open Cert.MixbIdeal Cert.MixbIdeal.Gen Cert.ScatterRows

theorem set8 {α : Type} (x : S8x256.Idx → α) (idx : IVec S1 32) (h0 : ∀ a, (idx a).toInt = 0) (u : S3x256.Idx → α) (w : Fin 8) (e : Fin 256) :
    Host.scatter scatter_S8x256_S1_S3x256_01_n_0_0 (fun _ b => b) x idx u (ix2 w e) = if h : w.val < 3 then u (ix2 ⟨w.val, h⟩ e) else x (ix2 w e) := by
  refine set_rows scatter_S8x256_S1_S3x256_01_n_0_0 idx (fun j => ⟨?_, ?_⟩) (fun j => ⟨?_, ?_⟩) x u w e
  · rw [ScatterDims.start, dif_pos (by decide), h0]
  · rw [ScatterDims.start, dif_neg (by decide)]
  · rw [ScatterDims.window, dif_pos (by decide)]; rfl
  · rw [ScatterDims.window, dif_pos (by decide)]; rfl

theorem set32 {α : Type} (x : S32x256.Idx → α) (idx : IVec S1 32) (h0 : ∀ a, (idx a).toInt = 0) (u : S31x256.Idx → α) (w : Fin 32) (e : Fin 256) :
    Host.scatter scatter_S32x256_S1_S31x256_01_n_0_0 (fun _ b => b) x idx u (ix2 w e) = if h : w.val < 31 then u (ix2 ⟨w.val, h⟩ e) else x (ix2 w e) := by
  refine set_rows scatter_S32x256_S1_S31x256_01_n_0_0 idx (fun j => ⟨?_, ?_⟩) (fun j => ⟨?_, ?_⟩) x u w e
  · rw [ScatterDims.start, dif_pos (by decide), h0]
  · rw [ScatterDims.start, dif_neg (by decide)]
  · rw [ScatterDims.window, dif_pos (by decide)]; rfl
  · rw [ScatterDims.window, dif_pos (by decide)]; rfl

end Cert.MixbTaps

end
-- ==== Proof.MixbValue.lean ====
/-
  The projected input's gradient after the run: each point writes the eight column groups of its block of rows.
-/
module

public import proofs.«01_k».proof.Proof.MixbPoint
public import proofs.«01_k».proof.Proof.MixbTaps
public import Idealize.ShloMosaic.Lib.Claim

@[expose] public section

set_option maxRecDepth 100000

noncomputable section

open Idealize.ShloMosaic Idealize.ShloMosaic.TcCoe Idealize.SL.Sem
open Idealize.ShloMosaic.Pipeline (Dat)

namespace Cert.MixbValue

open Cert.RealCalc Cert.MixbPoint Cert.MixbIdeal Cert.MixbIdeal.Gen

/-- The arguments' real values: the projected input, the taps of the two convolutions, the cotangents of the six parts. -/
structure Args where
  Z : Fin 16384 → Fin 2560 → ℝ
  S : Fin 3 → Fin 256 → ℝ
  C : Fin 31 → Fin 256 → ℝ
  A : Fin 16384 → Fin 768 → ℝ
  B : Fin 16384 → Fin 256 → ℝ
  Q : Fin 16384 → Fin 4 → Fin 64 → ℝ
  K : Fin 16384 → Fin 4 → Fin 64 → ℝ
  V : Fin 16384 → Fin 4 → Fin 64 → ℝ
  D : Fin 16384 → Fin 256 → ℝ

namespace Args
variable (A : Args)

/-- One entry of the projected input, the gradients through the two convolutions. -/
def z (r : Fin 16384) (o : ℕ) (l : Fin 256) (h : o + 256 ≤ 2560) : ℝ := A.Z r ⟨o + l.val, by omega⟩
def du (r : Fin 16384) (l : Fin 256) : ℝ := dconv A.S A.B r.val l
def dh (r : Fin 16384) (l : Fin 256) : ℝ := dconv A.C A.D r.val l

/-- The six groups of 256 columns after the first 768. -/
def group (r : Fin 16384) (l : Fin 256) : Fin 7 → ℝ :=
  ![A.du r l * A.z r 1024 l (by omega), A.du r l * A.z r 768 l (by omega),
    A.Q r ⟨l.val / 64, by omega⟩ ⟨l.val % 64, by omega⟩, A.K r ⟨l.val / 64, by omega⟩ ⟨l.val % 64, by omega⟩, A.V r ⟨l.val / 64, by omega⟩ ⟨l.val % 64, by omega⟩,
    A.dh r l * sg (A.z r 2304 l (by omega)), A.dh r l * A.z r 2048 l (by omega) * sg (A.z r 2304 l (by omega)) * (1 - sg (A.z r 2304 l (by omega)))]

/-- The projected input's gradient. -/
def dz (r : Fin 16384) (e : Fin 2560) : ℝ :=
  if h : e.val < 768 then A.A r ⟨e.val, h⟩ else A.group r ⟨e.val % 256, by omega⟩ ⟨(e.val - 768) / 256, by omega⟩

theorem dz_first (r : Fin 16384) (e : Fin 2560) (x : Fin 768) (h : e.val = x.val) : A.dz r e = A.A r x := by
  unfold dz
  rw [dif_pos (by omega)]
  exact congrArg (A.A r) (Fin.ext h)

theorem dz_group (r : Fin 16384) (e : Fin 2560) (l : Fin 256) (n : Fin 7) (h : e.val = 768 + 256 * n.val + l.val) : A.dz r e = A.group r l n := by
  unfold dz
  rw [dif_neg (by omega)]
  exact congrArg₂ (A.group r) (Fin.ext (show e.val % 256 = l.val by omega)) (Fin.ext (show (e.val - 768) / 256 = n.val by omega))
end Args

variable (m : (ℓ : Loc nD τ sig) → Buf (Elt Ideal) ℓ) (c : Dev nD)

/-- The windows' block indices. -/
theorem idx : ∀ t : Fin cfg0.N, t.val < 32 ∧ win0_0.index t = ![t.val, 0] ∧ win0_1.index t = ![t.val, 0] ∧ win0_2.index t = ![t.val, 0]
    ∧ win0_3.index t = ![min ((t.val + 1) * 16) 511, 0] ∧ win0_4.index t = ![t.val, 0] ∧ win0_5.index t = ![min ((t.val + 1) * 16) 511, 0]
    ∧ win0_6.index t = ![0, 0, t.val] ∧ win0_7.index t = ![0, 0, t.val] ∧ win0_8.index t = ![0, 0, t.val] ∧ win0_9.index t = ![0, 0] ∧ win0_10.index t = ![0, 0]
    ∧ win0_11.index t = ![t.val, 0] :=
  (by decide +kernel : ∀ t : Fin grid0.N, _)

/-- The body's test for the last block. -/
theorem last : ∀ t : Fin cfg0.N, Scalar.cmpi .eq (BitVec.ofNat 32 (grid0.coords t 0 : ℕ)) 31#32 = if t.val = 31 then 1#1 else 0#1 :=
  (by decide +kernel : ∀ t : Fin grid0.N, _)

theorem row_lt (t : Fin cfg0.N) (r : Fin 512) : t.val * 512 + r.val < 16384 := by
  have := (idx t).1; omega

/-- Row `r` of the block of point `t`, in the arrays. -/
abbrev row (t : Fin cfg0.N) (r : Fin 512) : Fin 16384 := ⟨t.val * 512 + r.val, row_lt t r⟩

theorem blk0 (t : Fin cfg0.N) (r : Fin 512) (e : Fin 2560) :
    (iblk m c 0 t : FVec Ideal S512x2560 .bf16) (ix2 r e) = (m ((c : Thread nD τ).loc main_arg0) : FVec Ideal S16384x2560 .f32) (ix2 (row t r) e) := by
  blk_point [iblk, V, idx t]

theorem blk1 (t : Fin cfg0.N) (r : Fin 512) (e : Fin 768) :
    (iblk m c 1 t : FVec Ideal S512x768 .bf16) (ix2 r e) = (m ((c : Thread nD τ).loc main_arg3) : FVec Ideal S16384x768 .f32) (ix2 (row t r) e) := by
  blk_point [iblk, V, idx t]

theorem blk2 (t : Fin cfg0.N) (r : Fin 512) (l : Fin 256) :
    (iblk m c 2 t : FVec Ideal S512x256 .f32) (ix2 r l) = (m ((c : Thread nD τ).loc main_arg4) : FVec Ideal S16384x256 .f32) (ix2 (row t r) l) := by
  blk_ext [iblk, V, idx t]

theorem blk4 (t : Fin cfg0.N) (r : Fin 512) (l : Fin 256) :
    (iblk m c 4 t : FVec Ideal S512x256 .f32) (ix2 r l) = (m ((c : Thread nD τ).loc main_arg8) : FVec Ideal S16384x256 .f32) (ix2 (row t r) l) := by
  blk_ext [iblk, V, idx t]

/-- The 32 rows after the block, where there are any. -/
theorem blk3 (t : Fin cfg0.N) (h : t.val < 31) (r : Fin 32) (l : Fin 256) :
    (iblk m c 3 t : FVec Ideal S32x256 .f32) (ix2 r l) = (m ((c : Thread nD τ).loc main_arg4) : FVec Ideal S16384x256 .f32) (ix2 ⟨t.val * 512 + (512 + r.val), by omega⟩ l) := by
  have e : min ((t.val + 1) * 16) 511 = (t.val + 1) * 16 := by omega
  blk_ext [iblk, V, idx t, e]

theorem blk5 (t : Fin cfg0.N) (h : t.val < 31) (r : Fin 32) (l : Fin 256) :
    (iblk m c 5 t : FVec Ideal S32x256 .f32) (ix2 r l) = (m ((c : Thread nD τ).loc main_arg8) : FVec Ideal S16384x256 .f32) (ix2 ⟨t.val * 512 + (512 + r.val), by omega⟩ l) := by
  have e : min ((t.val + 1) * 16) 511 = (t.val + 1) * 16 := by omega
  blk_ext [iblk, V, idx t, e]

theorem blk6 (t : Fin cfg0.N) (a : Fin 4) (b : Fin 64) (r : Fin 512) :
    (iblk m c 6 t : FVec Ideal S4x64x512 .f32) (ix3 a b r) = (m ((c : Thread nD τ).loc main_arg5) : FVec Ideal S16384x4x64 .f32) (ix3 (row t r) a b) := by
  blk_point [iblk, V, idx t]

theorem blk7 (t : Fin cfg0.N) (a : Fin 4) (b : Fin 64) (r : Fin 512) :
    (iblk m c 7 t : FVec Ideal S4x64x512 .f32) (ix3 a b r) = (m ((c : Thread nD τ).loc main_arg6) : FVec Ideal S16384x4x64 .f32) (ix3 (row t r) a b) := by
  blk_point [iblk, V, idx t]

theorem blk8 (t : Fin cfg0.N) (a : Fin 4) (b : Fin 64) (r : Fin 512) :
    (iblk m c 8 t : FVec Ideal S4x64x512 .f32) (ix3 a b r) = (m ((c : Thread nD τ).loc main_arg7) : FVec Ideal S16384x4x64 .f32) (ix3 (row t r) a b) := by
  blk_point [iblk, V, idx t]

/-- The taps, as the host pads them. -/
def padS : FVec Ideal S8x256 .f32 :=
  Host.scatter scatter_S8x256_S1_S3x256_01_n_0_0 (fun _ b => b)
    (broadcastInDim S8x256 ![] bcast_S_S8x256 (constant (F := Ideal) S_ FTy.f32 0#32)) (broadcastInDim S1 ![] bcast_S_S1 (constantI S_ 32 0#32))
    (m ((c : Thread nD τ).loc main_arg1) : FVec Ideal S3x256 .f32)

def padC : FVec Ideal S32x256 .f32 :=
  Host.scatter scatter_S32x256_S1_S31x256_01_n_0_0 (fun _ b => b)
    (broadcastInDim S32x256 ![] bcast_S_S32x256 (constant (F := Ideal) S_ FTy.f32 0#32)) (broadcastInDim S1 ![] bcast_S_S1 (constantI S_ 32 0#32))
    (m ((c : Thread nD τ).loc main_arg2) : FVec Ideal S31x256 .f32)

theorem V_padS : V m c main_v2 = padS m c := by
  simp only [V, hostOps0]
  after_results_simp
  rfl

theorem V_padC : V m c main_v5 = padC m c := by
  simp only [V, hostOps0]
  after_results_simp
  rfl

variable (A : Args)

/-- The result. -/
def dzA : FVec Ideal S16384x2560 .bf16 := fun i => ((A.dz (i 0) (i 1) : ℝ) : EReal)

theorem ofBits_zero : (Scalar.ofBits (F := Ideal) .f32 0x00000000#32 : EReal) = ((0 : ℝ) : EReal) := by
  simp

/-- The program's arguments are the real values `A`. -/
structure Holds : Prop where
  z : ∀ r e, (m ((c : Thread nD τ).loc main_arg0) : FVec Ideal S16384x2560 .f32) (ix2 r e) = ((A.Z r e : ℝ) : EReal)
  sc : ∀ k l, (m ((c : Thread nD τ).loc main_arg1) : FVec Ideal S3x256 .f32) (ix2 k l) = ((A.S k l : ℝ) : EReal)
  cc : ∀ k l, (m ((c : Thread nD τ).loc main_arg2) : FVec Ideal S31x256 .f32) (ix2 k l) = ((A.C k l : ℝ) : EReal)
  a : ∀ r e, (m ((c : Thread nD τ).loc main_arg3) : FVec Ideal S16384x768 .f32) (ix2 r e) = ((A.A r e : ℝ) : EReal)
  b : ∀ r l, (m ((c : Thread nD τ).loc main_arg4) : FVec Ideal S16384x256 .f32) (ix2 r l) = ((A.B r l : ℝ) : EReal)
  q : ∀ r i k, (m ((c : Thread nD τ).loc main_arg5) : FVec Ideal S16384x4x64 .f32) (ix3 r i k) = ((A.Q r i k : ℝ) : EReal)
  k : ∀ r i k, (m ((c : Thread nD τ).loc main_arg6) : FVec Ideal S16384x4x64 .f32) (ix3 r i k) = ((A.K r i k : ℝ) : EReal)
  v : ∀ r i k, (m ((c : Thread nD τ).loc main_arg7) : FVec Ideal S16384x4x64 .f32) (ix3 r i k) = ((A.V r i k : ℝ) : EReal)
  d : ∀ r l, (m ((c : Thread nD τ).loc main_arg8) : FVec Ideal S16384x256 .f32) (ix2 r l) = ((A.D r l : ℝ) : EReal)

variable (hA : Holds m c A)
include hA

/-- The padded taps. -/
theorem blk9 (t : Fin cfg0.N) (l : Fin 256) (k : Fin 8) : (iblk m c 9 t : FVec Ideal S8x256 .f32) (ix2 k l) = ((tap A.S l k.val : ℝ) : EReal) := by
  have e : (iblk m c 9 t : FVec Ideal S8x256 .f32) (ix2 k l) = padS m c (ix2 k l) := by
    rw [← V_padS]
    blk_ext [iblk, idx t]
  refine (e.trans (MixbTaps.set8 _ _ (fun a => rfl) _ k l)).trans ?_
  unfold tap
  split
  · exact hA.sc _ _
  · exact ofBits_zero

theorem blk10 (t : Fin cfg0.N) (l : Fin 256) (k : Fin 32) : (iblk m c 10 t : FVec Ideal S32x256 .f32) (ix2 k l) = ((tap A.C l k.val : ℝ) : EReal) := by
  have e : (iblk m c 10 t : FVec Ideal S32x256 .f32) (ix2 k l) = padC m c (ix2 k l) := by
    rw [← V_padC]
    blk_ext [iblk, idx t]
  refine (e.trans (MixbTaps.set32 _ _ (fun a => rfl) _ k l)).trans ?_
  unfold tap
  split
  · exact hA.cc _ _
  · exact ofBits_zero

/-- The rows the first convolution's buffer gets. -/
theorem short_rows (t : Fin cfg0.N) (r : Fin 512) (l : Fin 256) :
    k0_pay4 (F := Ideal) (iblk m c 2 t) (ix2 r l) = ((ext A.B (t.val * 512 + r.val) l : ℝ) : EReal) := by
  have e := (blk2 m c t r l).trans (hA.b _ _)
  pointwise [k0_pay4]
  rw [e]
  exact ext_lt _ _ _

theorem conf_rows (t : Fin cfg0.N) (r : Fin 512) (l : Fin 256) :
    k0_pay14 (F := Ideal) (iblk m c 4 t) (ix2 r l) = ((ext A.D (t.val * 512 + r.val) l : ℝ) : EReal) := by
  have e := (blk4 m c t r l).trans (hA.d _ _)
  pointwise [k0_pay14]
  rw [e]
  exact ext_lt _ _ _

/-- The rows after them, zero after the last. -/
theorem short_next (t : Fin cfg0.N) (r : Fin 32) (l : Fin 256) :
    k0_pay5 (F := Ideal) (grid0.coords t) (iblk m c 3 t) (ix2 r l) = ((ext A.B (t.val * 512 + (512 + r.val)) l : ℝ) : EReal) := by
  have ht := (idx t).1
  unfold k0_pay5
  simp only [last t]
  by_cases h : t.val = 31
  · rw [if_pos h]
    pointwise
    exact EReal.coe_zero.symm.trans (ext_ge _ (t.val * 512 + (512 + r.val)) l (by omega))
  · rw [if_neg h]
    have e := (blk3 m c t (by omega) r l).trans (hA.b _ _)
    pointwise
    exact e.trans (ext_lt _ _ _)

theorem conf_next (t : Fin cfg0.N) (r : Fin 32) (l : Fin 256) :
    k0_pay15 (F := Ideal) (Scalar.cmpi .eq (BitVec.ofNat 32 (grid0.coords t 0 : ℕ)) 31#32) (iblk m c 5 t) (ix2 r l)
      = ((ext A.D (t.val * 512 + (512 + r.val)) l : ℝ) : EReal) := by
  have ht := (idx t).1
  unfold k0_pay15
  simp only [last t]
  by_cases h : t.val = 31
  · rw [if_pos h]
    pointwise
    exact EReal.coe_zero.symm.trans (ext_ge _ (t.val * 512 + (512 + r.val)) l (by omega))
  · rw [if_neg h]
    have e := (blk5 m c t (by omega) r l).trans (hA.d _ _)
    pointwise
    exact e.trans (ext_lt _ _ _)

omit hA in
/-- The first convolution's gradient, as three taps. -/
theorem du_eq (t : Fin cfg0.N) (r : Fin 512) (l : Fin 256) :
    ∑ j ∈ Finset.range 3, tap A.S l j * ext A.B (t.val * 512 + (2 - j + r.val)) l = A.du (row t r) l :=
  Finset.sum_congr rfl fun j hj => congrArg (fun n => tap A.S l j * ext A.B n l)
    (show t.val * 512 + (2 - j + r.val) = t.val * 512 + r.val + (3 - 1) - j by have := Finset.mem_range.mp hj; omega)

omit hA in
/-- The second convolution's gradient, as 31 taps. -/
theorem dh_eq (t : Fin cfg0.N) (r : Fin 512) (l : Fin 256) :
    ∑ j ∈ Finset.range 31, tap A.C l j * ext A.D (t.val * 512 + (30 - j + r.val)) l = A.dh (row t r) l :=
  Finset.sum_congr rfl fun j hj => congrArg (fun n => tap A.C l j * ext A.D n l)
    (show t.val * 512 + (30 - j + r.val) = t.val * 512 + r.val + (31 - 1) - j by have := Finset.mem_range.mp hj; omega)

/-- A tap of the long convolution, and the rows it meets: in one of the shifted copies, or in the block itself. -/
abbrev tapAt (t : Fin cfg0.N) (k : ℕ) (h : ∀ a, (![k, 0] : Fin 2 → ℕ) a + (![1, 256] : Fin 2 → ℕ) a ≤ S32x256.size a) : FVec Ideal S1x256 .f32 :=
  View.ld (Val := Elt Ideal) (e' := .f32) (iblk m c 10 t) (Rect.unit (s := S32x256) ![k, 0] ![1, 256] h)
abbrev copyAt (L : List (View.Piece (Elt Ideal) S7x536x256 .f32)) (b o : ℕ)
    (h : ∀ a, (![b, o, 0] : Fin 3 → ℕ) a + (![1, 512, 256] : Fin 3 → ℕ) a ≤ S7x536x256.size a) : FVec Ideal S1x512x256 .f32 :=
  (View.whole cc0_scratch2).readCov L (Rect.unit (s := S7x536x256) ![b, o, 0] ![1, 512, 256] h).toLoadRect
abbrev rowsAt (L : List (View.Piece (Elt Ideal) S544x256 .f32)) (o : ℕ)
    (h : ∀ a, (![o, 0] : Fin 2 → ℕ) a + (![512, 256] : Fin 2 → ℕ) a ≤ S544x256.size a) : FVec Ideal S512x256 .f32 :=
  (View.whole cc0_scratch1).readCov L (Rect.unit (s := S544x256) ![o, 0] ![512, 256] h).toLoadRect

section Conf

variable (t : Fin cfg0.N) (L1 : List (View.Piece (Elt Ideal) S544x256 .f32)) (L2 : List (View.Piece (Elt Ideal) S7x536x256 .f32))
  (r1 : View.canon L1 = fun j : S544x256.Idx => ((ext A.D (t.val * 512 + (j 0).val) (j 1) : ℝ) : EReal))
  (r2 : View.canon L2 = fun j : S7x536x256.Idx => ((ext A.D (t.val * 512 + ((j 0).val + 1 + (j 1).val)) (j 2) : ℝ) : EReal))
include r1 r2

/-- The 31 taps' sum. -/
theorem conf_entry (r : Fin 512) (l : Fin 256) :
    k0_pay32 (F := Ideal) (k0_pay30 (F := Ideal) (k0_pay28 (F := Ideal) (k0_pay26 (F := Ideal) (k0_pay25 (F := Ideal) (k0_pay24 (F := Ideal) (k0_pay23 (F := Ideal)
      (tapAt m c t 0 inb_S32x256_S1x256_0_0) (copyAt L2 5 24 inb_S7x536x256_S1x512x256_5_24_0)
      (tapAt m c t 1 inb_S32x256_S1x256_1_0) (copyAt L2 4 24 inb_S7x536x256_S1x512x256_4_24_0))
      (tapAt m c t 2 inb_S32x256_S1x256_2_0) (copyAt L2 3 24 inb_S7x536x256_S1x512x256_3_24_0)
      (tapAt m c t 3 inb_S32x256_S1x256_3_0) (copyAt L2 2 24 inb_S7x536x256_S1x512x256_2_24_0)
      (tapAt m c t 4 inb_S32x256_S1x256_4_0) (copyAt L2 1 24 inb_S7x536x256_S1x512x256_1_24_0)
      (tapAt m c t 5 inb_S32x256_S1x256_5_0) (copyAt L2 0 24 inb_S7x536x256_S1x512x256_0_24_0)
      (tapAt m c t 6 inb_S32x256_S1x256_6_0) (rowsAt L1 24 inb_S544x256_S512x256_24_0))
      (tapAt m c t 7 inb_S32x256_S1x256_7_0) (copyAt L2 6 16 inb_S7x536x256_S1x512x256_6_16_0)
      (tapAt m c t 8 inb_S32x256_S1x256_8_0) (copyAt L2 5 16 inb_S7x536x256_S1x512x256_5_16_0)
      (tapAt m c t 9 inb_S32x256_S1x256_9_0) (copyAt L2 4 16 inb_S7x536x256_S1x512x256_4_16_0)
      (tapAt m c t 10 inb_S32x256_S1x256_10_0) (copyAt L2 3 16 inb_S7x536x256_S1x512x256_3_16_0)
      (tapAt m c t 11 inb_S32x256_S1x256_11_0) (copyAt L2 2 16 inb_S7x536x256_S1x512x256_2_16_0))
      (tapAt m c t 12 inb_S32x256_S1x256_12_0) (copyAt L2 1 16 inb_S7x536x256_S1x512x256_1_16_0)
      (tapAt m c t 13 inb_S32x256_S1x256_13_0) (copyAt L2 0 16 inb_S7x536x256_S1x512x256_0_16_0)
      (tapAt m c t 14 inb_S32x256_S1x256_14_0) (rowsAt L1 16 inb_S544x256_S512x256_16_0)
      (tapAt m c t 15 inb_S32x256_S1x256_15_0) (copyAt L2 6 8 inb_S7x536x256_S1x512x256_6_8_0)
      (tapAt m c t 16 inb_S32x256_S1x256_16_0) (copyAt L2 5 8 inb_S7x536x256_S1x512x256_5_8_0))
      (k0_pay27 (F := Ideal) (tapAt m c t 17 inb_S32x256_S1x256_17_0)) (copyAt L2 4 8 inb_S7x536x256_S1x512x256_4_8_0)
      (tapAt m c t 18 inb_S32x256_S1x256_18_0) (copyAt L2 3 8 inb_S7x536x256_S1x512x256_3_8_0)
      (tapAt m c t 19 inb_S32x256_S1x256_19_0) (copyAt L2 2 8 inb_S7x536x256_S1x512x256_2_8_0)
      (tapAt m c t 20 inb_S32x256_S1x256_20_0) (copyAt L2 1 8 inb_S7x536x256_S1x512x256_1_8_0)
      (tapAt m c t 21 inb_S32x256_S1x256_21_0) (copyAt L2 0 8 inb_S7x536x256_S1x512x256_0_8_0))
      (k0_pay29 (F := Ideal) (tapAt m c t 22 inb_S32x256_S1x256_22_0)) (rowsAt L1 8 inb_S544x256_S512x256_8_0)
      (tapAt m c t 23 inb_S32x256_S1x256_23_0) (copyAt L2 6 0 inb_S7x536x256_S1x512x256_6_0_0)
      (tapAt m c t 24 inb_S32x256_S1x256_24_0) (copyAt L2 5 0 inb_S7x536x256_S1x512x256_5_0_0)
      (tapAt m c t 25 inb_S32x256_S1x256_25_0) (copyAt L2 4 0 inb_S7x536x256_S1x512x256_4_0_0)
      (tapAt m c t 26 inb_S32x256_S1x256_26_0) (copyAt L2 3 0 inb_S7x536x256_S1x512x256_3_0_0))
      (k0_pay31 (F := Ideal) (tapAt m c t 27 inb_S32x256_S1x256_27_0)) (copyAt L2 2 0 inb_S7x536x256_S1x512x256_2_0_0)
      (tapAt m c t 28 inb_S32x256_S1x256_28_0) (copyAt L2 1 0 inb_S7x536x256_S1x512x256_1_0_0)
      (tapAt m c t 29 inb_S32x256_S1x256_29_0) (copyAt L2 0 0 inb_S7x536x256_S1x512x256_0_0_0)
      (tapAt m c t 30 inb_S32x256_S1x256_30_0) (rowsAt L1 0 inb_S544x256_S512x256_0_0)
      (ix2 r l) = ((A.dh (row t r) l : ℝ) : EReal) := by
  have hw := tap32 (iblk m c 10 t) (tap A.C l) l (blk10 m c A hA t l)
  have hx := rows_read (fun n l => ext A.D (t.val * 512 + n) l) (View.whole cc0_scratch1) L1 r1
  have hc := copies_read (fun n l => ext A.D (t.val * 512 + n) l) (View.whole cc0_scratch2) L2 r2
  have q := taps32 r l (taps30 r l (taps28 r l (taps26 r l (taps25 r l (taps24 r l (taps23 r l (hw 0 inb_S32x256_S1x256_0_0) (hc 5 24 30 inb_S7x536x256_S1x512x256_5_24_0 r l rfl) (hw 1 inb_S32x256_S1x256_1_0) (hc 4 24 29 inb_S7x536x256_S1x512x256_4_24_0 r l rfl))
        (hw 2 inb_S32x256_S1x256_2_0) (hc 3 24 28 inb_S7x536x256_S1x512x256_3_24_0 r l rfl) (hw 3 inb_S32x256_S1x256_3_0) (hc 2 24 27 inb_S7x536x256_S1x512x256_2_24_0 r l rfl) (hw 4 inb_S32x256_S1x256_4_0) (hc 1 24 26 inb_S7x536x256_S1x512x256_1_24_0 r l rfl) (hw 5 inb_S32x256_S1x256_5_0) (hc 0 24 25 inb_S7x536x256_S1x512x256_0_24_0 r l rfl) (hw 6 inb_S32x256_S1x256_6_0) (hx 24 24 inb_S544x256_S512x256_24_0 r l rfl))
        (hw 7 inb_S32x256_S1x256_7_0) (hc 6 16 23 inb_S7x536x256_S1x512x256_6_16_0 r l rfl) (hw 8 inb_S32x256_S1x256_8_0) (hc 5 16 22 inb_S7x536x256_S1x512x256_5_16_0 r l rfl) (hw 9 inb_S32x256_S1x256_9_0) (hc 4 16 21 inb_S7x536x256_S1x512x256_4_16_0 r l rfl) (hw 10 inb_S32x256_S1x256_10_0) (hc 3 16 20 inb_S7x536x256_S1x512x256_3_16_0 r l rfl) (hw 11 inb_S32x256_S1x256_11_0) (hc 2 16 19 inb_S7x536x256_S1x512x256_2_16_0 r l rfl))
        (hw 12 inb_S32x256_S1x256_12_0) (hc 1 16 18 inb_S7x536x256_S1x512x256_1_16_0 r l rfl) (hw 13 inb_S32x256_S1x256_13_0) (hc 0 16 17 inb_S7x536x256_S1x512x256_0_16_0 r l rfl) (hw 14 inb_S32x256_S1x256_14_0) (hx 16 16 inb_S544x256_S512x256_16_0 r l rfl) (hw 15 inb_S32x256_S1x256_15_0) (hc 6 8 15 inb_S7x536x256_S1x512x256_6_8_0 r l rfl) (hw 16 inb_S32x256_S1x256_16_0) (hc 5 8 14 inb_S7x536x256_S1x512x256_5_8_0 r l rfl))
        (hw 17 inb_S32x256_S1x256_17_0) (hc 4 8 13 inb_S7x536x256_S1x512x256_4_8_0 r l rfl) (hw 18 inb_S32x256_S1x256_18_0) (hc 3 8 12 inb_S7x536x256_S1x512x256_3_8_0 r l rfl) (hw 19 inb_S32x256_S1x256_19_0) (hc 2 8 11 inb_S7x536x256_S1x512x256_2_8_0 r l rfl) (hw 20 inb_S32x256_S1x256_20_0) (hc 1 8 10 inb_S7x536x256_S1x512x256_1_8_0 r l rfl) (hw 21 inb_S32x256_S1x256_21_0) (hc 0 8 9 inb_S7x536x256_S1x512x256_0_8_0 r l rfl))
        (hw 22 inb_S32x256_S1x256_22_0) (hx 8 8 inb_S544x256_S512x256_8_0 r l rfl) (hw 23 inb_S32x256_S1x256_23_0) (hc 6 0 7 inb_S7x536x256_S1x512x256_6_0_0 r l rfl) (hw 24 inb_S32x256_S1x256_24_0) (hc 5 0 6 inb_S7x536x256_S1x512x256_5_0_0 r l rfl) (hw 25 inb_S32x256_S1x256_25_0) (hc 4 0 5 inb_S7x536x256_S1x512x256_4_0_0 r l rfl) (hw 26 inb_S32x256_S1x256_26_0) (hc 3 0 4 inb_S7x536x256_S1x512x256_3_0_0 r l rfl))
        (hw 27 inb_S32x256_S1x256_27_0) (hc 2 0 3 inb_S7x536x256_S1x512x256_2_0_0 r l rfl) (hw 28 inb_S32x256_S1x256_28_0) (hc 1 0 2 inb_S7x536x256_S1x512x256_1_0_0 r l rfl) (hw 29 inb_S32x256_S1x256_29_0) (hc 0 0 1 inb_S7x536x256_S1x512x256_0_0_0 r l rfl) (hw 30 inb_S32x256_S1x256_30_0) (hx 0 0 inb_S544x256_S512x256_0_0 r l rfl)
  have f := sum31 (tap A.C l) (fun j => ext A.D (t.val * 512 + (30 - j + r.val)) l)
  simp only [Nat.reduceSub] at f
  exact q.trans (congrArg (fun v : ℝ => (v : EReal)) (f.trans (dh_eq A t r l)))

end Conf

theorem zcol_entry (t : Fin cfg0.N) (o : ℕ) (h : ∀ a, (![0, o] : Fin 2 → ℕ) a + (![512, 256] : Fin 2 → ℕ) a ≤ S512x2560.size a) (r : Fin 512) (l : Fin 256) :
    View.ld (Val := Elt Ideal) (e' := .bf16) (iblk m c 0 t) (Rect.unit (s := S512x2560) ![0, o] ![512, 256] h) (ix2 r l) = ((A.z (row t r) o l (h 1) : ℝ) : EReal) :=
  ((zcol (iblk m c 0 t) o h r l).trans (blk0 m c t r _)).trans (hA.z _ _)

/-- What a point writes. -/
theorem out_entry (t : Fin cfg0.N) (y : S512x2560.Idx) : outsAt0 m c t y = dzA A (ix2 (row t (y 0)) (y 1)) := by
  unfold outsAt0
  frame_out
  have r1 := rows (fun n l => ext A.D (t.val * 512 + n) l) _ _ (conf_rows m c A hA t) (conf_next m c A hA t)
  have r2 := copies (fun n l => ext A.D (t.val * 512 + n) l) (View.whole cc0_scratch1) _ r1
  have r0 := rows (fun n l => ext A.B (t.val * 512 + n) l) _ _ (short_rows m c A hA t) (short_next m c A hA t)
  generalize h1 : ([⟨Rect.unit ![512, 0] ![32, 256] inb_S544x256_S32x256_512_0, k0_pay15 (F := Ideal) (Scalar.cmpi .eq (BitVec.ofNat 32 (grid0.coords t 0 : ℕ)) 31#32) (iblk m c 5 t)⟩, ⟨Rect.unit ![0, 0] ![512, 256] inb_S544x256_S512x256_0_0, k0_pay14 (F := Ideal) (iblk m c 4 t)⟩] : List (View.Piece (Elt Ideal) S544x256 .f32)) = L1 at r1 r2 ⊢
  generalize h0 : ([⟨Rect.unit ![512, 0] ![32, 256] inb_S544x256_S32x256_512_0, k0_pay5 (F := Ideal) (grid0.coords t) (iblk m c 3 t)⟩, ⟨Rect.unit ![0, 0] ![512, 256] inb_S544x256_S512x256_0_0, k0_pay4 (F := Ideal) (iblk m c 2 t)⟩] : List (View.Piece (Elt Ideal) S544x256 .f32)) = L0 at r0 ⊢
  generalize h2 : ([_, _, _, _, _, _, _] : List (View.Piece (Elt Ideal) S7x536x256 .f32)) = L2 at r2 ⊢
  clear h0 h1 h2
  have conf := conf_entry m c A hA t L1 L2 r1 r2
  have hw := fun l => tap8 (iblk m c 9 t) (tap A.S l) l (blk9 m c A hA t l)
  have hx := rows_read (fun n l => ext A.B (t.val * 512 + n) l) (View.whole cc0_scratch0) L0 r0
  have short := fun (o : ℕ) h (r : Fin 512) (l : Fin 256) => times_at r l _ _ _ _ _ _ _ (tap A.S l) (fun j => ext A.B (t.val * 512 + (2 - j + r.val)) l) _
    (hw l 0 inb_S8x256_S1x256_0_0) (hx 2 2 inb_S544x256_S512x256_2_0 r l rfl) (hw l 1 inb_S8x256_S1x256_1_0) (hx 1 1 inb_S544x256_S512x256_1_0 r l rfl)
    (hw l 2 inb_S8x256_S1x256_2_0) (hx 0 0 inb_S544x256_S512x256_0_0 r l rfl) (zcol_entry m c A hA t o h r l)
  canon_tiles x k using (View.cover_of_tiledBy (Val := Elt Ideal) (e := .bf16) (s := S512x2560) _ ![512, 256] (by sl_kernel_rfl) y)
  all_goals
    idx_vars x
    idx_vars y
    have er : y0 = x0 := Fin.ext k0
    subst er
  · refine (last_at y0 x1 _ _ _ _ _ _ (conf y0 x1) (zcol_entry m c A hA t 2048 _ y0 x1) (zcol_entry m c A hA t 2304 _ y0 x1)).trans ?_
    exact congrArg (fun v : ℝ => (v : EReal)) (A.dz_group (row t y0) y1 x1 6 (by simp; omega)).symm
  · refine (gated_at y0 x1 (conf y0 x1) (zcol_entry m c A hA t 2304 _ y0 x1)).trans ?_
    exact congrArg (fun v : ℝ => (v : EReal)) (A.dz_group (row t y0) y1 x1 5 (by simp; omega)).symm
  · refine ((heads_at y0 x1 _ (A.V (row t y0)) fun a b => (blk8 m c t a b y0).trans (hA.v _ _ _)).2.2).trans ?_
    exact congrArg (fun v : ℝ => (v : EReal)) (A.dz_group (row t y0) y1 x1 4 (by simp; omega)).symm
  · refine ((heads_at y0 x1 _ (A.K (row t y0)) fun a b => (blk7 m c t a b y0).trans (hA.k _ _ _)).2.1).trans ?_
    exact congrArg (fun v : ℝ => (v : EReal)) (A.dz_group (row t y0) y1 x1 3 (by simp; omega)).symm
  · refine ((heads_at y0 x1 _ (A.Q (row t y0)) fun a b => (blk6 m c t a b y0).trans (hA.q _ _ _)).1).trans ?_
    exact congrArg (fun v : ℝ => (v : EReal)) (A.dz_group (row t y0) y1 x1 2 (by simp; omega)).symm
  · refine (short 768 _ y0 x1).2.trans ?_
    rw [du_eq A]
    exact congrArg (fun v : ℝ => (v : EReal)) (A.dz_group (row t y0) y1 x1 1 (by simp; omega)).symm
  · refine (short 1024 _ y0 x1).1.trans ?_
    rw [du_eq A]
    exact congrArg (fun v : ℝ => (v : EReal)) (A.dz_group (row t y0) y1 x1 0 (by simp; omega)).symm
  · have e := (blk1 m c t y0 x1).trans (hA.a _ _)
    pointwise [k0_pay3]
    rw [e]
    exact congrArg (fun v : ℝ => (v : EReal)) (A.dz_first (row t y0) y1 x1 k1).symm

/-- The gradient's array. -/
theorem final11 : (dats m 0 c).arrAt 11 cfg0.N = dzA A := by
  refine (dats m 0 c).arrAt_eq_of_covers 11 _ (by decide +kernel) fun t _ y => ?_
  blk_simp
  rw [after0_11]
  exact (out_entry m c A hA t y).trans (congrArg (dzA A) (by blk_ext [idx t]))

end Cert.MixbValue

end
-- ==== Proof.MixbClaim.lean ====
/-
  The fused gradients' claims: the kernel's result array is the reference's. The reference adds the padded, shifted products in
  descending order of the taps; its padded column groups do not overlap.
-/
module

public import proofs.«01_k».proof.Defs
public import proofs.«01_k».proof.Proof.MixbValue
public import proofs.«01_k».proof.Proof.Gen.MixbRefIdeal.Run
public import proofs.«01_k».proof.Proof.Finite
public import Idealize.ShloMosaic.Lib.Claim
public import proofs.«01_k».proof.Proof.Gen.Pre_mixb_finite

@[expose] public section

set_option maxRecDepth 100000

noncomputable section

open Idealize.ShloMosaic Idealize.ShloMosaic.TcCoe Idealize.SL.Sem

namespace Cert.MixbClaim

open Cert.RealCalc

/-- The reference runs to the end and keeps its arguments; it has no semaphore. -/
theorem reference : @Cert.quiescent_MixbRefIdeal Cert.MixbRefIdeal.Gen.facts := fun m g _ => by
  refine θ_run_mono (Cert.MixbRefIdeal.Value.run m g) fun r h => ⟨fun c => ?_, sem_eq_zero_of_no_sems (by decide) r.2⟩
  obtain ⟨_, h⟩ := h c
  exact h

open Cert.MixbValue Cert.MixbPoint

section Sums

/-- Two real entries add. -/
theorem add_real {s : Shape} (a b : FVec Ideal s .f32) (j : s.Idx) {x y : ℝ} (ha : a j = ((x : ℝ) : EReal)) (hb : b j = ((y : ℝ) : EReal)) :
    addf a b j = ((x + y : ℝ) : EReal) := by
  rw [EReal.coe_add, ← ha, ← hb]
  rfl

/-- The 31 terms in descending order. -/
theorem sum31_down (f : ℕ → ℝ) : f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 = ∑ j ∈ Finset.range 31, f j := by
  simp only [Finset.sum_range_succ, Finset.sum_range_zero]
  ring

end Sums

section
open Cert.MixbRefIdeal Cert.MixbRefIdeal.Gen Cert.MixbRefIdeal.Value

/-- The array of zero the padding takes. -/
abbrev zero : FVec Ideal S_ .f32 := constant S_ .f32 0x00000000#32

/-- A padded product of a tap and the cotangent, at a row that stays. -/
theorem shifted30 (k j : ℕ) (hk : k ≤ 30) (p : S16384x256.Pads (![k, 0] : Fin 2 → Nat) ![j, 0] ![0, 0] S16414x256) (w : FVec Ideal S1x256 .f32) (d : FVec Ideal S16384x256 .f32)
    (D : Fin 16384 → Fin 256 → ℝ) (hd : ∀ r l, d (ix2 r l) = ((D r l : ℝ) : EReal)) (r : Fin 16384) (l : Fin 256) (u : ℝ) (hw : w (ix2 0 l) = ((u : ℝ) : EReal)) :
    pad S16414x256 ![k, 0] ![j, 0] ![0, 0] (mulf (broadcastInDim S16384x256 ![0, 1] bcast_S1x256_S16384x256_0_1 w) d) zero p h_S_ (ix2 (⟨30 + r.val, by omega⟩ : Fin 16414) l)
      = ((u * ext D (r.val + 30 - k) l : ℝ) : EReal) := by
  pointwise
  split_ifs with h
  · refine (congrArg₂ (· * ·) hw (hd _ _)).trans ((EReal.coe_mul _ _).symm.trans (congrArg (fun v : ℝ => ((u * v : ℝ) : EReal)) ?_))
    have q : r.val + 30 - k = 30 + r.val - k := by omega
    rw [q]
    unfold ext
    rw [dif_pos h.2]
  · refine EReal.coe_zero.symm.trans (congrArg (fun v : ℝ => (v : EReal)) ?_)
    unfold ext
    rw [dif_neg (by omega), mul_zero]

/-- The same for three taps. -/
theorem shifted2 (k j : ℕ) (hk : k ≤ 2) (p : S16384x256.Pads (![k, 0] : Fin 2 → Nat) ![j, 0] ![0, 0] S16386x256) (w : FVec Ideal S1x256 .f32) (d : FVec Ideal S16384x256 .f32)
    (D : Fin 16384 → Fin 256 → ℝ) (hd : ∀ r l, d (ix2 r l) = ((D r l : ℝ) : EReal)) (r : Fin 16384) (l : Fin 256) (u : ℝ) (hw : w (ix2 0 l) = ((u : ℝ) : EReal)) :
    pad S16386x256 ![k, 0] ![j, 0] ![0, 0] (mulf (broadcastInDim S16384x256 ![0, 1] bcast_S1x256_S16384x256_0_1 w) d) zero p h_S_ (ix2 (⟨2 + r.val, by omega⟩ : Fin 16386) l)
      = ((u * ext D (r.val + 2 - k) l : ℝ) : EReal) := by
  pointwise
  split_ifs with h
  · refine (congrArg₂ (· * ·) hw (hd _ _)).trans ((EReal.coe_mul _ _).symm.trans (congrArg (fun v : ℝ => ((u * v : ℝ) : EReal)) ?_))
    have q : r.val + 2 - k = 2 + r.val - k := by omega
    rw [q]
    unfold ext
    rw [dif_pos h.2]
  · refine EReal.coe_zero.symm.trans (congrArg (fun v : ℝ => (v : EReal)) ?_)
    unfold ext
    rw [dif_neg (by omega), mul_zero]

/-- One tap of the long convolution. -/
theorem tap31 (k : ℕ) (hk : k < 31) (s : S31x256.Slices ![k, 0] S1x256) (x : FVec Ideal S31x256 .f32) (C : Fin 31 → Fin 256 → ℝ) (hx : ∀ k l, x (ix2 k l) = ((C k l : ℝ) : EReal)) (l : Fin 256) :
    broadcastInDim S1x256 ![1] bcast_S256_S1x256_1 (shapeCast S256 (extractStridedSlice S1x256 ![k, 0] x s) shapeCasts_S1x256_S256) (ix2 0 l) = ((tap C l k : ℝ) : EReal) := by
  pointwise
  refine (hx _ _).trans (congrArg (fun v : ℝ => (v : EReal)) ?_)
  unfold tap
  rw [dif_pos hk]

/-- One tap of the short convolution. -/
theorem tap3 (k : ℕ) (hk : k < 3) (s : S3x256.Slices ![k, 0] S1x256) (x : FVec Ideal S3x256 .f32) (C : Fin 3 → Fin 256 → ℝ) (hx : ∀ k l, x (ix2 k l) = ((C k l : ℝ) : EReal)) (l : Fin 256) :
    broadcastInDim S1x256 ![1] bcast_S256_S1x256_1 (shapeCast S256 (extractStridedSlice S1x256 ![k, 0] x s) shapeCasts_S1x256_S256) (ix2 0 l) = ((tap C l k : ℝ) : EReal) := by
  pointwise
  refine (hx _ _).trans (congrArg (fun v : ℝ => (v : EReal)) ?_)
  unfold tap
  rw [dif_pos hk]

/-- A column group's part of a column. -/
def part {n : ℕ} (o : ℕ) (X : Fin 16384 → Fin n → ℝ) (r : Fin 16384) (e : Fin 2560) : ℝ := if h : o ≤ e.val ∧ e.val - o < n then X r ⟨e.val - o, h.2⟩ else 0

theorem part_in {n : ℕ} {l : Fin n} {o : ℕ} {X : Fin 16384 → Fin n → ℝ} {r : Fin 16384} {e : Fin 2560} (h : e.val = o + l.val) : part o X r e = X r l := by
  unfold part
  rw [dif_pos (by omega)]
  exact congrArg (X r) (Fin.ext (by simp only []; omega))

theorem part_out {n : ℕ} {o : ℕ} {X : Fin 16384 → Fin n → ℝ} {r : Fin 16384} {e : Fin 2560} (h : ¬ (o ≤ e.val ∧ e.val - o < n)) : part o X r e = 0 := by
  unfold part
  rw [dif_neg h]

/-- A padded column group. -/
theorem column (o j : ℕ) (p : S16384x256.Pads (![0, o] : Fin 2 → Nat) ![0, j] ![0, 0] S16384x2560) (x : FVec Ideal S16384x256 .f32) (X : Fin 16384 → Fin 256 → ℝ)
    (hx : ∀ r l, x (ix2 r l) = ((X r l : ℝ) : EReal)) (r : Fin 16384) (e : Fin 2560) :
    pad S16384x2560 ![0, o] ![0, j] ![0, 0] x zero p h_S_ (ix2 r e) = ((part o X r e : ℝ) : EReal) := by
  pointwise
  unfold part
  split_ifs with h
  · exact hx _ _
  · exact EReal.coe_zero.symm

/-- The first, wider column group. -/
theorem columns (p : S16384x768.Pads (![0, 0] : Fin 2 → Nat) ![0, 1792] ![0, 0] S16384x2560) (x : FVec Ideal S16384x768 .f32) (X : Fin 16384 → Fin 768 → ℝ)
    (hx : ∀ r l, x (ix2 r l) = ((X r l : ℝ) : EReal)) (r : Fin 16384) (e : Fin 2560) :
    pad S16384x2560 ![0, 0] ![0, 1792] ![0, 0] x zero p h_S_ (ix2 r e) = ((part 0 X r e : ℝ) : EReal) := by
  pointwise
  by_cases h : e.val < 768
  · rw [dif_pos (by omega), part_in (l := (⟨e.val, h⟩ : Fin 768)) (by simp)]
    exact hx _ _
  · rw [dif_neg (by omega), part_out (by omega)]
    exact EReal.coe_zero.symm

/-- The eight groups' sum is the projected input's gradient. -/
theorem parts (A : Args) (r : Fin 16384) (e : Fin 2560) (g : Fin 7 → Fin 16384 → Fin 256 → ℝ) (hg : ∀ n r l, g n r l = A.group r l n) :
    part 1792 (g 4) r e + part 1536 (g 3) r e + part 1280 (g 2) r e + part 1024 (g 1) r e + part 768 (g 0) r e + part 0 A.A r e + part 2304 (g 6) r e + part 2048 (g 5) r e = A.dz r e := by
  by_cases h : e.val < 768
  · rw [A.dz_first r e ⟨e.val, h⟩ rfl, part_in (o := 0) (l := (⟨e.val, h⟩ : Fin 768)) (by simp)]
    simp (disch := omega) only [part_out, add_zero, zero_add]
  · obtain ⟨l, hl⟩ : ∃ l : Fin 256, l.val = e.val % 256 := ⟨⟨e.val % 256, by omega⟩, rfl⟩
    obtain ⟨n, hn⟩ : ∃ n : Fin 7, n.val = (e.val - 768) / 256 := ⟨⟨(e.val - 768) / 256, by omega⟩, rfl⟩
    have he : e.val = 768 + 256 * n.val + l.val := by omega
    rw [A.dz_group r e l n he, ← hg n r l]
    clear hn hl
    have hz : part 0 A.A r e = 0 := part_out (by omega)
    rw [hz]
    fin_cases n <;> simp only [Fin.mk_zero, Fin.mk_one, Fin.reduceFinMk, Fin.isValue, Fin.zero_eta] at he ⊢ <;> norm_num at he <;>
      simp (disch := omega) only [part_in (l := l), part_out, add_zero, zero_add]

section Entries

variable (V0 : Valuation τ sig (Elt Ideal)) (A : Args)
  (hz : ∀ r e, (V0 (Proc.devRef .tc main_arg0) : FVec Ideal S16384x2560 .f32) (ix2 r e) = ((A.Z r e : ℝ) : EReal))
  (hs : ∀ k l, (V0 (Proc.devRef .tc main_arg1) : FVec Ideal S3x256 .f32) (ix2 k l) = ((A.S k l : ℝ) : EReal))
  (hc : ∀ k l, (V0 (Proc.devRef .tc main_arg2) : FVec Ideal S31x256 .f32) (ix2 k l) = ((A.C k l : ℝ) : EReal))
  (hb : ∀ r l, (V0 (Proc.devRef .tc main_arg4) : FVec Ideal S16384x256 .f32) (ix2 r l) = ((A.B r l : ℝ) : EReal))
  (hd : ∀ r l, (V0 (Proc.devRef .tc main_arg8) : FVec Ideal S16384x256 .f32) (ix2 r l) = ((A.D r l : ℝ) : EReal))

include hs hb in
/-- The gradient through the short convolution. -/
theorem du_ref (r : Fin 16384) (l : Fin 256) : (res_main_v417 V0 : FVec Ideal S16384x256 .f32) (ix2 r l) = ((A.du r l : ℝ) : EReal) := by
  have hB : ∀ r l, (res_main_v403 V0 : FVec Ideal S16384x256 .f32) (ix2 r l) = ((A.B r l : ℝ) : EReal) := fun r l => by
    pointwise [res_main_v403]
    exact hb r l
  have e : (res_main_v415 V0 : FVec Ideal S16386x256 .f32) (ix2 (⟨2 + r.val, by omega⟩ : Fin 16386) l)
      = ((tap A.S l 2 * ext A.B (r.val + 2 - 2) l + tap A.S l 1 * ext A.B (r.val + 2 - 1) l + tap A.S l 0 * ext A.B (r.val + 2 - 0) l : ℝ) : EReal) := by
    unfold res_main_v415
    refine add_real _ _ _ (add_real _ _ _ ?_ ?_) ?_
    · exact shifted2 2 0 (by omega) _ _ _ _ hB r l _ (tap3 2 (by omega) _ _ _ hs l)
    · exact shifted2 1 1 (by omega) _ _ _ _ hB r l _ (tap3 1 (by omega) _ _ _ hs l)
    · exact shifted2 0 2 (by omega) _ _ _ _ hB r l _ (tap3 0 (by omega) _ _ _ hs l)
  have q : (res_main_v417 V0 : FVec Ideal S16384x256 .f32) (ix2 r l) = (res_main_v415 V0 : FVec Ideal S16386x256 .f32) (ix2 (⟨2 + r.val, by omega⟩ : Fin 16386) l) := by
    unfold res_main_v417
    generalize res_main_v415 V0 = V
    pointwise
  rw [q, e]
  refine congrArg (fun v : ℝ => (v : EReal)) ?_
  simp only [Args.du, dconv, Finset.sum_range_succ, Finset.sum_range_zero, Nat.reduceSub]
  ring

include hc hd in
/-- The gradient through the long convolution. -/
theorem dh_ref (r : Fin 16384) (l : Fin 256) : (res_main_v394 V0 : FVec Ideal S16384x256 .f32) (ix2 r l) = ((A.dh r l : ℝ) : EReal) := by
  have hD : ∀ r l, (res_main_v268 V0 : FVec Ideal S16384x256 .f32) (ix2 r l) = ((A.D r l : ℝ) : EReal) := fun r l => by
    pointwise [res_main_v268]
    exact hd r l
  obtain ⟨f, hf⟩ : ∃ f : ℕ → ℝ, ∀ k, f k = tap A.C l k * ext A.D (r.val + 30 - k) l := ⟨_, fun _ => rfl⟩
  have e1 : (res_main_v336 V0 : FVec Ideal S16414x256 .f32) (ix2 (⟨30 + r.val, by omega⟩ : Fin 16414) l) = ((f 30 + f 29 + f 28 + f 27 + f 26 + f 25 + f 24 + f 23 + f 22 + f 21 + f 20 + f 19 + f 18 + f 17 + f 16 + f 15 + f 14 : ℝ) : EReal) := by
    simp only [hf]
    unfold res_main_v336
    iterate 16 refine add_real _ _ _ ?_ ?_
    · exact shifted30 30 0 (by omega) _ _ _ _ hD r l _ (tap31 30 (by omega) _ _ _ hc l)
    · exact shifted30 29 1 (by omega) _ _ _ _ hD r l _ (tap31 29 (by omega) _ _ _ hc l)
    · exact shifted30 28 2 (by omega) _ _ _ _ hD r l _ (tap31 28 (by omega) _ _ _ hc l)
    · exact shifted30 27 3 (by omega) _ _ _ _ hD r l _ (tap31 27 (by omega) _ _ _ hc l)
    · exact shifted30 26 4 (by omega) _ _ _ _ hD r l _ (tap31 26 (by omega) _ _ _ hc l)
    · exact shifted30 25 5 (by omega) _ _ _ _ hD r l _ (tap31 25 (by omega) _ _ _ hc l)
    · exact shifted30 24 6 (by omega) _ _ _ _ hD r l _ (tap31 24 (by omega) _ _ _ hc l)
    · exact shifted30 23 7 (by omega) _ _ _ _ hD r l _ (tap31 23 (by omega) _ _ _ hc l)
    · exact shifted30 22 8 (by omega) _ _ _ _ hD r l _ (tap31 22 (by omega) _ _ _ hc l)
    · exact shifted30 21 9 (by omega) _ _ _ _ hD r l _ (tap31 21 (by omega) _ _ _ hc l)
    · exact shifted30 20 10 (by omega) _ _ _ _ hD r l _ (tap31 20 (by omega) _ _ _ hc l)
    · exact shifted30 19 11 (by omega) _ _ _ _ hD r l _ (tap31 19 (by omega) _ _ _ hc l)
    · exact shifted30 18 12 (by omega) _ _ _ _ hD r l _ (tap31 18 (by omega) _ _ _ hc l)
    · exact shifted30 17 13 (by omega) _ _ _ _ hD r l _ (tap31 17 (by omega) _ _ _ hc l)
    · exact shifted30 16 14 (by omega) _ _ _ _ hD r l _ (tap31 16 (by omega) _ _ _ hc l)
    · exact shifted30 15 15 (by omega) _ _ _ _ hD r l _ (tap31 15 (by omega) _ _ _ hc l)
    · exact shifted30 14 16 (by omega) _ _ _ _ hD r l _ (tap31 14 (by omega) _ _ _ hc l)
  have e2 : (res_main_v392 V0 : FVec Ideal S16414x256 .f32) (ix2 (⟨30 + r.val, by omega⟩ : Fin 16414) l) = ((f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 : ℝ) : EReal) := by
    unfold res_main_v392
    iterate 14 refine add_real _ _ _ ?_ ?_
    · exact e1
    · rw [hf 13]; exact shifted30 13 17 (by omega) _ _ _ _ hD r l _ (tap31 13 (by omega) _ _ _ hc l)
    · rw [hf 12]; exact shifted30 12 18 (by omega) _ _ _ _ hD r l _ (tap31 12 (by omega) _ _ _ hc l)
    · rw [hf 11]; exact shifted30 11 19 (by omega) _ _ _ _ hD r l _ (tap31 11 (by omega) _ _ _ hc l)
    · rw [hf 10]; exact shifted30 10 20 (by omega) _ _ _ _ hD r l _ (tap31 10 (by omega) _ _ _ hc l)
    · rw [hf 9]; exact shifted30 9 21 (by omega) _ _ _ _ hD r l _ (tap31 9 (by omega) _ _ _ hc l)
    · rw [hf 8]; exact shifted30 8 22 (by omega) _ _ _ _ hD r l _ (tap31 8 (by omega) _ _ _ hc l)
    · rw [hf 7]; exact shifted30 7 23 (by omega) _ _ _ _ hD r l _ (tap31 7 (by omega) _ _ _ hc l)
    · rw [hf 6]; exact shifted30 6 24 (by omega) _ _ _ _ hD r l _ (tap31 6 (by omega) _ _ _ hc l)
    · rw [hf 5]; exact shifted30 5 25 (by omega) _ _ _ _ hD r l _ (tap31 5 (by omega) _ _ _ hc l)
    · rw [hf 4]; exact shifted30 4 26 (by omega) _ _ _ _ hD r l _ (tap31 4 (by omega) _ _ _ hc l)
    · rw [hf 3]; exact shifted30 3 27 (by omega) _ _ _ _ hD r l _ (tap31 3 (by omega) _ _ _ hc l)
    · rw [hf 2]; exact shifted30 2 28 (by omega) _ _ _ _ hD r l _ (tap31 2 (by omega) _ _ _ hc l)
    · rw [hf 1]; exact shifted30 1 29 (by omega) _ _ _ _ hD r l _ (tap31 1 (by omega) _ _ _ hc l)
    · rw [hf 0]; exact shifted30 0 30 (by omega) _ _ _ _ hD r l _ (tap31 0 (by omega) _ _ _ hc l)
  have q : (res_main_v394 V0 : FVec Ideal S16384x256 .f32) (ix2 r l) = (res_main_v392 V0 : FVec Ideal S16414x256 .f32) (ix2 (⟨30 + r.val, by omega⟩ : Fin 16414) l) := by
    unfold res_main_v394
    generalize res_main_v392 V0 = V
    pointwise
  rw [q, e2, sum31_down]
  exact congrArg (fun v : ℝ => (v : EReal)) (Finset.sum_congr rfl fun k _ => hf k)

include hz in
/-- The gate's sigmoid. -/
theorem sg_ref (r : Fin 16384) (l : Fin 256) : (res_main_v7 V0 : FVec Ideal S16384x256 .f32) (ix2 r l) = ((sg (A.z r 2304 l (by omega)) : ℝ) : EReal) := by
  pointwise [res_main_v7]
  simp only [hz]
  refine Eq.trans (b := Ideal.div ((1 : ℝ) : EReal) (((1 + Real.exp (-(A.z r 2304 l (by omega))) : ℝ)) : EReal)) ?_ (div_coe (by positivity))
  rw [EReal.coe_add, ← exp_coe, EReal.coe_neg, EReal.coe_one]
  rfl

end Entries

/-- The eight padded column groups together. -/
theorem dz_ref (A : Args) (r : Fin 16384) (e : Fin 2560) (x4 x3 x2 x1 x0 x6 x5 : FVec Ideal S16384x256 .f32) (xa : FVec Ideal S16384x768 .f32)
    (h4 : ∀ r l, x4 (ix2 r l) = ((A.group r l 4 : ℝ) : EReal)) (h3 : ∀ r l, x3 (ix2 r l) = ((A.group r l 3 : ℝ) : EReal))
    (h2 : ∀ r l, x2 (ix2 r l) = ((A.group r l 2 : ℝ) : EReal)) (h1 : ∀ r l, x1 (ix2 r l) = ((A.group r l 1 : ℝ) : EReal))
    (h0 : ∀ r l, x0 (ix2 r l) = ((A.group r l 0 : ℝ) : EReal)) (ha : ∀ r l, xa (ix2 r l) = ((A.A r l : ℝ) : EReal))
    (h6 : ∀ r l, x6 (ix2 r l) = ((A.group r l 6 : ℝ) : EReal)) (h5 : ∀ r l, x5 (ix2 r l) = ((A.group r l 5 : ℝ) : EReal)) :
    truncf .bf16 (addf (addf (addf (addf (addf (addf (addf
        (pad S16384x2560 ![0, 1792] ![0, 512] ![0, 0] x4 zero pads_S16384x256_S16384x2560_000_17925120 h_S_)
        (pad S16384x2560 ![0, 1536] ![0, 768] ![0, 0] x3 zero pads_S16384x256_S16384x2560_000_15367680 h_S_))
        (pad S16384x2560 ![0, 1280] ![0, 1024] ![0, 0] x2 zero pads_S16384x256_S16384x2560_000_128010240 h_S_))
        (pad S16384x2560 ![0, 1024] ![0, 1280] ![0, 0] x1 zero pads_S16384x256_S16384x2560_000_102412800 h_S_))
        (pad S16384x2560 ![0, 768] ![0, 1536] ![0, 0] x0 zero pads_S16384x256_S16384x2560_000_76815360 h_S_))
        (pad S16384x2560 ![0, 0] ![0, 1792] ![0, 0] xa zero pads_S16384x768_S16384x2560_000_017920 h_S_))
        (pad S16384x2560 ![0, 2304] ![0, 0] ![0, 0] x6 zero pads_S16384x256_S16384x2560_000_230400 h_S_))
        (pad S16384x2560 ![0, 2048] ![0, 256] ![0, 0] x5 zero pads_S16384x256_S16384x2560_000_20482560 h_S_)) bitsLt_bf16_f32 (ix2 r e)
      = dzA A (ix2 r e) := by
  refine Eq.trans (b := ((part 1792 (fun r l => A.group r l 4) r e + part 1536 (fun r l => A.group r l 3) r e + part 1280 (fun r l => A.group r l 2) r e + part 1024 (fun r l => A.group r l 1) r e
    + part 768 (fun r l => A.group r l 0) r e + part 0 A.A r e + part 2304 (fun r l => A.group r l 6) r e + part 2048 (fun r l => A.group r l 5) r e : ℝ) : EReal)) ?_
    (congrArg (fun v : ℝ => (v : EReal)) (parts A r e (fun n r l => A.group r l n) fun _ _ _ => rfl))
  refine add_real _ _ _ (add_real _ _ _ (add_real _ _ _ (add_real _ _ _ (add_real _ _ _ (add_real _ _ _ (add_real _ _ _ ?_ ?_) ?_) ?_) ?_) ?_) ?_) ?_
  · exact column 1792 512 _ _ _ h4 r e
  · exact column 1536 768 _ _ _ h3 r e
  · exact column 1280 1024 _ _ _ h2 r e
  · exact column 1024 1280 _ _ _ h1 r e
  · exact column 768 1536 _ _ _ h0 r e
  · exact columns _ _ _ ha r e
  · exact column 2304 0 _ _ _ h6 r e
  · exact column 2048 256 _ _ _ h5 r e

/-- The heads laid side by side. -/
theorem heads (x : FVec Ideal S16384x4x64 .f32) (X : Fin 16384 → Fin 4 → Fin 64 → ℝ) (hx : ∀ r i k, x (ix3 r i k) = ((X r i k : ℝ) : EReal)) (r : Fin 16384) (l : Fin 256) :
    shapeCast S16384x256 x shapeCasts_S16384x4x64_S16384x256 (ix2 r l) = ((X r ⟨l.val / 64, by omega⟩ ⟨l.val % 64, by omega⟩ : ℝ) : EReal) := by
  pointwise
  exact hx _ _ _

/-- A product of two arrays with real entries. -/
theorem mul_real (a b : FVec Ideal S16384x256 .f32) (j : S16384x256.Idx) {x y : ℝ} (ha : a j = ((x : ℝ) : EReal)) (hb : b j = ((y : ℝ) : EReal)) :
    mulf a b j = ((x * y : ℝ) : EReal) := by
  rw [EReal.coe_mul, ← ha, ← hb]
  rfl

/-- 256 columns of the projected input. -/
theorem cols (o : ℕ) (ho : o + 256 ≤ 2560) (s : S16384x2560.Slices ![0, o] S16384x256) (x : FVec Ideal S16384x2560 .f32) (A : Args) (hx : ∀ r e, x (ix2 r e) = ((A.Z r e : ℝ) : EReal))
    (r : Fin 16384) (l : Fin 256) : extractStridedSlice S16384x256 ![0, o] x s (ix2 r l) = ((A.z r o l ho : ℝ) : EReal) := by
  pointwise
  exact hx _ _

/-- A derivative's factor. -/
theorem one_sub (a : FVec Ideal S16384x256 .f32) (j : S16384x256.Idx) {x : ℝ} (ha : a j = ((x : ℝ) : EReal)) :
    subf (broadcastInDim S16384x256 ![] bcast_S_S16384x256 (constant S_ .f32 0x3F800000#32)) a j = ((1 - x : ℝ) : EReal) := by
  idx_vars j
  pointwise
  rw [ha, EReal.coe_sub, EReal.coe_one]

end

/-- The gradient is the reference's, on finite inputs. -/
theorem algebraic : @Cert.algebraic_MixbIdeal_MixbRefIdeal_pre_mixb_finite Cert.MixbIdeal.Gen.facts Cert.MixbRefIdeal.Gen.facts Cert.Pre_mixb_finite.Gen.facts := by
  pair_intro
  · run_from Cert.MixbIdeal.Value.run_blocks m g
  · run_from Cert.MixbRefIdeal.Value.run m' g'
    obtain ⟨h0, h1, h2, h3, h4, h5, h6, h7, h8⟩ := hpre c
    choose Z hz using fun (r : Fin 16384) (e : Fin 2560) => Finite.entry _ _ h0 (ix2 r e)
    choose S hs using fun (k : Fin 3) (l : Fin 256) => Finite.entry _ _ h1 (ix2 k l)
    choose C hc using fun (k : Fin 31) (l : Fin 256) => Finite.entry _ _ h2 (ix2 k l)
    choose A ha using fun (r : Fin 16384) (e : Fin 768) => Finite.entry _ _ h3 (ix2 r e)
    choose B hb using fun (r : Fin 16384) (l : Fin 256) => Finite.entry _ _ h4 (ix2 r l)
    choose Q hq using fun (r : Fin 16384) (i : Fin 4) (k : Fin 64) => Finite.entry _ _ h5 (ix3 r i k)
    choose K hk using fun (r : Fin 16384) (i : Fin 4) (k : Fin 64) => Finite.entry _ _ h6 (ix3 r i k)
    choose V hv using fun (r : Fin 16384) (i : Fin 4) (k : Fin 64) => Finite.entry _ _ h7 (ix3 r i k)
    choose D hd using fun (r : Fin 16384) (l : Fin 256) => Finite.entry _ _ h8 (ix2 r l)
    have hA : Holds m c ⟨Z, S, C, A, B, Q, K, V, D⟩ := ⟨hz, hs, hc, ha, hb, hq, hk, hv, hd⟩
    rw [final11 m c _ hA]
    funext j
    idx_vars j
    obtain ⟨g0, g1, g2, g3, g4, g5, g6, g7, g8⟩ := hagree c
    have fz : ∀ r e, (StableHlo.launchContents m' c (Proc.devRef .tc MixbRefIdeal.main_arg0) : FVec Ideal MixbRefIdeal.S16384x2560 .f32) (ix2 r e) = ((Z r e : ℝ) : EReal) :=
      fun r e => (congrFun g0 _).trans (hz r e)
    have fs : ∀ k l, (StableHlo.launchContents m' c (Proc.devRef .tc MixbRefIdeal.main_arg1) : FVec Ideal MixbRefIdeal.S3x256 .f32) (ix2 k l) = ((S k l : ℝ) : EReal) :=
      fun k l => (congrFun g1 _).trans (hs k l)
    have fc : ∀ k l, (StableHlo.launchContents m' c (Proc.devRef .tc MixbRefIdeal.main_arg2) : FVec Ideal MixbRefIdeal.S31x256 .f32) (ix2 k l) = ((C k l : ℝ) : EReal) :=
      fun k l => (congrFun g2 _).trans (hc k l)
    have fb : ∀ r l, (StableHlo.launchContents m' c (Proc.devRef .tc MixbRefIdeal.main_arg4) : FVec Ideal MixbRefIdeal.S16384x256 .f32) (ix2 r l) = ((B r l : ℝ) : EReal) :=
      fun r l => (congrFun g4 _).trans (hb r l)
    have fd : ∀ r l, (StableHlo.launchContents m' c (Proc.devRef .tc MixbRefIdeal.main_arg8) : FVec Ideal MixbRefIdeal.S16384x256 .f32) (ix2 r l) = ((D r l : ℝ) : EReal) :=
      fun r l => (congrFun g8 _).trans (hd r l)
    have du := du_ref _ ⟨Z, S, C, A, B, Q, K, V, D⟩ fs fb
    have dh := dh_ref _ ⟨Z, S, C, A, B, Q, K, V, D⟩ fc fd
    have sig := sg_ref _ ⟨Z, S, C, A, B, Q, K, V, D⟩ fz
    refine dz_ref ⟨Z, S, C, A, B, Q, K, V, D⟩ j0 j1 _ _ _ _ _ _ _ _ ?_ ?_ ?_ ?_ ?_ ?_ ?_ ?_
    · exact heads _ V hv
    · exact heads _ K hk
    · exact heads _ Q hq
    · exact fun r l => (mul_real _ _ _ (cols 768 (by omega) _ _ _ fz r l) (du r l)).trans (congrArg (fun v : ℝ => (v : EReal)) (mul_comm _ _))
    · exact fun r l => mul_real _ _ _ (du r l) (cols 1024 (by omega) _ _ _ fz r l)
    · exact ha
    · refine fun r l => (mul_real _ _ _ (mul_real _ _ _ (cols 2048 (by omega) _ _ ⟨Z, S, C, A, B, Q, K, V, D⟩ fz r l) (dh r l)) (mul_real _ _ _ (sig r l) (one_sub _ _ (sig r l)))).trans
        (congrArg (fun v : ℝ => (v : EReal)) ?_)
      simp only [Args.group]
      show _ * _ * (_ * _) = Args.dh _ r l * Args.z _ r 2048 l _ * sg _ * _
      ring
    · exact fun r l => mul_real _ _ _ (dh r l) (sig r l)

end Cert.MixbClaim

end
-- ==== Proof.MixaReal.lean ====
/-
  The gradients of a row of 256 features through a root-mean-square norm and through a layer norm with a swish after it,
  as real numbers, in the shape a kernel's body computes them.
-/
module

public import proofs.«01_k».proof.Proof.RealCalc

@[expose] public section

noncomputable section

open Idealize.ShloMosaic

namespace Cert.MixaReal

open Cert.RealCalc

/-- The sigmoid of a gate. -/
def sg (x : ℝ) : ℝ := 1 / (1 + Real.exp (-x))

variable (Y D G B : Fin 256 → ℝ)

/-- The reciprocal root mean square of a row. -/
def inv : ℝ := (Real.sqrt ((∑ k, Y k * Y k) / 256 + eps))⁻¹

theorem pos : 0 < (∑ k, Y k * Y k) / 256 + eps := meansq_pos Y (by norm_num)

/-- The gradient of a row's root-mean-square norm. -/
def dn (l : Fin 256) : ℝ := inv Y * (D l - Y l * inv Y * ((∑ k, D k * (Y k * inv Y)) / 256))

/-- A row less its mean, the layer norm of a row without and with its gain and offset, the swish of that. -/
def cen (l : Fin 256) : ℝ := Y l - (∑ k, Y k) / 256
def xh (l : Fin 256) : ℝ := cen Y l * inv (cen Y)
def ln (l : Fin 256) : ℝ := xh Y l * G l + B l
def act (l : Fin 256) : ℝ := ln Y G B l * sg (ln Y G B l)

/-- The gradient of the layer norm's result, of its row without gain, and of the row itself. -/
def dln (l : Fin 256) : ℝ := dn (act Y G B) D l * (sg (ln Y G B l) * (1 + ln Y G B l * (1 - sg (ln Y G B l))))
def dxh (l : Fin 256) : ℝ := dln Y D G B l * G l
def dx (l : Fin 256) : ℝ :=
  inv (cen Y) * (dxh Y D G B l - (∑ k, dxh Y D G B k) / 256 - xh Y l * ((∑ k, dxh Y D G B k * xh Y k) / 256))

/-- The differentiated formula of the norm is its gradient. -/
theorem dn_eq (D : Fin 256 → ℝ) (l : Fin 256) :
    D l * inv Y
        + Y l * ((∑ k, Y k * D k) * (-(1 / 2) * (inv Y / ((∑ k, Y k * Y k) / 256 + eps))) / 256)
        + (∑ k, Y k * D k) * (-(1 / 2) * (inv Y / ((∑ k, Y k * Y k) / 256 + eps))) / 256 * Y l
      = dn Y D l := by
  have h := inv_sqrt_sq (pos Y)
  have hs : ∑ k, D k * (Y k * inv Y) = inv Y * ∑ k, Y k * D k := by
    rw [Finset.mul_sum]; exact Finset.sum_congr rfl fun k _ => by ring
  unfold dn
  rw [hs]
  unfold inv
  rw [div_eq_mul_inv ((Real.sqrt _)⁻¹), ← h]
  ring

/-- A row less its mean has sum zero. -/
theorem cen_sum : ∑ k, cen Y k = 0 := by
  unfold cen
  rw [Finset.sum_sub_distrib, Finset.sum_const, Finset.card_univ, Fintype.card_fin]
  simp only [nsmul_eq_mul, Nat.cast_ofNat]
  ring

/-- The layer norm's gradient: the norm's gradient of the row less its mean, less its own mean. -/
theorem dx_eq (D G B : Fin 256 → ℝ) (l : Fin 256) :
    dn (cen Y) (dxh Y D G B) l + (∑ k, -dn (cen Y) (dxh Y D G B) k) / 256 = dx Y D G B l := by
  have e : ∑ k, dn (cen Y) (dxh Y D G B) k = inv (cen Y) * ∑ k, dxh Y D G B k := by
    unfold dn
    rw [← Finset.mul_sum, Finset.sum_sub_distrib, ← Finset.sum_mul, ← Finset.sum_mul, cen_sum]
    ring
  rw [Finset.sum_neg_distrib, e]
  unfold dn dx xh
  ring

/-- The gradient of the layer norm's result, as the swish is differentiated. -/
theorem dln_eq (D G B : Fin 256 → ℝ) (l : Fin 256) :
    dn (act Y G B) D l * sg (ln Y G B l) + ln Y G B l * dn (act Y G B) D l * (sg (ln Y G B l) * (1 - sg (ln Y G B l))) = dln Y D G B l := by
  unfold dln
  ring

/-- The rows of an array, 32 rows later, and zero before. -/
def back (H : Fin 16384 → Fin 256 → ℝ) (n : ℕ) (l : Fin 256) : ℝ := if h : 32 ≤ n ∧ n < 16416 then H ⟨n - 32, by omega⟩ l else 0

theorem back_row (H : Fin 16384 → Fin 256 → ℝ) (n : ℕ) (r : Fin 16384) (l : Fin 256) (h : n = 32 + r.val) : back H n l = H r l := by
  unfold back
  rw [dif_pos (by omega)]
  exact congrArg (fun q => H q l) (Fin.ext (show n - 32 = r.val by omega))

theorem back_lt (H : Fin 16384 → Fin 256 → ℝ) (n : ℕ) (l : Fin 256) (h : n < 32) : back H n l = 0 := by
  unfold back
  rw [dif_neg (by omega)]

/-- A tap of a column, by its number. -/
def tap {K : ℕ} (W : Fin K → Fin 256 → ℝ) (l : Fin 256) (k : ℕ) : ℝ := if h : k < K then W ⟨k, h⟩ l else 0

/-- The column of a head's entry. -/
def lane (a : Fin 4) (b : Fin 64) : Fin 256 := ⟨64 * a.val + b.val, by omega⟩

theorem lane_val (a : Fin 4) (b : Fin 64) : (lane a b).val = 64 * a.val + b.val := rfl

theorem lane_eq (l : Fin 256) (a : Fin 4) (b : Fin 64) (h : 64 * a.val + b.val = l.val) : lane a b = l := Fin.ext h

/-- The real arguments: the projected input, the heads, the taps of both convolutions, the layer norm's gain and offset, the cotangent. -/
structure Args where
  Z : Fin 16384 → Fin 2560 → ℝ
  O : Fin 16384 → Fin 4 → Fin 64 → ℝ
  S : Fin 3 → Fin 256 → ℝ
  C : Fin 31 → Fin 256 → ℝ
  G : Fin 256 → ℝ
  B : Fin 256 → ℝ
  D : Fin 16384 → Fin 1024 → ℝ

namespace Args

variable (A : Args) (r : Fin 16384)

/-- 256 columns of the projected input, of the cotangent. -/
def z (o : ℕ) (l : Fin 256) (h : o + 256 ≤ 2560 := by omega) : ℝ := A.Z r ⟨o + l.val, by omega⟩
def d (o : ℕ) (l : Fin 256) (h : o + 256 ≤ 1024 := by omega) : ℝ := A.D r ⟨o + l.val, by omega⟩

/-- What the two convolutions take, and their results. -/
def ub (l : Fin 256) : ℝ := A.z r 768 l * A.z r 1024 l
def hh (l : Fin 256) : ℝ := A.z r 2048 l * sg (A.z r 2304 l)
def cb (l : Fin 256) : ℝ := ∑ k ∈ Finset.range 3, tap A.S l k * back A.ub (r.val + 30 + k) l
def cd (l : Fin 256) : ℝ := ∑ k ∈ Finset.range 31, tap A.C l k * back A.hh (r.val + 2 + k) l

/-- The gated convolution, the heads side by side. -/
def yb (l : Fin 256) : ℝ := A.z r 512 l * A.cb r l
def oo (l : Fin 256) : ℝ := A.O r ⟨l.val / 64, by omega⟩ ⟨l.val % 64, by omega⟩

/-- The gradients. -/
def dcb (l : Fin 256) : ℝ := dn (A.yb r) (A.d r 256) l * A.z r 512 l
def doo (l : Fin 256) : ℝ := dn (A.oo r) (A.d r 512) l
def dcd (l : Fin 256) : ℝ := dx (A.cd r) (A.d r 768) A.G A.B l
def dlb (l : Fin 256) : ℝ := dln (A.cd r) (A.d r 768) A.G A.B l
def dlg (l : Fin 256) : ℝ := dln (A.cd r) (A.d r 768) A.G A.B l * xh (A.cd r) l

/-- The gradients of the taps. -/
def ds (k : ℕ) (l : Fin 256) : ℝ := ∑ r, A.dcb r l * back A.ub (r.val + 30 + k) l
def dc (k : ℕ) (l : Fin 256) : ℝ := ∑ r, A.dcd r l * back A.hh (r.val + 2 + k) l

end Args

end Cert.MixaReal

end
-- ==== Proof.MixaRefer.lean ====
/-
  The reference's results, entry by entry, as real numbers.
-/
module

public import proofs.«01_k».proof.Proof.MixaReal
public import proofs.«01_k».proof.Proof.Gen.MixaRefIdeal.Run
public import Idealize.ShloMosaic.Lib.Pipeline.ValueKit
public import Idealize.ShloMosaic.Lib.Pipeline.ReadBack

@[expose] public section

set_option maxRecDepth 100000

noncomputable section

open Idealize.ShloMosaic Idealize.ShloMosaic.TcCoe Idealize.SL.Sem

namespace Cert.MixaRefer

open Cert.RealCalc Cert.MixaReal Cert.MixaRefIdeal Cert.MixaRefIdeal.Gen Cert.MixaRefIdeal.Value

/-- Two real entries add, and multiply. -/
theorem add_real {s : Shape} (a b : FVec Ideal s .f32) (j : s.Idx) {x y : ℝ} (ha : a j = ((x : ℝ) : EReal)) (hb : b j = ((y : ℝ) : EReal)) :
    addf a b j = ((x + y : ℝ) : EReal) := by
  rw [EReal.coe_add, ← ha, ← hb]
  rfl

theorem mul_real {s : Shape} (a b : FVec Ideal s .f32) (j : s.Idx) {x y : ℝ} (ha : a j = ((x : ℝ) : EReal)) (hb : b j = ((y : ℝ) : EReal)) :
    mulf a b j = ((x * y : ℝ) : EReal) := by
  rw [EReal.coe_mul, ← ha, ← hb]
  rfl

/-- The 31 terms in ascending order, from zero, and in descending order. -/
theorem sum31_up (f : ℕ → ℝ) : 0 + f 0 + f 1 + f 2 + f 3 + f 4 + f 5 + f 6 + f 7 + f 8 + f 9 + f 10 + f 11 + f 12 + f 13 + f 14 + f 15 + f 16 + f 17 + f 18 + f 19 + f 20
    + f 21 + f 22 + f 23 + f 24 + f 25 + f 26 + f 27 + f 28 + f 29 + f 30 = ∑ k ∈ Finset.range 31, f k := by
  simp only [Finset.sum_range_succ, Finset.sum_range_zero]

theorem sum31_down (f : ℕ → ℝ) : f 30 + f 29 + f 28 + f 27 + f 26 + f 25 + f 24 + f 23 + f 22 + f 21 + f 20 + f 19 + f 18 + f 17 + f 16 + f 15 + f 14 + f 13 + f 12 + f 11
    + f 10 + f 9 + f 8 + f 7 + f 6 + f 5 + f 4 + f 3 + f 2 + f 1 + f 0 = ∑ k ∈ Finset.range 31, f k := by
  simp only [Finset.sum_range_succ, Finset.sum_range_zero]
  ring

/-- The array of zero the padding takes. -/
abbrev zero : FVec Ideal S_ .f32 := constant S_ .f32 0x00000000#32

/-- An array of zeros. -/
theorem zeros (r : Fin 16384) (l : Fin 256) : broadcastInDim S16384x256 ![] bcast_S_S16384x256 zero (ix2 r l) = ((0 : ℝ) : EReal) := by
  pointwise
  exact EReal.coe_zero.symm

/-- One tap of a convolution. -/
theorem tap31 (k : ℕ) (hk : k < 31) (s : S31x256.Slices ![k, 0] S1x256) (x : FVec Ideal S31x256 .f32) (C : Fin 31 → Fin 256 → ℝ) (hx : ∀ k l, x (ix2 k l) = ((C k l : ℝ) : EReal)) (r : Fin 16384) (l : Fin 256) :
    broadcastInDim S16384x256 ![0, 1] bcast_S1x256_S16384x256_0_1 (broadcastInDim S1x256 ![1] bcast_S256_S1x256_1 (shapeCast S256 (extractStridedSlice S1x256 ![k, 0] x s) shapeCasts_S1x256_S256)) (ix2 r l)
      = ((tap C l k : ℝ) : EReal) := by
  pointwise
  refine (hx _ _).trans (congrArg (fun v : ℝ => (v : EReal)) ?_)
  unfold tap
  rw [dif_pos hk]

theorem tap3 (k : ℕ) (hk : k < 3) (s : S3x256.Slices ![k, 0] S1x256) (x : FVec Ideal S3x256 .f32) (C : Fin 3 → Fin 256 → ℝ) (hx : ∀ k l, x (ix2 k l) = ((C k l : ℝ) : EReal)) (r : Fin 16384) (l : Fin 256) :
    broadcastInDim S16384x256 ![0, 1] bcast_S1x256_S16384x256_0_1 (broadcastInDim S1x256 ![1] bcast_S256_S1x256_1 (shapeCast S256 (extractStridedSlice S1x256 ![k, 0] x s) shapeCasts_S1x256_S256)) (ix2 r l)
      = ((tap C l k : ℝ) : EReal) := by
  pointwise
  refine (hx _ _).trans (congrArg (fun v : ℝ => (v : EReal)) ?_)
  unfold tap
  rw [dif_pos hk]

/-- A window of the rows that follow the leading rows of zero. -/
theorem window31 (k : ℕ) (hk : k < 31) (s : S16414x256.Slices ![k, 0] S16384x256) (x : FVec Ideal S16414x256 .f32) (H : Fin 16384 → Fin 256 → ℝ)
    (hx : ∀ n l, x (ix2 n l) = ((back H (n.val + 2) l : ℝ) : EReal)) (r : Fin 16384) (l : Fin 256) :
    extractStridedSlice S16384x256 ![k, 0] x s (ix2 r l) = ((back H (r.val + 2 + k) l : ℝ) : EReal) := by
  pointwise
  refine (hx _ _).trans (congrArg (fun n => ((back H n l : ℝ) : EReal)) ?_)
  show k + r.val + 2 = r.val + 2 + k
  omega

theorem window3 (k : ℕ) (hk : k < 3) (s : S16386x256.Slices ![k, 0] S16384x256) (x : FVec Ideal S16386x256 .f32) (H : Fin 16384 → Fin 256 → ℝ)
    (hx : ∀ n l, x (ix2 n l) = ((back H (n.val + 30) l : ℝ) : EReal)) (r : Fin 16384) (l : Fin 256) :
    extractStridedSlice S16384x256 ![k, 0] x s (ix2 r l) = ((back H (r.val + 30 + k) l : ℝ) : EReal) := by
  pointwise
  refine (hx _ _).trans (congrArg (fun n => ((back H n l : ℝ) : EReal)) ?_)
  show k + r.val + 30 = r.val + 30 + k
  omega

/-- The sum of a column's products, in one of the rows. -/
theorem one_row31 (k j : ℕ) (hk : k < 31) (p : S1x256.Pads (![k, 0] : Fin 2 → Nat) ![j, 0] ![0, 0] S31x256) (x w : FVec Ideal S16384x256 .f32) (X W : Fin 16384 → ℝ) (l : Fin 256)
    (hx : ∀ r, x (ix2 r l) = ((X r : ℝ) : EReal)) (hw : ∀ r, w (ix2 r l) = ((W r : ℝ) : EReal)) (i : Fin 31) :
    pad S31x256 ![k, 0] ![j, 0] ![0, 0] (broadcastInDim S1x256 ![1] bcast_S256_S1x256_1 (Host.reduceAdd (shapeCast S1x256 (Host.reduceAdd (mulf x w) zero reducesTo_S16384x256_S256_d0 h_S_) shapeCasts_S256_S1x256)
      zero reducesTo_S1x256_S256_d0 h_S_)) zero p h_S_ (ix2 i l) = ((if i.val = k then ∑ r, X r * W r else 0 : ℝ) : EReal) := by
  pointwise
  simp only [hx, hw, ← EReal.coe_mul, coe_sum, Finset.univ_unique, Finset.sum_singleton]
  by_cases h : i.val = k
  · rw [if_pos h, dif_pos (by omega)]
  · rw [if_neg h, dif_neg (by omega)]
    exact EReal.coe_zero.symm

theorem one_row3 (k j : ℕ) (hk : k < 3) (p : S1x256.Pads (![k, 0] : Fin 2 → Nat) ![j, 0] ![0, 0] S3x256) (x w : FVec Ideal S16384x256 .f32) (X W : Fin 16384 → ℝ) (l : Fin 256)
    (hx : ∀ r, x (ix2 r l) = ((X r : ℝ) : EReal)) (hw : ∀ r, w (ix2 r l) = ((W r : ℝ) : EReal)) (i : Fin 3) :
    pad S3x256 ![k, 0] ![j, 0] ![0, 0] (broadcastInDim S1x256 ![1] bcast_S256_S1x256_1 (Host.reduceAdd (shapeCast S1x256 (Host.reduceAdd (mulf x w) zero reducesTo_S16384x256_S256_d0 h_S_) shapeCasts_S256_S1x256)
      zero reducesTo_S1x256_S256_d0 h_S_)) zero p h_S_ (ix2 i l) = ((if i.val = k then ∑ r, X r * W r else 0 : ℝ) : EReal) := by
  pointwise
  simp only [hx, hw, ← EReal.coe_mul, coe_sum, Finset.univ_unique, Finset.sum_singleton]
  by_cases h : i.val = k
  · rw [if_pos h, dif_pos (by omega)]
  · rw [if_neg h, dif_neg (by omega)]
    exact EReal.coe_zero.symm

section Norm

variable (y d : FVec Ideal S16384x256 .f32)

/-- The mean square of the rows with the small number, its reciprocal root, the factor of the differentiated root, and the norm's gradient. -/
def msq : FVec Ideal S16384x1 .f32 :=
  addf (Host.divf (broadcastInDim S16384x1 ![0] bcast_S16384_S16384x1_0 (Host.reduceAdd (mulf y y) zero reducesTo_S16384x256_S16384_d1 h_S_))
    (broadcastInDim S16384x1 ![] bcast_S_S16384x1 (constant S_ .f32 0x43800000#32))) (broadcastInDim S16384x1 ![] bcast_S_S16384x1 (constant S_ .f32 0x358637BD#32))
def fac : FVec Ideal S16384x256 .f32 :=
  broadcastInDim S16384x256 ![0] bcast_S16384_S16384x256_0 (Host.reduceAdd (Host.divf (mulf (shapeCast S16384x1 (Host.reduceAdd (mulf y d) zero reducesTo_S16384x256_S16384_d1 h_S_) shapeCasts_S16384_S16384x1)
    (mulf (broadcastInDim S16384x1 ![] bcast_S_S16384x1 (constant S_ .f32 0xBF000000#32)) (Host.divf (Host.rsqrt (msq y)) (msq y)))) (broadcastInDim S16384x1 ![] bcast_S_S16384x1 (constant S_ .f32 0x43800000#32)))
    zero reducesTo_S16384x1_S16384_d1 h_S_)
def ngrad : FVec Ideal S16384x256 .f32 :=
  addf (addf (mulf d (broadcastInDim S16384x256 ![0, 1] bcast_S16384x1_S16384x256_0_1 (Host.rsqrt (msq y)))) (mulf y (fac y d))) (mulf (fac y d) y)

variable (r : Fin 16384) (Y D : Fin 256 → ℝ) (hy : ∀ l, y (ix2 r l) = ((Y l : ℝ) : EReal)) (hd : ∀ l, d (ix2 r l) = ((D l : ℝ) : EReal))
include hy

theorem rs_ref : (Host.rsqrt (msq y) : FVec Ideal S16384x1 .f32) (ix2 r 0) = ((inv Y : ℝ) : EReal) := by
  pointwise [msq]
  simp only [hy, ofBits_256, ofBits_eps, ← EReal.coe_mul, coe_sum, div_256, ← EReal.coe_add, rsqrt_coe (MixaReal.pos Y)]
  rfl

include hd

theorem ngrad_ref (l : Fin 256) : ngrad y d (ix2 r l) = ((dn Y D l : ℝ) : EReal) := by
  pointwise [ngrad, fac, msq]
  simp only [hy, hd, ofBits_256, ofBits_eps, ofBits_neg_half, ← EReal.coe_mul, coe_sum, div_256, ← EReal.coe_add, rsqrt_coe (MixaReal.pos Y), div_coe (MixaReal.pos Y).ne', Finset.univ_unique, Finset.sum_singleton]
  exact congrArg (fun v : ℝ => (v : EReal)) (MixaReal.dn_eq Y D l)

end Norm

section Entries

variable (V0 : Valuation τ sig (Elt Ideal)) (A : Args)
  (hz : ∀ r e, (V0 (Proc.devRef .tc main_arg0) : FVec Ideal S16384x2560 .f32) (ix2 r e) = ((A.Z r e : ℝ) : EReal))
  (ho : ∀ r i k, (V0 (Proc.devRef .tc main_arg1) : FVec Ideal S16384x4x64 .f32) (ix3 r i k) = ((A.O r i k : ℝ) : EReal))
  (hs : ∀ k l, (V0 (Proc.devRef .tc main_arg5) : FVec Ideal S3x256 .f32) (ix2 k l) = ((A.S k l : ℝ) : EReal))
  (hc : ∀ k l, (V0 (Proc.devRef .tc main_arg6) : FVec Ideal S31x256 .f32) (ix2 k l) = ((A.C k l : ℝ) : EReal))
  (hg : ∀ l, (V0 (Proc.devRef .tc main_arg7) : FVec Ideal S256 .f32) (ix1 l) = ((A.G l : ℝ) : EReal))
  (hb : ∀ l, (V0 (Proc.devRef .tc main_arg8) : FVec Ideal S256 .f32) (ix1 l) = ((A.B l : ℝ) : EReal))
  (hd : ∀ r e, (V0 (Proc.devRef .tc main_arg9) : FVec Ideal S16384x1024 .f32) (ix2 r e) = ((A.D r e : ℝ) : EReal))

include hz in
/-- What the convolutions take. -/
theorem ub_ref (n : Fin 16386) (l : Fin 256) : (res_main_v4 V0 : FVec Ideal S16386x256 .f32) (ix2 n l) = ((back A.ub (n.val + 30) l : ℝ) : EReal) := by
  pointwise [res_main_v4]
  split_ifs with h
  any_goals exact absurd rfl (by assumption)
  · rw [back_lt _ _ _ (by omega)]
    exact EReal.coe_zero.symm
  · rw [back_row _ _ ⟨n.val - 2, by omega⟩ l (show n.val + 30 = 32 + (n.val - 2) by omega)]
    simp only [hz, ← EReal.coe_mul]
    rfl

include hz in
theorem hh_ref (n : Fin 16414) (l : Fin 256) : (res_main_v37 V0 : FVec Ideal S16414x256 .f32) (ix2 n l) = ((back A.hh (n.val + 2) l : ℝ) : EReal) := by
  pointwise [res_main_v37]
  split_ifs with h
  any_goals exact absurd rfl (by assumption)
  · rw [back_lt _ _ _ (by omega)]
    exact EReal.coe_zero.symm
  · rw [back_row _ _ ⟨n.val - 30, by omega⟩ l (show n.val + 2 = 32 + (n.val - 30) by omega)]
    simp only [hz]
    refine (congrArg₂ (· * ·) rfl (y' := ((sg (A.z ⟨n.val - 30, by omega⟩ 2304 l) : ℝ) : EReal)) ?_).trans (EReal.coe_mul _ _).symm
    refine Eq.trans (b := Ideal.div ((1 : ℝ) : EReal) (((1 + Real.exp (-(A.z ⟨n.val - 30, by omega⟩ 2304 l)) : ℝ)) : EReal)) ?_ (div_coe (by positivity))
    rw [EReal.coe_add, ← exp_coe, EReal.coe_neg, EReal.coe_one]
    rfl

include hz hc in
/-- The long convolution. -/
theorem cd_ref (r : Fin 16384) (l : Fin 256) : (res_main_v255 V0 : FVec Ideal S16384x256 .f32) (ix2 r l) = ((A.cd r l : ℝ) : EReal) := by
  obtain ⟨f, hf⟩ : ∃ f : ℕ → ℝ, ∀ k, f k = tap A.C l k * back A.hh (r.val + 2 + k) l := ⟨_, fun _ => rfl⟩
  have e : A.cd r l = ∑ k ∈ Finset.range 31, f k := Finset.sum_congr rfl fun k _ => (hf k).symm
  have step : ∀ k, k < 31 → ∀ (s : S31x256.Slices ![k, 0] S1x256) (q : S16414x256.Slices ![k, 0] S16384x256),
      (mulf (broadcastInDim S16384x256 ![0, 1] bcast_S1x256_S16384x256_0_1 (broadcastInDim S1x256 ![1] bcast_S256_S1x256_1 (shapeCast S256 (extractStridedSlice S1x256 ![k, 0]
        (V0 (Proc.devRef .tc main_arg6) : FVec Ideal S31x256 .f32) s) shapeCasts_S1x256_S256))) (extractStridedSlice S16384x256 ![k, 0] (res_main_v37 V0 : FVec Ideal S16414x256 .f32) q) : FVec Ideal S16384x256 .f32) (ix2 r l) = ((f k : ℝ) : EReal) :=
    fun k hk s q => (mul_real _ _ _ (tap31 k hk s _ A.C hc r l) (window31 k hk q _ A.hh (hh_ref V0 A hz) r l)).trans (congrArg (fun v : ℝ => (v : EReal)) (hf k).symm)
  rw [e, ← sum31_up f]
  unfold res_main_v255 res_main_v248 res_main_v143
  iterate 31 refine add_real _ _ _ ?_ ?_
  · exact zeros r l
  all_goals exact step _ (by norm_num) _ _

include hz hs in
/-- The gated short convolution. -/
theorem yb_ref (r : Fin 16384) (l : Fin 256) : (res_main_v258 V0 : FVec Ideal S16384x256 .f32) (ix2 r l) = ((A.yb r l : ℝ) : EReal) := by
  unfold res_main_v258
  refine mul_real _ _ _ ?_ ?_
  · pointwise [res_main_v256]
    exact hz _ _
  · have e : A.cb r l = 0 + tap A.S l 0 * back A.ub (r.val + 30 + 0) l + tap A.S l 1 * back A.ub (r.val + 30 + 1) l + tap A.S l 2 * back A.ub (r.val + 30 + 2) l := by
      simp only [Args.cb, Finset.sum_range_succ, Finset.sum_range_zero]
    rw [e]
    refine add_real _ _ _ (add_real _ _ _ (add_real _ _ _ (zeros r l) ?_) ?_) ?_
    · exact mul_real _ _ _ (tap3 0 (by omega) _ _ A.S hs r l) (window3 0 (by omega) _ _ A.ub (ub_ref V0 A hz) r l)
    · exact mul_real _ _ _ (tap3 1 (by omega) _ _ A.S hs r l) (window3 1 (by omega) _ _ A.ub (ub_ref V0 A hz) r l)
    · exact mul_real _ _ _ (tap3 2 (by omega) _ _ A.S hs r l) (window3 2 (by omega) _ _ A.ub (ub_ref V0 A hz) r l)

include hd in
theorem d_ref (r : Fin 16384) (l : Fin 256) :
    (res_main_v326 V0 : FVec Ideal S16384x256 .f32) (ix2 r l) = ((A.d r 256 l : ℝ) : EReal)
      ∧ (res_main_v327 V0 : FVec Ideal S16384x256 .f32) (ix2 r l) = ((A.d r 512 l : ℝ) : EReal)
      ∧ (res_main_v328 V0 : FVec Ideal S16384x256 .f32) (ix2 r l) = ((A.d r 768 l : ℝ) : EReal) := by
  refine ⟨?_, ?_, ?_⟩
  all_goals
    pointwise [res_main_v326, res_main_v327, res_main_v328, res_main_v325]
    refine (hd _ _).trans (congrArg (fun e => ((A.D r e : ℝ) : EReal)) (Fin.ext ?_))
    first | rfl | (show 256 + (256 + l.val) = 512 + l.val; omega) | (show 256 + (512 + l.val) = 768 + l.val; omega)

include hz hs hd in
/-- The short convolution's gradient. -/
theorem dcb_ref (r : Fin 16384) (l : Fin 256) : (res_main_v403 V0 : FVec Ideal S16384x256 .f32) (ix2 r l) = ((A.dcb r l : ℝ) : EReal) := by
  have e : (res_main_v403 V0 : FVec Ideal S16384x256 .f32) = mulf (res_main_v256 V0) (ngrad (res_main_v258 V0) (res_main_v326 V0)) := rfl
  rw [e]
  unfold Args.dcb
  rw [mul_comm]
  refine mul_real _ _ _ ?_ (ngrad_ref _ _ r _ _ (yb_ref V0 A hz hs r) (fun l => (d_ref V0 A hd r l).1) l)
  pointwise [res_main_v256]
  exact hz _ _

include ho in
/-- The heads side by side. -/
theorem oo_ref (r : Fin 16384) (l : Fin 256) : (res_main_v257 V0 : FVec Ideal S16384x256 .f32) (ix2 r l) = ((A.oo r l : ℝ) : EReal) := by
  pointwise [res_main_v257]
  exact ho _ _ _

include ho hd in
/-- The heads' gradient. -/
theorem do_ref (r : Fin 16384) (i : Fin 4) (k : Fin 64) : (res_main_v404 V0 : FVec Ideal S16384x4x64 .f32) (ix3 r i k) = ((A.doo r (lane i k) : ℝ) : EReal) := by
  have e : (res_main_v404 V0 : FVec Ideal S16384x4x64 .f32) = shapeCast S16384x4x64 (ngrad (res_main_v257 V0) (res_main_v327 V0)) shapeCasts_S16384x256_S16384x4x64 := rfl
  have h := ngrad_ref (res_main_v257 V0) (res_main_v327 V0) r _ _ (oo_ref V0 A ho r) (fun l => (d_ref V0 A hd r l).2.1)
  rw [e]
  generalize ngrad (res_main_v257 V0) (res_main_v327 V0) = q at h ⊢
  pointwise
  refine (h _).trans (congrArg (fun l => ((A.doo r l : ℝ) : EReal)) (Fin.ext ?_))
  show i.val * 64 + k.val = 64 * i.val + k.val
  omega

include hz hc in
/-- The layer norm: the row less its mean, and the row without gain. -/
theorem cen_ref (r : Fin 16384) (l : Fin 256) : (res_main_v264 V0 : FVec Ideal S16384x256 .f32) (ix2 r l) = ((cen (A.cd r) l : ℝ) : EReal) := by
  have h := cd_ref V0 A hz hc r
  unfold res_main_v264
  generalize res_main_v255 V0 = q at h ⊢
  pointwise
  simp only [h, ofBits_256, coe_sum, div_256, ← EReal.coe_sub]
  rfl

include hz hc in
theorem lrs_ref (r : Fin 16384) : (res_main_v272 V0 : FVec Ideal S16384x1 .f32) (ix2 r 0) = ((inv (cen (A.cd r)) : ℝ) : EReal) :=
  rs_ref (res_main_v264 V0) r _ (cen_ref V0 A hz hc r)

include hz hc in
theorem xh_ref (r : Fin 16384) (l : Fin 256) : (res_main_v277 V0 : FVec Ideal S16384x256 .f32) (ix2 r l) = ((xh (A.cd r) l : ℝ) : EReal) := by
  unfold res_main_v277
  refine mul_real _ _ _ (cen_ref V0 A hz hc r l) ?_
  have h := lrs_ref V0 A hz hc r
  generalize res_main_v272 V0 = q at h ⊢
  pointwise
  exact h

include hg in
theorem gain_ref (r : Fin 16384) (l : Fin 256) :
    broadcastInDim S16384x256 ![0, 1] bcast_S1x256_S16384x256_0_1 (res_main_v278 V0 : FVec Ideal S1x256 .f32) (ix2 r l) = ((A.G l : ℝ) : EReal) := by
  pointwise [res_main_v278]
  exact hg _

include hz hc hg hb in
theorem ln_ref (r : Fin 16384) (l : Fin 256) : (res_main_v283 V0 : FVec Ideal S16384x256 .f32) (ix2 r l) = ((ln (A.cd r) A.G A.B l : ℝ) : EReal) := by
  unfold res_main_v283
  refine add_real _ _ _ (mul_real _ _ _ (xh_ref V0 A hz hc r l) (gain_ref V0 A hg r l)) ?_
  pointwise
  exact hb _

include hz hc hg hb in
theorem sg_ref (r : Fin 16384) (l : Fin 256) : (res_main_v284_2 V0 : FVec Ideal S16384x256 .f32) (ix2 r l) = ((sg (ln (A.cd r) A.G A.B l) : ℝ) : EReal) := by
  have h := ln_ref V0 A hz hc hg hb r l
  unfold res_main_v284_2
  generalize res_main_v283 V0 = q at h ⊢
  pointwise
  rw [h]
  refine Eq.trans (b := Ideal.div ((1 : ℝ) : EReal) (((1 + Real.exp (-(ln (A.cd r) A.G A.B l)) : ℝ)) : EReal)) ?_ (div_coe (by positivity))
  rw [EReal.coe_add, ← exp_coe, EReal.coe_neg, EReal.coe_one]

include hz hc hg hb hd in
/-- The gradient of the layer norm's result. -/
theorem dln_ref (r : Fin 16384) (l : Fin 256) : (res_main_v371 V0 : FVec Ideal S16384x256 .f32) (ix2 r l) = ((A.dlb r l : ℝ) : EReal) := by
  have n : (res_main_v342 V0 : FVec Ideal S16384x256 .f32) (ix2 r l) = ((dn (act (A.cd r) A.G A.B) (A.d r 768) l : ℝ) : EReal) :=
    ngrad_ref (res_main_v284_0 V0) (res_main_v328 V0) r _ _ (fun l => mul_real _ _ _ (ln_ref V0 A hz hc hg hb r l) (sg_ref V0 A hz hc hg hb r l)) (fun l => (d_ref V0 A hd r l).2.2) l
  have s := sg_ref V0 A hz hc hg hb r l
  unfold Args.dlb
  rw [← dln_eq]
  unfold res_main_v371
  refine add_real _ _ _ (mul_real _ _ _ n s) (mul_real _ _ _ (mul_real _ _ _ (ln_ref V0 A hz hc hg hb r l) n) (mul_real _ _ _ s ?_))
  generalize res_main_v284_2 V0 = q at s ⊢
  pointwise
  rw [s, EReal.coe_sub, EReal.coe_one]

include hz hc hg hb hd in
/-- The long convolution's gradient. -/
theorem dcd_ref (r : Fin 16384) (l : Fin 256) : (res_main_v402 V0 : FVec Ideal S16384x256 .f32) (ix2 r l) = ((A.dcd r l : ℝ) : EReal) := by
  have n : ∀ l, (res_main_v394 V0 : FVec Ideal S16384x256 .f32) (ix2 r l) = ((dn (cen (A.cd r)) (dxh (A.cd r) (A.d r 768) A.G A.B) l : ℝ) : EReal) :=
    ngrad_ref (res_main_v264 V0) (res_main_v379 V0) r _ _ (cen_ref V0 A hz hc r) (fun l => mul_real _ _ _ (dln_ref V0 A hz hc hg hb hd r l) (gain_ref V0 A hg r l))
  unfold Args.dcd
  rw [← dx_eq]
  unfold res_main_v402
  generalize res_main_v394 V0 = q at n ⊢
  refine add_real _ _ _ (n l) ?_
  pointwise
  simp only [n, ofBits_256, ← EReal.coe_neg, coe_sum, div_256, Finset.univ_unique, Finset.sum_singleton]

include hz hs hd in
/-- The short taps' gradient, padded. -/
theorem ds_ref (i : Fin 3) (l : Fin 256) :
    (addf (addf (pad S3x256 ![2, 0] ![0, 0] ![0, 0] (broadcastInDim S1x256 ![1] bcast_S256_S1x256_1 (Host.reduceAdd (shapeCast S1x256 (Host.reduceAdd (mulf (res_main_v403 V0) (res_main_v22 V0)) zero reducesTo_S16384x256_S256_d0 h_S_) shapeCasts_S256_S1x256) zero reducesTo_S1x256_S256_d0 h_S_)) zero pads_S1x256_S3x256_200_000 h_S_)
      (pad S3x256 ![1, 0] ![1, 0] ![0, 0] (broadcastInDim S1x256 ![1] bcast_S256_S1x256_1 (Host.reduceAdd (shapeCast S1x256 (Host.reduceAdd (mulf (res_main_v403 V0) (res_main_v15 V0)) zero reducesTo_S16384x256_S256_d0 h_S_) shapeCasts_S256_S1x256) zero reducesTo_S1x256_S256_d0 h_S_)) zero pads_S1x256_S3x256_110_000 h_S_))
      (pad S3x256 ![0, 0] ![2, 0] ![0, 0] (broadcastInDim S1x256 ![1] bcast_S256_S1x256_1 (Host.reduceAdd (shapeCast S1x256 (Host.reduceAdd (mulf (res_main_v403 V0) (res_main_v8 V0)) zero reducesTo_S16384x256_S256_d0 h_S_) shapeCasts_S256_S1x256) zero reducesTo_S1x256_S256_d0 h_S_)) zero pads_S1x256_S3x256_020_000 h_S_)
      : FVec Ideal S3x256 .f32) (ix2 i l) = ((A.ds i.val l : ℝ) : EReal) := by
  have w := fun k hk q r => window3 k hk q (res_main_v4 V0) A.ub (ub_ref V0 A hz) r l
  have e : A.ds i.val l = (if i.val = 2 then ∑ r, A.dcb r l * back A.ub (r.val + 30 + 2) l else 0) + (if i.val = 1 then ∑ r, A.dcb r l * back A.ub (r.val + 30 + 1) l else 0)
      + (if i.val = 0 then ∑ r, A.dcb r l * back A.ub (r.val + 30 + 0) l else 0) := by
    fin_cases i <;> simp [Args.ds]
  rw [e]
  refine add_real _ _ _ (add_real _ _ _ ?_ ?_) ?_
  · exact one_row3 2 0 (by omega) _ _ _ _ _ l (fun r => dcb_ref V0 A hz hs hd r l) (w 2 (by omega) _) i
  · exact one_row3 1 1 (by omega) _ _ _ _ _ l (fun r => dcb_ref V0 A hz hs hd r l) (w 1 (by omega) _) i
  · exact one_row3 0 2 (by omega) _ _ _ _ _ l (fun r => dcb_ref V0 A hz hs hd r l) (w 0 (by omega) _) i

include hz hc hg hb hd in
/-- The long taps' gradient, padded. -/
theorem dc_ref (i : Fin 31) (l : Fin 256) :
    (addf (res_main_v633 V0) (pad S31x256 ![0, 0] ![30, 0] ![0, 0] (broadcastInDim S1x256 ![1] bcast_S256_S1x256_1 (Host.reduceAdd (shapeCast S1x256 (Host.reduceAdd (mulf (res_main_v402 V0) (res_main_v41 V0)) zero reducesTo_S16384x256_S256_d0 h_S_) shapeCasts_S256_S1x256) zero reducesTo_S1x256_S256_d0 h_S_)) zero pads_S1x256_S31x256_0300_000 h_S_)
      : FVec Ideal S31x256 .f32) (ix2 i l) = ((A.dc i.val l : ℝ) : EReal) := by
  obtain ⟨f, hf⟩ : ∃ f : ℕ → ℝ, ∀ k, f k = if i.val = k then ∑ r, A.dcd r l * back A.hh (r.val + 2 + k) l else 0 := ⟨_, fun _ => rfl⟩
  have e : A.dc i.val l = ∑ k ∈ Finset.range 31, f k := by
    simp only [hf, Finset.sum_ite_eq, Finset.mem_range, i.isLt, if_true]
    rfl
  have step : ∀ k j, k < 31 → ∀ (p : S1x256.Pads (![k, 0] : Fin 2 → Nat) ![j, 0] ![0, 0] S31x256) (q : S16414x256.Slices ![k, 0] S16384x256),
      (pad S31x256 ![k, 0] ![j, 0] ![0, 0] (broadcastInDim S1x256 ![1] bcast_S256_S1x256_1 (Host.reduceAdd (shapeCast S1x256 (Host.reduceAdd (mulf (res_main_v402 V0) (extractStridedSlice S16384x256 ![k, 0] (res_main_v37 V0 : FVec Ideal S16414x256 .f32) q)) zero
        reducesTo_S16384x256_S256_d0 h_S_) shapeCasts_S256_S1x256) zero reducesTo_S1x256_S256_d0 h_S_)) zero p h_S_ : FVec Ideal S31x256 .f32) (ix2 i l) = ((f k : ℝ) : EReal) :=
    fun k j hk p q => (one_row31 k j hk p _ _ _ _ l (fun r => dcd_ref V0 A hz hc hg hb hd r l) (fun r => window31 k hk q _ A.hh (hh_ref V0 A hz) r l) i).trans
      (congrArg (fun v : ℝ => (v : EReal)) (hf k).symm)
  rw [e, ← sum31_down f]
  unfold res_main_v633 res_main_v563 res_main_v493
  iterate 30 refine add_real _ _ _ ?_ ?_
  all_goals exact step _ _ (by norm_num) _ _

end Entries

end Cert.MixaRefer

end
-- ==== Proof.MixaHost.lean ====
/-
  The arrays the host hands the kernel call.
-/
module

public import proofs.«01_k».proof.Proof.Gen.MixaIdeal.Value
public import proofs.«01_k».proof.Proof.ScatterRows
public import proofs.«01_k».proof.Proof.MixaRefer

@[expose] public section

set_option maxRecDepth 100000

noncomputable section

open Idealize.ShloMosaic Idealize.ShloMosaic.TcCoe Idealize.SL.Sem Idealize.ShloMosaic.Routing

namespace Cert.MixaHost

open Cert.RealCalc Cert.MixaReal Cert.MixaIdeal Cert.MixaIdeal.Gen

variable (m : (ℓ : Loc nD τ sig) → Buf (Elt Ideal) ℓ) (c : Dev nD)

def zH : FVec Ideal S16384x2560 .bf16 := truncf .bf16 (m ((c : Thread nD τ).loc main_arg0) : FVec Ideal S16384x2560 .f32) bitsLt_bf16_f32

def padS : FVec Ideal S8x256 .f32 :=
  Host.scatter scatter_S8x256_S1_S3x256_01_n_0_0 (fun _ b => b)
    (broadcastInDim S8x256 ![] bcast_S_S8x256 (constant (F := Ideal) S_ FTy.f32 0#32)) (broadcastInDim S1 ![] bcast_S_S1 (constantI S_ 32 0#32))
    (shapeCast S3x256 (broadcastInDim S1x3x256 ![1, 2] bcast_S3x256_S1x3x256_1_2 (m ((c : Thread nD τ).loc main_arg5) : FVec Ideal S3x256 .f32)) shapeCasts_S1x3x256_S3x256)

/-- The cotangent, the heads turned, the layer norm's gain and offset, the rows the long convolution takes. -/
def dH : FVec Ideal S16384x1024 .bf16 := truncf .bf16 (m ((c : Thread nD τ).loc main_arg9) : FVec Ideal S16384x1024 .f32) bitsLt_bf16_f32
def oH : FVec Ideal S4x64x16384 .f32 := transpose S4x64x16384 [1, 2, 0] (m ((c : Thread nD τ).loc main_arg1) : FVec Ideal S16384x4x64 .f32) transposes_S16384x4x64_S4x64x16384_1_2_0
def gH : FVec Ideal S1x256 .f32 := broadcastInDim S1x256 ![1] bcast_S256_S1x256_1
  (shapeCast S256 (broadcastInDim S1x256 ![1] bcast_S256_S1x256_1 (m ((c : Thread nD τ).loc main_arg7) : FVec Ideal S256 .f32)) shapeCasts_S1x256_S256)
def bH : FVec Ideal S1x256 .f32 := broadcastInDim S1x256 ![1] bcast_S256_S1x256_1
  (shapeCast S256 (broadcastInDim S1x256 ![1] bcast_S256_S1x256_1 (m ((c : Thread nD τ).loc main_arg8) : FVec Ideal S256 .f32)) shapeCasts_S1x256_S256)
def hH : FVec Ideal S16414x256 .f32 :=
  concatenate S16414x256 0 [⟨S30x256, (broadcastInDim S30x256 ![] bcast_S_S30x256 (constant (F := Ideal) S_ .f32 0x00000000#32))⟩, ⟨S16384x256, (mulf (extractStridedSlice S16384x256 ![0, 2048] (m ((c : Thread nD τ).loc main_arg0) : FVec Ideal S16384x2560 .f32) slices_S16384x2560_S16384x256_0_2048) (Host.divf (broadcastInDim S16384x256 ![] bcast_S_S16384x256 (constant (F := Ideal) S_ .f32 0x3F800000#32)) (addf (broadcastInDim S16384x256 ![] bcast_S_S16384x256 (constant (F := Ideal) S_ .f32 0x3F800000#32)) (Host.exp (Host.negf (extractStridedSlice S16384x256 ![0, 2304] (m ((c : Thread nD τ).loc main_arg0) : FVec Ideal S16384x2560 .f32) slices_S16384x2560_S16384x256_0_2304))))))⟩] concatenates_S30x256_S16384x256_S16414x256_d0

theorem V_z : V m c main_v263 = zH m c := by
  simp only [V, hostOps0, hostOps0_1, hostOps0_2, hostOps0_3, hostOps0_4, List.flatten_cons, List.flatten_nil, List.append_nil, List.cons_append, List.nil_append]
  after_results_simp
  rfl

theorem V_d : V m c main_v264 = dH m c := by
  simp only [V, hostOps0, hostOps0_1, hostOps0_2, hostOps0_3, hostOps0_4, List.flatten_cons, List.flatten_nil, List.append_nil, List.cons_append, List.nil_append]
  after_results_simp
  rfl

theorem V_o : V m c main_v265 = oH m c := by
  simp only [V, hostOps0, hostOps0_1, hostOps0_2, hostOps0_3, hostOps0_4, List.flatten_cons, List.flatten_nil, List.append_nil, List.cons_append, List.nil_append]
  after_results_simp
  rfl

theorem V_s : V m c main_v18 = padS m c := by
  simp only [V, hostOps0, hostOps0_1, hostOps0_2, hostOps0_3, hostOps0_4, List.flatten_cons, List.flatten_nil, List.append_nil, List.cons_append, List.nil_append]
  after_results_simp
  rfl

theorem V_g : V m c main_v29 = gH m c := by
  simp only [V, hostOps0, hostOps0_1, hostOps0_2, hostOps0_3, hostOps0_4, List.flatten_cons, List.flatten_nil, List.append_nil, List.cons_append, List.nil_append]
  after_results_simp
  rfl

theorem V_b : V m c main_v31 = bH m c := by
  simp only [V, hostOps0, hostOps0_1, hostOps0_2, hostOps0_3, hostOps0_4, List.flatten_cons, List.flatten_nil, List.append_nil, List.cons_append, List.nil_append]
  after_results_simp
  rfl

theorem V_y : V m c main_v262 = concatenate S16384x1024 1 [⟨S16384x768, broadcastInDim S16384x768 ![] bcast_S_S16384x768 (constant (F := Ideal) S_ FTy.f32 0#32)⟩,
    ⟨S16384x256, (V m c main_v260 : FVec Ideal S16384x256 .f32)⟩] concatenates_S16384x768_S16384x256_S16384x1024_d1 := by
  simp only [V, hostOps0, hostOps0_1, hostOps0_2, hostOps0_3, hostOps0_4, List.flatten_cons, List.flatten_nil, List.append_nil, List.cons_append, List.nil_append]
  after_results_simp
  rfl

theorem V_h : V m c main_v42 = hH m c := by
  simp only [V, hostOps0, hostOps0_1, hostOps0_2, hostOps0_3, hostOps0_4, List.flatten_cons, List.flatten_nil, List.append_nil, List.cons_append, List.nil_append]
  after_results_simp
  rfl

variable (A : MixaReal.Args)
  (hz : ∀ r e, (m ((c : Thread nD τ).loc main_arg0) : FVec Ideal S16384x2560 .f32) (ix2 r e) = ((A.Z r e : ℝ) : EReal))
  (hc : ∀ k l, (m ((c : Thread nD τ).loc main_arg6) : FVec Ideal S31x256 .f32) (ix2 k l) = ((A.C k l : ℝ) : EReal))

include hz in
theorem h_at (n : Fin 16414) (l : Fin 256) : hH m c (ix2 n l) = ((back A.hh (n.val + 2) l : ℝ) : EReal) := by
  pointwise [hH]
  split_ifs with h
  any_goals exact absurd rfl (by assumption)
  · rw [back_lt _ _ _ (by omega)]
    exact EReal.coe_zero.symm
  · rw [back_row _ _ ⟨n.val - 30, by omega⟩ l (show n.val + 2 = 32 + (n.val - 30) by omega)]
    simp only [hz]
    refine (congrArg₂ (· * ·) rfl (y' := ((sg (A.z ⟨n.val - 30, by omega⟩ 2304 l) : ℝ) : EReal)) ?_).trans (EReal.coe_mul _ _).symm
    refine Eq.trans (b := Ideal.div ((1 : ℝ) : EReal) (((1 + Real.exp (-(A.z ⟨n.val - 30, by omega⟩ 2304 l)) : ℝ)) : EReal)) ?_ (div_coe (by positivity))
    rw [EReal.coe_add, ← exp_coe, EReal.coe_neg, EReal.coe_one]
    rfl

include hz hc in
/-- The long convolution, as the host computes it. -/
theorem cd_at (r : Fin 16384) (l : Fin 256) : (V m c main_v260 : FVec Ideal S16384x256 .f32) (ix2 r l) = ((A.cd r l : ℝ) : EReal) := by
  obtain ⟨f, hf⟩ : ∃ f : ℕ → ℝ, ∀ k, f k = tap A.C l k * back A.hh (r.val + 2 + k) l := ⟨_, fun _ => rfl⟩
  have e : A.cd r l = ∑ k ∈ Finset.range 31, f k := Finset.sum_congr rfl fun k _ => (hf k).symm
  have h := h_at m c A hz
  have step : ∀ k, k < 31 → ∀ (s : S31x256.Slices ![k, 0] S1x256) (q : S16414x256.Slices ![k, 0] S16384x256),
      (mulf (broadcastInDim S16384x256 ![0, 1] bcast_S1x256_S16384x256_0_1 (broadcastInDim S1x256 ![1] bcast_S256_S1x256_1 (shapeCast S256 (extractStridedSlice S1x256 ![k, 0]
        (m ((c : Thread nD τ).loc main_arg6) : FVec Ideal S31x256 .f32) s) shapeCasts_S1x256_S256))) (extractStridedSlice S16384x256 ![k, 0] (hH m c) q) : FVec Ideal S16384x256 .f32) (ix2 r l) = ((f k : ℝ) : EReal) :=
    fun k hk s q => (MixaRefer.mul_real _ _ _ (MixaRefer.tap31 k hk s _ A.C hc r l) (MixaRefer.window31 k hk q _ A.hh h r l)).trans (congrArg (fun v : ℝ => (v : EReal)) (hf k).symm)
  rw [e, ← MixaRefer.sum31_up f]
  simp only [V, hostOps0, hostOps0_1, hostOps0_2, hostOps0_3, hostOps0_4, List.flatten_cons, List.flatten_nil, List.append_nil, List.cons_append, List.nil_append]
  after_results_simp
  iterate 31 refine MixaRefer.add_real _ _ _ ?_ ?_
  · exact MixaRefer.zeros r l
  all_goals exact step _ (by norm_num) _ _

end Cert.MixaHost

end
-- ==== Proof.MixaBlocks.lean ====
/-
  The mixers' first backward call: the blocks a point reads, as entries of the real arguments.
-/
module

public import proofs.«01_k».proof.Proof.MixaHost

@[expose] public section

set_option maxRecDepth 100000

noncomputable section

open Idealize.ShloMosaic Idealize.ShloMosaic.TcCoe Idealize.SL.Sem Idealize.ShloMosaic.Routing

namespace Cert.MixaBlocks

open Cert.RealCalc Cert.MixaReal Cert.MixaHost Cert.MixaIdeal Cert.MixaIdeal.Gen

variable (m : (ℓ : Loc nD τ sig) → Buf (Elt Ideal) ℓ) (c : Dev nD)

/-- The windows' block indices. -/
theorem idx : ∀ t : Fin cfg0.N, t.val < 32 ∧ win0_0.index t = ![t.val, 0] ∧ win0_1.index t = ![t.val * 16 - 1, 0] ∧ win0_2.index t = ![t.val, 0]
    ∧ win0_3.index t = ![0, 0, t.val] ∧ win0_4.index t = ![t.val, 3] ∧ win0_9.index t = ![0, 0] ∧ win0_11.index t = ![0, 0] ∧ win0_12.index t = ![0, 0]
    ∧ win0_14.index t = ![t.val, 0] ∧ win0_15.index t = ![t.val, 0] ∧ win0_16.index t = ![0, t.val, 0] ∧ win0_17.index t = ![0, 0, t.val] ∧ win0_18.index t = ![0, t.val, 0]
    ∧ win0_22.index t = ![0, 0] ∧ win0_23.index t = ![0, 0] ∧ win0_24.index t = ![0, 0] ∧ win0_25.index t = ![0, 0] :=
  (by decide +kernel : ∀ t : Fin grid0.N, _)

/-- The body's test for the first block. -/
theorem first : ∀ t : Fin cfg0.N, Scalar.cmpi .eq (BitVec.ofNat 32 (grid0.coords t 0 : ℕ)) 0#32 = if t.val = 0 then 1#1 else 0#1 :=
  (by decide +kernel : ∀ t : Fin grid0.N, _)

theorem row_lt (t : Fin cfg0.N) (r : Fin 512) : t.val * 512 + r.val < 16384 := by
  have := (idx t).1; omega

/-- Row `r` of the block of point `t`, in the arrays. -/
abbrev row (t : Fin cfg0.N) (r : Fin 512) : Fin 16384 := ⟨t.val * 512 + r.val, row_lt t r⟩

/-- The arguments are real arrays. -/
structure Holds (A : Args) : Prop where
  z : ∀ r e, (m ((c : Thread nD τ).loc main_arg0) : FVec Ideal S16384x2560 .f32) (ix2 r e) = ((A.Z r e : ℝ) : EReal)
  o : ∀ r a b, (m ((c : Thread nD τ).loc main_arg1) : FVec Ideal S16384x4x64 .f32) (ix3 r a b) = ((A.O r a b : ℝ) : EReal)
  s : ∀ k l, (m ((c : Thread nD τ).loc main_arg5) : FVec Ideal S3x256 .f32) (ix2 k l) = ((A.S k l : ℝ) : EReal)
  w : ∀ k l, (m ((c : Thread nD τ).loc main_arg6) : FVec Ideal S31x256 .f32) (ix2 k l) = ((A.C k l : ℝ) : EReal)
  g : ∀ l, (m ((c : Thread nD τ).loc main_arg7) : FVec Ideal S256 .f32) (ix1 l) = ((A.G l : ℝ) : EReal)
  b : ∀ l, (m ((c : Thread nD τ).loc main_arg8) : FVec Ideal S256 .f32) (ix1 l) = ((A.B l : ℝ) : EReal)
  d : ∀ r e, (m ((c : Thread nD τ).loc main_arg9) : FVec Ideal S16384x1024 .f32) (ix2 r e) = ((A.D r e : ℝ) : EReal)

variable {m c} {A : Args} (H : Holds m c A) (t : Fin cfg0.N)
include H

theorem blk0 (r : Fin 512) (e : Fin 2560) : (iblk m c 0 t : FVec Ideal S512x2560 .bf16) (ix2 r e) = ((A.Z (row t r) e : ℝ) : EReal) := by
  refine Eq.trans ?_ (H.z _ _)
  refine Eq.trans (b := zH m c (ix2 (row t r) e)) ?_ rfl
  rw [← V_z]
  blk_ext [iblk, idx t]

/-- The 32 rows before the block, where there are any. -/
theorem blk1 (h : 0 < t.val) (q : Fin 32) (e : Fin 2560) :
    (iblk m c 1 t : FVec Ideal S32x2560 .bf16) (ix2 q e) = ((A.Z ⟨(t.val * 16 - 1) * 32 + q.val, by have := (idx t).1; omega⟩ e : ℝ) : EReal) := by
  refine Eq.trans ?_ (H.z _ _)
  refine Eq.trans (b := zH m c (ix2 ⟨(t.val * 16 - 1) * 32 + q.val, by have := (idx t).1; omega⟩ e)) ?_ rfl
  rw [← V_z]
  blk_ext [iblk, idx t]

theorem blk2 (r : Fin 512) (e : Fin 1024) : (iblk m c 2 t : FVec Ideal S512x1024 .bf16) (ix2 r e) = ((A.D (row t r) e : ℝ) : EReal) := by
  refine Eq.trans ?_ (H.d _ _)
  refine Eq.trans (b := dH m c (ix2 (row t r) e)) ?_ rfl
  rw [← V_d]
  blk_ext [iblk, idx t]

theorem blk3 (a : Fin 4) (b : Fin 64) (r : Fin 512) : (iblk m c 3 t : FVec Ideal S4x64x512 .f32) (ix3 a b r) = ((A.O (row t r) a b : ℝ) : EReal) := by
  refine Eq.trans ?_ (H.o _ _ _)
  refine Eq.trans (b := oH m c (ix3 a b (row t r))) ?_ ?_
  · rw [← V_o]
    blk_ext [iblk, idx t]
  · pointwise [oH]

theorem blk4 (r : Fin 512) (l : Fin 256) : (iblk m c 4 t : FVec Ideal S512x256 .f32) (ix2 r l) = ((A.cd (row t r) l : ℝ) : EReal) := by
  refine Eq.trans ?_ (cd_at m c A H.z H.w _ _)
  refine Eq.trans (b := (V m c main_v262 : FVec Ideal S16384x1024 .f32) (ix2 (row t r) ⟨768 + l.val, by omega⟩)) ?_ ?_
  · blk_ext [iblk, idx t]
  · rw [V_y]
    generalize (V m c main_v260 : FVec Ideal S16384x256 .f32) = y
    pointwise

/-- The short convolution's taps, with rows of zero after them. -/
theorem blk9 (l : Fin 256) (k : Fin 8) : (iblk m c 9 t : FVec Ideal S8x256 .f32) (ix2 k l) = ((tap A.S l k.val : ℝ) : EReal) := by
  refine Eq.trans (b := padS m c (ix2 k l)) ?_ ?_
  · rw [← V_s]
    blk_ext [iblk, idx t]
  · unfold padS
    refine (ScatterRows.set_rows scatter_S8x256_S1_S3x256_01_n_0_0 _ (fun j => ⟨?_, ?_⟩) (fun j => ⟨?_, ?_⟩) _ _ k l).trans ?_
    · rw [ScatterDims.start, dif_pos (by decide)]; rfl
    · rw [ScatterDims.start, dif_neg (by decide)]
    · rw [ScatterDims.window, dif_pos (by decide)]; rfl
    · rw [ScatterDims.window, dif_pos (by decide)]; rfl
    · unfold tap
      split_ifs with h
      · refine Eq.trans ?_ (H.s ⟨k.val, h⟩ l)
        pointwise
      · pointwise
        exact EReal.coe_zero.symm

theorem blk11 (l : Fin 256) : (iblk m c 11 t : FVec Ideal S1x256 .f32) (ix2 0 l) = ((A.G l : ℝ) : EReal) := by
  refine Eq.trans ?_ (H.g l)
  refine Eq.trans (b := gH m c (ix2 0 l)) ?_ ?_
  · rw [← V_g]
    blk_ext [iblk, idx t]
  · pointwise [gH]

theorem blk12 (l : Fin 256) : (iblk m c 12 t : FVec Ideal S1x256 .f32) (ix2 0 l) = ((A.B l : ℝ) : EReal) := by
  refine Eq.trans ?_ (H.b l)
  refine Eq.trans (b := bH m c (ix2 0 l)) ?_ ?_
  · rw [← V_b]
    blk_ext [iblk, idx t]
  · pointwise [bH]

end Cert.MixaBlocks

end
-- ==== Proof.MixaPoint.lean ====
/-
  What the kernel computes from a block's rows, one row at a time: the norms' gradients, the short convolution, the
  layer norm's gradient, the heads' rows.
-/
module

public import proofs.«01_k».proof.Proof.MixaReal
public import proofs.«01_k».proof.Proof.Gen.MixaIdeal.Skeleton
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MixaPoint

open Cert.RealCalc Cert.MixaReal Cert.MixaIdeal Cert.MixaIdeal.Gen

/-- A sigmoid, as the body writes it. -/
theorem sg_coe (x : ℝ) : Ideal.div ((1 : ℝ) : EReal) ((1 + Real.exp (-x) : ℝ) : EReal) = ((sg x : ℝ) : EReal) :=
  div_coe (by positivity)

variable (r : Fin 512)

/-- The norm's gradient. -/
theorem norm_at (y : FVec Ideal S512x256 .f32) (d : FVec Ideal S512x256 .bf16) (Y D : Fin 256 → ℝ)
    (hy : ∀ k, y (ix2 r k) = ((Y k : ℝ) : EReal)) (hd : ∀ k, d (ix2 r k) = ((D k : ℝ) : EReal)) (l : Fin 256) :
    k0_pay124 (F := Ideal) y d (ix2 r l) = ((dn Y D l : ℝ) : EReal) := by
  pointwise [k0_pay124]
  simp only [hy, hd, ofBits_256, ofBits_eps, ← EReal.coe_mul, coe_sum, div_256, ← EReal.coe_add, ← EReal.coe_sub, rsqrt_coe (MixaReal.pos Y)]
  rfl

/-- The three taps of the short convolution. -/
theorem taps_at (w0 : FVec Ideal S1x256 .f32) (x0 : FVec Ideal S512x256 .f32) (w1 : FVec Ideal S1x256 .f32) (x1 : FVec Ideal S512x256 .f32)
    (w2 : FVec Ideal S1x256 .f32) (x2 : FVec Ideal S512x256 .f32) (u v : ℕ → ℝ) (l : Fin 256)
    (h0 : w0 (ix2 0 l) = ((u 0 : ℝ) : EReal)) (k0 : x0 (ix2 r l) = ((v 0 : ℝ) : EReal))
    (h1 : w1 (ix2 0 l) = ((u 1 : ℝ) : EReal)) (k1 : x1 (ix2 r l) = ((v 1 : ℝ) : EReal))
    (h2 : w2 (ix2 0 l) = ((u 2 : ℝ) : EReal)) (k2 : x2 (ix2 r l) = ((v 2 : ℝ) : EReal)) :
    k0_pay122 (F := Ideal) w0 x0 w1 x1 w2 x2 (ix2 r l) = ((∑ j ∈ Finset.range 3, u j * v j : ℝ) : EReal) := by
  pointwise [k0_pay122]
  simp only [h0, h1, h2, k0, k1, k2, ← EReal.coe_zero, zero_add, ← EReal.coe_mul, ← EReal.coe_add, Finset.sum_range_succ, Finset.sum_range_zero]

/-- A gate times the short convolution. -/
theorem gate_at (g w0 : _) (x0 : FVec Ideal S512x256 .f32) (w1 : FVec Ideal S1x256 .f32) (x1 : FVec Ideal S512x256 .f32)
    (w2 : FVec Ideal S1x256 .f32) (x2 : FVec Ideal S512x256 .f32) (l : Fin 256) (Z C : ℝ) (hg : g (ix2 r l) = ((Z : ℝ) : EReal))
    (h : k0_pay122 (F := Ideal) w0 x0 w1 x1 w2 x2 (ix2 r l) = ((C : ℝ) : EReal)) :
    k0_pay123 (F := Ideal) g w0 x0 w1 x1 w2 x2 (ix2 r l) = ((Z * C : ℝ) : EReal) := by
  unfold k0_pay123
  generalize k0_pay122 (F := Ideal) w0 x0 w1 x1 w2 x2 = q at h ⊢
  pointwise
  rw [hg, h, EReal.coe_mul]

/-- The convolution's gradient. -/
theorem dcb_at (g y : FVec Ideal S512x256 .f32) (d : FVec Ideal S512x256 .bf16) (Y D : Fin 256 → ℝ) (Z : ℝ)
    (hy : ∀ k, y (ix2 r k) = ((Y k : ℝ) : EReal)) (hd : ∀ k, d (ix2 r k) = ((D k : ℝ) : EReal)) (l : Fin 256)
    (hg : g (ix2 r l) = ((Z : ℝ) : EReal)) :
    k0_pay126 (F := Ideal) g y d (ix2 r l) = ((dn Y D l * Z : ℝ) : EReal) := by
  have h := norm_at r y d Y D hy hd l
  unfold k0_pay126
  generalize k0_pay124 (F := Ideal) y d = q at h ⊢
  pointwise
  rw [hg, h, EReal.coe_mul]

/-- A product of two column groups, and one of a column group with a gate. -/
theorem prod_at (a b : FVec Ideal S512x256 .bf16) (l : Fin 256) (x y : ℝ) (ha : a (ix2 r l) = ((x : ℝ) : EReal)) (hb : b (ix2 r l) = ((y : ℝ) : EReal)) :
    k0_pay121 (F := Ideal) a b (ix2 r l) = ((x * y : ℝ) : EReal) ∧ k0_pay137 (F := Ideal) a b (ix2 r l) = ((x * sg y : ℝ) : EReal) := by
  constructor
  · pointwise [k0_pay121]
    rw [ha, hb, EReal.coe_mul]
  · pointwise [k0_pay137]
    simp only [ha, hb, ← EReal.coe_zero, ← EReal.coe_one, ← EReal.coe_sub, zero_sub, exp_coe, ← EReal.coe_add, sg_coe, ← EReal.coe_mul]

/-- The same of the rows before the block; at the first block, zero. -/
theorem before_at (q : Fin 32) (a b : FVec Ideal S32x256 .bf16) (l : Fin 256) (x y : ℝ) (ha : a (ix2 q l) = ((x : ℝ) : EReal)) (hb : b (ix2 q l) = ((y : ℝ) : EReal)) :
    k0_pay120 (F := Ideal) 0#1 (k0_pay119 a b) (ix2 q l) = ((x * y : ℝ) : EReal)
      ∧ k0_pay136 (F := Ideal) 0#1 (k0_pay134 a) (k0_pay135 b) (ix2 q l) = ((x * sg y : ℝ) : EReal) := by
  constructor
  · pointwise [k0_pay120, k0_pay119]
    simp only [ha, hb, ← EReal.coe_mul]
  · pointwise [k0_pay136, k0_pay134, k0_pay135]
    simp only [ha, hb, ← EReal.coe_zero, ← EReal.coe_one, ← EReal.coe_sub, zero_sub, exp_coe, ← EReal.coe_add, sg_coe, ← EReal.coe_mul]

theorem first_at (q : Fin 32) (a b c : FVec Ideal S32x256 .f32) (l : Fin 256) :
    k0_pay120 (F := Ideal) 1#1 a (ix2 q l) = ((0 : ℝ) : EReal) ∧ k0_pay136 (F := Ideal) 1#1 b c (ix2 q l) = ((0 : ℝ) : EReal) := by
  constructor
  all_goals
    pointwise [k0_pay120, k0_pay136]
    exact EReal.coe_zero.symm

section Layer

/-- The number the means are divided by. -/
abbrev nf : Ideal .f32 := Scalar.ofBits (F := Ideal) .f32 0x43800000#32

section Parts

variable (cd : FVec Ideal S512x256 .f32) (Y : Fin 256 → ℝ) (hc : ∀ k, cd (ix2 r k) = ((Y k : ℝ) : EReal)) (l : Fin 256)
include hc

theorem cen_at : k0_pay145 (F := Ideal) (k0_pay133 cd) (ix2 r l) = ((cen Y l : ℝ) : EReal) := by
  pointwise [k0_pay145, k0_pay133]
  simp only [hc, ofBits_256, coe_sum, div_256, ← EReal.coe_sub]
  rfl

theorem rs_at : k0_pay147 (F := Ideal) (k0_pay146 (k0_pay133 cd)) nf (ix2 r 0) = ((inv (cen Y) : ℝ) : EReal) := by
  have h := cen_at r cd Y hc
  unfold k0_pay146
  generalize k0_pay145 (F := Ideal) (k0_pay133 cd) = q at h ⊢
  pointwise [k0_pay147]
  simp only [h, ofBits_256, ofBits_eps, ← EReal.coe_mul, coe_sum, div_256, ← EReal.coe_add, rsqrt_coe (MixaReal.pos (cen Y))]
  rfl

theorem xh_at : k0_pay148 (F := Ideal) (k0_pay145 (k0_pay133 cd)) (k0_pay146 (k0_pay133 cd)) nf (ix2 r l) = ((xh Y l : ℝ) : EReal) := by
  have h := cen_at r cd Y hc
  have e := rs_at r cd Y hc
  unfold k0_pay148
  generalize k0_pay147 (F := Ideal) (k0_pay146 (k0_pay133 cd)) nf = p at e ⊢
  generalize k0_pay145 (F := Ideal) (k0_pay133 cd) = q at h ⊢
  pointwise
  rw [h, e, ← EReal.coe_mul]
  rfl

end Parts

variable (g b : FVec Ideal S1x256 .f32) (c : FVec Ideal S512x256 .f32) (n : FVec Ideal S512x1 .f32) (d : FVec Ideal S512x256 .bf16) (Y D G B : Fin 256 → ℝ)
  (hx : ∀ k, k0_pay148 (F := Ideal) c n nf (ix2 r k) = ((xh Y k : ℝ) : EReal)) (hg : ∀ k, g (ix2 0 k) = ((G k : ℝ) : EReal)) (hb : ∀ k, b (ix2 0 k) = ((B k : ℝ) : EReal))
  (hd : ∀ k, d (ix2 r k) = ((D k : ℝ) : EReal)) (l : Fin 256)
include hx hg hb

theorem ln_at : k0_pay149 (F := Ideal) (k0_pay131 g) (k0_pay132 b) c n nf (ix2 r l) = ((ln Y G B l : ℝ) : EReal) := by
  unfold k0_pay149
  generalize k0_pay148 (F := Ideal) c n nf = q at hx ⊢
  pointwise [k0_pay131, k0_pay132]
  simp only [hx, hg, hb, ← EReal.coe_mul, ← EReal.coe_add]
  rfl

theorem sig_at : k0_pay150 (F := Ideal) (k0_pay131 g) (k0_pay132 b) c n nf (ix2 r l) = ((sg (ln Y G B l) : ℝ) : EReal) := by
  have h := ln_at r g b c n Y G B hx hg hb
  unfold k0_pay150
  generalize k0_pay149 (F := Ideal) (k0_pay131 g) (k0_pay132 b) c n nf = q at h ⊢
  pointwise
  simp only [h, ← EReal.coe_zero, ← EReal.coe_one, ← EReal.coe_sub, zero_sub, exp_coe, ← EReal.coe_add, sg_coe]

theorem slope_at : k0_pay152 (F := Ideal) (k0_pay131 g) (k0_pay132 b) c n nf (ix2 r l) = ((1 + ln Y G B l * (1 - sg (ln Y G B l)) : ℝ) : EReal) := by
  have h := ln_at r g b c n Y G B hx hg hb
  have e := sig_at r g b c n Y G B hx hg hb
  unfold k0_pay152
  generalize k0_pay149 (F := Ideal) (k0_pay131 g) (k0_pay132 b) c n nf = q at h ⊢
  generalize k0_pay150 (F := Ideal) (k0_pay131 g) (k0_pay132 b) c n nf = p at e ⊢
  pointwise
  simp only [h, e, ← EReal.coe_one, ← EReal.coe_sub, ← EReal.coe_add, ← EReal.coe_mul]

include hd

theorem dyd_at : k0_pay151 (F := Ideal) (k0_pay131 g) (k0_pay132 b) c n nf d (ix2 r l) = ((dn (act Y G B) D l : ℝ) : EReal) := by
  have h := ln_at r g b c n Y G B hx hg hb
  have e := sig_at r g b c n Y G B hx hg hb
  unfold k0_pay151
  generalize k0_pay149 (F := Ideal) (k0_pay131 g) (k0_pay132 b) c n nf = q at h ⊢
  generalize k0_pay150 (F := Ideal) (k0_pay131 g) (k0_pay132 b) c n nf = p at e ⊢
  pointwise
  simp only [h, e, hd, ofBits_256, ofBits_eps, ← EReal.coe_mul, coe_sum, div_256, ← EReal.coe_add, ← EReal.coe_sub, rsqrt_coe (MixaReal.pos (act Y G B)),
    show ∀ k, ln Y G B k * sg (ln Y G B k) = act Y G B k from fun _ => rfl]
  rfl

/-- The gradient of the layer norm's result. -/
theorem dln_at : k0_pay153 (F := Ideal) (k0_pay150 (k0_pay131 g) (k0_pay132 b) c n nf) (k0_pay151 (k0_pay131 g) (k0_pay132 b) c n nf d)
    (k0_pay152 (k0_pay131 g) (k0_pay132 b) c n nf) (ix2 r l) = ((dln Y D G B l : ℝ) : EReal) := by
  have h := dyd_at r g b c n d Y D G B hx hg hb hd
  have e := sig_at r g b c n Y G B hx hg hb
  have f := slope_at r g b c n Y G B hx hg hb
  generalize k0_pay150 (F := Ideal) (k0_pay131 g) (k0_pay132 b) c n nf = p at e ⊢
  generalize k0_pay151 (F := Ideal) (k0_pay131 g) (k0_pay132 b) c n nf d = q at h ⊢
  generalize k0_pay152 (F := Ideal) (k0_pay131 g) (k0_pay132 b) c n nf = o at f ⊢
  pointwise [k0_pay153]
  simp only [h, e, f, ← EReal.coe_mul]
  rfl

/-- The gradient of the row. -/
theorem dcd_at (hr : k0_pay147 (F := Ideal) n nf (ix2 r 0) = ((inv (cen Y) : ℝ) : EReal)) :
    k0_pay156 (F := Ideal) (k0_pay131 g) (k0_pay147 n nf) (k0_pay148 c n nf) (k0_pay150 (k0_pay131 g) (k0_pay132 b) c n nf) (k0_pay151 (k0_pay131 g) (k0_pay132 b) c n nf d)
      (k0_pay152 (k0_pay131 g) (k0_pay132 b) c n nf) (ix2 r l) = ((MixaReal.dx Y D G B l : ℝ) : EReal) := by
  have h := dln_at r g b c n d Y D G B hx hg hb hd
  unfold k0_pay156
  generalize k0_pay153 (F := Ideal) (k0_pay150 (k0_pay131 g) (k0_pay132 b) c n nf) (k0_pay151 (k0_pay131 g) (k0_pay132 b) c n nf d)
    (k0_pay152 (k0_pay131 g) (k0_pay132 b) c n nf) = q at h ⊢
  generalize k0_pay148 (F := Ideal) c n nf = p at hx ⊢
  generalize k0_pay147 (F := Ideal) n nf = o at hr ⊢
  pointwise [k0_pay131]
  simp only [h, hx, hr, hg, ofBits_256, ← EReal.coe_mul, coe_sum, div_256, ← EReal.coe_sub]
  rfl

end Layer

section Sums

variable (l : Fin 256)

/-- What a point adds to a tap's gradient, whichever of the payloads adds it. -/
theorem tap_at (x : FVec Ideal S512x256 .f32) (acc : FVec Ideal S1x256 .f32) (X E : Fin 512 → ℝ) (hx : ∀ r, x (ix2 r l) = ((X r : ℝ) : EReal)) :
    (∀ w : FVec Ideal S512x256 .f32, (∀ r, w (ix2 r l) = ((E r : ℝ) : EReal)) →
      k0_pay196 (F := Ideal) x acc w (ix2 0 l) = acc (ix2 0 l) + ((∑ r, X r * E r : ℝ) : EReal)
        ∧ k0_pay130 (F := Ideal) x acc w (ix2 0 l) = acc (ix2 0 l) + ((∑ r, X r * E r : ℝ) : EReal))
      ∧ ∀ w : FVec Ideal S1x512x256 .f32, (∀ r, w (ix3 0 r l) = ((E r : ℝ) : EReal)) →
        k0_pay159 (F := Ideal) x acc w (ix2 0 l) = acc (ix2 0 l) + ((∑ r, X r * E r : ℝ) : EReal) := by
  refine ⟨fun w hw => ⟨?_, ?_⟩, fun w hw => ?_⟩
  all_goals
    pointwise [k0_pay196, k0_pay130, k0_pay159]
    simp only [hx, hw, ← EReal.coe_mul, coe_sum]

end Sums

section Heads

variable (o : FVec Ideal S4x64x512 .f32) (d : FVec Ideal S512x256 .bf16) (O D : Fin 256 → ℝ)
  (ho : ∀ a b, o (ix3 a b r) = ((O (lane a b) : ℝ) : EReal)) (hd : ∀ k, d (ix2 r k) = ((D k : ℝ) : EReal)) (l : Fin 256)
include ho

/-- The heads' rows, one after the other. -/
theorem o_at : k0_pay197 (F := Ideal) o (ix2 r l) = ((O l : ℝ) : EReal) := by
  pointwise [k0_pay197]
  refine (ho _ _).trans (congrArg (fun k => ((O k : ℝ) : EReal)) (Fin.ext ?_))
  show 64 * (l.val / 64) + l.val % 64 = l.val
  omega

include hd

theorem do_at : k0_pay198 (F := Ideal) o d (ix2 r l) = ((dn O D l : ℝ) : EReal) := by
  have h := o_at r o O ho
  unfold k0_pay198
  generalize k0_pay197 (F := Ideal) o = q at h ⊢
  pointwise
  simp only [h, hd, ofBits_256, ofBits_eps, ← EReal.coe_mul, coe_sum, div_256, ← EReal.coe_add, ← EReal.coe_sub, rsqrt_coe (MixaReal.pos O)]
  rfl

end Heads

end Cert.MixaPoint

end
-- ==== Proof.MixaRows.lean ====
/-
  The buffer of a block's rows with the 32 rows before them, and its copies shifted by one to seven rows.
-/
module

public import proofs.«01_k».proof.Proof.MixaPoint
public import Idealize.ShloMosaic.Lib.Ring

@[expose] public section

set_option maxRecDepth 16384

noncomputable section

open Idealize.ShloMosaic Idealize.ShloMosaic.TcCoe Idealize.SL.Sem

namespace Cert.MixaRows

open Cert.RealCalc Cert.MixaIdeal Cert.MixaIdeal.Gen

variable (E : ℕ → Fin 256 → ℝ)

/-- A buffer of a block's rows and of the 32 rows before them. -/
theorem rows (x : FVec Ideal S512x256 .f32) (y : FVec Ideal S32x256 .f32) (hx : ∀ r l, x (ix2 r l) = ((E (32 + r.val) l : ℝ) : EReal))
    (hy : ∀ r l, y (ix2 r l) = ((E r.val l : ℝ) : EReal)) :
    View.canon (Val := Elt Ideal) (e := .f32)
      [⟨Rect.unit (s := S544x256) ![32, 0] ![512, 256] inb_S544x256_S512x256_32_0, x⟩, ⟨Rect.unit (s := S544x256) ![0, 0] ![32, 256] inb_S544x256_S32x256_0_0, y⟩]
      = fun j : S544x256.Idx => ((E (j 0).val (j 1) : ℝ) : EReal) := by
  funext j
  canon_tiles i h using (View.cover_of_tiledBy (Val := Elt Ideal) (e := .f32) (s := S544x256)
    [⟨Rect.unit (s := S544x256) ![32, 0] ![512, 256] inb_S544x256_S512x256_32_0, x⟩, ⟨Rect.unit (s := S544x256) ![0, 0] ![32, 256] inb_S544x256_S32x256_0_0, y⟩]
    ![32, 256] (by sl_kernel_rfl) j)
  all_goals
    idx_vars i
    idx_vars j
  · refine (hx i0 i1).trans ?_
    exact congrArg (fun v : ℝ => (v : EReal)) (congrArg₂ E h0.symm (Fin.ext h1.symm))
  · refine (hy i0 i1).trans ?_
    exact congrArg (fun v : ℝ => (v : EReal)) (congrArg₂ E h0.symm (Fin.ext h1.symm))

variable (v : View sig .tc .vmem S544x256 .f32) (L : List (View.Piece (Elt Ideal) S544x256 .f32))
  (hL : View.canon L = fun j : S544x256.Idx => ((E (j 0).val (j 1) : ℝ) : EReal))
include hL

/-- Rows of the buffer, from row `o`. -/
theorem rows_read (o : ℕ) (h : ∀ a, (![o, 0] : Fin 2 → ℕ) a + (![512, 256] : Fin 2 → ℕ) a ≤ S544x256.size a) (r : Fin 512) (l : Fin 256) :
    v.readCov L (Rect.unit (s := S544x256) ![o, 0] ![512, 256] h).toLoadRect (ix2 r l) = ((E (o + r.val) l : ℝ) : EReal) := by
  rw [View.readCov_eq_canon', hL]
  exact congrArg (fun v : ℝ => (v : EReal)) (congrArg₂ E (Rect.idx_unit_val (s := S544x256) ![o, 0] ![512, 256] h (ix2 r l) 0)
    (Fin.ext ((Rect.idx_unit_val (s := S544x256) ![o, 0] ![512, 256] h (ix2 r l) 1).trans (Nat.zero_add _))))

/-- 536 rows of the buffer, from row `o`. -/
theorem long_read (o : ℕ) (h : ∀ a, (![o, 0] : Fin 2 → ℕ) a + (![536, 256] : Fin 2 → ℕ) a ≤ S544x256.size a) (r : Fin 536) (l : Fin 256) :
    v.readCov L (Rect.unit (s := S544x256) ![o, 0] ![536, 256] h).toLoadRect (ix2 r l) = ((E (o + r.val) l : ℝ) : EReal) := by
  rw [View.readCov_eq_canon', hL]
  exact congrArg (fun v : ℝ => (v : EReal)) (congrArg₂ E (Rect.idx_unit_val (s := S544x256) ![o, 0] ![536, 256] h (ix2 r l) 0)
    (Fin.ext ((Rect.idx_unit_val (s := S544x256) ![o, 0] ![536, 256] h (ix2 r l) 1).trans (Nat.zero_add _))))

/-- The seven shifted copies. -/
theorem copies :
    View.canon (Val := Elt Ideal) (e := .f32) (s := S7x536x256)
      [⟨Rect.unit (s := S7x536x256) ![6, 0, 0] ![1, 536, 256] inb_S7x536x256_S1x536x256_6_0_0, k0_pay144 (F := Ideal) (v.readCov L (Rect.unit (s := S544x256) ![7, 0] ![536, 256] inb_S544x256_S536x256_7_0).toLoadRect)⟩,
       ⟨Rect.unit (s := S7x536x256) ![5, 0, 0] ![1, 536, 256] inb_S7x536x256_S1x536x256_5_0_0, k0_pay143 (F := Ideal) (v.readCov L (Rect.unit (s := S544x256) ![6, 0] ![536, 256] inb_S544x256_S536x256_6_0).toLoadRect)⟩,
       ⟨Rect.unit (s := S7x536x256) ![4, 0, 0] ![1, 536, 256] inb_S7x536x256_S1x536x256_4_0_0, k0_pay142 (F := Ideal) (v.readCov L (Rect.unit (s := S544x256) ![5, 0] ![536, 256] inb_S544x256_S536x256_5_0).toLoadRect)⟩,
       ⟨Rect.unit (s := S7x536x256) ![3, 0, 0] ![1, 536, 256] inb_S7x536x256_S1x536x256_3_0_0, k0_pay141 (F := Ideal) (v.readCov L (Rect.unit (s := S544x256) ![4, 0] ![536, 256] inb_S544x256_S536x256_4_0).toLoadRect)⟩,
       ⟨Rect.unit (s := S7x536x256) ![2, 0, 0] ![1, 536, 256] inb_S7x536x256_S1x536x256_2_0_0, k0_pay140 (F := Ideal) (v.readCov L (Rect.unit (s := S544x256) ![3, 0] ![536, 256] inb_S544x256_S536x256_3_0).toLoadRect)⟩,
       ⟨Rect.unit (s := S7x536x256) ![1, 0, 0] ![1, 536, 256] inb_S7x536x256_S1x536x256_1_0_0, k0_pay139 (F := Ideal) (v.readCov L (Rect.unit (s := S544x256) ![2, 0] ![536, 256] inb_S544x256_S536x256_2_0).toLoadRect)⟩,
       ⟨Rect.unit (s := S7x536x256) ![0, 0, 0] ![1, 536, 256] inb_S7x536x256_S1x536x256_0_0_0, k0_pay138 (F := Ideal) (v.readCov L (Rect.unit (s := S544x256) ![1, 0] ![536, 256] inb_S544x256_S536x256_1_0).toLoadRect)⟩]
      = fun j : S7x536x256.Idx => ((E ((j 0).val + 1 + (j 1).val) (j 2) : ℝ) : EReal) := by
  funext j
  canon_tiles i h
  all_goals
    idx_vars i
    idx_vars j
    pointwise [k0_pay138, k0_pay139, k0_pay140, k0_pay141, k0_pay142, k0_pay143, k0_pay144]
    refine (long_read E v L hL _ _ _ _).trans ?_
    exact congrArg (fun v : ℝ => (v : EReal)) (congrArg₂ E (by omega) (Fin.ext h2.symm))

omit hL

/-- Rows of a shifted copy. -/
theorem copies_read (v : View sig .tc .vmem S7x536x256 .f32) (L : List (View.Piece (Elt Ideal) S7x536x256 .f32))
    (hL : View.canon L = fun j : S7x536x256.Idx => ((E ((j 0).val + 1 + (j 1).val) (j 2) : ℝ) : EReal))
    (b o n : ℕ) (h : ∀ a, (![b, o, 0] : Fin 3 → ℕ) a + (![1, 512, 256] : Fin 3 → ℕ) a ≤ S7x536x256.size a) (r : Fin 512) (l : Fin 256) (hn : b + 1 + o = n) :
    v.readCov L (Rect.unit (s := S7x536x256) ![b, o, 0] ![1, 512, 256] h).toLoadRect (ix3 0 r l) = ((E (n + r.val) l : ℝ) : EReal) := by
  subst hn
  rw [View.readCov_eq_canon', hL]
  refine congrArg (fun v : ℝ => (v : EReal)) (congrArg₂ E ?_ (Fin.ext ((Rect.idx_unit_val (s := S7x536x256) ![b, o, 0] ![1, 512, 256] h (ix3 0 r l) 2).trans (Nat.zero_add _))))
  exact (congrArg₂ (fun a b : ℕ => a + 1 + b) (Rect.idx_unit_val (s := S7x536x256) ![b, o, 0] ![1, 512, 256] h (ix3 0 r l) 0) (Rect.idx_unit_val (s := S7x536x256) ![b, o, 0] ![1, 512, 256] h (ix3 0 r l) 1)).trans
    (show b + 0 + 1 + (o + r.val) = b + 1 + o + r.val by omega)

/-- A column group of the projected input, of the rows before, of the cotangent. -/
theorem zcol (z : FVec Ideal S512x2560 .bf16) (o : ℕ) (h : ∀ a, (![0, o] : Fin 2 → ℕ) a + (![512, 256] : Fin 2 → ℕ) a ≤ S512x2560.size a) (r : Fin 512) (l : Fin 256) :
    View.ld (Val := Elt Ideal) (e' := .bf16) z (Rect.unit (s := S512x2560) ![0, o] ![512, 256] h) (ix2 r l)
      = z (ix2 r ⟨o + l.val, by have h1 : o + 256 ≤ 2560 := h 1; omega⟩) := by
  refine View.ld_unit_apply_of (Val := Elt Ideal) (e := .bf16) z _ _ _ _ _ ?_
  intro a; fin_cases a <;> simp

theorem hcol (z : FVec Ideal S32x2560 .bf16) (o : ℕ) (h : ∀ a, (![0, o] : Fin 2 → ℕ) a + (![32, 256] : Fin 2 → ℕ) a ≤ S32x2560.size a) (r : Fin 32) (l : Fin 256) :
    View.ld (Val := Elt Ideal) (e' := .bf16) z (Rect.unit (s := S32x2560) ![0, o] ![32, 256] h) (ix2 r l)
      = z (ix2 r ⟨o + l.val, by have h1 : o + 256 ≤ 2560 := h 1; omega⟩) := by
  refine View.ld_unit_apply_of (Val := Elt Ideal) (e := .bf16) z _ _ _ _ _ ?_
  intro a; fin_cases a <;> simp

theorem dcol (z : FVec Ideal S512x1024 .bf16) (o : ℕ) (h : ∀ a, (![0, o] : Fin 2 → ℕ) a + (![512, 256] : Fin 2 → ℕ) a ≤ S512x1024.size a) (r : Fin 512) (l : Fin 256) :
    View.ld (Val := Elt Ideal) (e' := .bf16) z (Rect.unit (s := S512x1024) ![0, o] ![512, 256] h) (ix2 r l)
      = z (ix2 r ⟨o + l.val, by have h1 : o + 256 ≤ 1024 := h 1; omega⟩) := by
  refine View.ld_unit_apply_of (Val := Elt Ideal) (e := .bf16) z _ _ _ _ _ ?_
  intro a; fin_cases a <;> simp

/-- A tap, read from the padded taps. -/
theorem tap8 (w : FVec Ideal S8x256 .f32) (T : ℕ → ℝ) (l : Fin 256) (hw : ∀ k : Fin 8, w (ix2 k l) = ((T k.val : ℝ) : EReal))
    (k : ℕ) (h : ∀ a, (![k, 0] : Fin 2 → ℕ) a + (![1, 256] : Fin 2 → ℕ) a ≤ S8x256.size a) :
    View.ld (Val := Elt Ideal) (e' := .f32) w (Rect.unit (s := S8x256) ![k, 0] ![1, 256] h) (ix2 0 l) = ((T k : ℝ) : EReal) := by
  have hk : k < 8 := h 0
  refine Eq.trans ?_ (hw ⟨k, hk⟩)
  refine View.ld_unit_apply_of (Val := Elt Ideal) (e := .f32) w _ _ _ _ _ ?_
  intro a; fin_cases a <;> simp

end Cert.MixaRows

end
-- ==== Proof.MixaHeads.lean ====
/-
  What a point stores of the heads' gradient, in three layouts, and what it adds to the layer norm's gradients.
-/
module

public import proofs.«01_k».proof.Proof.MixaPoint
public import Idealize.ShloMosaic.Lib.Ring

@[expose] public section

set_option maxRecDepth 16384

noncomputable section

open Idealize.ShloMosaic Idealize.ShloMosaic.TcCoe Idealize.SL.Sem

namespace Cert.MixaHeads

open Cert.RealCalc Cert.MixaReal Cert.MixaPoint Cert.MixaIdeal Cert.MixaIdeal.Gen

/-- The layer norm's gain's and offset's gradients. -/
theorem dlg_at (x s y q : FVec Ideal S512x256 .f32) (acc : FVec Ideal S1x256 .f32) (l : Fin 256) (X D : Fin 512 → ℝ) (hx : ∀ r, x (ix2 r l) = ((X r : ℝ) : EReal))
    (hd : ∀ r, k0_pay153 (F := Ideal) s y q (ix2 r l) = ((D r : ℝ) : EReal)) :
    k0_pay154 (F := Ideal) x s y q acc (ix2 0 l) = acc (ix2 0 l) + ((∑ r, D r * X r : ℝ) : EReal) := by
  unfold k0_pay154
  generalize k0_pay153 (F := Ideal) s y q = v at hd ⊢
  pointwise
  simp only [hx, hd, ← EReal.coe_mul, coe_sum]

theorem dlb_at (s y q : FVec Ideal S512x256 .f32) (acc : FVec Ideal S1x256 .f32) (l : Fin 256) (D : Fin 512 → ℝ)
    (hd : ∀ r, k0_pay153 (F := Ideal) s y q (ix2 r l) = ((D r : ℝ) : EReal)) :
    k0_pay155 (F := Ideal) s y q acc (ix2 0 l) = acc (ix2 0 l) + ((∑ r, D r : ℝ) : EReal) := by
  unfold k0_pay155
  generalize k0_pay153 (F := Ideal) s y q = v at hd ⊢
  pointwise
  simp only [hd, coe_sum]

variable (o : FVec Ideal S4x64x512 .f32) (d : FVec Ideal S512x256 .bf16) (O D : Fin 512 → Fin 256 → ℝ)
  (hx : ∀ r l, k0_pay198 (F := Ideal) o d (ix2 r l) = ((D r l : ℝ) : EReal))
include hx

/-- The gradient by heads and rows. -/
theorem dor_at (y : S4x512x64.Idx) :
    View.canon (Val := Elt Ideal) (e := .bf16) (s := S4x512x64)
      [⟨Rect.unit (s := S4x512x64) ![3, 0, 0] ![1, 512, 64] inb_S4x512x64_S1x512x64_3_0_0, k0_pay203 (F := Ideal) (k0_pay198 o d)⟩,
       ⟨Rect.unit (s := S4x512x64) ![2, 0, 0] ![1, 512, 64] inb_S4x512x64_S1x512x64_2_0_0, k0_pay202 (F := Ideal) (k0_pay201 o d)⟩,
       ⟨Rect.unit (s := S4x512x64) ![1, 0, 0] ![1, 512, 64] inb_S4x512x64_S1x512x64_1_0_0, k0_pay200 (F := Ideal) o d⟩,
       ⟨Rect.unit (s := S4x512x64) ![0, 0, 0] ![1, 512, 64] inb_S4x512x64_S1x512x64_0_0_0, k0_pay199 (F := Ideal) o d⟩] y
      = ((D (y 1) (lane (y 0) (y 2)) : ℝ) : EReal) := by
  unfold k0_pay199 k0_pay200 k0_pay201
  generalize k0_pay198 (F := Ideal) o d = v at hx ⊢
  canon_tiles i h
  all_goals
    idx_vars i
    idx_vars y
    pointwise [k0_pay202, k0_pay203]
    refine (hx _ _).trans (congrArg (fun v : ℝ => (v : EReal)) (congrArg₂ D ?_ ?_))
    all_goals
      refine Fin.ext ?_
      simp only [lane_val, Matrix.cons_val_zero, Matrix.cons_val_one, Matrix.cons_val] at *
      omega

/-- The gradient by heads and features. -/
theorem dot_at (y : S4x64x512.Idx) :
    View.canon (Val := Elt Ideal) (e := .bf16) (s := S4x64x512)
      [⟨Rect.unit (s := S4x64x512) ![3, 0, 0] ![1, 64, 512] inb_S4x64x512_S1x64x512_3_0_0, k0_pay208 (F := Ideal) (k0_pay198 o d)⟩,
       ⟨Rect.unit (s := S4x64x512) ![2, 0, 0] ![1, 64, 512] inb_S4x64x512_S1x64x512_2_0_0, k0_pay207 (F := Ideal) (k0_pay198 o d)⟩,
       ⟨Rect.unit (s := S4x64x512) ![1, 0, 0] ![1, 64, 512] inb_S4x64x512_S1x64x512_1_0_0, k0_pay206 (F := Ideal) (k0_pay198 o d)⟩,
       ⟨Rect.unit (s := S4x64x512) ![0, 0, 0] ![1, 64, 512] inb_S4x64x512_S1x64x512_0_0_0, k0_pay205 (F := Ideal) (k0_pay198 o d)⟩] y
      = ((D (y 2) (lane (y 0) (y 1)) : ℝ) : EReal) := by
  generalize k0_pay198 (F := Ideal) o d = v at hx ⊢
  canon_tiles i h
  all_goals
    idx_vars i
    idx_vars y
    pointwise [k0_pay205, k0_pay206, k0_pay207, k0_pay208, k0_pay204]
    refine (hx _ _).trans (congrArg (fun v : ℝ => (v : EReal)) (congrArg₂ D ?_ ?_))
    all_goals
      refine Fin.ext ?_
      simp only [lane_val, Matrix.cons_val_zero, Matrix.cons_val_one, Matrix.cons_val] at *
      omega

variable (p : FVec Ideal S512x256 .f32) (hp : ∀ r l, p (ix2 r l) = ((O r l : ℝ) : EReal))
include hp

/-- The heads' row sums. -/
theorem ds_at (y : S4x512x1.Idx) :
    View.canon (Val := Elt Ideal) (e := .f32) (s := S4x512x1)
      [⟨Rect.unit (s := S4x512x1) ![3, 0, 0] ![1, 512, 1] inb_S4x512x1_S1x512x1_3_0_0, k0_pay2 (F := Ideal) (k0_pay209 p (k0_pay198 o d))⟩,
       ⟨Rect.unit (s := S4x512x1) ![2, 0, 0] ![1, 512, 1] inb_S4x512x1_S1x512x1_2_0_0, k0_pay1 (F := Ideal) (k0_pay213 (k0_pay209 p (k0_pay198 o d)))⟩,
       ⟨Rect.unit (s := S4x512x1) ![1, 0, 0] ![1, 512, 1] inb_S4x512x1_S1x512x1_1_0_0, k0_pay212 (F := Ideal) (k0_pay209 p (k0_pay198 o d))⟩,
       ⟨Rect.unit (s := S4x512x1) ![0, 0, 0] ![1, 512, 1] inb_S4x512x1_S1x512x1_0_0_0, k0_pay211 (F := Ideal) (k0_pay210 p (k0_pay198 o d))⟩] y
      = ((∑ k : Fin 64, D (y 1) (lane (y 0) k) * O (y 1) (lane (y 0) k) : ℝ) : EReal) := by
  generalize k0_pay198 (F := Ideal) o d = v at hx ⊢
  canon_tiles i h
  all_goals
    idx_vars i
    idx_vars y
    pointwise [k0_pay1, k0_pay2, k0_pay211, k0_pay212, k0_pay213, k0_pay210, k0_pay209]
    simp only [hx, hp, ← EReal.coe_mul, coe_sum]
    refine congrArg (fun v : ℝ => (v : EReal)) (Finset.sum_congr rfl fun k _ => congrArg₂ (· * ·) (congrArg₂ D ?_ ?_) (congrArg₂ O ?_ ?_))
    all_goals
      refine Fin.ext ?_
      simp only [lane_val, Matrix.cons_val_zero, Matrix.cons_val_one, Matrix.cons_val] at *
      omega

end Cert.MixaHeads

end
-- ==== Proof.MixaEntries.lean ====
/-
  The mixers' first backward call: what a point computes, as entries of the real gradients.
-/
module

public import proofs.«01_k».proof.Proof.MixaBlocks
public import proofs.«01_k».proof.Proof.MixaPoint
public import proofs.«01_k».proof.Proof.MixaRows
public import proofs.«01_k».proof.Proof.MixaHeads

@[expose] public section

set_option maxRecDepth 100000

noncomputable section

open Idealize.ShloMosaic Idealize.ShloMosaic.TcCoe Idealize.SL.Sem Idealize.ShloMosaic.Routing

namespace Cert.MixaEntries

open Cert.RealCalc Cert.MixaReal Cert.MixaBlocks Cert.MixaPoint Cert.MixaRows Cert.MixaHeads Cert.MixaIdeal Cert.MixaIdeal.Gen

variable {m : (ℓ : Loc nD τ sig) → Buf (Elt Ideal) ℓ} {c : Dev nD} {A : Args} (H : Holds m c A) (t : Fin cfg0.N)

/-- The rows a point's buffers hold: 32 rows before the block, and the block. -/
abbrev rowsOf (X : Fin 16384 → Fin 256 → ℝ) (n : ℕ) (l : Fin 256) : ℝ := back X (t.val * 512 + n) l

include H

theorem z_entry (o : ℕ) (h : o + 256 ≤ 2560) (inb : ∀ a, (![0, o] : Fin 2 → ℕ) a + (![512, 256] : Fin 2 → ℕ) a ≤ S512x2560.size a) (r : Fin 512) (l : Fin 256) :
    View.ld (Val := Elt Ideal) (e' := .bf16) (iblk m c 0 t : FVec Ideal S512x2560 .bf16) (Rect.unit (s := S512x2560) ![0, o] ![512, 256] inb) (ix2 r l) = ((A.z (row t r) o l h : ℝ) : EReal) :=
  (zcol _ o inb r l).trans (blk0 H t _ _)

theorem d_entry (o : ℕ) (h : o + 256 ≤ 1024) (inb : ∀ a, (![0, o] : Fin 2 → ℕ) a + (![512, 256] : Fin 2 → ℕ) a ≤ S512x1024.size a) (r : Fin 512) (l : Fin 256) :
    View.ld (Val := Elt Ideal) (e' := .bf16) (iblk m c 2 t : FVec Ideal S512x1024 .bf16) (Rect.unit (s := S512x1024) ![0, o] ![512, 256] inb) (ix2 r l) = ((A.d (row t r) o l h : ℝ) : EReal) :=
  (dcol _ o inb r l).trans (blk2 H t _ _)

/-- The gated rows of both convolutions: those of the block. -/
theorem here (r : Fin 512) (l : Fin 256) :
    k0_pay121 (F := Ideal) (View.ld (iblk m c 0 t) (Rect.unit ![0, 768] ![512, 256] inb_S512x2560_S512x256_0_768)) (View.ld (iblk m c 0 t) (Rect.unit ![0, 1024] ![512, 256] inb_S512x2560_S512x256_0_1024)) (ix2 r l)
        = ((rowsOf t A.ub (32 + r.val) l : ℝ) : EReal)
      ∧ k0_pay137 (F := Ideal) (View.ld (iblk m c 0 t) (Rect.unit ![0, 2048] ![512, 256] inb_S512x2560_S512x256_0_2048)) (View.ld (iblk m c 0 t) (Rect.unit ![0, 2304] ![512, 256] inb_S512x2560_S512x256_0_2304)) (ix2 r l)
        = ((rowsOf t A.hh (32 + r.val) l : ℝ) : EReal) := by
  have e : t.val * 512 + (32 + r.val) = 32 + (row t r).val := by show _ = 32 + (t.val * 512 + r.val); omega
  constructor
  · refine (prod_at r _ _ l _ _ (z_entry H t 768 (by omega) _ r l) (z_entry H t 1024 (by omega) _ r l)).1.trans ?_
    exact congrArg (fun v : ℝ => (v : EReal)) (back_row A.ub _ (row t r) l e).symm
  · refine (prod_at r _ _ l _ _ (z_entry H t 2048 (by omega) _ r l) (z_entry H t 2304 (by omega) _ r l)).2.trans ?_
    exact congrArg (fun v : ℝ => (v : EReal)) (back_row A.hh _ (row t r) l e).symm

/-- Those before it. -/
theorem before (q : Fin 32) (l : Fin 256) :
    k0_pay120 (F := Ideal) (Scalar.cmpi CmpIPredicate.eq (BitVec.ofNat 32 (grid0.coords t 0 : ℕ)) 0#32)
        (k0_pay119 (View.ld (iblk m c 1 t) (Rect.unit ![0, 768] ![32, 256] inb_S32x2560_S32x256_0_768)) (View.ld (iblk m c 1 t) (Rect.unit ![0, 1024] ![32, 256] inb_S32x2560_S32x256_0_1024))) (ix2 q l)
        = ((rowsOf t A.ub q.val l : ℝ) : EReal)
      ∧ k0_pay136 (F := Ideal) (Scalar.cmpi CmpIPredicate.eq (BitVec.ofNat 32 (grid0.coords t 0 : ℕ)) 0#32)
        (k0_pay134 (View.ld (iblk m c 1 t) (Rect.unit ![0, 2048] ![32, 256] inb_S32x2560_S32x256_0_2048))) (k0_pay135 (View.ld (iblk m c 1 t) (Rect.unit ![0, 2304] ![32, 256] inb_S32x2560_S32x256_0_2304))) (ix2 q l)
        = ((rowsOf t A.hh q.val l : ℝ) : EReal) := by
  rw [first t]
  have b := (idx t).1
  by_cases h : t.val = 0
  · rw [if_pos h]
    have e : t.val * 512 + q.val < 32 := by omega
    refine ⟨(first_at q _ (fun _ => 0) (fun _ => 0) l).1.trans ?_, (first_at q (fun _ => 0) _ _ l).2.trans ?_⟩
    · exact congrArg (fun v : ℝ => (v : EReal)) (back_lt A.ub _ l e).symm
    · exact congrArg (fun v : ℝ => (v : EReal)) (back_lt A.hh _ l e).symm
  · rw [if_neg h]
    have e : t.val * 512 + q.val = 32 + ((t.val * 16 - 1) * 32 + q.val) := by omega
    have z : ∀ (o : ℕ) (g : o + 256 ≤ 2560) (inb : ∀ a, (![0, o] : Fin 2 → ℕ) a + (![32, 256] : Fin 2 → ℕ) a ≤ S32x2560.size a),
        View.ld (Val := Elt Ideal) (e' := .bf16) (iblk m c 1 t : FVec Ideal S32x2560 .bf16) (Rect.unit (s := S32x2560) ![0, o] ![32, 256] inb) (ix2 q l)
          = ((A.z ⟨(t.val * 16 - 1) * 32 + q.val, by omega⟩ o l g : ℝ) : EReal) :=
      fun o g inb => (hcol _ o inb q l).trans (blk1 H t (by omega) q _)
    constructor
    · refine (before_at q _ _ l _ _ (z 768 (by omega) _) (z 1024 (by omega) _)).1.trans ?_
      exact congrArg (fun v : ℝ => (v : EReal)) (back_row A.ub _ _ l e).symm
    · refine (before_at q _ _ l _ _ (z 2048 (by omega) _) (z 2304 (by omega) _)).2.trans ?_
      exact congrArg (fun v : ℝ => (v : EReal)) (back_row A.hh _ _ l e).symm

/-- The short convolution's gradient. -/
theorem dcb_entry (v : View sig .tc .vmem S544x256 .f32) (L : List (View.Piece (Elt Ideal) S544x256 .f32))
    (hL : View.canon L = fun j : S544x256.Idx => ((rowsOf t A.ub (j 0).val (j 1) : ℝ) : EReal)) (r : Fin 512) (l : Fin 256) :
    k0_pay126 (F := Ideal) (k0_pay118 (View.ld (iblk m c 0 t) (Rect.unit ![0, 512] ![512, 256] inb_S512x2560_S512x256_0_512)))
      (k0_pay123 (k0_pay118 (View.ld (iblk m c 0 t) (Rect.unit ![0, 512] ![512, 256] inb_S512x2560_S512x256_0_512)))
        (View.ld (iblk m c 9 t) (Rect.unit ![0, 0] ![1, 256] inb_S8x256_S1x256_0_0)) (v.readCov L (Rect.unit (s := S544x256) ![30, 0] ![512, 256] inb_S544x256_S512x256_30_0).toLoadRect)
        (View.ld (iblk m c 9 t) (Rect.unit ![1, 0] ![1, 256] inb_S8x256_S1x256_1_0)) (v.readCov L (Rect.unit (s := S544x256) ![31, 0] ![512, 256] inb_S544x256_S512x256_31_0).toLoadRect)
        (View.ld (iblk m c 9 t) (Rect.unit ![2, 0] ![1, 256] inb_S8x256_S1x256_2_0)) (v.readCov L (Rect.unit (s := S544x256) ![32, 0] ![512, 256] inb_S544x256_S512x256_32_0).toLoadRect))
      (View.ld (iblk m c 2 t) (Rect.unit ![0, 256] ![512, 256] inb_S512x1024_S512x256_0_256)) (ix2 r l) = ((A.dcb (row t r) l : ℝ) : EReal) := by
  have g : ∀ l, k0_pay118 (F := Ideal) (View.ld (iblk m c 0 t) (Rect.unit ![0, 512] ![512, 256] inb_S512x2560_S512x256_0_512)) (ix2 r l) = ((A.z (row t r) 512 l : ℝ) : EReal) := by
    intro l
    refine Eq.trans ?_ (z_entry H t 512 (by omega) inb_S512x2560_S512x256_0_512 r l)
    generalize (View.ld (iblk m c 0 t) (Rect.unit ![0, 512] ![512, 256] inb_S512x2560_S512x256_0_512) : FVec Ideal S512x256 .bf16) = x
    pointwise [k0_pay118]
  refine dcb_at r _ _ _ (A.yb (row t r)) (A.d (row t r) 256) _ (fun k => ?_) (fun k => d_entry H t 256 (by omega) _ r k) l (g l)
  refine gate_at r _ _ _ _ _ _ _ k (A.z (row t r) 512 k) (A.cb (row t r) k) (g k) ?_
  refine (taps_at r _ _ _ _ _ _ (tap A.S k) (fun j => rowsOf t A.ub (30 + j + r.val) k) k
    (tap8 _ (tap A.S k) k (blk9 H t k) 0 _) (rows_read _ v L hL _ _ r k) (tap8 _ (tap A.S k) k (blk9 H t k) 1 _) (rows_read _ v L hL _ _ r k)
    (tap8 _ (tap A.S k) k (blk9 H t k) 2 _) (rows_read _ v L hL _ _ r k)).trans (congrArg (fun v : ℝ => (v : EReal)) ?_)
  refine Finset.sum_congr rfl fun j _ => congrArg (fun n => tap A.S k j * back A.ub n k) ?_
  show t.val * 512 + (30 + j + r.val) = t.val * 512 + r.val + 30 + j
  omega

section Long

theorem cd_entry (r : Fin 512) (l : Fin 256) : (iblk m c 4 t : FVec Ideal S512x256 .f32) (ix2 r l) = ((A.cd (row t r) l : ℝ) : EReal) := blk4 H t r l

/-- The rows the layer norm makes, without its gain. -/
theorem xh_entry (r : Fin 512) (l : Fin 256) :
    k0_pay148 (F := Ideal) (k0_pay145 (k0_pay133 (iblk m c 4 t))) (k0_pay146 (k0_pay133 (iblk m c 4 t))) nf (ix2 r l) = ((xh (A.cd (row t r)) l : ℝ) : EReal) :=
  xh_at r _ _ (blk4 H t r) l

/-- The gradient of the layer norm's result. -/
theorem dln_entry (r : Fin 512) (l : Fin 256) :
    k0_pay153 (F := Ideal) (k0_pay150 (k0_pay131 (iblk m c 11 t)) (k0_pay132 (iblk m c 12 t)) (k0_pay145 (k0_pay133 (iblk m c 4 t))) (k0_pay146 (k0_pay133 (iblk m c 4 t))) nf)
      (k0_pay151 (k0_pay131 (iblk m c 11 t)) (k0_pay132 (iblk m c 12 t)) (k0_pay145 (k0_pay133 (iblk m c 4 t))) (k0_pay146 (k0_pay133 (iblk m c 4 t))) nf
        (View.ld (iblk m c 2 t) (Rect.unit ![0, 768] ![512, 256] inb_S512x1024_S512x256_0_768)))
      (k0_pay152 (k0_pay131 (iblk m c 11 t)) (k0_pay132 (iblk m c 12 t)) (k0_pay145 (k0_pay133 (iblk m c 4 t))) (k0_pay146 (k0_pay133 (iblk m c 4 t))) nf) (ix2 r l)
      = ((A.dlb (row t r) l : ℝ) : EReal) :=
  dln_at r _ _ _ _ _ _ _ _ _ (xh_entry H t r) (blk11 H t) (blk12 H t) (fun k => d_entry H t 768 (by omega) _ r k) l

/-- The long convolution's gradient. -/
theorem dcd_entry (r : Fin 512) (l : Fin 256) :
    k0_pay156 (F := Ideal) (k0_pay131 (iblk m c 11 t)) (k0_pay147 (k0_pay146 (k0_pay133 (iblk m c 4 t))) nf) (k0_pay148 (k0_pay145 (k0_pay133 (iblk m c 4 t))) (k0_pay146 (k0_pay133 (iblk m c 4 t))) nf)
      (k0_pay150 (k0_pay131 (iblk m c 11 t)) (k0_pay132 (iblk m c 12 t)) (k0_pay145 (k0_pay133 (iblk m c 4 t))) (k0_pay146 (k0_pay133 (iblk m c 4 t))) nf)
      (k0_pay151 (k0_pay131 (iblk m c 11 t)) (k0_pay132 (iblk m c 12 t)) (k0_pay145 (k0_pay133 (iblk m c 4 t))) (k0_pay146 (k0_pay133 (iblk m c 4 t))) nf
        (View.ld (iblk m c 2 t) (Rect.unit ![0, 768] ![512, 256] inb_S512x1024_S512x256_0_768)))
      (k0_pay152 (k0_pay131 (iblk m c 11 t)) (k0_pay132 (iblk m c 12 t)) (k0_pay145 (k0_pay133 (iblk m c 4 t))) (k0_pay146 (k0_pay133 (iblk m c 4 t))) nf) (ix2 r l)
      = ((A.dcd (row t r) l : ℝ) : EReal) :=
  dcd_at r _ _ _ _ _ _ _ _ _ (xh_entry H t r) (blk11 H t) (blk12 H t) (fun k => d_entry H t 768 (by omega) _ r k) l (rs_at r _ _ (blk4 H t r))

end Long

/-- A head's entry, by its column. -/
theorem o_entry (r : Fin 512) (a : Fin 4) (b : Fin 64) : (iblk m c 3 t : FVec Ideal S4x64x512 .f32) (ix3 a b r) = ((A.oo (row t r) (lane a b) : ℝ) : EReal) :=
  (blk3 H t a b r).trans (congrArg (fun v : ℝ => (v : EReal)) (congrArg₂ (A.O (row t r)) (Fin.ext (show a.val = (64 * a.val + b.val) / 64 by omega)) (Fin.ext (show b.val = (64 * a.val + b.val) % 64 by omega))))

/-- The heads' gradient. -/
theorem do_entry (r : Fin 512) (l : Fin 256) :
    k0_pay198 (F := Ideal) (iblk m c 3 t) (View.ld (iblk m c 2 t) (Rect.unit ![0, 512] ![512, 256] inb_S512x1024_S512x256_0_512)) (ix2 r l) = ((A.doo (row t r) l : ℝ) : EReal) :=
  do_at r _ _ (A.oo (row t r)) (A.d (row t r) 512) (o_entry H t r) (fun k => d_entry H t 512 (by omega) _ r k) l

end Cert.MixaEntries

end
-- ==== Proof.RowAcc.lean ====
/-
  A buffer of rows of 256 to which one row after the other is added: each row is read, and stored with its sum.
-/
module

public import Idealize.ShloMosaic.Lib.Pipeline.ValueKit
public import Idealize.ShloMosaic.Lib.Pipeline.ReadBack
public import Idealize.ShloMosaic.Lib.Routing.Shapes

@[expose] public section

noncomputable section

open Idealize.ShloMosaic Idealize.ShloMosaic.Routing

namespace Cert.RowAcc

variable {R : ℕ}

/-- The buffer after the first `n` rows have got their sums. -/
def acc (base : FVec Ideal (shape2 R 256) .f32) (S : ℕ → Fin 256 → EReal) (n : ℕ) : FVec Ideal (shape2 R 256) .f32 :=
  fun j => if (j 0).val < n then base j + S (j 0).val (j 1) else base j

theorem acc_zero (base : FVec Ideal (shape2 R 256) .f32) (S : ℕ → Fin 256 → EReal) : acc base S 0 = base :=
  funext fun j => if_neg (Nat.not_lt_zero _)

theorem acc_eq (base : FVec Ideal (shape2 R 256) .f32) (S : ℕ → Fin 256 → EReal) (n : ℕ) (j : (shape2 R 256).Idx) :
    acc base S n j = base j + if (j 0).val < n then S (j 0).val (j 1) else 0 := by
  unfold acc
  split_ifs
  · rfl
  · exact (add_zero _).symm

variable (base : FVec Ideal (shape2 R 256) .f32) (S : ℕ → Fin 256 → EReal) (n : ℕ)
  (inb : ∀ a, (![n, 0] : Fin 2 → ℕ) a + (![1, 256] : Fin 2 → ℕ) a ≤ (shape2 R 256).size a)

/-- Row `n`. -/
abbrev row : Rect (shape2 R 256) := Rect.unit (s := shape2 R 256) ![n, 0] ![1, 256] inb

theorem row_at (j : (shape2 R 256).Idx) (h : (j 0).val = n) : (row n inb).emb (ix2 0 (j 1)) = j := by
  funext a
  refine Fin.ext ((Rect.idx_unit_val (s := shape2 R 256) ![n, 0] ![1, 256] inb (ix2 0 (j 1)) a).trans ?_)
  fin_cases a
  · exact h.symm
  · exact Nat.zero_add _

theorem row_off (j : (shape2 R 256).Idx) (h : (j 0).val ≠ n) : j ∉ (row n inb).set := by
  intro hm
  obtain ⟨x, rfl⟩ := (row n inb).exists_idx_of_mem hm
  refine h ((Rect.idx_unit_val (s := shape2 R 256) ![n, 0] ![1, 256] inb x 0).trans ?_)
  have : (x 0).val < 1 := (x 0).isLt
  show n + (x 0).val = n
  omega

variable (L : List (View.Piece (Elt Ideal) (shape2 R 256) .f32)) (w : FVec Ideal (shape2 1 256) .f32)

/-- One row more, in a buffer whose stores so far cover it. -/
theorem canon_step {sig : RefSig} (v : View sig .tc .vmem (shape2 R 256) .f32) (hL : View.canon L = acc base S n)
    (hw : ∀ l, w (ix2 0 l) = v.readCov L (row n inb).toLoadRect (ix2 0 l) + S n l) :
    View.canon (⟨row n inb, w⟩ :: L) = acc base S (n + 1) := by
  funext j
  by_cases h : (j 0).val = n
  · conv_lhs => rw [← row_at n inb j h]
    refine (View.canon_cons_emb (row n inb) w L (ix2 0 (j 1))).trans ((hw (j 1)).trans ?_)
    rw [View.readCov_eq_canon', hL]
    refine (congrArg (fun i => acc base S n i + S n (j 1)) (row_at n inb j h)).trans ?_
    unfold acc
    rw [if_neg (by omega), if_pos (by omega), h]
  · rw [View.canon_cons_of_not_mem ⟨row n inb, w⟩ L (row_off n inb j h), hL]
    unfold acc
    by_cases g : (j 0).val < n
    · rw [if_pos g, if_pos (by omega)]
    · rw [if_neg g, if_neg (by omega)]

/-- One row more, over what the buffer held. -/
theorem writes_step {sig : RefSig} (v : View sig .tc .vmem (shape2 R 256) .f32) (f : v.ty.Contents (Elt Ideal))
    (hL : v.read (Elt Ideal) (v.writes (Elt Ideal) f L) = acc base S n)
    (hw : ∀ l, w (ix2 0 l) = View.ld (Val := Elt Ideal) (e' := .f32) base (row n inb) (ix2 0 l) + S n l) :
    v.read (Elt Ideal) (v.writes (Elt Ideal) f (⟨row n inb, w⟩ :: L)) = acc base S (n + 1) := by
  funext j
  by_cases h : (j 0).val = n
  · conv_lhs => rw [← row_at n inb j h]
    refine (View.read_writes_cons_emb v f (row n inb) w L (ix2 0 (j 1))).trans ((hw (j 1)).trans ?_)
    refine (congrArg (fun i => base i + S n (j 1)) (row_at n inb j h)).trans ?_
    unfold acc
    rw [if_pos (by omega), h]
  · have hm : j ∉ Finset.univ.map (row n inb).emb := by rw [Rect.map_emb_univ]; exact row_off n inb j h
    rw [View.writes_cons, View.read_slice_write_of_not_mem (row n inb) _ _ _ hm, hL]
    unfold acc
    by_cases g : (j 0).val < n
    · rw [if_pos g, if_pos (by omega)]
    · rw [if_neg g, if_neg (by omega)]

end Cert.RowAcc

end
-- ==== Proof.MixaOuts.lean ====
/-
  The mixers' first backward call: the blocks a point stores.
-/
module

public import proofs.«01_k».proof.Proof.MixaEntries
public import proofs.«01_k».proof.Proof.RowAcc

@[expose] public section

set_option maxRecDepth 100000

noncomputable section

open Idealize.ShloMosaic Idealize.ShloMosaic.TcCoe Idealize.SL.Sem Idealize.ShloMosaic.Routing

namespace Cert.MixaOuts

open Cert.RealCalc Cert.MixaReal Cert.MixaBlocks Cert.MixaPoint Cert.MixaRows Cert.MixaHeads Cert.MixaEntries Cert.MixaIdeal Cert.MixaIdeal.Gen

variable {m : (ℓ : Loc nD τ sig) → Buf (Elt Ideal) ℓ} {c : Dev nD} {A : Args} (H : Holds m c A) (t : Fin cfg0.N)
include H

/-- The blocks of the gradients that are not accumulated. -/
theorem blocks :
    (∀ y, (outsAt0 m c t.val t.isLt).2.1 y = ((A.dcb (row t (y 0)) (y 1) : ℝ) : EReal))
      ∧ (∀ y, (outsAt0 m c t.val t.isLt).2.2.1 y = ((A.dcd (row t (y 0)) (y 1) : ℝ) : EReal))
      ∧ (∀ y, (outsAt0 m c t.val t.isLt).2.2.2.1 y = ((A.doo (row t (y 1)) (lane (y 0) (y 2)) : ℝ) : EReal))
      ∧ (∀ y, (outsAt0 m c t.val t.isLt).2.2.2.2.1 y = ((A.doo (row t (y 2)) (lane (y 0) (y 1)) : ℝ) : EReal))
      ∧ (∀ y, (outsAt0 m c t.val t.isLt).2.2.2.2.2.1 y
        = ((∑ k, A.doo (row t (y 1)) (lane (y 0) k) * A.oo (row t (y 1)) (lane (y 0) k) : ℝ) : EReal)) := by
  by_cases h : t.val % 32 = 0
  on_goal 1 => rw [outsAt0_A m c t h]
  on_goal 2 => rw [outsAt0_B m c t h]
  all_goals
    frame_out
    refine ⟨fun y => ?_, fun y => ?_, fun y => ?_, fun y => ?_, fun y => ?_⟩
    · idx_vars y
      exact dcb_entry H t _ _ (rows (rowsOf t A.ub) _ _ (fun r l => (here H t r l).1) (fun r l => (before H t r l).1)) y0 y1
    · idx_vars y
      exact dcd_entry H t y0 y1
    · exact dor_at _ _ _ (do_entry H t) y
    · exact dot_at _ _ _ (do_entry H t) y
    · exact ds_at _ _ (fun r l => A.oo (row t r) l) _ (do_entry H t) _ (fun r l => o_at r _ (A.oo (row t r)) (o_entry H t r) l) y

omit H in
theorem zero24 (j : S1x256.Idx) : k0_pay8 (F := Ideal) j = 0 := by pointwise [k0_pay8]
omit H in
theorem zero25 (j : S1x256.Idx) : k0_pay9 (F := Ideal) j = 0 := by pointwise [k0_pay9]

/-- The layer norm's gradients after the first point. -/
theorem norm_first (h : t.val % 32 = 0) :
    (∀ j, (outsAt0 m c t.val t.isLt).2.2.2.2.2.2.2.2.2.2.2.1 j = 0 + ((∑ r, A.dlg (row t r) (j 1) : ℝ) : EReal))
      ∧ ∀ j, (outsAt0 m c t.val t.isLt).2.2.2.2.2.2.2.2.2.2.2.2 j = 0 + ((∑ r, A.dlb (row t r) (j 1) : ℝ) : EReal) := by
  rw [outsAt0_A m c t h]
  frame_out
  refine ⟨fun j => ?_, fun j => ?_⟩
  all_goals
    idx_vars j
    obtain rfl : j0 = 0 := Subsingleton.elim _ _
  · exact (dlg_at _ _ _ _ _ j1 _ _ (fun r => xh_entry H t r j1) (fun r => dln_entry H t r j1)).trans (by rw [zero24]; rfl)
  · exact (dlb_at _ _ _ _ j1 _ (fun r => dln_entry H t r j1)).trans (by rw [zero25])

/-- The same after a later point. -/
theorem norm_next (h : ¬ t.val % 32 = 0) :
    (∀ j, (outsAt0 m c t.val t.isLt).2.2.2.2.2.2.2.2.2.2.2.1 j
        = (outsAt0 m c (t.val - 1) (Nat.lt_of_le_of_lt (Nat.sub_le _ _) t.isLt)).2.2.2.2.2.2.2.2.2.2.2.1 j + ((∑ r, A.dlg (row t r) (j 1) : ℝ) : EReal))
      ∧ ∀ j, (outsAt0 m c t.val t.isLt).2.2.2.2.2.2.2.2.2.2.2.2 j
        = (outsAt0 m c (t.val - 1) (Nat.lt_of_le_of_lt (Nat.sub_le _ _) t.isLt)).2.2.2.2.2.2.2.2.2.2.2.2 j + ((∑ r, A.dlb (row t r) (j 1) : ℝ) : EReal) := by
  rw [outsAt0_B m c t h]
  frame_out
  refine ⟨fun j => ?_, fun j => ?_⟩
  all_goals
    idx_vars j
    obtain rfl : j0 = 0 := Subsingleton.elim _ _
  · exact dlg_at _ _ _ _ _ j1 _ _ (fun r => xh_entry H t r j1) (fun r => dln_entry H t r j1)
  · exact dlb_at _ _ _ _ j1 _ (fun r => dln_entry H t r j1)

end Cert.MixaOuts

end
-- ==== Proof.MixaShort.lean ====
/-
  The mixers' first backward call: what a point adds to the gradient of the short convolution's taps.
-/
module

public import proofs.«01_k».proof.Proof.MixaEntries
public import proofs.«01_k».proof.Proof.RowAcc

@[expose] public section

set_option maxRecDepth 100000

noncomputable section

open Idealize.ShloMosaic Idealize.ShloMosaic.TcCoe Idealize.SL.Sem Idealize.ShloMosaic.Routing

namespace Cert.MixaShort

open Cert.RealCalc Cert.MixaReal Cert.MixaBlocks Cert.MixaPoint Cert.MixaRows Cert.MixaEntries Cert.RowAcc Cert.MixaIdeal Cert.MixaIdeal.Gen

variable {m : (ℓ : Loc nD τ sig) → Buf (Elt Ideal) ℓ} {c : Dev nD} {A : Args} (H : Holds m c A) (t : Fin cfg0.N)

/-- What a point adds for a tap. -/
def part (A : Args) (t : Fin cfg0.N) (k : ℕ) (l : Fin 256) : EReal := ((∑ r, A.dcb (row t r) l * rowsOf t A.ub (30 + k + r.val) l : ℝ) : EReal)

include H

theorem first_taps (h : t.val % 32 = 0) (j : S8x256.Idx) :
    (outsAt0 m c t.val t.isLt).2.2.2.2.2.2.2.2.2.1 j = 0 + if (j 0).val < 3 then part A t (j 0).val (j 1) else 0 := by
  have hL := rows (rowsOf t A.ub) _ _ (fun r l => (here H t r l).1) (fun r l => (before H t r l).1)
  have z : View.canon (Val := Elt Ideal) (e := .f32) [⟨Rect.unit (s := S8x256) ![0, 0] ![8, 256] inb_S8x256_S8x256_0_0, k0_pay6 (F := Ideal)⟩] j = 0 := by
    canon_tiles i k
    pointwise [k0_pay6]
  rw [outsAt0_A m c t h]
  frame_out
  refine (congrFun (a := j) (?_ : _ = acc (View.canon (Val := Elt Ideal) (e := .f32) [⟨Rect.unit (s := S8x256) ![0, 0] ![8, 256] inb_S8x256_S8x256_0_0, k0_pay6 (F := Ideal)⟩]) (part A t) 3)).trans ((acc_eq _ _ _ _).trans (by rw [z]))
  refine canon_step (R := 8) _ _ 2 _ _ _ (ms0_22 t).view (canon_step (R := 8) _ _ 1 _ _ _ (ms0_22 t).view (canon_step (R := 8) _ _ 0 _ _ _ (ms0_22 t).view (acc_zero _ _).symm ?_) ?_) ?_
  · exact fun l => ((tap_at l _ _ _ _ fun r => dcb_entry H t _ _ hL r l).1 _ fun r => rows_read _ _ _ hL _ _ r l).2
  · exact fun l => ((tap_at l _ _ _ _ fun r => dcb_entry H t _ _ hL r l).1 _ fun r => rows_read _ _ _ hL _ _ r l).2
  · exact fun l => ((tap_at l _ _ _ _ fun r => dcb_entry H t _ _ hL r l).1 _ fun r => rows_read _ _ _ hL _ _ r l).2

theorem next_taps (h : ¬ t.val % 32 = 0) (j : S8x256.Idx) :
    (outsAt0 m c t.val t.isLt).2.2.2.2.2.2.2.2.2.1 j
      = (outsAt0 m c (t.val - 1) (Nat.lt_of_le_of_lt (Nat.sub_le _ _) t.isLt)).2.2.2.2.2.2.2.2.2.1 j + if (j 0).val < 3 then part A t (j 0).val (j 1) else 0 := by
  have hL := rows (rowsOf t A.ub) _ _ (fun r l => (here H t r l).1) (fun r l => (before H t r l).1)
  rw [outsAt0_B m c t h]
  frame_out
  refine (congrFun (a := j) (?_ : _ = acc (outsAt0 m c (t.val - 1) (Nat.lt_of_le_of_lt (Nat.sub_le _ _) t.isLt)).2.2.2.2.2.2.2.2.2.1 (part A t) 3)).trans (acc_eq _ _ _ _)
  refine writes_step _ _ 2 _ _ _ _ _ (writes_step _ _ 1 _ _ _ _ _ (writes_step _ _ 0 _ _ _ _ _ (Eq.trans (Memref.IsWhole.read_unread _ _) (acc_zero _ _).symm) ?_) ?_) ?_
  · exact fun l => ((tap_at l _ _ _ _ fun r => dcb_entry H t _ _ hL r l).1 _ fun r => rows_read _ _ _ hL _ _ r l).2
  · exact fun l => ((tap_at l _ _ _ _ fun r => dcb_entry H t _ _ hL r l).1 _ fun r => rows_read _ _ _ hL _ _ r l).2
  · exact fun l => ((tap_at l _ _ _ _ fun r => dcb_entry H t _ _ hL r l).1 _ fun r => rows_read _ _ _ hL _ _ r l).2

end Cert.MixaShort

end
-- ==== Proof.MixaLong.lean ====
/-
  The mixers' first backward call: what a point adds to the gradient of the long convolution's taps.
-/
module

public import proofs.«01_k».proof.Proof.MixaEntries
public import proofs.«01_k».proof.Proof.RowAcc

@[expose] public section

set_option maxRecDepth 100000

noncomputable section

open Idealize.ShloMosaic Idealize.ShloMosaic.TcCoe Idealize.SL.Sem Idealize.ShloMosaic.Routing

namespace Cert.MixaLong

open Cert.RealCalc Cert.MixaReal Cert.MixaBlocks Cert.MixaPoint Cert.MixaRows Cert.MixaEntries Cert.RowAcc Cert.MixaIdeal Cert.MixaIdeal.Gen

variable {m : (ℓ : Loc nD τ sig) → Buf (Elt Ideal) ℓ} {c : Dev nD} {A : Args} (H : Holds m c A) (t : Fin cfg0.N)

/-- What a point adds for a tap. -/
def part (A : Args) (t : Fin cfg0.N) (k : ℕ) (l : Fin 256) : EReal := ((∑ r, A.dcd (row t r) l * rowsOf t A.hh (2 + k + r.val) l : ℝ) : EReal)

include H

set_option maxHeartbeats 4000000 in
theorem first_taps (h : t.val % 32 = 0) (j : S32x256.Idx) :
    (outsAt0 m c t.val t.isLt).2.2.2.2.2.2.2.2.2.2.1 j = 0 + if (j 0).val < 31 then part A t (j 0).val (j 1) else 0 := by
  have hL := rows (rowsOf t A.hh) _ _ (fun r l => (here H t r l).2) (fun r l => (before H t r l).2)
  have hd := dcd_entry H t
  have z : View.canon (Val := Elt Ideal) (e := .f32) [⟨Rect.unit (s := S32x256) ![0, 0] ![32, 256] inb_S32x256_S32x256_0_0, k0_pay7 (F := Ideal)⟩] j = 0 := by
    canon_tiles i k
    pointwise [k0_pay7]
  rw [outsAt0_A m c t h]
  frame_out
  refine (congrFun (a := j) (?_ : _ = acc (View.canon (Val := Elt Ideal) (e := .f32) [⟨Rect.unit (s := S32x256) ![0, 0] ![32, 256] inb_S32x256_S32x256_0_0, k0_pay7 (F := Ideal)⟩]) (part A t) 31)).trans ((acc_eq _ _ _ _).trans (by rw [z]))
  iterate 31 refine canon_step (R := 32) _ _ _ _ _ _ (ms0_23 t).view ?_ ?_
  · exact (acc_zero _ _).symm
  iterate 6 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1
  iterate 7 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1
  iterate 7 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1
  iterate 7 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1

set_option maxHeartbeats 4000000 in
theorem next_taps (h : ¬ t.val % 32 = 0) (j : S32x256.Idx) :
    (outsAt0 m c t.val t.isLt).2.2.2.2.2.2.2.2.2.2.1 j
      = (outsAt0 m c (t.val - 1) (Nat.lt_of_le_of_lt (Nat.sub_le _ _) t.isLt)).2.2.2.2.2.2.2.2.2.2.1 j + if (j 0).val < 31 then part A t (j 0).val (j 1) else 0 := by
  have hL := rows (rowsOf t A.hh) _ _ (fun r l => (here H t r l).2) (fun r l => (before H t r l).2)
  have hd := dcd_entry H t
  rw [outsAt0_B m c t h]
  frame_out
  refine (congrFun (a := j) (?_ : _ = acc (outsAt0 m c (t.val - 1) (Nat.lt_of_le_of_lt (Nat.sub_le _ _) t.isLt)).2.2.2.2.2.2.2.2.2.2.1 (part A t) 31)).trans (acc_eq _ _ _ _)
  iterate 31 refine writes_step (R := 32) _ _ _ _ _ _ _ _ ?_ ?_
  · exact Eq.trans (Memref.IsWhole.read_unread _ _) (acc_zero _ _).symm
  iterate 6 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1
  iterate 7 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1
  iterate 7 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1
  iterate 7 exact fun l => (tap_at l _ _ _ _ fun r => hd r l).2 _ fun r => copies_read _ _ _ (copies _ _ _ hL) _ _ _ _ r l rfl
  exact fun l => ((tap_at l _ _ _ _ fun r => hd r l).1 _ fun r => rows_read _ _ _ hL _ _ r l).1

end Cert.MixaLong

end
-- ==== Proof.MixaValue.lean ====
/-
  The mixers' first backward call: its result arrays are the real gradients.
-/
module

public import proofs.«01_k».proof.Proof.MixaOuts
public import proofs.«01_k».proof.Proof.MixaShort
public import proofs.«01_k».proof.Proof.MixaLong

@[expose] public section

set_option maxRecDepth 100000

noncomputable section

open Idealize.ShloMosaic Idealize.ShloMosaic.TcCoe Idealize.SL.Sem Idealize.ShloMosaic.Routing
open Idealize.ShloMosaic.Pipeline (Dat)

namespace Cert.MixaValue

open Cert.RealCalc Cert.MixaReal Cert.MixaBlocks Cert.MixaEntries Cert.MixaOuts Cert.MixaIdeal Cert.MixaIdeal.Gen

variable (A : Args)

/-- The result arrays. -/
def dcbA : FVec Ideal S16384x256 .f32 := fun j => ((A.dcb (j 0) (j 1) : ℝ) : EReal)
def dcdA : FVec Ideal S16384x256 .f32 := fun j => ((A.dcd (j 0) (j 1) : ℝ) : EReal)
def dorA : FVec Ideal S4x16384x64 .bf16 := fun j => ((A.doo (j 1) (lane (j 0) (j 2)) : ℝ) : EReal)
def dotA : FVec Ideal S4x64x16384 .bf16 := fun j => ((A.doo (j 2) (lane (j 0) (j 1)) : ℝ) : EReal)
def dsA : FVec Ideal S4x16384x1 .f32 := fun j => ((∑ k, A.doo (j 1) (lane (j 0) k) * A.oo (j 1) (lane (j 0) k) : ℝ) : EReal)
def dscA : FVec Ideal S8x256 .f32 := fun j => ((if (j 0).val < 3 then A.ds (j 0).val (j 1) else 0 : ℝ) : EReal)
def dccA : FVec Ideal S32x256 .f32 := fun j => ((if (j 0).val < 31 then A.dc (j 0).val (j 1) else 0 : ℝ) : EReal)
def dlgA : FVec Ideal S1x256 .f32 := fun j => ((∑ r, A.dlg r (j 1) : ℝ) : EReal)
def dlbA : FVec Ideal S1x256 .f32 := fun j => ((∑ r, A.dlb r (j 1) : ℝ) : EReal)

/-- The 32 blocks of 512 rows are the 16384 rows. -/
theorem rows (f : Fin 16384 → ℝ) (t : Fin cfg0.N) (h : ∀ s : Fin 32, 32 * (t.val / 32) + s.val < cfg0.N) :
    ∑ s : Fin 32, ∑ r : Fin 512, f (row ⟨32 * (t.val / 32) + s.val, h s⟩ r) = ∑ r, f r := by
  refine Fin.sum_mul_add_congr fun s k hl => congrArg f (Fin.ext ?_)
  have := (idx t).1
  show (32 * (t.val / 32) + s.val) * 512 + k.val = s.val * 512 + k.val
  omega

variable {m : (ℓ : Loc nD τ sig) → Buf (Elt Ideal) ℓ} {c : Dev nD} {A : Args} (H : Holds m c A)
include H

theorem final14 : (dats m 0 c).arrAt 14 cfg0.N = dcbA A := by
  refine (dats m 0 c).arrAt_eq_of_covers 14 _ (by decide +kernel) fun t _ y => ?_
  blk_simp
  rw [after0_14]
  have e : (outsAt0 m c t.val t.isLt).2.1 y = dcbA A (ix2 (row t (y 0)) (y 1)) := (blocks H t).1 y
  exact e.trans (congrArg (dcbA A) (by blk_ext [idx t]))

theorem final15 : (dats m 0 c).arrAt 15 cfg0.N = dcdA A := by
  refine (dats m 0 c).arrAt_eq_of_covers 15 _ (by decide +kernel) fun t _ y => ?_
  blk_simp
  rw [after0_15]
  have e : (outsAt0 m c t.val t.isLt).2.2.1 y = dcdA A (ix2 (row t (y 0)) (y 1)) := (blocks H t).2.1 y
  exact e.trans (congrArg (dcdA A) (by blk_ext [idx t]))

theorem final16 : (dats m 0 c).arrAt 16 cfg0.N = dorA A := by
  refine (dats m 0 c).arrAt_eq_of_covers 16 _ (by decide +kernel) fun t _ y => ?_
  blk_simp
  rw [after0_16]
  have e : (outsAt0 m c t.val t.isLt).2.2.2.1 y = dorA A (ix3 (y 0) (row t (y 1)) (y 2)) := (blocks H t).2.2.1 y
  exact e.trans (congrArg (dorA A) (by blk_ext [idx t]))

theorem final17 : (dats m 0 c).arrAt 17 cfg0.N = dotA A := by
  refine (dats m 0 c).arrAt_eq_of_covers 17 _ (by decide +kernel) fun t _ y => ?_
  blk_simp
  rw [after0_17]
  have e : (outsAt0 m c t.val t.isLt).2.2.2.2.1 y = dotA A (ix3 (y 0) (y 1) (row t (y 2))) := (blocks H t).2.2.2.1 y
  exact e.trans (congrArg (dotA A) (by blk_ext [idx t]))

theorem final18 : (dats m 0 c).arrAt 18 cfg0.N = dsA A := by
  refine (dats m 0 c).arrAt_eq_of_covers 18 _ (by decide +kernel) fun t _ y => ?_
  blk_simp
  rw [after0_18]
  have e : (outsAt0 m c t.val t.isLt).2.2.2.2.2.1 y = dsA A (ix3 (y 0) (row t (y 1)) (y 2)) := (blocks H t).2.2.2.2 y
  exact e.trans (congrArg (dsA A) (by blk_ext [idx t]))

/-- The layer norm's gain's gradient. -/
theorem final24 : (dats m 0 c).arrAt 24 cfg0.N = dlgA A := by
  refine (dats m 0 c).arrAt_eq_of_covers 24 _ (by decide +kernel) fun t hf y => ?_
  blk_simp
  rw [after0_24, Pipeline.eq_sum_fin_of_reset_step_apply_of_flush (fun n h => (outsAt0 m c n h).2.2.2.2.2.2.2.2.2.2.2.1) 32 (fun _ => 0)
    (fun p j => ((∑ r, A.dlg (row p r) (j 1) : ℝ) : EReal))
    (fun t h j => (norm_first H t h).1 j) (fun t h j => (norm_next H t h).1 j) t ((flush0_24 t).mp hf) _, zero_add]
  refine (coe_sum _ _).trans ?_
  rw [rows (fun r => A.dlg r (y 1)) t]
  exact congrArg (dlgA A) (show y = _ by blk_ext [idx t])

/-- The layer norm's offset's gradient. -/
theorem final25 : (dats m 0 c).arrAt 25 cfg0.N = dlbA A := by
  refine (dats m 0 c).arrAt_eq_of_covers 25 _ (by decide +kernel) fun t hf y => ?_
  blk_simp
  rw [after0_25, Pipeline.eq_sum_fin_of_reset_step_apply_of_flush (fun n h => (outsAt0 m c n h).2.2.2.2.2.2.2.2.2.2.2.2) 32 (fun _ => 0)
    (fun p j => ((∑ r, A.dlb (row p r) (j 1) : ℝ) : EReal))
    (fun t h j => (norm_first H t h).2 j) (fun t h j => (norm_next H t h).2 j) t ((flush0_25 t).mp hf) _, zero_add]
  refine (coe_sum _ _).trans ?_
  rw [rows (fun r => A.dlb r (y 1)) t]
  exact congrArg (dlbA A) (show y = _ by blk_ext [idx t])

/-- The short convolution's taps' gradient. -/
theorem final22 : (dats m 0 c).arrAt 22 cfg0.N = dscA A := by
  refine (dats m 0 c).arrAt_eq_of_covers 22 _ (by decide +kernel) fun t hf y => ?_
  blk_simp
  rw [after0_22, Pipeline.eq_sum_fin_of_reset_step_apply_of_flush (fun n h => (outsAt0 m c n h).2.2.2.2.2.2.2.2.2.1) 32 (fun _ => 0)
    (fun p j => if (j 0).val < 3 then MixaShort.part A p (j 0).val (j 1) else 0)
    (fun t h j => MixaShort.first_taps H t h j) (fun t h j => MixaShort.next_taps H t h j) t ((flush0_22 t).mp hf) _, zero_add]
  refine Eq.trans ?_ (congrArg (dscA A) (show y = _ by blk_ext [idx t]))
  unfold dscA
  split_ifs with h
  · refine (coe_sum _ _).trans (congrArg (fun v : ℝ => (v : EReal)) ?_)
    refine Eq.trans (Finset.sum_congr rfl fun s _ => Finset.sum_congr rfl fun r _ => congrArg (fun n => A.dcb (row _ r) (y 1) * back A.ub n (y 1)) ?_)
      (rows (fun r => A.dcb r (y 1) * back A.ub (r.val + 30 + (y 0).val) (y 1)) t _)
    show _ * 512 + (30 + (y 0).val + r.val) = _ * 512 + r.val + 30 + (y 0).val
    omega
  · exact (show (∑ _s : Fin 32, (0 : EReal)) = ((0 : ℝ) : EReal) from Finset.sum_const_zero.trans EReal.coe_zero.symm)

/-- The long convolution's taps' gradient. -/
theorem final23 : (dats m 0 c).arrAt 23 cfg0.N = dccA A := by
  refine (dats m 0 c).arrAt_eq_of_covers 23 _ (by decide +kernel) fun t hf y => ?_
  blk_simp
  rw [after0_23, Pipeline.eq_sum_fin_of_reset_step_apply_of_flush (fun n h => (outsAt0 m c n h).2.2.2.2.2.2.2.2.2.2.1) 32 (fun _ => 0)
    (fun p j => if (j 0).val < 31 then MixaLong.part A p (j 0).val (j 1) else 0)
    (fun t h j => MixaLong.first_taps H t h j) (fun t h j => MixaLong.next_taps H t h j) t ((flush0_23 t).mp hf) _, zero_add]
  refine Eq.trans ?_ (congrArg (dccA A) (show y = _ by blk_ext [idx t]))
  unfold dccA
  split_ifs with h
  · refine (coe_sum _ _).trans (congrArg (fun v : ℝ => (v : EReal)) ?_)
    refine Eq.trans (Finset.sum_congr rfl fun s _ => Finset.sum_congr rfl fun r _ => congrArg (fun n => A.dcd (row _ r) (y 1) * back A.hh n (y 1)) ?_)
      (rows (fun r => A.dcd r (y 1) * back A.hh (r.val + 2 + (y 0).val) (y 1)) t _)
    show _ * 512 + (2 + (y 0).val + r.val) = _ * 512 + r.val + 2 + (y 0).val
    omega
  · exact (show (∑ _s : Fin 32, (0 : EReal)) = ((0 : ℝ) : EReal) from Finset.sum_const_zero.trans EReal.coe_zero.symm)

end Cert.MixaValue

end
-- ==== Proof.MixaClaim.lean ====
/-
  The mixers' first backward call's claims: the kernel's result arrays are the reference's.
-/
module

public import proofs.«01_k».proof.Defs
public import proofs.«01_k».proof.Proof.MixaValue
public import proofs.«01_k».proof.Proof.Finite
public import Idealize.ShloMosaic.Lib.Claim
public import proofs.«01_k».proof.Proof.Gen.Pre_mixa_finite

@[expose] public section

set_option maxRecDepth 100000
set_option maxHeartbeats 4000000

noncomputable section

open Idealize.ShloMosaic Idealize.ShloMosaic.TcCoe Idealize.SL.Sem

namespace Cert.MixaClaim

open Cert.RealCalc Cert.MixaReal

/-- The reference runs to the end and keeps its arguments; it has no semaphore. -/
theorem reference : @Cert.quiescent_MixaRefIdeal Cert.MixaRefIdeal.Gen.facts := fun m g _ => by
  refine θ_run_mono (Cert.MixaRefIdeal.Value.run m g) fun r h => ⟨fun c => ?_, sem_eq_zero_of_no_sems (by decide) r.2⟩
  obtain ⟨_, _, _, _, _, _, _, _, _, h⟩ := h c
  exact h

section Results

open Cert.MixaRefIdeal Cert.MixaRefIdeal.Gen Cert.MixaRefer

/-- The heads' gradient, turned both ways, and the heads' row sums. -/
theorem turned (v : FVec Ideal S16384x4x64 .f32) (X : Fin 16384 → Fin 4 → Fin 64 → ℝ) (hv : ∀ r i k, v (ix3 r i k) = ((X r i k : ℝ) : EReal)) :
    (∀ i r k, truncf .bf16 (transpose S4x16384x64 [1, 0, 2] v transposes_S16384x4x64_S4x16384x64_1_0_2) bitsLt_bf16_f32 (ix3 i r k) = ((X r i k : ℝ) : EReal))
      ∧ ∀ i k r, truncf .bf16 (transpose S4x64x16384 [1, 2, 0] v transposes_S16384x4x64_S4x64x16384_1_2_0) bitsLt_bf16_f32 (ix3 i k r) = ((X r i k : ℝ) : EReal) := by
  constructor
  · intro i r k
    pointwise
    exact hv r i k
  · intro i k r
    pointwise
    exact hv r i k

theorem row_sums (v w : FVec Ideal S16384x4x64 .f32) (X Y : Fin 16384 → Fin 4 → Fin 64 → ℝ) (hv : ∀ r i k, v (ix3 r i k) = ((X r i k : ℝ) : EReal))
    (hw : ∀ r i k, w (ix3 r i k) = ((Y r i k : ℝ) : EReal)) (i : Fin 4) (r : Fin 16384) (q : Fin 1) :
    broadcastInDim S4x16384x1 ![0, 1] bcast_S4x16384_S4x16384x1_0_1 (transpose S4x16384 [1, 0] (Host.reduceAdd (mulf v w) zero reducesTo_S16384x4x64_S16384x4_d2 h_S_) transposes_S16384x4_S4x16384_1_0) (ix3 i r q)
      = ((∑ k, X r i k * Y r i k : ℝ) : EReal) := by
  pointwise
  simp only [hv, hw, ← EReal.coe_mul, coe_sum]

/-- The taps' gradients, with rows of zero after them. -/
theorem tall8 (x : FVec Ideal S3x256 .f32) (X : ℕ → Fin 256 → ℝ) (hx : ∀ i l, x (ix2 i l) = ((X i.val l : ℝ) : EReal)) (i : Fin 8) (l : Fin 256) :
    concatenate S8x256 0 [⟨S3x256, x⟩, ⟨S5x256, broadcastInDim S5x256 ![] bcast_S_S5x256 zero⟩] concatenates_S3x256_S5x256_S8x256_d0 (ix2 i l)
      = ((if i.val < 3 then X i.val l else 0 : ℝ) : EReal) := by
  pointwise
  split_ifs
  · exact hx _ _
  · exact EReal.coe_zero.symm

theorem tall32 (x : FVec Ideal S31x256 .f32) (X : ℕ → Fin 256 → ℝ) (hx : ∀ i l, x (ix2 i l) = ((X i.val l : ℝ) : EReal)) (i : Fin 32) (l : Fin 256) :
    concatenate S32x256 0 [⟨S31x256, x⟩, ⟨S1x256, broadcastInDim S1x256 ![] bcast_S_S1x256 zero⟩] concatenates_S31x256_S1x256_S32x256_d0 (ix2 i l)
      = ((if i.val < 31 then X i.val l else 0 : ℝ) : EReal) := by
  pointwise
  split_ifs
  · exact hx _ _
  · exact EReal.coe_zero.symm

/-- The sum of a column. -/
theorem column (x : FVec Ideal S16384x256 .f32) (X : Fin 16384 → Fin 256 → ℝ) (hx : ∀ r l, x (ix2 r l) = ((X r l : ℝ) : EReal)) (q : Fin 1) (l : Fin 256) :
    broadcastInDim S1x256 ![1] bcast_S256_S1x256_1 (Host.reduceAdd (shapeCast S1x256 (Host.reduceAdd x zero reducesTo_S16384x256_S256_d0 h_S_) shapeCasts_S256_S1x256) zero reducesTo_S1x256_S256_d0 h_S_) (ix2 q l)
      = ((∑ r, X r l : ℝ) : EReal) := by
  pointwise
  simp only [hx, coe_sum, Finset.univ_unique, Finset.sum_singleton]

end Results

/-- The gradients are the reference's, on finite inputs. -/
theorem algebraic : @Cert.algebraic_MixaIdeal_MixaRefIdeal_pre_mixa_finite Cert.MixaIdeal.Gen.facts Cert.MixaRefIdeal.Gen.facts Cert.Pre_mixa_finite.Gen.facts := by
  pair_intro
  · run_from Cert.MixaIdeal.Value.run_blocks m g
  · run_from Cert.MixaRefIdeal.Value.run m' g'
    all_goals
      obtain ⟨h0, h1, h2, h3, h4, h5, h6⟩ := hpre c
      choose Z hz using fun (r : Fin 16384) (e : Fin 2560) => Finite.entry _ _ h0 (ix2 r e)
      choose O ho using fun (r : Fin 16384) (i : Fin 4) (k : Fin 64) => Finite.entry _ _ h1 (ix3 r i k)
      choose S hs using fun (k : Fin 3) (l : Fin 256) => Finite.entry _ _ h2 (ix2 k l)
      choose C hc using fun (k : Fin 31) (l : Fin 256) => Finite.entry _ _ h3 (ix2 k l)
      choose G hg using fun l : Fin 256 => Finite.entry _ _ h4 (ix1 l)
      choose B hb using fun l : Fin 256 => Finite.entry _ _ h5 (ix1 l)
      choose D hd using fun (r : Fin 16384) (e : Fin 1024) => Finite.entry _ _ h6 (ix2 r e)
      obtain ⟨A, hA⟩ : ∃ A : Args, A = ⟨Z, O, S, C, G, B, D⟩ := ⟨_, rfl⟩
      have H : MixaBlocks.Holds m c A := by subst hA; exact ⟨hz, ho, hs, hc, hg, hb, hd⟩
      obtain ⟨g0, g1, g2, g3, g4, g5, g6, g7, g8, g9⟩ := hagree c
      have fz : ∀ r e, (StableHlo.launchContents m' c (Proc.devRef .tc MixaRefIdeal.main_arg0) : FVec Ideal MixaRefIdeal.S16384x2560 .f32) (ix2 r e) = ((A.Z r e : ℝ) : EReal) :=
        fun r e => (congrFun g0 _).trans (H.z r e)
      have fo : ∀ r i k, (StableHlo.launchContents m' c (Proc.devRef .tc MixaRefIdeal.main_arg1) : FVec Ideal MixaRefIdeal.S16384x4x64 .f32) (ix3 r i k) = ((A.O r i k : ℝ) : EReal) :=
        fun r i k => (congrFun g1 _).trans (H.o r i k)
      have fs : ∀ k l, (StableHlo.launchContents m' c (Proc.devRef .tc MixaRefIdeal.main_arg5) : FVec Ideal MixaRefIdeal.S3x256 .f32) (ix2 k l) = ((A.S k l : ℝ) : EReal) :=
        fun k l => (congrFun g5 _).trans (H.s k l)
      have fc : ∀ k l, (StableHlo.launchContents m' c (Proc.devRef .tc MixaRefIdeal.main_arg6) : FVec Ideal MixaRefIdeal.S31x256 .f32) (ix2 k l) = ((A.C k l : ℝ) : EReal) :=
        fun k l => (congrFun g6 _).trans (H.w k l)
      have fg : ∀ l, (StableHlo.launchContents m' c (Proc.devRef .tc MixaRefIdeal.main_arg7) : FVec Ideal MixaRefIdeal.S256 .f32) (ix1 l) = ((A.G l : ℝ) : EReal) :=
        fun l => (congrFun g7 _).trans (H.g l)
      have fb : ∀ l, (StableHlo.launchContents m' c (Proc.devRef .tc MixaRefIdeal.main_arg8) : FVec Ideal MixaRefIdeal.S256 .f32) (ix1 l) = ((A.B l : ℝ) : EReal) :=
        fun l => (congrFun g8 _).trans (H.b l)
      have fd : ∀ r e, (StableHlo.launchContents m' c (Proc.devRef .tc MixaRefIdeal.main_arg9) : FVec Ideal MixaRefIdeal.S16384x1024 .f32) (ix2 r e) = ((A.D r e : ℝ) : EReal) :=
        fun r e => (congrFun g9 _).trans (H.d r e)
      clear h0 h1 h2 h3 h4 h5 h6 hA hz ho hs hc hg hb hd g0 g1 g2 g3 g4 g5 g6 g7 g8 g9
    · rw [MixaValue.final14 H]
      funext j
      idx_vars j
      exact MixaRefer.dcb_ref _ A fz fs fd j0 j1
    · rw [MixaValue.final15 H]
      funext j
      idx_vars j
      exact MixaRefer.dcd_ref _ A fz fc fg fb fd j0 j1
    · rw [MixaValue.final16 H]
      funext j
      idx_vars j
      exact (turned _ _ (MixaRefer.do_ref _ A fo fd)).1 j0 j1 j2
    · rw [MixaValue.final17 H]
      funext j
      idx_vars j
      exact (turned _ _ (MixaRefer.do_ref _ A fo fd)).2 j0 j1 j2
    · rw [MixaValue.final18 H]
      funext j
      idx_vars j
      refine (row_sums _ _ _ _ (MixaRefer.do_ref _ A fo fd) H.o j0 j1 j2).trans (congrArg (fun v : ℝ => (v : EReal)) ?_)
      refine Finset.sum_congr rfl fun k _ => congrArg (A.doo j1 (lane j0 k) * ·) (congrArg₂ (A.O j1) (Fin.ext ?_) (Fin.ext ?_))
      · show j0.val = (64 * j0.val + k.val) / 64
        omega
      · show k.val = (64 * j0.val + k.val) % 64
        omega
    · rw [MixaValue.final22 H]
      funext j
      idx_vars j
      exact tall8 _ A.ds (MixaRefer.ds_ref _ A fz fs fd) j0 j1
    · rw [MixaValue.final23 H]
      funext j
      idx_vars j
      exact tall32 _ A.dc (MixaRefer.dc_ref _ A fz fc fg fb fd) j0 j1
    · rw [MixaValue.final24 H]
      funext j
      idx_vars j
      exact column _ A.dlg (fun r l => (MixaRefer.mul_real _ _ _ (MixaRefer.xh_ref _ A fz fc r l) (MixaRefer.dln_ref _ A fz fc fg fb fd r l)).trans
        (congrArg (fun v : ℝ => (v : EReal)) (mul_comm _ _))) j0 j1
    · rw [MixaValue.final25 H]
      funext j
      idx_vars j
      exact column _ A.dlb (MixaRefer.dln_ref _ A fz fc fg fb fd) j0 j1

end Cert.MixaClaim

end
-- ==== Proof.AttnfLane.lean ====
module

public import proofs.«01_k».proof.AttnfIdeal
public import Idealize.ShloMosaic.Lib.Tactic
public import proofs.«01_k».proof.Proof.Gen.AttnfIdeal.Skeleton
public import proofs.«01_k».proof.Proof.AttnRun

/-! The forward attention as functions of what its windows hold: the state its loop carries, a round over
one key tile per lane, the loop and the block written out. Eight lanes (four heads, two query tiles) run
side by side; lane `2 h + r` has head `h` and query tile `r`. The weights are those of the backward call. -/

@[expose] public section

noncomputable section

namespace Cert.AttnfLane

open Cert.AttnfIdeal Cert.AttnfIdeal.Gen
open Idealize.ShloMosaic
open Cert.AttnLane (Mask lm rows w zero256 maskNone)

variable {F : FTy → Type} [FloatOps F]

/-- What the windows hold at a grid point: a block of queries, all keys, all values. -/
structure Ins (F : FTy → Type) where
  (q : Vec F S4x512x64 .bf16) (k v : Vec F S4x64x16384 .bf16)

/-- What the lanes carry: the row sums of log(1 − p) and the outputs. -/
structure St (F : FTy → Type) where
  (c : Fin 8 → FVec F S256x1 .f32) (s : Fin 8 → FVec F S64x256 .f32)

/-- Where a lane's queries begin. -/
def oq : Fin 8 → Fin 3 → ℕ
  | 0 => ![0, 0, 0] | 1 => ![0, 256, 0] | 2 => ![1, 0, 0] | 3 => ![1, 256, 0]
  | 4 => ![2, 0, 0] | 5 => ![2, 256, 0] | 6 => ![3, 0, 0] | 7 => ![3, 256, 0]
theorem oq_inb : ∀ l a, oq l a + S1x256x64.size a ≤ S4x512x64.size a := by decide

/-- Where its output is written. -/
def oo : Fin 8 → Fin 3 → ℕ
  | 0 => ![0, 0, 0] | 1 => ![0, 0, 256] | 2 => ![1, 0, 0] | 3 => ![1, 0, 256]
  | 4 => ![2, 0, 0] | 5 => ![2, 0, 256] | 6 => ![3, 0, 0] | 7 => ![3, 0, 256]
theorem oo_inb : ∀ l a, oo l a + S1x64x256.size a ≤ S4x64x512.size a := by decide

abbrev Inb (off : Fin 3 → ℕ) : Prop := ∀ a, off a + S1x64x256.size a ≤ S4x64x16384.size a

/-- A tile of queries, and one of keys or values. -/
def tq (X : Ins F) (l : Fin 8) : Vec F S1x256x64 .bf16 :=
  fun z => X.q ((Rect.unit (s := S4x512x64) (oq l) S1x256x64.size (oq_inb l)).toLoadRect.idx z)
def tk (x : Vec F S4x64x16384 .bf16) (off : Fin 3 → ℕ) (h : Inb off) : Vec F S1x64x256 .bf16 :=
  fun z => x ((Rect.unit (s := S4x64x16384) off S1x64x256.size h).toLoadRect.idx z)

/-- The scores. -/
def lz (q : Vec F S1x256x64 .bf16) (k : Vec F S1x64x256 .bf16) : FVec F S256x256 .f32 :=
  matmul dot_S256x64_S64x256_S256x256_1_0_0_1_n_n none (shapeCast S256x64 q shapeCasts_S1x256x64_S256x64)
    (shapeCast S64x256 k shapeCasts_S1x64x256_S64x256) (constant S256x256 .f32 0x00000000#32)

/-- What a lane carries on. -/
def nc (M : Mask F) (z : FVec F S256x256 .f32) (c : FVec F S256x1 .f32) : FVec F S256x1 .f32 := addf c (M.mt (rows (M.ma (lm z))))
def ns (M : Mask F) (t : FVec F S256x256 .bf16) (z : FVec F S256x256 .f32) (c : FVec F S256x1 .f32) (v : Vec F S1x64x256 .bf16) (s : FVec F S64x256 .f32) :
    FVec F S64x256 .f32 :=
  addf s (matmul dot_S64x256_S256x256_S64x256_1_1_0_0_n_n none (shapeCast S64x256 v shapeCasts_S1x64x256_S64x256) (w M t c z) (constant S64x256 .f32 0x00000000#32))

/-- One round, a key tile for each lane. -/
def round (M : Fin 8 → Mask F) (X : Ins F) (o : Fin 8 → Fin 3 → ℕ) (h : ∀ l, Inb (o l)) (st : St F) : St F where
  c l := nc (M l) (lz (tq X l) (tk X.k (o l) (h l))) (st.c l)
  s l := ns (M l) k0_pay13 (lz (tq X l) (tk X.k (o l) (h l))) (st.c l) (tk X.v (o l) (h l)) (st.s l)

/-- Whether the first query tile of the block still has a key tile at this distance. -/
def live (i : grid0.Coords) (j : BitVec 32) : BitVec 1 :=
  Scalar.cmpi .sge (Scalar.subi (Scalar.addi (Scalar.muli 2#32 (BitVec.ofNat 32 (i 0).val)) 0#32) j) 0#32

def maskLive (i : grid0.Coords) (j : BitVec 32) : Mask F where
  ma a := a
  mw a := Scalar.select (live i j) a zero256
  mt a := Scalar.select (live i j) a (broadcast S256x1 (Scalar.ofBits .f32 0xF149F2CA#32))

/-- On the diagonal tile only keys before the query count. -/
def maskDiag : Mask F where
  ma a := select k0_pay12 a zero256
  mw a := select k0_pay12 a zero256
  mt a := a

def masks (i : grid0.Coords) (j : BitVec 32) : Fin 8 → Mask F
  | 0 | 2 | 4 | 6 => maskLive i j
  | 1 | 3 | 5 | 7 => maskNone

/-- The key tiles of a trip, and those on the diagonal. -/
def off (i : grid0.Coords) (j : BitVec 32) : Fin 8 → Fin 3 → ℕ
  | 0 => k0_off5 i j 0#32 | 1 => k0_off5 i j 1#32 | 2 => k0_off6 i j 0#32 | 3 => k0_off6 i j 1#32
  | 4 => k0_off7 i j 0#32 | 5 => k0_off7 i j 1#32 | 6 => k0_off8 i j 0#32 | 7 => k0_off8 i j 1#32
theorem off_inb (i : grid0.Coords) (j : BitVec 32) (hc : k0_chk1 i j) : ∀ l, Inb (off i j l)
  | 0 => k0_off5_inb i j hc 0 | 1 => k0_off5_inb i j hc 1 | 2 => k0_off6_inb i j hc 0 | 3 => k0_off6_inb i j hc 1
  | 4 => k0_off7_inb i j hc 0 | 5 => k0_off7_inb i j hc 1 | 6 => k0_off8_inb i j hc 0 | 7 => k0_off8_inb i j hc 1
def diag (i : grid0.Coords) : Fin 8 → Fin 3 → ℕ
  | 0 => k0_off1 i 0#32 | 1 => k0_off1 i 1#32 | 2 => k0_off2 i 0#32 | 3 => k0_off2 i 1#32
  | 4 => k0_off3 i 0#32 | 5 => k0_off3 i 1#32 | 6 => k0_off4 i 0#32 | 7 => k0_off4 i 1#32
theorem diag_inb (i : grid0.Coords) : ∀ l, Inb (diag i l)
  | 0 => k0_off1_inb i 0 | 1 => k0_off1_inb i 1 | 2 => k0_off2_inb i 0 | 3 => k0_off2_inb i 1
  | 4 => k0_off3_inb i 0 | 5 => k0_off3_inb i 1 | 6 => k0_off4_inb i 0 | 7 => k0_off4_inb i 1

/-- A trip of the loop. -/
def next (X : Ins F) (i : grid0.Coords) (j : BitVec 32) (hc : k0_chk1 i j) (st : St F) : St F := round (masks i j) X (off i j) (off_inb i j hc) st

/-- What stands before the loop. -/
def first (X : Ins F) (i : grid0.Coords) : St F := round (fun _ => maskDiag) X (diag i) (diag_inb i) ⟨fun _ => k0_pay14, fun _ => k0_pay15⟩

/-- The loop's test against a threshold. -/
def alive (d : F .f32) (i : grid0.Coords) (j : BitVec 32) (st : St F) : Prop :=
  Scalar.andi (Scalar.cmpi .sge (Scalar.subi (Scalar.subi (Scalar.addi (Scalar.muli 2#32 (BitVec.ofNat 32 (i 0).val)) 2#32) 1#32) j) 0#32)
    (Scalar.cmpf .ogt (k0_pay2 (st.c 0) (st.c 1) (st.c 2) (st.c 3) (st.c 4) (st.c 5) (st.c 6) (st.c 7)) d) = 1#1

/-- The column tiles a trip names lie inside the arrays, whatever the counter. -/
theorem chk_all (i : grid0.Coords) (j : ℕ) (hj : j ≤ 64) : k0_chk1 i (BitVec.ofNat 32 j) := by
  revert i j
  decide +kernel

/-- The counter is below its bound when the test holds. -/
theorem lt_of_alive {d : F .f32} {i : grid0.Coords} (j : ℕ) (st : St F) (hj : j ≤ 2 * (i 0).val + 2) (h : alive d i (BitVec.ofNat 32 j) st) : j < 2 * (i 0).val + 2 := by
  have hall : ∀ (a : Fin 32) (b : Fin 66), Scalar.cmpi .sge (Scalar.subi (Scalar.subi (Scalar.addi (Scalar.muli 2#32 (BitVec.ofNat 32 a.val)) 2#32) 1#32) (BitVec.ofNat 32 b.val)) 0#32 = 1#1 →
      b.val ≤ 2 * a.val + 2 → b.val < 2 * a.val + 2 := by decide +kernel
  have hi : (i 0).val < 32 := (i 0).isLt
  have h1 : ∀ x y : BitVec 1, Scalar.andi x y = 1#1 → x = 1#1 := by decide
  exact hall ⟨(i 0).val, hi⟩ ⟨j, by omega⟩ (h1 _ _ h) hj

/-- The loop from trip `j` on, at most `k` trips. -/
def go (d : F .f32) (X : Ins F) (i : grid0.Coords) : ℕ → ℕ → St F → St F
  | 0, _, st => st
  | k + 1, j, st => open Classical in
      if h : alive d i (BitVec.ofNat 32 j) st ∧ k0_chk1 i (BitVec.ofNat 32 j) then go d X i k (j + 1) (next X i (BitVec.ofNat 32 j) h.2 st) else st

/-- The state a grid point ends at. -/
def res (d : F .f32) (X : Ins F) (i : grid0.Coords) : St F := go d X i (2 * (i 0).val + 1) 1 (first X i)

theorem go_dead (d : F .f32) (X : Ins F) (i : grid0.Coords) (k j : ℕ) (st : St F) (h : ¬ alive d i (BitVec.ofNat 32 j) st) : go d X i k j st = st := by
  cases k with
  | zero => rfl
  | succ k => unfold go; rw [dif_neg (fun hh => h hh.1)]

theorem go_alive (d : F .f32) (X : Ins F) (i : grid0.Coords) (k j : ℕ) (st : St F) (h : alive d i (BitVec.ofNat 32 j) st) (hc : k0_chk1 i (BitVec.ofNat 32 j)) :
    go d X i (k + 1) j st = go d X i k (j + 1) (next X i (BitVec.ofNat 32 j) hc st) := by
  conv_lhs => unfold go
  rw [dif_pos ⟨h, hc⟩]

/-- What the loop's program returns. -/
abbrev Out (F : FTy → Type) := BitVec 32 × FVec F S256x1 .f32 × FVec F S256x1 .f32 × FVec F S256x1 .f32 × FVec F S256x1 .f32 × FVec F S256x1 .f32 × FVec F S256x1 .f32
  × FVec F S256x1 .f32 × FVec F S256x1 .f32 × FVec F S64x256 .f32 × FVec F S64x256 .f32 × FVec F S64x256 .f32 × FVec F S64x256 .f32 × FVec F S64x256 .f32 × FVec F S64x256 .f32
  × FVec F S64x256 .f32 × FVec F S64x256 .f32

/-- What it returns of a state. -/
def tup (j : BitVec 32) (st : St F) : Out F :=
  (j, st.c 0, st.c 1, st.c 2, st.c 3, st.c 4, st.c 5, st.c 6, st.c 7, st.s 0, st.s 1, st.s 2, st.s 3, st.s 4, st.s 5, st.s 6, st.s 7)

/-- A lane's output put in its place. -/
abbrev ro (l : Fin 8) : Rect S4x64x512 := Rect.unit (s := S4x64x512) (oo l) S1x64x256.size (oo_inb l)
def put (st : St F) (l : Fin 8) (x : Vec F S4x64x512 .f32) : Vec F S4x64x512 .f32 := Held.patch x (ro l) (k0_pay1 (st.s l))

/-- The block written out, over what was there: the lanes before lane `n`. -/
def fin (st : St F) (x : Vec F S4x64x512 .f32) : ℕ → Vec F S4x64x512 .f32
  | 0 => x
  | n + 1 => if h : n < 8 then put st ⟨n, h⟩ (fin st x n) else fin st x n

theorem fin_succ (st : St F) (x : Vec F S4x64x512 .f32) (n : ℕ) (h : n < 8) : fin st x (n + 1) = put st ⟨n, h⟩ (fin st x n) := dif_pos h

theorem mem_ro (l : Fin 8) (y : S4x64x512.Idx) : (∃ z, (ro l).emb z = y) ↔ (y 0).val = l.val / 2 ∧ (y 2).val / 256 = l.val % 2 := by
  have y1 : (y 1).val < 64 := (y 1).isLt
  have key : (∃ z, (ro l).emb z = y) ↔ ∀ a : Fin 3, oo l a ≤ (y a).val ∧ (y a).val < oo l a + S1x64x256.size a := AttnLane.unit_mem _ _ _ _
  rw [key]
  have e : ∀ l : Fin 8, oo l = ![l.val / 2, 0, 256 * (l.val % 2)] := by decide
  rw [e l]
  constructor
  · intro h
    have h0 : l.val / 2 ≤ (y 0).val ∧ (y 0).val < l.val / 2 + 1 := h 0
    have h2 : 256 * (l.val % 2) ≤ (y 2).val ∧ (y 2).val < 256 * (l.val % 2) + 256 := h 2
    omega
  · rintro ⟨h0, h2⟩ a
    match a with
    | ⟨0, _⟩ => show l.val / 2 ≤ (y 0).val ∧ (y 0).val < l.val / 2 + 1; omega
    | ⟨1, _⟩ => show 0 ≤ (y 1).val ∧ (y 1).val < 0 + 64; omega
    | ⟨2, _⟩ => show 256 * (l.val % 2) ≤ (y 2).val ∧ (y 2).val < 256 * (l.val % 2) + 256; omega

/-- The lane an entry of the block belongs to. -/
def own (y : S4x64x512.Idx) : ℕ := 2 * (y 0).val + (y 2).val / 256

theorem mem_own (l : Fin 8) (y : S4x64x512.Idx) : (∃ z, (ro l).emb z = y) ↔ l.val = own y := by
  rw [mem_ro]
  have y2 : (y 2).val < 512 := (y 2).isLt
  unfold own
  omega

/-- What the block holds at an entry: its lane's output. -/
theorem fin_at (st : St F) (x : Vec F S4x64x512 .f32) (y : S4x64x512.Idx) : ∀ n, n ≤ 8 →
    ∀ (l : Fin 8) (z : (ro l).shape.Idx), (ro l).emb z = y → fin st x n y = if l.val < n then k0_pay1 (st.s l) z else x y
  | 0, _, l, z, hz => by rw [if_neg (by omega)]; rfl
  | n + 1, hn, l, z, hz => by
    have hl := (mem_own l y).mp ⟨z, hz⟩
    have hn' : n < 8 := hn
    rw [fin_succ st x n hn']
    unfold put
    by_cases h : l.val = n
    · have : l = ⟨n, hn'⟩ := Fin.ext h
      subst this
      rw [← hz, Held.patch_emb, if_pos (by omega)]
    · rw [Held.patch_of_not _ _ _ _ (fun hh => h (hl.trans ((mem_own _ _).mp hh).symm)), fin_at st x y n (by omega) l z hz]
      exact if_congr (by omega) rfl rfl

/-- Every entry of the block has a lane. -/
theorem has_lane (y : S4x64x512.Idx) : ∃ (l : Fin 8) (z : (ro l).shape.Idx), (ro l).emb z = y := by
  have y0 : (y 0).val < 4 := (y 0).isLt
  have y2 : (y 2).val < 512 := (y 2).isLt
  have hb : own y < 8 := by unfold own; omega
  obtain ⟨z, hz⟩ := (mem_own ⟨own y, hb⟩ y).mpr rfl
  exact ⟨_, z, hz⟩

/-- The block a grid point writes. -/
def block (st : St F) : Vec F S4x64x512 .f32 := fin st (fun _ => Scalar.ofBits .f32 0x00000000#32) 8

theorem fin_const (st : St F) (x : Vec F S4x64x512 .f32) : fin st x 8 = block st := by
  funext y
  obtain ⟨l, z, hz⟩ := has_lane y
  unfold block
  rw [fin_at st _ y 8 le_rfl l z hz, fin_at st _ y 8 le_rfl l z hz, if_pos l.isLt, if_pos l.isLt]

/-- The eight stores, one after the other. -/
theorem puts (st : St F) (x : Vec F S4x64x512 .f32) :
    put st 7 (put st 6 (put st 5 (put st 4 (put st 3 (put st 2 (put st 1 (put st 0 x))))))) = block st := fin_const st x

end Cert.AttnfLane
end
-- ==== Proof.AttnfTrip.lean ====
module

public import proofs.«01_k».proof.AttnfIdeal
public import Idealize.ShloMosaic.Lib.Tactic
public import Idealize.ShloMosaic.Lib.Tactic.Disch
public import Idealize.ShloMosaic.Lib.Pipeline.Frame
public import proofs.«01_k».proof.Proof.Gen.AttnfIdeal
public import proofs.«01_k».proof.Proof.Gen.AttnfIdeal.Skeleton
public import proofs.«01_k».proof.Proof.Gen.AttnfIdeal.Launch
public import proofs.«01_k».proof.Proof.Held
public import proofs.«01_k».proof.Proof.AttnfLane

/-! The loop of the forward attention: it ends, and gives back the state `go` ends at. -/

@[expose] public section

set_option maxRecDepth 16384

noncomputable section

namespace Cert.AttnfTrip

open Cert.AttnfIdeal Cert.AttnfIdeal.Gen
open Cert.AttnfLane (Ins St Out tup alive next first res put block)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel's variants: how many trips of the loop are still to run at most. -/
abbrev 𝒱₀ : Variants := Variants.nat

/-- The threshold of the loop's test. -/
abbrev dead : F .f32 := Named.named κ "dead" 0xC2D00000#32

variable (c : Dev nD) (i : grid0.Coords) (a1 : Memref sig .tc .vmem S4x512x64 .bf16) (h1 : a1.IsWhole) (a2 : Memref sig .tc .vmem S4x64x16384 .bf16) (h2 : a2.IsWhole)
  (a3 : Memref sig .tc .vmem S4x64x16384 .bf16) (h3 : a3.IsWhole) (X : Ins F)

/-- The three buffers the loop reads. -/
def held : sProp 𝕄 := iprop(owns (c : Thread nD τ) a1 fullShare X.q ∗ owns (c : Thread nD τ) a2 fullShare X.k ∗ owns (c : Thread nD τ) a3 fullShare X.v)

/-- The loop, its result known: the buffers come back as they were. -/
def spec (j : ℕ) (st : St F) : sWPT 𝕄 (Out F) := do
  sWPT.consume (held c a1 a2 a3 X)
  sWPT.produce (held c a1 a2 a3 X)
  pure (tup (BitVec.ofNat 32 j) st)

theorem spec_apply (j : ℕ) (st : St F) (K : Out F → sProp 𝕄) :
    spec c a1 a2 a3 X j st K = iprop(held c a1 a2 a3 X ∗ (held c a1 a2 a3 X -∗ K (tup (BitVec.ofNat 32 j) st))) := rfl

set_option maxHeartbeats 4000000 in
/-- The loop meets its specification, by induction on the trips still to run. -/
theorem spec_le (E : Set ℕ) :
    ∀ k j, 1 ≤ j → j + k = 2 * (i 0).val + 2 → ∀ st : St F, ∃ n, ∀ K : Out F → sProp 𝕄, spec c a1 a2 a3 X n (AttnfLane.go dead X i k j st) K
      ⊢ wp frame (wpE (defs₀ (F := F)) 𝒱₀ (c : Thread nD τ) (some k)) E (defs₀ (F := F) .tc 1 ⟨i, a1, h1, a2, h2, k0_pay13, a3, h3, BitVec.ofNat 32 j, st.c 0, st.c 1, st.c 2, st.c 3, st.c 4, st.c 5, st.c 6, st.c 7, st.s 0, st.s 1, st.s 2, st.s 3, st.s 4, st.s 5, st.s 6, st.s 7⟩) K := by
  intro k
  induction k with
  | zero =>
    intro j h1' hj st
    refine ⟨j, fun K => ?_⟩
    rw [spec_apply]
    show _ ⊢ wp frame (wpE (defs₀ (F := F)) 𝒱₀ (c : Thread nD τ) (some 0)) E (cc0_while1 i a1 h1 a2 h2 k0_pay13 a3 h3 (BitVec.ofNat 32 j) (st.c 0) (st.c 1) (st.c 2) (st.c 3) (st.c 4) (st.c 5) (st.c 6) (st.c 7) (st.s 0) (st.s 1) (st.s 2) (st.s 3) (st.s 4) (st.s 5) (st.s 6) (st.s 7)) K
    simp only [cc0_while1_eq_skeleton]; unfold cc0_while1_skel
    have ht : ¬ alive dead i (BitVec.ofNat 32 j) st := fun h => absurd (AttnfLane.lt_of_alive j st (by omega) h) (by omega)
    rw [AttnfLane.go_dead _ _ _ _ _ _ ht]
    have ht' : ¬ Scalar.andi (Scalar.cmpi .sge (Scalar.subi (Scalar.subi (Scalar.addi (Scalar.muli 2#32 (BitVec.ofNat 32 (i 0).val)) 2#32) 1#32) (BitVec.ofNat 32 j)) 0#32) (Scalar.cmpf .ogt (k0_pay2 (st.c 0) (st.c 1) (st.c 2) (st.c 3) (st.c 4) (st.c 5) (st.c 6) (st.c 7)) (Named.named κ "dead" 0xC2D00000#32)) = 1#1 := ht
    simp only [ht', ↓reduceIte, Prog.pure_eq_ret]
    iintro ⟨H, Hk⟩
    rw [wp_ret]; imodintro
    rw [show (BitVec.ofNat 32 j, st.c 0, st.c 1, st.c 2, st.c 3, st.c 4, st.c 5, st.c 6, st.c 7, st.s 0, st.s 1, st.s 2, st.s 3, st.s 4, st.s 5, st.s 6, st.s 7) = tup (BitVec.ofNat 32 j) st from rfl]
    iapply Hk $$ H
  | succ k ih =>
    intro j h1' hj st
    by_cases ht : alive dead i (BitVec.ofNat 32 j) st
    · have hc := AttnfLane.chk_all i j (by have : (i 0).val < 32 := (i 0).isLt; omega)
      obtain ⟨n, hn⟩ := ih (j + 1) (by omega) (by omega) (next X i (BitVec.ofNat 32 j) hc st)
      refine ⟨n, fun K => ?_⟩
      rw [spec_apply, AttnfLane.go_alive _ _ _ _ _ _ ht hc]
      show _ ⊢ wp frame (wpE (defs₀ (F := F)) 𝒱₀ (c : Thread nD τ) (some (k + 1))) E (cc0_while1 i a1 h1 a2 h2 k0_pay13 a3 h3 (BitVec.ofNat 32 j) (st.c 0) (st.c 1) (st.c 2) (st.c 3) (st.c 4) (st.c 5) (st.c 6) (st.c 7) (st.s 0) (st.s 1) (st.s 2) (st.s 3) (st.s 4) (st.s 5) (st.s 6) (st.s 7)) K
      simp only [cc0_while1_eq_skeleton]; unfold cc0_while1_skel
      simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
      unfold k0_part12_skel k0_part13_skel k0_part14_skel k0_part15_skel k0_part16_skel k0_part17_skel k0_part18_skel k0_part19_skel k0_part20_skel
      have ht' : Scalar.andi (Scalar.cmpi .sge (Scalar.subi (Scalar.subi (Scalar.addi (Scalar.muli 2#32 (BitVec.ofNat 32 (i 0).val)) 2#32) 1#32) (BitVec.ofNat 32 j)) 0#32) (Scalar.cmpf .ogt (k0_pay2 (st.c 0) (st.c 1) (st.c 2) (st.c 3) (st.c 4) (st.c 5) (st.c 6) (st.c 7)) (Named.named κ "dead" 0xC2D00000#32)) = 1#1 := ht
      simp only [ht', ↓reduceIte, Prog.lift, Prog.bind_op, Prog.bind_ret, Prog.pure_eq_ret]
      unfold held
      iintro ⟨⟨H1, H2, H3⟩, Hk⟩
      iapply (wp_assume 𝒱₀ (c : Thread nD τ) (some (k + 1)) E hc)
      iterate 8 (iapply Held.load $$ H1; iintro H1)
      iterate 8 (iapply Held.load $$ H2; iintro H2)
      iterate 8 (iapply Held.load $$ H3; iintro H3)
      rw [show Scalar.addi (BitVec.ofNat 32 j) 1#32 = BitVec.ofNat 32 (j + 1) by simp [Scalar.addi, IntOp.addi, BitVec.ofNat_add]]
      iapply (wp_call_spec 𝒱₀ (c : Thread nD τ) (some (k + 1)) E (spec c a1 a2 a3 X n (AttnfLane.go dead X i k (j + 1) (next X i (BitVec.ofNat 32 j) hc st))) k
        (fun u hu => by cases hu; exact Nat.lt_succ_self k) hn)
      rw [spec_apply]; unfold held
      isplitl [H1 H2 H3]
      · isplitl [H1]; · iexact H1
        isplitl [H2]; · iexact H2
        iexact H3
      iintro H
      rw [wp_ret]; imodintro
      iapply Hk $$ H
    · refine ⟨j, fun K => ?_⟩
      rw [spec_apply, AttnfLane.go_dead _ _ _ _ _ _ ht]
      show _ ⊢ wp frame (wpE (defs₀ (F := F)) 𝒱₀ (c : Thread nD τ) (some (k + 1))) E (cc0_while1 i a1 h1 a2 h2 k0_pay13 a3 h3 (BitVec.ofNat 32 j) (st.c 0) (st.c 1) (st.c 2) (st.c 3) (st.c 4) (st.c 5) (st.c 6) (st.c 7) (st.s 0) (st.s 1) (st.s 2) (st.s 3) (st.s 4) (st.s 5) (st.s 6) (st.s 7)) K
      simp only [cc0_while1_eq_skeleton]; unfold cc0_while1_skel
      have ht' : ¬ Scalar.andi (Scalar.cmpi .sge (Scalar.subi (Scalar.subi (Scalar.addi (Scalar.muli 2#32 (BitVec.ofNat 32 (i 0).val)) 2#32) 1#32) (BitVec.ofNat 32 j)) 0#32) (Scalar.cmpf .ogt (k0_pay2 (st.c 0) (st.c 1) (st.c 2) (st.c 3) (st.c 4) (st.c 5) (st.c 6) (st.c 7)) (Named.named κ "dead" 0xC2D00000#32)) = 1#1 := ht
      simp only [ht', ↓reduceIte, Prog.pure_eq_ret]
      iintro ⟨H, Hk⟩
      rw [wp_ret]; imodintro
      rw [show (BitVec.ofNat 32 j, st.c 0, st.c 1, st.c 2, st.c 3, st.c 4, st.c 5, st.c 6, st.c 7, st.s 0, st.s 1, st.s 2, st.s 3, st.s 4, st.s 5, st.s 6, st.s 7) = tup (BitVec.ofNat 32 j) st from rfl]
      iapply Hk $$ H

end Cert.AttnfTrip
end
-- ==== Proof.AttnfState.lean ====
module

public import proofs.«01_k».proof.Proof.AttnfTrip
public import proofs.«01_k».proof.Proof.AttnState

/-! What the forward attention's loop carries, trip by trip, over the real numbers. -/

@[expose] public section

set_option maxRecDepth 16384

noncomputable section

open Idealize.ShloMosaic Idealize.ShloMosaic.TcCoe

namespace Cert.AttnfState

open Finset
open Cert.AttnfIdeal Cert.AttnfIdeal.Gen Cert.AttnfLane Cert.AttnPoint Cert.AttnReal Cert.AttnMask Cert.AttnState Cert.RealCalc
open Cert.AttnLane (Mask lm w rows)

variable (D : Dat (Fin 4))

/-! ## One lane -/

/-- A lane of query tile `R` after `t` trips: its row sums, while it is not idle, and its output. -/
def LaneInv (h : Fin 4) (R t : ℕ) (c : FVec Ideal S256x1 .f32) (s : FVec Ideal S64x256 .f32) : Prop :=
  (∃ l : RCarry, Col c l.c ∧ (t ≤ R + 1 → GoodC D h (256 * R) (256 * (R + 1 - t)) l))
    ∧ ∀ (e : Fin 64) (y : Fin 256), s (ix2 e y) = ((∑ j ∈ Ico (256 * (R + 1 - t)) (256 * R + y.val), D.v h j e * W D h (256 * R + y.val) j : ℝ) : EReal)

section Step

variable {r : RMask} {t : RTiles} {l : RCarry} {M : Mask Ideal} (hr : r.Of M) {q : Vec Ideal S1x256x64 .bf16} {k v : Vec Ideal S1x64x256 .bf16}
  (hq : ∀ (y : Fin 256) (e : Fin 64), q (ix3 0 y e) = ((t.q y e : ℝ) : EReal)) (hk : ∀ (e : Fin 64) (x : Fin 256), k (ix3 0 e x) = ((t.k e x : ℝ) : EReal))
  (hv : ∀ (e : Fin 64) (x : Fin 256), v (ix3 0 e x) = ((t.v e x : ℝ) : EReal))
  {c : FVec Ideal S256x1 .f32} (hc : Col c l.c) {s : FVec Ideal S64x256 .f32} {S : Fin 64 → Fin 256 → ℝ} (hs : ∀ e y, s (ix2 e y) = ((S e y : ℝ) : EReal))

include hq hk in
theorem lz_mat : Mat (lz q k) (rz t) := by
  intro y x
  pointwise [lz]
  simp only [hq, hk, ← EReal.coe_mul, coe_sum]
  rfl

include hr hq hk hc in
theorem w_mat : Mat (w M (k0_pay13 (F := Ideal)) c (lz q k)) (rw_ r t l) := by
  have hz := lz_mat hq hk
  have hm := mm2_mat pay20_mat (hr.a (lm_mat hz))
  have hlb := lb_mat hz
  have h : Mat (exp (addf (addf (Cert.AttnLane.lb (lz q k)) (Cert.AttnLane.mm2 (k0_pay13 (F := Ideal)) (M.ma (lm (lz q k))))) (broadcastTo S256x256 c broadcasts_S256x1_S256x256)) : FVec Ideal S256x256 .f32)
      fun y x => Real.exp (Lm (rz t y x) + rz t y x + ∑ j, ra r t y j * (if x < j then 1 else 0) + l.c y) := by
    have hm' : Mat (Cert.AttnLane.mm2 (k0_pay13 (F := Ideal)) (M.ma (lm (lz q k)))) fun y x => ∑ j, ra r t y j * (if x < j then 1 else 0) := hm
    generalize Cert.AttnLane.mm2 (k0_pay13 (F := Ideal)) (M.ma (lm (lz q k))) = g at *
    intro y x
    pointwise
    rw [hlb y x, hm' y x, hc y, ← EReal.coe_add, ← EReal.coe_add, exp_coe]
  intro y x
  have := hr.w h y x
  pointwise [w]
  exact this

include hr hq hk hc in
theorem nc_col : Col (nc M (lz q k) c) (rnext r t l).c := by
  intro y
  have h := hr.t (rows_col (hr.a (lm_mat (lz_mat hq hk)))) y
  pointwise [nc]
  rw [hc y, h, ← EReal.coe_add]
  rfl

include hr hq hk hv hc hs in
theorem ns_at (e : Fin 64) (y : Fin 256) : ns M (k0_pay13 (F := Ideal)) (lz q k) c v s (ix2 e y) = ((S e y + ∑ x, t.v e x * rw_ r t l y x : ℝ) : EReal) := by
  have hw := w_mat hr hq hk hc
  unfold ns
  generalize w M (k0_pay13 (F := Ideal)) c (lz q k) = u at *
  pointwise
  simp only [hs e y, hv, hw _ _, ← EReal.coe_mul, coe_sum, ← EReal.coe_add]

end Step

theorem lane (h : Fin 4) (R t : ℕ) {M : Mask Ideal} (hM : MaskAt R t M) {q : Vec Ideal S1x256x64 .bf16} {k v : Vec Ideal S1x64x256 .bf16}
    (hq : ∀ (y : Fin 256) (e : Fin 64), q (ix3 0 y e) = ((D.q h (256 * R + y.val) e : ℝ) : EReal))
    (hk : ∀ (e : Fin 64) (x : Fin 256), k (ix3 0 e x) = ((D.k h (256 * (R - t) + x.val) e : ℝ) : EReal))
    (hv : ∀ (e : Fin 64) (x : Fin 256), v (ix3 0 e x) = ((D.v h (256 * (R - t) + x.val) e : ℝ) : EReal))
    {c : FVec Ideal S256x1 .f32} {s : FVec Ideal S64x256 .f32} (hL : LaneInv D h R t c s) :
    LaneInv D h R (t + 1) (nc M (lz q k) c) (ns M (k0_pay13 (F := Ideal)) (lz q k) c v s) := by
  obtain ⟨⟨l, hc, hg⟩, hs⟩ := hL
  have live : ∀ m : RMask, m.Of M → t ≤ R → (∀ u, m.t u = u) → (∀ y x : Fin 256, m.a y x ↔ 256 * (R - t) + x.val < 256 * R + y.val) →
      (∀ y x : Fin 256, m.w y x ↔ 256 * (R - t) + x.val < 256 * R + y.val) → LaneInv D h R (t + 1) (nc M (lz q k) c) (ns M (k0_pay13 (F := Ideal)) (lz q k) c v s) := by
    intro m hm htR hmt ha hw
    rw [show 256 * (R + 1 - t) = 256 * (R - t) + 256 by omega] at hg hs
    have hg := hg (by omega)
    have hle : 256 * (R - t) ≤ 256 * R := by omega
    refine ⟨⟨rnext m (tl D h (256 * R) (256 * (R - t))) l, nc_col hm hq hk hc, fun _ => ?_⟩, fun e y => ?_⟩
    · rw [show R + 1 - (t + 1) = R - t by omega]; exact goodC_next D h hle ha hmt hg
    · rw [show R + 1 - (t + 1) = R - t by omega, ns_at (t := tl D h (256 * R) (256 * (R - t))) hm hq hk hv hc hs e y]
      refine congrArg _ ?_
      simp only [rw_tl D h ha hw hg]
      exact total (fun j => D.v h j e * W D h (256 * R + y.val) j) y hle fun j hj => by rw [W_of_le D h _ _ hj, mul_zero]
  rcases hM with ⟨h0, hm⟩ | ⟨h1, h2, hm⟩ | ⟨h1, u, hm⟩
  · refine live _ hm (by omega) (fun _ => rfl) (fun y x => ?_) (fun y x => ?_)
    · show x < y ↔ _
      rw [Fin.lt_def]; omega
    · show x < y ↔ _
      rw [Fin.lt_def]; omega
  · refine live _ hm h2 (fun _ => rfl) (fun y x => ?_) (fun y x => ?_)
    · show True ↔ _
      have := x.isLt; simp only [true_iff]; omega
    · show True ↔ _
      have := x.isLt; simp only [true_iff]; omega
  · refine ⟨⟨rnext (rIdle u) (tl D h (256 * R) (256 * (R - t))) l, nc_col hm hq hk hc, fun hh => by omega⟩, fun e y => ?_⟩
    rw [show R + 1 - (t + 1) = R + 1 - t by omega, ns_at (t := tl D h (256 * R) (256 * (R - t))) hm hq hk hv hc hs e y]
    simp only [rw_idle (R := rIdle u) (fun _ _ hh => hh), mul_zero, sum_const_zero, add_zero]

/-! ## All lanes -/

/-- The head and the query tile of a lane. -/
def hd (l : Fin 8) : Fin 4 := ⟨l.val / 2, by have := l.isLt; omega⟩
def qt (i : ℕ) (l : Fin 8) : ℕ := 2 * i + l.val % 2

/-- What the windows hold on the query block that begins at row `b`. -/
structure InsOf (b : ℕ) (X : Ins Ideal) : Prop where
  q : ∀ h (r : Fin 512) e, X.q (ix3 h r e) = ((D.q h (b + r.val) e : ℝ) : EReal)
  k : ∀ h e (c : Fin 16384), X.k (ix3 h e c) = ((D.k h c.val e : ℝ) : EReal)
  v : ∀ h e (c : Fin 16384), X.v (ix3 h e c) = ((D.v h c.val e : ℝ) : EReal)

def Inv (i t : ℕ) (st : St Ideal) : Prop := ∀ l, LaneInv D (hd l) (qt i l) t (st.c l) (st.s l)

variable {D}

theorem tk_at {x : Vec Ideal S4x64x16384 .bf16} {f : Fin 4 → ℕ → Fin 64 → ℝ} (hx : ∀ h e (c : Fin 16384), x (ix3 h e c) = ((f h c.val e : ℝ) : EReal))
    (h : Fin 4) (c0 : ℕ) {off : Fin 3 → ℕ} (ho : off = ![h.val, 0, c0]) (hi : Inb off) (e : Fin 64) (y : Fin 256) : tk x off hi (ix3 0 e y) = ((f h (c0 + y.val) e : ℝ) : EReal) := by
  subst ho
  have h2 : c0 + 256 ≤ 16384 := hi 2
  have hy := y.isLt
  refine Eq.trans (congrArg x ?_) (hx h e ⟨c0 + y.val, by omega⟩)
  funext a; apply Fin.ext; rw [idx_val]
  match a with
  | ⟨0, _⟩ => show h.val + 1 * 0 = h.val; omega
  | ⟨1, _⟩ => show 0 + 1 * e.val = e.val; omega
  | ⟨2, _⟩ => show c0 + 1 * y.val = c0 + y.val; omega

theorem tq_at {i : ℕ} {X : Ins Ideal} (hX : InsOf D (512 * i) X) (l : Fin 8) (y : Fin 256) (e : Fin 64) :
    tq X l (ix3 0 y e) = ((D.q (hd l) (256 * qt i l + y.val) e : ℝ) : EReal) := by
  have hy := y.isLt
  have ho : ∀ l : Fin 8, oq l = ![l.val / 2, 256 * (l.val % 2), 0] := by decide
  have h : 512 * i + (256 * (l.val % 2) + y.val) = 256 * qt i l + y.val := by unfold qt; omega
  refine Eq.trans (congrArg X.q ?_) ((hX.q (hd l) ⟨256 * (l.val % 2) + y.val, by omega⟩ e).trans (by dsimp only; rw [h]))
  funext a; apply Fin.ext; rw [idx_val]
  match a with
  | ⟨0, _⟩ => show oq l 0 + 1 * 0 = l.val / 2; rw [ho]; show l.val / 2 + 1 * 0 = l.val / 2; omega
  | ⟨1, _⟩ => show oq l 1 + 1 * y.val = 256 * (l.val % 2) + y.val; rw [ho]; show 256 * (l.val % 2) + 1 * y.val = 256 * (l.val % 2) + y.val; omega
  | ⟨2, _⟩ => show oq l 2 + 1 * e.val = e.val; rw [ho]; show 0 + 1 * e.val = e.val; omega

theorem round_inv {i t : ℕ} {st : St Ideal} (hI : Inv D i t st) {X : Ins Ideal} (hX : InsOf D (512 * i) X) {M : Fin 8 → Mask Ideal} (hM : ∀ l, MaskAt (qt i l) t (M l))
    {o : Fin 8 → Fin 3 → ℕ} (ho : ∀ l, o l = ![l.val / 2, 0, 256 * (qt i l - t)]) (h : ∀ l, Inb (o l)) : Inv D i (t + 1) (round M X o h st) := fun l =>
  lane D (hd l) (qt i l) t (hM l) (tq_at hX l) (tk_at hX.k (hd l) _ (ho l) (h l)) (tk_at hX.v (hd l) _ (ho l) (h l)) (hI l)

theorem inv_start (i : ℕ) : Inv D i 0 ⟨fun _ => k0_pay14, fun _ => k0_pay15⟩ := by
  intro l
  have h0 : ∀ y : Fin 256, Ico (256 * (qt i l + 1 - 0)) (256 * qt i l + y.val) = ∅ := fun y => Ico_eq_empty (by have := y.isLt; omega)
  refine ⟨⟨⟨fun _ => 0, fun _ => 0, fun _ _ => 0⟩, fun y => ?_, fun _ y => by rw [h0, sum_empty]⟩, fun e y => ?_⟩
  · pointwise [k0_pay14]; exact EReal.coe_zero.symm
  · rw [h0, sum_empty]; pointwise [k0_pay15]; exact EReal.coe_zero.symm

/-! ## Words -/

theorem off_eq (i : grid0.Coords) (j : ℕ) (hj : j < 64) (l : Fin 8) : off i (BitVec.ofNat 32 j) l = ![l.val / 2, 0, 256 * (qt (i 0).val l - j)] := by
  have e0 := AttnWords.column ⟨(i 0).val, (i 0).isLt⟩ ⟨j, hj⟩ 0
  have e1 := AttnWords.column ⟨(i 0).val, (i 0).isLt⟩ ⟨j, hj⟩ 1
  fin_cases l
  · exact congrArg (fun n : ℕ => (![0, 0, n] : Fin 3 → ℕ)) e0
  · exact congrArg (fun n : ℕ => (![0, 0, n] : Fin 3 → ℕ)) e1
  · exact congrArg (fun n : ℕ => (![1, 0, n] : Fin 3 → ℕ)) e0
  · exact congrArg (fun n : ℕ => (![1, 0, n] : Fin 3 → ℕ)) e1
  · exact congrArg (fun n : ℕ => (![2, 0, n] : Fin 3 → ℕ)) e0
  · exact congrArg (fun n : ℕ => (![2, 0, n] : Fin 3 → ℕ)) e1
  · exact congrArg (fun n : ℕ => (![3, 0, n] : Fin 3 → ℕ)) e0
  · exact congrArg (fun n : ℕ => (![3, 0, n] : Fin 3 → ℕ)) e1

theorem diag_eq (i : grid0.Coords) (l : Fin 8) : diag i l = ![l.val / 2, 0, 256 * (qt (i 0).val l - 0)] := by
  have e0 := AttnWords.column ⟨(i 0).val, (i 0).isLt⟩ 0 0
  have e1 := AttnWords.column ⟨(i 0).val, (i 0).isLt⟩ 0 1
  fin_cases l
  · exact congrArg (fun n : ℕ => (![0, 0, n] : Fin 3 → ℕ)) e0
  · exact congrArg (fun n : ℕ => (![0, 0, n] : Fin 3 → ℕ)) e1
  · exact congrArg (fun n : ℕ => (![1, 0, n] : Fin 3 → ℕ)) e0
  · exact congrArg (fun n : ℕ => (![1, 0, n] : Fin 3 → ℕ)) e1
  · exact congrArg (fun n : ℕ => (![2, 0, n] : Fin 3 → ℕ)) e0
  · exact congrArg (fun n : ℕ => (![2, 0, n] : Fin 3 → ℕ)) e1
  · exact congrArg (fun n : ℕ => (![3, 0, n] : Fin 3 → ℕ)) e0
  · exact congrArg (fun n : ℕ => (![3, 0, n] : Fin 3 → ℕ)) e1

/-- The backward call's coordinates with the same query block. -/
def up (i : grid0.Coords) : Cert.AttnIdeal.grid0.Coords := fun a => match a with
  | ⟨0, _⟩ => (⟨0, by decide⟩ : Fin 2)
  | ⟨1, _⟩ => i 0

theorem live_up (i : grid0.Coords) (j : ℕ) : maskLive (F := Ideal) i (BitVec.ofNat 32 j) = Cert.AttnLane.maskLive (up i) (BitVec.ofNat 32 j) := rfl

theorem mask_at (i : grid0.Coords) (j : ℕ) (h1 : 1 ≤ j) (hj : j ≤ 2 * (i 0).val + 1) (l : Fin 8) : MaskAt (qt (i 0).val l) j (masks i (BitVec.ofNat 32 j) l) := by
  have hi : (i 0).val < 32 := (i 0).isLt
  have even : MaskAt (2 * (i 0).val) j (maskLive (F := Ideal) i (BitVec.ofNat 32 j)) := by
    rw [live_up]
    by_cases hl : j ≤ 2 * (i 0).val
    · exact .inr (.inl ⟨h1, hl, live_of (up i) j (by omega) hl⟩)
    · exact .inr (.inr ⟨by omega, idle_of (up i) j (by omega) hl⟩)
  have odd : MaskAt (2 * (i 0).val + 1) j (Cert.AttnLane.maskNone (F := Ideal)) := .inr (.inl ⟨h1, hj, none_of⟩)
  fin_cases l
  · exact even
  · exact odd
  · exact even
  · exact odd
  · exact even
  · exact odd
  · exact even
  · exact odd

theorem alive_iff (i : grid0.Coords) (j : ℕ) (hj : j < 64) (st : St Ideal) {c : Fin 256 → ℝ} (hc : Col (st.c 0) c) :
    alive AttnfTrip.dead i (BitVec.ofNat 32 j) st ↔ j ≤ 2 * (i 0).val + 1 := by
  have hp : Scalar.cmpf .ogt (k0_pay2 (st.c 0) (st.c 1) (st.c 2) (st.c 3) (st.c 4) (st.c 5) (st.c 6) (st.c 7)) (AttnfTrip.dead (F := Ideal)) = 1#1 := by
    pointwise [k0_pay2]
    have hb : (AttnfTrip.dead (F := Ideal) : EReal) = ⊥ := rfl
    have hlt : (⊥ : EReal) < Finset.fold max (Ideal.ofBits FTy.f32 4286578688#32)
        (fun x : Fin 256 × Fin 1 => max (max (max (max (max (max (max (st.c 0 (ix2 x.1 0)) (st.c 1 (ix2 x.1 0))) (st.c 2 (ix2 x.1 0))) (st.c 3 (ix2 x.1 0))) (st.c 4 (ix2 x.1 0))) (st.c 5 (ix2 x.1 0))) (st.c 6 (ix2 x.1 0))) (st.c 7 (ix2 x.1 0))) Finset.univ := by
      rw [Finset.lt_fold_max]
      refine .inr ⟨(0, 0), Finset.mem_univ _, ?_⟩
      refine lt_of_lt_of_le (EReal.bot_lt_coe (c 0)) ?_
      rw [← hc 0]
      iterate 6 refine le_trans ?_ (le_max_left _ _)
      exact le_max_left _ _
    rw [hb]
    erw [decide_eq_true hlt]
    rfl
  unfold alive
  have h1 : Scalar.cmpi .sge (Scalar.subi (Scalar.subi (Scalar.addi (Scalar.muli 2#32 (BitVec.ofNat 32 (i 0).val)) 2#32) 1#32) (BitVec.ofNat 32 j)) 0#32 = 1#1 ↔ j ≤ 2 * (i 0).val + 1 :=
    AttnWords.count_iff (up i) j hj
  rw [hp, ← h1]
  generalize Scalar.cmpi .sge (Scalar.subi (Scalar.subi (Scalar.addi (Scalar.muli 2#32 (BitVec.ofNat 32 (i 0).val)) 2#32) 1#32) (BitVec.ofNat 32 j)) 0#32 = b
  revert b; decide

section Loop

variable {i : grid0.Coords} {X : Ins Ideal} (hX : InsOf D (512 * (i 0).val) X)

include hX in
theorem go_inv : ∀ (k j : ℕ) (st : St Ideal), 1 ≤ j → j + k = 2 * (i 0).val + 2 → Inv D (i 0).val j st → Inv D (i 0).val (2 * (i 0).val + 2) (go AttnfTrip.dead X i k j st)
  | 0, j, st, _, hj, hI => by
      obtain rfl : j = 2 * (i 0).val + 2 := by omega
      exact hI
  | k + 1, j, st, h1, hj, hI => by
      have hi : (i 0).val < 32 := (i 0).isLt
      have ha : alive AttnfTrip.dead i (BitVec.ofNat 32 j) st := by
        obtain ⟨⟨l, hl, _⟩, _⟩ := hI 0
        exact (alive_iff i j (by omega) st hl).2 (by omega)
      have hc : k0_chk1 i (BitVec.ofNat 32 j) := chk_all i j (by omega)
      rw [go_alive AttnfTrip.dead X i k j st ha hc]
      exact go_inv k (j + 1) _ (by omega) (by omega) (round_inv hI hX (mask_at i j h1 (by omega)) (off_eq i j (by omega)) _)

include hX in
/-- The state a grid point ends at. -/
theorem res_inv : Inv D (i 0).val (2 * (i 0).val + 2) (res AttnfTrip.dead X i) :=
  go_inv hX _ 1 _ le_rfl (by omega) (round_inv (inv_start _) hX (fun _ => .inl ⟨rfl, diag_of⟩) (diag_eq i) _)

include hX in
/-- A lane's output: the weighted sum of the values before the query. -/
theorem out_at (l : Fin 8) (e : Fin 64) (y : Fin 256) : (res AttnfTrip.dead X i).s l (ix2 e y)
    = ((∑ j ∈ range (256 * qt (i 0).val l + y.val), D.v (hd l) j e * W D (hd l) (256 * qt (i 0).val l + y.val) j : ℝ) : EReal) := by
  have h := (res_inv hX l).2 e y
  rwa [show 256 * (qt (i 0).val l + 1 - (2 * (i 0).val + 2)) = 0 by unfold qt; omega, ← range_eq_Ico] at h

end Loop

end Cert.AttnfState
end
-- ==== Proof.AttnfBody.lean ====
module

public import proofs.«01_k».proof.AttnfIdeal
public import Idealize.ShloMosaic.Lib.Tactic
public import Idealize.ShloMosaic.Lib.Tactic.Disch
public import Idealize.ShloMosaic.Lib.Pipeline.Frame
public import proofs.«01_k».proof.Proof.Gen.AttnfIdeal
public import proofs.«01_k».proof.Proof.Gen.AttnfIdeal.Skeleton
public import proofs.«01_k».proof.Proof.Gen.AttnfIdeal.Launch
public import proofs.«01_k».proof.Proof.AttnfTrip

/-! The body of the forward attention: the diagonal tiles, the loop, the block's eight stores. -/

@[expose] public section

set_option maxRecDepth 16384

noncomputable section

namespace Cert.AttnfBody

open Cert.AttnfIdeal Cert.AttnfIdeal.Gen Cert.AttnfTrip
open Cert.AttnfLane (Ins St Out tup alive next first res put block)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (a1 : Memref sig .tc .vmem S4x512x64 .bf16) (h1 : a1.IsWhole) (a2 : Memref sig .tc .vmem S4x64x16384 .bf16) (h2 : a2.IsWhole) (a3 : Memref sig .tc .vmem S4x64x16384 .bf16) (h3 : a3.IsWhole) (a4 : Memref sig .tc .vmem S4x64x512 .f32) (h4 : a4.IsWhole) (X : Ins F)

set_option maxHeartbeats 4000000 in
/-- The body, buffer by buffer. -/
theorem body_le (x : Vec F S4x64x512 .f32) (K : PUnit → sProp 𝕄) :
    iprop((held c a1 a2 a3 X ∗ owns (c : Thread nD τ) a4 fullShare x) ∗ ((held c a1 a2 a3 X ∗ owns (c : Thread nD τ) a4 fullShare (block (res dead X i))) -∗ K ⟨⟩))
      ⊢ wp frame (wpE (defs₀ (F := F)) 𝒱₀ (c : Thread nD τ) none) Set.univ (cc0_attn_fwd i a1 h1 a2 h2 a3 h3 a4 h4) K := by
  simp only [cc0_attn_fwd_eq_skeleton]; unfold cc0_attn_fwd_skel
  simp only [k0_part11_eq_skeleton]; unfold k0_part11_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.lift, Prog.bind_op, Prog.bind_ret, Prog.pure_eq_ret]
  obtain ⟨n, hn⟩ := spec_le c i a1 h1 a2 h2 a3 h3 X Set.univ (2 * (i 0).val + 1) 1 le_rfl (by omega) (first X i)
  unfold held
  iintro ⟨⟨⟨H1, H2, H3⟩, H4⟩, Hk⟩
  iterate 8 (iapply Held.load $$ H1; iintro H1)
  iterate 8 (iapply Held.load $$ H2; iintro H2)
  iterate 8 (iapply Held.load $$ H3; iintro H3)
  iapply (wp_call_spec 𝒱₀ (c : Thread nD τ) none Set.univ (spec c a1 a2 a3 X n (res dead X i)) (2 * (i 0).val + 1) (fun u hu => nomatch hu) hn)
  rw [spec_apply]; unfold held
  isplitl [H1 H2 H3]
  · isplitl [H1]; · iexact H1
    isplitl [H2]; · iexact H2
    iexact H3
  iintro ⟨H1, H2, H3⟩
  rw [← AttnfLane.puts (res dead X i) x]
  generalize res dead X i = st
  obtain ⟨y0, e0⟩ : ∃ y, put st 0 x = y := ⟨_, rfl⟩
  obtain ⟨y1, e1⟩ : ∃ y, put st 1 y0 = y := ⟨_, rfl⟩
  obtain ⟨y2, e2⟩ : ∃ y, put st 2 y1 = y := ⟨_, rfl⟩
  obtain ⟨y3, e3⟩ : ∃ y, put st 3 y2 = y := ⟨_, rfl⟩
  obtain ⟨y4, e4⟩ : ∃ y, put st 4 y3 = y := ⟨_, rfl⟩
  obtain ⟨y5, e5⟩ : ∃ y, put st 5 y4 = y := ⟨_, rfl⟩
  obtain ⟨y6, e6⟩ : ∃ y, put st 6 y5 = y := ⟨_, rfl⟩
  obtain ⟨y7, e7⟩ : ∃ y, put st 7 y6 = y := ⟨_, rfl⟩
  rw [e0, e1, e2, e3, e4, e5, e6, e7]
  iapply Held.load $$ H4; iintro H4
  iapply (Held.store _ _ _ _ x y0 e0) $$ H4; iintro H4
  iapply Held.load $$ H4; iintro H4
  iapply (Held.store _ _ _ _ y0 y1 e1) $$ H4; iintro H4
  iapply Held.load $$ H4; iintro H4
  iapply (Held.store _ _ _ _ y1 y2 e2) $$ H4; iintro H4
  iapply Held.load $$ H4; iintro H4
  iapply (Held.store _ _ _ _ y2 y3 e3) $$ H4; iintro H4
  iapply Held.load $$ H4; iintro H4
  iapply (Held.store _ _ _ _ y3 y4 e4) $$ H4; iintro H4
  iapply Held.load $$ H4; iintro H4
  iapply (Held.store _ _ _ _ y4 y5 e5) $$ H4; iintro H4
  iapply Held.load $$ H4; iintro H4
  iapply (Held.store _ _ _ _ y5 y6 e6) $$ H4; iintro H4
  iapply Held.load $$ H4; iintro H4
  iapply (Held.store _ _ _ _ y6 y7 e7) $$ H4; iintro H4
  rw [wp_ret]; imodintro
  iapply Hk
  isplitl [H1 H2 H3]
  · isplitl [H1]; · iexact H1
    isplitl [H2]; · iexact H2
    iexact H3
  iexact H4

end Cert.AttnfBody
end
-- ==== Proof.AttnfFrame.lean ====
module

public import proofs.«01_k».proof.AttnfIdeal
public import Idealize.ShloMosaic.Lib.Tactic
public import Idealize.ShloMosaic.Lib.Tactic.Disch
public import Idealize.ShloMosaic.Lib.Pipeline.Frame
public import Idealize.ShloMosaic.Lib.Pipeline.FrameBody
public import Idealize.ShloMosaic.Lib.Ring
public import proofs.«01_k».proof.Proof.Gen.AttnfIdeal
public import proofs.«01_k».proof.Proof.Gen.AttnfIdeal.Skeleton
public import proofs.«01_k».proof.Proof.Gen.AttnfIdeal.Launch
public import proofs.«01_k».proof.Proof.AttnfBody
public import proofs.«01_k».proof.Proof.Gen.AttnfIdeal.Points

/-! The run of the forward attention: what the call finds, what each block ends as, the frame. -/

@[expose] public section

set_option maxRecDepth 16384

noncomputable section

namespace Cert.AttnfFrame

open Cert.AttnfIdeal Cert.AttnfIdeal.Gen Cert.AttnfTrip Cert.AttnfBody
open Cert.AttnfLane (Ins St Out tup alive next first res put block)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the call -/

/-- What the call finds in a buffer. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- The host lines write none of the arguments. -/
theorem V_arg (c : Dev nD) (b : Ref sig .tc) (h : b ∈ [main_arg0, main_arg1, main_arg2]) : V m c b = m ((c : Thread nD τ).loc b) := by
  simp only [List.mem_cons, List.not_mem_nil, or_false] at h
  rcases h with rfl | rfl | rfl <;> exact StableHlo.after_of_forall_not_mem (b := Proc.devRef .tc _) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks and what the body leaves -/

/-- The block of an input window at a grid point. -/
def blk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- All blocks of a grid point. -/
def ins (c : Dev nD) (t : Fin (cfg0 (F := F)).N) : Ins F := ⟨blk m c 0 t, blk m c 1 t, blk m c 2 t⟩

/-- The block each grid point writes. -/
def out (c : Dev nD) (t : Fin (cfg0 (F := F)).N) : Vec F S4x64x512 .f32 := block (res dead (ins m c t) (grid0.coords t))

def dats (_ : Fin 1) (c : Dev nD) : Dat τ (Elt F) Unit ℕ (UR sig nD τ) ℕ (cfg0 (F := F)) c where
  A w := V m c (Pipeline.arrRef spec0 w)
  after w t := match w with
    | ⟨0, _⟩ => blk m c 0 t
    | ⟨1, _⟩ => blk m c 1 t
    | ⟨2, _⟩ => blk m c 2 t
    | ⟨3, _⟩ => out m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = blk m c 0 t := by dsimp only [dats]; try rfl
theorem after_1 (c : Dev nD) (t : Fin (cfg0 (F := F)).N) : (dats m 0 c).after 1 t = blk m c 1 t := by dsimp only [dats]; try rfl
theorem after_2 (c : Dev nD) (t : Fin (cfg0 (F := F)).N) : (dats m 0 c).after 2 t = blk m c 2 t := by dsimp only [dats]; try rfl
theorem after_3 (c : Dev nD) (t : Fin (cfg0 (F := F)).N) : (dats m 0 c).after 3 t = out m c t := by dsimp only [dats]; try rfl

theorem before_0 (c : Dev nD) (t : Fin (cfg0 (F := F)).N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 (F := F)).N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 (F := F)).N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)

/-! ## The body at a grid point -/

set_option maxHeartbeats 1600000 in
/-- The body from what a grid point finds to what it leaves. -/
theorem sound_body (c : Dev nD) (t : Fin (cfg0 (F := F)).N) :
    iprop((dats m 0 c).Φ t.castSucc ∗ (dats m 0 c).owesAt () t.castSucc
      ∗ (∃ d, owns (c : Thread nD τ) (win0_0.stage ((cfg0 (F := F)).slots t 0)) fullShare ((dats m 0 c).before 0 t d)) ∗ (∃ d, owns (c : Thread nD τ) (win0_1.stage ((cfg0 (F := F)).slots t 1)) fullShare ((dats m 0 c).before 1 t d))
      ∗ (∃ d, owns (c : Thread nD τ) (win0_2.stage ((cfg0 (F := F)).slots t 2)) fullShare ((dats m 0 c).before 2 t d)) ∗ (∃ d, owns (c : Thread nD τ) (win0_3.stage ((cfg0 (F := F)).slots t 3)) fullShare ((dats m 0 c).before 3 t d)))
    ⊢ wp Idealize.ShloMosaic.frame (wpE (defs₀ (F := F)) 𝒱₀ c none) Set.univ (bodyAt0 t) (fun _ => iprop((dats m 0 c).Φ t.succ ∗ (dats m 0 c).owesAt () t.succ
      ∗ owns (c : Thread nD τ) (win0_0.stage ((cfg0 (F := F)).slots t 0)) fullShare ((dats m 0 c).after 0 t) ∗ owns (c : Thread nD τ) (win0_1.stage ((cfg0 (F := F)).slots t 1)) fullShare ((dats m 0 c).after 1 t)
      ∗ owns (c : Thread nD τ) (win0_2.stage ((cfg0 (F := F)).slots t 2)) fullShare ((dats m 0 c).after 2 t) ∗ owns (c : Thread nD τ) (win0_3.stage ((cfg0 (F := F)).slots t 3)) fullShare ((dats m 0 c).after 3 t))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_le c (grid0.coords t) _ _ _ _ _ _ _ _ (ins m c t) ((dats m 0 c).before 3 t d3))
  unfold held
  isplitl [H0 H1 H2 H3]
  · isplitl [H0 H1 H2]
    · isplitl [H0]; · iexact H0
      isplitl [H1]; · iexact H1
      iexact H2
    iexact H3
  iintro ⟨⟨H0, H1, H2⟩, H3⟩
  isplitl [HΦ]; · iexact HΦ
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- The kernel's run: it ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (show ∀ w : Fin 4, (spec0 w).arr.view.ref ≠ main_arg0 by decide))).trans (V_arg m c _ (by decide)),
        ((h.1 c).2 main_arg1 (Pipeline.mem_restRefs_of main_arg1 (by decide) (show ∀ w : Fin 4, (spec0 w).arr.view.ref ≠ main_arg1 by decide))).trans (V_arg m c _ (by decide)),
        ((h.1 c).2 main_arg2 (Pipeline.mem_restRefs_of main_arg2 (by decide) (show ∀ w : Fin 4, (spec0 w).arr.view.ref ≠ main_arg2 by decide))).trans (V_arg m c _ (by decide))⟩, h.2⟩) (run_main_quiescent m ρ)

end Cert.AttnfFrame
end
-- ==== Proof.AttnfPlace.lean ====
module

public import proofs.«01_k».proof.Proof.AttnfState
public import proofs.«01_k».proof.Proof.AttnfFrame
public import proofs.«01_k».proof.Proof.AttnTerm
public import Idealize.ShloMosaic.Lib.Pipeline.ValueKit

/-! Where the forward attention's blocks lie in its arrays, what they hold, and the array the kernel leaves. -/

@[expose] public section

set_option maxRecDepth 16384

noncomputable section

open Idealize.ShloMosaic Idealize.ShloMosaic.TcCoe Idealize.SL Idealize.SL.Sem
open Finset

namespace Cert.AttnfPlace

open Cert.AttnfIdeal Cert.AttnfIdeal.Gen
open Cert.AttnReal Cert.AttnTerm Cert.AttnfState Cert.RealCalc

variable (m : (ℓ : Loc nD τ sig) → Buf (Elt Ideal) ℓ) (c : Dev nD) {D : Dat (Fin 4)}

/-! ## The host's lines -/

/-- The three arguments. -/
abbrev a0 : A3 := m ((c.tc : Thread nD τ).loc main_arg0)
abbrev a1 : A3 := m ((c.tc : Thread nD τ).loc main_arg1)
abbrev a2 : A3 := m ((c.tc : Thread nD τ).loc main_arg2)

def hq : FVec Ideal S4x16384x64 .bf16 := truncf .bf16 (transpose S4x16384x64 [1, 0, 2] (mulf (a0 m c) (broadcastInDim S16384x4x64 ![] bcast_S_S16384x4x64 (constant S_ .f32 0x3E000000#32)))
  transposes_S16384x4x64_S4x16384x64_1_0_2) bitsLt_bf16_f32
def hk : FVec Ideal S4x64x16384 .bf16 := truncf .bf16 (transpose S4x64x16384 [1, 2, 0] (a1 m c) transposes_S16384x4x64_S4x64x16384_1_2_0) bitsLt_bf16_f32
def hv : FVec Ideal S4x64x16384 .bf16 := truncf .bf16 (transpose S4x64x16384 [1, 2, 0] (a2 m c) transposes_S16384x4x64_S4x64x16384_1_2_0) bitsLt_bf16_f32

theorem V_all : AttnfFrame.V m c main_v3 = hq m c ∧ AttnfFrame.V m c main_v5 = hk m c ∧ AttnfFrame.V m c main_v7 = hv m c := by
  simp only [AttnfFrame.V, hostOps0,
    StableHlo.TRef.binary, StableHlo.TRef.nullary, StableHlo.TRef.ternary, StableHlo.TRef.unary, StableHlo.TRef.toBuf, StableHlo.TRef.ofBuf, cast_eq]
  refine ⟨?_, ?_, ?_⟩ <;> after_results_simp <;> rfl

/-- The arguments hold `D`: queries before the scale, keys, values. -/
structure Args (D : Dat (Fin 4)) (x0 x1 x2 : A3) : Prop where
  q : ∀ (r : Fin 16384) h e, x0 (ix3 r h e) = ((D.q h r.val e : ℝ) : EReal)
  k : ∀ (r : Fin 16384) h e, x1 (ix3 r h e) = ((D.k h r.val e : ℝ) : EReal)
  v : ∀ (r : Fin 16384) h e, x2 (ix3 r h e) = ((D.v h r.val e : ℝ) : EReal)

section Host

variable (hD : Args D (a0 m c) (a1 m c) (a2 m c)) (h : Fin 4) (r : Fin 16384) (e : Fin 64)
include hD

theorem hq_at : hq m c (ix3 h r e) = (((scaled D).q h r.val e : ℝ) : EReal) := by
  pointwise [hq]
  rw [hD.q, ofBits_eighth, ← EReal.coe_mul]
  rfl

theorem hk_at : hk m c (ix3 h e r) = (((scaled D).k h r.val e : ℝ) : EReal) := by
  pointwise [hk]
  exact hD.k r h e

theorem hv_at : hv m c (ix3 h e r) = (((scaled D).v h r.val e : ℝ) : EReal) := by
  pointwise [hv]
  exact hD.v r h e

end Host

/-! ## Blocks -/

abbrev C0 := cfg0 (F := Ideal)

theorem idx : ∀ t : Fin C0.N, t.val < 32 ∧ win0_0.index t = ![0, t.val, 0] ∧ win0_1.index t = ![0, 0, 0] ∧ win0_2.index t = ![0, 0, 0] ∧ win0_3.index t = ![0, 0, t.val]
    ∧ (grid0.coords t 0).val = t.val :=
  (by decide +kernel : ∀ t : Fin grid0.N, _)

/-- The row of the arrays that a row of a block is. -/
def row (t : Fin C0.N) (r : Fin 512) : Fin 16384 := ⟨512 * t.val + r.val, by have := r.isLt; have := (idx t).1; omega⟩

section Blocks

variable (t : Fin C0.N) (h : Fin 4) (r : Fin 512) (e : Fin 64) (j : Fin 16384)

theorem blk0 : (AttnfFrame.blk m c 0 t : FVec Ideal S4x512x64 .bf16) (ix3 h r e) = hq m c (ix3 h (row t r) e) := by
  rw [← (V_all m c).1]
  show (((cfg0 (F := Ideal)).win 0).blk t).view.read (Elt Ideal) (AttnfFrame.V m c main_v3) _ = _
  generalize AttnfFrame.V m c main_v3 = x
  blk_ext [idx t, row]
theorem blk1 : (AttnfFrame.blk m c 1 t : FVec Ideal S4x64x16384 .bf16) (ix3 h e j) = hk m c (ix3 h e j) := by
  rw [← (V_all m c).2.1]
  show (((cfg0 (F := Ideal)).win 1).blk t).view.read (Elt Ideal) (AttnfFrame.V m c main_v5) _ = _
  generalize AttnfFrame.V m c main_v5 = x
  blk_ext [idx t, row]
theorem blk2 : (AttnfFrame.blk m c 2 t : FVec Ideal S4x64x16384 .bf16) (ix3 h e j) = hv m c (ix3 h e j) := by
  rw [← (V_all m c).2.2]
  show (((cfg0 (F := Ideal)).win 2).blk t).view.read (Elt Ideal) (AttnfFrame.V m c main_v7) _ = _
  generalize AttnfFrame.V m c main_v7 = x
  blk_ext [idx t, row]

end Blocks

theorem ins_of (hD : Args D (a0 m c) (a1 m c) (a2 m c)) (t : Fin C0.N) : InsOf (scaled D) (512 * (grid0.coords t 0).val) (AttnfFrame.ins m c t) := by
  rw [(idx t).2.2.2.2.2]
  exact ⟨fun h r e => (blk0 m c t h r e).trans (hq_at m c hD h (row t r) e), fun h e j => (blk1 m c t h e j).trans (hk_at m c hD h j e),
    fun h e j => (blk2 m c t h e j).trans (hv_at m c hD h j e)⟩

/-! ## The result -/

/-- The outputs, head by head; `E` has the scaled queries. -/
def o (E : Dat (Fin 4)) : FVec Ideal S4x64x16384 .f32 := fun y => ((∑ j ∈ range (y 2).val, E.v (y 0) j (y 1) * W E (y 0) (y 2).val j : ℝ) : EReal)

theorem pay1_at (s : FVec Ideal S64x256 .f32) (e : Fin 64) (y : Fin 256) : k0_pay1 (F := Ideal) s (ix3 0 e y) = s (ix2 e y) := by
  pointwise [k0_pay1]

/-- An entry of a grid point's block. -/
theorem out_entry (hD : Args D (a0 m c) (a1 m c) (a2 m c)) (t : Fin C0.N) (y : S4x64x512.Idx) : AttnfFrame.out m c t y = o (scaled D) (ix3 (y 0) (y 1) (row t (y 2))) := by
  obtain ⟨l, z, hz⟩ := AttnfLane.has_lane y
  have hl := (AttnfLane.mem_ro l y).mp ⟨z, hz⟩
  unfold AttnfFrame.out AttnfLane.block
  rw [AttnfLane.fin_at _ _ y 8 le_rfl l z hz, if_pos l.isLt]
  obtain ⟨e, x, rfl⟩ : ∃ (e : Fin 64) (x : Fin 256), z = ix3 (0 : Fin 1) e x := ⟨z 1, z 2, by
    funext a
    match a with
    | ⟨0, _⟩ => exact Fin.eq_zero (z 0 : Fin 1)
    | ⟨1, _⟩ => rfl
    | ⟨2, _⟩ => rfl⟩
  refine (pay1_at _ e x).trans ((out_at (ins_of m c hD t) l e x).trans ?_)
  have ho : ∀ l : Fin 8, AttnfLane.oo l = ![l.val / 2, 0, 256 * (l.val % 2)] := by decide
  have h0 : hd l = y 0 := Fin.ext hl.1.symm
  have h1 : (y 1) = e := by
    have q : AttnfLane.oo l 1 + 1 * e.val = (y 1).val := congrArg (fun u : S4x64x512.Idx => (u 1).val) hz
    rw [ho l] at q
    have q : 0 + 1 * e.val = (y 1).val := q
    exact Fin.ext (by omega)
  have h2 : 256 * qt (grid0.coords t 0).val l + x.val = 512 * t.val + (y 2).val := by
    have q : AttnfLane.oo l 2 + 1 * x.val = (y 2).val := congrArg (fun u : S4x64x512.Idx => (u 2).val) hz
    rw [ho l] at q
    have q : 256 * (l.val % 2) + 1 * x.val = (y 2).val := q
    rw [(idx t).2.2.2.2.2]
    unfold qt
    omega
  rw [h0, h2, ← h1]
  rfl

theorem final (hD : Args D (a0 m c) (a1 m c) (a2 m c)) : (AttnfFrame.dats m 0 c).arrAt 3 C0.N = o (scaled D) := by
  refine (AttnfFrame.dats m 0 c).arrAt_eq_of_covers 3 _ (by decide +kernel) fun t _ y => ?_
  have q := out_entry m c hD t
  blk_simp
  rw [AttnfFrame.after_3]
  exact (q _).trans (congrArg (o (scaled D)) (by blk_ext [idx t, row]))

/-- The run, with the array it leaves. -/
theorem run_arrays (ρ : Dev nD → PrngReg) : θ_run defs (onTc (τ := τ) (main (F := Ideal))) ⟨m, fun _ => 0, ρ⟩ fun r => ∀ c : Dev nD,
      r.2.mem ((c.tc : Thread nD τ).loc main_v8) = (AttnfFrame.dats m 0 c).arrAt 3 C0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3,
      ((h.1 c).2 main_arg0 (Pipeline.mem_restRefs_of main_arg0 (by decide) (show ∀ w : Fin 4, (spec0 w).arr.view.ref ≠ main_arg0 by decide))).trans (AttnfFrame.V_arg m c main_arg0 (by decide)),
      ((h.1 c).2 main_arg1 (Pipeline.mem_restRefs_of main_arg1 (by decide) (show ∀ w : Fin 4, (spec0 w).arr.view.ref ≠ main_arg1 by decide))).trans (AttnfFrame.V_arg m c main_arg1 (by decide)),
      ((h.1 c).2 main_arg2 (Pipeline.mem_restRefs_of main_arg2 (by decide) (show ∀ w : Fin 4, (spec0 w).arr.view.ref ≠ main_arg2 by decide))).trans (AttnfFrame.V_arg m c main_arg2 (by decide))⟩)
    (AttnfFrame.run_main_quiescent m ρ)

end Cert.AttnfPlace
end
-- ==== Proof.AttnfClaim.lean ====
/-
  The forward attention: kernel and reference end with the same array over the extended reals, for finite arguments.
-/
module

public import proofs.«01_k».proof.Defs
public import proofs.«01_k».proof.Proof.AttnfPlace
public import proofs.«01_k».proof.Proof.AttnClaim
public import proofs.«01_k».proof.Proof.Gen.AttnfRefIdeal.Run
public import proofs.«01_k».proof.Proof.Gen.Pre_attnf_finite

@[expose] public section

set_option maxRecDepth 100000

noncomputable section

namespace Cert.AttnfClaim

open Idealize.ShloMosaic Idealize.ShloMosaic.TcCoe Idealize.SL Idealize.SL.Sem Idealize.ShloMosaic.StableHlo
open Cert.AttnReal Cert.AttnTerm Cert.AttnfPlace Cert.RealCalc
open Cert.AttnClaim (wide wide_val)
open Finset

/-- The reference's frame. -/
theorem reference : @Cert.quiescent_AttnfRefIdeal Cert.AttnfRefIdeal.Gen.facts := fun m g _ => by
  refine θ_run_mono (Cert.AttnfRefIdeal.Value.run m g) fun r h => ⟨fun c => ?_, sem_eq_zero_of_no_sems (by decide) r.2⟩
  obtain ⟨_, h⟩ := h c
  exact h

open Cert.AttnfRefIdeal Cert.AttnfRefIdeal.Gen in
theorem refer {m : (ℓ : Loc nD τ sig) → Buf (Elt Ideal) ℓ} {c : Dev nD} {D : Dat (Fin 4)}
    (hD : Args D (m ((c.tc : Thread nD τ).loc main_arg0)) (m ((c.tc : Thread nD τ).loc main_arg1)) (m ((c.tc : Thread nD τ).loc main_arg2))) :
    Value.res_main_v20 m c = o (scaled D) := by
  have q : Value.res_main_v20 m c = transpose S4x64x16384 [1, 2, 0] (transpose S16384x4x64 [2, 0, 1]
      (Host.dotGeneral dot_S16384x4x64_S4x16384x16384_S4x64x16384_0_2_2_1_1_0 none (m ((c.tc : Thread nD τ).loc main_arg2))
        (weights (score (m ((c.tc : Thread nD τ).loc main_arg0)) (m ((c.tc : Thread nD τ).loc main_arg1))))) transposes_S4x64x16384_S16384x4x64_2_0_1) transposes_S16384x4x64_S4x64x16384_1_2_0 := rfl
  have hO : Of ⟨D.q, D.v, D.k, D.v⟩ (m ((c.tc : Thread nD τ).loc main_arg0)) (m ((c.tc : Thread nD τ).loc main_arg1)) (m ((c.tc : Thread nD τ).loc main_arg2))
      (m ((c.tc : Thread nD τ).loc main_arg2)) := ⟨hD.q, hD.k, hD.v, hD.v⟩
  have hw : ∀ h (r j : Fin 16384), weights (score (m ((c.tc : Thread nD τ).loc main_arg0)) (m ((c.tc : Thread nD τ).loc main_arg1))) (ix3 h r j)
      = ((W (scaled D) h r.val j.val : ℝ) : EReal) := fun h r j => weights_entry hO h r j
  have hv := hD.v
  rw [q]
  generalize weights _ = w at *
  generalize m ((c.tc : Thread nD τ).loc main_arg2) = x at hv ⊢
  funext y
  idx_vars y
  pointwise
  simp only [hw, hv, ← EReal.coe_mul, coe_sum]
  refine congrArg _ ?_
  exact AttnPlace.fin_range (N := 16384) (fun j => D.v y0 j y1 * W (scaled D) y0 y2.val j) y2.isLt.le fun j hj => by
    rw [W_of_le (scaled D) y0 y2.val j hj, mul_zero]

theorem algebraic : @Cert.algebraic_AttnfIdeal_AttnfRefIdeal_pre_attnf_finite Cert.AttnfIdeal.Gen.facts Cert.AttnfRefIdeal.Gen.facts Cert.Pre_attnf_finite.Gen.facts := by
  pair_intro
  · run_from Cert.AttnfPlace.run_arrays m g
  · run_from Cert.AttnfRefIdeal.Value.run m' g'
    obtain ⟨h0, h1, h2⟩ := hpre c
    choose Q hq using fun (r : Fin 16384) (h : Fin 4) (e : Fin 64) => Finite.entry _ _ h0 (ix3 r h e)
    choose K hk using fun (r : Fin 16384) (h : Fin 4) (e : Fin 64) => Finite.entry _ _ h1 (ix3 r h e)
    choose U hv using fun (r : Fin 16384) (h : Fin 4) (e : Fin 64) => Finite.entry _ _ h2 (ix3 r h e)
    have hD : Args ⟨wide Q, wide U, wide K, wide U⟩ (AttnfPlace.a0 m c) (AttnfPlace.a1 m c) (AttnfPlace.a2 m c) :=
      ⟨fun r h e => (hq r h e).trans (congrArg _ (wide_val Q h r e).symm), fun r h e => (hk r h e).trans (congrArg _ (wide_val K h r e).symm),
        fun r h e => (hv r h e).trans (congrArg _ (wide_val U h r e).symm)⟩
    have hD' := hD
    obtain ⟨e0, e1, e2⟩ := hagree c
    unfold AttnfPlace.a0 AttnfPlace.a1 AttnfPlace.a2 at hD'
    rw [← e0, ← e1, ← e2] at hD'
    exact (refer hD').trans (AttnfPlace.final m c hD).symm

end Cert.AttnfClaim

end
-- ==== Proof.lean ====
/-
  The certificate's proof: for each kernel, that it runs to the end and keeps its arguments, and that its results are
  the reference's.
-/
module

public import proofs.«01_k».proof.Defs
public import proofs.«01_k».proof.Proof.Gen.Loss.Frame
public import proofs.«01_k».proof.Proof.LossClaim
public import proofs.«01_k».proof.Proof.AttnBitsFrame
public import proofs.«01_k».proof.Proof.AttnClaim
public import proofs.«01_k».proof.Proof.Gen.Iproj.Frame
public import proofs.«01_k».proof.Proof.IprojClaim
public import proofs.«01_k».proof.Proof.Gen.Oproj.Frame
public import proofs.«01_k».proof.Proof.OprojClaim
public import proofs.«01_k».proof.Proof.Gen.Ffn.Frame
public import proofs.«01_k».proof.Proof.FfnClaim
public import proofs.«01_k».proof.Proof.Gen.Mixb.Frame
public import proofs.«01_k».proof.Proof.MixbClaim
public import proofs.«01_k».proof.Proof.Gen.Mixa.Frame
public import proofs.«01_k».proof.Proof.MixaClaim
public import proofs.«01_k».proof.Proof.AttnfBitsFrame
public import proofs.«01_k».proof.Proof.AttnfClaim
public import Idealize.ShloMosaic.Adequacy
public import Idealize.ShloMosaic.Init

@[expose] public section

set_option maxRecDepth 100000

noncomputable section

namespace Cert.Proof

open Idealize.ShloMosaic Idealize.SL.Sem

theorem claim : Cert.Claim := ⟨Cert.Loss.Gen.facts, Cert.LossIdeal.Gen.facts, Cert.LossRefIdeal.Gen.facts, Cert.Attn.Gen.facts, Cert.AttnIdeal.Gen.facts, Cert.AttnRefIdeal.Gen.facts, Cert.Iproj.Gen.facts, Cert.IprojIdeal.Gen.facts, Cert.IprojRefIdeal.Gen.facts, Cert.Oproj.Gen.facts, Cert.OprojIdeal.Gen.facts, Cert.OprojRefIdeal.Gen.facts, Cert.Ffn.Gen.facts, Cert.FfnIdeal.Gen.facts, Cert.FfnRefIdeal.Gen.facts, Cert.Mixb.Gen.facts, Cert.MixbIdeal.Gen.facts, Cert.MixbRefIdeal.Gen.facts, Cert.Mixa.Gen.facts, Cert.MixaIdeal.Gen.facts, Cert.MixaRefIdeal.Gen.facts, Cert.Attnf.Gen.facts, Cert.AttnfIdeal.Gen.facts, Cert.AttnfRefIdeal.Gen.facts,
  Cert.Pre_loss_finite.Gen.facts, Cert.Pre_attn_finite.Gen.facts, Cert.Pre_iproj_finite.Gen.facts, Cert.Pre_oproj_finite.Gen.facts, Cert.Pre_ffnb_finite.Gen.facts, Cert.Pre_mixb_finite.Gen.facts, Cert.Pre_mixa_finite.Gen.facts, Cert.Pre_attnf_finite.Gen.facts,
  fun m g _ => Cert.Loss.Gen.frame m g,
  fun m g _ => Cert.LossIdeal.Gen.frame m g,
  fun m g _ => Cert.LossIdeal.Gen.frame m g,
  LossClaim.reference,
  fun m g _ => LossClaim.reference m g trivial,
  fun m g _ => Cert.AttnBitsFrame.frame (F := Bits) m g,
  fun m g _ => Cert.AttnFrame.frame (F := Ideal) m g,
  fun m g _ => Cert.AttnFrame.frame (F := Ideal) m g,
  AttnClaim.reference,
  fun m g _ => AttnClaim.reference m g trivial,
  fun m g _ => Cert.Iproj.Gen.frame m g,
  fun m g _ => Cert.IprojIdeal.Gen.frame m g,
  fun m g _ => Cert.IprojIdeal.Gen.frame m g,
  IprojClaim.reference,
  fun m g _ => IprojClaim.reference m g trivial,
  fun m g _ => Cert.Oproj.Gen.frame m g,
  fun m g _ => Cert.OprojIdeal.Gen.frame m g,
  fun m g _ => Cert.OprojIdeal.Gen.frame m g,
  OprojClaim.reference,
  fun m g _ => OprojClaim.reference m g trivial,
  fun m g _ => Cert.Ffn.Gen.frame m g,
  fun m g _ => Cert.FfnIdeal.Gen.frame m g,
  fun m g _ => Cert.FfnIdeal.Gen.frame m g,
  FfnClaim.reference,
  fun m g _ => FfnClaim.reference m g trivial,
  fun m g _ => Cert.Mixb.Gen.frame m g,
  fun m g _ => Cert.MixbIdeal.Gen.frame m g,
  fun m g _ => Cert.MixbIdeal.Gen.frame m g,
  MixbClaim.reference,
  fun m g _ => MixbClaim.reference m g trivial,
  fun m g _ => Cert.Mixa.Gen.frame m g,
  fun m g _ => Cert.MixaIdeal.Gen.frame m g,
  fun m g _ => Cert.MixaIdeal.Gen.frame m g,
  MixaClaim.reference,
  fun m g _ => MixaClaim.reference m g trivial,
  fun m g _ => Cert.AttnfBitsFrame.frame (F := Bits) m g,
  fun m g _ => Cert.AttnfFrame.frame (F := Ideal) m g,
  fun m g _ => Cert.AttnfFrame.frame (F := Ideal) m g,
  AttnfClaim.reference,
  fun m g _ => AttnfClaim.reference m g trivial,
  trivial,
  LossClaim.algebraic,
  IdealRules.named_const.statement Cert.AttnIdeal.κ "dead" .f32 0xC2D00000#32 ⊥ rfl,
  AttnClaim.algebraic,
  trivial,
  IprojClaim.algebraic,
  trivial,
  OprojClaim.algebraic,
  trivial,
  FfnClaim.algebraic,
  trivial,
  MixbClaim.algebraic,
  trivial,
  MixaClaim.algebraic,
  IdealRules.named_const.statement Cert.AttnfIdeal.κ "dead" .f32 0xC2D00000#32 ⊥ rfl,
  AttnfClaim.algebraic⟩

end Cert.Proof

end
